-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gate [hPre_finite_gate : Cert.Pre_finite_gate.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gate [hPre_finite_gate : Cert.Pre_finite_gate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_RefDownDxIdeal (m : (ℓ : Loc Cert.RefDownDxIdeal.nD Cert.RefDownDxIdeal.τ Cert.RefDownDxIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_RefDownDwIdeal (m : (ℓ : Loc Cert.RefDownDwIdeal.nD Cert.RefDownDwIdeal.τ Cert.RefDownDwIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_RefGateDxIdeal (m : (ℓ : Loc Cert.RefGateDxIdeal.nD Cert.RefGateDxIdeal.τ Cert.RefGateDxIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_RefUpDxIdeal (m : (ℓ : Loc Cert.RefUpDxIdeal.nD Cert.RefUpDxIdeal.τ Cert.RefUpDxIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_RefGateDwIdeal (m : (ℓ : Loc Cert.RefGateDwIdeal.nD Cert.RefGateDwIdeal.τ Cert.RefGateDwIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_RefOutDxIdeal (m : (ℓ : Loc Cert.RefOutDxIdeal.nD Cert.RefOutDxIdeal.τ Cert.RefOutDxIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_RefOutDwIdeal (m : (ℓ : Loc Cert.RefOutDwIdeal.nD Cert.RefOutDwIdeal.τ Cert.RefOutDwIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_RefProjDxIdeal (m : (ℓ : Loc Cert.RefProjDxIdeal.nD Cert.RefProjDxIdeal.τ Cert.RefProjDxIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_RefMixOutIdeal (m : (ℓ : Loc Cert.RefMixOutIdeal.nD Cert.RefMixOutIdeal.τ Cert.RefMixOutIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_RefGateIdeal (m : (ℓ : Loc Cert.RefGateIdeal.nD Cert.RefGateIdeal.τ Cert.RefGateIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_RefAdamSmallIdeal (m : (ℓ : Loc Cert.RefAdamSmallIdeal.nD Cert.RefAdamSmallIdeal.τ Cert.RefAdamSmallIdeal.sig) → Buf (Elt Ideal) ℓ) : Prop :=
  True

def Pre_Upper [hPre_a_chip_upper : Cert.Pre_a_chip_upper.Facts] (m : (ℓ : Loc Cert.Upper.nD Cert.Upper.τ Cert.Upper.sig) → Buf (Elt Bits) ℓ) : Prop :=
  ∀ c : Dev Cert.Upper.nD,
    (Cert.Pre_a_chip_upper.fn (F := Bits) (m ((c.tc : Thread Cert.Upper.nD Cert.Upper.τ).loc Cert.Upper.main_arg0)) (m ((c.tc : Thread Cert.Upper.nD Cert.Upper.τ).loc Cert.Upper.main_arg1)) (m ((c.tc : Thread Cert.Upper.nD Cert.Upper.τ).loc Cert.Upper.main_arg2)) (m ((c.tc : Thread Cert.Upper.nD Cert.Upper.τ).loc Cert.Upper.main_arg3)) (m ((c.tc : Thread Cert.Upper.nD Cert.Upper.τ).loc Cert.Upper.main_arg4)) (m ((c.tc : Thread Cert.Upper.nD Cert.Upper.τ).loc Cert.Upper.main_arg5))) = (fun _ => 1#1)

def Pre_UpperIdeal [hPre_a_chip_upper : Cert.Pre_a_chip_upper.Facts] (m : (ℓ : Loc Cert.UpperIdeal.nD Cert.UpperIdeal.τ Cert.UpperIdeal.sig) → Buf (Elt Ideal) ℓ) : Prop :=
  ∀ c : Dev Cert.UpperIdeal.nD,
    (Cert.Pre_a_chip_upper.fn (F := Ideal) (m ((c.tc : Thread Cert.UpperIdeal.nD Cert.UpperIdeal.τ).loc Cert.UpperIdeal.main_arg0)) (m ((c.tc : Thread Cert.UpperIdeal.nD Cert.UpperIdeal.τ).loc Cert.UpperIdeal.main_arg1)) (m ((c.tc : Thread Cert.UpperIdeal.nD Cert.UpperIdeal.τ).loc Cert.UpperIdeal.main_arg2)) (m ((c.tc : Thread Cert.UpperIdeal.nD Cert.UpperIdeal.τ).loc Cert.UpperIdeal.main_arg3)) (m ((c.tc : Thread Cert.UpperIdeal.nD Cert.UpperIdeal.τ).loc Cert.UpperIdeal.main_arg4)) (m ((c.tc : Thread Cert.UpperIdeal.nD Cert.UpperIdeal.τ).loc Cert.UpperIdeal.main_arg5))) = (fun _ => 1#1)

def Pre_RefUpperIdeal (m : (ℓ : Loc Cert.RefUpperIdeal.nD Cert.RefUpperIdeal.τ Cert.RefUpperIdeal.sig) → Buf (Elt Ideal) ℓ) : Prop :=
  True

def Pre_RefUpperIdeal_a_chip_upper [hPre_a_chip_upper : Cert.Pre_a_chip_upper.Facts] (m : (ℓ : Loc Cert.RefUpperIdeal.nD Cert.RefUpperIdeal.τ Cert.RefUpperIdeal.sig) → Buf (Elt Ideal) ℓ) : Prop :=
  ∀ c : Dev Cert.RefUpperIdeal.nD,
    (Cert.Pre_a_chip_upper.fn (F := Ideal) (m ((c.tc : Thread Cert.RefUpperIdeal.nD Cert.RefUpperIdeal.τ).loc Cert.RefUpperIdeal.main_arg0)) (m ((c.tc : Thread Cert.RefUpperIdeal.nD Cert.RefUpperIdeal.τ).loc Cert.RefUpperIdeal.main_arg1)) (m ((c.tc : Thread Cert.RefUpperIdeal.nD Cert.RefUpperIdeal.τ).loc Cert.RefUpperIdeal.main_arg2)) (m ((c.tc : Thread Cert.RefUpperIdeal.nD Cert.RefUpperIdeal.τ).loc Cert.RefUpperIdeal.main_arg3)) (m ((c.tc : Thread Cert.RefUpperIdeal.nD Cert.RefUpperIdeal.τ).loc Cert.RefUpperIdeal.main_arg4)) (m ((c.tc : Thread Cert.RefUpperIdeal.nD Cert.RefUpperIdeal.τ).loc Cert.RefUpperIdeal.main_arg5))) = (fun _ => 1#1)

def Pre_Lower [hPre_a_chip_lower : Cert.Pre_a_chip_lower.Facts] (m : (ℓ : Loc Cert.Lower.nD Cert.Lower.τ Cert.Lower.sig) → Buf (Elt Bits) ℓ) : Prop :=
  ∀ c : Dev Cert.Lower.nD,
    (Cert.Pre_a_chip_lower.fn (F := Bits) (m ((c.tc : Thread Cert.Lower.nD Cert.Lower.τ).loc Cert.Lower.main_arg0)) (m ((c.tc : Thread Cert.Lower.nD Cert.Lower.τ).loc Cert.Lower.main_arg1)) (m ((c.tc : Thread Cert.Lower.nD Cert.Lower.τ).loc Cert.Lower.main_arg2)) (m ((c.tc : Thread Cert.Lower.nD Cert.Lower.τ).loc Cert.Lower.main_arg3)) (m ((c.tc : Thread Cert.Lower.nD Cert.Lower.τ).loc Cert.Lower.main_arg4)) (m ((c.tc : Thread Cert.Lower.nD Cert.Lower.τ).loc Cert.Lower.main_arg5)) (m ((c.tc : Thread Cert.Lower.nD Cert.Lower.τ).loc Cert.Lower.main_arg6)) (m ((c.tc : Thread Cert.Lower.nD Cert.Lower.τ).loc Cert.Lower.main_arg7)) (m ((c.tc : Thread Cert.Lower.nD Cert.Lower.τ).loc Cert.Lower.main_arg8)) (m ((c.tc : Thread Cert.Lower.nD Cert.Lower.τ).loc Cert.Lower.main_arg9))) = (fun _ => 1#1)

def Pre_LowerIdeal [hPre_a_chip_lower : Cert.Pre_a_chip_lower.Facts] (m : (ℓ : Loc Cert.LowerIdeal.nD Cert.LowerIdeal.τ Cert.LowerIdeal.sig) → Buf (Elt Ideal) ℓ) : Prop :=
  ∀ c : Dev Cert.LowerIdeal.nD,
    (Cert.Pre_a_chip_lower.fn (F := Ideal) (m ((c.tc : Thread Cert.LowerIdeal.nD Cert.LowerIdeal.τ).loc Cert.LowerIdeal.main_arg0)) (m ((c.tc : Thread Cert.LowerIdeal.nD Cert.LowerIdeal.τ).loc Cert.LowerIdeal.main_arg1)) (m ((c.tc : Thread Cert.LowerIdeal.nD Cert.LowerIdeal.τ).loc Cert.LowerIdeal.main_arg2)) (m ((c.tc : Thread Cert.LowerIdeal.nD Cert.LowerIdeal.τ).loc Cert.LowerIdeal.main_arg3)) (m ((c.tc : Thread Cert.LowerIdeal.nD Cert.LowerIdeal.τ).loc Cert.LowerIdeal.main_arg4)) (m ((c.tc : Thread Cert.LowerIdeal.nD Cert.LowerIdeal.τ).loc Cert.LowerIdeal.main_arg5)) (m ((c.tc : Thread Cert.LowerIdeal.nD Cert.LowerIdeal.τ).loc Cert.LowerIdeal.main_arg6)) (m ((c.tc : Thread Cert.LowerIdeal.nD Cert.LowerIdeal.τ).loc Cert.LowerIdeal.main_arg7)) (m ((c.tc : Thread Cert.LowerIdeal.nD Cert.LowerIdeal.τ).loc Cert.LowerIdeal.main_arg8)) (m ((c.tc : Thread Cert.LowerIdeal.nD Cert.LowerIdeal.τ).loc Cert.LowerIdeal.main_arg9))) = (fun _ => 1#1)

def Pre_RefLowerIdeal (m : (ℓ : Loc Cert.RefLowerIdeal.nD Cert.RefLowerIdeal.τ Cert.RefLowerIdeal.sig) → Buf (Elt Ideal) ℓ) : Prop :=
  True

def Pre_RefLowerIdeal_a_chip_lower [hPre_a_chip_lower : Cert.Pre_a_chip_lower.Facts] (m : (ℓ : Loc Cert.RefLowerIdeal.nD Cert.RefLowerIdeal.τ Cert.RefLowerIdeal.sig) → Buf (Elt Ideal) ℓ) : Prop :=
  ∀ c : Dev Cert.RefLowerIdeal.nD,
    (Cert.Pre_a_chip_lower.fn (F := Ideal) (m ((c.tc : Thread Cert.RefLowerIdeal.nD Cert.RefLowerIdeal.τ).loc Cert.RefLowerIdeal.main_arg0)) (m ((c.tc : Thread Cert.RefLowerIdeal.nD Cert.RefLowerIdeal.τ).loc Cert.RefLowerIdeal.main_arg1)) (m ((c.tc : Thread Cert.RefLowerIdeal.nD Cert.RefLowerIdeal.τ).loc Cert.RefLowerIdeal.main_arg2)) (m ((c.tc : Thread Cert.RefLowerIdeal.nD Cert.RefLowerIdeal.τ).loc Cert.RefLowerIdeal.main_arg3)) (m ((c.tc : Thread Cert.RefLowerIdeal.nD Cert.RefLowerIdeal.τ).loc Cert.RefLowerIdeal.main_arg4)) (m ((c.tc : Thread Cert.RefLowerIdeal.nD Cert.RefLowerIdeal.τ).loc Cert.RefLowerIdeal.main_arg5)) (m ((c.tc : Thread Cert.RefLowerIdeal.nD Cert.RefLowerIdeal.τ).loc Cert.RefLowerIdeal.main_arg6)) (m ((c.tc : Thread Cert.RefLowerIdeal.nD Cert.RefLowerIdeal.τ).loc Cert.RefLowerIdeal.main_arg7)) (m ((c.tc : Thread Cert.RefLowerIdeal.nD Cert.RefLowerIdeal.τ).loc Cert.RefLowerIdeal.main_arg8)) (m ((c.tc : Thread Cert.RefLowerIdeal.nD Cert.RefLowerIdeal.τ).loc Cert.RefLowerIdeal.main_arg9))) = (fun _ => 1#1)

def Pre_OutUpper [hPre_a_chip_out_upper : Cert.Pre_a_chip_out_upper.Facts] (m : (ℓ : Loc Cert.OutUpper.nD Cert.OutUpper.τ Cert.OutUpper.sig) → Buf (Elt Bits) ℓ) : Prop :=
  ∀ c : Dev Cert.OutUpper.nD,
    (Cert.Pre_a_chip_out_upper.fn (F := Bits) (m ((c.tc : Thread Cert.OutUpper.nD Cert.OutUpper.τ).loc Cert.OutUpper.main_arg0)) (m ((c.tc : Thread Cert.OutUpper.nD Cert.OutUpper.τ).loc Cert.OutUpper.main_arg1)) (m ((c.tc : Thread Cert.OutUpper.nD Cert.OutUpper.τ).loc Cert.OutUpper.main_arg2)) (m ((c.tc : Thread Cert.OutUpper.nD Cert.OutUpper.τ).loc Cert.OutUpper.main_arg3)) (m ((c.tc : Thread Cert.OutUpper.nD Cert.OutUpper.τ).loc Cert.OutUpper.main_arg4)) (m ((c.tc : Thread Cert.OutUpper.nD Cert.OutUpper.τ).loc Cert.OutUpper.main_arg5))) = (fun _ => 1#1)

def Pre_OutUpperIdeal [hPre_a_chip_out_upper : Cert.Pre_a_chip_out_upper.Facts] (m : (ℓ : Loc Cert.OutUpperIdeal.nD Cert.OutUpperIdeal.τ Cert.OutUpperIdeal.sig) → Buf (Elt Ideal) ℓ) : Prop :=
  ∀ c : Dev Cert.OutUpperIdeal.nD,
    (Cert.Pre_a_chip_out_upper.fn (F := Ideal) (m ((c.tc : Thread Cert.OutUpperIdeal.nD Cert.OutUpperIdeal.τ).loc Cert.OutUpperIdeal.main_arg0)) (m ((c.tc : Thread Cert.OutUpperIdeal.nD Cert.OutUpperIdeal.τ).loc Cert.OutUpperIdeal.main_arg1)) (m ((c.tc : Thread Cert.OutUpperIdeal.nD Cert.OutUpperIdeal.τ).loc Cert.OutUpperIdeal.main_arg2)) (m ((c.tc : Thread Cert.OutUpperIdeal.nD Cert.OutUpperIdeal.τ).loc Cert.OutUpperIdeal.main_arg3)) (m ((c.tc : Thread Cert.OutUpperIdeal.nD Cert.OutUpperIdeal.τ).loc Cert.OutUpperIdeal.main_arg4)) (m ((c.tc : Thread Cert.OutUpperIdeal.nD Cert.OutUpperIdeal.τ).loc Cert.OutUpperIdeal.main_arg5))) = (fun _ => 1#1)

def Pre_RefOutUpperIdeal (m : (ℓ : Loc Cert.RefOutUpperIdeal.nD Cert.RefOutUpperIdeal.τ Cert.RefOutUpperIdeal.sig) → Buf (Elt Ideal) ℓ) : Prop :=
  True

def Pre_RefOutUpperIdeal_a_chip_out_upper [hPre_a_chip_out_upper : Cert.Pre_a_chip_out_upper.Facts] (m : (ℓ : Loc Cert.RefOutUpperIdeal.nD Cert.RefOutUpperIdeal.τ Cert.RefOutUpperIdeal.sig) → Buf (Elt Ideal) ℓ) : Prop :=
  ∀ c : Dev Cert.RefOutUpperIdeal.nD,
    (Cert.Pre_a_chip_out_upper.fn (F := Ideal) (m ((c.tc : Thread Cert.RefOutUpperIdeal.nD Cert.RefOutUpperIdeal.τ).loc Cert.RefOutUpperIdeal.main_arg0)) (m ((c.tc : Thread Cert.RefOutUpperIdeal.nD Cert.RefOutUpperIdeal.τ).loc Cert.RefOutUpperIdeal.main_arg1)) (m ((c.tc : Thread Cert.RefOutUpperIdeal.nD Cert.RefOutUpperIdeal.τ).loc Cert.RefOutUpperIdeal.main_arg2)) (m ((c.tc : Thread Cert.RefOutUpperIdeal.nD Cert.RefOutUpperIdeal.τ).loc Cert.RefOutUpperIdeal.main_arg3)) (m ((c.tc : Thread Cert.RefOutUpperIdeal.nD Cert.RefOutUpperIdeal.τ).loc Cert.RefOutUpperIdeal.main_arg4)) (m ((c.tc : Thread Cert.RefOutUpperIdeal.nD Cert.RefOutUpperIdeal.τ).loc Cert.RefOutUpperIdeal.main_arg5))) = (fun _ => 1#1)

def Pre_OutLower [hPre_a_chip_out_lower : Cert.Pre_a_chip_out_lower.Facts] (m : (ℓ : Loc Cert.OutLower.nD Cert.OutLower.τ Cert.OutLower.sig) → Buf (Elt Bits) ℓ) : Prop :=
  ∀ c : Dev Cert.OutLower.nD,
    (Cert.Pre_a_chip_out_lower.fn (F := Bits) (m ((c.tc : Thread Cert.OutLower.nD Cert.OutLower.τ).loc Cert.OutLower.main_arg0)) (m ((c.tc : Thread Cert.OutLower.nD Cert.OutLower.τ).loc Cert.OutLower.main_arg1)) (m ((c.tc : Thread Cert.OutLower.nD Cert.OutLower.τ).loc Cert.OutLower.main_arg2)) (m ((c.tc : Thread Cert.OutLower.nD Cert.OutLower.τ).loc Cert.OutLower.main_arg3)) (m ((c.tc : Thread Cert.OutLower.nD Cert.OutLower.τ).loc Cert.OutLower.main_arg4)) (m ((c.tc : Thread Cert.OutLower.nD Cert.OutLower.τ).loc Cert.OutLower.main_arg5)) (m ((c.tc : Thread Cert.OutLower.nD Cert.OutLower.τ).loc Cert.OutLower.main_arg6)) (m ((c.tc : Thread Cert.OutLower.nD Cert.OutLower.τ).loc Cert.OutLower.main_arg7)) (m ((c.tc : Thread Cert.OutLower.nD Cert.OutLower.τ).loc Cert.OutLower.main_arg8)) (m ((c.tc : Thread Cert.OutLower.nD Cert.OutLower.τ).loc Cert.OutLower.main_arg9))) = (fun _ => 1#1)

def Pre_OutLowerIdeal [hPre_a_chip_out_lower : Cert.Pre_a_chip_out_lower.Facts] (m : (ℓ : Loc Cert.OutLowerIdeal.nD Cert.OutLowerIdeal.τ Cert.OutLowerIdeal.sig) → Buf (Elt Ideal) ℓ) : Prop :=
  ∀ c : Dev Cert.OutLowerIdeal.nD,
    (Cert.Pre_a_chip_out_lower.fn (F := Ideal) (m ((c.tc : Thread Cert.OutLowerIdeal.nD Cert.OutLowerIdeal.τ).loc Cert.OutLowerIdeal.main_arg0)) (m ((c.tc : Thread Cert.OutLowerIdeal.nD Cert.OutLowerIdeal.τ).loc Cert.OutLowerIdeal.main_arg1)) (m ((c.tc : Thread Cert.OutLowerIdeal.nD Cert.OutLowerIdeal.τ).loc Cert.OutLowerIdeal.main_arg2)) (m ((c.tc : Thread Cert.OutLowerIdeal.nD Cert.OutLowerIdeal.τ).loc Cert.OutLowerIdeal.main_arg3)) (m ((c.tc : Thread Cert.OutLowerIdeal.nD Cert.OutLowerIdeal.τ).loc Cert.OutLowerIdeal.main_arg4)) (m ((c.tc : Thread Cert.OutLowerIdeal.nD Cert.OutLowerIdeal.τ).loc Cert.OutLowerIdeal.main_arg5)) (m ((c.tc : Thread Cert.OutLowerIdeal.nD Cert.OutLowerIdeal.τ).loc Cert.OutLowerIdeal.main_arg6)) (m ((c.tc : Thread Cert.OutLowerIdeal.nD Cert.OutLowerIdeal.τ).loc Cert.OutLowerIdeal.main_arg7)) (m ((c.tc : Thread Cert.OutLowerIdeal.nD Cert.OutLowerIdeal.τ).loc Cert.OutLowerIdeal.main_arg8)) (m ((c.tc : Thread Cert.OutLowerIdeal.nD Cert.OutLowerIdeal.τ).loc Cert.OutLowerIdeal.main_arg9))) = (fun _ => 1#1)

def Pre_RefOutLowerIdeal (m : (ℓ : Loc Cert.RefOutLowerIdeal.nD Cert.RefOutLowerIdeal.τ Cert.RefOutLowerIdeal.sig) → Buf (Elt Ideal) ℓ) : Prop :=
  True

def Pre_RefOutLowerIdeal_a_chip_out_lower [hPre_a_chip_out_lower : Cert.Pre_a_chip_out_lower.Facts] (m : (ℓ : Loc Cert.RefOutLowerIdeal.nD Cert.RefOutLowerIdeal.τ Cert.RefOutLowerIdeal.sig) → Buf (Elt Ideal) ℓ) : Prop :=
  ∀ c : Dev Cert.RefOutLowerIdeal.nD,
    (Cert.Pre_a_chip_out_lower.fn (F := Ideal) (m ((c.tc : Thread Cert.RefOutLowerIdeal.nD Cert.RefOutLowerIdeal.τ).loc Cert.RefOutLowerIdeal.main_arg0)) (m ((c.tc : Thread Cert.RefOutLowerIdeal.nD Cert.RefOutLowerIdeal.τ).loc Cert.RefOutLowerIdeal.main_arg1)) (m ((c.tc : Thread Cert.RefOutLowerIdeal.nD Cert.RefOutLowerIdeal.τ).loc Cert.RefOutLowerIdeal.main_arg2)) (m ((c.tc : Thread Cert.RefOutLowerIdeal.nD Cert.RefOutLowerIdeal.τ).loc Cert.RefOutLowerIdeal.main_arg3)) (m ((c.tc : Thread Cert.RefOutLowerIdeal.nD Cert.RefOutLowerIdeal.τ).loc Cert.RefOutLowerIdeal.main_arg4)) (m ((c.tc : Thread Cert.RefOutLowerIdeal.nD Cert.RefOutLowerIdeal.τ).loc Cert.RefOutLowerIdeal.main_arg5)) (m ((c.tc : Thread Cert.RefOutLowerIdeal.nD Cert.RefOutLowerIdeal.τ).loc Cert.RefOutLowerIdeal.main_arg6)) (m ((c.tc : Thread Cert.RefOutLowerIdeal.nD Cert.RefOutLowerIdeal.τ).loc Cert.RefOutLowerIdeal.main_arg7)) (m ((c.tc : Thread Cert.RefOutLowerIdeal.nD Cert.RefOutLowerIdeal.τ).loc Cert.RefOutLowerIdeal.main_arg8)) (m ((c.tc : Thread Cert.RefOutLowerIdeal.nD Cert.RefOutLowerIdeal.τ).loc Cert.RefOutLowerIdeal.main_arg9))) = (fun _ => 1#1)

def Pre_SmallGrads (m : (ℓ : Loc Cert.SmallGrads.nD Cert.SmallGrads.τ Cert.SmallGrads.sig) → Buf (Elt Bits) ℓ) : Prop :=
  True

def Pre_SmallGradsIdeal (m : (ℓ : Loc Cert.SmallGradsIdeal.nD Cert.SmallGradsIdeal.τ Cert.SmallGradsIdeal.sig) → Buf (Elt Ideal) ℓ) : Prop :=
  True

def Pre_SmallGradsIdeal_finite_bounds [hPre_finite_bounds : Cert.Pre_finite_bounds.Facts] (m : (ℓ : Loc Cert.SmallGradsIdeal.nD Cert.SmallGradsIdeal.τ Cert.SmallGradsIdeal.sig) → Buf (Elt Ideal) ℓ) : Prop :=
  ∀ c : Dev Cert.SmallGradsIdeal.nD,
    (Cert.Pre_finite_bounds.fn (F := Ideal) (m ((c.tc : Thread Cert.SmallGradsIdeal.nD Cert.SmallGradsIdeal.τ).loc Cert.SmallGradsIdeal.main_arg0)) (m ((c.tc : Thread Cert.SmallGradsIdeal.nD Cert.SmallGradsIdeal.τ).loc Cert.SmallGradsIdeal.main_arg1))) = (fun _ => 1#1)

def Pre_RefSmallGradsIdeal (m : (ℓ : Loc Cert.RefSmallGradsIdeal.nD Cert.RefSmallGradsIdeal.τ Cert.RefSmallGradsIdeal.sig) → Buf (Elt Ideal) ℓ) : Prop :=
  True

def Pre_RefSmallGradsIdeal_finite_bounds [hPre_finite_bounds : Cert.Pre_finite_bounds.Facts] (m : (ℓ : Loc Cert.RefSmallGradsIdeal.nD Cert.RefSmallGradsIdeal.τ Cert.RefSmallGradsIdeal.sig) → Buf (Elt Ideal) ℓ) : Prop :=
  ∀ c : Dev Cert.RefSmallGradsIdeal.nD,
    (Cert.Pre_finite_bounds.fn (F := Ideal) (m ((c.tc : Thread Cert.RefSmallGradsIdeal.nD Cert.RefSmallGradsIdeal.τ).loc Cert.RefSmallGradsIdeal.main_arg0)) (m ((c.tc : Thread Cert.RefSmallGradsIdeal.nD Cert.RefSmallGradsIdeal.τ).loc Cert.RefSmallGradsIdeal.main_arg1))) = (fun _ => 1#1)

def Pre_LnLoss (m : (ℓ : Loc Cert.LnLoss.nD Cert.LnLoss.τ Cert.LnLoss.sig) → Buf (Elt Bits) ℓ) : Prop :=
  True

def Pre_LnLossIdeal (m : (ℓ : Loc Cert.LnLossIdeal.nD Cert.LnLossIdeal.τ Cert.LnLossIdeal.sig) → Buf (Elt Ideal) ℓ) : Prop :=
  True

def Pre_LnLossIdeal_finite_head [hPre_finite_head : Cert.Pre_finite_head.Facts] (m : (ℓ : Loc Cert.LnLossIdeal.nD Cert.LnLossIdeal.τ Cert.LnLossIdeal.sig) → Buf (Elt Ideal) ℓ) : Prop :=
  ∀ c : Dev Cert.LnLossIdeal.nD,
    (Cert.Pre_finite_head.fn (F := Ideal) (m ((c.tc : Thread Cert.LnLossIdeal.nD Cert.LnLossIdeal.τ).loc Cert.LnLossIdeal.main_arg0)) (m ((c.tc : Thread Cert.LnLossIdeal.nD Cert.LnLossIdeal.τ).loc Cert.LnLossIdeal.main_arg1)) (m ((c.tc : Thread Cert.LnLossIdeal.nD Cert.LnLossIdeal.τ).loc Cert.LnLossIdeal.main_arg2)) (m ((c.tc : Thread Cert.LnLossIdeal.nD Cert.LnLossIdeal.τ).loc Cert.LnLossIdeal.main_arg3)) (m ((c.tc : Thread Cert.LnLossIdeal.nD Cert.LnLossIdeal.τ).loc Cert.LnLossIdeal.main_arg4))) = (fun _ => 1#1)

def Pre_RefLnLossIdeal (m : (ℓ : Loc Cert.RefLnLossIdeal.nD Cert.RefLnLossIdeal.τ Cert.RefLnLossIdeal.sig) → Buf (Elt Ideal) ℓ) : Prop :=
  True

def Pre_RefLnLossIdeal_finite_head [hPre_finite_head : Cert.Pre_finite_head.Facts] (m : (ℓ : Loc Cert.RefLnLossIdeal.nD Cert.RefLnLossIdeal.τ Cert.RefLnLossIdeal.sig) → Buf (Elt Ideal) ℓ) : Prop :=
  ∀ c : Dev Cert.RefLnLossIdeal.nD,
    (Cert.Pre_finite_head.fn (F := Ideal) (m ((c.tc : Thread Cert.RefLnLossIdeal.nD Cert.RefLnLossIdeal.τ).loc Cert.RefLnLossIdeal.main_arg0)) (m ((c.tc : Thread Cert.RefLnLossIdeal.nD Cert.RefLnLossIdeal.τ).loc Cert.RefLnLossIdeal.main_arg1)) (m ((c.tc : Thread Cert.RefLnLossIdeal.nD Cert.RefLnLossIdeal.τ).loc Cert.RefLnLossIdeal.main_arg2)) (m ((c.tc : Thread Cert.RefLnLossIdeal.nD Cert.RefLnLossIdeal.τ).loc Cert.RefLnLossIdeal.main_arg3)) (m ((c.tc : Thread Cert.RefLnLossIdeal.nD Cert.RefLnLossIdeal.τ).loc Cert.RefLnLossIdeal.main_arg4))) = (fun _ => 1#1)

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_finite_norm [hPre_finite_norm : Cert.Pre_finite_norm.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_finite_norm.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3))) = (fun _ => 1#1)

def Pre_RefLnBwdIdeal (m : (ℓ : Loc Cert.RefLnBwdIdeal.nD Cert.RefLnBwdIdeal.τ Cert.RefLnBwdIdeal.sig) → Buf (Elt Ideal) ℓ) : Prop :=
  True

def Pre_RefLnBwdIdeal_finite_norm [hPre_finite_norm : Cert.Pre_finite_norm.Facts] (m : (ℓ : Loc Cert.RefLnBwdIdeal.nD Cert.RefLnBwdIdeal.τ Cert.RefLnBwdIdeal.sig) → Buf (Elt Ideal) ℓ) : Prop :=
  ∀ c : Dev Cert.RefLnBwdIdeal.nD,
    (Cert.Pre_finite_norm.fn (F := Ideal) (m ((c.tc : Thread Cert.RefLnBwdIdeal.nD Cert.RefLnBwdIdeal.τ).loc Cert.RefLnBwdIdeal.main_arg0)) (m ((c.tc : Thread Cert.RefLnBwdIdeal.nD Cert.RefLnBwdIdeal.τ).loc Cert.RefLnBwdIdeal.main_arg1)) (m ((c.tc : Thread Cert.RefLnBwdIdeal.nD Cert.RefLnBwdIdeal.τ).loc Cert.RefLnBwdIdeal.main_arg2)) (m ((c.tc : Thread Cert.RefLnBwdIdeal.nD Cert.RefLnBwdIdeal.τ).loc Cert.RefLnBwdIdeal.main_arg3))) = (fun _ => 1#1)

def Pre_LnBwdAlone (m : (ℓ : Loc Cert.LnBwdAlone.nD Cert.LnBwdAlone.τ Cert.LnBwdAlone.sig) → Buf (Elt Bits) ℓ) : Prop :=
  True

def Pre_LnBwdAloneIdeal (m : (ℓ : Loc Cert.LnBwdAloneIdeal.nD Cert.LnBwdAloneIdeal.τ Cert.LnBwdAloneIdeal.sig) → Buf (Elt Ideal) ℓ) : Prop :=
  True

def Pre_LnBwdAloneIdeal_finite_norm_alone [hPre_finite_norm_alone : Cert.Pre_finite_norm_alone.Facts] (m : (ℓ : Loc Cert.LnBwdAloneIdeal.nD Cert.LnBwdAloneIdeal.τ Cert.LnBwdAloneIdeal.sig) → Buf (Elt Ideal) ℓ) : Prop :=
  ∀ c : Dev Cert.LnBwdAloneIdeal.nD,
    (Cert.Pre_finite_norm_alone.fn (F := Ideal) (m ((c.tc : Thread Cert.LnBwdAloneIdeal.nD Cert.LnBwdAloneIdeal.τ).loc Cert.LnBwdAloneIdeal.main_arg0)) (m ((c.tc : Thread Cert.LnBwdAloneIdeal.nD Cert.LnBwdAloneIdeal.τ).loc Cert.LnBwdAloneIdeal.main_arg1)) (m ((c.tc : Thread Cert.LnBwdAloneIdeal.nD Cert.LnBwdAloneIdeal.τ).loc Cert.LnBwdAloneIdeal.main_arg2))) = (fun _ => 1#1)

def Pre_RefLnBwdAloneIdeal (m : (ℓ : Loc Cert.RefLnBwdAloneIdeal.nD Cert.RefLnBwdAloneIdeal.τ Cert.RefLnBwdAloneIdeal.sig) → Buf (Elt Ideal) ℓ) : Prop :=
  True

def Pre_RefLnBwdAloneIdeal_finite_norm_alone [hPre_finite_norm_alone : Cert.Pre_finite_norm_alone.Facts] (m : (ℓ : Loc Cert.RefLnBwdAloneIdeal.nD Cert.RefLnBwdAloneIdeal.τ Cert.RefLnBwdAloneIdeal.sig) → Buf (Elt Ideal) ℓ) : Prop :=
  ∀ c : Dev Cert.RefLnBwdAloneIdeal.nD,
    (Cert.Pre_finite_norm_alone.fn (F := Ideal) (m ((c.tc : Thread Cert.RefLnBwdAloneIdeal.nD Cert.RefLnBwdAloneIdeal.τ).loc Cert.RefLnBwdAloneIdeal.main_arg0)) (m ((c.tc : Thread Cert.RefLnBwdAloneIdeal.nD Cert.RefLnBwdAloneIdeal.τ).loc Cert.RefLnBwdAloneIdeal.main_arg1)) (m ((c.tc : Thread Cert.RefLnBwdAloneIdeal.nD Cert.RefLnBwdAloneIdeal.τ).loc Cert.RefLnBwdAloneIdeal.main_arg2))) = (fun _ => 1#1)

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_RefLnFwdIdeal (m : (ℓ : Loc Cert.RefLnFwdIdeal.nD Cert.RefLnFwdIdeal.τ Cert.RefLnFwdIdeal.sig) → Buf (Elt Ideal) ℓ) : Prop :=
  True

def Pre_ConvGateFwd (m : (ℓ : Loc Cert.ConvGateFwd.nD Cert.ConvGateFwd.τ Cert.ConvGateFwd.sig) → Buf (Elt Bits) ℓ) : Prop :=
  True

def Pre_ConvGateFwdIdeal (m : (ℓ : Loc Cert.ConvGateFwdIdeal.nD Cert.ConvGateFwdIdeal.τ Cert.ConvGateFwdIdeal.sig) → Buf (Elt Ideal) ℓ) : Prop :=
  True

def Pre_RefConvGateFwdIdeal (m : (ℓ : Loc Cert.RefConvGateFwdIdeal.nD Cert.RefConvGateFwdIdeal.τ Cert.RefConvGateFwdIdeal.sig) → Buf (Elt Ideal) ℓ) : Prop :=
  True

def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_RefSwapIdeal (m : (ℓ : Loc Cert.RefSwapIdeal.nD Cert.RefSwapIdeal.τ Cert.RefSwapIdeal.sig) → Buf (Elt Ideal) ℓ) : Prop :=
  True

def Pre_Cast (m : (ℓ : Loc Cert.Cast.nD Cert.Cast.τ Cert.Cast.sig) → Buf (Elt Bits) ℓ) : Prop :=
  True

def Pre_CastIdeal (m : (ℓ : Loc Cert.CastIdeal.nD Cert.CastIdeal.τ Cert.CastIdeal.sig) → Buf (Elt Ideal) ℓ) : Prop :=
  True

def Pre_RefCastIdeal (m : (ℓ : Loc Cert.RefCastIdeal.nD Cert.RefCastIdeal.τ Cert.RefCastIdeal.sig) → Buf (Elt Ideal) ℓ) : Prop :=
  True

def Pre_Mixed (m : (ℓ : Loc Cert.Mixed.nD Cert.Mixed.τ Cert.Mixed.sig) → Buf (Elt Bits) ℓ) : Prop :=
  True

def Pre_MixedIdeal (m : (ℓ : Loc Cert.MixedIdeal.nD Cert.MixedIdeal.τ Cert.MixedIdeal.sig) → Buf (Elt Ideal) ℓ) : Prop :=
  True

def Pre_RefMixedIdeal (m : (ℓ : Loc Cert.RefMixedIdeal.nD Cert.RefMixedIdeal.τ Cert.RefMixedIdeal.sig) → Buf (Elt Ideal) ℓ) : Prop :=
  True

def Pre_PairAdd [hPre_a_core : Cert.Pre_a_core.Facts] (m : (ℓ : Loc Cert.PairAdd.nD Cert.PairAdd.τ Cert.PairAdd.sig) → Buf (Elt Bits) ℓ) : Prop :=
  ∀ c : Dev Cert.PairAdd.nD,
    (Cert.Pre_a_core.fn (F := Bits) (m ((c.tc : Thread Cert.PairAdd.nD Cert.PairAdd.τ).loc Cert.PairAdd.main_arg0)) (m ((c.tc : Thread Cert.PairAdd.nD Cert.PairAdd.τ).loc Cert.PairAdd.main_arg1)) (m ((c.tc : Thread Cert.PairAdd.nD Cert.PairAdd.τ).loc Cert.PairAdd.main_arg2))) = (fun _ => 1#1)

def Pre_PairAddIdeal [hPre_a_core : Cert.Pre_a_core.Facts] (m : (ℓ : Loc Cert.PairAddIdeal.nD Cert.PairAddIdeal.τ Cert.PairAddIdeal.sig) → Buf (Elt Ideal) ℓ) : Prop :=
  ∀ c : Dev Cert.PairAddIdeal.nD,
    (Cert.Pre_a_core.fn (F := Ideal) (m ((c.tc : Thread Cert.PairAddIdeal.nD Cert.PairAddIdeal.τ).loc Cert.PairAddIdeal.main_arg0)) (m ((c.tc : Thread Cert.PairAddIdeal.nD Cert.PairAddIdeal.τ).loc Cert.PairAddIdeal.main_arg1)) (m ((c.tc : Thread Cert.PairAddIdeal.nD Cert.PairAddIdeal.τ).loc Cert.PairAddIdeal.main_arg2))) = (fun _ => 1#1)

def Pre_RefPairAddIdeal (m : (ℓ : Loc Cert.RefPairAddIdeal.nD Cert.RefPairAddIdeal.τ Cert.RefPairAddIdeal.sig) → Buf (Elt Ideal) ℓ) : Prop :=
  True

def Pre_RefPairAddIdeal_a_core [hPre_a_core : Cert.Pre_a_core.Facts] (m : (ℓ : Loc Cert.RefPairAddIdeal.nD Cert.RefPairAddIdeal.τ Cert.RefPairAddIdeal.sig) → Buf (Elt Ideal) ℓ) : Prop :=
  ∀ c : Dev Cert.RefPairAddIdeal.nD,
    (Cert.Pre_a_core.fn (F := Ideal) (m ((c.tc : Thread Cert.RefPairAddIdeal.nD Cert.RefPairAddIdeal.τ).loc Cert.RefPairAddIdeal.main_arg0)) (m ((c.tc : Thread Cert.RefPairAddIdeal.nD Cert.RefPairAddIdeal.τ).loc Cert.RefPairAddIdeal.main_arg1)) (m ((c.tc : Thread Cert.RefPairAddIdeal.nD Cert.RefPairAddIdeal.τ).loc Cert.RefPairAddIdeal.main_arg2))) = (fun _ => 1#1)

def Pre_HgrnOut (m : (ℓ : Loc Cert.HgrnOut.nD Cert.HgrnOut.τ Cert.HgrnOut.sig) → Buf (Elt Bits) ℓ) : Prop :=
  True

def Pre_HgrnOutIdeal (m : (ℓ : Loc Cert.HgrnOutIdeal.nD Cert.HgrnOutIdeal.τ Cert.HgrnOutIdeal.sig) → Buf (Elt Ideal) ℓ) : Prop :=
  True

def Pre_HgrnOutIdeal_finite_out [hPre_finite_out : Cert.Pre_finite_out.Facts] (m : (ℓ : Loc Cert.HgrnOutIdeal.nD Cert.HgrnOutIdeal.τ Cert.HgrnOutIdeal.sig) → Buf (Elt Ideal) ℓ) : Prop :=
  ∀ c : Dev Cert.HgrnOutIdeal.nD,
    (Cert.Pre_finite_out.fn (F := Ideal) (m ((c.tc : Thread Cert.HgrnOutIdeal.nD Cert.HgrnOutIdeal.τ).loc Cert.HgrnOutIdeal.main_arg0)) (m ((c.tc : Thread Cert.HgrnOutIdeal.nD Cert.HgrnOutIdeal.τ).loc Cert.HgrnOutIdeal.main_arg1)) (m ((c.tc : Thread Cert.HgrnOutIdeal.nD Cert.HgrnOutIdeal.τ).loc Cert.HgrnOutIdeal.main_arg2)) (m ((c.tc : Thread Cert.HgrnOutIdeal.nD Cert.HgrnOutIdeal.τ).loc Cert.HgrnOutIdeal.main_arg3)) (m ((c.tc : Thread Cert.HgrnOutIdeal.nD Cert.HgrnOutIdeal.τ).loc Cert.HgrnOutIdeal.main_arg4)) (m ((c.tc : Thread Cert.HgrnOutIdeal.nD Cert.HgrnOutIdeal.τ).loc Cert.HgrnOutIdeal.main_arg5))) = (fun _ => 1#1)

def Pre_RefHgrnOutIdeal (m : (ℓ : Loc Cert.RefHgrnOutIdeal.nD Cert.RefHgrnOutIdeal.τ Cert.RefHgrnOutIdeal.sig) → Buf (Elt Ideal) ℓ) : Prop :=
  True

def Pre_RefHgrnOutIdeal_finite_out [hPre_finite_out : Cert.Pre_finite_out.Facts] (m : (ℓ : Loc Cert.RefHgrnOutIdeal.nD Cert.RefHgrnOutIdeal.τ Cert.RefHgrnOutIdeal.sig) → Buf (Elt Ideal) ℓ) : Prop :=
  ∀ c : Dev Cert.RefHgrnOutIdeal.nD,
    (Cert.Pre_finite_out.fn (F := Ideal) (m ((c.tc : Thread Cert.RefHgrnOutIdeal.nD Cert.RefHgrnOutIdeal.τ).loc Cert.RefHgrnOutIdeal.main_arg0)) (m ((c.tc : Thread Cert.RefHgrnOutIdeal.nD Cert.RefHgrnOutIdeal.τ).loc Cert.RefHgrnOutIdeal.main_arg1)) (m ((c.tc : Thread Cert.RefHgrnOutIdeal.nD Cert.RefHgrnOutIdeal.τ).loc Cert.RefHgrnOutIdeal.main_arg2)) (m ((c.tc : Thread Cert.RefHgrnOutIdeal.nD Cert.RefHgrnOutIdeal.τ).loc Cert.RefHgrnOutIdeal.main_arg3)) (m ((c.tc : Thread Cert.RefHgrnOutIdeal.nD Cert.RefHgrnOutIdeal.τ).loc Cert.RefHgrnOutIdeal.main_arg4)) (m ((c.tc : Thread Cert.RefHgrnOutIdeal.nD Cert.RefHgrnOutIdeal.τ).loc Cert.RefHgrnOutIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_gate [hKernelIdeal : Cert.KernelIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_gate [hReferenceIdeal : Cert.ReferenceIdeal.Facts] [hPre_finite_gate : Cert.Pre_finite_gate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_RefDownDxIdeal [hRefDownDxIdeal : Cert.RefDownDxIdeal.Facts] : Prop :=
  ∀ (m : (ℓ : Loc Cert.RefDownDxIdeal.nD Cert.RefDownDxIdeal.τ Cert.RefDownDxIdeal.sig) → Buf (Elt Ideal) ℓ) (g : Dev Cert.RefDownDxIdeal.nD → PrngReg), Pre_RefDownDxIdeal m →
    θ_run (Cert.RefDownDxIdeal.defs (F := Ideal)) (onTc (τ := Cert.RefDownDxIdeal.τ) (Cert.RefDownDxIdeal.main (F := Ideal))) ⟨m, fun _ => 0, g⟩ (fun r => (∀ c : Dev Cert.RefDownDxIdeal.nD,
      r.2.mem ((c.tc : Thread Cert.RefDownDxIdeal.nD Cert.RefDownDxIdeal.τ).loc Cert.RefDownDxIdeal.main_arg0) = m ((c.tc : Thread Cert.RefDownDxIdeal.nD Cert.RefDownDxIdeal.τ).loc Cert.RefDownDxIdeal.main_arg0)
      ∧ r.2.mem ((c.tc : Thread Cert.RefDownDxIdeal.nD Cert.RefDownDxIdeal.τ).loc Cert.RefDownDxIdeal.main_arg1) = m ((c.tc : Thread Cert.RefDownDxIdeal.nD Cert.RefDownDxIdeal.τ).loc Cert.RefDownDxIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_RefDownDwIdeal [hRefDownDwIdeal : Cert.RefDownDwIdeal.Facts] : Prop :=
  ∀ (m : (ℓ : Loc Cert.RefDownDwIdeal.nD Cert.RefDownDwIdeal.τ Cert.RefDownDwIdeal.sig) → Buf (Elt Ideal) ℓ) (g : Dev Cert.RefDownDwIdeal.nD → PrngReg), Pre_RefDownDwIdeal m →
    θ_run (Cert.RefDownDwIdeal.defs (F := Ideal)) (onTc (τ := Cert.RefDownDwIdeal.τ) (Cert.RefDownDwIdeal.main (F := Ideal))) ⟨m, fun _ => 0, g⟩ (fun r => (∀ c : Dev Cert.RefDownDwIdeal.nD,
      r.2.mem ((c.tc : Thread Cert.RefDownDwIdeal.nD Cert.RefDownDwIdeal.τ).loc Cert.RefDownDwIdeal.main_arg0) = m ((c.tc : Thread Cert.RefDownDwIdeal.nD Cert.RefDownDwIdeal.τ).loc Cert.RefDownDwIdeal.main_arg0)
      ∧ r.2.mem ((c.tc : Thread Cert.RefDownDwIdeal.nD Cert.RefDownDwIdeal.τ).loc Cert.RefDownDwIdeal.main_arg1) = m ((c.tc : Thread Cert.RefDownDwIdeal.nD Cert.RefDownDwIdeal.τ).loc Cert.RefDownDwIdeal.main_arg1))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ r.2.sem = fun _ => 0)

def quiescent_RefGateDxIdeal [hRefGateDxIdeal : Cert.RefGateDxIdeal.Facts] : Prop :=
  ∀ (m : (ℓ : Loc Cert.RefGateDxIdeal.nD Cert.RefGateDxIdeal.τ Cert.RefGateDxIdeal.sig) → Buf (Elt Ideal) ℓ) (g : Dev Cert.RefGateDxIdeal.nD → PrngReg), Pre_RefGateDxIdeal m →
    θ_run (Cert.RefGateDxIdeal.defs (F := Ideal)) (onTc (τ := Cert.RefGateDxIdeal.τ) (Cert.RefGateDxIdeal.main (F := Ideal))) ⟨m, fun _ => 0, g⟩ (fun r => (∀ c : Dev Cert.RefGateDxIdeal.nD,
      r.2.mem ((c.tc : Thread Cert.RefGateDxIdeal.nD Cert.RefGateDxIdeal.τ).loc Cert.RefGateDxIdeal.main_arg0) = m ((c.tc : Thread Cert.RefGateDxIdeal.nD Cert.RefGateDxIdeal.τ).loc Cert.RefGateDxIdeal.main_arg0)
      ∧ r.2.mem ((c.tc : Thread Cert.RefGateDxIdeal.nD Cert.RefGateDxIdeal.τ).loc Cert.RefGateDxIdeal.main_arg1) = m ((c.tc : Thread Cert.RefGateDxIdeal.nD Cert.RefGateDxIdeal.τ).loc Cert.RefGateDxIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_RefUpDxIdeal [hRefUpDxIdeal : Cert.RefUpDxIdeal.Facts] : Prop :=
  ∀ (m : (ℓ : Loc Cert.RefUpDxIdeal.nD Cert.RefUpDxIdeal.τ Cert.RefUpDxIdeal.sig) → Buf (Elt Ideal) ℓ) (g : Dev Cert.RefUpDxIdeal.nD → PrngReg), Pre_RefUpDxIdeal m →
    θ_run (Cert.RefUpDxIdeal.defs (F := Ideal)) (onTc (τ := Cert.RefUpDxIdeal.τ) (Cert.RefUpDxIdeal.main (F := Ideal))) ⟨m, fun _ => 0, g⟩ (fun r => (∀ c : Dev Cert.RefUpDxIdeal.nD,
      r.2.mem ((c.tc : Thread Cert.RefUpDxIdeal.nD Cert.RefUpDxIdeal.τ).loc Cert.RefUpDxIdeal.main_arg0) = m ((c.tc : Thread Cert.RefUpDxIdeal.nD Cert.RefUpDxIdeal.τ).loc Cert.RefUpDxIdeal.main_arg0)
      ∧ r.2.mem ((c.tc : Thread Cert.RefUpDxIdeal.nD Cert.RefUpDxIdeal.τ).loc Cert.RefUpDxIdeal.main_arg1) = m ((c.tc : Thread Cert.RefUpDxIdeal.nD Cert.RefUpDxIdeal.τ).loc Cert.RefUpDxIdeal.main_arg1)
      ∧ r.2.mem ((c.tc : Thread Cert.RefUpDxIdeal.nD Cert.RefUpDxIdeal.τ).loc Cert.RefUpDxIdeal.main_arg2) = m ((c.tc : Thread Cert.RefUpDxIdeal.nD Cert.RefUpDxIdeal.τ).loc Cert.RefUpDxIdeal.main_arg2))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ r.2.sem = fun _ => 0)

def quiescent_RefGateDwIdeal [hRefGateDwIdeal : Cert.RefGateDwIdeal.Facts] : Prop :=
  ∀ (m : (ℓ : Loc Cert.RefGateDwIdeal.nD Cert.RefGateDwIdeal.τ Cert.RefGateDwIdeal.sig) → Buf (Elt Ideal) ℓ) (g : Dev Cert.RefGateDwIdeal.nD → PrngReg), Pre_RefGateDwIdeal m →
    θ_run (Cert.RefGateDwIdeal.defs (F := Ideal)) (onTc (τ := Cert.RefGateDwIdeal.τ) (Cert.RefGateDwIdeal.main (F := Ideal))) ⟨m, fun _ => 0, g⟩ (fun r => (∀ c : Dev Cert.RefGateDwIdeal.nD,
      r.2.mem ((c.tc : Thread Cert.RefGateDwIdeal.nD Cert.RefGateDwIdeal.τ).loc Cert.RefGateDwIdeal.main_arg0) = m ((c.tc : Thread Cert.RefGateDwIdeal.nD Cert.RefGateDwIdeal.τ).loc Cert.RefGateDwIdeal.main_arg0)
      ∧ r.2.mem ((c.tc : Thread Cert.RefGateDwIdeal.nD Cert.RefGateDwIdeal.τ).loc Cert.RefGateDwIdeal.main_arg1) = m ((c.tc : Thread Cert.RefGateDwIdeal.nD Cert.RefGateDwIdeal.τ).loc Cert.RefGateDwIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_RefOutDxIdeal [hRefOutDxIdeal : Cert.RefOutDxIdeal.Facts] : Prop :=
  ∀ (m : (ℓ : Loc Cert.RefOutDxIdeal.nD Cert.RefOutDxIdeal.τ Cert.RefOutDxIdeal.sig) → Buf (Elt Ideal) ℓ) (g : Dev Cert.RefOutDxIdeal.nD → PrngReg), Pre_RefOutDxIdeal m →
    θ_run (Cert.RefOutDxIdeal.defs (F := Ideal)) (onTc (τ := Cert.RefOutDxIdeal.τ) (Cert.RefOutDxIdeal.main (F := Ideal))) ⟨m, fun _ => 0, g⟩ (fun r => (∀ c : Dev Cert.RefOutDxIdeal.nD,
      r.2.mem ((c.tc : Thread Cert.RefOutDxIdeal.nD Cert.RefOutDxIdeal.τ).loc Cert.RefOutDxIdeal.main_arg0) = m ((c.tc : Thread Cert.RefOutDxIdeal.nD Cert.RefOutDxIdeal.τ).loc Cert.RefOutDxIdeal.main_arg0)
      ∧ r.2.mem ((c.tc : Thread Cert.RefOutDxIdeal.nD Cert.RefOutDxIdeal.τ).loc Cert.RefOutDxIdeal.main_arg1) = m ((c.tc : Thread Cert.RefOutDxIdeal.nD Cert.RefOutDxIdeal.τ).loc Cert.RefOutDxIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_RefOutDwIdeal [hRefOutDwIdeal : Cert.RefOutDwIdeal.Facts] : Prop :=
  ∀ (m : (ℓ : Loc Cert.RefOutDwIdeal.nD Cert.RefOutDwIdeal.τ Cert.RefOutDwIdeal.sig) → Buf (Elt Ideal) ℓ) (g : Dev Cert.RefOutDwIdeal.nD → PrngReg), Pre_RefOutDwIdeal m →
    θ_run (Cert.RefOutDwIdeal.defs (F := Ideal)) (onTc (τ := Cert.RefOutDwIdeal.τ) (Cert.RefOutDwIdeal.main (F := Ideal))) ⟨m, fun _ => 0, g⟩ (fun r => (∀ c : Dev Cert.RefOutDwIdeal.nD,
      r.2.mem ((c.tc : Thread Cert.RefOutDwIdeal.nD Cert.RefOutDwIdeal.τ).loc Cert.RefOutDwIdeal.main_arg0) = m ((c.tc : Thread Cert.RefOutDwIdeal.nD Cert.RefOutDwIdeal.τ).loc Cert.RefOutDwIdeal.main_arg0)
      ∧ r.2.mem ((c.tc : Thread Cert.RefOutDwIdeal.nD Cert.RefOutDwIdeal.τ).loc Cert.RefOutDwIdeal.main_arg1) = m ((c.tc : Thread Cert.RefOutDwIdeal.nD Cert.RefOutDwIdeal.τ).loc Cert.RefOutDwIdeal.main_arg1))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1)
      ∧ r.2.mem ((c.tc : Thread Cert.ProjDx.nD Cert.ProjDx.τ).loc Cert.ProjDx.main_arg2) = m ((c.tc : Thread Cert.ProjDx.nD Cert.ProjDx.τ).loc Cert.ProjDx.main_arg2))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
      ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2))
      ∧ r.2.sem = fun _ => 0)

def quiescent_RefProjDxIdeal [hRefProjDxIdeal : Cert.RefProjDxIdeal.Facts] : Prop :=
  ∀ (m : (ℓ : Loc Cert.RefProjDxIdeal.nD Cert.RefProjDxIdeal.τ Cert.RefProjDxIdeal.sig) → Buf (Elt Ideal) ℓ) (g : Dev Cert.RefProjDxIdeal.nD → PrngReg), Pre_RefProjDxIdeal m →
    θ_run (Cert.RefProjDxIdeal.defs (F := Ideal)) (onTc (τ := Cert.RefProjDxIdeal.τ) (Cert.RefProjDxIdeal.main (F := Ideal))) ⟨m, fun _ => 0, g⟩ (fun r => (∀ c : Dev Cert.RefProjDxIdeal.nD,
      r.2.mem ((c.tc : Thread Cert.RefProjDxIdeal.nD Cert.RefProjDxIdeal.τ).loc Cert.RefProjDxIdeal.main_arg0) = m ((c.tc : Thread Cert.RefProjDxIdeal.nD Cert.RefProjDxIdeal.τ).loc Cert.RefProjDxIdeal.main_arg0)
      ∧ r.2.mem ((c.tc : Thread Cert.RefProjDxIdeal.nD Cert.RefProjDxIdeal.τ).loc Cert.RefProjDxIdeal.main_arg1) = m ((c.tc : Thread Cert.RefProjDxIdeal.nD Cert.RefProjDxIdeal.τ).loc Cert.RefProjDxIdeal.main_arg1)
      ∧ r.2.mem ((c.tc : Thread Cert.RefProjDxIdeal.nD Cert.RefProjDxIdeal.τ).loc Cert.RefProjDxIdeal.main_arg2) = m ((c.tc : Thread Cert.RefProjDxIdeal.nD Cert.RefProjDxIdeal.τ).loc Cert.RefProjDxIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_RefMixOutIdeal [hRefMixOutIdeal : Cert.RefMixOutIdeal.Facts] : Prop :=
  ∀ (m : (ℓ : Loc Cert.RefMixOutIdeal.nD Cert.RefMixOutIdeal.τ Cert.RefMixOutIdeal.sig) → Buf (Elt Ideal) ℓ) (g : Dev Cert.RefMixOutIdeal.nD → PrngReg), Pre_RefMixOutIdeal m →
    θ_run (Cert.RefMixOutIdeal.defs (F := Ideal)) (onTc (τ := Cert.RefMixOutIdeal.τ) (Cert.RefMixOutIdeal.main (F := Ideal))) ⟨m, fun _ => 0, g⟩ (fun r => (∀ c : Dev Cert.RefMixOutIdeal.nD,
      r.2.mem ((c.tc : Thread Cert.RefMixOutIdeal.nD Cert.RefMixOutIdeal.τ).loc Cert.RefMixOutIdeal.main_arg0) = m ((c.tc : Thread Cert.RefMixOutIdeal.nD Cert.RefMixOutIdeal.τ).loc Cert.RefMixOutIdeal.main_arg0)
      ∧ r.2.mem ((c.tc : Thread Cert.RefMixOutIdeal.nD Cert.RefMixOutIdeal.τ).loc Cert.RefMixOutIdeal.main_arg1) = m ((c.tc : Thread Cert.RefMixOutIdeal.nD Cert.RefMixOutIdeal.τ).loc Cert.RefMixOutIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_RefGateIdeal [hRefGateIdeal : Cert.RefGateIdeal.Facts] : Prop :=
  ∀ (m : (ℓ : Loc Cert.RefGateIdeal.nD Cert.RefGateIdeal.τ Cert.RefGateIdeal.sig) → Buf (Elt Ideal) ℓ) (g : Dev Cert.RefGateIdeal.nD → PrngReg), Pre_RefGateIdeal m →
    θ_run (Cert.RefGateIdeal.defs (F := Ideal)) (onTc (τ := Cert.RefGateIdeal.τ) (Cert.RefGateIdeal.main (F := Ideal))) ⟨m, fun _ => 0, g⟩ (fun r => (∀ c : Dev Cert.RefGateIdeal.nD,
      r.2.mem ((c.tc : Thread Cert.RefGateIdeal.nD Cert.RefGateIdeal.τ).loc Cert.RefGateIdeal.main_arg0) = m ((c.tc : Thread Cert.RefGateIdeal.nD Cert.RefGateIdeal.τ).loc Cert.RefGateIdeal.main_arg0)
      ∧ r.2.mem ((c.tc : Thread Cert.RefGateIdeal.nD Cert.RefGateIdeal.τ).loc Cert.RefGateIdeal.main_arg1) = m ((c.tc : Thread Cert.RefGateIdeal.nD Cert.RefGateIdeal.τ).loc Cert.RefGateIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_RefAdamSmallIdeal [hRefAdamSmallIdeal : Cert.RefAdamSmallIdeal.Facts] : Prop :=
  ∀ (m : (ℓ : Loc Cert.RefAdamSmallIdeal.nD Cert.RefAdamSmallIdeal.τ Cert.RefAdamSmallIdeal.sig) → Buf (Elt Ideal) ℓ) (g : Dev Cert.RefAdamSmallIdeal.nD → PrngReg), Pre_RefAdamSmallIdeal m →
    θ_run (Cert.RefAdamSmallIdeal.defs (F := Ideal)) (onTc (τ := Cert.RefAdamSmallIdeal.τ) (Cert.RefAdamSmallIdeal.main (F := Ideal))) ⟨m, fun _ => 0, g⟩ (fun r => (∀ c : Dev Cert.RefAdamSmallIdeal.nD,
      r.2.mem ((c.tc : Thread Cert.RefAdamSmallIdeal.nD Cert.RefAdamSmallIdeal.τ).loc Cert.RefAdamSmallIdeal.main_arg0) = m ((c.tc : Thread Cert.RefAdamSmallIdeal.nD Cert.RefAdamSmallIdeal.τ).loc Cert.RefAdamSmallIdeal.main_arg0)
      ∧ r.2.mem ((c.tc : Thread Cert.RefAdamSmallIdeal.nD Cert.RefAdamSmallIdeal.τ).loc Cert.RefAdamSmallIdeal.main_arg1) = m ((c.tc : Thread Cert.RefAdamSmallIdeal.nD Cert.RefAdamSmallIdeal.τ).loc Cert.RefAdamSmallIdeal.main_arg1)
      ∧ r.2.mem ((c.tc : Thread Cert.RefAdamSmallIdeal.nD Cert.RefAdamSmallIdeal.τ).loc Cert.RefAdamSmallIdeal.main_arg2) = m ((c.tc : Thread Cert.RefAdamSmallIdeal.nD Cert.RefAdamSmallIdeal.τ).loc Cert.RefAdamSmallIdeal.main_arg2)
      ∧ r.2.mem ((c.tc : Thread Cert.RefAdamSmallIdeal.nD Cert.RefAdamSmallIdeal.τ).loc Cert.RefAdamSmallIdeal.main_arg3) = m ((c.tc : Thread Cert.RefAdamSmallIdeal.nD Cert.RefAdamSmallIdeal.τ).loc Cert.RefAdamSmallIdeal.main_arg3))
      ∧ r.2.sem = fun _ => 0)

def quiescent_Upper [hUpper : Cert.Upper.Facts] [hPre_a_chip_upper : Cert.Pre_a_chip_upper.Facts] : Prop :=
  ∀ (m : (ℓ : Loc Cert.Upper.nD Cert.Upper.τ Cert.Upper.sig) → Buf (Elt Bits) ℓ) (g : Dev Cert.Upper.nD → PrngReg), Pre_Upper m →
    θ_run (Cert.Upper.defs (F := Bits)) (onTc (τ := Cert.Upper.τ) (Cert.Upper.main (F := Bits))) ⟨m, fun _ => 0, g⟩ (fun r => (∀ c : Dev Cert.Upper.nD,
      r.2.mem ((c.tc : Thread Cert.Upper.nD Cert.Upper.τ).loc Cert.Upper.main_arg0) = m ((c.tc : Thread Cert.Upper.nD Cert.Upper.τ).loc Cert.Upper.main_arg0)
      ∧ r.2.mem ((c.tc : Thread Cert.Upper.nD Cert.Upper.τ).loc Cert.Upper.main_arg1) = m ((c.tc : Thread Cert.Upper.nD Cert.Upper.τ).loc Cert.Upper.main_arg1)
      ∧ r.2.mem ((c.tc : Thread Cert.Upper.nD Cert.Upper.τ).loc Cert.Upper.main_arg2) = m ((c.tc : Thread Cert.Upper.nD Cert.Upper.τ).loc Cert.Upper.main_arg2)
      ∧ r.2.mem ((c.tc : Thread Cert.Upper.nD Cert.Upper.τ).loc Cert.Upper.main_arg3) = m ((c.tc : Thread Cert.Upper.nD Cert.Upper.τ).loc Cert.Upper.main_arg3)
      ∧ r.2.mem ((c.tc : Thread Cert.Upper.nD Cert.Upper.τ).loc Cert.Upper.main_arg4) = m ((c.tc : Thread Cert.Upper.nD Cert.Upper.τ).loc Cert.Upper.main_arg4)
      ∧ r.2.mem ((c.tc : Thread Cert.Upper.nD Cert.Upper.τ).loc Cert.Upper.main_arg5) = m ((c.tc : Thread Cert.Upper.nD Cert.Upper.τ).loc Cert.Upper.main_arg5))
      ∧ r.2.sem = fun _ => 0)

def quiescent_UpperIdeal [hUpperIdeal : Cert.UpperIdeal.Facts] [hPre_a_chip_upper : Cert.Pre_a_chip_upper.Facts] : Prop :=
  ∀ (m : (ℓ : Loc Cert.UpperIdeal.nD Cert.UpperIdeal.τ Cert.UpperIdeal.sig) → Buf (Elt Ideal) ℓ) (g : Dev Cert.UpperIdeal.nD → PrngReg), Pre_UpperIdeal m →
    θ_run (Cert.UpperIdeal.defs (F := Ideal)) (onTc (τ := Cert.UpperIdeal.τ) (Cert.UpperIdeal.main (F := Ideal))) ⟨m, fun _ => 0, g⟩ (fun r => (∀ c : Dev Cert.UpperIdeal.nD,
      r.2.mem ((c.tc : Thread Cert.UpperIdeal.nD Cert.UpperIdeal.τ).loc Cert.UpperIdeal.main_arg0) = m ((c.tc : Thread Cert.UpperIdeal.nD Cert.UpperIdeal.τ).loc Cert.UpperIdeal.main_arg0)
      ∧ r.2.mem ((c.tc : Thread Cert.UpperIdeal.nD Cert.UpperIdeal.τ).loc Cert.UpperIdeal.main_arg1) = m ((c.tc : Thread Cert.UpperIdeal.nD Cert.UpperIdeal.τ).loc Cert.UpperIdeal.main_arg1)
      ∧ r.2.mem ((c.tc : Thread Cert.UpperIdeal.nD Cert.UpperIdeal.τ).loc Cert.UpperIdeal.main_arg2) = m ((c.tc : Thread Cert.UpperIdeal.nD Cert.UpperIdeal.τ).loc Cert.UpperIdeal.main_arg2)
      ∧ r.2.mem ((c.tc : Thread Cert.UpperIdeal.nD Cert.UpperIdeal.τ).loc Cert.UpperIdeal.main_arg3) = m ((c.tc : Thread Cert.UpperIdeal.nD Cert.UpperIdeal.τ).loc Cert.UpperIdeal.main_arg3)
      ∧ r.2.mem ((c.tc : Thread Cert.UpperIdeal.nD Cert.UpperIdeal.τ).loc Cert.UpperIdeal.main_arg4) = m ((c.tc : Thread Cert.UpperIdeal.nD Cert.UpperIdeal.τ).loc Cert.UpperIdeal.main_arg4)
      ∧ r.2.mem ((c.tc : Thread Cert.UpperIdeal.nD Cert.UpperIdeal.τ).loc Cert.UpperIdeal.main_arg5) = m ((c.tc : Thread Cert.UpperIdeal.nD Cert.UpperIdeal.τ).loc Cert.UpperIdeal.main_arg5))
      ∧ r.2.sem = fun _ => 0)

def quiescent_RefUpperIdeal [hRefUpperIdeal : Cert.RefUpperIdeal.Facts] : Prop :=
  ∀ (m : (ℓ : Loc Cert.RefUpperIdeal.nD Cert.RefUpperIdeal.τ Cert.RefUpperIdeal.sig) → Buf (Elt Ideal) ℓ) (g : Dev Cert.RefUpperIdeal.nD → PrngReg), Pre_RefUpperIdeal m →
    θ_run (Cert.RefUpperIdeal.defs (F := Ideal)) (onTc (τ := Cert.RefUpperIdeal.τ) (Cert.RefUpperIdeal.main (F := Ideal))) ⟨m, fun _ => 0, g⟩ (fun r => (∀ c : Dev Cert.RefUpperIdeal.nD,
      r.2.mem ((c.tc : Thread Cert.RefUpperIdeal.nD Cert.RefUpperIdeal.τ).loc Cert.RefUpperIdeal.main_arg0) = m ((c.tc : Thread Cert.RefUpperIdeal.nD Cert.RefUpperIdeal.τ).loc Cert.RefUpperIdeal.main_arg0)
      ∧ r.2.mem ((c.tc : Thread Cert.RefUpperIdeal.nD Cert.RefUpperIdeal.τ).loc Cert.RefUpperIdeal.main_arg1) = m ((c.tc : Thread Cert.RefUpperIdeal.nD Cert.RefUpperIdeal.τ).loc Cert.RefUpperIdeal.main_arg1)
      ∧ r.2.mem ((c.tc : Thread Cert.RefUpperIdeal.nD Cert.RefUpperIdeal.τ).loc Cert.RefUpperIdeal.main_arg2) = m ((c.tc : Thread Cert.RefUpperIdeal.nD Cert.RefUpperIdeal.τ).loc Cert.RefUpperIdeal.main_arg2)
      ∧ r.2.mem ((c.tc : Thread Cert.RefUpperIdeal.nD Cert.RefUpperIdeal.τ).loc Cert.RefUpperIdeal.main_arg3) = m ((c.tc : Thread Cert.RefUpperIdeal.nD Cert.RefUpperIdeal.τ).loc Cert.RefUpperIdeal.main_arg3)
      ∧ r.2.mem ((c.tc : Thread Cert.RefUpperIdeal.nD Cert.RefUpperIdeal.τ).loc Cert.RefUpperIdeal.main_arg4) = m ((c.tc : Thread Cert.RefUpperIdeal.nD Cert.RefUpperIdeal.τ).loc Cert.RefUpperIdeal.main_arg4)
      ∧ r.2.mem ((c.tc : Thread Cert.RefUpperIdeal.nD Cert.RefUpperIdeal.τ).loc Cert.RefUpperIdeal.main_arg5) = m ((c.tc : Thread Cert.RefUpperIdeal.nD Cert.RefUpperIdeal.τ).loc Cert.RefUpperIdeal.main_arg5))
      ∧ r.2.sem = fun _ => 0)

def quiescent_RefUpperIdeal_pre_a_chip_upper [hRefUpperIdeal : Cert.RefUpperIdeal.Facts] [hPre_a_chip_upper : Cert.Pre_a_chip_upper.Facts] : Prop :=
  ∀ (m : (ℓ : Loc Cert.RefUpperIdeal.nD Cert.RefUpperIdeal.τ Cert.RefUpperIdeal.sig) → Buf (Elt Ideal) ℓ) (g : Dev Cert.RefUpperIdeal.nD → PrngReg), Pre_RefUpperIdeal_a_chip_upper m →
    θ_run (Cert.RefUpperIdeal.defs (F := Ideal)) (onTc (τ := Cert.RefUpperIdeal.τ) (Cert.RefUpperIdeal.main (F := Ideal))) ⟨m, fun _ => 0, g⟩ (fun r => (∀ c : Dev Cert.RefUpperIdeal.nD,
      r.2.mem ((c.tc : Thread Cert.RefUpperIdeal.nD Cert.RefUpperIdeal.τ).loc Cert.RefUpperIdeal.main_arg0) = m ((c.tc : Thread Cert.RefUpperIdeal.nD Cert.RefUpperIdeal.τ).loc Cert.RefUpperIdeal.main_arg0)
      ∧ r.2.mem ((c.tc : Thread Cert.RefUpperIdeal.nD Cert.RefUpperIdeal.τ).loc Cert.RefUpperIdeal.main_arg1) = m ((c.tc : Thread Cert.RefUpperIdeal.nD Cert.RefUpperIdeal.τ).loc Cert.RefUpperIdeal.main_arg1)
      ∧ r.2.mem ((c.tc : Thread Cert.RefUpperIdeal.nD Cert.RefUpperIdeal.τ).loc Cert.RefUpperIdeal.main_arg2) = m ((c.tc : Thread Cert.RefUpperIdeal.nD Cert.RefUpperIdeal.τ).loc Cert.RefUpperIdeal.main_arg2)
      ∧ r.2.mem ((c.tc : Thread Cert.RefUpperIdeal.nD Cert.RefUpperIdeal.τ).loc Cert.RefUpperIdeal.main_arg3) = m ((c.tc : Thread Cert.RefUpperIdeal.nD Cert.RefUpperIdeal.τ).loc Cert.RefUpperIdeal.main_arg3)
      ∧ r.2.mem ((c.tc : Thread Cert.RefUpperIdeal.nD Cert.RefUpperIdeal.τ).loc Cert.RefUpperIdeal.main_arg4) = m ((c.tc : Thread Cert.RefUpperIdeal.nD Cert.RefUpperIdeal.τ).loc Cert.RefUpperIdeal.main_arg4)
      ∧ r.2.mem ((c.tc : Thread Cert.RefUpperIdeal.nD Cert.RefUpperIdeal.τ).loc Cert.RefUpperIdeal.main_arg5) = m ((c.tc : Thread Cert.RefUpperIdeal.nD Cert.RefUpperIdeal.τ).loc Cert.RefUpperIdeal.main_arg5))
      ∧ r.2.sem = fun _ => 0)

def quiescent_Lower [hLower : Cert.Lower.Facts] [hPre_a_chip_lower : Cert.Pre_a_chip_lower.Facts] : Prop :=
  ∀ (m : (ℓ : Loc Cert.Lower.nD Cert.Lower.τ Cert.Lower.sig) → Buf (Elt Bits) ℓ) (g : Dev Cert.Lower.nD → PrngReg), Pre_Lower m →
    θ_run (Cert.Lower.defs (F := Bits)) (onTc (τ := Cert.Lower.τ) (Cert.Lower.main (F := Bits))) ⟨m, fun _ => 0, g⟩ (fun r => (∀ c : Dev Cert.Lower.nD,
      r.2.mem ((c.tc : Thread Cert.Lower.nD Cert.Lower.τ).loc Cert.Lower.main_arg0) = m ((c.tc : Thread Cert.Lower.nD Cert.Lower.τ).loc Cert.Lower.main_arg0)
      ∧ r.2.mem ((c.tc : Thread Cert.Lower.nD Cert.Lower.τ).loc Cert.Lower.main_arg1) = m ((c.tc : Thread Cert.Lower.nD Cert.Lower.τ).loc Cert.Lower.main_arg1)
      ∧ r.2.mem ((c.tc : Thread Cert.Lower.nD Cert.Lower.τ).loc Cert.Lower.main_arg2) = m ((c.tc : Thread Cert.Lower.nD Cert.Lower.τ).loc Cert.Lower.main_arg2)
      ∧ r.2.mem ((c.tc : Thread Cert.Lower.nD Cert.Lower.τ).loc Cert.Lower.main_arg3) = m ((c.tc : Thread Cert.Lower.nD Cert.Lower.τ).loc Cert.Lower.main_arg3)
      ∧ r.2.mem ((c.tc : Thread Cert.Lower.nD Cert.Lower.τ).loc Cert.Lower.main_arg4) = m ((c.tc : Thread Cert.Lower.nD Cert.Lower.τ).loc Cert.Lower.main_arg4)
      ∧ r.2.mem ((c.tc : Thread Cert.Lower.nD Cert.Lower.τ).loc Cert.Lower.main_arg5) = m ((c.tc : Thread Cert.Lower.nD Cert.Lower.τ).loc Cert.Lower.main_arg5)
      ∧ r.2.mem ((c.tc : Thread Cert.Lower.nD Cert.Lower.τ).loc Cert.Lower.main_arg6) = m ((c.tc : Thread Cert.Lower.nD Cert.Lower.τ).loc Cert.Lower.main_arg6)
      ∧ r.2.mem ((c.tc : Thread Cert.Lower.nD Cert.Lower.τ).loc Cert.Lower.main_arg7) = m ((c.tc : Thread Cert.Lower.nD Cert.Lower.τ).loc Cert.Lower.main_arg7)
      ∧ r.2.mem ((c.tc : Thread Cert.Lower.nD Cert.Lower.τ).loc Cert.Lower.main_arg8) = m ((c.tc : Thread Cert.Lower.nD Cert.Lower.τ).loc Cert.Lower.main_arg8)
      ∧ r.2.mem ((c.tc : Thread Cert.Lower.nD Cert.Lower.τ).loc Cert.Lower.main_arg9) = m ((c.tc : Thread Cert.Lower.nD Cert.Lower.τ).loc Cert.Lower.main_arg9))
      ∧ r.2.sem = fun _ => 0)

def quiescent_LowerIdeal [hLowerIdeal : Cert.LowerIdeal.Facts] [hPre_a_chip_lower : Cert.Pre_a_chip_lower.Facts] : Prop :=
  ∀ (m : (ℓ : Loc Cert.LowerIdeal.nD Cert.LowerIdeal.τ Cert.LowerIdeal.sig) → Buf (Elt Ideal) ℓ) (g : Dev Cert.LowerIdeal.nD → PrngReg), Pre_LowerIdeal m →
    θ_run (Cert.LowerIdeal.defs (F := Ideal)) (onTc (τ := Cert.LowerIdeal.τ) (Cert.LowerIdeal.main (F := Ideal))) ⟨m, fun _ => 0, g⟩ (fun r => (∀ c : Dev Cert.LowerIdeal.nD,
      r.2.mem ((c.tc : Thread Cert.LowerIdeal.nD Cert.LowerIdeal.τ).loc Cert.LowerIdeal.main_arg0) = m ((c.tc : Thread Cert.LowerIdeal.nD Cert.LowerIdeal.τ).loc Cert.LowerIdeal.main_arg0)
      ∧ r.2.mem ((c.tc : Thread Cert.LowerIdeal.nD Cert.LowerIdeal.τ).loc Cert.LowerIdeal.main_arg1) = m ((c.tc : Thread Cert.LowerIdeal.nD Cert.LowerIdeal.τ).loc Cert.LowerIdeal.main_arg1)
      ∧ r.2.mem ((c.tc : Thread Cert.LowerIdeal.nD Cert.LowerIdeal.τ).loc Cert.LowerIdeal.main_arg2) = m ((c.tc : Thread Cert.LowerIdeal.nD Cert.LowerIdeal.τ).loc Cert.LowerIdeal.main_arg2)
      ∧ r.2.mem ((c.tc : Thread Cert.LowerIdeal.nD Cert.LowerIdeal.τ).loc Cert.LowerIdeal.main_arg3) = m ((c.tc : Thread Cert.LowerIdeal.nD Cert.LowerIdeal.τ).loc Cert.LowerIdeal.main_arg3)
      ∧ r.2.mem ((c.tc : Thread Cert.LowerIdeal.nD Cert.LowerIdeal.τ).loc Cert.LowerIdeal.main_arg4) = m ((c.tc : Thread Cert.LowerIdeal.nD Cert.LowerIdeal.τ).loc Cert.LowerIdeal.main_arg4)
      ∧ r.2.mem ((c.tc : Thread Cert.LowerIdeal.nD Cert.LowerIdeal.τ).loc Cert.LowerIdeal.main_arg5) = m ((c.tc : Thread Cert.LowerIdeal.nD Cert.LowerIdeal.τ).loc Cert.LowerIdeal.main_arg5)
      ∧ r.2.mem ((c.tc : Thread Cert.LowerIdeal.nD Cert.LowerIdeal.τ).loc Cert.LowerIdeal.main_arg6) = m ((c.tc : Thread Cert.LowerIdeal.nD Cert.LowerIdeal.τ).loc Cert.LowerIdeal.main_arg6)
      ∧ r.2.mem ((c.tc : Thread Cert.LowerIdeal.nD Cert.LowerIdeal.τ).loc Cert.LowerIdeal.main_arg7) = m ((c.tc : Thread Cert.LowerIdeal.nD Cert.LowerIdeal.τ).loc Cert.LowerIdeal.main_arg7)
      ∧ r.2.mem ((c.tc : Thread Cert.LowerIdeal.nD Cert.LowerIdeal.τ).loc Cert.LowerIdeal.main_arg8) = m ((c.tc : Thread Cert.LowerIdeal.nD Cert.LowerIdeal.τ).loc Cert.LowerIdeal.main_arg8)
      ∧ r.2.mem ((c.tc : Thread Cert.LowerIdeal.nD Cert.LowerIdeal.τ).loc Cert.LowerIdeal.main_arg9) = m ((c.tc : Thread Cert.LowerIdeal.nD Cert.LowerIdeal.τ).loc Cert.LowerIdeal.main_arg9))
      ∧ r.2.sem = fun _ => 0)

def quiescent_RefLowerIdeal [hRefLowerIdeal : Cert.RefLowerIdeal.Facts] : Prop :=
  ∀ (m : (ℓ : Loc Cert.RefLowerIdeal.nD Cert.RefLowerIdeal.τ Cert.RefLowerIdeal.sig) → Buf (Elt Ideal) ℓ) (g : Dev Cert.RefLowerIdeal.nD → PrngReg), Pre_RefLowerIdeal m →
    θ_run (Cert.RefLowerIdeal.defs (F := Ideal)) (onTc (τ := Cert.RefLowerIdeal.τ) (Cert.RefLowerIdeal.main (F := Ideal))) ⟨m, fun _ => 0, g⟩ (fun r => (∀ c : Dev Cert.RefLowerIdeal.nD,
      r.2.mem ((c.tc : Thread Cert.RefLowerIdeal.nD Cert.RefLowerIdeal.τ).loc Cert.RefLowerIdeal.main_arg0) = m ((c.tc : Thread Cert.RefLowerIdeal.nD Cert.RefLowerIdeal.τ).loc Cert.RefLowerIdeal.main_arg0)
      ∧ r.2.mem ((c.tc : Thread Cert.RefLowerIdeal.nD Cert.RefLowerIdeal.τ).loc Cert.RefLowerIdeal.main_arg1) = m ((c.tc : Thread Cert.RefLowerIdeal.nD Cert.RefLowerIdeal.τ).loc Cert.RefLowerIdeal.main_arg1)
      ∧ r.2.mem ((c.tc : Thread Cert.RefLowerIdeal.nD Cert.RefLowerIdeal.τ).loc Cert.RefLowerIdeal.main_arg2) = m ((c.tc : Thread Cert.RefLowerIdeal.nD Cert.RefLowerIdeal.τ).loc Cert.RefLowerIdeal.main_arg2)
      ∧ r.2.mem ((c.tc : Thread Cert.RefLowerIdeal.nD Cert.RefLowerIdeal.τ).loc Cert.RefLowerIdeal.main_arg3) = m ((c.tc : Thread Cert.RefLowerIdeal.nD Cert.RefLowerIdeal.τ).loc Cert.RefLowerIdeal.main_arg3)
      ∧ r.2.mem ((c.tc : Thread Cert.RefLowerIdeal.nD Cert.RefLowerIdeal.τ).loc Cert.RefLowerIdeal.main_arg4) = m ((c.tc : Thread Cert.RefLowerIdeal.nD Cert.RefLowerIdeal.τ).loc Cert.RefLowerIdeal.main_arg4)
      ∧ r.2.mem ((c.tc : Thread Cert.RefLowerIdeal.nD Cert.RefLowerIdeal.τ).loc Cert.RefLowerIdeal.main_arg5) = m ((c.tc : Thread Cert.RefLowerIdeal.nD Cert.RefLowerIdeal.τ).loc Cert.RefLowerIdeal.main_arg5)
      ∧ r.2.mem ((c.tc : Thread Cert.RefLowerIdeal.nD Cert.RefLowerIdeal.τ).loc Cert.RefLowerIdeal.main_arg6) = m ((c.tc : Thread Cert.RefLowerIdeal.nD Cert.RefLowerIdeal.τ).loc Cert.RefLowerIdeal.main_arg6)
      ∧ r.2.mem ((c.tc : Thread Cert.RefLowerIdeal.nD Cert.RefLowerIdeal.τ).loc Cert.RefLowerIdeal.main_arg7) = m ((c.tc : Thread Cert.RefLowerIdeal.nD Cert.RefLowerIdeal.τ).loc Cert.RefLowerIdeal.main_arg7)
      ∧ r.2.mem ((c.tc : Thread Cert.RefLowerIdeal.nD Cert.RefLowerIdeal.τ).loc Cert.RefLowerIdeal.main_arg8) = m ((c.tc : Thread Cert.RefLowerIdeal.nD Cert.RefLowerIdeal.τ).loc Cert.RefLowerIdeal.main_arg8)
      ∧ r.2.mem ((c.tc : Thread Cert.RefLowerIdeal.nD Cert.RefLowerIdeal.τ).loc Cert.RefLowerIdeal.main_arg9) = m ((c.tc : Thread Cert.RefLowerIdeal.nD Cert.RefLowerIdeal.τ).loc Cert.RefLowerIdeal.main_arg9))
      ∧ r.2.sem = fun _ => 0)

def quiescent_RefLowerIdeal_pre_a_chip_lower [hRefLowerIdeal : Cert.RefLowerIdeal.Facts] [hPre_a_chip_lower : Cert.Pre_a_chip_lower.Facts] : Prop :=
  ∀ (m : (ℓ : Loc Cert.RefLowerIdeal.nD Cert.RefLowerIdeal.τ Cert.RefLowerIdeal.sig) → Buf (Elt Ideal) ℓ) (g : Dev Cert.RefLowerIdeal.nD → PrngReg), Pre_RefLowerIdeal_a_chip_lower m →
    θ_run (Cert.RefLowerIdeal.defs (F := Ideal)) (onTc (τ := Cert.RefLowerIdeal.τ) (Cert.RefLowerIdeal.main (F := Ideal))) ⟨m, fun _ => 0, g⟩ (fun r => (∀ c : Dev Cert.RefLowerIdeal.nD,
      r.2.mem ((c.tc : Thread Cert.RefLowerIdeal.nD Cert.RefLowerIdeal.τ).loc Cert.RefLowerIdeal.main_arg0) = m ((c.tc : Thread Cert.RefLowerIdeal.nD Cert.RefLowerIdeal.τ).loc Cert.RefLowerIdeal.main_arg0)
      ∧ r.2.mem ((c.tc : Thread Cert.RefLowerIdeal.nD Cert.RefLowerIdeal.τ).loc Cert.RefLowerIdeal.main_arg1) = m ((c.tc : Thread Cert.RefLowerIdeal.nD Cert.RefLowerIdeal.τ).loc Cert.RefLowerIdeal.main_arg1)
      ∧ r.2.mem ((c.tc : Thread Cert.RefLowerIdeal.nD Cert.RefLowerIdeal.τ).loc Cert.RefLowerIdeal.main_arg2) = m ((c.tc : Thread Cert.RefLowerIdeal.nD Cert.RefLowerIdeal.τ).loc Cert.RefLowerIdeal.main_arg2)
      ∧ r.2.mem ((c.tc : Thread Cert.RefLowerIdeal.nD Cert.RefLowerIdeal.τ).loc Cert.RefLowerIdeal.main_arg3) = m ((c.tc : Thread Cert.RefLowerIdeal.nD Cert.RefLowerIdeal.τ).loc Cert.RefLowerIdeal.main_arg3)
      ∧ r.2.mem ((c.tc : Thread Cert.RefLowerIdeal.nD Cert.RefLowerIdeal.τ).loc Cert.RefLowerIdeal.main_arg4) = m ((c.tc : Thread Cert.RefLowerIdeal.nD Cert.RefLowerIdeal.τ).loc Cert.RefLowerIdeal.main_arg4)
      ∧ r.2.mem ((c.tc : Thread Cert.RefLowerIdeal.nD Cert.RefLowerIdeal.τ).loc Cert.RefLowerIdeal.main_arg5) = m ((c.tc : Thread Cert.RefLowerIdeal.nD Cert.RefLowerIdeal.τ).loc Cert.RefLowerIdeal.main_arg5)
      ∧ r.2.mem ((c.tc : Thread Cert.RefLowerIdeal.nD Cert.RefLowerIdeal.τ).loc Cert.RefLowerIdeal.main_arg6) = m ((c.tc : Thread Cert.RefLowerIdeal.nD Cert.RefLowerIdeal.τ).loc Cert.RefLowerIdeal.main_arg6)
      ∧ r.2.mem ((c.tc : Thread Cert.RefLowerIdeal.nD Cert.RefLowerIdeal.τ).loc Cert.RefLowerIdeal.main_arg7) = m ((c.tc : Thread Cert.RefLowerIdeal.nD Cert.RefLowerIdeal.τ).loc Cert.RefLowerIdeal.main_arg7)
      ∧ r.2.mem ((c.tc : Thread Cert.RefLowerIdeal.nD Cert.RefLowerIdeal.τ).loc Cert.RefLowerIdeal.main_arg8) = m ((c.tc : Thread Cert.RefLowerIdeal.nD Cert.RefLowerIdeal.τ).loc Cert.RefLowerIdeal.main_arg8)
      ∧ r.2.mem ((c.tc : Thread Cert.RefLowerIdeal.nD Cert.RefLowerIdeal.τ).loc Cert.RefLowerIdeal.main_arg9) = m ((c.tc : Thread Cert.RefLowerIdeal.nD Cert.RefLowerIdeal.τ).loc Cert.RefLowerIdeal.main_arg9))
      ∧ r.2.sem = fun _ => 0)

def quiescent_OutUpper [hOutUpper : Cert.OutUpper.Facts] [hPre_a_chip_out_upper : Cert.Pre_a_chip_out_upper.Facts] : Prop :=
  ∀ (m : (ℓ : Loc Cert.OutUpper.nD Cert.OutUpper.τ Cert.OutUpper.sig) → Buf (Elt Bits) ℓ) (g : Dev Cert.OutUpper.nD → PrngReg), Pre_OutUpper m →
    θ_run (Cert.OutUpper.defs (F := Bits)) (onTc (τ := Cert.OutUpper.τ) (Cert.OutUpper.main (F := Bits))) ⟨m, fun _ => 0, g⟩ (fun r => (∀ c : Dev Cert.OutUpper.nD,
      r.2.mem ((c.tc : Thread Cert.OutUpper.nD Cert.OutUpper.τ).loc Cert.OutUpper.main_arg0) = m ((c.tc : Thread Cert.OutUpper.nD Cert.OutUpper.τ).loc Cert.OutUpper.main_arg0)
      ∧ r.2.mem ((c.tc : Thread Cert.OutUpper.nD Cert.OutUpper.τ).loc Cert.OutUpper.main_arg1) = m ((c.tc : Thread Cert.OutUpper.nD Cert.OutUpper.τ).loc Cert.OutUpper.main_arg1)
      ∧ r.2.mem ((c.tc : Thread Cert.OutUpper.nD Cert.OutUpper.τ).loc Cert.OutUpper.main_arg2) = m ((c.tc : Thread Cert.OutUpper.nD Cert.OutUpper.τ).loc Cert.OutUpper.main_arg2)
      ∧ r.2.mem ((c.tc : Thread Cert.OutUpper.nD Cert.OutUpper.τ).loc Cert.OutUpper.main_arg3) = m ((c.tc : Thread Cert.OutUpper.nD Cert.OutUpper.τ).loc Cert.OutUpper.main_arg3)
      ∧ r.2.mem ((c.tc : Thread Cert.OutUpper.nD Cert.OutUpper.τ).loc Cert.OutUpper.main_arg4) = m ((c.tc : Thread Cert.OutUpper.nD Cert.OutUpper.τ).loc Cert.OutUpper.main_arg4)
      ∧ r.2.mem ((c.tc : Thread Cert.OutUpper.nD Cert.OutUpper.τ).loc Cert.OutUpper.main_arg5) = m ((c.tc : Thread Cert.OutUpper.nD Cert.OutUpper.τ).loc Cert.OutUpper.main_arg5))
      ∧ r.2.sem = fun _ => 0)

def quiescent_OutUpperIdeal [hOutUpperIdeal : Cert.OutUpperIdeal.Facts] [hPre_a_chip_out_upper : Cert.Pre_a_chip_out_upper.Facts] : Prop :=
  ∀ (m : (ℓ : Loc Cert.OutUpperIdeal.nD Cert.OutUpperIdeal.τ Cert.OutUpperIdeal.sig) → Buf (Elt Ideal) ℓ) (g : Dev Cert.OutUpperIdeal.nD → PrngReg), Pre_OutUpperIdeal m →
    θ_run (Cert.OutUpperIdeal.defs (F := Ideal)) (onTc (τ := Cert.OutUpperIdeal.τ) (Cert.OutUpperIdeal.main (F := Ideal))) ⟨m, fun _ => 0, g⟩ (fun r => (∀ c : Dev Cert.OutUpperIdeal.nD,
      r.2.mem ((c.tc : Thread Cert.OutUpperIdeal.nD Cert.OutUpperIdeal.τ).loc Cert.OutUpperIdeal.main_arg0) = m ((c.tc : Thread Cert.OutUpperIdeal.nD Cert.OutUpperIdeal.τ).loc Cert.OutUpperIdeal.main_arg0)
      ∧ r.2.mem ((c.tc : Thread Cert.OutUpperIdeal.nD Cert.OutUpperIdeal.τ).loc Cert.OutUpperIdeal.main_arg1) = m ((c.tc : Thread Cert.OutUpperIdeal.nD Cert.OutUpperIdeal.τ).loc Cert.OutUpperIdeal.main_arg1)
      ∧ r.2.mem ((c.tc : Thread Cert.OutUpperIdeal.nD Cert.OutUpperIdeal.τ).loc Cert.OutUpperIdeal.main_arg2) = m ((c.tc : Thread Cert.OutUpperIdeal.nD Cert.OutUpperIdeal.τ).loc Cert.OutUpperIdeal.main_arg2)
      ∧ r.2.mem ((c.tc : Thread Cert.OutUpperIdeal.nD Cert.OutUpperIdeal.τ).loc Cert.OutUpperIdeal.main_arg3) = m ((c.tc : Thread Cert.OutUpperIdeal.nD Cert.OutUpperIdeal.τ).loc Cert.OutUpperIdeal.main_arg3)
      ∧ r.2.mem ((c.tc : Thread Cert.OutUpperIdeal.nD Cert.OutUpperIdeal.τ).loc Cert.OutUpperIdeal.main_arg4) = m ((c.tc : Thread Cert.OutUpperIdeal.nD Cert.OutUpperIdeal.τ).loc Cert.OutUpperIdeal.main_arg4)
      ∧ r.2.mem ((c.tc : Thread Cert.OutUpperIdeal.nD Cert.OutUpperIdeal.τ).loc Cert.OutUpperIdeal.main_arg5) = m ((c.tc : Thread Cert.OutUpperIdeal.nD Cert.OutUpperIdeal.τ).loc Cert.OutUpperIdeal.main_arg5))
      ∧ r.2.sem = fun _ => 0)

def quiescent_RefOutUpperIdeal [hRefOutUpperIdeal : Cert.RefOutUpperIdeal.Facts] : Prop :=
  ∀ (m : (ℓ : Loc Cert.RefOutUpperIdeal.nD Cert.RefOutUpperIdeal.τ Cert.RefOutUpperIdeal.sig) → Buf (Elt Ideal) ℓ) (g : Dev Cert.RefOutUpperIdeal.nD → PrngReg), Pre_RefOutUpperIdeal m →
    θ_run (Cert.RefOutUpperIdeal.defs (F := Ideal)) (onTc (τ := Cert.RefOutUpperIdeal.τ) (Cert.RefOutUpperIdeal.main (F := Ideal))) ⟨m, fun _ => 0, g⟩ (fun r => (∀ c : Dev Cert.RefOutUpperIdeal.nD,
      r.2.mem ((c.tc : Thread Cert.RefOutUpperIdeal.nD Cert.RefOutUpperIdeal.τ).loc Cert.RefOutUpperIdeal.main_arg0) = m ((c.tc : Thread Cert.RefOutUpperIdeal.nD Cert.RefOutUpperIdeal.τ).loc Cert.RefOutUpperIdeal.main_arg0)
      ∧ r.2.mem ((c.tc : Thread Cert.RefOutUpperIdeal.nD Cert.RefOutUpperIdeal.τ).loc Cert.RefOutUpperIdeal.main_arg1) = m ((c.tc : Thread Cert.RefOutUpperIdeal.nD Cert.RefOutUpperIdeal.τ).loc Cert.RefOutUpperIdeal.main_arg1)
      ∧ r.2.mem ((c.tc : Thread Cert.RefOutUpperIdeal.nD Cert.RefOutUpperIdeal.τ).loc Cert.RefOutUpperIdeal.main_arg2) = m ((c.tc : Thread Cert.RefOutUpperIdeal.nD Cert.RefOutUpperIdeal.τ).loc Cert.RefOutUpperIdeal.main_arg2)
      ∧ r.2.mem ((c.tc : Thread Cert.RefOutUpperIdeal.nD Cert.RefOutUpperIdeal.τ).loc Cert.RefOutUpperIdeal.main_arg3) = m ((c.tc : Thread Cert.RefOutUpperIdeal.nD Cert.RefOutUpperIdeal.τ).loc Cert.RefOutUpperIdeal.main_arg3)
      ∧ r.2.mem ((c.tc : Thread Cert.RefOutUpperIdeal.nD Cert.RefOutUpperIdeal.τ).loc Cert.RefOutUpperIdeal.main_arg4) = m ((c.tc : Thread Cert.RefOutUpperIdeal.nD Cert.RefOutUpperIdeal.τ).loc Cert.RefOutUpperIdeal.main_arg4)
      ∧ r.2.mem ((c.tc : Thread Cert.RefOutUpperIdeal.nD Cert.RefOutUpperIdeal.τ).loc Cert.RefOutUpperIdeal.main_arg5) = m ((c.tc : Thread Cert.RefOutUpperIdeal.nD Cert.RefOutUpperIdeal.τ).loc Cert.RefOutUpperIdeal.main_arg5))
      ∧ r.2.sem = fun _ => 0)

def quiescent_RefOutUpperIdeal_pre_a_chip_out_upper [hRefOutUpperIdeal : Cert.RefOutUpperIdeal.Facts] [hPre_a_chip_out_upper : Cert.Pre_a_chip_out_upper.Facts] : Prop :=
  ∀ (m : (ℓ : Loc Cert.RefOutUpperIdeal.nD Cert.RefOutUpperIdeal.τ Cert.RefOutUpperIdeal.sig) → Buf (Elt Ideal) ℓ) (g : Dev Cert.RefOutUpperIdeal.nD → PrngReg), Pre_RefOutUpperIdeal_a_chip_out_upper m →
    θ_run (Cert.RefOutUpperIdeal.defs (F := Ideal)) (onTc (τ := Cert.RefOutUpperIdeal.τ) (Cert.RefOutUpperIdeal.main (F := Ideal))) ⟨m, fun _ => 0, g⟩ (fun r => (∀ c : Dev Cert.RefOutUpperIdeal.nD,
      r.2.mem ((c.tc : Thread Cert.RefOutUpperIdeal.nD Cert.RefOutUpperIdeal.τ).loc Cert.RefOutUpperIdeal.main_arg0) = m ((c.tc : Thread Cert.RefOutUpperIdeal.nD Cert.RefOutUpperIdeal.τ).loc Cert.RefOutUpperIdeal.main_arg0)
      ∧ r.2.mem ((c.tc : Thread Cert.RefOutUpperIdeal.nD Cert.RefOutUpperIdeal.τ).loc Cert.RefOutUpperIdeal.main_arg1) = m ((c.tc : Thread Cert.RefOutUpperIdeal.nD Cert.RefOutUpperIdeal.τ).loc Cert.RefOutUpperIdeal.main_arg1)
      ∧ r.2.mem ((c.tc : Thread Cert.RefOutUpperIdeal.nD Cert.RefOutUpperIdeal.τ).loc Cert.RefOutUpperIdeal.main_arg2) = m ((c.tc : Thread Cert.RefOutUpperIdeal.nD Cert.RefOutUpperIdeal.τ).loc Cert.RefOutUpperIdeal.main_arg2)
      ∧ r.2.mem ((c.tc : Thread Cert.RefOutUpperIdeal.nD Cert.RefOutUpperIdeal.τ).loc Cert.RefOutUpperIdeal.main_arg3) = m ((c.tc : Thread Cert.RefOutUpperIdeal.nD Cert.RefOutUpperIdeal.τ).loc Cert.RefOutUpperIdeal.main_arg3)
      ∧ r.2.mem ((c.tc : Thread Cert.RefOutUpperIdeal.nD Cert.RefOutUpperIdeal.τ).loc Cert.RefOutUpperIdeal.main_arg4) = m ((c.tc : Thread Cert.RefOutUpperIdeal.nD Cert.RefOutUpperIdeal.τ).loc Cert.RefOutUpperIdeal.main_arg4)
      ∧ r.2.mem ((c.tc : Thread Cert.RefOutUpperIdeal.nD Cert.RefOutUpperIdeal.τ).loc Cert.RefOutUpperIdeal.main_arg5) = m ((c.tc : Thread Cert.RefOutUpperIdeal.nD Cert.RefOutUpperIdeal.τ).loc Cert.RefOutUpperIdeal.main_arg5))
      ∧ r.2.sem = fun _ => 0)

def quiescent_OutLower [hOutLower : Cert.OutLower.Facts] [hPre_a_chip_out_lower : Cert.Pre_a_chip_out_lower.Facts] : Prop :=
  ∀ (m : (ℓ : Loc Cert.OutLower.nD Cert.OutLower.τ Cert.OutLower.sig) → Buf (Elt Bits) ℓ) (g : Dev Cert.OutLower.nD → PrngReg), Pre_OutLower m →
    θ_run (Cert.OutLower.defs (F := Bits)) (onTc (τ := Cert.OutLower.τ) (Cert.OutLower.main (F := Bits))) ⟨m, fun _ => 0, g⟩ (fun r => (∀ c : Dev Cert.OutLower.nD,
      r.2.mem ((c.tc : Thread Cert.OutLower.nD Cert.OutLower.τ).loc Cert.OutLower.main_arg0) = m ((c.tc : Thread Cert.OutLower.nD Cert.OutLower.τ).loc Cert.OutLower.main_arg0)
      ∧ r.2.mem ((c.tc : Thread Cert.OutLower.nD Cert.OutLower.τ).loc Cert.OutLower.main_arg1) = m ((c.tc : Thread Cert.OutLower.nD Cert.OutLower.τ).loc Cert.OutLower.main_arg1)
      ∧ r.2.mem ((c.tc : Thread Cert.OutLower.nD Cert.OutLower.τ).loc Cert.OutLower.main_arg2) = m ((c.tc : Thread Cert.OutLower.nD Cert.OutLower.τ).loc Cert.OutLower.main_arg2)
      ∧ r.2.mem ((c.tc : Thread Cert.OutLower.nD Cert.OutLower.τ).loc Cert.OutLower.main_arg3) = m ((c.tc : Thread Cert.OutLower.nD Cert.OutLower.τ).loc Cert.OutLower.main_arg3)
      ∧ r.2.mem ((c.tc : Thread Cert.OutLower.nD Cert.OutLower.τ).loc Cert.OutLower.main_arg4) = m ((c.tc : Thread Cert.OutLower.nD Cert.OutLower.τ).loc Cert.OutLower.main_arg4)
      ∧ r.2.mem ((c.tc : Thread Cert.OutLower.nD Cert.OutLower.τ).loc Cert.OutLower.main_arg5) = m ((c.tc : Thread Cert.OutLower.nD Cert.OutLower.τ).loc Cert.OutLower.main_arg5)
      ∧ r.2.mem ((c.tc : Thread Cert.OutLower.nD Cert.OutLower.τ).loc Cert.OutLower.main_arg6) = m ((c.tc : Thread Cert.OutLower.nD Cert.OutLower.τ).loc Cert.OutLower.main_arg6)
      ∧ r.2.mem ((c.tc : Thread Cert.OutLower.nD Cert.OutLower.τ).loc Cert.OutLower.main_arg7) = m ((c.tc : Thread Cert.OutLower.nD Cert.OutLower.τ).loc Cert.OutLower.main_arg7)
      ∧ r.2.mem ((c.tc : Thread Cert.OutLower.nD Cert.OutLower.τ).loc Cert.OutLower.main_arg8) = m ((c.tc : Thread Cert.OutLower.nD Cert.OutLower.τ).loc Cert.OutLower.main_arg8)
      ∧ r.2.mem ((c.tc : Thread Cert.OutLower.nD Cert.OutLower.τ).loc Cert.OutLower.main_arg9) = m ((c.tc : Thread Cert.OutLower.nD Cert.OutLower.τ).loc Cert.OutLower.main_arg9))
      ∧ r.2.sem = fun _ => 0)

def quiescent_OutLowerIdeal [hOutLowerIdeal : Cert.OutLowerIdeal.Facts] [hPre_a_chip_out_lower : Cert.Pre_a_chip_out_lower.Facts] : Prop :=
  ∀ (m : (ℓ : Loc Cert.OutLowerIdeal.nD Cert.OutLowerIdeal.τ Cert.OutLowerIdeal.sig) → Buf (Elt Ideal) ℓ) (g : Dev Cert.OutLowerIdeal.nD → PrngReg), Pre_OutLowerIdeal m →
    θ_run (Cert.OutLowerIdeal.defs (F := Ideal)) (onTc (τ := Cert.OutLowerIdeal.τ) (Cert.OutLowerIdeal.main (F := Ideal))) ⟨m, fun _ => 0, g⟩ (fun r => (∀ c : Dev Cert.OutLowerIdeal.nD,
      r.2.mem ((c.tc : Thread Cert.OutLowerIdeal.nD Cert.OutLowerIdeal.τ).loc Cert.OutLowerIdeal.main_arg0) = m ((c.tc : Thread Cert.OutLowerIdeal.nD Cert.OutLowerIdeal.τ).loc Cert.OutLowerIdeal.main_arg0)
      ∧ r.2.mem ((c.tc : Thread Cert.OutLowerIdeal.nD Cert.OutLowerIdeal.τ).loc Cert.OutLowerIdeal.main_arg1) = m ((c.tc : Thread Cert.OutLowerIdeal.nD Cert.OutLowerIdeal.τ).loc Cert.OutLowerIdeal.main_arg1)
      ∧ r.2.mem ((c.tc : Thread Cert.OutLowerIdeal.nD Cert.OutLowerIdeal.τ).loc Cert.OutLowerIdeal.main_arg2) = m ((c.tc : Thread Cert.OutLowerIdeal.nD Cert.OutLowerIdeal.τ).loc Cert.OutLowerIdeal.main_arg2)
      ∧ r.2.mem ((c.tc : Thread Cert.OutLowerIdeal.nD Cert.OutLowerIdeal.τ).loc Cert.OutLowerIdeal.main_arg3) = m ((c.tc : Thread Cert.OutLowerIdeal.nD Cert.OutLowerIdeal.τ).loc Cert.OutLowerIdeal.main_arg3)
      ∧ r.2.mem ((c.tc : Thread Cert.OutLowerIdeal.nD Cert.OutLowerIdeal.τ).loc Cert.OutLowerIdeal.main_arg4) = m ((c.tc : Thread Cert.OutLowerIdeal.nD Cert.OutLowerIdeal.τ).loc Cert.OutLowerIdeal.main_arg4)
      ∧ r.2.mem ((c.tc : Thread Cert.OutLowerIdeal.nD Cert.OutLowerIdeal.τ).loc Cert.OutLowerIdeal.main_arg5) = m ((c.tc : Thread Cert.OutLowerIdeal.nD Cert.OutLowerIdeal.τ).loc Cert.OutLowerIdeal.main_arg5)
      ∧ r.2.mem ((c.tc : Thread Cert.OutLowerIdeal.nD Cert.OutLowerIdeal.τ).loc Cert.OutLowerIdeal.main_arg6) = m ((c.tc : Thread Cert.OutLowerIdeal.nD Cert.OutLowerIdeal.τ).loc Cert.OutLowerIdeal.main_arg6)
      ∧ r.2.mem ((c.tc : Thread Cert.OutLowerIdeal.nD Cert.OutLowerIdeal.τ).loc Cert.OutLowerIdeal.main_arg7) = m ((c.tc : Thread Cert.OutLowerIdeal.nD Cert.OutLowerIdeal.τ).loc Cert.OutLowerIdeal.main_arg7)
      ∧ r.2.mem ((c.tc : Thread Cert.OutLowerIdeal.nD Cert.OutLowerIdeal.τ).loc Cert.OutLowerIdeal.main_arg8) = m ((c.tc : Thread Cert.OutLowerIdeal.nD Cert.OutLowerIdeal.τ).loc Cert.OutLowerIdeal.main_arg8)
      ∧ r.2.mem ((c.tc : Thread Cert.OutLowerIdeal.nD Cert.OutLowerIdeal.τ).loc Cert.OutLowerIdeal.main_arg9) = m ((c.tc : Thread Cert.OutLowerIdeal.nD Cert.OutLowerIdeal.τ).loc Cert.OutLowerIdeal.main_arg9))
      ∧ r.2.sem = fun _ => 0)

def quiescent_RefOutLowerIdeal [hRefOutLowerIdeal : Cert.RefOutLowerIdeal.Facts] : Prop :=
  ∀ (m : (ℓ : Loc Cert.RefOutLowerIdeal.nD Cert.RefOutLowerIdeal.τ Cert.RefOutLowerIdeal.sig) → Buf (Elt Ideal) ℓ) (g : Dev Cert.RefOutLowerIdeal.nD → PrngReg), Pre_RefOutLowerIdeal m →
    θ_run (Cert.RefOutLowerIdeal.defs (F := Ideal)) (onTc (τ := Cert.RefOutLowerIdeal.τ) (Cert.RefOutLowerIdeal.main (F := Ideal))) ⟨m, fun _ => 0, g⟩ (fun r => (∀ c : Dev Cert.RefOutLowerIdeal.nD,
      r.2.mem ((c.tc : Thread Cert.RefOutLowerIdeal.nD Cert.RefOutLowerIdeal.τ).loc Cert.RefOutLowerIdeal.main_arg0) = m ((c.tc : Thread Cert.RefOutLowerIdeal.nD Cert.RefOutLowerIdeal.τ).loc Cert.RefOutLowerIdeal.main_arg0)
      ∧ r.2.mem ((c.tc : Thread Cert.RefOutLowerIdeal.nD Cert.RefOutLowerIdeal.τ).loc Cert.RefOutLowerIdeal.main_arg1) = m ((c.tc : Thread Cert.RefOutLowerIdeal.nD Cert.RefOutLowerIdeal.τ).loc Cert.RefOutLowerIdeal.main_arg1)
      ∧ r.2.mem ((c.tc : Thread Cert.RefOutLowerIdeal.nD Cert.RefOutLowerIdeal.τ).loc Cert.RefOutLowerIdeal.main_arg2) = m ((c.tc : Thread Cert.RefOutLowerIdeal.nD Cert.RefOutLowerIdeal.τ).loc Cert.RefOutLowerIdeal.main_arg2)
      ∧ r.2.mem ((c.tc : Thread Cert.RefOutLowerIdeal.nD Cert.RefOutLowerIdeal.τ).loc Cert.RefOutLowerIdeal.main_arg3) = m ((c.tc : Thread Cert.RefOutLowerIdeal.nD Cert.RefOutLowerIdeal.τ).loc Cert.RefOutLowerIdeal.main_arg3)
      ∧ r.2.mem ((c.tc : Thread Cert.RefOutLowerIdeal.nD Cert.RefOutLowerIdeal.τ).loc Cert.RefOutLowerIdeal.main_arg4) = m ((c.tc : Thread Cert.RefOutLowerIdeal.nD Cert.RefOutLowerIdeal.τ).loc Cert.RefOutLowerIdeal.main_arg4)
      ∧ r.2.mem ((c.tc : Thread Cert.RefOutLowerIdeal.nD Cert.RefOutLowerIdeal.τ).loc Cert.RefOutLowerIdeal.main_arg5) = m ((c.tc : Thread Cert.RefOutLowerIdeal.nD Cert.RefOutLowerIdeal.τ).loc Cert.RefOutLowerIdeal.main_arg5)
      ∧ r.2.mem ((c.tc : Thread Cert.RefOutLowerIdeal.nD Cert.RefOutLowerIdeal.τ).loc Cert.RefOutLowerIdeal.main_arg6) = m ((c.tc : Thread Cert.RefOutLowerIdeal.nD Cert.RefOutLowerIdeal.τ).loc Cert.RefOutLowerIdeal.main_arg6)
      ∧ r.2.mem ((c.tc : Thread Cert.RefOutLowerIdeal.nD Cert.RefOutLowerIdeal.τ).loc Cert.RefOutLowerIdeal.main_arg7) = m ((c.tc : Thread Cert.RefOutLowerIdeal.nD Cert.RefOutLowerIdeal.τ).loc Cert.RefOutLowerIdeal.main_arg7)
      ∧ r.2.mem ((c.tc : Thread Cert.RefOutLowerIdeal.nD Cert.RefOutLowerIdeal.τ).loc Cert.RefOutLowerIdeal.main_arg8) = m ((c.tc : Thread Cert.RefOutLowerIdeal.nD Cert.RefOutLowerIdeal.τ).loc Cert.RefOutLowerIdeal.main_arg8)
      ∧ r.2.mem ((c.tc : Thread Cert.RefOutLowerIdeal.nD Cert.RefOutLowerIdeal.τ).loc Cert.RefOutLowerIdeal.main_arg9) = m ((c.tc : Thread Cert.RefOutLowerIdeal.nD Cert.RefOutLowerIdeal.τ).loc Cert.RefOutLowerIdeal.main_arg9))
      ∧ r.2.sem = fun _ => 0)

def quiescent_RefOutLowerIdeal_pre_a_chip_out_lower [hRefOutLowerIdeal : Cert.RefOutLowerIdeal.Facts] [hPre_a_chip_out_lower : Cert.Pre_a_chip_out_lower.Facts] : Prop :=
  ∀ (m : (ℓ : Loc Cert.RefOutLowerIdeal.nD Cert.RefOutLowerIdeal.τ Cert.RefOutLowerIdeal.sig) → Buf (Elt Ideal) ℓ) (g : Dev Cert.RefOutLowerIdeal.nD → PrngReg), Pre_RefOutLowerIdeal_a_chip_out_lower m →
    θ_run (Cert.RefOutLowerIdeal.defs (F := Ideal)) (onTc (τ := Cert.RefOutLowerIdeal.τ) (Cert.RefOutLowerIdeal.main (F := Ideal))) ⟨m, fun _ => 0, g⟩ (fun r => (∀ c : Dev Cert.RefOutLowerIdeal.nD,
      r.2.mem ((c.tc : Thread Cert.RefOutLowerIdeal.nD Cert.RefOutLowerIdeal.τ).loc Cert.RefOutLowerIdeal.main_arg0) = m ((c.tc : Thread Cert.RefOutLowerIdeal.nD Cert.RefOutLowerIdeal.τ).loc Cert.RefOutLowerIdeal.main_arg0)
      ∧ r.2.mem ((c.tc : Thread Cert.RefOutLowerIdeal.nD Cert.RefOutLowerIdeal.τ).loc Cert.RefOutLowerIdeal.main_arg1) = m ((c.tc : Thread Cert.RefOutLowerIdeal.nD Cert.RefOutLowerIdeal.τ).loc Cert.RefOutLowerIdeal.main_arg1)
      ∧ r.2.mem ((c.tc : Thread Cert.RefOutLowerIdeal.nD Cert.RefOutLowerIdeal.τ).loc Cert.RefOutLowerIdeal.main_arg2) = m ((c.tc : Thread Cert.RefOutLowerIdeal.nD Cert.RefOutLowerIdeal.τ).loc Cert.RefOutLowerIdeal.main_arg2)
      ∧ r.2.mem ((c.tc : Thread Cert.RefOutLowerIdeal.nD Cert.RefOutLowerIdeal.τ).loc Cert.RefOutLowerIdeal.main_arg3) = m ((c.tc : Thread Cert.RefOutLowerIdeal.nD Cert.RefOutLowerIdeal.τ).loc Cert.RefOutLowerIdeal.main_arg3)
      ∧ r.2.mem ((c.tc : Thread Cert.RefOutLowerIdeal.nD Cert.RefOutLowerIdeal.τ).loc Cert.RefOutLowerIdeal.main_arg4) = m ((c.tc : Thread Cert.RefOutLowerIdeal.nD Cert.RefOutLowerIdeal.τ).loc Cert.RefOutLowerIdeal.main_arg4)
      ∧ r.2.mem ((c.tc : Thread Cert.RefOutLowerIdeal.nD Cert.RefOutLowerIdeal.τ).loc Cert.RefOutLowerIdeal.main_arg5) = m ((c.tc : Thread Cert.RefOutLowerIdeal.nD Cert.RefOutLowerIdeal.τ).loc Cert.RefOutLowerIdeal.main_arg5)
      ∧ r.2.mem ((c.tc : Thread Cert.RefOutLowerIdeal.nD Cert.RefOutLowerIdeal.τ).loc Cert.RefOutLowerIdeal.main_arg6) = m ((c.tc : Thread Cert.RefOutLowerIdeal.nD Cert.RefOutLowerIdeal.τ).loc Cert.RefOutLowerIdeal.main_arg6)
      ∧ r.2.mem ((c.tc : Thread Cert.RefOutLowerIdeal.nD Cert.RefOutLowerIdeal.τ).loc Cert.RefOutLowerIdeal.main_arg7) = m ((c.tc : Thread Cert.RefOutLowerIdeal.nD Cert.RefOutLowerIdeal.τ).loc Cert.RefOutLowerIdeal.main_arg7)
      ∧ r.2.mem ((c.tc : Thread Cert.RefOutLowerIdeal.nD Cert.RefOutLowerIdeal.τ).loc Cert.RefOutLowerIdeal.main_arg8) = m ((c.tc : Thread Cert.RefOutLowerIdeal.nD Cert.RefOutLowerIdeal.τ).loc Cert.RefOutLowerIdeal.main_arg8)
      ∧ r.2.mem ((c.tc : Thread Cert.RefOutLowerIdeal.nD Cert.RefOutLowerIdeal.τ).loc Cert.RefOutLowerIdeal.main_arg9) = m ((c.tc : Thread Cert.RefOutLowerIdeal.nD Cert.RefOutLowerIdeal.τ).loc Cert.RefOutLowerIdeal.main_arg9))
      ∧ r.2.sem = fun _ => 0)

def quiescent_SmallGrads [hSmallGrads : Cert.SmallGrads.Facts] : Prop :=
  ∀ (m : (ℓ : Loc Cert.SmallGrads.nD Cert.SmallGrads.τ Cert.SmallGrads.sig) → Buf (Elt Bits) ℓ) (g : Dev Cert.SmallGrads.nD → PrngReg), Pre_SmallGrads m →
    θ_run (Cert.SmallGrads.defs (F := Bits)) (onTc (τ := Cert.SmallGrads.τ) (Cert.SmallGrads.main (F := Bits))) ⟨m, fun _ => 0, g⟩ (fun r => (∀ c : Dev Cert.SmallGrads.nD,
      r.2.mem ((c.tc : Thread Cert.SmallGrads.nD Cert.SmallGrads.τ).loc Cert.SmallGrads.main_arg0) = m ((c.tc : Thread Cert.SmallGrads.nD Cert.SmallGrads.τ).loc Cert.SmallGrads.main_arg0)
      ∧ r.2.mem ((c.tc : Thread Cert.SmallGrads.nD Cert.SmallGrads.τ).loc Cert.SmallGrads.main_arg1) = m ((c.tc : Thread Cert.SmallGrads.nD Cert.SmallGrads.τ).loc Cert.SmallGrads.main_arg1))
      ∧ r.2.sem = fun _ => 0)

def quiescent_SmallGradsIdeal [hSmallGradsIdeal : Cert.SmallGradsIdeal.Facts] : Prop :=
  ∀ (m : (ℓ : Loc Cert.SmallGradsIdeal.nD Cert.SmallGradsIdeal.τ Cert.SmallGradsIdeal.sig) → Buf (Elt Ideal) ℓ) (g : Dev Cert.SmallGradsIdeal.nD → PrngReg), Pre_SmallGradsIdeal m →
    θ_run (Cert.SmallGradsIdeal.defs (F := Ideal)) (onTc (τ := Cert.SmallGradsIdeal.τ) (Cert.SmallGradsIdeal.main (F := Ideal))) ⟨m, fun _ => 0, g⟩ (fun r => (∀ c : Dev Cert.SmallGradsIdeal.nD,
      r.2.mem ((c.tc : Thread Cert.SmallGradsIdeal.nD Cert.SmallGradsIdeal.τ).loc Cert.SmallGradsIdeal.main_arg0) = m ((c.tc : Thread Cert.SmallGradsIdeal.nD Cert.SmallGradsIdeal.τ).loc Cert.SmallGradsIdeal.main_arg0)
      ∧ r.2.mem ((c.tc : Thread Cert.SmallGradsIdeal.nD Cert.SmallGradsIdeal.τ).loc Cert.SmallGradsIdeal.main_arg1) = m ((c.tc : Thread Cert.SmallGradsIdeal.nD Cert.SmallGradsIdeal.τ).loc Cert.SmallGradsIdeal.main_arg1))
      ∧ r.2.sem = fun _ => 0)

def quiescent_SmallGradsIdeal_pre_finite_bounds [hSmallGradsIdeal : Cert.SmallGradsIdeal.Facts] [hPre_finite_bounds : Cert.Pre_finite_bounds.Facts] : Prop :=
  ∀ (m : (ℓ : Loc Cert.SmallGradsIdeal.nD Cert.SmallGradsIdeal.τ Cert.SmallGradsIdeal.sig) → Buf (Elt Ideal) ℓ) (g : Dev Cert.SmallGradsIdeal.nD → PrngReg), Pre_SmallGradsIdeal_finite_bounds m →
    θ_run (Cert.SmallGradsIdeal.defs (F := Ideal)) (onTc (τ := Cert.SmallGradsIdeal.τ) (Cert.SmallGradsIdeal.main (F := Ideal))) ⟨m, fun _ => 0, g⟩ (fun r => (∀ c : Dev Cert.SmallGradsIdeal.nD,
      r.2.mem ((c.tc : Thread Cert.SmallGradsIdeal.nD Cert.SmallGradsIdeal.τ).loc Cert.SmallGradsIdeal.main_arg0) = m ((c.tc : Thread Cert.SmallGradsIdeal.nD Cert.SmallGradsIdeal.τ).loc Cert.SmallGradsIdeal.main_arg0)
      ∧ r.2.mem ((c.tc : Thread Cert.SmallGradsIdeal.nD Cert.SmallGradsIdeal.τ).loc Cert.SmallGradsIdeal.main_arg1) = m ((c.tc : Thread Cert.SmallGradsIdeal.nD Cert.SmallGradsIdeal.τ).loc Cert.SmallGradsIdeal.main_arg1))
      ∧ r.2.sem = fun _ => 0)

def quiescent_RefSmallGradsIdeal [hRefSmallGradsIdeal : Cert.RefSmallGradsIdeal.Facts] : Prop :=
  ∀ (m : (ℓ : Loc Cert.RefSmallGradsIdeal.nD Cert.RefSmallGradsIdeal.τ Cert.RefSmallGradsIdeal.sig) → Buf (Elt Ideal) ℓ) (g : Dev Cert.RefSmallGradsIdeal.nD → PrngReg), Pre_RefSmallGradsIdeal m →
    θ_run (Cert.RefSmallGradsIdeal.defs (F := Ideal)) (onTc (τ := Cert.RefSmallGradsIdeal.τ) (Cert.RefSmallGradsIdeal.main (F := Ideal))) ⟨m, fun _ => 0, g⟩ (fun r => (∀ c : Dev Cert.RefSmallGradsIdeal.nD,
      r.2.mem ((c.tc : Thread Cert.RefSmallGradsIdeal.nD Cert.RefSmallGradsIdeal.τ).loc Cert.RefSmallGradsIdeal.main_arg0) = m ((c.tc : Thread Cert.RefSmallGradsIdeal.nD Cert.RefSmallGradsIdeal.τ).loc Cert.RefSmallGradsIdeal.main_arg0)
      ∧ r.2.mem ((c.tc : Thread Cert.RefSmallGradsIdeal.nD Cert.RefSmallGradsIdeal.τ).loc Cert.RefSmallGradsIdeal.main_arg1) = m ((c.tc : Thread Cert.RefSmallGradsIdeal.nD Cert.RefSmallGradsIdeal.τ).loc Cert.RefSmallGradsIdeal.main_arg1))
      ∧ r.2.sem = fun _ => 0)

def quiescent_RefSmallGradsIdeal_pre_finite_bounds [hRefSmallGradsIdeal : Cert.RefSmallGradsIdeal.Facts] [hPre_finite_bounds : Cert.Pre_finite_bounds.Facts] : Prop :=
  ∀ (m : (ℓ : Loc Cert.RefSmallGradsIdeal.nD Cert.RefSmallGradsIdeal.τ Cert.RefSmallGradsIdeal.sig) → Buf (Elt Ideal) ℓ) (g : Dev Cert.RefSmallGradsIdeal.nD → PrngReg), Pre_RefSmallGradsIdeal_finite_bounds m →
    θ_run (Cert.RefSmallGradsIdeal.defs (F := Ideal)) (onTc (τ := Cert.RefSmallGradsIdeal.τ) (Cert.RefSmallGradsIdeal.main (F := Ideal))) ⟨m, fun _ => 0, g⟩ (fun r => (∀ c : Dev Cert.RefSmallGradsIdeal.nD,
      r.2.mem ((c.tc : Thread Cert.RefSmallGradsIdeal.nD Cert.RefSmallGradsIdeal.τ).loc Cert.RefSmallGradsIdeal.main_arg0) = m ((c.tc : Thread Cert.RefSmallGradsIdeal.nD Cert.RefSmallGradsIdeal.τ).loc Cert.RefSmallGradsIdeal.main_arg0)
      ∧ r.2.mem ((c.tc : Thread Cert.RefSmallGradsIdeal.nD Cert.RefSmallGradsIdeal.τ).loc Cert.RefSmallGradsIdeal.main_arg1) = m ((c.tc : Thread Cert.RefSmallGradsIdeal.nD Cert.RefSmallGradsIdeal.τ).loc Cert.RefSmallGradsIdeal.main_arg1))
      ∧ r.2.sem = fun _ => 0)

def quiescent_LnLoss [hLnLoss : Cert.LnLoss.Facts] : Prop :=
  ∀ (m : (ℓ : Loc Cert.LnLoss.nD Cert.LnLoss.τ Cert.LnLoss.sig) → Buf (Elt Bits) ℓ) (g : Dev Cert.LnLoss.nD → PrngReg), Pre_LnLoss m →
    θ_run (Cert.LnLoss.defs (F := Bits)) (onTc (τ := Cert.LnLoss.τ) (Cert.LnLoss.main (F := Bits))) ⟨m, fun _ => 0, g⟩ (fun r => (∀ c : Dev Cert.LnLoss.nD,
      r.2.mem ((c.tc : Thread Cert.LnLoss.nD Cert.LnLoss.τ).loc Cert.LnLoss.main_arg0) = m ((c.tc : Thread Cert.LnLoss.nD Cert.LnLoss.τ).loc Cert.LnLoss.main_arg0)
      ∧ r.2.mem ((c.tc : Thread Cert.LnLoss.nD Cert.LnLoss.τ).loc Cert.LnLoss.main_arg1) = m ((c.tc : Thread Cert.LnLoss.nD Cert.LnLoss.τ).loc Cert.LnLoss.main_arg1)
      ∧ r.2.mem ((c.tc : Thread Cert.LnLoss.nD Cert.LnLoss.τ).loc Cert.LnLoss.main_arg2) = m ((c.tc : Thread Cert.LnLoss.nD Cert.LnLoss.τ).loc Cert.LnLoss.main_arg2)
      ∧ r.2.mem ((c.tc : Thread Cert.LnLoss.nD Cert.LnLoss.τ).loc Cert.LnLoss.main_arg3) = m ((c.tc : Thread Cert.LnLoss.nD Cert.LnLoss.τ).loc Cert.LnLoss.main_arg3)
      ∧ r.2.mem ((c.tc : Thread Cert.LnLoss.nD Cert.LnLoss.τ).loc Cert.LnLoss.main_arg4) = m ((c.tc : Thread Cert.LnLoss.nD Cert.LnLoss.τ).loc Cert.LnLoss.main_arg4))
      ∧ r.2.sem = fun _ => 0)

def quiescent_LnLossIdeal [hLnLossIdeal : Cert.LnLossIdeal.Facts] : Prop :=
  ∀ (m : (ℓ : Loc Cert.LnLossIdeal.nD Cert.LnLossIdeal.τ Cert.LnLossIdeal.sig) → Buf (Elt Ideal) ℓ) (g : Dev Cert.LnLossIdeal.nD → PrngReg), Pre_LnLossIdeal m →
    θ_run (Cert.LnLossIdeal.defs (F := Ideal)) (onTc (τ := Cert.LnLossIdeal.τ) (Cert.LnLossIdeal.main (F := Ideal))) ⟨m, fun _ => 0, g⟩ (fun r => (∀ c : Dev Cert.LnLossIdeal.nD,
      r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
      ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
      ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
      ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3)
      ∧ r.2.mem ((c.tc : Thread Cert.LnLossIdeal.nD Cert.LnLossIdeal.τ).loc Cert.LnLossIdeal.main_arg4) = m ((c.tc : Thread Cert.LnLossIdeal.nD Cert.LnLossIdeal.τ).loc Cert.LnLossIdeal.main_arg4))
      ∧ r.2.sem = fun _ => 0)

def quiescent_LnLossIdeal_pre_finite_head [hLnLossIdeal : Cert.LnLossIdeal.Facts] [hPre_finite_head : Cert.Pre_finite_head.Facts] : Prop :=
  ∀ (m : (ℓ : Loc Cert.LnLossIdeal.nD Cert.LnLossIdeal.τ Cert.LnLossIdeal.sig) → Buf (Elt Ideal) ℓ) (g : Dev Cert.LnLossIdeal.nD → PrngReg), Pre_LnLossIdeal_finite_head m →
    θ_run (Cert.LnLossIdeal.defs (F := Ideal)) (onTc (τ := Cert.LnLossIdeal.τ) (Cert.LnLossIdeal.main (F := Ideal))) ⟨m, fun _ => 0, g⟩ (fun r => (∀ c : Dev Cert.LnLossIdeal.nD,
      r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
      ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
      ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
      ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3)
      ∧ r.2.mem ((c.tc : Thread Cert.LnLossIdeal.nD Cert.LnLossIdeal.τ).loc Cert.LnLossIdeal.main_arg4) = m ((c.tc : Thread Cert.LnLossIdeal.nD Cert.LnLossIdeal.τ).loc Cert.LnLossIdeal.main_arg4))
      ∧ r.2.sem = fun _ => 0)

def quiescent_RefLnLossIdeal [hRefLnLossIdeal : Cert.RefLnLossIdeal.Facts] : Prop :=
  ∀ (m : (ℓ : Loc Cert.RefLnLossIdeal.nD Cert.RefLnLossIdeal.τ Cert.RefLnLossIdeal.sig) → Buf (Elt Ideal) ℓ) (g : Dev Cert.RefLnLossIdeal.nD → PrngReg), Pre_RefLnLossIdeal m →
    θ_run (Cert.RefLnLossIdeal.defs (F := Ideal)) (onTc (τ := Cert.RefLnLossIdeal.τ) (Cert.RefLnLossIdeal.main (F := Ideal))) ⟨m, fun _ => 0, g⟩ (fun r => (∀ c : Dev Cert.RefLnLossIdeal.nD,
      r.2.mem ((c.tc : Thread Cert.RefLnLossIdeal.nD Cert.RefLnLossIdeal.τ).loc Cert.RefLnLossIdeal.main_arg0) = m ((c.tc : Thread Cert.RefLnLossIdeal.nD Cert.RefLnLossIdeal.τ).loc Cert.RefLnLossIdeal.main_arg0)
      ∧ r.2.mem ((c.tc : Thread Cert.RefLnLossIdeal.nD Cert.RefLnLossIdeal.τ).loc Cert.RefLnLossIdeal.main_arg1) = m ((c.tc : Thread Cert.RefLnLossIdeal.nD Cert.RefLnLossIdeal.τ).loc Cert.RefLnLossIdeal.main_arg1)
      ∧ r.2.mem ((c.tc : Thread Cert.RefLnLossIdeal.nD Cert.RefLnLossIdeal.τ).loc Cert.RefLnLossIdeal.main_arg2) = m ((c.tc : Thread Cert.RefLnLossIdeal.nD Cert.RefLnLossIdeal.τ).loc Cert.RefLnLossIdeal.main_arg2)
      ∧ r.2.mem ((c.tc : Thread Cert.RefLnLossIdeal.nD Cert.RefLnLossIdeal.τ).loc Cert.RefLnLossIdeal.main_arg3) = m ((c.tc : Thread Cert.RefLnLossIdeal.nD Cert.RefLnLossIdeal.τ).loc Cert.RefLnLossIdeal.main_arg3)
      ∧ r.2.mem ((c.tc : Thread Cert.RefLnLossIdeal.nD Cert.RefLnLossIdeal.τ).loc Cert.RefLnLossIdeal.main_arg4) = m ((c.tc : Thread Cert.RefLnLossIdeal.nD Cert.RefLnLossIdeal.τ).loc Cert.RefLnLossIdeal.main_arg4))
      ∧ r.2.sem = fun _ => 0)

def quiescent_RefLnLossIdeal_pre_finite_head [hRefLnLossIdeal : Cert.RefLnLossIdeal.Facts] [hPre_finite_head : Cert.Pre_finite_head.Facts] : Prop :=
  ∀ (m : (ℓ : Loc Cert.RefLnLossIdeal.nD Cert.RefLnLossIdeal.τ Cert.RefLnLossIdeal.sig) → Buf (Elt Ideal) ℓ) (g : Dev Cert.RefLnLossIdeal.nD → PrngReg), Pre_RefLnLossIdeal_finite_head m →
    θ_run (Cert.RefLnLossIdeal.defs (F := Ideal)) (onTc (τ := Cert.RefLnLossIdeal.τ) (Cert.RefLnLossIdeal.main (F := Ideal))) ⟨m, fun _ => 0, g⟩ (fun r => (∀ c : Dev Cert.RefLnLossIdeal.nD,
      r.2.mem ((c.tc : Thread Cert.RefLnLossIdeal.nD Cert.RefLnLossIdeal.τ).loc Cert.RefLnLossIdeal.main_arg0) = m ((c.tc : Thread Cert.RefLnLossIdeal.nD Cert.RefLnLossIdeal.τ).loc Cert.RefLnLossIdeal.main_arg0)
      ∧ r.2.mem ((c.tc : Thread Cert.RefLnLossIdeal.nD Cert.RefLnLossIdeal.τ).loc Cert.RefLnLossIdeal.main_arg1) = m ((c.tc : Thread Cert.RefLnLossIdeal.nD Cert.RefLnLossIdeal.τ).loc Cert.RefLnLossIdeal.main_arg1)
      ∧ r.2.mem ((c.tc : Thread Cert.RefLnLossIdeal.nD Cert.RefLnLossIdeal.τ).loc Cert.RefLnLossIdeal.main_arg2) = m ((c.tc : Thread Cert.RefLnLossIdeal.nD Cert.RefLnLossIdeal.τ).loc Cert.RefLnLossIdeal.main_arg2)
      ∧ r.2.mem ((c.tc : Thread Cert.RefLnLossIdeal.nD Cert.RefLnLossIdeal.τ).loc Cert.RefLnLossIdeal.main_arg3) = m ((c.tc : Thread Cert.RefLnLossIdeal.nD Cert.RefLnLossIdeal.τ).loc Cert.RefLnLossIdeal.main_arg3)
      ∧ r.2.mem ((c.tc : Thread Cert.RefLnLossIdeal.nD Cert.RefLnLossIdeal.τ).loc Cert.RefLnLossIdeal.main_arg4) = m ((c.tc : Thread Cert.RefLnLossIdeal.nD Cert.RefLnLossIdeal.τ).loc Cert.RefLnLossIdeal.main_arg4))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdIdeal_pre_finite_norm [hLnBwdIdeal : Cert.LnBwdIdeal.Facts] [hPre_finite_norm : Cert.Pre_finite_norm.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_finite_norm m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_RefLnBwdIdeal [hRefLnBwdIdeal : Cert.RefLnBwdIdeal.Facts] : Prop :=
  ∀ (m : (ℓ : Loc Cert.RefLnBwdIdeal.nD Cert.RefLnBwdIdeal.τ Cert.RefLnBwdIdeal.sig) → Buf (Elt Ideal) ℓ) (g : Dev Cert.RefLnBwdIdeal.nD → PrngReg), Pre_RefLnBwdIdeal m →
    θ_run (Cert.RefLnBwdIdeal.defs (F := Ideal)) (onTc (τ := Cert.RefLnBwdIdeal.τ) (Cert.RefLnBwdIdeal.main (F := Ideal))) ⟨m, fun _ => 0, g⟩ (fun r => (∀ c : Dev Cert.RefLnBwdIdeal.nD,
      r.2.mem ((c.tc : Thread Cert.RefLnBwdIdeal.nD Cert.RefLnBwdIdeal.τ).loc Cert.RefLnBwdIdeal.main_arg0) = m ((c.tc : Thread Cert.RefLnBwdIdeal.nD Cert.RefLnBwdIdeal.τ).loc Cert.RefLnBwdIdeal.main_arg0)
      ∧ r.2.mem ((c.tc : Thread Cert.RefLnBwdIdeal.nD Cert.RefLnBwdIdeal.τ).loc Cert.RefLnBwdIdeal.main_arg1) = m ((c.tc : Thread Cert.RefLnBwdIdeal.nD Cert.RefLnBwdIdeal.τ).loc Cert.RefLnBwdIdeal.main_arg1)
      ∧ r.2.mem ((c.tc : Thread Cert.RefLnBwdIdeal.nD Cert.RefLnBwdIdeal.τ).loc Cert.RefLnBwdIdeal.main_arg2) = m ((c.tc : Thread Cert.RefLnBwdIdeal.nD Cert.RefLnBwdIdeal.τ).loc Cert.RefLnBwdIdeal.main_arg2)
      ∧ r.2.mem ((c.tc : Thread Cert.RefLnBwdIdeal.nD Cert.RefLnBwdIdeal.τ).loc Cert.RefLnBwdIdeal.main_arg3) = m ((c.tc : Thread Cert.RefLnBwdIdeal.nD Cert.RefLnBwdIdeal.τ).loc Cert.RefLnBwdIdeal.main_arg3))
      ∧ r.2.sem = fun _ => 0)

def quiescent_RefLnBwdIdeal_pre_finite_norm [hRefLnBwdIdeal : Cert.RefLnBwdIdeal.Facts] [hPre_finite_norm : Cert.Pre_finite_norm.Facts] : Prop :=
  ∀ (m : (ℓ : Loc Cert.RefLnBwdIdeal.nD Cert.RefLnBwdIdeal.τ Cert.RefLnBwdIdeal.sig) → Buf (Elt Ideal) ℓ) (g : Dev Cert.RefLnBwdIdeal.nD → PrngReg), Pre_RefLnBwdIdeal_finite_norm m →
    θ_run (Cert.RefLnBwdIdeal.defs (F := Ideal)) (onTc (τ := Cert.RefLnBwdIdeal.τ) (Cert.RefLnBwdIdeal.main (F := Ideal))) ⟨m, fun _ => 0, g⟩ (fun r => (∀ c : Dev Cert.RefLnBwdIdeal.nD,
      r.2.mem ((c.tc : Thread Cert.RefLnBwdIdeal.nD Cert.RefLnBwdIdeal.τ).loc Cert.RefLnBwdIdeal.main_arg0) = m ((c.tc : Thread Cert.RefLnBwdIdeal.nD Cert.RefLnBwdIdeal.τ).loc Cert.RefLnBwdIdeal.main_arg0)
      ∧ r.2.mem ((c.tc : Thread Cert.RefLnBwdIdeal.nD Cert.RefLnBwdIdeal.τ).loc Cert.RefLnBwdIdeal.main_arg1) = m ((c.tc : Thread Cert.RefLnBwdIdeal.nD Cert.RefLnBwdIdeal.τ).loc Cert.RefLnBwdIdeal.main_arg1)
      ∧ r.2.mem ((c.tc : Thread Cert.RefLnBwdIdeal.nD Cert.RefLnBwdIdeal.τ).loc Cert.RefLnBwdIdeal.main_arg2) = m ((c.tc : Thread Cert.RefLnBwdIdeal.nD Cert.RefLnBwdIdeal.τ).loc Cert.RefLnBwdIdeal.main_arg2)
      ∧ r.2.mem ((c.tc : Thread Cert.RefLnBwdIdeal.nD Cert.RefLnBwdIdeal.τ).loc Cert.RefLnBwdIdeal.main_arg3) = m ((c.tc : Thread Cert.RefLnBwdIdeal.nD Cert.RefLnBwdIdeal.τ).loc Cert.RefLnBwdIdeal.main_arg3))
      ∧ r.2.sem = fun _ => 0)

def quiescent_LnBwdAlone [hLnBwdAlone : Cert.LnBwdAlone.Facts] : Prop :=
  ∀ (m : (ℓ : Loc Cert.LnBwdAlone.nD Cert.LnBwdAlone.τ Cert.LnBwdAlone.sig) → Buf (Elt Bits) ℓ) (g : Dev Cert.LnBwdAlone.nD → PrngReg), Pre_LnBwdAlone m →
    θ_run (Cert.LnBwdAlone.defs (F := Bits)) (onTc (τ := Cert.LnBwdAlone.τ) (Cert.LnBwdAlone.main (F := Bits))) ⟨m, fun _ => 0, g⟩ (fun r => (∀ c : Dev Cert.LnBwdAlone.nD,
      r.2.mem ((c.tc : Thread Cert.LnBwdAlone.nD Cert.LnBwdAlone.τ).loc Cert.LnBwdAlone.main_arg0) = m ((c.tc : Thread Cert.LnBwdAlone.nD Cert.LnBwdAlone.τ).loc Cert.LnBwdAlone.main_arg0)
      ∧ r.2.mem ((c.tc : Thread Cert.LnBwdAlone.nD Cert.LnBwdAlone.τ).loc Cert.LnBwdAlone.main_arg1) = m ((c.tc : Thread Cert.LnBwdAlone.nD Cert.LnBwdAlone.τ).loc Cert.LnBwdAlone.main_arg1)
      ∧ r.2.mem ((c.tc : Thread Cert.LnBwdAlone.nD Cert.LnBwdAlone.τ).loc Cert.LnBwdAlone.main_arg2) = m ((c.tc : Thread Cert.LnBwdAlone.nD Cert.LnBwdAlone.τ).loc Cert.LnBwdAlone.main_arg2))
      ∧ r.2.sem = fun _ => 0)

def quiescent_LnBwdAloneIdeal [hLnBwdAloneIdeal : Cert.LnBwdAloneIdeal.Facts] : Prop :=
  ∀ (m : (ℓ : Loc Cert.LnBwdAloneIdeal.nD Cert.LnBwdAloneIdeal.τ Cert.LnBwdAloneIdeal.sig) → Buf (Elt Ideal) ℓ) (g : Dev Cert.LnBwdAloneIdeal.nD → PrngReg), Pre_LnBwdAloneIdeal m →
    θ_run (Cert.LnBwdAloneIdeal.defs (F := Ideal)) (onTc (τ := Cert.LnBwdAloneIdeal.τ) (Cert.LnBwdAloneIdeal.main (F := Ideal))) ⟨m, fun _ => 0, g⟩ (fun r => (∀ c : Dev Cert.LnBwdAloneIdeal.nD,
      r.2.mem ((c.tc : Thread Cert.LnBwdAloneIdeal.nD Cert.LnBwdAloneIdeal.τ).loc Cert.LnBwdAloneIdeal.main_arg0) = m ((c.tc : Thread Cert.LnBwdAloneIdeal.nD Cert.LnBwdAloneIdeal.τ).loc Cert.LnBwdAloneIdeal.main_arg0)
      ∧ r.2.mem ((c.tc : Thread Cert.LnBwdAloneIdeal.nD Cert.LnBwdAloneIdeal.τ).loc Cert.LnBwdAloneIdeal.main_arg1) = m ((c.tc : Thread Cert.LnBwdAloneIdeal.nD Cert.LnBwdAloneIdeal.τ).loc Cert.LnBwdAloneIdeal.main_arg1)
      ∧ r.2.mem ((c.tc : Thread Cert.LnBwdAloneIdeal.nD Cert.LnBwdAloneIdeal.τ).loc Cert.LnBwdAloneIdeal.main_arg2) = m ((c.tc : Thread Cert.LnBwdAloneIdeal.nD Cert.LnBwdAloneIdeal.τ).loc Cert.LnBwdAloneIdeal.main_arg2))
      ∧ r.2.sem = fun _ => 0)

def quiescent_LnBwdAloneIdeal_pre_finite_norm_alone [hLnBwdAloneIdeal : Cert.LnBwdAloneIdeal.Facts] [hPre_finite_norm_alone : Cert.Pre_finite_norm_alone.Facts] : Prop :=
  ∀ (m : (ℓ : Loc Cert.LnBwdAloneIdeal.nD Cert.LnBwdAloneIdeal.τ Cert.LnBwdAloneIdeal.sig) → Buf (Elt Ideal) ℓ) (g : Dev Cert.LnBwdAloneIdeal.nD → PrngReg), Pre_LnBwdAloneIdeal_finite_norm_alone m →
    θ_run (Cert.LnBwdAloneIdeal.defs (F := Ideal)) (onTc (τ := Cert.LnBwdAloneIdeal.τ) (Cert.LnBwdAloneIdeal.main (F := Ideal))) ⟨m, fun _ => 0, g⟩ (fun r => (∀ c : Dev Cert.LnBwdAloneIdeal.nD,
      r.2.mem ((c.tc : Thread Cert.LnBwdAloneIdeal.nD Cert.LnBwdAloneIdeal.τ).loc Cert.LnBwdAloneIdeal.main_arg0) = m ((c.tc : Thread Cert.LnBwdAloneIdeal.nD Cert.LnBwdAloneIdeal.τ).loc Cert.LnBwdAloneIdeal.main_arg0)
      ∧ r.2.mem ((c.tc : Thread Cert.LnBwdAloneIdeal.nD Cert.LnBwdAloneIdeal.τ).loc Cert.LnBwdAloneIdeal.main_arg1) = m ((c.tc : Thread Cert.LnBwdAloneIdeal.nD Cert.LnBwdAloneIdeal.τ).loc Cert.LnBwdAloneIdeal.main_arg1)
      ∧ r.2.mem ((c.tc : Thread Cert.LnBwdAloneIdeal.nD Cert.LnBwdAloneIdeal.τ).loc Cert.LnBwdAloneIdeal.main_arg2) = m ((c.tc : Thread Cert.LnBwdAloneIdeal.nD Cert.LnBwdAloneIdeal.τ).loc Cert.LnBwdAloneIdeal.main_arg2))
      ∧ r.2.sem = fun _ => 0)

def quiescent_RefLnBwdAloneIdeal [hRefLnBwdAloneIdeal : Cert.RefLnBwdAloneIdeal.Facts] : Prop :=
  ∀ (m : (ℓ : Loc Cert.RefLnBwdAloneIdeal.nD Cert.RefLnBwdAloneIdeal.τ Cert.RefLnBwdAloneIdeal.sig) → Buf (Elt Ideal) ℓ) (g : Dev Cert.RefLnBwdAloneIdeal.nD → PrngReg), Pre_RefLnBwdAloneIdeal m →
    θ_run (Cert.RefLnBwdAloneIdeal.defs (F := Ideal)) (onTc (τ := Cert.RefLnBwdAloneIdeal.τ) (Cert.RefLnBwdAloneIdeal.main (F := Ideal))) ⟨m, fun _ => 0, g⟩ (fun r => (∀ c : Dev Cert.RefLnBwdAloneIdeal.nD,
      r.2.mem ((c.tc : Thread Cert.RefLnBwdAloneIdeal.nD Cert.RefLnBwdAloneIdeal.τ).loc Cert.RefLnBwdAloneIdeal.main_arg0) = m ((c.tc : Thread Cert.RefLnBwdAloneIdeal.nD Cert.RefLnBwdAloneIdeal.τ).loc Cert.RefLnBwdAloneIdeal.main_arg0)
      ∧ r.2.mem ((c.tc : Thread Cert.RefLnBwdAloneIdeal.nD Cert.RefLnBwdAloneIdeal.τ).loc Cert.RefLnBwdAloneIdeal.main_arg1) = m ((c.tc : Thread Cert.RefLnBwdAloneIdeal.nD Cert.RefLnBwdAloneIdeal.τ).loc Cert.RefLnBwdAloneIdeal.main_arg1)
      ∧ r.2.mem ((c.tc : Thread Cert.RefLnBwdAloneIdeal.nD Cert.RefLnBwdAloneIdeal.τ).loc Cert.RefLnBwdAloneIdeal.main_arg2) = m ((c.tc : Thread Cert.RefLnBwdAloneIdeal.nD Cert.RefLnBwdAloneIdeal.τ).loc Cert.RefLnBwdAloneIdeal.main_arg2))
      ∧ r.2.sem = fun _ => 0)

def quiescent_RefLnBwdAloneIdeal_pre_finite_norm_alone [hRefLnBwdAloneIdeal : Cert.RefLnBwdAloneIdeal.Facts] [hPre_finite_norm_alone : Cert.Pre_finite_norm_alone.Facts] : Prop :=
  ∀ (m : (ℓ : Loc Cert.RefLnBwdAloneIdeal.nD Cert.RefLnBwdAloneIdeal.τ Cert.RefLnBwdAloneIdeal.sig) → Buf (Elt Ideal) ℓ) (g : Dev Cert.RefLnBwdAloneIdeal.nD → PrngReg), Pre_RefLnBwdAloneIdeal_finite_norm_alone m →
    θ_run (Cert.RefLnBwdAloneIdeal.defs (F := Ideal)) (onTc (τ := Cert.RefLnBwdAloneIdeal.τ) (Cert.RefLnBwdAloneIdeal.main (F := Ideal))) ⟨m, fun _ => 0, g⟩ (fun r => (∀ c : Dev Cert.RefLnBwdAloneIdeal.nD,
      r.2.mem ((c.tc : Thread Cert.RefLnBwdAloneIdeal.nD Cert.RefLnBwdAloneIdeal.τ).loc Cert.RefLnBwdAloneIdeal.main_arg0) = m ((c.tc : Thread Cert.RefLnBwdAloneIdeal.nD Cert.RefLnBwdAloneIdeal.τ).loc Cert.RefLnBwdAloneIdeal.main_arg0)
      ∧ r.2.mem ((c.tc : Thread Cert.RefLnBwdAloneIdeal.nD Cert.RefLnBwdAloneIdeal.τ).loc Cert.RefLnBwdAloneIdeal.main_arg1) = m ((c.tc : Thread Cert.RefLnBwdAloneIdeal.nD Cert.RefLnBwdAloneIdeal.τ).loc Cert.RefLnBwdAloneIdeal.main_arg1)
      ∧ r.2.mem ((c.tc : Thread Cert.RefLnBwdAloneIdeal.nD Cert.RefLnBwdAloneIdeal.τ).loc Cert.RefLnBwdAloneIdeal.main_arg2) = m ((c.tc : Thread Cert.RefLnBwdAloneIdeal.nD Cert.RefLnBwdAloneIdeal.τ).loc Cert.RefLnBwdAloneIdeal.main_arg2))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1)
      ∧ r.2.mem ((c.tc : Thread Cert.LnFwd.nD Cert.LnFwd.τ).loc Cert.LnFwd.main_arg2) = m ((c.tc : Thread Cert.LnFwd.nD Cert.LnFwd.τ).loc Cert.LnFwd.main_arg2)
      ∧ r.2.mem ((c.tc : Thread Cert.LnFwd.nD Cert.LnFwd.τ).loc Cert.LnFwd.main_arg3) = m ((c.tc : Thread Cert.LnFwd.nD Cert.LnFwd.τ).loc Cert.LnFwd.main_arg3))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
      ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
      ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3))
      ∧ r.2.sem = fun _ => 0)

def quiescent_RefLnFwdIdeal [hRefLnFwdIdeal : Cert.RefLnFwdIdeal.Facts] : Prop :=
  ∀ (m : (ℓ : Loc Cert.RefLnFwdIdeal.nD Cert.RefLnFwdIdeal.τ Cert.RefLnFwdIdeal.sig) → Buf (Elt Ideal) ℓ) (g : Dev Cert.RefLnFwdIdeal.nD → PrngReg), Pre_RefLnFwdIdeal m →
    θ_run (Cert.RefLnFwdIdeal.defs (F := Ideal)) (onTc (τ := Cert.RefLnFwdIdeal.τ) (Cert.RefLnFwdIdeal.main (F := Ideal))) ⟨m, fun _ => 0, g⟩ (fun r => (∀ c : Dev Cert.RefLnFwdIdeal.nD,
      r.2.mem ((c.tc : Thread Cert.RefLnFwdIdeal.nD Cert.RefLnFwdIdeal.τ).loc Cert.RefLnFwdIdeal.main_arg0) = m ((c.tc : Thread Cert.RefLnFwdIdeal.nD Cert.RefLnFwdIdeal.τ).loc Cert.RefLnFwdIdeal.main_arg0)
      ∧ r.2.mem ((c.tc : Thread Cert.RefLnFwdIdeal.nD Cert.RefLnFwdIdeal.τ).loc Cert.RefLnFwdIdeal.main_arg1) = m ((c.tc : Thread Cert.RefLnFwdIdeal.nD Cert.RefLnFwdIdeal.τ).loc Cert.RefLnFwdIdeal.main_arg1)
      ∧ r.2.mem ((c.tc : Thread Cert.RefLnFwdIdeal.nD Cert.RefLnFwdIdeal.τ).loc Cert.RefLnFwdIdeal.main_arg2) = m ((c.tc : Thread Cert.RefLnFwdIdeal.nD Cert.RefLnFwdIdeal.τ).loc Cert.RefLnFwdIdeal.main_arg2)
      ∧ r.2.mem ((c.tc : Thread Cert.RefLnFwdIdeal.nD Cert.RefLnFwdIdeal.τ).loc Cert.RefLnFwdIdeal.main_arg3) = m ((c.tc : Thread Cert.RefLnFwdIdeal.nD Cert.RefLnFwdIdeal.τ).loc Cert.RefLnFwdIdeal.main_arg3))
      ∧ r.2.sem = fun _ => 0)

def quiescent_ConvGateFwd [hConvGateFwd : Cert.ConvGateFwd.Facts] : Prop :=
  ∀ (m : (ℓ : Loc Cert.ConvGateFwd.nD Cert.ConvGateFwd.τ Cert.ConvGateFwd.sig) → Buf (Elt Bits) ℓ) (g : Dev Cert.ConvGateFwd.nD → PrngReg), Pre_ConvGateFwd m →
    θ_run (Cert.ConvGateFwd.defs (F := Bits)) (onTc (τ := Cert.ConvGateFwd.τ) (Cert.ConvGateFwd.main (F := Bits))) ⟨m, fun _ => 0, g⟩ (fun r => (∀ c : Dev Cert.ConvGateFwd.nD,
      r.2.mem ((c.tc : Thread Cert.ConvGateFwd.nD Cert.ConvGateFwd.τ).loc Cert.ConvGateFwd.main_arg0) = m ((c.tc : Thread Cert.ConvGateFwd.nD Cert.ConvGateFwd.τ).loc Cert.ConvGateFwd.main_arg0)
      ∧ r.2.mem ((c.tc : Thread Cert.ConvGateFwd.nD Cert.ConvGateFwd.τ).loc Cert.ConvGateFwd.main_arg1) = m ((c.tc : Thread Cert.ConvGateFwd.nD Cert.ConvGateFwd.τ).loc Cert.ConvGateFwd.main_arg1)
      ∧ r.2.mem ((c.tc : Thread Cert.ConvGateFwd.nD Cert.ConvGateFwd.τ).loc Cert.ConvGateFwd.main_arg2) = m ((c.tc : Thread Cert.ConvGateFwd.nD Cert.ConvGateFwd.τ).loc Cert.ConvGateFwd.main_arg2)
      ∧ r.2.mem ((c.tc : Thread Cert.ConvGateFwd.nD Cert.ConvGateFwd.τ).loc Cert.ConvGateFwd.main_arg3) = m ((c.tc : Thread Cert.ConvGateFwd.nD Cert.ConvGateFwd.τ).loc Cert.ConvGateFwd.main_arg3))
      ∧ r.2.sem = fun _ => 0)

def quiescent_ConvGateFwdIdeal [hConvGateFwdIdeal : Cert.ConvGateFwdIdeal.Facts] : Prop :=
  ∀ (m : (ℓ : Loc Cert.ConvGateFwdIdeal.nD Cert.ConvGateFwdIdeal.τ Cert.ConvGateFwdIdeal.sig) → Buf (Elt Ideal) ℓ) (g : Dev Cert.ConvGateFwdIdeal.nD → PrngReg), Pre_ConvGateFwdIdeal m →
    θ_run (Cert.ConvGateFwdIdeal.defs (F := Ideal)) (onTc (τ := Cert.ConvGateFwdIdeal.τ) (Cert.ConvGateFwdIdeal.main (F := Ideal))) ⟨m, fun _ => 0, g⟩ (fun r => (∀ c : Dev Cert.ConvGateFwdIdeal.nD,
      r.2.mem ((c.tc : Thread Cert.ConvGateFwdIdeal.nD Cert.ConvGateFwdIdeal.τ).loc Cert.ConvGateFwdIdeal.main_arg0) = m ((c.tc : Thread Cert.ConvGateFwdIdeal.nD Cert.ConvGateFwdIdeal.τ).loc Cert.ConvGateFwdIdeal.main_arg0)
      ∧ r.2.mem ((c.tc : Thread Cert.ConvGateFwdIdeal.nD Cert.ConvGateFwdIdeal.τ).loc Cert.ConvGateFwdIdeal.main_arg1) = m ((c.tc : Thread Cert.ConvGateFwdIdeal.nD Cert.ConvGateFwdIdeal.τ).loc Cert.ConvGateFwdIdeal.main_arg1)
      ∧ r.2.mem ((c.tc : Thread Cert.ConvGateFwdIdeal.nD Cert.ConvGateFwdIdeal.τ).loc Cert.ConvGateFwdIdeal.main_arg2) = m ((c.tc : Thread Cert.ConvGateFwdIdeal.nD Cert.ConvGateFwdIdeal.τ).loc Cert.ConvGateFwdIdeal.main_arg2)
      ∧ r.2.mem ((c.tc : Thread Cert.ConvGateFwdIdeal.nD Cert.ConvGateFwdIdeal.τ).loc Cert.ConvGateFwdIdeal.main_arg3) = m ((c.tc : Thread Cert.ConvGateFwdIdeal.nD Cert.ConvGateFwdIdeal.τ).loc Cert.ConvGateFwdIdeal.main_arg3))
      ∧ r.2.sem = fun _ => 0)

def quiescent_RefConvGateFwdIdeal [hRefConvGateFwdIdeal : Cert.RefConvGateFwdIdeal.Facts] : Prop :=
  ∀ (m : (ℓ : Loc Cert.RefConvGateFwdIdeal.nD Cert.RefConvGateFwdIdeal.τ Cert.RefConvGateFwdIdeal.sig) → Buf (Elt Ideal) ℓ) (g : Dev Cert.RefConvGateFwdIdeal.nD → PrngReg), Pre_RefConvGateFwdIdeal m →
    θ_run (Cert.RefConvGateFwdIdeal.defs (F := Ideal)) (onTc (τ := Cert.RefConvGateFwdIdeal.τ) (Cert.RefConvGateFwdIdeal.main (F := Ideal))) ⟨m, fun _ => 0, g⟩ (fun r => (∀ c : Dev Cert.RefConvGateFwdIdeal.nD,
      r.2.mem ((c.tc : Thread Cert.RefConvGateFwdIdeal.nD Cert.RefConvGateFwdIdeal.τ).loc Cert.RefConvGateFwdIdeal.main_arg0) = m ((c.tc : Thread Cert.RefConvGateFwdIdeal.nD Cert.RefConvGateFwdIdeal.τ).loc Cert.RefConvGateFwdIdeal.main_arg0)
      ∧ r.2.mem ((c.tc : Thread Cert.RefConvGateFwdIdeal.nD Cert.RefConvGateFwdIdeal.τ).loc Cert.RefConvGateFwdIdeal.main_arg1) = m ((c.tc : Thread Cert.RefConvGateFwdIdeal.nD Cert.RefConvGateFwdIdeal.τ).loc Cert.RefConvGateFwdIdeal.main_arg1)
      ∧ r.2.mem ((c.tc : Thread Cert.RefConvGateFwdIdeal.nD Cert.RefConvGateFwdIdeal.τ).loc Cert.RefConvGateFwdIdeal.main_arg2) = m ((c.tc : Thread Cert.RefConvGateFwdIdeal.nD Cert.RefConvGateFwdIdeal.τ).loc Cert.RefConvGateFwdIdeal.main_arg2)
      ∧ r.2.mem ((c.tc : Thread Cert.RefConvGateFwdIdeal.nD Cert.RefConvGateFwdIdeal.τ).loc Cert.RefConvGateFwdIdeal.main_arg3) = m ((c.tc : Thread Cert.RefConvGateFwdIdeal.nD Cert.RefConvGateFwdIdeal.τ).loc Cert.RefConvGateFwdIdeal.main_arg3))
      ∧ r.2.sem = fun _ => 0)

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ r.2.sem = fun _ => 0)

def quiescent_RefSwapIdeal [hRefSwapIdeal : Cert.RefSwapIdeal.Facts] : Prop :=
  ∀ (m : (ℓ : Loc Cert.RefSwapIdeal.nD Cert.RefSwapIdeal.τ Cert.RefSwapIdeal.sig) → Buf (Elt Ideal) ℓ) (g : Dev Cert.RefSwapIdeal.nD → PrngReg), Pre_RefSwapIdeal m →
    θ_run (Cert.RefSwapIdeal.defs (F := Ideal)) (onTc (τ := Cert.RefSwapIdeal.τ) (Cert.RefSwapIdeal.main (F := Ideal))) ⟨m, fun _ => 0, g⟩ (fun r => (∀ c : Dev Cert.RefSwapIdeal.nD,
      r.2.mem ((c.tc : Thread Cert.RefSwapIdeal.nD Cert.RefSwapIdeal.τ).loc Cert.RefSwapIdeal.main_arg0) = m ((c.tc : Thread Cert.RefSwapIdeal.nD Cert.RefSwapIdeal.τ).loc Cert.RefSwapIdeal.main_arg0))
      ∧ r.2.sem = fun _ => 0)

def quiescent_Cast [hCast : Cert.Cast.Facts] : Prop :=
  ∀ (m : (ℓ : Loc Cert.Cast.nD Cert.Cast.τ Cert.Cast.sig) → Buf (Elt Bits) ℓ) (g : Dev Cert.Cast.nD → PrngReg), Pre_Cast m →
    θ_run (Cert.Cast.defs (F := Bits)) (onTc (τ := Cert.Cast.τ) (Cert.Cast.main (F := Bits))) ⟨m, fun _ => 0, g⟩ (fun r => (∀ c : Dev Cert.Cast.nD,
      r.2.mem ((c.tc : Thread Cert.Cast.nD Cert.Cast.τ).loc Cert.Cast.main_arg0) = m ((c.tc : Thread Cert.Cast.nD Cert.Cast.τ).loc Cert.Cast.main_arg0))
      ∧ r.2.sem = fun _ => 0)

def quiescent_CastIdeal [hCastIdeal : Cert.CastIdeal.Facts] : Prop :=
  ∀ (m : (ℓ : Loc Cert.CastIdeal.nD Cert.CastIdeal.τ Cert.CastIdeal.sig) → Buf (Elt Ideal) ℓ) (g : Dev Cert.CastIdeal.nD → PrngReg), Pre_CastIdeal m →
    θ_run (Cert.CastIdeal.defs (F := Ideal)) (onTc (τ := Cert.CastIdeal.τ) (Cert.CastIdeal.main (F := Ideal))) ⟨m, fun _ => 0, g⟩ (fun r => (∀ c : Dev Cert.CastIdeal.nD,
      r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ r.2.sem = fun _ => 0)

def quiescent_RefCastIdeal [hRefCastIdeal : Cert.RefCastIdeal.Facts] : Prop :=
  ∀ (m : (ℓ : Loc Cert.RefCastIdeal.nD Cert.RefCastIdeal.τ Cert.RefCastIdeal.sig) → Buf (Elt Ideal) ℓ) (g : Dev Cert.RefCastIdeal.nD → PrngReg), Pre_RefCastIdeal m →
    θ_run (Cert.RefCastIdeal.defs (F := Ideal)) (onTc (τ := Cert.RefCastIdeal.τ) (Cert.RefCastIdeal.main (F := Ideal))) ⟨m, fun _ => 0, g⟩ (fun r => (∀ c : Dev Cert.RefCastIdeal.nD,
      r.2.mem ((c.tc : Thread Cert.RefCastIdeal.nD Cert.RefCastIdeal.τ).loc Cert.RefCastIdeal.main_arg0) = m ((c.tc : Thread Cert.RefCastIdeal.nD Cert.RefCastIdeal.τ).loc Cert.RefCastIdeal.main_arg0))
      ∧ r.2.sem = fun _ => 0)

def quiescent_Mixed [hMixed : Cert.Mixed.Facts] : Prop :=
  ∀ (m : (ℓ : Loc Cert.Mixed.nD Cert.Mixed.τ Cert.Mixed.sig) → Buf (Elt Bits) ℓ) (g : Dev Cert.Mixed.nD → PrngReg), Pre_Mixed m →
    θ_run (Cert.Mixed.defs (F := Bits)) (onTc (τ := Cert.Mixed.τ) (Cert.Mixed.main (F := Bits))) ⟨m, fun _ => 0, g⟩ (fun r => (∀ c : Dev Cert.Mixed.nD,
      r.2.mem ((c.tc : Thread Cert.Mixed.nD Cert.Mixed.τ).loc Cert.Mixed.main_arg0) = m ((c.tc : Thread Cert.Mixed.nD Cert.Mixed.τ).loc Cert.Mixed.main_arg0)
      ∧ r.2.mem ((c.tc : Thread Cert.Mixed.nD Cert.Mixed.τ).loc Cert.Mixed.main_arg1) = m ((c.tc : Thread Cert.Mixed.nD Cert.Mixed.τ).loc Cert.Mixed.main_arg1)
      ∧ r.2.mem ((c.tc : Thread Cert.Mixed.nD Cert.Mixed.τ).loc Cert.Mixed.main_arg2) = m ((c.tc : Thread Cert.Mixed.nD Cert.Mixed.τ).loc Cert.Mixed.main_arg2))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2))
      ∧ r.2.sem = fun _ => 0)

def quiescent_RefMixedIdeal [hRefMixedIdeal : Cert.RefMixedIdeal.Facts] : Prop :=
  ∀ (m : (ℓ : Loc Cert.RefMixedIdeal.nD Cert.RefMixedIdeal.τ Cert.RefMixedIdeal.sig) → Buf (Elt Ideal) ℓ) (g : Dev Cert.RefMixedIdeal.nD → PrngReg), Pre_RefMixedIdeal m →
    θ_run (Cert.RefMixedIdeal.defs (F := Ideal)) (onTc (τ := Cert.RefMixedIdeal.τ) (Cert.RefMixedIdeal.main (F := Ideal))) ⟨m, fun _ => 0, g⟩ (fun r => (∀ c : Dev Cert.RefMixedIdeal.nD,
      r.2.mem ((c.tc : Thread Cert.RefMixedIdeal.nD Cert.RefMixedIdeal.τ).loc Cert.RefMixedIdeal.main_arg0) = m ((c.tc : Thread Cert.RefMixedIdeal.nD Cert.RefMixedIdeal.τ).loc Cert.RefMixedIdeal.main_arg0)
      ∧ r.2.mem ((c.tc : Thread Cert.RefMixedIdeal.nD Cert.RefMixedIdeal.τ).loc Cert.RefMixedIdeal.main_arg1) = m ((c.tc : Thread Cert.RefMixedIdeal.nD Cert.RefMixedIdeal.τ).loc Cert.RefMixedIdeal.main_arg1)
      ∧ r.2.mem ((c.tc : Thread Cert.RefMixedIdeal.nD Cert.RefMixedIdeal.τ).loc Cert.RefMixedIdeal.main_arg2) = m ((c.tc : Thread Cert.RefMixedIdeal.nD Cert.RefMixedIdeal.τ).loc Cert.RefMixedIdeal.main_arg2))
      ∧ r.2.sem = fun _ => 0)

def quiescent_PairAdd [hPairAdd : Cert.PairAdd.Facts] [hPre_a_core : Cert.Pre_a_core.Facts] : Prop :=
  ∀ (m : (ℓ : Loc Cert.PairAdd.nD Cert.PairAdd.τ Cert.PairAdd.sig) → Buf (Elt Bits) ℓ) (g : Dev Cert.PairAdd.nD → PrngReg), Pre_PairAdd m →
    θ_run (Cert.PairAdd.defs (F := Bits)) (onTc (τ := Cert.PairAdd.τ) (Cert.PairAdd.main (F := Bits))) ⟨m, fun _ => 0, g⟩ (fun r => (∀ c : Dev Cert.PairAdd.nD,
      r.2.mem ((c.tc : Thread Cert.PairAdd.nD Cert.PairAdd.τ).loc Cert.PairAdd.main_arg0) = m ((c.tc : Thread Cert.PairAdd.nD Cert.PairAdd.τ).loc Cert.PairAdd.main_arg0)
      ∧ r.2.mem ((c.tc : Thread Cert.PairAdd.nD Cert.PairAdd.τ).loc Cert.PairAdd.main_arg1) = m ((c.tc : Thread Cert.PairAdd.nD Cert.PairAdd.τ).loc Cert.PairAdd.main_arg1)
      ∧ r.2.mem ((c.tc : Thread Cert.PairAdd.nD Cert.PairAdd.τ).loc Cert.PairAdd.main_arg2) = m ((c.tc : Thread Cert.PairAdd.nD Cert.PairAdd.τ).loc Cert.PairAdd.main_arg2))
      ∧ r.2.sem = fun _ => 0)

def quiescent_PairAddIdeal [hPairAddIdeal : Cert.PairAddIdeal.Facts] [hPre_a_core : Cert.Pre_a_core.Facts] : Prop :=
  ∀ (m : (ℓ : Loc Cert.PairAddIdeal.nD Cert.PairAddIdeal.τ Cert.PairAddIdeal.sig) → Buf (Elt Ideal) ℓ) (g : Dev Cert.PairAddIdeal.nD → PrngReg), Pre_PairAddIdeal m →
    θ_run (Cert.PairAddIdeal.defs (F := Ideal)) (onTc (τ := Cert.PairAddIdeal.τ) (Cert.PairAddIdeal.main (F := Ideal))) ⟨m, fun _ => 0, g⟩ (fun r => (∀ c : Dev Cert.PairAddIdeal.nD,
      r.2.mem ((c.tc : Thread Cert.PairAddIdeal.nD Cert.PairAddIdeal.τ).loc Cert.PairAddIdeal.main_arg0) = m ((c.tc : Thread Cert.PairAddIdeal.nD Cert.PairAddIdeal.τ).loc Cert.PairAddIdeal.main_arg0)
      ∧ r.2.mem ((c.tc : Thread Cert.PairAddIdeal.nD Cert.PairAddIdeal.τ).loc Cert.PairAddIdeal.main_arg1) = m ((c.tc : Thread Cert.PairAddIdeal.nD Cert.PairAddIdeal.τ).loc Cert.PairAddIdeal.main_arg1)
      ∧ r.2.mem ((c.tc : Thread Cert.PairAddIdeal.nD Cert.PairAddIdeal.τ).loc Cert.PairAddIdeal.main_arg2) = m ((c.tc : Thread Cert.PairAddIdeal.nD Cert.PairAddIdeal.τ).loc Cert.PairAddIdeal.main_arg2))
      ∧ r.2.sem = fun _ => 0)

def quiescent_RefPairAddIdeal [hRefPairAddIdeal : Cert.RefPairAddIdeal.Facts] : Prop :=
  ∀ (m : (ℓ : Loc Cert.RefPairAddIdeal.nD Cert.RefPairAddIdeal.τ Cert.RefPairAddIdeal.sig) → Buf (Elt Ideal) ℓ) (g : Dev Cert.RefPairAddIdeal.nD → PrngReg), Pre_RefPairAddIdeal m →
    θ_run (Cert.RefPairAddIdeal.defs (F := Ideal)) (onTc (τ := Cert.RefPairAddIdeal.τ) (Cert.RefPairAddIdeal.main (F := Ideal))) ⟨m, fun _ => 0, g⟩ (fun r => (∀ c : Dev Cert.RefPairAddIdeal.nD,
      r.2.mem ((c.tc : Thread Cert.RefPairAddIdeal.nD Cert.RefPairAddIdeal.τ).loc Cert.RefPairAddIdeal.main_arg0) = m ((c.tc : Thread Cert.RefPairAddIdeal.nD Cert.RefPairAddIdeal.τ).loc Cert.RefPairAddIdeal.main_arg0)
      ∧ r.2.mem ((c.tc : Thread Cert.RefPairAddIdeal.nD Cert.RefPairAddIdeal.τ).loc Cert.RefPairAddIdeal.main_arg1) = m ((c.tc : Thread Cert.RefPairAddIdeal.nD Cert.RefPairAddIdeal.τ).loc Cert.RefPairAddIdeal.main_arg1)
      ∧ r.2.mem ((c.tc : Thread Cert.RefPairAddIdeal.nD Cert.RefPairAddIdeal.τ).loc Cert.RefPairAddIdeal.main_arg2) = m ((c.tc : Thread Cert.RefPairAddIdeal.nD Cert.RefPairAddIdeal.τ).loc Cert.RefPairAddIdeal.main_arg2))
      ∧ r.2.sem = fun _ => 0)

def quiescent_RefPairAddIdeal_pre_a_core [hRefPairAddIdeal : Cert.RefPairAddIdeal.Facts] [hPre_a_core : Cert.Pre_a_core.Facts] : Prop :=
  ∀ (m : (ℓ : Loc Cert.RefPairAddIdeal.nD Cert.RefPairAddIdeal.τ Cert.RefPairAddIdeal.sig) → Buf (Elt Ideal) ℓ) (g : Dev Cert.RefPairAddIdeal.nD → PrngReg), Pre_RefPairAddIdeal_a_core m →
    θ_run (Cert.RefPairAddIdeal.defs (F := Ideal)) (onTc (τ := Cert.RefPairAddIdeal.τ) (Cert.RefPairAddIdeal.main (F := Ideal))) ⟨m, fun _ => 0, g⟩ (fun r => (∀ c : Dev Cert.RefPairAddIdeal.nD,
      r.2.mem ((c.tc : Thread Cert.RefPairAddIdeal.nD Cert.RefPairAddIdeal.τ).loc Cert.RefPairAddIdeal.main_arg0) = m ((c.tc : Thread Cert.RefPairAddIdeal.nD Cert.RefPairAddIdeal.τ).loc Cert.RefPairAddIdeal.main_arg0)
      ∧ r.2.mem ((c.tc : Thread Cert.RefPairAddIdeal.nD Cert.RefPairAddIdeal.τ).loc Cert.RefPairAddIdeal.main_arg1) = m ((c.tc : Thread Cert.RefPairAddIdeal.nD Cert.RefPairAddIdeal.τ).loc Cert.RefPairAddIdeal.main_arg1)
      ∧ r.2.mem ((c.tc : Thread Cert.RefPairAddIdeal.nD Cert.RefPairAddIdeal.τ).loc Cert.RefPairAddIdeal.main_arg2) = m ((c.tc : Thread Cert.RefPairAddIdeal.nD Cert.RefPairAddIdeal.τ).loc Cert.RefPairAddIdeal.main_arg2))
      ∧ r.2.sem = fun _ => 0)

def quiescent_HgrnOut [hHgrnOut : Cert.HgrnOut.Facts] : Prop :=
  ∀ (m : (ℓ : Loc Cert.HgrnOut.nD Cert.HgrnOut.τ Cert.HgrnOut.sig) → Buf (Elt Bits) ℓ) (g : Dev Cert.HgrnOut.nD → PrngReg), Pre_HgrnOut m →
    θ_run (Cert.HgrnOut.defs (F := Bits)) (onTc (τ := Cert.HgrnOut.τ) (Cert.HgrnOut.main (F := Bits))) ⟨m, fun _ => 0, g⟩ (fun r => (∀ c : Dev Cert.HgrnOut.nD,
      r.2.mem ((c.tc : Thread Cert.HgrnOut.nD Cert.HgrnOut.τ).loc Cert.HgrnOut.main_arg0) = m ((c.tc : Thread Cert.HgrnOut.nD Cert.HgrnOut.τ).loc Cert.HgrnOut.main_arg0)
      ∧ r.2.mem ((c.tc : Thread Cert.HgrnOut.nD Cert.HgrnOut.τ).loc Cert.HgrnOut.main_arg1) = m ((c.tc : Thread Cert.HgrnOut.nD Cert.HgrnOut.τ).loc Cert.HgrnOut.main_arg1)
      ∧ r.2.mem ((c.tc : Thread Cert.HgrnOut.nD Cert.HgrnOut.τ).loc Cert.HgrnOut.main_arg2) = m ((c.tc : Thread Cert.HgrnOut.nD Cert.HgrnOut.τ).loc Cert.HgrnOut.main_arg2)
      ∧ r.2.mem ((c.tc : Thread Cert.HgrnOut.nD Cert.HgrnOut.τ).loc Cert.HgrnOut.main_arg3) = m ((c.tc : Thread Cert.HgrnOut.nD Cert.HgrnOut.τ).loc Cert.HgrnOut.main_arg3)
      ∧ r.2.mem ((c.tc : Thread Cert.HgrnOut.nD Cert.HgrnOut.τ).loc Cert.HgrnOut.main_arg4) = m ((c.tc : Thread Cert.HgrnOut.nD Cert.HgrnOut.τ).loc Cert.HgrnOut.main_arg4)
      ∧ r.2.mem ((c.tc : Thread Cert.HgrnOut.nD Cert.HgrnOut.τ).loc Cert.HgrnOut.main_arg5) = m ((c.tc : Thread Cert.HgrnOut.nD Cert.HgrnOut.τ).loc Cert.HgrnOut.main_arg5))
      ∧ r.2.sem = fun _ => 0)

def quiescent_HgrnOutIdeal [hHgrnOutIdeal : Cert.HgrnOutIdeal.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg), Pre_HgrnOutIdeal m →
    θ_run (Cert.HgrnOutIdeal.defs (F := Ideal)) (onTc (τ := Cert.HgrnOutIdeal.τ) (Cert.HgrnOutIdeal.main (F := Ideal))) ⟨m, fun _ => 0, g⟩ (fun r => (∀ c : Dev Cert.HgrnOutIdeal.nD,
      r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
      ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
      ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2)
      ∧ r.2.mem ((c.tc : Thread Cert.HgrnOutIdeal.nD Cert.HgrnOutIdeal.τ).loc Cert.HgrnOutIdeal.main_arg3) = m ((c.tc : Thread Cert.HgrnOutIdeal.nD Cert.HgrnOutIdeal.τ).loc Cert.HgrnOutIdeal.main_arg3)
      ∧ r.2.mem ((c.tc : Thread Cert.HgrnOutIdeal.nD Cert.HgrnOutIdeal.τ).loc Cert.HgrnOutIdeal.main_arg4) = m ((c.tc : Thread Cert.HgrnOutIdeal.nD Cert.HgrnOutIdeal.τ).loc Cert.HgrnOutIdeal.main_arg4)
      ∧ r.2.mem ((c.tc : Thread Cert.HgrnOutIdeal.nD Cert.HgrnOutIdeal.τ).loc Cert.HgrnOutIdeal.main_arg5) = m ((c.tc : Thread Cert.HgrnOutIdeal.nD Cert.HgrnOutIdeal.τ).loc Cert.HgrnOutIdeal.main_arg5))
      ∧ r.2.sem = fun _ => 0)

def quiescent_HgrnOutIdeal_pre_finite_out [hHgrnOutIdeal : Cert.HgrnOutIdeal.Facts] [hPre_finite_out : Cert.Pre_finite_out.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg), Pre_HgrnOutIdeal_finite_out m →
    θ_run (Cert.HgrnOutIdeal.defs (F := Ideal)) (onTc (τ := Cert.HgrnOutIdeal.τ) (Cert.HgrnOutIdeal.main (F := Ideal))) ⟨m, fun _ => 0, g⟩ (fun r => (∀ c : Dev Cert.HgrnOutIdeal.nD,
      r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
      ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
      ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2)
      ∧ r.2.mem ((c.tc : Thread Cert.HgrnOutIdeal.nD Cert.HgrnOutIdeal.τ).loc Cert.HgrnOutIdeal.main_arg3) = m ((c.tc : Thread Cert.HgrnOutIdeal.nD Cert.HgrnOutIdeal.τ).loc Cert.HgrnOutIdeal.main_arg3)
      ∧ r.2.mem ((c.tc : Thread Cert.HgrnOutIdeal.nD Cert.HgrnOutIdeal.τ).loc Cert.HgrnOutIdeal.main_arg4) = m ((c.tc : Thread Cert.HgrnOutIdeal.nD Cert.HgrnOutIdeal.τ).loc Cert.HgrnOutIdeal.main_arg4)
      ∧ r.2.mem ((c.tc : Thread Cert.HgrnOutIdeal.nD Cert.HgrnOutIdeal.τ).loc Cert.HgrnOutIdeal.main_arg5) = m ((c.tc : Thread Cert.HgrnOutIdeal.nD Cert.HgrnOutIdeal.τ).loc Cert.HgrnOutIdeal.main_arg5))
      ∧ r.2.sem = fun _ => 0)

def quiescent_RefHgrnOutIdeal [hRefHgrnOutIdeal : Cert.RefHgrnOutIdeal.Facts] : Prop :=
  ∀ (m : (ℓ : Loc Cert.RefHgrnOutIdeal.nD Cert.RefHgrnOutIdeal.τ Cert.RefHgrnOutIdeal.sig) → Buf (Elt Ideal) ℓ) (g : Dev Cert.RefHgrnOutIdeal.nD → PrngReg), Pre_RefHgrnOutIdeal m →
    θ_run (Cert.RefHgrnOutIdeal.defs (F := Ideal)) (onTc (τ := Cert.RefHgrnOutIdeal.τ) (Cert.RefHgrnOutIdeal.main (F := Ideal))) ⟨m, fun _ => 0, g⟩ (fun r => (∀ c : Dev Cert.RefHgrnOutIdeal.nD,
      r.2.mem ((c.tc : Thread Cert.RefHgrnOutIdeal.nD Cert.RefHgrnOutIdeal.τ).loc Cert.RefHgrnOutIdeal.main_arg0) = m ((c.tc : Thread Cert.RefHgrnOutIdeal.nD Cert.RefHgrnOutIdeal.τ).loc Cert.RefHgrnOutIdeal.main_arg0)
      ∧ r.2.mem ((c.tc : Thread Cert.RefHgrnOutIdeal.nD Cert.RefHgrnOutIdeal.τ).loc Cert.RefHgrnOutIdeal.main_arg1) = m ((c.tc : Thread Cert.RefHgrnOutIdeal.nD Cert.RefHgrnOutIdeal.τ).loc Cert.RefHgrnOutIdeal.main_arg1)
      ∧ r.2.mem ((c.tc : Thread Cert.RefHgrnOutIdeal.nD Cert.RefHgrnOutIdeal.τ).loc Cert.RefHgrnOutIdeal.main_arg2) = m ((c.tc : Thread Cert.RefHgrnOutIdeal.nD Cert.RefHgrnOutIdeal.τ).loc Cert.RefHgrnOutIdeal.main_arg2)
      ∧ r.2.mem ((c.tc : Thread Cert.RefHgrnOutIdeal.nD Cert.RefHgrnOutIdeal.τ).loc Cert.RefHgrnOutIdeal.main_arg3) = m ((c.tc : Thread Cert.RefHgrnOutIdeal.nD Cert.RefHgrnOutIdeal.τ).loc Cert.RefHgrnOutIdeal.main_arg3)
      ∧ r.2.mem ((c.tc : Thread Cert.RefHgrnOutIdeal.nD Cert.RefHgrnOutIdeal.τ).loc Cert.RefHgrnOutIdeal.main_arg4) = m ((c.tc : Thread Cert.RefHgrnOutIdeal.nD Cert.RefHgrnOutIdeal.τ).loc Cert.RefHgrnOutIdeal.main_arg4)
      ∧ r.2.mem ((c.tc : Thread Cert.RefHgrnOutIdeal.nD Cert.RefHgrnOutIdeal.τ).loc Cert.RefHgrnOutIdeal.main_arg5) = m ((c.tc : Thread Cert.RefHgrnOutIdeal.nD Cert.RefHgrnOutIdeal.τ).loc Cert.RefHgrnOutIdeal.main_arg5))
      ∧ r.2.sem = fun _ => 0)

def quiescent_RefHgrnOutIdeal_pre_finite_out [hRefHgrnOutIdeal : Cert.RefHgrnOutIdeal.Facts] [hPre_finite_out : Cert.Pre_finite_out.Facts] : Prop :=
  ∀ (m : (ℓ : Loc Cert.RefHgrnOutIdeal.nD Cert.RefHgrnOutIdeal.τ Cert.RefHgrnOutIdeal.sig) → Buf (Elt Ideal) ℓ) (g : Dev Cert.RefHgrnOutIdeal.nD → PrngReg), Pre_RefHgrnOutIdeal_finite_out m →
    θ_run (Cert.RefHgrnOutIdeal.defs (F := Ideal)) (onTc (τ := Cert.RefHgrnOutIdeal.τ) (Cert.RefHgrnOutIdeal.main (F := Ideal))) ⟨m, fun _ => 0, g⟩ (fun r => (∀ c : Dev Cert.RefHgrnOutIdeal.nD,
      r.2.mem ((c.tc : Thread Cert.RefHgrnOutIdeal.nD Cert.RefHgrnOutIdeal.τ).loc Cert.RefHgrnOutIdeal.main_arg0) = m ((c.tc : Thread Cert.RefHgrnOutIdeal.nD Cert.RefHgrnOutIdeal.τ).loc Cert.RefHgrnOutIdeal.main_arg0)
      ∧ r.2.mem ((c.tc : Thread Cert.RefHgrnOutIdeal.nD Cert.RefHgrnOutIdeal.τ).loc Cert.RefHgrnOutIdeal.main_arg1) = m ((c.tc : Thread Cert.RefHgrnOutIdeal.nD Cert.RefHgrnOutIdeal.τ).loc Cert.RefHgrnOutIdeal.main_arg1)
      ∧ r.2.mem ((c.tc : Thread Cert.RefHgrnOutIdeal.nD Cert.RefHgrnOutIdeal.τ).loc Cert.RefHgrnOutIdeal.main_arg2) = m ((c.tc : Thread Cert.RefHgrnOutIdeal.nD Cert.RefHgrnOutIdeal.τ).loc Cert.RefHgrnOutIdeal.main_arg2)
      ∧ r.2.mem ((c.tc : Thread Cert.RefHgrnOutIdeal.nD Cert.RefHgrnOutIdeal.τ).loc Cert.RefHgrnOutIdeal.main_arg3) = m ((c.tc : Thread Cert.RefHgrnOutIdeal.nD Cert.RefHgrnOutIdeal.τ).loc Cert.RefHgrnOutIdeal.main_arg3)
      ∧ r.2.mem ((c.tc : Thread Cert.RefHgrnOutIdeal.nD Cert.RefHgrnOutIdeal.τ).loc Cert.RefHgrnOutIdeal.main_arg4) = m ((c.tc : Thread Cert.RefHgrnOutIdeal.nD Cert.RefHgrnOutIdeal.τ).loc Cert.RefHgrnOutIdeal.main_arg4)
      ∧ r.2.mem ((c.tc : Thread Cert.RefHgrnOutIdeal.nD Cert.RefHgrnOutIdeal.τ).loc Cert.RefHgrnOutIdeal.main_arg5) = m ((c.tc : Thread Cert.RefHgrnOutIdeal.nD Cert.RefHgrnOutIdeal.τ).loc Cert.RefHgrnOutIdeal.main_arg5))
      ∧ r.2.sem = fun _ => 0)

def preserves_Kernel_KernelIdeal : Prop :=
  True

def algebraic_KernelIdeal_ReferenceIdeal_pre_finite_gate [hKernelIdeal : Cert.KernelIdeal.Facts] [hReferenceIdeal : Cert.ReferenceIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v72) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DownDx_DownDxIdeal : Prop :=
  True

def algebraic_DownDxIdeal_RefDownDxIdeal [hDownDxIdeal : Cert.DownDxIdeal.Facts] [hRefDownDxIdeal : Cert.RefDownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.RefDownDxIdeal.nD Cert.RefDownDxIdeal.τ Cert.RefDownDxIdeal.sig) → Buf (Elt Ideal) ℓ) (g' : Dev Cert.RefDownDxIdeal.nD → PrngReg), Pre_DownDxIdeal m →
    (∀ c : Dev Cert.DownDxIdeal.nD,
      m' ((c.tc : Thread Cert.RefDownDxIdeal.nD Cert.RefDownDxIdeal.τ).loc Cert.RefDownDxIdeal.main_arg0) = m ((c.tc : Thread Cert.DownDxIdeal.nD Cert.DownDxIdeal.τ).loc Cert.DownDxIdeal.main_arg0)
      ∧ m' ((c.tc : Thread Cert.RefDownDxIdeal.nD Cert.RefDownDxIdeal.τ).loc Cert.RefDownDxIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.RefDownDxIdeal.defs (F := Ideal)) (onTc (τ := Cert.RefDownDxIdeal.τ) (Cert.RefDownDxIdeal.main (F := Ideal))) ⟨m', fun _ => 0, g'⟩ (fun r => ∀ c : Dev Cert.RefDownDxIdeal.nD,
          r.2.mem ((c.tc : Thread Cert.RefDownDxIdeal.nD Cert.RefDownDxIdeal.τ).loc Cert.RefDownDxIdeal.main_v5) = v0 c
          ∧ r.2.mem ((c.tc : Thread Cert.RefDownDxIdeal.nD Cert.RefDownDxIdeal.τ).loc Cert.RefDownDxIdeal.main_arg0) = m' ((c.tc : Thread Cert.RefDownDxIdeal.nD Cert.RefDownDxIdeal.τ).loc Cert.RefDownDxIdeal.main_arg0)
          ∧ r.2.mem ((c.tc : Thread Cert.RefDownDxIdeal.nD Cert.RefDownDxIdeal.τ).loc Cert.RefDownDxIdeal.main_arg1) = m' ((c.tc : Thread Cert.RefDownDxIdeal.nD Cert.RefDownDxIdeal.τ).loc Cert.RefDownDxIdeal.main_arg1))

def preserves_DownDw_DownDwIdeal : Prop :=
  True

def algebraic_DownDwIdeal_RefDownDwIdeal [hDownDwIdeal : Cert.DownDwIdeal.Facts] [hRefDownDwIdeal : Cert.RefDownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.RefDownDwIdeal.nD Cert.RefDownDwIdeal.τ Cert.RefDownDwIdeal.sig) → Buf (Elt Ideal) ℓ) (g' : Dev Cert.RefDownDwIdeal.nD → PrngReg), Pre_DownDwIdeal m →
    (∀ c : Dev Cert.DownDwIdeal.nD,
      m' ((c.tc : Thread Cert.RefDownDwIdeal.nD Cert.RefDownDwIdeal.τ).loc Cert.RefDownDwIdeal.main_arg0) = m ((c.tc : Thread Cert.DownDwIdeal.nD Cert.DownDwIdeal.τ).loc Cert.DownDwIdeal.main_arg0)
      ∧ m' ((c.tc : Thread Cert.RefDownDwIdeal.nD Cert.RefDownDwIdeal.τ).loc Cert.RefDownDwIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.RefDownDwIdeal.defs (F := Ideal)) (onTc (τ := Cert.RefDownDwIdeal.τ) (Cert.RefDownDwIdeal.main (F := Ideal))) ⟨m', fun _ => 0, g'⟩ (fun r => ∀ c : Dev Cert.RefDownDwIdeal.nD,
          r.2.mem ((c.tc : Thread Cert.RefDownDwIdeal.nD Cert.RefDownDwIdeal.τ).loc Cert.RefDownDwIdeal.main_v6) = v0 c
          ∧ r.2.mem ((c.tc : Thread Cert.RefDownDwIdeal.nD Cert.RefDownDwIdeal.τ).loc Cert.RefDownDwIdeal.main_arg0) = m' ((c.tc : Thread Cert.RefDownDwIdeal.nD Cert.RefDownDwIdeal.τ).loc Cert.RefDownDwIdeal.main_arg0)
          ∧ r.2.mem ((c.tc : Thread Cert.RefDownDwIdeal.nD Cert.RefDownDwIdeal.τ).loc Cert.RefDownDwIdeal.main_arg1) = m' ((c.tc : Thread Cert.RefDownDwIdeal.nD Cert.RefDownDwIdeal.τ).loc Cert.RefDownDwIdeal.main_arg1))

def preserves_GateDx_GateDxIdeal : Prop :=
  True

def algebraic_GateDxIdeal_RefGateDxIdeal [hGateDxIdeal : Cert.GateDxIdeal.Facts] [hRefGateDxIdeal : Cert.RefGateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.RefGateDxIdeal.nD Cert.RefGateDxIdeal.τ Cert.RefGateDxIdeal.sig) → Buf (Elt Ideal) ℓ) (g' : Dev Cert.RefGateDxIdeal.nD → PrngReg), Pre_GateDxIdeal m →
    (∀ c : Dev Cert.GateDxIdeal.nD,
      m' ((c.tc : Thread Cert.RefGateDxIdeal.nD Cert.RefGateDxIdeal.τ).loc Cert.RefGateDxIdeal.main_arg0) = m ((c.tc : Thread Cert.GateDxIdeal.nD Cert.GateDxIdeal.τ).loc Cert.GateDxIdeal.main_arg0)
      ∧ m' ((c.tc : Thread Cert.RefGateDxIdeal.nD Cert.RefGateDxIdeal.τ).loc Cert.RefGateDxIdeal.main_arg1) = m ((c.tc : Thread Cert.GateDxIdeal.nD Cert.GateDxIdeal.τ).loc Cert.GateDxIdeal.main_arg1)) →
    ∃ (v0 : (c : Dev Cert.GateDxIdeal.nD) → Buf (Elt Ideal) ((c.tc : Thread Cert.GateDxIdeal.nD Cert.GateDxIdeal.τ).loc Cert.GateDxIdeal.main_v0)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v0) = v0 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ θ_run (Cert.RefGateDxIdeal.defs (F := Ideal)) (onTc (τ := Cert.RefGateDxIdeal.τ) (Cert.RefGateDxIdeal.main (F := Ideal))) ⟨m', fun _ => 0, g'⟩ (fun r => ∀ c : Dev Cert.RefGateDxIdeal.nD,
          r.2.mem ((c.tc : Thread Cert.RefGateDxIdeal.nD Cert.RefGateDxIdeal.τ).loc Cert.RefGateDxIdeal.main_v5) = v0 c
          ∧ r.2.mem ((c.tc : Thread Cert.RefGateDxIdeal.nD Cert.RefGateDxIdeal.τ).loc Cert.RefGateDxIdeal.main_arg0) = m' ((c.tc : Thread Cert.RefGateDxIdeal.nD Cert.RefGateDxIdeal.τ).loc Cert.RefGateDxIdeal.main_arg0)
          ∧ r.2.mem ((c.tc : Thread Cert.RefGateDxIdeal.nD Cert.RefGateDxIdeal.τ).loc Cert.RefGateDxIdeal.main_arg1) = m' ((c.tc : Thread Cert.RefGateDxIdeal.nD Cert.RefGateDxIdeal.τ).loc Cert.RefGateDxIdeal.main_arg1))

def preserves_UpDx_UpDxIdeal : Prop :=
  True

def algebraic_UpDxIdeal_RefUpDxIdeal [hUpDxIdeal : Cert.UpDxIdeal.Facts] [hRefUpDxIdeal : Cert.RefUpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.RefUpDxIdeal.nD Cert.RefUpDxIdeal.τ Cert.RefUpDxIdeal.sig) → Buf (Elt Ideal) ℓ) (g' : Dev Cert.RefUpDxIdeal.nD → PrngReg), Pre_UpDxIdeal m →
    (∀ c : Dev Cert.UpDxIdeal.nD,
      m' ((c.tc : Thread Cert.RefUpDxIdeal.nD Cert.RefUpDxIdeal.τ).loc Cert.RefUpDxIdeal.main_arg0) = m ((c.tc : Thread Cert.UpDxIdeal.nD Cert.UpDxIdeal.τ).loc Cert.UpDxIdeal.main_arg0)
      ∧ m' ((c.tc : Thread Cert.RefUpDxIdeal.nD Cert.RefUpDxIdeal.τ).loc Cert.RefUpDxIdeal.main_arg1) = m ((c.tc : Thread Cert.UpDxIdeal.nD Cert.UpDxIdeal.τ).loc Cert.UpDxIdeal.main_arg1)
      ∧ m' ((c.tc : Thread Cert.RefUpDxIdeal.nD Cert.RefUpDxIdeal.τ).loc Cert.RefUpDxIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.RefUpDxIdeal.defs (F := Ideal)) (onTc (τ := Cert.RefUpDxIdeal.τ) (Cert.RefUpDxIdeal.main (F := Ideal))) ⟨m', fun _ => 0, g'⟩ (fun r => ∀ c : Dev Cert.RefUpDxIdeal.nD,
          r.2.mem ((c.tc : Thread Cert.RefUpDxIdeal.nD Cert.RefUpDxIdeal.τ).loc Cert.RefUpDxIdeal.main_v6) = v0 c
          ∧ r.2.mem ((c.tc : Thread Cert.RefUpDxIdeal.nD Cert.RefUpDxIdeal.τ).loc Cert.RefUpDxIdeal.main_arg0) = m' ((c.tc : Thread Cert.RefUpDxIdeal.nD Cert.RefUpDxIdeal.τ).loc Cert.RefUpDxIdeal.main_arg0)
          ∧ r.2.mem ((c.tc : Thread Cert.RefUpDxIdeal.nD Cert.RefUpDxIdeal.τ).loc Cert.RefUpDxIdeal.main_arg1) = m' ((c.tc : Thread Cert.RefUpDxIdeal.nD Cert.RefUpDxIdeal.τ).loc Cert.RefUpDxIdeal.main_arg1)
          ∧ r.2.mem ((c.tc : Thread Cert.RefUpDxIdeal.nD Cert.RefUpDxIdeal.τ).loc Cert.RefUpDxIdeal.main_arg2) = m' ((c.tc : Thread Cert.RefUpDxIdeal.nD Cert.RefUpDxIdeal.τ).loc Cert.RefUpDxIdeal.main_arg2))

def preserves_GateDw_GateDwIdeal : Prop :=
  True

def algebraic_GateDwIdeal_RefGateDwIdeal [hGateDwIdeal : Cert.GateDwIdeal.Facts] [hRefGateDwIdeal : Cert.RefGateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.RefGateDwIdeal.nD Cert.RefGateDwIdeal.τ Cert.RefGateDwIdeal.sig) → Buf (Elt Ideal) ℓ) (g' : Dev Cert.RefGateDwIdeal.nD → PrngReg), Pre_GateDwIdeal m →
    (∀ c : Dev Cert.GateDwIdeal.nD,
      m' ((c.tc : Thread Cert.RefGateDwIdeal.nD Cert.RefGateDwIdeal.τ).loc Cert.RefGateDwIdeal.main_arg0) = m ((c.tc : Thread Cert.GateDwIdeal.nD Cert.GateDwIdeal.τ).loc Cert.GateDwIdeal.main_arg0)
      ∧ m' ((c.tc : Thread Cert.RefGateDwIdeal.nD Cert.RefGateDwIdeal.τ).loc Cert.RefGateDwIdeal.main_arg1) = m ((c.tc : Thread Cert.GateDwIdeal.nD Cert.GateDwIdeal.τ).loc Cert.GateDwIdeal.main_arg1)) →
    ∃ (v0 : (c : Dev Cert.GateDwIdeal.nD) → Buf (Elt Ideal) ((c.tc : Thread Cert.GateDwIdeal.nD Cert.GateDwIdeal.τ).loc Cert.GateDwIdeal.main_v0)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v0) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ θ_run (Cert.RefGateDwIdeal.defs (F := Ideal)) (onTc (τ := Cert.RefGateDwIdeal.τ) (Cert.RefGateDwIdeal.main (F := Ideal))) ⟨m', fun _ => 0, g'⟩ (fun r => ∀ c : Dev Cert.RefGateDwIdeal.nD,
          r.2.mem ((c.tc : Thread Cert.RefGateDwIdeal.nD Cert.RefGateDwIdeal.τ).loc Cert.RefGateDwIdeal.main_v8) = v0 c
          ∧ r.2.mem ((c.tc : Thread Cert.RefGateDwIdeal.nD Cert.RefGateDwIdeal.τ).loc Cert.RefGateDwIdeal.main_arg0) = m' ((c.tc : Thread Cert.RefGateDwIdeal.nD Cert.RefGateDwIdeal.τ).loc Cert.RefGateDwIdeal.main_arg0)
          ∧ r.2.mem ((c.tc : Thread Cert.RefGateDwIdeal.nD Cert.RefGateDwIdeal.τ).loc Cert.RefGateDwIdeal.main_arg1) = m' ((c.tc : Thread Cert.RefGateDwIdeal.nD Cert.RefGateDwIdeal.τ).loc Cert.RefGateDwIdeal.main_arg1))

def preserves_OutDx_OutDxIdeal : Prop :=
  True

def algebraic_OutDxIdeal_RefOutDxIdeal [hOutDxIdeal : Cert.OutDxIdeal.Facts] [hRefOutDxIdeal : Cert.RefOutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.RefOutDxIdeal.nD Cert.RefOutDxIdeal.τ Cert.RefOutDxIdeal.sig) → Buf (Elt Ideal) ℓ) (g' : Dev Cert.RefOutDxIdeal.nD → PrngReg), Pre_OutDxIdeal m →
    (∀ c : Dev Cert.OutDxIdeal.nD,
      m' ((c.tc : Thread Cert.RefOutDxIdeal.nD Cert.RefOutDxIdeal.τ).loc Cert.RefOutDxIdeal.main_arg0) = m ((c.tc : Thread Cert.OutDxIdeal.nD Cert.OutDxIdeal.τ).loc Cert.OutDxIdeal.main_arg0)
      ∧ m' ((c.tc : Thread Cert.RefOutDxIdeal.nD Cert.RefOutDxIdeal.τ).loc Cert.RefOutDxIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.RefOutDxIdeal.defs (F := Ideal)) (onTc (τ := Cert.RefOutDxIdeal.τ) (Cert.RefOutDxIdeal.main (F := Ideal))) ⟨m', fun _ => 0, g'⟩ (fun r => ∀ c : Dev Cert.RefOutDxIdeal.nD,
          r.2.mem ((c.tc : Thread Cert.RefOutDxIdeal.nD Cert.RefOutDxIdeal.τ).loc Cert.RefOutDxIdeal.main_v4) = v0 c
          ∧ r.2.mem ((c.tc : Thread Cert.RefOutDxIdeal.nD Cert.RefOutDxIdeal.τ).loc Cert.RefOutDxIdeal.main_arg0) = m' ((c.tc : Thread Cert.RefOutDxIdeal.nD Cert.RefOutDxIdeal.τ).loc Cert.RefOutDxIdeal.main_arg0)
          ∧ r.2.mem ((c.tc : Thread Cert.RefOutDxIdeal.nD Cert.RefOutDxIdeal.τ).loc Cert.RefOutDxIdeal.main_arg1) = m' ((c.tc : Thread Cert.RefOutDxIdeal.nD Cert.RefOutDxIdeal.τ).loc Cert.RefOutDxIdeal.main_arg1))

def preserves_OutDw_OutDwIdeal : Prop :=
  True

def algebraic_OutDwIdeal_RefOutDwIdeal [hOutDwIdeal : Cert.OutDwIdeal.Facts] [hRefOutDwIdeal : Cert.RefOutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.RefOutDwIdeal.nD Cert.RefOutDwIdeal.τ Cert.RefOutDwIdeal.sig) → Buf (Elt Ideal) ℓ) (g' : Dev Cert.RefOutDwIdeal.nD → PrngReg), Pre_OutDwIdeal m →
    (∀ c : Dev Cert.OutDwIdeal.nD,
      m' ((c.tc : Thread Cert.RefOutDwIdeal.nD Cert.RefOutDwIdeal.τ).loc Cert.RefOutDwIdeal.main_arg0) = m ((c.tc : Thread Cert.OutDwIdeal.nD Cert.OutDwIdeal.τ).loc Cert.OutDwIdeal.main_arg0)
      ∧ m' ((c.tc : Thread Cert.RefOutDwIdeal.nD Cert.RefOutDwIdeal.τ).loc Cert.RefOutDwIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.RefOutDwIdeal.defs (F := Ideal)) (onTc (τ := Cert.RefOutDwIdeal.τ) (Cert.RefOutDwIdeal.main (F := Ideal))) ⟨m', fun _ => 0, g'⟩ (fun r => ∀ c : Dev Cert.RefOutDwIdeal.nD,
          r.2.mem ((c.tc : Thread Cert.RefOutDwIdeal.nD Cert.RefOutDwIdeal.τ).loc Cert.RefOutDwIdeal.main_v6) = v0 c
          ∧ r.2.mem ((c.tc : Thread Cert.RefOutDwIdeal.nD Cert.RefOutDwIdeal.τ).loc Cert.RefOutDwIdeal.main_arg0) = m' ((c.tc : Thread Cert.RefOutDwIdeal.nD Cert.RefOutDwIdeal.τ).loc Cert.RefOutDwIdeal.main_arg0)
          ∧ r.2.mem ((c.tc : Thread Cert.RefOutDwIdeal.nD Cert.RefOutDwIdeal.τ).loc Cert.RefOutDwIdeal.main_arg1) = m' ((c.tc : Thread Cert.RefOutDwIdeal.nD Cert.RefOutDwIdeal.τ).loc Cert.RefOutDwIdeal.main_arg1))

def preserves_ProjDx_ProjDxIdeal : Prop :=
  True

def algebraic_ProjDxIdeal_RefProjDxIdeal [hProjDxIdeal : Cert.ProjDxIdeal.Facts] [hRefProjDxIdeal : Cert.RefProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.RefProjDxIdeal.nD Cert.RefProjDxIdeal.τ Cert.RefProjDxIdeal.sig) → Buf (Elt Ideal) ℓ) (g' : Dev Cert.RefProjDxIdeal.nD → PrngReg), Pre_ProjDxIdeal m →
    (∀ c : Dev Cert.ProjDxIdeal.nD,
      m' ((c.tc : Thread Cert.RefProjDxIdeal.nD Cert.RefProjDxIdeal.τ).loc Cert.RefProjDxIdeal.main_arg0) = m ((c.tc : Thread Cert.ProjDxIdeal.nD Cert.ProjDxIdeal.τ).loc Cert.ProjDxIdeal.main_arg0)
      ∧ m' ((c.tc : Thread Cert.RefProjDxIdeal.nD Cert.RefProjDxIdeal.τ).loc Cert.RefProjDxIdeal.main_arg1) = m ((c.tc : Thread Cert.ProjDxIdeal.nD Cert.ProjDxIdeal.τ).loc Cert.ProjDxIdeal.main_arg1)
      ∧ m' ((c.tc : Thread Cert.RefProjDxIdeal.nD Cert.RefProjDxIdeal.τ).loc Cert.RefProjDxIdeal.main_arg2) = m ((c.tc : Thread Cert.ProjDxIdeal.nD Cert.ProjDxIdeal.τ).loc Cert.ProjDxIdeal.main_arg2)) →
    ∃ (v0 : (c : Dev Cert.ProjDxIdeal.nD) → Buf (Elt Ideal) ((c.tc : Thread Cert.ProjDxIdeal.nD Cert.ProjDxIdeal.τ).loc Cert.ProjDxIdeal.main_v0)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
          ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2))
      ∧ θ_run (Cert.RefProjDxIdeal.defs (F := Ideal)) (onTc (τ := Cert.RefProjDxIdeal.τ) (Cert.RefProjDxIdeal.main (F := Ideal))) ⟨m', fun _ => 0, g'⟩ (fun r => ∀ c : Dev Cert.RefProjDxIdeal.nD,
          r.2.mem ((c.tc : Thread Cert.RefProjDxIdeal.nD Cert.RefProjDxIdeal.τ).loc Cert.RefProjDxIdeal.main_v10) = v0 c
          ∧ r.2.mem ((c.tc : Thread Cert.RefProjDxIdeal.nD Cert.RefProjDxIdeal.τ).loc Cert.RefProjDxIdeal.main_arg0) = m' ((c.tc : Thread Cert.RefProjDxIdeal.nD Cert.RefProjDxIdeal.τ).loc Cert.RefProjDxIdeal.main_arg0)
          ∧ r.2.mem ((c.tc : Thread Cert.RefProjDxIdeal.nD Cert.RefProjDxIdeal.τ).loc Cert.RefProjDxIdeal.main_arg1) = m' ((c.tc : Thread Cert.RefProjDxIdeal.nD Cert.RefProjDxIdeal.τ).loc Cert.RefProjDxIdeal.main_arg1)
          ∧ r.2.mem ((c.tc : Thread Cert.RefProjDxIdeal.nD Cert.RefProjDxIdeal.τ).loc Cert.RefProjDxIdeal.main_arg2) = m' ((c.tc : Thread Cert.RefProjDxIdeal.nD Cert.RefProjDxIdeal.τ).loc Cert.RefProjDxIdeal.main_arg2))

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v3) = v0 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1))

def preserves_MixOut_MixOutIdeal : Prop :=
  True

def algebraic_MixOutIdeal_RefMixOutIdeal [hMixOutIdeal : Cert.MixOutIdeal.Facts] [hRefMixOutIdeal : Cert.RefMixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.RefMixOutIdeal.nD Cert.RefMixOutIdeal.τ Cert.RefMixOutIdeal.sig) → Buf (Elt Ideal) ℓ) (g' : Dev Cert.RefMixOutIdeal.nD → PrngReg), Pre_MixOutIdeal m →
    (∀ c : Dev Cert.MixOutIdeal.nD,
      m' ((c.tc : Thread Cert.RefMixOutIdeal.nD Cert.RefMixOutIdeal.τ).loc Cert.RefMixOutIdeal.main_arg0) = m ((c.tc : Thread Cert.MixOutIdeal.nD Cert.MixOutIdeal.τ).loc Cert.MixOutIdeal.main_arg0)
      ∧ m' ((c.tc : Thread Cert.RefMixOutIdeal.nD Cert.RefMixOutIdeal.τ).loc Cert.RefMixOutIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.RefMixOutIdeal.defs (F := Ideal)) (onTc (τ := Cert.RefMixOutIdeal.τ) (Cert.RefMixOutIdeal.main (F := Ideal))) ⟨m', fun _ => 0, g'⟩ (fun r => ∀ c : Dev Cert.RefMixOutIdeal.nD,
          r.2.mem ((c.tc : Thread Cert.RefMixOutIdeal.nD Cert.RefMixOutIdeal.τ).loc Cert.RefMixOutIdeal.main_v2) = v0 c
          ∧ r.2.mem ((c.tc : Thread Cert.RefMixOutIdeal.nD Cert.RefMixOutIdeal.τ).loc Cert.RefMixOutIdeal.main_arg0) = m' ((c.tc : Thread Cert.RefMixOutIdeal.nD Cert.RefMixOutIdeal.τ).loc Cert.RefMixOutIdeal.main_arg0)
          ∧ r.2.mem ((c.tc : Thread Cert.RefMixOutIdeal.nD Cert.RefMixOutIdeal.τ).loc Cert.RefMixOutIdeal.main_arg1) = m' ((c.tc : Thread Cert.RefMixOutIdeal.nD Cert.RefMixOutIdeal.τ).loc Cert.RefMixOutIdeal.main_arg1))

def preserves_Gate_GateIdeal : Prop :=
  True

def algebraic_GateIdeal_RefGateIdeal [hGateIdeal : Cert.GateIdeal.Facts] [hRefGateIdeal : Cert.RefGateIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.RefGateIdeal.nD Cert.RefGateIdeal.τ Cert.RefGateIdeal.sig) → Buf (Elt Ideal) ℓ) (g' : Dev Cert.RefGateIdeal.nD → PrngReg), Pre_GateIdeal m →
    (∀ c : Dev Cert.GateIdeal.nD,
      m' ((c.tc : Thread Cert.RefGateIdeal.nD Cert.RefGateIdeal.τ).loc Cert.RefGateIdeal.main_arg0) = m ((c.tc : Thread Cert.GateIdeal.nD Cert.GateIdeal.τ).loc Cert.GateIdeal.main_arg0)
      ∧ m' ((c.tc : Thread Cert.RefGateIdeal.nD Cert.RefGateIdeal.τ).loc Cert.RefGateIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.RefGateIdeal.defs (F := Ideal)) (onTc (τ := Cert.RefGateIdeal.τ) (Cert.RefGateIdeal.main (F := Ideal))) ⟨m', fun _ => 0, g'⟩ (fun r => ∀ c : Dev Cert.RefGateIdeal.nD,
          r.2.mem ((c.tc : Thread Cert.RefGateIdeal.nD Cert.RefGateIdeal.τ).loc Cert.RefGateIdeal.main_v4) = v0 c
          ∧ r.2.mem ((c.tc : Thread Cert.RefGateIdeal.nD Cert.RefGateIdeal.τ).loc Cert.RefGateIdeal.main_arg0) = m' ((c.tc : Thread Cert.RefGateIdeal.nD Cert.RefGateIdeal.τ).loc Cert.RefGateIdeal.main_arg0)
          ∧ r.2.mem ((c.tc : Thread Cert.RefGateIdeal.nD Cert.RefGateIdeal.τ).loc Cert.RefGateIdeal.main_arg1) = m' ((c.tc : Thread Cert.RefGateIdeal.nD Cert.RefGateIdeal.τ).loc Cert.RefGateIdeal.main_arg1))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v2) = v0 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1))

def preserves_AdamSmall_AdamSmallIdeal : Prop :=
  True

def algebraic_AdamSmallIdeal_RefAdamSmallIdeal [hAdamSmallIdeal : Cert.AdamSmallIdeal.Facts] [hRefAdamSmallIdeal : Cert.RefAdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.RefAdamSmallIdeal.nD Cert.RefAdamSmallIdeal.τ Cert.RefAdamSmallIdeal.sig) → Buf (Elt Ideal) ℓ) (g' : Dev Cert.RefAdamSmallIdeal.nD → PrngReg), Pre_AdamSmallIdeal m →
    (∀ c : Dev Cert.AdamSmallIdeal.nD,
      m' ((c.tc : Thread Cert.RefAdamSmallIdeal.nD Cert.RefAdamSmallIdeal.τ).loc Cert.RefAdamSmallIdeal.main_arg0) = m ((c.tc : Thread Cert.AdamSmallIdeal.nD Cert.AdamSmallIdeal.τ).loc Cert.AdamSmallIdeal.main_arg0)
      ∧ m' ((c.tc : Thread Cert.RefAdamSmallIdeal.nD Cert.RefAdamSmallIdeal.τ).loc Cert.RefAdamSmallIdeal.main_arg1) = m ((c.tc : Thread Cert.AdamSmallIdeal.nD Cert.AdamSmallIdeal.τ).loc Cert.AdamSmallIdeal.main_arg1)
      ∧ m' ((c.tc : Thread Cert.RefAdamSmallIdeal.nD Cert.RefAdamSmallIdeal.τ).loc Cert.RefAdamSmallIdeal.main_arg2) = m ((c.tc : Thread Cert.AdamSmallIdeal.nD Cert.AdamSmallIdeal.τ).loc Cert.AdamSmallIdeal.main_arg2)
      ∧ m' ((c.tc : Thread Cert.RefAdamSmallIdeal.nD Cert.RefAdamSmallIdeal.τ).loc Cert.RefAdamSmallIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.RefAdamSmallIdeal.defs (F := Ideal)) (onTc (τ := Cert.RefAdamSmallIdeal.τ) (Cert.RefAdamSmallIdeal.main (F := Ideal))) ⟨m', fun _ => 0, g'⟩ (fun r => ∀ c : Dev Cert.RefAdamSmallIdeal.nD,
          r.2.mem ((c.tc : Thread Cert.RefAdamSmallIdeal.nD Cert.RefAdamSmallIdeal.τ).loc Cert.RefAdamSmallIdeal.main_v23) = v0 c
          ∧ r.2.mem ((c.tc : Thread Cert.RefAdamSmallIdeal.nD Cert.RefAdamSmallIdeal.τ).loc Cert.RefAdamSmallIdeal.main_v4) = v1 c
          ∧ r.2.mem ((c.tc : Thread Cert.RefAdamSmallIdeal.nD Cert.RefAdamSmallIdeal.τ).loc Cert.RefAdamSmallIdeal.main_v10) = v2 c
          ∧ r.2.mem ((c.tc : Thread Cert.RefAdamSmallIdeal.nD Cert.RefAdamSmallIdeal.τ).loc Cert.RefAdamSmallIdeal.main_arg0) = m' ((c.tc : Thread Cert.RefAdamSmallIdeal.nD Cert.RefAdamSmallIdeal.τ).loc Cert.RefAdamSmallIdeal.main_arg0)
          ∧ r.2.mem ((c.tc : Thread Cert.RefAdamSmallIdeal.nD Cert.RefAdamSmallIdeal.τ).loc Cert.RefAdamSmallIdeal.main_arg1) = m' ((c.tc : Thread Cert.RefAdamSmallIdeal.nD Cert.RefAdamSmallIdeal.τ).loc Cert.RefAdamSmallIdeal.main_arg1)
          ∧ r.2.mem ((c.tc : Thread Cert.RefAdamSmallIdeal.nD Cert.RefAdamSmallIdeal.τ).loc Cert.RefAdamSmallIdeal.main_arg2) = m' ((c.tc : Thread Cert.RefAdamSmallIdeal.nD Cert.RefAdamSmallIdeal.τ).loc Cert.RefAdamSmallIdeal.main_arg2)
          ∧ r.2.mem ((c.tc : Thread Cert.RefAdamSmallIdeal.nD Cert.RefAdamSmallIdeal.τ).loc Cert.RefAdamSmallIdeal.main_arg3) = m' ((c.tc : Thread Cert.RefAdamSmallIdeal.nD Cert.RefAdamSmallIdeal.τ).loc Cert.RefAdamSmallIdeal.main_arg3))

def preserves_Upper_UpperIdeal : Prop :=
  True

def algebraic_UpperIdeal_RefUpperIdeal [hUpperIdeal : Cert.UpperIdeal.Facts] [hRefUpperIdeal : Cert.RefUpperIdeal.Facts] [hPre_a_chip_upper : Cert.Pre_a_chip_upper.Facts] : Prop :=
  ∀ (m : (ℓ : Loc Cert.UpperIdeal.nD Cert.UpperIdeal.τ Cert.UpperIdeal.sig) → Buf (Elt Ideal) ℓ) (g : Dev Cert.UpperIdeal.nD → PrngReg)
    (m' : (ℓ : Loc Cert.RefUpperIdeal.nD Cert.RefUpperIdeal.τ Cert.RefUpperIdeal.sig) → Buf (Elt Ideal) ℓ) (g' : Dev Cert.RefUpperIdeal.nD → PrngReg), Pre_UpperIdeal m →
    (∀ c : Dev Cert.UpperIdeal.nD,
      m' ((c.tc : Thread Cert.RefUpperIdeal.nD Cert.RefUpperIdeal.τ).loc Cert.RefUpperIdeal.main_arg0) = m ((c.tc : Thread Cert.UpperIdeal.nD Cert.UpperIdeal.τ).loc Cert.UpperIdeal.main_arg0)
      ∧ m' ((c.tc : Thread Cert.RefUpperIdeal.nD Cert.RefUpperIdeal.τ).loc Cert.RefUpperIdeal.main_arg1) = m ((c.tc : Thread Cert.UpperIdeal.nD Cert.UpperIdeal.τ).loc Cert.UpperIdeal.main_arg1)
      ∧ m' ((c.tc : Thread Cert.RefUpperIdeal.nD Cert.RefUpperIdeal.τ).loc Cert.RefUpperIdeal.main_arg2) = m ((c.tc : Thread Cert.UpperIdeal.nD Cert.UpperIdeal.τ).loc Cert.UpperIdeal.main_arg2)
      ∧ m' ((c.tc : Thread Cert.RefUpperIdeal.nD Cert.RefUpperIdeal.τ).loc Cert.RefUpperIdeal.main_arg3) = m ((c.tc : Thread Cert.UpperIdeal.nD Cert.UpperIdeal.τ).loc Cert.UpperIdeal.main_arg3)
      ∧ m' ((c.tc : Thread Cert.RefUpperIdeal.nD Cert.RefUpperIdeal.τ).loc Cert.RefUpperIdeal.main_arg4) = m ((c.tc : Thread Cert.UpperIdeal.nD Cert.UpperIdeal.τ).loc Cert.UpperIdeal.main_arg4)
      ∧ m' ((c.tc : Thread Cert.RefUpperIdeal.nD Cert.RefUpperIdeal.τ).loc Cert.RefUpperIdeal.main_arg5) = m ((c.tc : Thread Cert.UpperIdeal.nD Cert.UpperIdeal.τ).loc Cert.UpperIdeal.main_arg5)) →
    ∃ (v0 : (c : Dev Cert.UpperIdeal.nD) → Buf (Elt Ideal) ((c.tc : Thread Cert.UpperIdeal.nD Cert.UpperIdeal.τ).loc Cert.UpperIdeal.main_v3)) (v1 : (c : Dev Cert.UpperIdeal.nD) → Buf (Elt Ideal) ((c.tc : Thread Cert.UpperIdeal.nD Cert.UpperIdeal.τ).loc Cert.UpperIdeal.main_v5)) (v2 : (c : Dev Cert.UpperIdeal.nD) → Buf (Elt Ideal) ((c.tc : Thread Cert.UpperIdeal.nD Cert.UpperIdeal.τ).loc Cert.UpperIdeal.main_v7)) (v3 : (c : Dev Cert.UpperIdeal.nD) → Buf (Elt Ideal) ((c.tc : Thread Cert.UpperIdeal.nD Cert.UpperIdeal.τ).loc Cert.UpperIdeal.main_v9)),
      θ_run (Cert.UpperIdeal.defs (F := Ideal)) (onTc (τ := Cert.UpperIdeal.τ) (Cert.UpperIdeal.main (F := Ideal))) ⟨m, fun _ => 0, g⟩ (fun r => ∀ c : Dev Cert.UpperIdeal.nD,
          r.2.mem ((c.tc : Thread Cert.UpperIdeal.nD Cert.UpperIdeal.τ).loc Cert.UpperIdeal.main_v3) = v0 c
          ∧ r.2.mem ((c.tc : Thread Cert.UpperIdeal.nD Cert.UpperIdeal.τ).loc Cert.UpperIdeal.main_v5) = v1 c
          ∧ r.2.mem ((c.tc : Thread Cert.UpperIdeal.nD Cert.UpperIdeal.τ).loc Cert.UpperIdeal.main_v7) = v2 c
          ∧ r.2.mem ((c.tc : Thread Cert.UpperIdeal.nD Cert.UpperIdeal.τ).loc Cert.UpperIdeal.main_v9) = v3 c
          ∧ r.2.mem ((c.tc : Thread Cert.UpperIdeal.nD Cert.UpperIdeal.τ).loc Cert.UpperIdeal.main_arg0) = m ((c.tc : Thread Cert.UpperIdeal.nD Cert.UpperIdeal.τ).loc Cert.UpperIdeal.main_arg0)
          ∧ r.2.mem ((c.tc : Thread Cert.UpperIdeal.nD Cert.UpperIdeal.τ).loc Cert.UpperIdeal.main_arg1) = m ((c.tc : Thread Cert.UpperIdeal.nD Cert.UpperIdeal.τ).loc Cert.UpperIdeal.main_arg1)
          ∧ r.2.mem ((c.tc : Thread Cert.UpperIdeal.nD Cert.UpperIdeal.τ).loc Cert.UpperIdeal.main_arg2) = m ((c.tc : Thread Cert.UpperIdeal.nD Cert.UpperIdeal.τ).loc Cert.UpperIdeal.main_arg2)
          ∧ r.2.mem ((c.tc : Thread Cert.UpperIdeal.nD Cert.UpperIdeal.τ).loc Cert.UpperIdeal.main_arg3) = m ((c.tc : Thread Cert.UpperIdeal.nD Cert.UpperIdeal.τ).loc Cert.UpperIdeal.main_arg3)
          ∧ r.2.mem ((c.tc : Thread Cert.UpperIdeal.nD Cert.UpperIdeal.τ).loc Cert.UpperIdeal.main_arg4) = m ((c.tc : Thread Cert.UpperIdeal.nD Cert.UpperIdeal.τ).loc Cert.UpperIdeal.main_arg4)
          ∧ r.2.mem ((c.tc : Thread Cert.UpperIdeal.nD Cert.UpperIdeal.τ).loc Cert.UpperIdeal.main_arg5) = m ((c.tc : Thread Cert.UpperIdeal.nD Cert.UpperIdeal.τ).loc Cert.UpperIdeal.main_arg5))
      ∧ θ_run (Cert.RefUpperIdeal.defs (F := Ideal)) (onTc (τ := Cert.RefUpperIdeal.τ) (Cert.RefUpperIdeal.main (F := Ideal))) ⟨m', fun _ => 0, g'⟩ (fun r => ∀ c : Dev Cert.RefUpperIdeal.nD,
          r.2.mem ((c.tc : Thread Cert.RefUpperIdeal.nD Cert.RefUpperIdeal.τ).loc Cert.RefUpperIdeal.main_v6) = v0 c
          ∧ r.2.mem ((c.tc : Thread Cert.RefUpperIdeal.nD Cert.RefUpperIdeal.τ).loc Cert.RefUpperIdeal.main_v36) = v1 c
          ∧ r.2.mem ((c.tc : Thread Cert.RefUpperIdeal.nD Cert.RefUpperIdeal.τ).loc Cert.RefUpperIdeal.main_v17) = v2 c
          ∧ r.2.mem ((c.tc : Thread Cert.RefUpperIdeal.nD Cert.RefUpperIdeal.τ).loc Cert.RefUpperIdeal.main_v23) = v3 c
          ∧ r.2.mem ((c.tc : Thread Cert.RefUpperIdeal.nD Cert.RefUpperIdeal.τ).loc Cert.RefUpperIdeal.main_arg0) = m' ((c.tc : Thread Cert.RefUpperIdeal.nD Cert.RefUpperIdeal.τ).loc Cert.RefUpperIdeal.main_arg0)
          ∧ r.2.mem ((c.tc : Thread Cert.RefUpperIdeal.nD Cert.RefUpperIdeal.τ).loc Cert.RefUpperIdeal.main_arg1) = m' ((c.tc : Thread Cert.RefUpperIdeal.nD Cert.RefUpperIdeal.τ).loc Cert.RefUpperIdeal.main_arg1)
          ∧ r.2.mem ((c.tc : Thread Cert.RefUpperIdeal.nD Cert.RefUpperIdeal.τ).loc Cert.RefUpperIdeal.main_arg2) = m' ((c.tc : Thread Cert.RefUpperIdeal.nD Cert.RefUpperIdeal.τ).loc Cert.RefUpperIdeal.main_arg2)
          ∧ r.2.mem ((c.tc : Thread Cert.RefUpperIdeal.nD Cert.RefUpperIdeal.τ).loc Cert.RefUpperIdeal.main_arg3) = m' ((c.tc : Thread Cert.RefUpperIdeal.nD Cert.RefUpperIdeal.τ).loc Cert.RefUpperIdeal.main_arg3)
          ∧ r.2.mem ((c.tc : Thread Cert.RefUpperIdeal.nD Cert.RefUpperIdeal.τ).loc Cert.RefUpperIdeal.main_arg4) = m' ((c.tc : Thread Cert.RefUpperIdeal.nD Cert.RefUpperIdeal.τ).loc Cert.RefUpperIdeal.main_arg4)
          ∧ r.2.mem ((c.tc : Thread Cert.RefUpperIdeal.nD Cert.RefUpperIdeal.τ).loc Cert.RefUpperIdeal.main_arg5) = m' ((c.tc : Thread Cert.RefUpperIdeal.nD Cert.RefUpperIdeal.τ).loc Cert.RefUpperIdeal.main_arg5))

def preserves_Lower_LowerIdeal : Prop :=
  True

def algebraic_LowerIdeal_RefLowerIdeal [hLowerIdeal : Cert.LowerIdeal.Facts] [hRefLowerIdeal : Cert.RefLowerIdeal.Facts] [hPre_a_chip_lower : Cert.Pre_a_chip_lower.Facts] : Prop :=
  ∀ (m : (ℓ : Loc Cert.LowerIdeal.nD Cert.LowerIdeal.τ Cert.LowerIdeal.sig) → Buf (Elt Ideal) ℓ) (g : Dev Cert.LowerIdeal.nD → PrngReg)
    (m' : (ℓ : Loc Cert.RefLowerIdeal.nD Cert.RefLowerIdeal.τ Cert.RefLowerIdeal.sig) → Buf (Elt Ideal) ℓ) (g' : Dev Cert.RefLowerIdeal.nD → PrngReg), Pre_LowerIdeal m →
    (∀ c : Dev Cert.LowerIdeal.nD,
      m' ((c.tc : Thread Cert.RefLowerIdeal.nD Cert.RefLowerIdeal.τ).loc Cert.RefLowerIdeal.main_arg0) = m ((c.tc : Thread Cert.LowerIdeal.nD Cert.LowerIdeal.τ).loc Cert.LowerIdeal.main_arg0)
      ∧ m' ((c.tc : Thread Cert.RefLowerIdeal.nD Cert.RefLowerIdeal.τ).loc Cert.RefLowerIdeal.main_arg1) = m ((c.tc : Thread Cert.LowerIdeal.nD Cert.LowerIdeal.τ).loc Cert.LowerIdeal.main_arg1)
      ∧ m' ((c.tc : Thread Cert.RefLowerIdeal.nD Cert.RefLowerIdeal.τ).loc Cert.RefLowerIdeal.main_arg2) = m ((c.tc : Thread Cert.LowerIdeal.nD Cert.LowerIdeal.τ).loc Cert.LowerIdeal.main_arg2)
      ∧ m' ((c.tc : Thread Cert.RefLowerIdeal.nD Cert.RefLowerIdeal.τ).loc Cert.RefLowerIdeal.main_arg3) = m ((c.tc : Thread Cert.LowerIdeal.nD Cert.LowerIdeal.τ).loc Cert.LowerIdeal.main_arg3)
      ∧ m' ((c.tc : Thread Cert.RefLowerIdeal.nD Cert.RefLowerIdeal.τ).loc Cert.RefLowerIdeal.main_arg4) = m ((c.tc : Thread Cert.LowerIdeal.nD Cert.LowerIdeal.τ).loc Cert.LowerIdeal.main_arg4)
      ∧ m' ((c.tc : Thread Cert.RefLowerIdeal.nD Cert.RefLowerIdeal.τ).loc Cert.RefLowerIdeal.main_arg5) = m ((c.tc : Thread Cert.LowerIdeal.nD Cert.LowerIdeal.τ).loc Cert.LowerIdeal.main_arg5)
      ∧ m' ((c.tc : Thread Cert.RefLowerIdeal.nD Cert.RefLowerIdeal.τ).loc Cert.RefLowerIdeal.main_arg6) = m ((c.tc : Thread Cert.LowerIdeal.nD Cert.LowerIdeal.τ).loc Cert.LowerIdeal.main_arg6)
      ∧ m' ((c.tc : Thread Cert.RefLowerIdeal.nD Cert.RefLowerIdeal.τ).loc Cert.RefLowerIdeal.main_arg7) = m ((c.tc : Thread Cert.LowerIdeal.nD Cert.LowerIdeal.τ).loc Cert.LowerIdeal.main_arg7)
      ∧ m' ((c.tc : Thread Cert.RefLowerIdeal.nD Cert.RefLowerIdeal.τ).loc Cert.RefLowerIdeal.main_arg8) = m ((c.tc : Thread Cert.LowerIdeal.nD Cert.LowerIdeal.τ).loc Cert.LowerIdeal.main_arg8)
      ∧ m' ((c.tc : Thread Cert.RefLowerIdeal.nD Cert.RefLowerIdeal.τ).loc Cert.RefLowerIdeal.main_arg9) = m ((c.tc : Thread Cert.LowerIdeal.nD Cert.LowerIdeal.τ).loc Cert.LowerIdeal.main_arg9)) →
    ∃ (v0 : (c : Dev Cert.LowerIdeal.nD) → Buf (Elt Ideal) ((c.tc : Thread Cert.LowerIdeal.nD Cert.LowerIdeal.τ).loc Cert.LowerIdeal.main_v1_0)) (v1 : (c : Dev Cert.LowerIdeal.nD) → Buf (Elt Ideal) ((c.tc : Thread Cert.LowerIdeal.nD Cert.LowerIdeal.τ).loc Cert.LowerIdeal.main_v1_1)) (v2 : (c : Dev Cert.LowerIdeal.nD) → Buf (Elt Ideal) ((c.tc : Thread Cert.LowerIdeal.nD Cert.LowerIdeal.τ).loc Cert.LowerIdeal.main_v1_2)) (v3 : (c : Dev Cert.LowerIdeal.nD) → Buf (Elt Ideal) ((c.tc : Thread Cert.LowerIdeal.nD Cert.LowerIdeal.τ).loc Cert.LowerIdeal.main_v1_3)),
      θ_run (Cert.LowerIdeal.defs (F := Ideal)) (onTc (τ := Cert.LowerIdeal.τ) (Cert.LowerIdeal.main (F := Ideal))) ⟨m, fun _ => 0, g⟩ (fun r => ∀ c : Dev Cert.LowerIdeal.nD,
          r.2.mem ((c.tc : Thread Cert.LowerIdeal.nD Cert.LowerIdeal.τ).loc Cert.LowerIdeal.main_v1_0) = v0 c
          ∧ r.2.mem ((c.tc : Thread Cert.LowerIdeal.nD Cert.LowerIdeal.τ).loc Cert.LowerIdeal.main_v1_1) = v1 c
          ∧ r.2.mem ((c.tc : Thread Cert.LowerIdeal.nD Cert.LowerIdeal.τ).loc Cert.LowerIdeal.main_v1_2) = v2 c
          ∧ r.2.mem ((c.tc : Thread Cert.LowerIdeal.nD Cert.LowerIdeal.τ).loc Cert.LowerIdeal.main_v1_3) = v3 c
          ∧ r.2.mem ((c.tc : Thread Cert.LowerIdeal.nD Cert.LowerIdeal.τ).loc Cert.LowerIdeal.main_arg0) = m ((c.tc : Thread Cert.LowerIdeal.nD Cert.LowerIdeal.τ).loc Cert.LowerIdeal.main_arg0)
          ∧ r.2.mem ((c.tc : Thread Cert.LowerIdeal.nD Cert.LowerIdeal.τ).loc Cert.LowerIdeal.main_arg1) = m ((c.tc : Thread Cert.LowerIdeal.nD Cert.LowerIdeal.τ).loc Cert.LowerIdeal.main_arg1)
          ∧ r.2.mem ((c.tc : Thread Cert.LowerIdeal.nD Cert.LowerIdeal.τ).loc Cert.LowerIdeal.main_arg2) = m ((c.tc : Thread Cert.LowerIdeal.nD Cert.LowerIdeal.τ).loc Cert.LowerIdeal.main_arg2)
          ∧ r.2.mem ((c.tc : Thread Cert.LowerIdeal.nD Cert.LowerIdeal.τ).loc Cert.LowerIdeal.main_arg3) = m ((c.tc : Thread Cert.LowerIdeal.nD Cert.LowerIdeal.τ).loc Cert.LowerIdeal.main_arg3)
          ∧ r.2.mem ((c.tc : Thread Cert.LowerIdeal.nD Cert.LowerIdeal.τ).loc Cert.LowerIdeal.main_arg4) = m ((c.tc : Thread Cert.LowerIdeal.nD Cert.LowerIdeal.τ).loc Cert.LowerIdeal.main_arg4)
          ∧ r.2.mem ((c.tc : Thread Cert.LowerIdeal.nD Cert.LowerIdeal.τ).loc Cert.LowerIdeal.main_arg5) = m ((c.tc : Thread Cert.LowerIdeal.nD Cert.LowerIdeal.τ).loc Cert.LowerIdeal.main_arg5)
          ∧ r.2.mem ((c.tc : Thread Cert.LowerIdeal.nD Cert.LowerIdeal.τ).loc Cert.LowerIdeal.main_arg6) = m ((c.tc : Thread Cert.LowerIdeal.nD Cert.LowerIdeal.τ).loc Cert.LowerIdeal.main_arg6)
          ∧ r.2.mem ((c.tc : Thread Cert.LowerIdeal.nD Cert.LowerIdeal.τ).loc Cert.LowerIdeal.main_arg7) = m ((c.tc : Thread Cert.LowerIdeal.nD Cert.LowerIdeal.τ).loc Cert.LowerIdeal.main_arg7)
          ∧ r.2.mem ((c.tc : Thread Cert.LowerIdeal.nD Cert.LowerIdeal.τ).loc Cert.LowerIdeal.main_arg8) = m ((c.tc : Thread Cert.LowerIdeal.nD Cert.LowerIdeal.τ).loc Cert.LowerIdeal.main_arg8)
          ∧ r.2.mem ((c.tc : Thread Cert.LowerIdeal.nD Cert.LowerIdeal.τ).loc Cert.LowerIdeal.main_arg9) = m ((c.tc : Thread Cert.LowerIdeal.nD Cert.LowerIdeal.τ).loc Cert.LowerIdeal.main_arg9))
      ∧ θ_run (Cert.RefLowerIdeal.defs (F := Ideal)) (onTc (τ := Cert.RefLowerIdeal.τ) (Cert.RefLowerIdeal.main (F := Ideal))) ⟨m', fun _ => 0, g'⟩ (fun r => ∀ c : Dev Cert.RefLowerIdeal.nD,
          r.2.mem ((c.tc : Thread Cert.RefLowerIdeal.nD Cert.RefLowerIdeal.τ).loc Cert.RefLowerIdeal.main_v41) = v0 c
          ∧ r.2.mem ((c.tc : Thread Cert.RefLowerIdeal.nD Cert.RefLowerIdeal.τ).loc Cert.RefLowerIdeal.main_v46) = v1 c
          ∧ r.2.mem ((c.tc : Thread Cert.RefLowerIdeal.nD Cert.RefLowerIdeal.τ).loc Cert.RefLowerIdeal.main_v51) = v2 c
          ∧ r.2.mem ((c.tc : Thread Cert.RefLowerIdeal.nD Cert.RefLowerIdeal.τ).loc Cert.RefLowerIdeal.main_v56) = v3 c
          ∧ r.2.mem ((c.tc : Thread Cert.RefLowerIdeal.nD Cert.RefLowerIdeal.τ).loc Cert.RefLowerIdeal.main_arg0) = m' ((c.tc : Thread Cert.RefLowerIdeal.nD Cert.RefLowerIdeal.τ).loc Cert.RefLowerIdeal.main_arg0)
          ∧ r.2.mem ((c.tc : Thread Cert.RefLowerIdeal.nD Cert.RefLowerIdeal.τ).loc Cert.RefLowerIdeal.main_arg1) = m' ((c.tc : Thread Cert.RefLowerIdeal.nD Cert.RefLowerIdeal.τ).loc Cert.RefLowerIdeal.main_arg1)
          ∧ r.2.mem ((c.tc : Thread Cert.RefLowerIdeal.nD Cert.RefLowerIdeal.τ).loc Cert.RefLowerIdeal.main_arg2) = m' ((c.tc : Thread Cert.RefLowerIdeal.nD Cert.RefLowerIdeal.τ).loc Cert.RefLowerIdeal.main_arg2)
          ∧ r.2.mem ((c.tc : Thread Cert.RefLowerIdeal.nD Cert.RefLowerIdeal.τ).loc Cert.RefLowerIdeal.main_arg3) = m' ((c.tc : Thread Cert.RefLowerIdeal.nD Cert.RefLowerIdeal.τ).loc Cert.RefLowerIdeal.main_arg3)
          ∧ r.2.mem ((c.tc : Thread Cert.RefLowerIdeal.nD Cert.RefLowerIdeal.τ).loc Cert.RefLowerIdeal.main_arg4) = m' ((c.tc : Thread Cert.RefLowerIdeal.nD Cert.RefLowerIdeal.τ).loc Cert.RefLowerIdeal.main_arg4)
          ∧ r.2.mem ((c.tc : Thread Cert.RefLowerIdeal.nD Cert.RefLowerIdeal.τ).loc Cert.RefLowerIdeal.main_arg5) = m' ((c.tc : Thread Cert.RefLowerIdeal.nD Cert.RefLowerIdeal.τ).loc Cert.RefLowerIdeal.main_arg5)
          ∧ r.2.mem ((c.tc : Thread Cert.RefLowerIdeal.nD Cert.RefLowerIdeal.τ).loc Cert.RefLowerIdeal.main_arg6) = m' ((c.tc : Thread Cert.RefLowerIdeal.nD Cert.RefLowerIdeal.τ).loc Cert.RefLowerIdeal.main_arg6)
          ∧ r.2.mem ((c.tc : Thread Cert.RefLowerIdeal.nD Cert.RefLowerIdeal.τ).loc Cert.RefLowerIdeal.main_arg7) = m' ((c.tc : Thread Cert.RefLowerIdeal.nD Cert.RefLowerIdeal.τ).loc Cert.RefLowerIdeal.main_arg7)
          ∧ r.2.mem ((c.tc : Thread Cert.RefLowerIdeal.nD Cert.RefLowerIdeal.τ).loc Cert.RefLowerIdeal.main_arg8) = m' ((c.tc : Thread Cert.RefLowerIdeal.nD Cert.RefLowerIdeal.τ).loc Cert.RefLowerIdeal.main_arg8)
          ∧ r.2.mem ((c.tc : Thread Cert.RefLowerIdeal.nD Cert.RefLowerIdeal.τ).loc Cert.RefLowerIdeal.main_arg9) = m' ((c.tc : Thread Cert.RefLowerIdeal.nD Cert.RefLowerIdeal.τ).loc Cert.RefLowerIdeal.main_arg9))

def preserves_OutUpper_OutUpperIdeal : Prop :=
  True

def algebraic_OutUpperIdeal_RefOutUpperIdeal [hOutUpperIdeal : Cert.OutUpperIdeal.Facts] [hRefOutUpperIdeal : Cert.RefOutUpperIdeal.Facts] [hPre_a_chip_out_upper : Cert.Pre_a_chip_out_upper.Facts] : Prop :=
  ∀ (m : (ℓ : Loc Cert.OutUpperIdeal.nD Cert.OutUpperIdeal.τ Cert.OutUpperIdeal.sig) → Buf (Elt Ideal) ℓ) (g : Dev Cert.OutUpperIdeal.nD → PrngReg)
    (m' : (ℓ : Loc Cert.RefOutUpperIdeal.nD Cert.RefOutUpperIdeal.τ Cert.RefOutUpperIdeal.sig) → Buf (Elt Ideal) ℓ) (g' : Dev Cert.RefOutUpperIdeal.nD → PrngReg), Pre_OutUpperIdeal m →
    (∀ c : Dev Cert.OutUpperIdeal.nD,
      m' ((c.tc : Thread Cert.RefOutUpperIdeal.nD Cert.RefOutUpperIdeal.τ).loc Cert.RefOutUpperIdeal.main_arg0) = m ((c.tc : Thread Cert.OutUpperIdeal.nD Cert.OutUpperIdeal.τ).loc Cert.OutUpperIdeal.main_arg0)
      ∧ m' ((c.tc : Thread Cert.RefOutUpperIdeal.nD Cert.RefOutUpperIdeal.τ).loc Cert.RefOutUpperIdeal.main_arg1) = m ((c.tc : Thread Cert.OutUpperIdeal.nD Cert.OutUpperIdeal.τ).loc Cert.OutUpperIdeal.main_arg1)
      ∧ m' ((c.tc : Thread Cert.RefOutUpperIdeal.nD Cert.RefOutUpperIdeal.τ).loc Cert.RefOutUpperIdeal.main_arg2) = m ((c.tc : Thread Cert.OutUpperIdeal.nD Cert.OutUpperIdeal.τ).loc Cert.OutUpperIdeal.main_arg2)
      ∧ m' ((c.tc : Thread Cert.RefOutUpperIdeal.nD Cert.RefOutUpperIdeal.τ).loc Cert.RefOutUpperIdeal.main_arg3) = m ((c.tc : Thread Cert.OutUpperIdeal.nD Cert.OutUpperIdeal.τ).loc Cert.OutUpperIdeal.main_arg3)
      ∧ m' ((c.tc : Thread Cert.RefOutUpperIdeal.nD Cert.RefOutUpperIdeal.τ).loc Cert.RefOutUpperIdeal.main_arg4) = m ((c.tc : Thread Cert.OutUpperIdeal.nD Cert.OutUpperIdeal.τ).loc Cert.OutUpperIdeal.main_arg4)
      ∧ m' ((c.tc : Thread Cert.RefOutUpperIdeal.nD Cert.RefOutUpperIdeal.τ).loc Cert.RefOutUpperIdeal.main_arg5) = m ((c.tc : Thread Cert.OutUpperIdeal.nD Cert.OutUpperIdeal.τ).loc Cert.OutUpperIdeal.main_arg5)) →
    ∃ (v0 : (c : Dev Cert.OutUpperIdeal.nD) → Buf (Elt Ideal) ((c.tc : Thread Cert.OutUpperIdeal.nD Cert.OutUpperIdeal.τ).loc Cert.OutUpperIdeal.main_v3)) (v1 : (c : Dev Cert.OutUpperIdeal.nD) → Buf (Elt Ideal) ((c.tc : Thread Cert.OutUpperIdeal.nD Cert.OutUpperIdeal.τ).loc Cert.OutUpperIdeal.main_v5)) (v2 : (c : Dev Cert.OutUpperIdeal.nD) → Buf (Elt Ideal) ((c.tc : Thread Cert.OutUpperIdeal.nD Cert.OutUpperIdeal.τ).loc Cert.OutUpperIdeal.main_v7)) (v3 : (c : Dev Cert.OutUpperIdeal.nD) → Buf (Elt Ideal) ((c.tc : Thread Cert.OutUpperIdeal.nD Cert.OutUpperIdeal.τ).loc Cert.OutUpperIdeal.main_v9)),
      θ_run (Cert.OutUpperIdeal.defs (F := Ideal)) (onTc (τ := Cert.OutUpperIdeal.τ) (Cert.OutUpperIdeal.main (F := Ideal))) ⟨m, fun _ => 0, g⟩ (fun r => ∀ c : Dev Cert.OutUpperIdeal.nD,
          r.2.mem ((c.tc : Thread Cert.OutUpperIdeal.nD Cert.OutUpperIdeal.τ).loc Cert.OutUpperIdeal.main_v3) = v0 c
          ∧ r.2.mem ((c.tc : Thread Cert.OutUpperIdeal.nD Cert.OutUpperIdeal.τ).loc Cert.OutUpperIdeal.main_v5) = v1 c
          ∧ r.2.mem ((c.tc : Thread Cert.OutUpperIdeal.nD Cert.OutUpperIdeal.τ).loc Cert.OutUpperIdeal.main_v7) = v2 c
          ∧ r.2.mem ((c.tc : Thread Cert.OutUpperIdeal.nD Cert.OutUpperIdeal.τ).loc Cert.OutUpperIdeal.main_v9) = v3 c
          ∧ r.2.mem ((c.tc : Thread Cert.OutUpperIdeal.nD Cert.OutUpperIdeal.τ).loc Cert.OutUpperIdeal.main_arg0) = m ((c.tc : Thread Cert.OutUpperIdeal.nD Cert.OutUpperIdeal.τ).loc Cert.OutUpperIdeal.main_arg0)
          ∧ r.2.mem ((c.tc : Thread Cert.OutUpperIdeal.nD Cert.OutUpperIdeal.τ).loc Cert.OutUpperIdeal.main_arg1) = m ((c.tc : Thread Cert.OutUpperIdeal.nD Cert.OutUpperIdeal.τ).loc Cert.OutUpperIdeal.main_arg1)
          ∧ r.2.mem ((c.tc : Thread Cert.OutUpperIdeal.nD Cert.OutUpperIdeal.τ).loc Cert.OutUpperIdeal.main_arg2) = m ((c.tc : Thread Cert.OutUpperIdeal.nD Cert.OutUpperIdeal.τ).loc Cert.OutUpperIdeal.main_arg2)
          ∧ r.2.mem ((c.tc : Thread Cert.OutUpperIdeal.nD Cert.OutUpperIdeal.τ).loc Cert.OutUpperIdeal.main_arg3) = m ((c.tc : Thread Cert.OutUpperIdeal.nD Cert.OutUpperIdeal.τ).loc Cert.OutUpperIdeal.main_arg3)
          ∧ r.2.mem ((c.tc : Thread Cert.OutUpperIdeal.nD Cert.OutUpperIdeal.τ).loc Cert.OutUpperIdeal.main_arg4) = m ((c.tc : Thread Cert.OutUpperIdeal.nD Cert.OutUpperIdeal.τ).loc Cert.OutUpperIdeal.main_arg4)
          ∧ r.2.mem ((c.tc : Thread Cert.OutUpperIdeal.nD Cert.OutUpperIdeal.τ).loc Cert.OutUpperIdeal.main_arg5) = m ((c.tc : Thread Cert.OutUpperIdeal.nD Cert.OutUpperIdeal.τ).loc Cert.OutUpperIdeal.main_arg5))
      ∧ θ_run (Cert.RefOutUpperIdeal.defs (F := Ideal)) (onTc (τ := Cert.RefOutUpperIdeal.τ) (Cert.RefOutUpperIdeal.main (F := Ideal))) ⟨m', fun _ => 0, g'⟩ (fun r => ∀ c : Dev Cert.RefOutUpperIdeal.nD,
          r.2.mem ((c.tc : Thread Cert.RefOutUpperIdeal.nD Cert.RefOutUpperIdeal.τ).loc Cert.RefOutUpperIdeal.main_v6) = v0 c
          ∧ r.2.mem ((c.tc : Thread Cert.RefOutUpperIdeal.nD Cert.RefOutUpperIdeal.τ).loc Cert.RefOutUpperIdeal.main_v36) = v1 c
          ∧ r.2.mem ((c.tc : Thread Cert.RefOutUpperIdeal.nD Cert.RefOutUpperIdeal.τ).loc Cert.RefOutUpperIdeal.main_v17) = v2 c
          ∧ r.2.mem ((c.tc : Thread Cert.RefOutUpperIdeal.nD Cert.RefOutUpperIdeal.τ).loc Cert.RefOutUpperIdeal.main_v23) = v3 c
          ∧ r.2.mem ((c.tc : Thread Cert.RefOutUpperIdeal.nD Cert.RefOutUpperIdeal.τ).loc Cert.RefOutUpperIdeal.main_arg0) = m' ((c.tc : Thread Cert.RefOutUpperIdeal.nD Cert.RefOutUpperIdeal.τ).loc Cert.RefOutUpperIdeal.main_arg0)
          ∧ r.2.mem ((c.tc : Thread Cert.RefOutUpperIdeal.nD Cert.RefOutUpperIdeal.τ).loc Cert.RefOutUpperIdeal.main_arg1) = m' ((c.tc : Thread Cert.RefOutUpperIdeal.nD Cert.RefOutUpperIdeal.τ).loc Cert.RefOutUpperIdeal.main_arg1)
          ∧ r.2.mem ((c.tc : Thread Cert.RefOutUpperIdeal.nD Cert.RefOutUpperIdeal.τ).loc Cert.RefOutUpperIdeal.main_arg2) = m' ((c.tc : Thread Cert.RefOutUpperIdeal.nD Cert.RefOutUpperIdeal.τ).loc Cert.RefOutUpperIdeal.main_arg2)
          ∧ r.2.mem ((c.tc : Thread Cert.RefOutUpperIdeal.nD Cert.RefOutUpperIdeal.τ).loc Cert.RefOutUpperIdeal.main_arg3) = m' ((c.tc : Thread Cert.RefOutUpperIdeal.nD Cert.RefOutUpperIdeal.τ).loc Cert.RefOutUpperIdeal.main_arg3)
          ∧ r.2.mem ((c.tc : Thread Cert.RefOutUpperIdeal.nD Cert.RefOutUpperIdeal.τ).loc Cert.RefOutUpperIdeal.main_arg4) = m' ((c.tc : Thread Cert.RefOutUpperIdeal.nD Cert.RefOutUpperIdeal.τ).loc Cert.RefOutUpperIdeal.main_arg4)
          ∧ r.2.mem ((c.tc : Thread Cert.RefOutUpperIdeal.nD Cert.RefOutUpperIdeal.τ).loc Cert.RefOutUpperIdeal.main_arg5) = m' ((c.tc : Thread Cert.RefOutUpperIdeal.nD Cert.RefOutUpperIdeal.τ).loc Cert.RefOutUpperIdeal.main_arg5))

def preserves_OutLower_OutLowerIdeal : Prop :=
  True

def algebraic_OutLowerIdeal_RefOutLowerIdeal [hOutLowerIdeal : Cert.OutLowerIdeal.Facts] [hRefOutLowerIdeal : Cert.RefOutLowerIdeal.Facts] [hPre_a_chip_out_lower : Cert.Pre_a_chip_out_lower.Facts] : Prop :=
  ∀ (m : (ℓ : Loc Cert.OutLowerIdeal.nD Cert.OutLowerIdeal.τ Cert.OutLowerIdeal.sig) → Buf (Elt Ideal) ℓ) (g : Dev Cert.OutLowerIdeal.nD → PrngReg)
    (m' : (ℓ : Loc Cert.RefOutLowerIdeal.nD Cert.RefOutLowerIdeal.τ Cert.RefOutLowerIdeal.sig) → Buf (Elt Ideal) ℓ) (g' : Dev Cert.RefOutLowerIdeal.nD → PrngReg), Pre_OutLowerIdeal m →
    (∀ c : Dev Cert.OutLowerIdeal.nD,
      m' ((c.tc : Thread Cert.RefOutLowerIdeal.nD Cert.RefOutLowerIdeal.τ).loc Cert.RefOutLowerIdeal.main_arg0) = m ((c.tc : Thread Cert.OutLowerIdeal.nD Cert.OutLowerIdeal.τ).loc Cert.OutLowerIdeal.main_arg0)
      ∧ m' ((c.tc : Thread Cert.RefOutLowerIdeal.nD Cert.RefOutLowerIdeal.τ).loc Cert.RefOutLowerIdeal.main_arg1) = m ((c.tc : Thread Cert.OutLowerIdeal.nD Cert.OutLowerIdeal.τ).loc Cert.OutLowerIdeal.main_arg1)
      ∧ m' ((c.tc : Thread Cert.RefOutLowerIdeal.nD Cert.RefOutLowerIdeal.τ).loc Cert.RefOutLowerIdeal.main_arg2) = m ((c.tc : Thread Cert.OutLowerIdeal.nD Cert.OutLowerIdeal.τ).loc Cert.OutLowerIdeal.main_arg2)
      ∧ m' ((c.tc : Thread Cert.RefOutLowerIdeal.nD Cert.RefOutLowerIdeal.τ).loc Cert.RefOutLowerIdeal.main_arg3) = m ((c.tc : Thread Cert.OutLowerIdeal.nD Cert.OutLowerIdeal.τ).loc Cert.OutLowerIdeal.main_arg3)
      ∧ m' ((c.tc : Thread Cert.RefOutLowerIdeal.nD Cert.RefOutLowerIdeal.τ).loc Cert.RefOutLowerIdeal.main_arg4) = m ((c.tc : Thread Cert.OutLowerIdeal.nD Cert.OutLowerIdeal.τ).loc Cert.OutLowerIdeal.main_arg4)
      ∧ m' ((c.tc : Thread Cert.RefOutLowerIdeal.nD Cert.RefOutLowerIdeal.τ).loc Cert.RefOutLowerIdeal.main_arg5) = m ((c.tc : Thread Cert.OutLowerIdeal.nD Cert.OutLowerIdeal.τ).loc Cert.OutLowerIdeal.main_arg5)
      ∧ m' ((c.tc : Thread Cert.RefOutLowerIdeal.nD Cert.RefOutLowerIdeal.τ).loc Cert.RefOutLowerIdeal.main_arg6) = m ((c.tc : Thread Cert.OutLowerIdeal.nD Cert.OutLowerIdeal.τ).loc Cert.OutLowerIdeal.main_arg6)
      ∧ m' ((c.tc : Thread Cert.RefOutLowerIdeal.nD Cert.RefOutLowerIdeal.τ).loc Cert.RefOutLowerIdeal.main_arg7) = m ((c.tc : Thread Cert.OutLowerIdeal.nD Cert.OutLowerIdeal.τ).loc Cert.OutLowerIdeal.main_arg7)
      ∧ m' ((c.tc : Thread Cert.RefOutLowerIdeal.nD Cert.RefOutLowerIdeal.τ).loc Cert.RefOutLowerIdeal.main_arg8) = m ((c.tc : Thread Cert.OutLowerIdeal.nD Cert.OutLowerIdeal.τ).loc Cert.OutLowerIdeal.main_arg8)
      ∧ m' ((c.tc : Thread Cert.RefOutLowerIdeal.nD Cert.RefOutLowerIdeal.τ).loc Cert.RefOutLowerIdeal.main_arg9) = m ((c.tc : Thread Cert.OutLowerIdeal.nD Cert.OutLowerIdeal.τ).loc Cert.OutLowerIdeal.main_arg9)) →
    ∃ (v0 : (c : Dev Cert.OutLowerIdeal.nD) → Buf (Elt Ideal) ((c.tc : Thread Cert.OutLowerIdeal.nD Cert.OutLowerIdeal.τ).loc Cert.OutLowerIdeal.main_v1_0)) (v1 : (c : Dev Cert.OutLowerIdeal.nD) → Buf (Elt Ideal) ((c.tc : Thread Cert.OutLowerIdeal.nD Cert.OutLowerIdeal.τ).loc Cert.OutLowerIdeal.main_v1_1)) (v2 : (c : Dev Cert.OutLowerIdeal.nD) → Buf (Elt Ideal) ((c.tc : Thread Cert.OutLowerIdeal.nD Cert.OutLowerIdeal.τ).loc Cert.OutLowerIdeal.main_v1_2)) (v3 : (c : Dev Cert.OutLowerIdeal.nD) → Buf (Elt Ideal) ((c.tc : Thread Cert.OutLowerIdeal.nD Cert.OutLowerIdeal.τ).loc Cert.OutLowerIdeal.main_v1_3)),
      θ_run (Cert.OutLowerIdeal.defs (F := Ideal)) (onTc (τ := Cert.OutLowerIdeal.τ) (Cert.OutLowerIdeal.main (F := Ideal))) ⟨m, fun _ => 0, g⟩ (fun r => ∀ c : Dev Cert.OutLowerIdeal.nD,
          r.2.mem ((c.tc : Thread Cert.OutLowerIdeal.nD Cert.OutLowerIdeal.τ).loc Cert.OutLowerIdeal.main_v1_0) = v0 c
          ∧ r.2.mem ((c.tc : Thread Cert.OutLowerIdeal.nD Cert.OutLowerIdeal.τ).loc Cert.OutLowerIdeal.main_v1_1) = v1 c
          ∧ r.2.mem ((c.tc : Thread Cert.OutLowerIdeal.nD Cert.OutLowerIdeal.τ).loc Cert.OutLowerIdeal.main_v1_2) = v2 c
          ∧ r.2.mem ((c.tc : Thread Cert.OutLowerIdeal.nD Cert.OutLowerIdeal.τ).loc Cert.OutLowerIdeal.main_v1_3) = v3 c
          ∧ r.2.mem ((c.tc : Thread Cert.OutLowerIdeal.nD Cert.OutLowerIdeal.τ).loc Cert.OutLowerIdeal.main_arg0) = m ((c.tc : Thread Cert.OutLowerIdeal.nD Cert.OutLowerIdeal.τ).loc Cert.OutLowerIdeal.main_arg0)
          ∧ r.2.mem ((c.tc : Thread Cert.OutLowerIdeal.nD Cert.OutLowerIdeal.τ).loc Cert.OutLowerIdeal.main_arg1) = m ((c.tc : Thread Cert.OutLowerIdeal.nD Cert.OutLowerIdeal.τ).loc Cert.OutLowerIdeal.main_arg1)
          ∧ r.2.mem ((c.tc : Thread Cert.OutLowerIdeal.nD Cert.OutLowerIdeal.τ).loc Cert.OutLowerIdeal.main_arg2) = m ((c.tc : Thread Cert.OutLowerIdeal.nD Cert.OutLowerIdeal.τ).loc Cert.OutLowerIdeal.main_arg2)
          ∧ r.2.mem ((c.tc : Thread Cert.OutLowerIdeal.nD Cert.OutLowerIdeal.τ).loc Cert.OutLowerIdeal.main_arg3) = m ((c.tc : Thread Cert.OutLowerIdeal.nD Cert.OutLowerIdeal.τ).loc Cert.OutLowerIdeal.main_arg3)
          ∧ r.2.mem ((c.tc : Thread Cert.OutLowerIdeal.nD Cert.OutLowerIdeal.τ).loc Cert.OutLowerIdeal.main_arg4) = m ((c.tc : Thread Cert.OutLowerIdeal.nD Cert.OutLowerIdeal.τ).loc Cert.OutLowerIdeal.main_arg4)
          ∧ r.2.mem ((c.tc : Thread Cert.OutLowerIdeal.nD Cert.OutLowerIdeal.τ).loc Cert.OutLowerIdeal.main_arg5) = m ((c.tc : Thread Cert.OutLowerIdeal.nD Cert.OutLowerIdeal.τ).loc Cert.OutLowerIdeal.main_arg5)
          ∧ r.2.mem ((c.tc : Thread Cert.OutLowerIdeal.nD Cert.OutLowerIdeal.τ).loc Cert.OutLowerIdeal.main_arg6) = m ((c.tc : Thread Cert.OutLowerIdeal.nD Cert.OutLowerIdeal.τ).loc Cert.OutLowerIdeal.main_arg6)
          ∧ r.2.mem ((c.tc : Thread Cert.OutLowerIdeal.nD Cert.OutLowerIdeal.τ).loc Cert.OutLowerIdeal.main_arg7) = m ((c.tc : Thread Cert.OutLowerIdeal.nD Cert.OutLowerIdeal.τ).loc Cert.OutLowerIdeal.main_arg7)
          ∧ r.2.mem ((c.tc : Thread Cert.OutLowerIdeal.nD Cert.OutLowerIdeal.τ).loc Cert.OutLowerIdeal.main_arg8) = m ((c.tc : Thread Cert.OutLowerIdeal.nD Cert.OutLowerIdeal.τ).loc Cert.OutLowerIdeal.main_arg8)
          ∧ r.2.mem ((c.tc : Thread Cert.OutLowerIdeal.nD Cert.OutLowerIdeal.τ).loc Cert.OutLowerIdeal.main_arg9) = m ((c.tc : Thread Cert.OutLowerIdeal.nD Cert.OutLowerIdeal.τ).loc Cert.OutLowerIdeal.main_arg9))
      ∧ θ_run (Cert.RefOutLowerIdeal.defs (F := Ideal)) (onTc (τ := Cert.RefOutLowerIdeal.τ) (Cert.RefOutLowerIdeal.main (F := Ideal))) ⟨m', fun _ => 0, g'⟩ (fun r => ∀ c : Dev Cert.RefOutLowerIdeal.nD,
          r.2.mem ((c.tc : Thread Cert.RefOutLowerIdeal.nD Cert.RefOutLowerIdeal.τ).loc Cert.RefOutLowerIdeal.main_v41) = v0 c
          ∧ r.2.mem ((c.tc : Thread Cert.RefOutLowerIdeal.nD Cert.RefOutLowerIdeal.τ).loc Cert.RefOutLowerIdeal.main_v46) = v1 c
          ∧ r.2.mem ((c.tc : Thread Cert.RefOutLowerIdeal.nD Cert.RefOutLowerIdeal.τ).loc Cert.RefOutLowerIdeal.main_v51) = v2 c
          ∧ r.2.mem ((c.tc : Thread Cert.RefOutLowerIdeal.nD Cert.RefOutLowerIdeal.τ).loc Cert.RefOutLowerIdeal.main_v56) = v3 c
          ∧ r.2.mem ((c.tc : Thread Cert.RefOutLowerIdeal.nD Cert.RefOutLowerIdeal.τ).loc Cert.RefOutLowerIdeal.main_arg0) = m' ((c.tc : Thread Cert.RefOutLowerIdeal.nD Cert.RefOutLowerIdeal.τ).loc Cert.RefOutLowerIdeal.main_arg0)
          ∧ r.2.mem ((c.tc : Thread Cert.RefOutLowerIdeal.nD Cert.RefOutLowerIdeal.τ).loc Cert.RefOutLowerIdeal.main_arg1) = m' ((c.tc : Thread Cert.RefOutLowerIdeal.nD Cert.RefOutLowerIdeal.τ).loc Cert.RefOutLowerIdeal.main_arg1)
          ∧ r.2.mem ((c.tc : Thread Cert.RefOutLowerIdeal.nD Cert.RefOutLowerIdeal.τ).loc Cert.RefOutLowerIdeal.main_arg2) = m' ((c.tc : Thread Cert.RefOutLowerIdeal.nD Cert.RefOutLowerIdeal.τ).loc Cert.RefOutLowerIdeal.main_arg2)
          ∧ r.2.mem ((c.tc : Thread Cert.RefOutLowerIdeal.nD Cert.RefOutLowerIdeal.τ).loc Cert.RefOutLowerIdeal.main_arg3) = m' ((c.tc : Thread Cert.RefOutLowerIdeal.nD Cert.RefOutLowerIdeal.τ).loc Cert.RefOutLowerIdeal.main_arg3)
          ∧ r.2.mem ((c.tc : Thread Cert.RefOutLowerIdeal.nD Cert.RefOutLowerIdeal.τ).loc Cert.RefOutLowerIdeal.main_arg4) = m' ((c.tc : Thread Cert.RefOutLowerIdeal.nD Cert.RefOutLowerIdeal.τ).loc Cert.RefOutLowerIdeal.main_arg4)
          ∧ r.2.mem ((c.tc : Thread Cert.RefOutLowerIdeal.nD Cert.RefOutLowerIdeal.τ).loc Cert.RefOutLowerIdeal.main_arg5) = m' ((c.tc : Thread Cert.RefOutLowerIdeal.nD Cert.RefOutLowerIdeal.τ).loc Cert.RefOutLowerIdeal.main_arg5)
          ∧ r.2.mem ((c.tc : Thread Cert.RefOutLowerIdeal.nD Cert.RefOutLowerIdeal.τ).loc Cert.RefOutLowerIdeal.main_arg6) = m' ((c.tc : Thread Cert.RefOutLowerIdeal.nD Cert.RefOutLowerIdeal.τ).loc Cert.RefOutLowerIdeal.main_arg6)
          ∧ r.2.mem ((c.tc : Thread Cert.RefOutLowerIdeal.nD Cert.RefOutLowerIdeal.τ).loc Cert.RefOutLowerIdeal.main_arg7) = m' ((c.tc : Thread Cert.RefOutLowerIdeal.nD Cert.RefOutLowerIdeal.τ).loc Cert.RefOutLowerIdeal.main_arg7)
          ∧ r.2.mem ((c.tc : Thread Cert.RefOutLowerIdeal.nD Cert.RefOutLowerIdeal.τ).loc Cert.RefOutLowerIdeal.main_arg8) = m' ((c.tc : Thread Cert.RefOutLowerIdeal.nD Cert.RefOutLowerIdeal.τ).loc Cert.RefOutLowerIdeal.main_arg8)
          ∧ r.2.mem ((c.tc : Thread Cert.RefOutLowerIdeal.nD Cert.RefOutLowerIdeal.τ).loc Cert.RefOutLowerIdeal.main_arg9) = m' ((c.tc : Thread Cert.RefOutLowerIdeal.nD Cert.RefOutLowerIdeal.τ).loc Cert.RefOutLowerIdeal.main_arg9))

def preserves_SmallGrads_SmallGradsIdeal : Prop :=
  True

def algebraic_SmallGradsIdeal_RefSmallGradsIdeal_pre_finite_bounds [hSmallGradsIdeal : Cert.SmallGradsIdeal.Facts] [hRefSmallGradsIdeal : Cert.RefSmallGradsIdeal.Facts] [hPre_finite_bounds : Cert.Pre_finite_bounds.Facts] : Prop :=
  ∀ (m : (ℓ : Loc Cert.SmallGradsIdeal.nD Cert.SmallGradsIdeal.τ Cert.SmallGradsIdeal.sig) → Buf (Elt Ideal) ℓ) (g : Dev Cert.SmallGradsIdeal.nD → PrngReg)
    (m' : (ℓ : Loc Cert.RefSmallGradsIdeal.nD Cert.RefSmallGradsIdeal.τ Cert.RefSmallGradsIdeal.sig) → Buf (Elt Ideal) ℓ) (g' : Dev Cert.RefSmallGradsIdeal.nD → PrngReg), Pre_SmallGradsIdeal_finite_bounds m →
    (∀ c : Dev Cert.SmallGradsIdeal.nD,
      m' ((c.tc : Thread Cert.RefSmallGradsIdeal.nD Cert.RefSmallGradsIdeal.τ).loc Cert.RefSmallGradsIdeal.main_arg0) = m ((c.tc : Thread Cert.SmallGradsIdeal.nD Cert.SmallGradsIdeal.τ).loc Cert.SmallGradsIdeal.main_arg0)
      ∧ m' ((c.tc : Thread Cert.RefSmallGradsIdeal.nD Cert.RefSmallGradsIdeal.τ).loc Cert.RefSmallGradsIdeal.main_arg1) = m ((c.tc : Thread Cert.SmallGradsIdeal.nD Cert.SmallGradsIdeal.τ).loc Cert.SmallGradsIdeal.main_arg1)) →
    ∃ (v0 : (c : Dev Cert.SmallGradsIdeal.nD) → Buf (Elt Ideal) ((c.tc : Thread Cert.SmallGradsIdeal.nD Cert.SmallGradsIdeal.τ).loc Cert.SmallGradsIdeal.main_v1)),
      θ_run (Cert.SmallGradsIdeal.defs (F := Ideal)) (onTc (τ := Cert.SmallGradsIdeal.τ) (Cert.SmallGradsIdeal.main (F := Ideal))) ⟨m, fun _ => 0, g⟩ (fun r => ∀ c : Dev Cert.SmallGradsIdeal.nD,
          r.2.mem ((c.tc : Thread Cert.SmallGradsIdeal.nD Cert.SmallGradsIdeal.τ).loc Cert.SmallGradsIdeal.main_v1) = v0 c
          ∧ r.2.mem ((c.tc : Thread Cert.SmallGradsIdeal.nD Cert.SmallGradsIdeal.τ).loc Cert.SmallGradsIdeal.main_arg0) = m ((c.tc : Thread Cert.SmallGradsIdeal.nD Cert.SmallGradsIdeal.τ).loc Cert.SmallGradsIdeal.main_arg0)
          ∧ r.2.mem ((c.tc : Thread Cert.SmallGradsIdeal.nD Cert.SmallGradsIdeal.τ).loc Cert.SmallGradsIdeal.main_arg1) = m ((c.tc : Thread Cert.SmallGradsIdeal.nD Cert.SmallGradsIdeal.τ).loc Cert.SmallGradsIdeal.main_arg1))
      ∧ θ_run (Cert.RefSmallGradsIdeal.defs (F := Ideal)) (onTc (τ := Cert.RefSmallGradsIdeal.τ) (Cert.RefSmallGradsIdeal.main (F := Ideal))) ⟨m', fun _ => 0, g'⟩ (fun r => ∀ c : Dev Cert.RefSmallGradsIdeal.nD,
          r.2.mem ((c.tc : Thread Cert.RefSmallGradsIdeal.nD Cert.RefSmallGradsIdeal.τ).loc Cert.RefSmallGradsIdeal.main_v72) = v0 c
          ∧ r.2.mem ((c.tc : Thread Cert.RefSmallGradsIdeal.nD Cert.RefSmallGradsIdeal.τ).loc Cert.RefSmallGradsIdeal.main_arg0) = m' ((c.tc : Thread Cert.RefSmallGradsIdeal.nD Cert.RefSmallGradsIdeal.τ).loc Cert.RefSmallGradsIdeal.main_arg0)
          ∧ r.2.mem ((c.tc : Thread Cert.RefSmallGradsIdeal.nD Cert.RefSmallGradsIdeal.τ).loc Cert.RefSmallGradsIdeal.main_arg1) = m' ((c.tc : Thread Cert.RefSmallGradsIdeal.nD Cert.RefSmallGradsIdeal.τ).loc Cert.RefSmallGradsIdeal.main_arg1))

def preserves_LnLoss_LnLossIdeal : Prop :=
  True

def algebraic_LnLossIdeal_RefLnLossIdeal_pre_finite_head [hLnLossIdeal : Cert.LnLossIdeal.Facts] [hRefLnLossIdeal : Cert.RefLnLossIdeal.Facts] [hPre_finite_head : Cert.Pre_finite_head.Facts] : Prop :=
  ∀ (m : (ℓ : Loc Cert.LnLossIdeal.nD Cert.LnLossIdeal.τ Cert.LnLossIdeal.sig) → Buf (Elt Ideal) ℓ) (g : Dev Cert.LnLossIdeal.nD → PrngReg)
    (m' : (ℓ : Loc Cert.RefLnLossIdeal.nD Cert.RefLnLossIdeal.τ Cert.RefLnLossIdeal.sig) → Buf (Elt Ideal) ℓ) (g' : Dev Cert.RefLnLossIdeal.nD → PrngReg), Pre_LnLossIdeal_finite_head m →
    (∀ c : Dev Cert.LnLossIdeal.nD,
      m' ((c.tc : Thread Cert.RefLnLossIdeal.nD Cert.RefLnLossIdeal.τ).loc Cert.RefLnLossIdeal.main_arg0) = m ((c.tc : Thread Cert.LnLossIdeal.nD Cert.LnLossIdeal.τ).loc Cert.LnLossIdeal.main_arg0)
      ∧ m' ((c.tc : Thread Cert.RefLnLossIdeal.nD Cert.RefLnLossIdeal.τ).loc Cert.RefLnLossIdeal.main_arg1) = m ((c.tc : Thread Cert.LnLossIdeal.nD Cert.LnLossIdeal.τ).loc Cert.LnLossIdeal.main_arg1)
      ∧ m' ((c.tc : Thread Cert.RefLnLossIdeal.nD Cert.RefLnLossIdeal.τ).loc Cert.RefLnLossIdeal.main_arg2) = m ((c.tc : Thread Cert.LnLossIdeal.nD Cert.LnLossIdeal.τ).loc Cert.LnLossIdeal.main_arg2)
      ∧ m' ((c.tc : Thread Cert.RefLnLossIdeal.nD Cert.RefLnLossIdeal.τ).loc Cert.RefLnLossIdeal.main_arg3) = m ((c.tc : Thread Cert.LnLossIdeal.nD Cert.LnLossIdeal.τ).loc Cert.LnLossIdeal.main_arg3)
      ∧ m' ((c.tc : Thread Cert.RefLnLossIdeal.nD Cert.RefLnLossIdeal.τ).loc Cert.RefLnLossIdeal.main_arg4) = m ((c.tc : Thread Cert.LnLossIdeal.nD Cert.LnLossIdeal.τ).loc Cert.LnLossIdeal.main_arg4)) →
    ∃ (v0 : (c : Dev Cert.LnLossIdeal.nD) → Buf (Elt Ideal) ((c.tc : Thread Cert.LnLossIdeal.nD Cert.LnLossIdeal.τ).loc Cert.LnLossIdeal.main_v4)) (v1 : (c : Dev Cert.LnLossIdeal.nD) → Buf (Elt Ideal) ((c.tc : Thread Cert.LnLossIdeal.nD Cert.LnLossIdeal.τ).loc Cert.LnLossIdeal.main_v2_0)) (v2 : (c : Dev Cert.LnLossIdeal.nD) → Buf (Elt Ideal) ((c.tc : Thread Cert.LnLossIdeal.nD Cert.LnLossIdeal.τ).loc Cert.LnLossIdeal.main_v2_1)) (v3 : (c : Dev Cert.LnLossIdeal.nD) → Buf (Elt Ideal) ((c.tc : Thread Cert.LnLossIdeal.nD Cert.LnLossIdeal.τ).loc Cert.LnLossIdeal.main_v6)) (v4 : (c : Dev Cert.LnLossIdeal.nD) → Buf (Elt Ideal) ((c.tc : Thread Cert.LnLossIdeal.nD Cert.LnLossIdeal.τ).loc Cert.LnLossIdeal.main_v8)),
      θ_run (Cert.LnLossIdeal.defs (F := Ideal)) (onTc (τ := Cert.LnLossIdeal.τ) (Cert.LnLossIdeal.main (F := Ideal))) ⟨m, fun _ => 0, g⟩ (fun r => ∀ c : Dev Cert.LnLossIdeal.nD,
          r.2.mem ((c.tc : Thread Cert.LnLossIdeal.nD Cert.LnLossIdeal.τ).loc Cert.LnLossIdeal.main_v4) = v0 c
          ∧ r.2.mem ((c.tc : Thread Cert.LnLossIdeal.nD Cert.LnLossIdeal.τ).loc Cert.LnLossIdeal.main_v2_0) = v1 c
          ∧ r.2.mem ((c.tc : Thread Cert.LnLossIdeal.nD Cert.LnLossIdeal.τ).loc Cert.LnLossIdeal.main_v2_1) = v2 c
          ∧ r.2.mem ((c.tc : Thread Cert.LnLossIdeal.nD Cert.LnLossIdeal.τ).loc Cert.LnLossIdeal.main_v6) = v3 c
          ∧ r.2.mem ((c.tc : Thread Cert.LnLossIdeal.nD Cert.LnLossIdeal.τ).loc Cert.LnLossIdeal.main_v8) = v4 c
          ∧ r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
          ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
          ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
          ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3)
          ∧ r.2.mem ((c.tc : Thread Cert.LnLossIdeal.nD Cert.LnLossIdeal.τ).loc Cert.LnLossIdeal.main_arg4) = m ((c.tc : Thread Cert.LnLossIdeal.nD Cert.LnLossIdeal.τ).loc Cert.LnLossIdeal.main_arg4))
      ∧ θ_run (Cert.RefLnLossIdeal.defs (F := Ideal)) (onTc (τ := Cert.RefLnLossIdeal.τ) (Cert.RefLnLossIdeal.main (F := Ideal))) ⟨m', fun _ => 0, g'⟩ (fun r => ∀ c : Dev Cert.RefLnLossIdeal.nD,
          r.2.mem ((c.tc : Thread Cert.RefLnLossIdeal.nD Cert.RefLnLossIdeal.τ).loc Cert.RefLnLossIdeal.main_v40) = v0 c
          ∧ r.2.mem ((c.tc : Thread Cert.RefLnLossIdeal.nD Cert.RefLnLossIdeal.τ).loc Cert.RefLnLossIdeal.main_v79) = v1 c
          ∧ r.2.mem ((c.tc : Thread Cert.RefLnLossIdeal.nD Cert.RefLnLossIdeal.τ).loc Cert.RefLnLossIdeal.main_v80) = v2 c
          ∧ r.2.mem ((c.tc : Thread Cert.RefLnLossIdeal.nD Cert.RefLnLossIdeal.τ).loc Cert.RefLnLossIdeal.main_v55) = v3 c
          ∧ r.2.mem ((c.tc : Thread Cert.RefLnLossIdeal.nD Cert.RefLnLossIdeal.τ).loc Cert.RefLnLossIdeal.main_v49) = v4 c
          ∧ r.2.mem ((c.tc : Thread Cert.RefLnLossIdeal.nD Cert.RefLnLossIdeal.τ).loc Cert.RefLnLossIdeal.main_arg0) = m' ((c.tc : Thread Cert.RefLnLossIdeal.nD Cert.RefLnLossIdeal.τ).loc Cert.RefLnLossIdeal.main_arg0)
          ∧ r.2.mem ((c.tc : Thread Cert.RefLnLossIdeal.nD Cert.RefLnLossIdeal.τ).loc Cert.RefLnLossIdeal.main_arg1) = m' ((c.tc : Thread Cert.RefLnLossIdeal.nD Cert.RefLnLossIdeal.τ).loc Cert.RefLnLossIdeal.main_arg1)
          ∧ r.2.mem ((c.tc : Thread Cert.RefLnLossIdeal.nD Cert.RefLnLossIdeal.τ).loc Cert.RefLnLossIdeal.main_arg2) = m' ((c.tc : Thread Cert.RefLnLossIdeal.nD Cert.RefLnLossIdeal.τ).loc Cert.RefLnLossIdeal.main_arg2)
          ∧ r.2.mem ((c.tc : Thread Cert.RefLnLossIdeal.nD Cert.RefLnLossIdeal.τ).loc Cert.RefLnLossIdeal.main_arg3) = m' ((c.tc : Thread Cert.RefLnLossIdeal.nD Cert.RefLnLossIdeal.τ).loc Cert.RefLnLossIdeal.main_arg3)
          ∧ r.2.mem ((c.tc : Thread Cert.RefLnLossIdeal.nD Cert.RefLnLossIdeal.τ).loc Cert.RefLnLossIdeal.main_arg4) = m' ((c.tc : Thread Cert.RefLnLossIdeal.nD Cert.RefLnLossIdeal.τ).loc Cert.RefLnLossIdeal.main_arg4))

def preserves_LnBwd_LnBwdIdeal : Prop :=
  True

def algebraic_LnBwdIdeal_RefLnBwdIdeal_pre_finite_norm [hLnBwdIdeal : Cert.LnBwdIdeal.Facts] [hRefLnBwdIdeal : Cert.RefLnBwdIdeal.Facts] [hPre_finite_norm : Cert.Pre_finite_norm.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.RefLnBwdIdeal.nD Cert.RefLnBwdIdeal.τ Cert.RefLnBwdIdeal.sig) → Buf (Elt Ideal) ℓ) (g' : Dev Cert.RefLnBwdIdeal.nD → PrngReg), Pre_LnBwdIdeal_finite_norm m →
    (∀ c : Dev Cert.LnBwdIdeal.nD,
      m' ((c.tc : Thread Cert.RefLnBwdIdeal.nD Cert.RefLnBwdIdeal.τ).loc Cert.RefLnBwdIdeal.main_arg0) = m ((c.tc : Thread Cert.LnBwdIdeal.nD Cert.LnBwdIdeal.τ).loc Cert.LnBwdIdeal.main_arg0)
      ∧ m' ((c.tc : Thread Cert.RefLnBwdIdeal.nD Cert.RefLnBwdIdeal.τ).loc Cert.RefLnBwdIdeal.main_arg1) = m ((c.tc : Thread Cert.LnBwdIdeal.nD Cert.LnBwdIdeal.τ).loc Cert.LnBwdIdeal.main_arg1)
      ∧ m' ((c.tc : Thread Cert.RefLnBwdIdeal.nD Cert.RefLnBwdIdeal.τ).loc Cert.RefLnBwdIdeal.main_arg2) = m ((c.tc : Thread Cert.LnBwdIdeal.nD Cert.LnBwdIdeal.τ).loc Cert.LnBwdIdeal.main_arg2)
      ∧ m' ((c.tc : Thread Cert.RefLnBwdIdeal.nD Cert.RefLnBwdIdeal.τ).loc Cert.RefLnBwdIdeal.main_arg3) = m ((c.tc : Thread Cert.LnBwdIdeal.nD Cert.LnBwdIdeal.τ).loc Cert.LnBwdIdeal.main_arg3)) →
    ∃ (v0 : (c : Dev Cert.LnBwdIdeal.nD) → Buf (Elt Ideal) ((c.tc : Thread Cert.LnBwdIdeal.nD Cert.LnBwdIdeal.τ).loc Cert.LnBwdIdeal.main_v1_0)) (v1 : (c : Dev Cert.LnBwdIdeal.nD) → Buf (Elt Ideal) ((c.tc : Thread Cert.LnBwdIdeal.nD Cert.LnBwdIdeal.τ).loc Cert.LnBwdIdeal.main_v1_1)) (v2 : (c : Dev Cert.LnBwdIdeal.nD) → Buf (Elt Ideal) ((c.tc : Thread Cert.LnBwdIdeal.nD Cert.LnBwdIdeal.τ).loc Cert.LnBwdIdeal.main_v3)) (v3 : (c : Dev Cert.LnBwdIdeal.nD) → Buf (Elt Ideal) ((c.tc : Thread Cert.LnBwdIdeal.nD Cert.LnBwdIdeal.τ).loc Cert.LnBwdIdeal.main_v5)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v1_0) = v0 c
          ∧ r.2.mem ((c.tc : Thread Cert.LnBwdIdeal.nD Cert.LnBwdIdeal.τ).loc Cert.LnBwdIdeal.main_v1_1) = v1 c
          ∧ r.2.mem ((c.tc : Thread Cert.LnBwdIdeal.nD Cert.LnBwdIdeal.τ).loc Cert.LnBwdIdeal.main_v3) = v2 c
          ∧ r.2.mem ((c.tc : Thread Cert.LnBwdIdeal.nD Cert.LnBwdIdeal.τ).loc Cert.LnBwdIdeal.main_v5) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ θ_run (Cert.RefLnBwdIdeal.defs (F := Ideal)) (onTc (τ := Cert.RefLnBwdIdeal.τ) (Cert.RefLnBwdIdeal.main (F := Ideal))) ⟨m', fun _ => 0, g'⟩ (fun r => ∀ c : Dev Cert.RefLnBwdIdeal.nD,
          r.2.mem ((c.tc : Thread Cert.RefLnBwdIdeal.nD Cert.RefLnBwdIdeal.τ).loc Cert.RefLnBwdIdeal.main_v65) = v0 c
          ∧ r.2.mem ((c.tc : Thread Cert.RefLnBwdIdeal.nD Cert.RefLnBwdIdeal.τ).loc Cert.RefLnBwdIdeal.main_v66) = v1 c
          ∧ r.2.mem ((c.tc : Thread Cert.RefLnBwdIdeal.nD Cert.RefLnBwdIdeal.τ).loc Cert.RefLnBwdIdeal.main_v41) = v2 c
          ∧ r.2.mem ((c.tc : Thread Cert.RefLnBwdIdeal.nD Cert.RefLnBwdIdeal.τ).loc Cert.RefLnBwdIdeal.main_v35) = v3 c
          ∧ r.2.mem ((c.tc : Thread Cert.RefLnBwdIdeal.nD Cert.RefLnBwdIdeal.τ).loc Cert.RefLnBwdIdeal.main_arg0) = m' ((c.tc : Thread Cert.RefLnBwdIdeal.nD Cert.RefLnBwdIdeal.τ).loc Cert.RefLnBwdIdeal.main_arg0)
          ∧ r.2.mem ((c.tc : Thread Cert.RefLnBwdIdeal.nD Cert.RefLnBwdIdeal.τ).loc Cert.RefLnBwdIdeal.main_arg1) = m' ((c.tc : Thread Cert.RefLnBwdIdeal.nD Cert.RefLnBwdIdeal.τ).loc Cert.RefLnBwdIdeal.main_arg1)
          ∧ r.2.mem ((c.tc : Thread Cert.RefLnBwdIdeal.nD Cert.RefLnBwdIdeal.τ).loc Cert.RefLnBwdIdeal.main_arg2) = m' ((c.tc : Thread Cert.RefLnBwdIdeal.nD Cert.RefLnBwdIdeal.τ).loc Cert.RefLnBwdIdeal.main_arg2)
          ∧ r.2.mem ((c.tc : Thread Cert.RefLnBwdIdeal.nD Cert.RefLnBwdIdeal.τ).loc Cert.RefLnBwdIdeal.main_arg3) = m' ((c.tc : Thread Cert.RefLnBwdIdeal.nD Cert.RefLnBwdIdeal.τ).loc Cert.RefLnBwdIdeal.main_arg3))

def preserves_LnBwdAlone_LnBwdAloneIdeal : Prop :=
  True

def algebraic_LnBwdAloneIdeal_RefLnBwdAloneIdeal_pre_finite_norm_alone [hLnBwdAloneIdeal : Cert.LnBwdAloneIdeal.Facts] [hRefLnBwdAloneIdeal : Cert.RefLnBwdAloneIdeal.Facts] [hPre_finite_norm_alone : Cert.Pre_finite_norm_alone.Facts] : Prop :=
  ∀ (m : (ℓ : Loc Cert.LnBwdAloneIdeal.nD Cert.LnBwdAloneIdeal.τ Cert.LnBwdAloneIdeal.sig) → Buf (Elt Ideal) ℓ) (g : Dev Cert.LnBwdAloneIdeal.nD → PrngReg)
    (m' : (ℓ : Loc Cert.RefLnBwdAloneIdeal.nD Cert.RefLnBwdAloneIdeal.τ Cert.RefLnBwdAloneIdeal.sig) → Buf (Elt Ideal) ℓ) (g' : Dev Cert.RefLnBwdAloneIdeal.nD → PrngReg), Pre_LnBwdAloneIdeal_finite_norm_alone m →
    (∀ c : Dev Cert.LnBwdAloneIdeal.nD,
      m' ((c.tc : Thread Cert.RefLnBwdAloneIdeal.nD Cert.RefLnBwdAloneIdeal.τ).loc Cert.RefLnBwdAloneIdeal.main_arg0) = m ((c.tc : Thread Cert.LnBwdAloneIdeal.nD Cert.LnBwdAloneIdeal.τ).loc Cert.LnBwdAloneIdeal.main_arg0)
      ∧ m' ((c.tc : Thread Cert.RefLnBwdAloneIdeal.nD Cert.RefLnBwdAloneIdeal.τ).loc Cert.RefLnBwdAloneIdeal.main_arg1) = m ((c.tc : Thread Cert.LnBwdAloneIdeal.nD Cert.LnBwdAloneIdeal.τ).loc Cert.LnBwdAloneIdeal.main_arg1)
      ∧ m' ((c.tc : Thread Cert.RefLnBwdAloneIdeal.nD Cert.RefLnBwdAloneIdeal.τ).loc Cert.RefLnBwdAloneIdeal.main_arg2) = m ((c.tc : Thread Cert.LnBwdAloneIdeal.nD Cert.LnBwdAloneIdeal.τ).loc Cert.LnBwdAloneIdeal.main_arg2)) →
    ∃ (v0 : (c : Dev Cert.LnBwdAloneIdeal.nD) → Buf (Elt Ideal) ((c.tc : Thread Cert.LnBwdAloneIdeal.nD Cert.LnBwdAloneIdeal.τ).loc Cert.LnBwdAloneIdeal.main_v1_0)) (v1 : (c : Dev Cert.LnBwdAloneIdeal.nD) → Buf (Elt Ideal) ((c.tc : Thread Cert.LnBwdAloneIdeal.nD Cert.LnBwdAloneIdeal.τ).loc Cert.LnBwdAloneIdeal.main_v1_1)) (v2 : (c : Dev Cert.LnBwdAloneIdeal.nD) → Buf (Elt Ideal) ((c.tc : Thread Cert.LnBwdAloneIdeal.nD Cert.LnBwdAloneIdeal.τ).loc Cert.LnBwdAloneIdeal.main_v3)) (v3 : (c : Dev Cert.LnBwdAloneIdeal.nD) → Buf (Elt Ideal) ((c.tc : Thread Cert.LnBwdAloneIdeal.nD Cert.LnBwdAloneIdeal.τ).loc Cert.LnBwdAloneIdeal.main_v5)),
      θ_run (Cert.LnBwdAloneIdeal.defs (F := Ideal)) (onTc (τ := Cert.LnBwdAloneIdeal.τ) (Cert.LnBwdAloneIdeal.main (F := Ideal))) ⟨m, fun _ => 0, g⟩ (fun r => ∀ c : Dev Cert.LnBwdAloneIdeal.nD,
          r.2.mem ((c.tc : Thread Cert.LnBwdAloneIdeal.nD Cert.LnBwdAloneIdeal.τ).loc Cert.LnBwdAloneIdeal.main_v1_0) = v0 c
          ∧ r.2.mem ((c.tc : Thread Cert.LnBwdAloneIdeal.nD Cert.LnBwdAloneIdeal.τ).loc Cert.LnBwdAloneIdeal.main_v1_1) = v1 c
          ∧ r.2.mem ((c.tc : Thread Cert.LnBwdAloneIdeal.nD Cert.LnBwdAloneIdeal.τ).loc Cert.LnBwdAloneIdeal.main_v3) = v2 c
          ∧ r.2.mem ((c.tc : Thread Cert.LnBwdAloneIdeal.nD Cert.LnBwdAloneIdeal.τ).loc Cert.LnBwdAloneIdeal.main_v5) = v3 c
          ∧ r.2.mem ((c.tc : Thread Cert.LnBwdAloneIdeal.nD Cert.LnBwdAloneIdeal.τ).loc Cert.LnBwdAloneIdeal.main_arg0) = m ((c.tc : Thread Cert.LnBwdAloneIdeal.nD Cert.LnBwdAloneIdeal.τ).loc Cert.LnBwdAloneIdeal.main_arg0)
          ∧ r.2.mem ((c.tc : Thread Cert.LnBwdAloneIdeal.nD Cert.LnBwdAloneIdeal.τ).loc Cert.LnBwdAloneIdeal.main_arg1) = m ((c.tc : Thread Cert.LnBwdAloneIdeal.nD Cert.LnBwdAloneIdeal.τ).loc Cert.LnBwdAloneIdeal.main_arg1)
          ∧ r.2.mem ((c.tc : Thread Cert.LnBwdAloneIdeal.nD Cert.LnBwdAloneIdeal.τ).loc Cert.LnBwdAloneIdeal.main_arg2) = m ((c.tc : Thread Cert.LnBwdAloneIdeal.nD Cert.LnBwdAloneIdeal.τ).loc Cert.LnBwdAloneIdeal.main_arg2))
      ∧ θ_run (Cert.RefLnBwdAloneIdeal.defs (F := Ideal)) (onTc (τ := Cert.RefLnBwdAloneIdeal.τ) (Cert.RefLnBwdAloneIdeal.main (F := Ideal))) ⟨m', fun _ => 0, g'⟩ (fun r => ∀ c : Dev Cert.RefLnBwdAloneIdeal.nD,
          r.2.mem ((c.tc : Thread Cert.RefLnBwdAloneIdeal.nD Cert.RefLnBwdAloneIdeal.τ).loc Cert.RefLnBwdAloneIdeal.main_v63) = v0 c
          ∧ r.2.mem ((c.tc : Thread Cert.RefLnBwdAloneIdeal.nD Cert.RefLnBwdAloneIdeal.τ).loc Cert.RefLnBwdAloneIdeal.main_v64) = v1 c
          ∧ r.2.mem ((c.tc : Thread Cert.RefLnBwdAloneIdeal.nD Cert.RefLnBwdAloneIdeal.τ).loc Cert.RefLnBwdAloneIdeal.main_v39) = v2 c
          ∧ r.2.mem ((c.tc : Thread Cert.RefLnBwdAloneIdeal.nD Cert.RefLnBwdAloneIdeal.τ).loc Cert.RefLnBwdAloneIdeal.main_v33) = v3 c
          ∧ r.2.mem ((c.tc : Thread Cert.RefLnBwdAloneIdeal.nD Cert.RefLnBwdAloneIdeal.τ).loc Cert.RefLnBwdAloneIdeal.main_arg0) = m' ((c.tc : Thread Cert.RefLnBwdAloneIdeal.nD Cert.RefLnBwdAloneIdeal.τ).loc Cert.RefLnBwdAloneIdeal.main_arg0)
          ∧ r.2.mem ((c.tc : Thread Cert.RefLnBwdAloneIdeal.nD Cert.RefLnBwdAloneIdeal.τ).loc Cert.RefLnBwdAloneIdeal.main_arg1) = m' ((c.tc : Thread Cert.RefLnBwdAloneIdeal.nD Cert.RefLnBwdAloneIdeal.τ).loc Cert.RefLnBwdAloneIdeal.main_arg1)
          ∧ r.2.mem ((c.tc : Thread Cert.RefLnBwdAloneIdeal.nD Cert.RefLnBwdAloneIdeal.τ).loc Cert.RefLnBwdAloneIdeal.main_arg2) = m' ((c.tc : Thread Cert.RefLnBwdAloneIdeal.nD Cert.RefLnBwdAloneIdeal.τ).loc Cert.RefLnBwdAloneIdeal.main_arg2))

def preserves_LnFwd_LnFwdIdeal : Prop :=
  True

def algebraic_LnFwdIdeal_RefLnFwdIdeal [hLnFwdIdeal : Cert.LnFwdIdeal.Facts] [hRefLnFwdIdeal : Cert.RefLnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.RefLnFwdIdeal.nD Cert.RefLnFwdIdeal.τ Cert.RefLnFwdIdeal.sig) → Buf (Elt Ideal) ℓ) (g' : Dev Cert.RefLnFwdIdeal.nD → PrngReg), Pre_LnFwdIdeal m →
    (∀ c : Dev Cert.LnFwdIdeal.nD,
      m' ((c.tc : Thread Cert.RefLnFwdIdeal.nD Cert.RefLnFwdIdeal.τ).loc Cert.RefLnFwdIdeal.main_arg0) = m ((c.tc : Thread Cert.LnFwdIdeal.nD Cert.LnFwdIdeal.τ).loc Cert.LnFwdIdeal.main_arg0)
      ∧ m' ((c.tc : Thread Cert.RefLnFwdIdeal.nD Cert.RefLnFwdIdeal.τ).loc Cert.RefLnFwdIdeal.main_arg1) = m ((c.tc : Thread Cert.LnFwdIdeal.nD Cert.LnFwdIdeal.τ).loc Cert.LnFwdIdeal.main_arg1)
      ∧ m' ((c.tc : Thread Cert.RefLnFwdIdeal.nD Cert.RefLnFwdIdeal.τ).loc Cert.RefLnFwdIdeal.main_arg2) = m ((c.tc : Thread Cert.LnFwdIdeal.nD Cert.LnFwdIdeal.τ).loc Cert.LnFwdIdeal.main_arg2)
      ∧ m' ((c.tc : Thread Cert.RefLnFwdIdeal.nD Cert.RefLnFwdIdeal.τ).loc Cert.RefLnFwdIdeal.main_arg3) = m ((c.tc : Thread Cert.LnFwdIdeal.nD Cert.LnFwdIdeal.τ).loc Cert.LnFwdIdeal.main_arg3)) →
    ∃ (v0 : (c : Dev Cert.LnFwdIdeal.nD) → Buf (Elt Ideal) ((c.tc : Thread Cert.LnFwdIdeal.nD Cert.LnFwdIdeal.τ).loc Cert.LnFwdIdeal.main_v2_0)) (v1 : (c : Dev Cert.LnFwdIdeal.nD) → Buf (Elt Ideal) ((c.tc : Thread Cert.LnFwdIdeal.nD Cert.LnFwdIdeal.τ).loc Cert.LnFwdIdeal.main_v2_1)) (v2 : (c : Dev Cert.LnFwdIdeal.nD) → Buf (Elt Ideal) ((c.tc : Thread Cert.LnFwdIdeal.nD Cert.LnFwdIdeal.τ).loc Cert.LnFwdIdeal.main_v2_2)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v2_0) = v0 c
          ∧ r.2.mem ((c.tc : Thread Cert.LnFwdIdeal.nD Cert.LnFwdIdeal.τ).loc Cert.LnFwdIdeal.main_v2_1) = v1 c
          ∧ r.2.mem ((c.tc : Thread Cert.LnFwdIdeal.nD Cert.LnFwdIdeal.τ).loc Cert.LnFwdIdeal.main_v2_2) = v2 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
          ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
          ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3))
      ∧ θ_run (Cert.RefLnFwdIdeal.defs (F := Ideal)) (onTc (τ := Cert.RefLnFwdIdeal.τ) (Cert.RefLnFwdIdeal.main (F := Ideal))) ⟨m', fun _ => 0, g'⟩ (fun r => ∀ c : Dev Cert.RefLnFwdIdeal.nD,
          r.2.mem ((c.tc : Thread Cert.RefLnFwdIdeal.nD Cert.RefLnFwdIdeal.τ).loc Cert.RefLnFwdIdeal.main_v2) = v0 c
          ∧ r.2.mem ((c.tc : Thread Cert.RefLnFwdIdeal.nD Cert.RefLnFwdIdeal.τ).loc Cert.RefLnFwdIdeal.main_v26) = v1 c
          ∧ r.2.mem ((c.tc : Thread Cert.RefLnFwdIdeal.nD Cert.RefLnFwdIdeal.τ).loc Cert.RefLnFwdIdeal.main_v27) = v2 c
          ∧ r.2.mem ((c.tc : Thread Cert.RefLnFwdIdeal.nD Cert.RefLnFwdIdeal.τ).loc Cert.RefLnFwdIdeal.main_arg0) = m' ((c.tc : Thread Cert.RefLnFwdIdeal.nD Cert.RefLnFwdIdeal.τ).loc Cert.RefLnFwdIdeal.main_arg0)
          ∧ r.2.mem ((c.tc : Thread Cert.RefLnFwdIdeal.nD Cert.RefLnFwdIdeal.τ).loc Cert.RefLnFwdIdeal.main_arg1) = m' ((c.tc : Thread Cert.RefLnFwdIdeal.nD Cert.RefLnFwdIdeal.τ).loc Cert.RefLnFwdIdeal.main_arg1)
          ∧ r.2.mem ((c.tc : Thread Cert.RefLnFwdIdeal.nD Cert.RefLnFwdIdeal.τ).loc Cert.RefLnFwdIdeal.main_arg2) = m' ((c.tc : Thread Cert.RefLnFwdIdeal.nD Cert.RefLnFwdIdeal.τ).loc Cert.RefLnFwdIdeal.main_arg2)
          ∧ r.2.mem ((c.tc : Thread Cert.RefLnFwdIdeal.nD Cert.RefLnFwdIdeal.τ).loc Cert.RefLnFwdIdeal.main_arg3) = m' ((c.tc : Thread Cert.RefLnFwdIdeal.nD Cert.RefLnFwdIdeal.τ).loc Cert.RefLnFwdIdeal.main_arg3))

def preserves_ConvGateFwd_ConvGateFwdIdeal : Prop :=
  True

def algebraic_ConvGateFwdIdeal_RefConvGateFwdIdeal [hConvGateFwdIdeal : Cert.ConvGateFwdIdeal.Facts] [hRefConvGateFwdIdeal : Cert.RefConvGateFwdIdeal.Facts] : Prop :=
  ∀ (m : (ℓ : Loc Cert.ConvGateFwdIdeal.nD Cert.ConvGateFwdIdeal.τ Cert.ConvGateFwdIdeal.sig) → Buf (Elt Ideal) ℓ) (g : Dev Cert.ConvGateFwdIdeal.nD → PrngReg)
    (m' : (ℓ : Loc Cert.RefConvGateFwdIdeal.nD Cert.RefConvGateFwdIdeal.τ Cert.RefConvGateFwdIdeal.sig) → Buf (Elt Ideal) ℓ) (g' : Dev Cert.RefConvGateFwdIdeal.nD → PrngReg), Pre_ConvGateFwdIdeal m →
    (∀ c : Dev Cert.ConvGateFwdIdeal.nD,
      m' ((c.tc : Thread Cert.RefConvGateFwdIdeal.nD Cert.RefConvGateFwdIdeal.τ).loc Cert.RefConvGateFwdIdeal.main_arg0) = m ((c.tc : Thread Cert.ConvGateFwdIdeal.nD Cert.ConvGateFwdIdeal.τ).loc Cert.ConvGateFwdIdeal.main_arg0)
      ∧ m' ((c.tc : Thread Cert.RefConvGateFwdIdeal.nD Cert.RefConvGateFwdIdeal.τ).loc Cert.RefConvGateFwdIdeal.main_arg1) = m ((c.tc : Thread Cert.ConvGateFwdIdeal.nD Cert.ConvGateFwdIdeal.τ).loc Cert.ConvGateFwdIdeal.main_arg1)
      ∧ m' ((c.tc : Thread Cert.RefConvGateFwdIdeal.nD Cert.RefConvGateFwdIdeal.τ).loc Cert.RefConvGateFwdIdeal.main_arg2) = m ((c.tc : Thread Cert.ConvGateFwdIdeal.nD Cert.ConvGateFwdIdeal.τ).loc Cert.ConvGateFwdIdeal.main_arg2)
      ∧ m' ((c.tc : Thread Cert.RefConvGateFwdIdeal.nD Cert.RefConvGateFwdIdeal.τ).loc Cert.RefConvGateFwdIdeal.main_arg3) = m ((c.tc : Thread Cert.ConvGateFwdIdeal.nD Cert.ConvGateFwdIdeal.τ).loc Cert.ConvGateFwdIdeal.main_arg3)) →
    ∃ (v0 : (c : Dev Cert.ConvGateFwdIdeal.nD) → Buf (Elt Ideal) ((c.tc : Thread Cert.ConvGateFwdIdeal.nD Cert.ConvGateFwdIdeal.τ).loc Cert.ConvGateFwdIdeal.main_v1)),
      θ_run (Cert.ConvGateFwdIdeal.defs (F := Ideal)) (onTc (τ := Cert.ConvGateFwdIdeal.τ) (Cert.ConvGateFwdIdeal.main (F := Ideal))) ⟨m, fun _ => 0, g⟩ (fun r => ∀ c : Dev Cert.ConvGateFwdIdeal.nD,
          r.2.mem ((c.tc : Thread Cert.ConvGateFwdIdeal.nD Cert.ConvGateFwdIdeal.τ).loc Cert.ConvGateFwdIdeal.main_v1) = v0 c
          ∧ r.2.mem ((c.tc : Thread Cert.ConvGateFwdIdeal.nD Cert.ConvGateFwdIdeal.τ).loc Cert.ConvGateFwdIdeal.main_arg0) = m ((c.tc : Thread Cert.ConvGateFwdIdeal.nD Cert.ConvGateFwdIdeal.τ).loc Cert.ConvGateFwdIdeal.main_arg0)
          ∧ r.2.mem ((c.tc : Thread Cert.ConvGateFwdIdeal.nD Cert.ConvGateFwdIdeal.τ).loc Cert.ConvGateFwdIdeal.main_arg1) = m ((c.tc : Thread Cert.ConvGateFwdIdeal.nD Cert.ConvGateFwdIdeal.τ).loc Cert.ConvGateFwdIdeal.main_arg1)
          ∧ r.2.mem ((c.tc : Thread Cert.ConvGateFwdIdeal.nD Cert.ConvGateFwdIdeal.τ).loc Cert.ConvGateFwdIdeal.main_arg2) = m ((c.tc : Thread Cert.ConvGateFwdIdeal.nD Cert.ConvGateFwdIdeal.τ).loc Cert.ConvGateFwdIdeal.main_arg2)
          ∧ r.2.mem ((c.tc : Thread Cert.ConvGateFwdIdeal.nD Cert.ConvGateFwdIdeal.τ).loc Cert.ConvGateFwdIdeal.main_arg3) = m ((c.tc : Thread Cert.ConvGateFwdIdeal.nD Cert.ConvGateFwdIdeal.τ).loc Cert.ConvGateFwdIdeal.main_arg3))
      ∧ θ_run (Cert.RefConvGateFwdIdeal.defs (F := Ideal)) (onTc (τ := Cert.RefConvGateFwdIdeal.τ) (Cert.RefConvGateFwdIdeal.main (F := Ideal))) ⟨m', fun _ => 0, g'⟩ (fun r => ∀ c : Dev Cert.RefConvGateFwdIdeal.nD,
          r.2.mem ((c.tc : Thread Cert.RefConvGateFwdIdeal.nD Cert.RefConvGateFwdIdeal.τ).loc Cert.RefConvGateFwdIdeal.main_v29) = v0 c
          ∧ r.2.mem ((c.tc : Thread Cert.RefConvGateFwdIdeal.nD Cert.RefConvGateFwdIdeal.τ).loc Cert.RefConvGateFwdIdeal.main_arg0) = m' ((c.tc : Thread Cert.RefConvGateFwdIdeal.nD Cert.RefConvGateFwdIdeal.τ).loc Cert.RefConvGateFwdIdeal.main_arg0)
          ∧ r.2.mem ((c.tc : Thread Cert.RefConvGateFwdIdeal.nD Cert.RefConvGateFwdIdeal.τ).loc Cert.RefConvGateFwdIdeal.main_arg1) = m' ((c.tc : Thread Cert.RefConvGateFwdIdeal.nD Cert.RefConvGateFwdIdeal.τ).loc Cert.RefConvGateFwdIdeal.main_arg1)
          ∧ r.2.mem ((c.tc : Thread Cert.RefConvGateFwdIdeal.nD Cert.RefConvGateFwdIdeal.τ).loc Cert.RefConvGateFwdIdeal.main_arg2) = m' ((c.tc : Thread Cert.RefConvGateFwdIdeal.nD Cert.RefConvGateFwdIdeal.τ).loc Cert.RefConvGateFwdIdeal.main_arg2)
          ∧ r.2.mem ((c.tc : Thread Cert.RefConvGateFwdIdeal.nD Cert.RefConvGateFwdIdeal.τ).loc Cert.RefConvGateFwdIdeal.main_arg3) = m' ((c.tc : Thread Cert.RefConvGateFwdIdeal.nD Cert.RefConvGateFwdIdeal.τ).loc Cert.RefConvGateFwdIdeal.main_arg3))

def preserves_Swap_SwapIdeal : Prop :=
  True

def algebraic_SwapIdeal_RefSwapIdeal [hSwapIdeal : Cert.SwapIdeal.Facts] [hRefSwapIdeal : Cert.RefSwapIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.RefSwapIdeal.nD Cert.RefSwapIdeal.τ Cert.RefSwapIdeal.sig) → Buf (Elt Ideal) ℓ) (g' : Dev Cert.RefSwapIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨4, ![4, 2, 704, 2048]⟩ ⟨4, ![32, 2, 704, 2048]⟩ 0 8 c (m' (((0 : Dev Cert.RefSwapIdeal.nD).tc : Thread Cert.RefSwapIdeal.nD Cert.RefSwapIdeal.τ).loc Cert.RefSwapIdeal.main_arg0))) →
    ∃ (v0 : Buf (Elt Ideal) (((0 : Dev Cert.RefSwapIdeal.nD).tc : Thread Cert.RefSwapIdeal.nD Cert.RefSwapIdeal.τ).loc Cert.RefSwapIdeal.main_v16)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1) = Layout.block ⟨3, ![4, 704, 2048]⟩ ⟨3, ![32, 704, 2048]⟩ 0 8 c v0
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ θ_run (Cert.RefSwapIdeal.defs (F := Ideal)) (onTc (τ := Cert.RefSwapIdeal.τ) (Cert.RefSwapIdeal.main (F := Ideal))) ⟨m', fun _ => 0, g'⟩ (fun r =>
          r.2.mem (((0 : Dev Cert.RefSwapIdeal.nD).tc : Thread Cert.RefSwapIdeal.nD Cert.RefSwapIdeal.τ).loc Cert.RefSwapIdeal.main_v16) = v0
          ∧ r.2.mem (((0 : Dev Cert.RefSwapIdeal.nD).tc : Thread Cert.RefSwapIdeal.nD Cert.RefSwapIdeal.τ).loc Cert.RefSwapIdeal.main_arg0) = m' (((0 : Dev Cert.RefSwapIdeal.nD).tc : Thread Cert.RefSwapIdeal.nD Cert.RefSwapIdeal.τ).loc Cert.RefSwapIdeal.main_arg0))

def preserves_Cast_CastIdeal : Prop :=
  True

def algebraic_CastIdeal_RefCastIdeal [hCastIdeal : Cert.CastIdeal.Facts] [hRefCastIdeal : Cert.RefCastIdeal.Facts] : Prop :=
  ∀ (m : (ℓ : Loc Cert.CastIdeal.nD Cert.CastIdeal.τ Cert.CastIdeal.sig) → Buf (Elt Ideal) ℓ) (g : Dev Cert.CastIdeal.nD → PrngReg)
    (m' : (ℓ : Loc Cert.RefCastIdeal.nD Cert.RefCastIdeal.τ Cert.RefCastIdeal.sig) → Buf (Elt Ideal) ℓ) (g' : Dev Cert.RefCastIdeal.nD → PrngReg), Pre_CastIdeal m →
    (∀ c : Dev Cert.CastIdeal.nD,
      m' ((c.tc : Thread Cert.RefCastIdeal.nD Cert.RefCastIdeal.τ).loc Cert.RefCastIdeal.main_arg0) = m ((c.tc : Thread Cert.CastIdeal.nD Cert.CastIdeal.τ).loc Cert.CastIdeal.main_arg0)) →
    ∃ (v0 : (c : Dev Cert.CastIdeal.nD) → Buf (Elt Ideal) ((c.tc : Thread Cert.CastIdeal.nD Cert.CastIdeal.τ).loc Cert.CastIdeal.main_v0)),
      θ_run (Cert.CastIdeal.defs (F := Ideal)) (onTc (τ := Cert.CastIdeal.τ) (Cert.CastIdeal.main (F := Ideal))) ⟨m, fun _ => 0, g⟩ (fun r => ∀ c : Dev Cert.CastIdeal.nD,
          r.2.mem ((c.tc : Thread Cert.CastIdeal.nD Cert.CastIdeal.τ).loc Cert.CastIdeal.main_v0) = v0 c
          ∧ r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ θ_run (Cert.RefCastIdeal.defs (F := Ideal)) (onTc (τ := Cert.RefCastIdeal.τ) (Cert.RefCastIdeal.main (F := Ideal))) ⟨m', fun _ => 0, g'⟩ (fun r => ∀ c : Dev Cert.RefCastIdeal.nD,
          r.2.mem ((c.tc : Thread Cert.RefCastIdeal.nD Cert.RefCastIdeal.τ).loc Cert.RefCastIdeal.main_v2) = v0 c
          ∧ r.2.mem ((c.tc : Thread Cert.RefCastIdeal.nD Cert.RefCastIdeal.τ).loc Cert.RefCastIdeal.main_arg0) = m' ((c.tc : Thread Cert.RefCastIdeal.nD Cert.RefCastIdeal.τ).loc Cert.RefCastIdeal.main_arg0))

def preserves_Mixed_MixedIdeal : Prop :=
  True

def algebraic_MixedIdeal_RefMixedIdeal [hMixedIdeal : Cert.MixedIdeal.Facts] [hRefMixedIdeal : Cert.RefMixedIdeal.Facts] : Prop :=
  ∀ (m : (ℓ : Loc Cert.MixedIdeal.nD Cert.MixedIdeal.τ Cert.MixedIdeal.sig) → Buf (Elt Ideal) ℓ) (g : Dev Cert.MixedIdeal.nD → PrngReg)
    (m' : (ℓ : Loc Cert.RefMixedIdeal.nD Cert.RefMixedIdeal.τ Cert.RefMixedIdeal.sig) → Buf (Elt Ideal) ℓ) (g' : Dev Cert.RefMixedIdeal.nD → PrngReg), Pre_MixedIdeal m →
    (∀ c : Dev Cert.MixedIdeal.nD,
      m' ((c.tc : Thread Cert.RefMixedIdeal.nD Cert.RefMixedIdeal.τ).loc Cert.RefMixedIdeal.main_arg0) = m ((c.tc : Thread Cert.MixedIdeal.nD Cert.MixedIdeal.τ).loc Cert.MixedIdeal.main_arg0)
      ∧ m' ((c.tc : Thread Cert.RefMixedIdeal.nD Cert.RefMixedIdeal.τ).loc Cert.RefMixedIdeal.main_arg1) = m ((c.tc : Thread Cert.MixedIdeal.nD Cert.MixedIdeal.τ).loc Cert.MixedIdeal.main_arg1)
      ∧ m' ((c.tc : Thread Cert.RefMixedIdeal.nD Cert.RefMixedIdeal.τ).loc Cert.RefMixedIdeal.main_arg2) = m ((c.tc : Thread Cert.MixedIdeal.nD Cert.MixedIdeal.τ).loc Cert.MixedIdeal.main_arg2)) →
    ∃ (v0 : (c : Dev Cert.MixedIdeal.nD) → Buf (Elt Ideal) ((c.tc : Thread Cert.MixedIdeal.nD Cert.MixedIdeal.τ).loc Cert.MixedIdeal.main_v0)),
      θ_run (Cert.MixedIdeal.defs (F := Ideal)) (onTc (τ := Cert.MixedIdeal.τ) (Cert.MixedIdeal.main (F := Ideal))) ⟨m, fun _ => 0, g⟩ (fun r => ∀ c : Dev Cert.MixedIdeal.nD,
          r.2.mem ((c.tc : Thread Cert.MixedIdeal.nD Cert.MixedIdeal.τ).loc Cert.MixedIdeal.main_v0) = v0 c
          ∧ r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2))
      ∧ θ_run (Cert.RefMixedIdeal.defs (F := Ideal)) (onTc (τ := Cert.RefMixedIdeal.τ) (Cert.RefMixedIdeal.main (F := Ideal))) ⟨m', fun _ => 0, g'⟩ (fun r => ∀ c : Dev Cert.RefMixedIdeal.nD,
          r.2.mem ((c.tc : Thread Cert.RefMixedIdeal.nD Cert.RefMixedIdeal.τ).loc Cert.RefMixedIdeal.main_v1) = v0 c
          ∧ r.2.mem ((c.tc : Thread Cert.RefMixedIdeal.nD Cert.RefMixedIdeal.τ).loc Cert.RefMixedIdeal.main_arg0) = m' ((c.tc : Thread Cert.RefMixedIdeal.nD Cert.RefMixedIdeal.τ).loc Cert.RefMixedIdeal.main_arg0)
          ∧ r.2.mem ((c.tc : Thread Cert.RefMixedIdeal.nD Cert.RefMixedIdeal.τ).loc Cert.RefMixedIdeal.main_arg1) = m' ((c.tc : Thread Cert.RefMixedIdeal.nD Cert.RefMixedIdeal.τ).loc Cert.RefMixedIdeal.main_arg1)
          ∧ r.2.mem ((c.tc : Thread Cert.RefMixedIdeal.nD Cert.RefMixedIdeal.τ).loc Cert.RefMixedIdeal.main_arg2) = m' ((c.tc : Thread Cert.RefMixedIdeal.nD Cert.RefMixedIdeal.τ).loc Cert.RefMixedIdeal.main_arg2))

def preserves_PairAdd_PairAddIdeal : Prop :=
  True

def algebraic_PairAddIdeal_RefPairAddIdeal [hPairAddIdeal : Cert.PairAddIdeal.Facts] [hRefPairAddIdeal : Cert.RefPairAddIdeal.Facts] [hPre_a_core : Cert.Pre_a_core.Facts] : Prop :=
  ∀ (m : (ℓ : Loc Cert.PairAddIdeal.nD Cert.PairAddIdeal.τ Cert.PairAddIdeal.sig) → Buf (Elt Ideal) ℓ) (g : Dev Cert.PairAddIdeal.nD → PrngReg)
    (m' : (ℓ : Loc Cert.RefPairAddIdeal.nD Cert.RefPairAddIdeal.τ Cert.RefPairAddIdeal.sig) → Buf (Elt Ideal) ℓ) (g' : Dev Cert.RefPairAddIdeal.nD → PrngReg), Pre_PairAddIdeal m →
    (∀ c : Dev Cert.PairAddIdeal.nD,
      m' ((c.tc : Thread Cert.RefPairAddIdeal.nD Cert.RefPairAddIdeal.τ).loc Cert.RefPairAddIdeal.main_arg0) = m ((c.tc : Thread Cert.PairAddIdeal.nD Cert.PairAddIdeal.τ).loc Cert.PairAddIdeal.main_arg0)
      ∧ m' ((c.tc : Thread Cert.RefPairAddIdeal.nD Cert.RefPairAddIdeal.τ).loc Cert.RefPairAddIdeal.main_arg1) = m ((c.tc : Thread Cert.PairAddIdeal.nD Cert.PairAddIdeal.τ).loc Cert.PairAddIdeal.main_arg1)
      ∧ m' ((c.tc : Thread Cert.RefPairAddIdeal.nD Cert.RefPairAddIdeal.τ).loc Cert.RefPairAddIdeal.main_arg2) = m ((c.tc : Thread Cert.PairAddIdeal.nD Cert.PairAddIdeal.τ).loc Cert.PairAddIdeal.main_arg2)) →
    ∃ (v0 : (c : Dev Cert.PairAddIdeal.nD) → Buf (Elt Ideal) ((c.tc : Thread Cert.PairAddIdeal.nD Cert.PairAddIdeal.τ).loc Cert.PairAddIdeal.main_v1)),
      θ_run (Cert.PairAddIdeal.defs (F := Ideal)) (onTc (τ := Cert.PairAddIdeal.τ) (Cert.PairAddIdeal.main (F := Ideal))) ⟨m, fun _ => 0, g⟩ (fun r => ∀ c : Dev Cert.PairAddIdeal.nD,
          r.2.mem ((c.tc : Thread Cert.PairAddIdeal.nD Cert.PairAddIdeal.τ).loc Cert.PairAddIdeal.main_v1) = v0 c
          ∧ r.2.mem ((c.tc : Thread Cert.PairAddIdeal.nD Cert.PairAddIdeal.τ).loc Cert.PairAddIdeal.main_arg0) = m ((c.tc : Thread Cert.PairAddIdeal.nD Cert.PairAddIdeal.τ).loc Cert.PairAddIdeal.main_arg0)
          ∧ r.2.mem ((c.tc : Thread Cert.PairAddIdeal.nD Cert.PairAddIdeal.τ).loc Cert.PairAddIdeal.main_arg1) = m ((c.tc : Thread Cert.PairAddIdeal.nD Cert.PairAddIdeal.τ).loc Cert.PairAddIdeal.main_arg1)
          ∧ r.2.mem ((c.tc : Thread Cert.PairAddIdeal.nD Cert.PairAddIdeal.τ).loc Cert.PairAddIdeal.main_arg2) = m ((c.tc : Thread Cert.PairAddIdeal.nD Cert.PairAddIdeal.τ).loc Cert.PairAddIdeal.main_arg2))
      ∧ θ_run (Cert.RefPairAddIdeal.defs (F := Ideal)) (onTc (τ := Cert.RefPairAddIdeal.τ) (Cert.RefPairAddIdeal.main (F := Ideal))) ⟨m', fun _ => 0, g'⟩ (fun r => ∀ c : Dev Cert.RefPairAddIdeal.nD,
          r.2.mem ((c.tc : Thread Cert.RefPairAddIdeal.nD Cert.RefPairAddIdeal.τ).loc Cert.RefPairAddIdeal.main_v9) = v0 c
          ∧ r.2.mem ((c.tc : Thread Cert.RefPairAddIdeal.nD Cert.RefPairAddIdeal.τ).loc Cert.RefPairAddIdeal.main_arg0) = m' ((c.tc : Thread Cert.RefPairAddIdeal.nD Cert.RefPairAddIdeal.τ).loc Cert.RefPairAddIdeal.main_arg0)
          ∧ r.2.mem ((c.tc : Thread Cert.RefPairAddIdeal.nD Cert.RefPairAddIdeal.τ).loc Cert.RefPairAddIdeal.main_arg1) = m' ((c.tc : Thread Cert.RefPairAddIdeal.nD Cert.RefPairAddIdeal.τ).loc Cert.RefPairAddIdeal.main_arg1)
          ∧ r.2.mem ((c.tc : Thread Cert.RefPairAddIdeal.nD Cert.RefPairAddIdeal.τ).loc Cert.RefPairAddIdeal.main_arg2) = m' ((c.tc : Thread Cert.RefPairAddIdeal.nD Cert.RefPairAddIdeal.τ).loc Cert.RefPairAddIdeal.main_arg2))

def preserves_HgrnOut_HgrnOutIdeal : Prop :=
  True

def algebraic_HgrnOutIdeal_RefHgrnOutIdeal_pre_finite_out [hHgrnOutIdeal : Cert.HgrnOutIdeal.Facts] [hRefHgrnOutIdeal : Cert.RefHgrnOutIdeal.Facts] [hPre_finite_out : Cert.Pre_finite_out.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg)
    (m' : (ℓ : Loc Cert.RefHgrnOutIdeal.nD Cert.RefHgrnOutIdeal.τ Cert.RefHgrnOutIdeal.sig) → Buf (Elt Ideal) ℓ) (g' : Dev Cert.RefHgrnOutIdeal.nD → PrngReg), Pre_HgrnOutIdeal_finite_out m →
    (∀ c : Dev Cert.HgrnOutIdeal.nD,
      m' ((c.tc : Thread Cert.RefHgrnOutIdeal.nD Cert.RefHgrnOutIdeal.τ).loc Cert.RefHgrnOutIdeal.main_arg0) = m ((c.tc : Thread Cert.HgrnOutIdeal.nD Cert.HgrnOutIdeal.τ).loc Cert.HgrnOutIdeal.main_arg0)
      ∧ m' ((c.tc : Thread Cert.RefHgrnOutIdeal.nD Cert.RefHgrnOutIdeal.τ).loc Cert.RefHgrnOutIdeal.main_arg1) = m ((c.tc : Thread Cert.HgrnOutIdeal.nD Cert.HgrnOutIdeal.τ).loc Cert.HgrnOutIdeal.main_arg1)
      ∧ m' ((c.tc : Thread Cert.RefHgrnOutIdeal.nD Cert.RefHgrnOutIdeal.τ).loc Cert.RefHgrnOutIdeal.main_arg2) = m ((c.tc : Thread Cert.HgrnOutIdeal.nD Cert.HgrnOutIdeal.τ).loc Cert.HgrnOutIdeal.main_arg2)
      ∧ m' ((c.tc : Thread Cert.RefHgrnOutIdeal.nD Cert.RefHgrnOutIdeal.τ).loc Cert.RefHgrnOutIdeal.main_arg3) = m ((c.tc : Thread Cert.HgrnOutIdeal.nD Cert.HgrnOutIdeal.τ).loc Cert.HgrnOutIdeal.main_arg3)
      ∧ m' ((c.tc : Thread Cert.RefHgrnOutIdeal.nD Cert.RefHgrnOutIdeal.τ).loc Cert.RefHgrnOutIdeal.main_arg4) = m ((c.tc : Thread Cert.HgrnOutIdeal.nD Cert.HgrnOutIdeal.τ).loc Cert.HgrnOutIdeal.main_arg4)
      ∧ m' ((c.tc : Thread Cert.RefHgrnOutIdeal.nD Cert.RefHgrnOutIdeal.τ).loc Cert.RefHgrnOutIdeal.main_arg5) = m ((c.tc : Thread Cert.HgrnOutIdeal.nD Cert.HgrnOutIdeal.τ).loc Cert.HgrnOutIdeal.main_arg5)) →
    ∃ (v0 : (c : Dev Cert.HgrnOutIdeal.nD) → Buf (Elt Ideal) ((c.tc : Thread Cert.HgrnOutIdeal.nD Cert.HgrnOutIdeal.τ).loc Cert.HgrnOutIdeal.main_v2_3)) (v1 : (c : Dev Cert.HgrnOutIdeal.nD) → Buf (Elt Ideal) ((c.tc : Thread Cert.HgrnOutIdeal.nD Cert.HgrnOutIdeal.τ).loc Cert.HgrnOutIdeal.main_v4)),
      θ_run (Cert.HgrnOutIdeal.defs (F := Ideal)) (onTc (τ := Cert.HgrnOutIdeal.τ) (Cert.HgrnOutIdeal.main (F := Ideal))) ⟨m, fun _ => 0, g⟩ (fun r => ∀ c : Dev Cert.HgrnOutIdeal.nD,
          r.2.mem ((c.tc : Thread Cert.HgrnOutIdeal.nD Cert.HgrnOutIdeal.τ).loc Cert.HgrnOutIdeal.main_v2_3) = v0 c
          ∧ r.2.mem ((c.tc : Thread Cert.HgrnOutIdeal.nD Cert.HgrnOutIdeal.τ).loc Cert.HgrnOutIdeal.main_v4) = v1 c
          ∧ r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
          ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
          ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2)
          ∧ r.2.mem ((c.tc : Thread Cert.HgrnOutIdeal.nD Cert.HgrnOutIdeal.τ).loc Cert.HgrnOutIdeal.main_arg3) = m ((c.tc : Thread Cert.HgrnOutIdeal.nD Cert.HgrnOutIdeal.τ).loc Cert.HgrnOutIdeal.main_arg3)
          ∧ r.2.mem ((c.tc : Thread Cert.HgrnOutIdeal.nD Cert.HgrnOutIdeal.τ).loc Cert.HgrnOutIdeal.main_arg4) = m ((c.tc : Thread Cert.HgrnOutIdeal.nD Cert.HgrnOutIdeal.τ).loc Cert.HgrnOutIdeal.main_arg4)
          ∧ r.2.mem ((c.tc : Thread Cert.HgrnOutIdeal.nD Cert.HgrnOutIdeal.τ).loc Cert.HgrnOutIdeal.main_arg5) = m ((c.tc : Thread Cert.HgrnOutIdeal.nD Cert.HgrnOutIdeal.τ).loc Cert.HgrnOutIdeal.main_arg5))
      ∧ θ_run (Cert.RefHgrnOutIdeal.defs (F := Ideal)) (onTc (τ := Cert.RefHgrnOutIdeal.τ) (Cert.RefHgrnOutIdeal.main (F := Ideal))) ⟨m', fun _ => 0, g'⟩ (fun r => ∀ c : Dev Cert.RefHgrnOutIdeal.nD,
          r.2.mem ((c.tc : Thread Cert.RefHgrnOutIdeal.nD Cert.RefHgrnOutIdeal.τ).loc Cert.RefHgrnOutIdeal.main_v28) = v0 c
          ∧ r.2.mem ((c.tc : Thread Cert.RefHgrnOutIdeal.nD Cert.RefHgrnOutIdeal.τ).loc Cert.RefHgrnOutIdeal.main_v26) = v1 c
          ∧ r.2.mem ((c.tc : Thread Cert.RefHgrnOutIdeal.nD Cert.RefHgrnOutIdeal.τ).loc Cert.RefHgrnOutIdeal.main_arg0) = m' ((c.tc : Thread Cert.RefHgrnOutIdeal.nD Cert.RefHgrnOutIdeal.τ).loc Cert.RefHgrnOutIdeal.main_arg0)
          ∧ r.2.mem ((c.tc : Thread Cert.RefHgrnOutIdeal.nD Cert.RefHgrnOutIdeal.τ).loc Cert.RefHgrnOutIdeal.main_arg1) = m' ((c.tc : Thread Cert.RefHgrnOutIdeal.nD Cert.RefHgrnOutIdeal.τ).loc Cert.RefHgrnOutIdeal.main_arg1)
          ∧ r.2.mem ((c.tc : Thread Cert.RefHgrnOutIdeal.nD Cert.RefHgrnOutIdeal.τ).loc Cert.RefHgrnOutIdeal.main_arg2) = m' ((c.tc : Thread Cert.RefHgrnOutIdeal.nD Cert.RefHgrnOutIdeal.τ).loc Cert.RefHgrnOutIdeal.main_arg2)
          ∧ r.2.mem ((c.tc : Thread Cert.RefHgrnOutIdeal.nD Cert.RefHgrnOutIdeal.τ).loc Cert.RefHgrnOutIdeal.main_arg3) = m' ((c.tc : Thread Cert.RefHgrnOutIdeal.nD Cert.RefHgrnOutIdeal.τ).loc Cert.RefHgrnOutIdeal.main_arg3)
          ∧ r.2.mem ((c.tc : Thread Cert.RefHgrnOutIdeal.nD Cert.RefHgrnOutIdeal.τ).loc Cert.RefHgrnOutIdeal.main_arg4) = m' ((c.tc : Thread Cert.RefHgrnOutIdeal.nD Cert.RefHgrnOutIdeal.τ).loc Cert.RefHgrnOutIdeal.main_arg4)
          ∧ r.2.mem ((c.tc : Thread Cert.RefHgrnOutIdeal.nD Cert.RefHgrnOutIdeal.τ).loc Cert.RefHgrnOutIdeal.main_arg5) = m' ((c.tc : Thread Cert.RefHgrnOutIdeal.nD Cert.RefHgrnOutIdeal.τ).loc Cert.RefHgrnOutIdeal.main_arg5))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hRefDownDxIdeal : Cert.RefDownDxIdeal.Facts) (hDownDw : Cert.DownDw.Facts) (hDownDwIdeal : Cert.DownDwIdeal.Facts) (hRefDownDwIdeal : Cert.RefDownDwIdeal.Facts) (hGateDx : Cert.GateDx.Facts) (hGateDxIdeal : Cert.GateDxIdeal.Facts) (hRefGateDxIdeal : Cert.RefGateDxIdeal.Facts) (hUpDx : Cert.UpDx.Facts) (hUpDxIdeal : Cert.UpDxIdeal.Facts) (hRefUpDxIdeal : Cert.RefUpDxIdeal.Facts) (hGateDw : Cert.GateDw.Facts) (hGateDwIdeal : Cert.GateDwIdeal.Facts) (hRefGateDwIdeal : Cert.RefGateDwIdeal.Facts) (hOutDx : Cert.OutDx.Facts) (hOutDxIdeal : Cert.OutDxIdeal.Facts) (hRefOutDxIdeal : Cert.RefOutDxIdeal.Facts) (hOutDw : Cert.OutDw.Facts) (hOutDwIdeal : Cert.OutDwIdeal.Facts) (hRefOutDwIdeal : Cert.RefOutDwIdeal.Facts) (hProjDx : Cert.ProjDx.Facts) (hProjDxIdeal : Cert.ProjDxIdeal.Facts) (hRefProjDxIdeal : Cert.RefProjDxIdeal.Facts) (hProj : Cert.Proj.Facts) (hProjIdeal : Cert.ProjIdeal.Facts) (hRefProjIdeal : Cert.RefProjIdeal.Facts) (hMixOut : Cert.MixOut.Facts) (hMixOutIdeal : Cert.MixOutIdeal.Facts) (hRefMixOutIdeal : Cert.RefMixOutIdeal.Facts) (hGate : Cert.Gate.Facts) (hGateIdeal : Cert.GateIdeal.Facts) (hRefGateIdeal : Cert.RefGateIdeal.Facts) (hDown : Cert.Down.Facts) (hDownIdeal : Cert.DownIdeal.Facts) (hRefDownIdeal : Cert.RefDownIdeal.Facts) (hAdamSmall : Cert.AdamSmall.Facts) (hAdamSmallIdeal : Cert.AdamSmallIdeal.Facts) (hRefAdamSmallIdeal : Cert.RefAdamSmallIdeal.Facts) (hUpper : Cert.Upper.Facts) (hUpperIdeal : Cert.UpperIdeal.Facts) (hRefUpperIdeal : Cert.RefUpperIdeal.Facts) (hLower : Cert.Lower.Facts) (hLowerIdeal : Cert.LowerIdeal.Facts) (hRefLowerIdeal : Cert.RefLowerIdeal.Facts) (hOutUpper : Cert.OutUpper.Facts) (hOutUpperIdeal : Cert.OutUpperIdeal.Facts) (hRefOutUpperIdeal : Cert.RefOutUpperIdeal.Facts) (hOutLower : Cert.OutLower.Facts) (hOutLowerIdeal : Cert.OutLowerIdeal.Facts) (hRefOutLowerIdeal : Cert.RefOutLowerIdeal.Facts) (hSmallGrads : Cert.SmallGrads.Facts) (hSmallGradsIdeal : Cert.SmallGradsIdeal.Facts) (hRefSmallGradsIdeal : Cert.RefSmallGradsIdeal.Facts) (hLnLoss : Cert.LnLoss.Facts) (hLnLossIdeal : Cert.LnLossIdeal.Facts) (hRefLnLossIdeal : Cert.RefLnLossIdeal.Facts) (hLnBwd : Cert.LnBwd.Facts) (hLnBwdIdeal : Cert.LnBwdIdeal.Facts) (hRefLnBwdIdeal : Cert.RefLnBwdIdeal.Facts) (hLnBwdAlone : Cert.LnBwdAlone.Facts) (hLnBwdAloneIdeal : Cert.LnBwdAloneIdeal.Facts) (hRefLnBwdAloneIdeal : Cert.RefLnBwdAloneIdeal.Facts) (hLnFwd : Cert.LnFwd.Facts) (hLnFwdIdeal : Cert.LnFwdIdeal.Facts) (hRefLnFwdIdeal : Cert.RefLnFwdIdeal.Facts) (hConvGateFwd : Cert.ConvGateFwd.Facts) (hConvGateFwdIdeal : Cert.ConvGateFwdIdeal.Facts) (hRefConvGateFwdIdeal : Cert.RefConvGateFwdIdeal.Facts) (hSwap : Cert.Swap.Facts) (hSwapIdeal : Cert.SwapIdeal.Facts) (hRefSwapIdeal : Cert.RefSwapIdeal.Facts) (hCast : Cert.Cast.Facts) (hCastIdeal : Cert.CastIdeal.Facts) (hRefCastIdeal : Cert.RefCastIdeal.Facts) (hMixed : Cert.Mixed.Facts) (hMixedIdeal : Cert.MixedIdeal.Facts) (hRefMixedIdeal : Cert.RefMixedIdeal.Facts) (hPairAdd : Cert.PairAdd.Facts) (hPairAddIdeal : Cert.PairAddIdeal.Facts) (hRefPairAddIdeal : Cert.RefPairAddIdeal.Facts) (hHgrnOut : Cert.HgrnOut.Facts) (hHgrnOutIdeal : Cert.HgrnOutIdeal.Facts) (hRefHgrnOutIdeal : Cert.RefHgrnOutIdeal.Facts) (hPre_finite_gate : Cert.Pre_finite_gate.Facts) (hPre_a_chip_upper : Cert.Pre_a_chip_upper.Facts) (hPre_a_chip_lower : Cert.Pre_a_chip_lower.Facts) (hPre_a_chip_out_upper : Cert.Pre_a_chip_out_upper.Facts) (hPre_a_chip_out_lower : Cert.Pre_a_chip_out_lower.Facts) (hPre_finite_bounds : Cert.Pre_finite_bounds.Facts) (hPre_finite_head : Cert.Pre_finite_head.Facts) (hPre_finite_norm : Cert.Pre_finite_norm.Facts) (hPre_finite_norm_alone : Cert.Pre_finite_norm_alone.Facts) (hPre_a_core : Cert.Pre_a_core.Facts) (hPre_finite_out : Cert.Pre_finite_out.Facts),
    quiescent_Kernel (hKernel := hKernel)
    ∧ quiescent_KernelIdeal (hKernelIdeal := hKernelIdeal)
    ∧ quiescent_KernelIdeal_pre_finite_gate (hKernelIdeal := hKernelIdeal) (hPre_finite_gate := hPre_finite_gate)
    ∧ quiescent_ReferenceIdeal (hReferenceIdeal := hReferenceIdeal)
    ∧ quiescent_ReferenceIdeal_pre_finite_gate (hReferenceIdeal := hReferenceIdeal) (hPre_finite_gate := hPre_finite_gate)
    ∧ quiescent_DownDx (hDownDx := hDownDx)
    ∧ quiescent_DownDxIdeal (hDownDxIdeal := hDownDxIdeal)
    ∧ quiescent_RefDownDxIdeal (hRefDownDxIdeal := hRefDownDxIdeal)
    ∧ quiescent_DownDw (hDownDw := hDownDw)
    ∧ quiescent_DownDwIdeal (hDownDwIdeal := hDownDwIdeal)
    ∧ quiescent_RefDownDwIdeal (hRefDownDwIdeal := hRefDownDwIdeal)
    ∧ quiescent_GateDx (hGateDx := hGateDx)
    ∧ quiescent_GateDxIdeal (hGateDxIdeal := hGateDxIdeal)
    ∧ quiescent_RefGateDxIdeal (hRefGateDxIdeal := hRefGateDxIdeal)
    ∧ quiescent_UpDx (hUpDx := hUpDx)
    ∧ quiescent_UpDxIdeal (hUpDxIdeal := hUpDxIdeal)
    ∧ quiescent_RefUpDxIdeal (hRefUpDxIdeal := hRefUpDxIdeal)
    ∧ quiescent_GateDw (hGateDw := hGateDw)
    ∧ quiescent_GateDwIdeal (hGateDwIdeal := hGateDwIdeal)
    ∧ quiescent_RefGateDwIdeal (hRefGateDwIdeal := hRefGateDwIdeal)
    ∧ quiescent_OutDx (hOutDx := hOutDx)
    ∧ quiescent_OutDxIdeal (hOutDxIdeal := hOutDxIdeal)
    ∧ quiescent_RefOutDxIdeal (hRefOutDxIdeal := hRefOutDxIdeal)
    ∧ quiescent_OutDw (hOutDw := hOutDw)
    ∧ quiescent_OutDwIdeal (hOutDwIdeal := hOutDwIdeal)
    ∧ quiescent_RefOutDwIdeal (hRefOutDwIdeal := hRefOutDwIdeal)
    ∧ quiescent_ProjDx (hProjDx := hProjDx)
    ∧ quiescent_ProjDxIdeal (hProjDxIdeal := hProjDxIdeal)
    ∧ quiescent_RefProjDxIdeal (hRefProjDxIdeal := hRefProjDxIdeal)
    ∧ quiescent_Proj (hProj := hProj)
    ∧ quiescent_ProjIdeal (hProjIdeal := hProjIdeal)
    ∧ quiescent_RefProjIdeal (hRefProjIdeal := hRefProjIdeal)
    ∧ quiescent_MixOut (hMixOut := hMixOut)
    ∧ quiescent_MixOutIdeal (hMixOutIdeal := hMixOutIdeal)
    ∧ quiescent_RefMixOutIdeal (hRefMixOutIdeal := hRefMixOutIdeal)
    ∧ quiescent_Gate (hGate := hGate)
    ∧ quiescent_GateIdeal (hGateIdeal := hGateIdeal)
    ∧ quiescent_RefGateIdeal (hRefGateIdeal := hRefGateIdeal)
    ∧ quiescent_Down (hDown := hDown)
    ∧ quiescent_DownIdeal (hDownIdeal := hDownIdeal)
    ∧ quiescent_RefDownIdeal (hRefDownIdeal := hRefDownIdeal)
    ∧ quiescent_AdamSmall (hAdamSmall := hAdamSmall)
    ∧ quiescent_AdamSmallIdeal (hAdamSmallIdeal := hAdamSmallIdeal)
    ∧ quiescent_RefAdamSmallIdeal (hRefAdamSmallIdeal := hRefAdamSmallIdeal)
    ∧ quiescent_Upper (hUpper := hUpper) (hPre_a_chip_upper := hPre_a_chip_upper)
    ∧ quiescent_UpperIdeal (hUpperIdeal := hUpperIdeal) (hPre_a_chip_upper := hPre_a_chip_upper)
    ∧ quiescent_RefUpperIdeal (hRefUpperIdeal := hRefUpperIdeal)
    ∧ quiescent_RefUpperIdeal_pre_a_chip_upper (hRefUpperIdeal := hRefUpperIdeal) (hPre_a_chip_upper := hPre_a_chip_upper)
    ∧ quiescent_Lower (hLower := hLower) (hPre_a_chip_lower := hPre_a_chip_lower)
    ∧ quiescent_LowerIdeal (hLowerIdeal := hLowerIdeal) (hPre_a_chip_lower := hPre_a_chip_lower)
    ∧ quiescent_RefLowerIdeal (hRefLowerIdeal := hRefLowerIdeal)
    ∧ quiescent_RefLowerIdeal_pre_a_chip_lower (hRefLowerIdeal := hRefLowerIdeal) (hPre_a_chip_lower := hPre_a_chip_lower)
    ∧ quiescent_OutUpper (hOutUpper := hOutUpper) (hPre_a_chip_out_upper := hPre_a_chip_out_upper)
    ∧ quiescent_OutUpperIdeal (hOutUpperIdeal := hOutUpperIdeal) (hPre_a_chip_out_upper := hPre_a_chip_out_upper)
    ∧ quiescent_RefOutUpperIdeal (hRefOutUpperIdeal := hRefOutUpperIdeal)
    ∧ quiescent_RefOutUpperIdeal_pre_a_chip_out_upper (hRefOutUpperIdeal := hRefOutUpperIdeal) (hPre_a_chip_out_upper := hPre_a_chip_out_upper)
    ∧ quiescent_OutLower (hOutLower := hOutLower) (hPre_a_chip_out_lower := hPre_a_chip_out_lower)
    ∧ quiescent_OutLowerIdeal (hOutLowerIdeal := hOutLowerIdeal) (hPre_a_chip_out_lower := hPre_a_chip_out_lower)
    ∧ quiescent_RefOutLowerIdeal (hRefOutLowerIdeal := hRefOutLowerIdeal)
    ∧ quiescent_RefOutLowerIdeal_pre_a_chip_out_lower (hRefOutLowerIdeal := hRefOutLowerIdeal) (hPre_a_chip_out_lower := hPre_a_chip_out_lower)
    ∧ quiescent_SmallGrads (hSmallGrads := hSmallGrads)
    ∧ quiescent_SmallGradsIdeal (hSmallGradsIdeal := hSmallGradsIdeal)
    ∧ quiescent_SmallGradsIdeal_pre_finite_bounds (hSmallGradsIdeal := hSmallGradsIdeal) (hPre_finite_bounds := hPre_finite_bounds)
    ∧ quiescent_RefSmallGradsIdeal (hRefSmallGradsIdeal := hRefSmallGradsIdeal)
    ∧ quiescent_RefSmallGradsIdeal_pre_finite_bounds (hRefSmallGradsIdeal := hRefSmallGradsIdeal) (hPre_finite_bounds := hPre_finite_bounds)
    ∧ quiescent_LnLoss (hLnLoss := hLnLoss)
    ∧ quiescent_LnLossIdeal (hLnLossIdeal := hLnLossIdeal)
    ∧ quiescent_LnLossIdeal_pre_finite_head (hLnLossIdeal := hLnLossIdeal) (hPre_finite_head := hPre_finite_head)
    ∧ quiescent_RefLnLossIdeal (hRefLnLossIdeal := hRefLnLossIdeal)
    ∧ quiescent_RefLnLossIdeal_pre_finite_head (hRefLnLossIdeal := hRefLnLossIdeal) (hPre_finite_head := hPre_finite_head)
    ∧ quiescent_LnBwd (hLnBwd := hLnBwd)
    ∧ quiescent_LnBwdIdeal (hLnBwdIdeal := hLnBwdIdeal)
    ∧ quiescent_LnBwdIdeal_pre_finite_norm (hLnBwdIdeal := hLnBwdIdeal) (hPre_finite_norm := hPre_finite_norm)
    ∧ quiescent_RefLnBwdIdeal (hRefLnBwdIdeal := hRefLnBwdIdeal)
    ∧ quiescent_RefLnBwdIdeal_pre_finite_norm (hRefLnBwdIdeal := hRefLnBwdIdeal) (hPre_finite_norm := hPre_finite_norm)
    ∧ quiescent_LnBwdAlone (hLnBwdAlone := hLnBwdAlone)
    ∧ quiescent_LnBwdAloneIdeal (hLnBwdAloneIdeal := hLnBwdAloneIdeal)
    ∧ quiescent_LnBwdAloneIdeal_pre_finite_norm_alone (hLnBwdAloneIdeal := hLnBwdAloneIdeal) (hPre_finite_norm_alone := hPre_finite_norm_alone)
    ∧ quiescent_RefLnBwdAloneIdeal (hRefLnBwdAloneIdeal := hRefLnBwdAloneIdeal)
    ∧ quiescent_RefLnBwdAloneIdeal_pre_finite_norm_alone (hRefLnBwdAloneIdeal := hRefLnBwdAloneIdeal) (hPre_finite_norm_alone := hPre_finite_norm_alone)
    ∧ quiescent_LnFwd (hLnFwd := hLnFwd)
    ∧ quiescent_LnFwdIdeal (hLnFwdIdeal := hLnFwdIdeal)
    ∧ quiescent_RefLnFwdIdeal (hRefLnFwdIdeal := hRefLnFwdIdeal)
    ∧ quiescent_ConvGateFwd (hConvGateFwd := hConvGateFwd)
    ∧ quiescent_ConvGateFwdIdeal (hConvGateFwdIdeal := hConvGateFwdIdeal)
    ∧ quiescent_RefConvGateFwdIdeal (hRefConvGateFwdIdeal := hRefConvGateFwdIdeal)
    ∧ quiescent_Swap (hSwap := hSwap)
    ∧ quiescent_SwapIdeal (hSwapIdeal := hSwapIdeal)
    ∧ quiescent_RefSwapIdeal (hRefSwapIdeal := hRefSwapIdeal)
    ∧ quiescent_Cast (hCast := hCast)
    ∧ quiescent_CastIdeal (hCastIdeal := hCastIdeal)
    ∧ quiescent_RefCastIdeal (hRefCastIdeal := hRefCastIdeal)
    ∧ quiescent_Mixed (hMixed := hMixed)
    ∧ quiescent_MixedIdeal (hMixedIdeal := hMixedIdeal)
    ∧ quiescent_RefMixedIdeal (hRefMixedIdeal := hRefMixedIdeal)
    ∧ quiescent_PairAdd (hPairAdd := hPairAdd) (hPre_a_core := hPre_a_core)
    ∧ quiescent_PairAddIdeal (hPairAddIdeal := hPairAddIdeal) (hPre_a_core := hPre_a_core)
    ∧ quiescent_RefPairAddIdeal (hRefPairAddIdeal := hRefPairAddIdeal)
    ∧ quiescent_RefPairAddIdeal_pre_a_core (hRefPairAddIdeal := hRefPairAddIdeal) (hPre_a_core := hPre_a_core)
    ∧ quiescent_HgrnOut (hHgrnOut := hHgrnOut)
    ∧ quiescent_HgrnOutIdeal (hHgrnOutIdeal := hHgrnOutIdeal)
    ∧ quiescent_HgrnOutIdeal_pre_finite_out (hHgrnOutIdeal := hHgrnOutIdeal) (hPre_finite_out := hPre_finite_out)
    ∧ quiescent_RefHgrnOutIdeal (hRefHgrnOutIdeal := hRefHgrnOutIdeal)
    ∧ quiescent_RefHgrnOutIdeal_pre_finite_out (hRefHgrnOutIdeal := hRefHgrnOutIdeal) (hPre_finite_out := hPre_finite_out)
    ∧ preserves_Kernel_KernelIdeal
    ∧ algebraic_KernelIdeal_ReferenceIdeal_pre_finite_gate (hKernelIdeal := hKernelIdeal) (hReferenceIdeal := hReferenceIdeal) (hPre_finite_gate := hPre_finite_gate)
    ∧ preserves_DownDx_DownDxIdeal
    ∧ algebraic_DownDxIdeal_RefDownDxIdeal (hDownDxIdeal := hDownDxIdeal) (hRefDownDxIdeal := hRefDownDxIdeal)
    ∧ preserves_DownDw_DownDwIdeal
    ∧ algebraic_DownDwIdeal_RefDownDwIdeal (hDownDwIdeal := hDownDwIdeal) (hRefDownDwIdeal := hRefDownDwIdeal)
    ∧ preserves_GateDx_GateDxIdeal
    ∧ algebraic_GateDxIdeal_RefGateDxIdeal (hGateDxIdeal := hGateDxIdeal) (hRefGateDxIdeal := hRefGateDxIdeal)
    ∧ preserves_UpDx_UpDxIdeal
    ∧ algebraic_UpDxIdeal_RefUpDxIdeal (hUpDxIdeal := hUpDxIdeal) (hRefUpDxIdeal := hRefUpDxIdeal)
    ∧ preserves_GateDw_GateDwIdeal
    ∧ algebraic_GateDwIdeal_RefGateDwIdeal (hGateDwIdeal := hGateDwIdeal) (hRefGateDwIdeal := hRefGateDwIdeal)
    ∧ preserves_OutDx_OutDxIdeal
    ∧ algebraic_OutDxIdeal_RefOutDxIdeal (hOutDxIdeal := hOutDxIdeal) (hRefOutDxIdeal := hRefOutDxIdeal)
    ∧ preserves_OutDw_OutDwIdeal
    ∧ algebraic_OutDwIdeal_RefOutDwIdeal (hOutDwIdeal := hOutDwIdeal) (hRefOutDwIdeal := hRefOutDwIdeal)
    ∧ preserves_ProjDx_ProjDxIdeal
    ∧ algebraic_ProjDxIdeal_RefProjDxIdeal (hProjDxIdeal := hProjDxIdeal) (hRefProjDxIdeal := hRefProjDxIdeal)
    ∧ preserves_Proj_ProjIdeal
    ∧ algebraic_ProjIdeal_RefProjIdeal (hProjIdeal := hProjIdeal) (hRefProjIdeal := hRefProjIdeal)
    ∧ preserves_MixOut_MixOutIdeal
    ∧ algebraic_MixOutIdeal_RefMixOutIdeal (hMixOutIdeal := hMixOutIdeal) (hRefMixOutIdeal := hRefMixOutIdeal)
    ∧ preserves_Gate_GateIdeal
    ∧ algebraic_GateIdeal_RefGateIdeal (hGateIdeal := hGateIdeal) (hRefGateIdeal := hRefGateIdeal)
    ∧ preserves_Down_DownIdeal
    ∧ algebraic_DownIdeal_RefDownIdeal (hDownIdeal := hDownIdeal) (hRefDownIdeal := hRefDownIdeal)
    ∧ preserves_AdamSmall_AdamSmallIdeal
    ∧ algebraic_AdamSmallIdeal_RefAdamSmallIdeal (hAdamSmallIdeal := hAdamSmallIdeal) (hRefAdamSmallIdeal := hRefAdamSmallIdeal)
    ∧ preserves_Upper_UpperIdeal
    ∧ algebraic_UpperIdeal_RefUpperIdeal (hUpperIdeal := hUpperIdeal) (hRefUpperIdeal := hRefUpperIdeal) (hPre_a_chip_upper := hPre_a_chip_upper)
    ∧ preserves_Lower_LowerIdeal
    ∧ algebraic_LowerIdeal_RefLowerIdeal (hLowerIdeal := hLowerIdeal) (hRefLowerIdeal := hRefLowerIdeal) (hPre_a_chip_lower := hPre_a_chip_lower)
    ∧ preserves_OutUpper_OutUpperIdeal
    ∧ algebraic_OutUpperIdeal_RefOutUpperIdeal (hOutUpperIdeal := hOutUpperIdeal) (hRefOutUpperIdeal := hRefOutUpperIdeal) (hPre_a_chip_out_upper := hPre_a_chip_out_upper)
    ∧ preserves_OutLower_OutLowerIdeal
    ∧ algebraic_OutLowerIdeal_RefOutLowerIdeal (hOutLowerIdeal := hOutLowerIdeal) (hRefOutLowerIdeal := hRefOutLowerIdeal) (hPre_a_chip_out_lower := hPre_a_chip_out_lower)
    ∧ preserves_SmallGrads_SmallGradsIdeal
    ∧ algebraic_SmallGradsIdeal_RefSmallGradsIdeal_pre_finite_bounds (hSmallGradsIdeal := hSmallGradsIdeal) (hRefSmallGradsIdeal := hRefSmallGradsIdeal) (hPre_finite_bounds := hPre_finite_bounds)
    ∧ preserves_LnLoss_LnLossIdeal
    ∧ algebraic_LnLossIdeal_RefLnLossIdeal_pre_finite_head (hLnLossIdeal := hLnLossIdeal) (hRefLnLossIdeal := hRefLnLossIdeal) (hPre_finite_head := hPre_finite_head)
    ∧ preserves_LnBwd_LnBwdIdeal
    ∧ algebraic_LnBwdIdeal_RefLnBwdIdeal_pre_finite_norm (hLnBwdIdeal := hLnBwdIdeal) (hRefLnBwdIdeal := hRefLnBwdIdeal) (hPre_finite_norm := hPre_finite_norm)
    ∧ preserves_LnBwdAlone_LnBwdAloneIdeal
    ∧ algebraic_LnBwdAloneIdeal_RefLnBwdAloneIdeal_pre_finite_norm_alone (hLnBwdAloneIdeal := hLnBwdAloneIdeal) (hRefLnBwdAloneIdeal := hRefLnBwdAloneIdeal) (hPre_finite_norm_alone := hPre_finite_norm_alone)
    ∧ preserves_LnFwd_LnFwdIdeal
    ∧ algebraic_LnFwdIdeal_RefLnFwdIdeal (hLnFwdIdeal := hLnFwdIdeal) (hRefLnFwdIdeal := hRefLnFwdIdeal)
    ∧ preserves_ConvGateFwd_ConvGateFwdIdeal
    ∧ algebraic_ConvGateFwdIdeal_RefConvGateFwdIdeal (hConvGateFwdIdeal := hConvGateFwdIdeal) (hRefConvGateFwdIdeal := hRefConvGateFwdIdeal)
    ∧ preserves_Swap_SwapIdeal
    ∧ algebraic_SwapIdeal_RefSwapIdeal (hSwapIdeal := hSwapIdeal) (hRefSwapIdeal := hRefSwapIdeal)
    ∧ preserves_Cast_CastIdeal
    ∧ algebraic_CastIdeal_RefCastIdeal (hCastIdeal := hCastIdeal) (hRefCastIdeal := hRefCastIdeal)
    ∧ preserves_Mixed_MixedIdeal
    ∧ algebraic_MixedIdeal_RefMixedIdeal (hMixedIdeal := hMixedIdeal) (hRefMixedIdeal := hRefMixedIdeal)
    ∧ preserves_PairAdd_PairAddIdeal
    ∧ algebraic_PairAddIdeal_RefPairAddIdeal (hPairAddIdeal := hPairAddIdeal) (hRefPairAddIdeal := hRefPairAddIdeal) (hPre_a_core := hPre_a_core)
    ∧ preserves_HgrnOut_HgrnOutIdeal
    ∧ algebraic_HgrnOutIdeal_RefHgrnOutIdeal_pre_finite_out (hHgrnOutIdeal := hHgrnOutIdeal) (hRefHgrnOutIdeal := hRefHgrnOutIdeal) (hPre_finite_out := hPre_finite_out)
-- ==== Pre_a_chip_lower.lean ====
abbrev S4x704x2048 : Shape := ⟨3, ![4, 704, 2048]⟩
abbrev S_ : Shape := ⟨0, ![]⟩
abbrev S2x704x2048 : Shape := ⟨3, ![2, 704, 2048]⟩

class Facts : Prop where

variable [Facts]

def fn {F : FTy → Type} [FloatOps F] (main_arg0 : FVec F S4x704x2048 .bf16) (main_arg1 : FVec F S4x704x2048 .bf16) (main_arg2 : IVec S_ 32) (main_arg3 : FVec F S2x704x2048 .f32) (main_arg4 : FVec F S2x704x2048 .f32) (main_arg5 : FVec F S2x704x2048 .f32) (main_arg6 : FVec F S2x704x2048 .f32) (main_arg7 : FVec F S2x704x2048 .f32) (main_arg8 : FVec F S2x704x2048 .f32) (main_arg9 : FVec F S2x704x2048 .f32) : IVec S_ 1 :=
  let main_c : IVec S_ 32 := constantI S_ 32 0#32
  let main_v0 : IVec S_ 1 := cmpi .sge main_arg2 main_c
  let main_c_0 : IVec S_ 32 := constantI S_ 32 4#32
  let main_v1 : IVec S_ 1 := cmpi .slt main_arg2 main_c_0
  let main_v2 : IVec S_ 1 := andi main_v0 main_v1
  main_v2
-- ==== Pre_a_chip_out_lower.lean ====
abbrev S4x256x2048 : Shape := ⟨3, ![4, 256, 2048]⟩
abbrev S_ : Shape := ⟨0, ![]⟩
abbrev S2x256x2048 : Shape := ⟨3, ![2, 256, 2048]⟩

class Facts : Prop where

variable [Facts]

def fn {F : FTy → Type} [FloatOps F] (main_arg0 : FVec F S4x256x2048 .bf16) (main_arg1 : FVec F S4x256x2048 .bf16) (main_arg2 : IVec S_ 32) (main_arg3 : FVec F S2x256x2048 .f32) (main_arg4 : FVec F S2x256x2048 .f32) (main_arg5 : FVec F S2x256x2048 .f32) (main_arg6 : FVec F S2x256x2048 .f32) (main_arg7 : FVec F S2x256x2048 .f32) (main_arg8 : FVec F S2x256x2048 .f32) (main_arg9 : FVec F S2x256x2048 .f32) : IVec S_ 1 :=
  let main_c : IVec S_ 32 := constantI S_ 32 0#32
  let main_v0 : IVec S_ 1 := cmpi .sge main_arg2 main_c
  let main_c_0 : IVec S_ 32 := constantI S_ 32 4#32
  let main_v1 : IVec S_ 1 := cmpi .slt main_arg2 main_c_0
  let main_v2 : IVec S_ 1 := andi main_v0 main_v1
  main_v2
-- ==== Pre_a_chip_out_upper.lean ====
abbrev S4x256x2048 : Shape := ⟨3, ![4, 256, 2048]⟩
abbrev S_ : Shape := ⟨0, ![]⟩
abbrev S2x256x2048 : Shape := ⟨3, ![2, 256, 2048]⟩

class Facts : Prop where

variable [Facts]

def fn {F : FTy → Type} [FloatOps F] (main_arg0 : FVec F S4x256x2048 .bf16) (main_arg1 : FVec F S4x256x2048 .bf16) (main_arg2 : IVec S_ 32) (main_arg3 : FVec F S2x256x2048 .f32) (main_arg4 : FVec F S2x256x2048 .f32) (main_arg5 : FVec F S2x256x2048 .f32) : IVec S_ 1 :=
  let main_c : IVec S_ 32 := constantI S_ 32 0#32
  let main_v0 : IVec S_ 1 := cmpi .sge main_arg2 main_c
  let main_c_0 : IVec S_ 32 := constantI S_ 32 4#32
  let main_v1 : IVec S_ 1 := cmpi .slt main_arg2 main_c_0
  let main_v2 : IVec S_ 1 := andi main_v0 main_v1
  main_v2
-- ==== Pre_a_chip_upper.lean ====
abbrev S4x704x2048 : Shape := ⟨3, ![4, 704, 2048]⟩
abbrev S_ : Shape := ⟨0, ![]⟩
abbrev S2x704x2048 : Shape := ⟨3, ![2, 704, 2048]⟩

class Facts : Prop where

variable [Facts]

def fn {F : FTy → Type} [FloatOps F] (main_arg0 : FVec F S4x704x2048 .bf16) (main_arg1 : FVec F S4x704x2048 .bf16) (main_arg2 : IVec S_ 32) (main_arg3 : FVec F S2x704x2048 .f32) (main_arg4 : FVec F S2x704x2048 .f32) (main_arg5 : FVec F S2x704x2048 .f32) : IVec S_ 1 :=
  let main_c : IVec S_ 32 := constantI S_ 32 0#32
  let main_v0 : IVec S_ 1 := cmpi .sge main_arg2 main_c
  let main_c_0 : IVec S_ 32 := constantI S_ 32 4#32
  let main_v1 : IVec S_ 1 := cmpi .slt main_arg2 main_c_0
  let main_v2 : IVec S_ 1 := andi main_v0 main_v1
  main_v2
-- ==== Pre_a_core.lean ====
abbrev S4x2x704x2048 : Shape := ⟨4, ![4, 2, 704, 2048]⟩
abbrev S4x704x2048 : Shape := ⟨3, ![4, 704, 2048]⟩
abbrev S_ : Shape := ⟨0, ![]⟩

class Facts : Prop where

variable [Facts]

def fn {F : FTy → Type} [FloatOps F] (main_arg0 : FVec F S4x2x704x2048 .bf16) (main_arg1 : FVec F S4x704x2048 .bf16) (main_arg2 : IVec S_ 32) : IVec S_ 1 :=
  let main_c : IVec S_ 32 := constantI S_ 32 0#32
  let main_v0 : IVec S_ 1 := cmpi .sge main_arg2 main_c
  let main_c_0 : IVec S_ 32 := constantI S_ 32 2#32
  let main_v1 : IVec S_ 1 := cmpi .slt main_arg2 main_c_0
  let main_v2 : IVec S_ 1 := andi main_v0 main_v1
  main_v2
-- ==== Pre_finite_bounds.lean ====
abbrev S8x496x128 : Shape := ⟨3, ![8, 496, 128]⟩
abbrev S2x512 : Shape := ⟨2, ![2, 512]⟩
abbrev S8x4x128 : Shape := ⟨3, ![8, 4, 128]⟩
abbrev S_ : Shape := ⟨0, ![]⟩

class Facts : Prop where
  slices_S8x496x128_S8x4x128_0_0_0 : S8x496x128.Slices ![0, 0, 0] S8x4x128
  slices_S8x496x128_S8x4x128_0_248_0 : S8x496x128.Slices ![0, 248, 0] S8x4x128
  bcast_S_S8x4x128 : S_.BroadcastsInDim S8x4x128 (![] : Fin 0 → Fin S8x4x128.rank)
  reducesTo_S8x4x128_S_d0_1_2 : S8x4x128.ReducesTo [0, 1, 2] S_
  h_S_ : 0 < S_.numel
  bcast_S_S2x512 : S_.BroadcastsInDim S2x512 (![] : Fin 0 → Fin S2x512.rank)
  reducesTo_S2x512_S_d0_1 : S2x512.ReducesTo [0, 1] S_

variable [Facts]

def fn {F : FTy → Type} [FloatOps F] (main_arg0 : FVec F S8x496x128 .f32) (main_arg1 : FVec F S2x512 .f32) : IVec S_ 1 :=
  let main_v0 : FVec F S8x4x128 .f32 := (extractStridedSlice S8x4x128 ![0, 0, 0] · slices_S8x496x128_S8x4x128_0_0_0) main_arg0
  let main_v1 : FVec F S8x4x128 .f32 := (extractStridedSlice S8x4x128 ![0, 248, 0] · slices_S8x496x128_S8x4x128_0_248_0) main_arg0
  let main_v2 : FVec F S8x4x128 .f32 := Host.absf main_v0
  let main_cst : FVec F S_ .f32 := constant S_ .f32 0x7F800000#32
  let main_v3 : FVec F S8x4x128 .f32 := broadcastInDim S8x4x128 ![] bcast_S_S8x4x128 main_cst
  let main_v4 : IVec S8x4x128 1 := cmpf .olt main_v2 main_v3
  let main_c : IVec S_ 1 := constantI S_ 1 1#1
  let main_v5 : IVec S_ 1 := (fun x v => Host.reduce IntOp.andi x v reducesTo_S8x4x128_S_d0_1_2 h_S_) main_v4 main_c
  let main_v6 : FVec F S8x4x128 .f32 := Host.absf main_v1
  let main_cst_0 : FVec F S_ .f32 := constant S_ .f32 0x7F800000#32
  let main_v7 : FVec F S8x4x128 .f32 := broadcastInDim S8x4x128 ![] bcast_S_S8x4x128 main_cst_0
  let main_v8 : IVec S8x4x128 1 := cmpf .olt main_v6 main_v7
  let main_c_1 : IVec S_ 1 := constantI S_ 1 1#1
  let main_v9 : IVec S_ 1 := (fun x v => Host.reduce IntOp.andi x v reducesTo_S8x4x128_S_d0_1_2 h_S_) main_v8 main_c_1
  let main_v10 : IVec S_ 1 := andi main_v5 main_v9
  let main_v11 : FVec F S2x512 .f32 := Host.absf main_arg1
  let main_cst_2 : FVec F S_ .f32 := constant S_ .f32 0x7F800000#32
  let main_v12 : FVec F S2x512 .f32 := broadcastInDim S2x512 ![] bcast_S_S2x512 main_cst_2
  let main_v13 : IVec S2x512 1 := cmpf .olt main_v11 main_v12
  let main_c_3 : IVec S_ 1 := constantI S_ 1 1#1
  let main_v14 : IVec S_ 1 := (fun x v => Host.reduce IntOp.andi x v reducesTo_S2x512_S_d0_1 h_S_) main_v13 main_c_3
  let main_v15 : IVec S_ 1 := andi main_v10 main_v14
  main_v15
-- ==== Pre_finite_gate.lean ====
abbrev S2048x5632 : Shape := ⟨2, ![2048, 5632]⟩
abbrev S3x5632 : Shape := ⟨2, ![3, 5632]⟩
abbrev S5632 : Shape := ⟨1, ![5632]⟩
abbrev S_ : Shape := ⟨0, ![]⟩

class Facts : Prop where
  bcast_S_S2048x5632 : S_.BroadcastsInDim S2048x5632 (![] : Fin 0 → Fin S2048x5632.rank)

variable [Facts]

def fn {F : FTy → Type} [FloatOps F] (main_arg0 : FVec F S2048x5632 .bf16) (main_arg1 : FVec F S2048x5632 .bf16) (main_arg2 : FVec F S2048x5632 .bf16) (main_arg3 : FVec F S3x5632 .f32) (main_arg4 : FVec F S5632 .f32) : IVec S2048x5632 1 :=
  let main_v0 : FVec F S2048x5632 .bf16 := Host.absf main_arg0
  let main_cst : FVec F S_ .bf16 := constant S_ .bf16 0x7F80#16
  let main_v1 : FVec F S2048x5632 .bf16 := broadcastInDim S2048x5632 ![] bcast_S_S2048x5632 main_cst
  let main_v2 : IVec S2048x5632 1 := cmpf .olt main_v0 main_v1
  let main_v3 : FVec F S2048x5632 .bf16 := Host.absf main_arg2
  let main_cst_0 : FVec F S_ .bf16 := constant S_ .bf16 0x7F80#16
  let main_v4 : FVec F S2048x5632 .bf16 := broadcastInDim S2048x5632 ![] bcast_S_S2048x5632 main_cst_0
  let main_v5 : IVec S2048x5632 1 := cmpf .olt main_v3 main_v4
  let main_v6 : IVec S2048x5632 1 := andi main_v2 main_v5
  main_v6
-- ==== Pre_finite_head.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048x2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  main_v23

def fn {F : FTy → Type} [FloatOps F] (main_arg0 : FVec F S2048x2048 .f32) (main_arg1 : FVec F S2048x2048 .f32) (main_arg2 : FVec F S2048 .f32) (main_arg3 : FVec F S2048 .f32) (main_arg4 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_v13 main_v16
-- ==== Pre_finite_norm.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S2048x2048 .f32) (main_arg1 : FVec F S2048x2048 .f32) (main_arg2 : FVec F S2048x2048 .f32) (main_arg3 : FVec F S2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Pre_finite_norm_alone.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x2048 .f32) (main_arg1 : FVec F S2048x2048 .f32) (main_arg2 : FVec F S2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Pre_finite_out.lean ====
abbrev S2048x5632 : Shape := ⟨2, ![2048, 5632]⟩
abbrev S2x512 : Shape := ⟨2, ![2, 512]⟩
abbrev S128 : Shape := ⟨1, ![128]⟩
abbrev S2048x512 : Shape := ⟨2, ![2048, 512]⟩
abbrev S4x128x128x128 : Shape := ⟨4, ![4, 128, 128, 128]⟩
abbrev S2048x2048 : Shape := ⟨2, ![2048, 2048]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2048x5632 .f32) (main_arg1 : FVec F S2x512 .f32) (main_arg2 : FVec F S128 .f32) (main_arg3 : FVec F S2048x512 .f32) (main_arg4 : FVec F S4x128x128x128 .f32) (main_arg5 : FVec F S2048x2048 .f32) : IVec S_ 1 :=
  let main_v0 : FVec F S128 .f32 := Host.absf main_arg2
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S2048x2048 .f32 := Host.absf main_arg5
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S2048x5632 : Shape := ⟨2, ![2048, 5632]⟩
abbrev S3x5632 : Shape := ⟨2, ![3, 5632]⟩
abbrev S5632 : Shape := ⟨1, ![5632]⟩
abbrev S1x5632 : Shape := ⟨2, ![1, 5632]⟩
abbrev S2048x256 : Shape := ⟨2, ![2048, 256]⟩
abbrev S3x256 : Shape := ⟨2, ![3, 256]⟩
abbrev S1x256 : Shape := ⟨2, ![1, 256]⟩
abbrev S256 : Shape := ⟨1, ![256]⟩

abbrev nBuf : Space → Nat
  | .hbm => 10
  | .vmem => 18
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x5632, .bf16⟩
  | .hbm, ⟨3, _⟩ => ⟨S3x5632, .f32⟩
  | .hbm, ⟨4, _⟩ => ⟨S5632, .f32⟩
  | .hbm, ⟨5, _⟩ => ⟨S1x5632, .f32⟩
  | .hbm, ⟨6, _⟩ => ⟨S2048x5632, .bf16⟩
  | .hbm, ⟨7, _⟩ => ⟨S2048x5632, .bf16⟩
  | .hbm, ⟨8, _⟩ => ⟨S3x5632, .f32⟩
  | .hbm, ⟨9, _⟩ => ⟨S1x5632, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S3x256, .f32⟩
  | .local _ .vmem, ⟨15, _⟩ => ⟨S3x256, .f32⟩
  | .local _ .vmem, ⟨16, _⟩ => ⟨S1x256, .f32⟩
  | .local _ .vmem, ⟨17, _⟩ => ⟨S1x256, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2048x5632 : Shape := ⟨2, ![2048, 5632]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S2050x5632 : Shape := ⟨2, ![2050, 5632]⟩
abbrev S1x5632 : Shape := ⟨2, ![1, 5632]⟩

abbrev nBuf : Space → Nat
  | .hbm => 109
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x5632, .bf16⟩
  | .hbm, ⟨3, _⟩ => ⟨S3x5632, .f32⟩
  | .hbm, ⟨4, _⟩ => ⟨S5632, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2x5632, .f32⟩
  | .hbm, ⟨10, _⟩ => ⟨S2050x5632, .f32⟩
  | .hbm, ⟨11, _⟩ => ⟨S_, .f32⟩
  | .hbm, ⟨12, _⟩ => ⟨S2x5632, .f32⟩
  | .hbm, ⟨13, _⟩ => ⟨S1x5632, .f32⟩
  | .hbm, ⟨14, _⟩ => ⟨S5632, .f32⟩
  | .hbm, ⟨15, _⟩ => ⟨S2048x5632, .f32⟩
  | .hbm, ⟨16, _⟩ => ⟨S1x5632, .f32⟩
  | .hbm, ⟨17, _⟩ => ⟨S2048x5632, .f32⟩
  | .hbm, ⟨18, _⟩ => ⟨S2048x5632, .f32⟩
  | .hbm, ⟨19, _⟩ => ⟨S1x5632, .f32⟩
  | .hbm, ⟨20, _⟩ => ⟨S2048x5632, .f32⟩
  | .hbm, ⟨21, _⟩ => ⟨S2048x5632, .f32⟩
  | .hbm, ⟨22, _⟩ => ⟨S1x5632, .f32⟩
  | .hbm, ⟨23, _⟩ => ⟨S5632, .f32⟩
  | .hbm, ⟨24, _⟩ => ⟨S2048x5632, .f32⟩
  | .hbm, ⟨25, _⟩ => ⟨S1x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S1x5632, .f32⟩
  | .hbm, ⟨30, _⟩ => ⟨S5632, .f32⟩
  | .hbm, ⟨31, _⟩ => ⟨S2048x5632, .f32⟩
  | .hbm, ⟨32, _⟩ => ⟨S1x5632, .f32⟩
  | .hbm, ⟨33, _⟩ => ⟨S2048x5632, .f32⟩
  | .hbm, ⟨34, _⟩ => ⟨S2048x5632, .f32⟩
  | .hbm, ⟨35, _⟩ => ⟨S2048x5632, .f32⟩
  | .hbm, ⟨36, _⟩ => ⟨S2048x5632, .f32⟩
  | .hbm, ⟨37, _⟩ => ⟨S2048x5632, .f32⟩
  | .hbm, ⟨38, _⟩ => ⟨S_, .f32⟩
  | .hbm, ⟨39, _⟩ => ⟨S2048x5632, .f32⟩
  | .hbm, ⟨40, _⟩ => ⟨S2048x5632, .f32⟩
  | .hbm, ⟨41, _⟩ => ⟨S_, .f32⟩
  | .hbm, ⟨42, _⟩ => ⟨S2048x5632, .f32⟩
  | .hbm, ⟨43, _⟩ => ⟨S2048x5632, .f32⟩
  | .hbm, ⟨44, _⟩ => ⟨S_, .f32⟩
  | .hbm, ⟨45, _⟩ => ⟨S2048x5632, .f32⟩
  | .hbm, ⟨46, _⟩ => ⟨S2048x5632, .f32⟩
  | .hbm, ⟨47, _⟩ => ⟨S2048x5632, .f32⟩
  | .hbm, ⟨48, _⟩ => ⟨S2048x5632, .f32⟩
  | .hbm, ⟨49, _⟩ => ⟨S2048x5632, .f32⟩
  | .hbm, ⟨50, _⟩ => ⟨S2048x5632, .f32⟩
  | .hbm, ⟨51, _⟩ => ⟨S2048x5632, .f32⟩
  | .hbm, ⟨52, _⟩ => ⟨S2048x5632, .f32⟩
  | .hbm, ⟨53, _⟩ => ⟨S2048x5632, .f32⟩
  | .hbm, ⟨54, _⟩ => ⟨S2048x5632, .f32⟩
  | .hbm, ⟨55, _⟩ => ⟨S2048x5632, .f32⟩
  | .hbm, ⟨56, _⟩ => ⟨S2048x5632, .f32⟩
  | .hbm, ⟨57, _⟩ => ⟨S2048x5632, .f32⟩
  | .hbm, ⟨58, _⟩ => ⟨S2048x5632, .f32⟩
  | .hbm, ⟨59, _⟩ => ⟨S_, .f32⟩
  | .hbm, ⟨60, _⟩ => ⟨S5632, .f32⟩
  | .hbm, ⟨61, _⟩ => ⟨S1x5632, .f32⟩
  | .hbm, ⟨62, _⟩ => ⟨S_, .f32⟩
  | .hbm, ⟨63, _⟩ => ⟨S5632, .f32⟩
  | .hbm, ⟨64, _⟩ => ⟨S_, .f32⟩
  | .hbm, ⟨65, _⟩ => ⟨S2050x5632, .f32⟩
  | .hbm, ⟨66, _⟩ => ⟨S1x5632, .f32⟩
  | .hbm, ⟨67, _⟩ => ⟨S_, .f32⟩
  | .hbm, ⟨68, _⟩ => ⟨S3x5632, .f32⟩
  | .hbm, ⟨69, _⟩ => ⟨S2048x5632, .f32⟩
  | .hbm, ⟨70, _⟩ => ⟨S2048x5632, .f32⟩
  | .hbm, ⟨71, _⟩ => ⟨S2048x5632, .f32⟩
  | .hbm, ⟨72, _⟩ => ⟨S_, .f32⟩
  | .hbm, ⟨73, _⟩ => ⟨S5632, .f32⟩
  | .hbm, ⟨74, _⟩ => ⟨S1x5632, .f32⟩
  | .hbm, ⟨75, _⟩ => ⟨S_, .f32⟩
  | .hbm, ⟨76, _⟩ => ⟨S5632, .f32⟩
  | .hbm, ⟨77, _⟩ => ⟨S_, .f32⟩
  | .hbm, ⟨78, _⟩ => ⟨S2050x5632, .f32⟩
  | .hbm, ⟨79, _⟩ => ⟨S2050x5632, .f32⟩
  | .hbm, ⟨80, _⟩ => ⟨S1x5632, .f32⟩
  | .hbm, ⟨81, _⟩ => ⟨S_, .f32⟩
  | .hbm, ⟨82, _⟩ => ⟨S3x5632, .f32⟩
  | .hbm, ⟨83, _⟩ => ⟨S3x5632, .f32⟩
  | .hbm, ⟨84, _⟩ => ⟨S_, .f32⟩
  | .hbm, ⟨85, _⟩ => ⟨S5632, .f32⟩
  | .hbm, ⟨86, _⟩ => ⟨S1x5632, .f32⟩
  | .hbm, ⟨87, _⟩ => ⟨S_, .f32⟩
  | .hbm, ⟨88, _⟩ => ⟨S5632, .f32⟩
  | .hbm, ⟨89, _⟩ => ⟨S2048x5632, .f32⟩
  | .hbm, ⟨90, _⟩ => ⟨S2048x5632, .f32⟩
  | .hbm, ⟨91, _⟩ => ⟨S2048x5632, .f32⟩
  | .hbm, ⟨92, _⟩ => ⟨S_, .f32⟩
  | .hbm, ⟨93, _⟩ => ⟨S5632, .f32⟩
  | .hbm, ⟨94, _⟩ => ⟨S1x5632, .f32⟩
  | .hbm, ⟨95, _⟩ => ⟨S_, .f32⟩
  | .hbm, ⟨96, _⟩ => ⟨S5632, .f32⟩
  | .hbm, ⟨97, _⟩ => ⟨S_, .f32⟩
  | .hbm, ⟨98, _⟩ => ⟨S2050x5632, .f32⟩
  | .hbm, ⟨99, _⟩ => ⟨S2050x5632, .f32⟩
  | .hbm, ⟨100, _⟩ => ⟨S1x5632, .f32⟩
  | .hbm, ⟨101, _⟩ => ⟨S_, .f32⟩
  | .hbm, ⟨102, _⟩ => ⟨S3x5632, .f32⟩
  | .hbm, ⟨103, _⟩ => ⟨S3x5632, .f32⟩
  | .hbm, ⟨104, _⟩ => ⟨S2x5632, .f32⟩
  | .hbm, ⟨105, _⟩ => ⟨S2048x5632, .f32⟩
  | .hbm, ⟨106, _⟩ => ⟨S2048x5632, .bf16⟩
  | .hbm, ⟨107, _⟩ => ⟨S2048x5632, .bf16⟩
  | .hbm, ⟨108, _⟩ => ⟨S1x5632, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v29_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v29_1 : Ref sig .tc := ⟨.hbm, 47, rfl⟩
abbrev main_v29_0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_1 : Ref sig .tc := ⟨.hbm, 59, rfl⟩
abbrev main_v37 : Ref sig .tc := ⟨.hbm, 60, rfl⟩
abbrev main_v38 : Ref sig .tc := ⟨.hbm, 61, rfl⟩
abbrev main_cst_2 : Ref sig .tc := ⟨.hbm, 62, rfl⟩
abbrev main_v39 : Ref sig .tc := ⟨.hbm, 63, rfl⟩
abbrev main_cst_3 : Ref sig .tc := ⟨.hbm, 64, rfl⟩
abbrev main_v40 : Ref sig .tc := ⟨.hbm, 65, rfl⟩
abbrev main_v41 : Ref sig .tc := ⟨.hbm, 66, rfl⟩
abbrev main_cst_4 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_5 : Ref sig .tc := ⟨.hbm, 72, rfl⟩
abbrev main_v46 : Ref sig .tc := ⟨.hbm, 73, rfl⟩
abbrev main_v47 : Ref sig .tc := ⟨.hbm, 74, rfl⟩
abbrev main_cst_6 : Ref sig .tc := ⟨.hbm, 75, rfl⟩
abbrev main_v48 : Ref sig .tc := ⟨.hbm, 76, rfl⟩
abbrev main_cst_7 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_8 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_11 : Ref sig .tc := ⟨.hbm, 92, rfl⟩
abbrev main_v60 : Ref sig .tc := ⟨.hbm, 93, rfl⟩
abbrev main_v61 : Ref sig .tc := ⟨.hbm, 94, rfl⟩
abbrev main_cst_12 : Ref sig .tc := ⟨.hbm, 95, rfl⟩
abbrev main_v62 : Ref sig .tc := ⟨.hbm, 96, rfl⟩
abbrev main_cst_13 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_14 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩

abbrev nD : Nat := 1
abbrev τ : Topo := Topo.v7x

variable {F : FTy → Type} [FloatOps F]
-- ==== DownDx.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefDownDxIdeal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x2048, .f32⟩
  | .hbm, ⟨3, _⟩ => ⟨S5632x2048, .f32⟩
  | .hbm, ⟨4, _⟩ => ⟨S_, .f32⟩
  | .hbm, ⟨5, _⟩ => ⟨S2048x5632, .f32⟩
  | .hbm, ⟨6, _⟩ => ⟨S2048x2048, .f32⟩
  | .hbm, ⟨7, _⟩ => ⟨S2048x5632, .f32⟩
  | .hbm, ⟨8, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDw.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefDownDwIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S2048x5632, .f32⟩
  | .hbm, ⟨3, _⟩ => ⟨S2048x2048, .f32⟩
  | .hbm, ⟨4, _⟩ => ⟨S_, .f32⟩
  | .hbm, ⟨5, _⟩ => ⟨S5632x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GateDx.lean ====
abbrev S2048x5632 : Shape := ⟨2, ![2048, 5632]⟩
abbrev S5632x2048 : Shape := ⟨2, ![5632, 2048]⟩
abbrev S2048x2048 : Shape := ⟨2, ![2048, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefGateDxIdeal.lean ====
abbrev S2048x5632 : Shape := ⟨2, ![2048, 5632]⟩
abbrev S5632x2048 : Shape := ⟨2, ![5632, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x5632, .f32⟩
  | .hbm, ⟨3, _⟩ => ⟨S5632x2048, .f32⟩
  | .hbm, ⟨4, _⟩ => ⟨S_, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDx.lean ====
abbrev S2048x5632 : Shape := ⟨2, ![2048, 5632]⟩
abbrev S5632x2048 : Shape := ⟨2, ![5632, 2048]⟩
abbrev S2048x2048 : Shape := ⟨2, ![2048, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefUpDxIdeal.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x5632, .f32⟩
  | .hbm, ⟨4, _⟩ => ⟨S5632x2048, .f32⟩
  | .hbm, ⟨5, _⟩ => ⟨S_, .f32⟩
  | .hbm, ⟨6, _⟩ => ⟨S2048x2048, .f32⟩
  | .hbm, ⟨7, _⟩ => ⟨S2048x5632, .f32⟩
  | .hbm, ⟨8, _⟩ => ⟨S2048x5632, .f32⟩
  | .hbm, ⟨9, _⟩ => ⟨S2048x2048, .f32⟩
  | .hbm, ⟨10, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== GateDw.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefGateDwIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S2048x5632, .f32⟩
  | .hbm, ⟨3, _⟩ => ⟨S2048x2048, .f32⟩
  | .hbm, ⟨4, _⟩ => ⟨S_, .f32⟩
  | .hbm, ⟨5, _⟩ => ⟨S5632x2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S2048x5632, .f32⟩
  | .hbm, ⟨10, _⟩ => ⟨S5632x2048, .f32⟩
  | .hbm, ⟨11, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutDx.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefOutDxIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefOutDwIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjDx.lean ====
abbrev S2048x5632 : Shape := ⟨2, ![2048, 5632]⟩
abbrev S5632x2048 : Shape := ⟨2, ![5632, 2048]⟩
abbrev S2048x2048 : Shape := ⟨2, ![2048, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefProjDxIdeal.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x5632, .f32⟩
  | .hbm, ⟨4, _⟩ => ⟨S5632x2048, .f32⟩
  | .hbm, ⟨5, _⟩ => ⟨S_, .f32⟩
  | .hbm, ⟨6, _⟩ => ⟨S2048x2048, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proj.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefProjIdeal.lean ====
abbrev S2048x2048 : Shape := ⟨2, ![2048, 2048]⟩
abbrev S5632x2048 : Shape := ⟨2, ![5632, 2048]⟩
abbrev S2048x5632 : Shape := ⟨2, ![2048, 5632]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x2048, .f32⟩
  | .hbm, ⟨3, _⟩ => ⟨S5632x2048, .f32⟩
  | .hbm, ⟨4, _⟩ => ⟨S2048x5632, .f32⟩
  | .hbm, ⟨5, _⟩ => ⟨S2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixOut.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefMixOutIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Gate.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefGateIdeal.lean ====
abbrev S2048x2048 : Shape := ⟨2, ![2048, 2048]⟩
abbrev S5632x2048 : Shape := ⟨2, ![5632, 2048]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x2048, .f32⟩
  | .hbm, ⟨3, _⟩ => ⟨S5632x2048, .f32⟩
  | .hbm, ⟨4, _⟩ => ⟨S2048x5632, .f32⟩
  | .hbm, ⟨5, _⟩ => ⟨S2048x5632, .f32⟩
  | .hbm, ⟨6, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Down.lean ====
abbrev S2048x5632 : Shape := ⟨2, ![2048, 5632]⟩
abbrev S5632x2048 : Shape := ⟨2, ![5632, 2048]⟩
abbrev S2048x2048 : Shape := ⟨2, ![2048, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefDownIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x5632, .f32⟩
  | .hbm, ⟨3, _⟩ => ⟨S5632x2048, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AdamSmall.lean ====
abbrev S264x128 : Shape := ⟨2, ![264, 128]⟩

abbrev nBuf : Space → Nat
  | .hbm => 7
  | .vmem => 7
  | .smem => 0
  | _ => 0

abbrev bufTy : (tb : Table) → Fin (tcTables nBuf tb) → BufTy
  | .hbm, ⟨0, _⟩ => ⟨S264x128, .f32⟩
  | .hbm, ⟨1, _⟩ => ⟨S264x128, .f32⟩
  | .hbm, ⟨2, _⟩ => ⟨S264x128, .f32⟩
  | .hbm, ⟨3, _⟩ => ⟨S264x128, .f32⟩
  | .hbm, ⟨4, _⟩ => ⟨S264x128, .f32⟩
  | .hbm, ⟨5, _⟩ => ⟨S264x128, .f32⟩
  | .hbm, ⟨6, _⟩ => ⟨S264x128, .f32⟩
  | .local _ .vmem, ⟨0, _⟩ => ⟨S264x128, .f32⟩
  | .local _ .vmem, ⟨1, _⟩ => ⟨S264x128, .f32⟩
  | .local _ .vmem, ⟨2, _⟩ => ⟨S264x128, .f32⟩
  | .local _ .vmem, ⟨3, _⟩ => ⟨S264x128, .f32⟩
  | .local _ .vmem, ⟨4, _⟩ => ⟨S264x128, .f32⟩
  | .local _ .vmem, ⟨5, _⟩ => ⟨S264x128, .f32⟩
  | .local _ .vmem, ⟨6, _⟩ => ⟨S264x128, .f32⟩
  | _, _ => ⟨S264x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S264x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S264x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S264x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S264x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S264x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S264x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S264x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RefAdamSmallIdeal.lean ====
abbrev S264x128 : Shape := ⟨2, ![264, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S264x128, .f32⟩
  | .hbm, ⟨1, _⟩ => ⟨S264x128, .f32⟩
  | .hbm, ⟨2, _⟩ => ⟨S264x128, .f32⟩
  | .hbm, ⟨3, _⟩ => ⟨S264x128, .f32⟩
  | .hbm, ⟨4, _⟩ => ⟨S_, .f32⟩
  | .hbm, ⟨5, _⟩ => ⟨S264x128, .f32⟩
  | .hbm, ⟨6, _⟩ => ⟨S264x128, .f32⟩
  | .hbm, ⟨7, _⟩ => ⟨S_, .f32⟩
  | .hbm, ⟨8, _⟩ => ⟨S264x128, .f32⟩
  | .hbm, ⟨9, _⟩ => ⟨S264x128, .f32⟩
  | .hbm, ⟨10, _⟩ => ⟨S264x128, .f32⟩
  | .hbm, ⟨11, _⟩ => ⟨S_, .f32⟩
  | .hbm, ⟨12, _⟩ => ⟨S264x128, .f32⟩
  | .hbm, ⟨13, _⟩ => ⟨S264x128, .f32⟩
  | .hbm, ⟨14, _⟩ => ⟨S264x128, .f32⟩
  | .hbm, ⟨15, _⟩ => ⟨S_, .f32⟩
  | .hbm, ⟨16, _⟩ => ⟨S264x128, .f32⟩
  | .hbm, ⟨17, _⟩ => ⟨S264x128, .f32⟩
  | .hbm, ⟨18, _⟩ => ⟨S264x128, .f32⟩
  | .hbm, ⟨19, _⟩ => ⟨S_, .f32⟩
  | .hbm, ⟨20, _⟩ => ⟨S264x128, .f32⟩
  | .hbm, ⟨21, _⟩ => ⟨S264x128, .f32⟩
  | .hbm, ⟨22, _⟩ => ⟨S_, .f32⟩
  | .hbm, ⟨23, _⟩ => ⟨S264x128, .f32⟩
  | .hbm, ⟨24, _⟩ => ⟨S264x128, .f32⟩
  | .hbm, ⟨25, _⟩ => ⟨S264x128, .f32⟩
  | .hbm, ⟨26, _⟩ => ⟨S_, .f32⟩
  | .hbm, ⟨27, _⟩ => ⟨S264x128, .f32⟩
  | .hbm, ⟨28, _⟩ => ⟨S264x128, .f32⟩
  | .hbm, ⟨29, _⟩ => ⟨S264x128, .f32⟩
  | .hbm, ⟨30, _⟩ => ⟨S_, .f32⟩
  | .hbm, ⟨31, _⟩ => ⟨S264x128, .f32⟩
  | .hbm, ⟨32, _⟩ => ⟨S264x128, .f32⟩
  | .hbm, ⟨33, _⟩ => ⟨S264x128, .f32⟩
  | .hbm, ⟨34, _⟩ => ⟨S_, .f32⟩
  | .hbm, ⟨35, _⟩ => ⟨S264x128, .f32⟩
  | .hbm, ⟨36, _⟩ => ⟨S264x128, .f32⟩
  | _, _ => ⟨S264x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Upper.lean ====
abbrev S4x704x2048 : Shape := ⟨3, ![4, 704, 2048]⟩
abbrev S_ : Shape := ⟨0, ![]⟩
abbrev S2x704x2048 : Shape := ⟨3, ![2, 704, 2048]⟩
abbrev S1 : Shape := ⟨1, ![1]⟩
abbrev S4x64x2048 : Shape := ⟨3, ![4, 64, 2048]⟩
abbrev S1x64x2048 : Shape := ⟨3, ![1, 64, 2048]⟩
abbrev S64x2048 : Shape := ⟨2, ![64, 2048]⟩
abbrev S1x704x2048 : Shape := ⟨3, ![1, 704, 2048]⟩
abbrev S704x2048 : Shape := ⟨2, ![704, 2048]⟩

abbrev nBuf : Space → Nat
  | .hbm => 18
  | .vmem => 18
  | .smem => 1
  | _ => 0

abbrev bufTy : (tb : Table) → Fin (tcTables nBuf tb) → BufTy
  | .hbm, ⟨0, _⟩ => ⟨S4x704x2048, .bf16⟩
  | .hbm, ⟨1, _⟩ => ⟨S4x704x2048, .bf16⟩
  | .hbm, ⟨2, _⟩ => ⟨S_, .i32⟩
  | .hbm, ⟨3, _⟩ => ⟨S2x704x2048, .f32⟩
  | .hbm, ⟨4, _⟩ => ⟨S2x704x2048, .f32⟩
  | .hbm, ⟨5, _⟩ => ⟨S2x704x2048, .f32⟩
  | .hbm, ⟨6, _⟩ => ⟨S2x704x2048, .f32⟩
  | .hbm, ⟨7, _⟩ => ⟨S2x704x2048, .f32⟩
  | .hbm, ⟨8, _⟩ => ⟨S2x704x2048, .f32⟩
  | .hbm, ⟨9, _⟩ => ⟨S2x704x2048, .f32⟩
  | .hbm, ⟨10, _⟩ => ⟨S1x704x2048, .f32⟩
  | .hbm, ⟨11, _⟩ => ⟨S704x2048, .f32⟩
  | .hbm, ⟨12, _⟩ => ⟨S1x704x2048, .f32⟩
  | .hbm, ⟨13, _⟩ => ⟨S704x2048, .f32⟩
  | .hbm, ⟨14, _⟩ => ⟨S1x704x2048, .f32⟩
  | .hbm, ⟨15, _⟩ => ⟨S704x2048, .f32⟩
  | .hbm, ⟨16, _⟩ => ⟨S1x704x2048, .f32⟩
  | .hbm, ⟨17, _⟩ => ⟨S704x2048, .f32⟩
  | .local _ .vmem, ⟨0, _⟩ => ⟨S4x64x2048, .bf16⟩
  | .local _ .vmem, ⟨1, _⟩ => ⟨S4x64x2048, .bf16⟩
  | .local _ .vmem, ⟨2, _⟩ => ⟨S1x64x2048, .bf16⟩
  | .local _ .vmem, ⟨3, _⟩ => ⟨S1x64x2048, .bf16⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .smem, ⟨0, _⟩ => ⟨S1, .i32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S4x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefUpperIdeal.lean ====
abbrev S4x704x2048 : Shape := ⟨3, ![4, 704, 2048]⟩
abbrev S_ : Shape := ⟨0, ![]⟩
abbrev S2x704x2048 : Shape := ⟨3, ![2, 704, 2048]⟩
abbrev S4 : Shape := ⟨1, ![4]⟩
abbrev S4x1x1 : Shape := ⟨3, ![4, 1, 1]⟩
abbrev S704x2048 : Shape := ⟨2, ![704, 2048]⟩
abbrev S1x704x2048 : Shape := ⟨3, ![1, 704, 2048]⟩

abbrev nBuf : Space → Nat
  | .hbm => 54
  | .vmem => 0
  | .smem => 0
  | _ => 0

abbrev bufTy : (tb : Table) → Fin (tcTables nBuf tb) → BufTy
  | .hbm, ⟨0, _⟩ => ⟨S4x704x2048, .bf16⟩
  | .hbm, ⟨1, _⟩ => ⟨S4x704x2048, .bf16⟩
  | .hbm, ⟨2, _⟩ => ⟨S_, .i32⟩
  | .hbm, ⟨3, _⟩ => ⟨S2x704x2048, .f32⟩
  | .hbm, ⟨4, _⟩ => ⟨S2x704x2048, .f32⟩
  | .hbm, ⟨5, _⟩ => ⟨S2x704x2048, .f32⟩
  | .hbm, ⟨6, _⟩ => ⟨S4, .i32⟩
  | .hbm, ⟨7, _⟩ => ⟨S4, .i32⟩
  | .hbm, ⟨8, _⟩ => ⟨S4, .i1⟩
  | .hbm, ⟨9, _⟩ => ⟨S4x1x1, .i1⟩
  | .hbm, ⟨10, _⟩ => ⟨S4x704x2048, .i1⟩
  | .hbm, ⟨11, _⟩ => ⟨S4x704x2048, .bf16⟩
  | .hbm, ⟨12, _⟩ => ⟨S4x704x2048, .f32⟩
  | .hbm, ⟨13, _⟩ => ⟨S_, .f32⟩
  | .hbm, ⟨14, _⟩ => ⟨S704x2048, .f32⟩
  | .hbm, ⟨15, _⟩ => ⟨S1x704x2048, .f32⟩
  | .hbm, ⟨16, _⟩ => ⟨S704x2048, .f32⟩
  | .hbm, ⟨17, _⟩ => ⟨S1x704x2048, .f32⟩
  | .hbm, ⟨18, _⟩ => ⟨S704x2048, .f32⟩
  | .hbm, ⟨19, _⟩ => ⟨S1x704x2048, .f32⟩
  | .hbm, ⟨20, _⟩ => ⟨S704x2048, .f32⟩
  | .hbm, ⟨21, _⟩ => ⟨S_, .f32⟩
  | .hbm, ⟨22, _⟩ => ⟨S704x2048, .f32⟩
  | .hbm, ⟨23, _⟩ => ⟨S704x2048, .f32⟩
  | .hbm, ⟨24, _⟩ => ⟨S_, .f32⟩
  | .hbm, ⟨25, _⟩ => ⟨S704x2048, .f32⟩
  | .hbm, ⟨26, _⟩ => ⟨S704x2048, .f32⟩
  | .hbm, ⟨27, _⟩ => ⟨S704x2048, .f32⟩
  | .hbm, ⟨28, _⟩ => ⟨S_, .f32⟩
  | .hbm, ⟨29, _⟩ => ⟨S704x2048, .f32⟩
  | .hbm, ⟨30, _⟩ => ⟨S704x2048, .f32⟩
  | .hbm, ⟨31, _⟩ => ⟨S704x2048, .f32⟩
  | .hbm, ⟨32, _⟩ => ⟨S_, .f32⟩
  | .hbm, ⟨33, _⟩ => ⟨S704x2048, .f32⟩
  | .hbm, ⟨34, _⟩ => ⟨S704x2048, .f32⟩
  | .hbm, ⟨35, _⟩ => ⟨S704x2048, .f32⟩
  | .hbm, ⟨36, _⟩ => ⟨S_, .f32⟩
  | .hbm, ⟨37, _⟩ => ⟨S704x2048, .f32⟩
  | .hbm, ⟨38, _⟩ => ⟨S704x2048, .f32⟩
  | .hbm, ⟨39, _⟩ => ⟨S_, .f32⟩
  | .hbm, ⟨40, _⟩ => ⟨S704x2048, .f32⟩
  | .hbm, ⟨41, _⟩ => ⟨S704x2048, .f32⟩
  | .hbm, ⟨42, _⟩ => ⟨S704x2048, .f32⟩
  | .hbm, ⟨43, _⟩ => ⟨S_, .f32⟩
  | .hbm, ⟨44, _⟩ => ⟨S704x2048, .f32⟩
  | .hbm, ⟨45, _⟩ => ⟨S704x2048, .f32⟩
  | .hbm, ⟨46, _⟩ => ⟨S704x2048, .f32⟩
  | .hbm, ⟨47, _⟩ => ⟨S_, .f32⟩
  | .hbm, ⟨48, _⟩ => ⟨S704x2048, .f32⟩
  | .hbm, ⟨49, _⟩ => ⟨S704x2048, .f32⟩
  | .hbm, ⟨50, _⟩ => ⟨S704x2048, .f32⟩
  | .hbm, ⟨51, _⟩ => ⟨S_, .f32⟩
  | .hbm, ⟨52, _⟩ => ⟨S704x2048, .f32⟩
  | .hbm, ⟨53, _⟩ => ⟨S704x2048, .f32⟩
  | _, _ => ⟨S4x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== Lower.lean ====
abbrev S4x704x2048 : Shape := ⟨3, ![4, 704, 2048]⟩
abbrev S_ : Shape := ⟨0, ![]⟩
abbrev S2x704x2048 : Shape := ⟨3, ![2, 704, 2048]⟩
abbrev S1 : Shape := ⟨1, ![1]⟩
abbrev S4x64x2048 : Shape := ⟨3, ![4, 64, 2048]⟩
abbrev S1x64x2048 : Shape := ⟨3, ![1, 64, 2048]⟩
abbrev S64x2048 : Shape := ⟨2, ![64, 2048]⟩

abbrev nBuf : Space → Nat
  | .hbm => 14
  | .vmem => 18
  | .smem => 1
  | _ => 0

abbrev bufTy : (tb : Table) → Fin (tcTables nBuf tb) → BufTy
  | .hbm, ⟨0, _⟩ => ⟨S4x704x2048, .bf16⟩
  | .hbm, ⟨1, _⟩ => ⟨S4x704x2048, .bf16⟩
  | .hbm, ⟨2, _⟩ => ⟨S_, .i32⟩
  | .hbm, ⟨3, _⟩ => ⟨S2x704x2048, .f32⟩
  | .hbm, ⟨4, _⟩ => ⟨S2x704x2048, .f32⟩
  | .hbm, ⟨5, _⟩ => ⟨S2x704x2048, .f32⟩
  | .hbm, ⟨6, _⟩ => ⟨S2x704x2048, .f32⟩
  | .hbm, ⟨7, _⟩ => ⟨S2x704x2048, .f32⟩
  | .hbm, ⟨8, _⟩ => ⟨S2x704x2048, .f32⟩
  | .hbm, ⟨9, _⟩ => ⟨S2x704x2048, .f32⟩
  | .hbm, ⟨10, _⟩ => ⟨S2x704x2048, .f32⟩
  | .hbm, ⟨11, _⟩ => ⟨S2x704x2048, .f32⟩
  | .hbm, ⟨12, _⟩ => ⟨S2x704x2048, .f32⟩
  | .hbm, ⟨13, _⟩ => ⟨S2x704x2048, .f32⟩
  | .local _ .vmem, ⟨0, _⟩ => ⟨S4x64x2048, .bf16⟩
  | .local _ .vmem, ⟨1, _⟩ => ⟨S4x64x2048, .bf16⟩
  | .local _ .vmem, ⟨2, _⟩ => ⟨S1x64x2048, .bf16⟩
  | .local _ .vmem, ⟨3, _⟩ => ⟨S1x64x2048, .bf16⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .smem, ⟨0, _⟩ => ⟨S1, .i32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefLowerIdeal.lean ====
abbrev S4x704x2048 : Shape := ⟨3, ![4, 704, 2048]⟩
abbrev S_ : Shape := ⟨0, ![]⟩
abbrev S2x704x2048 : Shape := ⟨3, ![2, 704, 2048]⟩
abbrev S4 : Shape := ⟨1, ![4]⟩
abbrev S4x1x1 : Shape := ⟨3, ![4, 1, 1]⟩
abbrev S704x2048 : Shape := ⟨2, ![704, 2048]⟩
abbrev S1x704x2048 : Shape := ⟨3, ![1, 704, 2048]⟩

abbrev nBuf : Space → Nat
  | .hbm => 78
  | .vmem => 0
  | .smem => 0
  | _ => 0

abbrev bufTy : (tb : Table) → Fin (tcTables nBuf tb) → BufTy
  | .hbm, ⟨0, _⟩ => ⟨S4x704x2048, .bf16⟩
  | .hbm, ⟨1, _⟩ => ⟨S4x704x2048, .bf16⟩
  | .hbm, ⟨2, _⟩ => ⟨S_, .i32⟩
  | .hbm, ⟨3, _⟩ => ⟨S2x704x2048, .f32⟩
  | .hbm, ⟨4, _⟩ => ⟨S2x704x2048, .f32⟩
  | .hbm, ⟨5, _⟩ => ⟨S2x704x2048, .f32⟩
  | .hbm, ⟨6, _⟩ => ⟨S2x704x2048, .f32⟩
  | .hbm, ⟨7, _⟩ => ⟨S2x704x2048, .f32⟩
  | .hbm, ⟨8, _⟩ => ⟨S2x704x2048, .f32⟩
  | .hbm, ⟨9, _⟩ => ⟨S2x704x2048, .f32⟩
  | .hbm, ⟨10, _⟩ => ⟨S4, .i32⟩
  | .hbm, ⟨11, _⟩ => ⟨S4, .i32⟩
  | .hbm, ⟨12, _⟩ => ⟨S4, .i1⟩
  | .hbm, ⟨13, _⟩ => ⟨S4x1x1, .i1⟩
  | .hbm, ⟨14, _⟩ => ⟨S4x704x2048, .i1⟩
  | .hbm, ⟨15, _⟩ => ⟨S4x704x2048, .bf16⟩
  | .hbm, ⟨16, _⟩ => ⟨S4x704x2048, .f32⟩
  | .hbm, ⟨17, _⟩ => ⟨S_, .f32⟩
  | .hbm, ⟨18, _⟩ => ⟨S704x2048, .f32⟩
  | .hbm, ⟨19, _⟩ => ⟨S1x704x2048, .f32⟩
  | .hbm, ⟨20, _⟩ => ⟨S704x2048, .f32⟩
  | .hbm, ⟨21, _⟩ => ⟨S1x704x2048, .f32⟩
  | .hbm, ⟨22, _⟩ => ⟨S704x2048, .f32⟩
  | .hbm, ⟨23, _⟩ => ⟨S1x704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S_, .f32⟩
  | .hbm, ⟨29, _⟩ => ⟨S704x2048, .f32⟩
  | .hbm, ⟨30, _⟩ => ⟨S704x2048, .f32⟩
  | .hbm, ⟨31, _⟩ => ⟨S704x2048, .f32⟩
  | .hbm, ⟨32, _⟩ => ⟨S_, .f32⟩
  | .hbm, ⟨33, _⟩ => ⟨S704x2048, .f32⟩
  | .hbm, ⟨34, _⟩ => ⟨S704x2048, .f32⟩
  | .hbm, ⟨35, _⟩ => ⟨S704x2048, .f32⟩
  | .hbm, ⟨36, _⟩ => ⟨S_, .f32⟩
  | .hbm, ⟨37, _⟩ => ⟨S704x2048, .f32⟩
  | .hbm, ⟨38, _⟩ => ⟨S704x2048, .f32⟩
  | .hbm, ⟨39, _⟩ => ⟨S704x2048, .f32⟩
  | .hbm, ⟨40, _⟩ => ⟨S_, .f32⟩
  | .hbm, ⟨41, _⟩ => ⟨S704x2048, .f32⟩
  | .hbm, ⟨42, _⟩ => ⟨S704x2048, .f32⟩
  | .hbm, ⟨43, _⟩ => ⟨S_, .f32⟩
  | .hbm, ⟨44, _⟩ => ⟨S704x2048, .f32⟩
  | .hbm, ⟨45, _⟩ => ⟨S704x2048, .f32⟩
  | .hbm, ⟨46, _⟩ => ⟨S704x2048, .f32⟩
  | .hbm, ⟨47, _⟩ => ⟨S_, .f32⟩
  | .hbm, ⟨48, _⟩ => ⟨S704x2048, .f32⟩
  | .hbm, ⟨49, _⟩ => ⟨S704x2048, .f32⟩
  | .hbm, ⟨50, _⟩ => ⟨S704x2048, .f32⟩
  | .hbm, ⟨51, _⟩ => ⟨S_, .f32⟩
  | .hbm, ⟨52, _⟩ => ⟨S704x2048, .f32⟩
  | .hbm, ⟨53, _⟩ => ⟨S704x2048, .f32⟩
  | .hbm, ⟨54, _⟩ => ⟨S704x2048, .f32⟩
  | .hbm, ⟨55, _⟩ => ⟨S_, .f32⟩
  | .hbm, ⟨56, _⟩ => ⟨S704x2048, .f32⟩
  | .hbm, ⟨57, _⟩ => ⟨S704x2048, .f32⟩
  | .hbm, ⟨58, _⟩ => ⟨S1x704x2048, .f32⟩
  | .hbm, ⟨59, _⟩ => ⟨S704x2048, .f32⟩
  | .hbm, ⟨60, _⟩ => ⟨S1x704x2048, .f32⟩
  | .hbm, ⟨61, _⟩ => ⟨S1x704x2048, .f32⟩
  | .hbm, ⟨62, _⟩ => ⟨S2x704x2048, .f32⟩
  | .hbm, ⟨63, _⟩ => ⟨S1x704x2048, .f32⟩
  | .hbm, ⟨64, _⟩ => ⟨S704x2048, .f32⟩
  | .hbm, ⟨65, _⟩ => ⟨S1x704x2048, .f32⟩
  | .hbm, ⟨66, _⟩ => ⟨S1x704x2048, .f32⟩
  | .hbm, ⟨67, _⟩ => ⟨S2x704x2048, .f32⟩
  | .hbm, ⟨68, _⟩ => ⟨S1x704x2048, .f32⟩
  | .hbm, ⟨69, _⟩ => ⟨S704x2048, .f32⟩
  | .hbm, ⟨70, _⟩ => ⟨S1x704x2048, .f32⟩
  | .hbm, ⟨71, _⟩ => ⟨S1x704x2048, .f32⟩
  | .hbm, ⟨72, _⟩ => ⟨S2x704x2048, .f32⟩
  | .hbm, ⟨73, _⟩ => ⟨S1x704x2048, .f32⟩
  | .hbm, ⟨74, _⟩ => ⟨S704x2048, .f32⟩
  | .hbm, ⟨75, _⟩ => ⟨S1x704x2048, .f32⟩
  | .hbm, ⟨76, _⟩ => ⟨S1x704x2048, .f32⟩
  | .hbm, ⟨77, _⟩ => ⟨S2x704x2048, .f32⟩
  | _, _ => ⟨S4x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== OutUpper.lean ====
abbrev S4x256x2048 : Shape := ⟨3, ![4, 256, 2048]⟩
abbrev S_ : Shape := ⟨0, ![]⟩
abbrev S2x256x2048 : Shape := ⟨3, ![2, 256, 2048]⟩
abbrev S1 : Shape := ⟨1, ![1]⟩
abbrev S4x128x2048 : Shape := ⟨3, ![4, 128, 2048]⟩
abbrev S1x128x2048 : Shape := ⟨3, ![1, 128, 2048]⟩
abbrev S128x2048 : Shape := ⟨2, ![128, 2048]⟩
abbrev S1x256x2048 : Shape := ⟨3, ![1, 256, 2048]⟩
abbrev S256x2048 : Shape := ⟨2, ![256, 2048]⟩

abbrev nBuf : Space → Nat
  | .hbm => 18
  | .vmem => 18
  | .smem => 1
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S_, .i32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S1x256x2048, .f32⟩
  | .hbm, ⟨11, _⟩ => ⟨S256x2048, .f32⟩
  | .hbm, ⟨12, _⟩ => ⟨S1x256x2048, .f32⟩
  | .hbm, ⟨13, _⟩ => ⟨S256x2048, .f32⟩
  | .hbm, ⟨14, _⟩ => ⟨S1x256x2048, .f32⟩
  | .hbm, ⟨15, _⟩ => ⟨S256x2048, .f32⟩
  | .hbm, ⟨16, _⟩ => ⟨S1x256x2048, .f32⟩
  | .hbm, ⟨17, _⟩ => ⟨S256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S1, .i32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefOutUpperIdeal.lean ====
abbrev S4x256x2048 : Shape := ⟨3, ![4, 256, 2048]⟩
abbrev S_ : Shape := ⟨0, ![]⟩
abbrev S2x256x2048 : Shape := ⟨3, ![2, 256, 2048]⟩
abbrev S4 : Shape := ⟨1, ![4]⟩
abbrev S4x1x1 : Shape := ⟨3, ![4, 1, 1]⟩
abbrev S256x2048 : Shape := ⟨2, ![256, 2048]⟩
abbrev S1x256x2048 : Shape := ⟨3, ![1, 256, 2048]⟩

abbrev nBuf : Space → Nat
  | .hbm => 54
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S_, .i32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S4, .i32⟩
  | .hbm, ⟨7, _⟩ => ⟨S4, .i32⟩
  | .hbm, ⟨8, _⟩ => ⟨S4, .i1⟩
  | .hbm, ⟨9, _⟩ => ⟨S4x1x1, .i1⟩
  | .hbm, ⟨10, _⟩ => ⟨S4x256x2048, .i1⟩
  | .hbm, ⟨11, _⟩ => ⟨S4x256x2048, .bf16⟩
  | .hbm, ⟨12, _⟩ => ⟨S4x256x2048, .f32⟩
  | .hbm, ⟨13, _⟩ => ⟨S_, .f32⟩
  | .hbm, ⟨14, _⟩ => ⟨S256x2048, .f32⟩
  | .hbm, ⟨15, _⟩ => ⟨S1x256x2048, .f32⟩
  | .hbm, ⟨16, _⟩ => ⟨S256x2048, .f32⟩
  | .hbm, ⟨17, _⟩ => ⟨S1x256x2048, .f32⟩
  | .hbm, ⟨18, _⟩ => ⟨S256x2048, .f32⟩
  | .hbm, ⟨19, _⟩ => ⟨S1x256x2048, .f32⟩
  | .hbm, ⟨20, _⟩ => ⟨S256x2048, .f32⟩
  | .hbm, ⟨21, _⟩ => ⟨S_, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S256x2048, .f32⟩
  | .hbm, ⟨36, _⟩ => ⟨S_, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S_, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S_, .f32⟩
  | .hbm, ⟨48, _⟩ => ⟨S256x2048, .f32⟩
  | .hbm, ⟨49, _⟩ => ⟨S256x2048, .f32⟩
  | .hbm, ⟨50, _⟩ => ⟨S256x2048, .f32⟩
  | .hbm, ⟨51, _⟩ => ⟨S_, .f32⟩
  | .hbm, ⟨52, _⟩ => ⟨S256x2048, .f32⟩
  | .hbm, ⟨53, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== OutLower.lean ====
abbrev S4x256x2048 : Shape := ⟨3, ![4, 256, 2048]⟩
abbrev S_ : Shape := ⟨0, ![]⟩
abbrev S2x256x2048 : Shape := ⟨3, ![2, 256, 2048]⟩
abbrev S1 : Shape := ⟨1, ![1]⟩
abbrev S4x128x2048 : Shape := ⟨3, ![4, 128, 2048]⟩
abbrev S1x128x2048 : Shape := ⟨3, ![1, 128, 2048]⟩
abbrev S128x2048 : Shape := ⟨2, ![128, 2048]⟩

abbrev nBuf : Space → Nat
  | .hbm => 14
  | .vmem => 18
  | .smem => 1
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S_, .i32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S2x256x2048, .f32⟩
  | .hbm, ⟨11, _⟩ => ⟨S2x256x2048, .f32⟩
  | .hbm, ⟨12, _⟩ => ⟨S2x256x2048, .f32⟩
  | .hbm, ⟨13, _⟩ => ⟨S2x256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S1, .i32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefOutLowerIdeal.lean ====
abbrev S4x256x2048 : Shape := ⟨3, ![4, 256, 2048]⟩
abbrev S_ : Shape := ⟨0, ![]⟩
abbrev S2x256x2048 : Shape := ⟨3, ![2, 256, 2048]⟩
abbrev S4 : Shape := ⟨1, ![4]⟩
abbrev S4x1x1 : Shape := ⟨3, ![4, 1, 1]⟩
abbrev S256x2048 : Shape := ⟨2, ![256, 2048]⟩
abbrev S1x256x2048 : Shape := ⟨3, ![1, 256, 2048]⟩

abbrev nBuf : Space → Nat
  | .hbm => 78
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .bf16⟩
  | .hbm, ⟨2, _⟩ => ⟨S_, .i32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S4, .i32⟩
  | .hbm, ⟨11, _⟩ => ⟨S4, .i32⟩
  | .hbm, ⟨12, _⟩ => ⟨S4, .i1⟩
  | .hbm, ⟨13, _⟩ => ⟨S4x1x1, .i1⟩
  | .hbm, ⟨14, _⟩ => ⟨S4x256x2048, .i1⟩
  | .hbm, ⟨15, _⟩ => ⟨S4x256x2048, .bf16⟩
  | .hbm, ⟨16, _⟩ => ⟨S4x256x2048, .f32⟩
  | .hbm, ⟨17, _⟩ => ⟨S_, .f32⟩
  | .hbm, ⟨18, _⟩ => ⟨S256x2048, .f32⟩
  | .hbm, ⟨19, _⟩ => ⟨S1x256x2048, .f32⟩
  | .hbm, ⟨20, _⟩ => ⟨S256x2048, .f32⟩
  | .hbm, ⟨21, _⟩ => ⟨S1x256x2048, .f32⟩
  | .hbm, ⟨22, _⟩ => ⟨S256x2048, .f32⟩
  | .hbm, ⟨23, _⟩ => ⟨S1x256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S256x2048, .f32⟩
  | .hbm, ⟨36, _⟩ => ⟨S_, .f32⟩
  | .hbm, ⟨37, _⟩ => ⟨S256x2048, .f32⟩
  | .hbm, ⟨38, _⟩ => ⟨S256x2048, .f32⟩
  | .hbm, ⟨39, _⟩ => ⟨S256x2048, .f32⟩
  | .hbm, ⟨40, _⟩ => ⟨S_, .f32⟩
  | .hbm, ⟨41, _⟩ => ⟨S256x2048, .f32⟩
  | .hbm, ⟨42, _⟩ => ⟨S256x2048, .f32⟩
  | .hbm, ⟨43, _⟩ => ⟨S_, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S_, .f32⟩
  | .hbm, ⟨48, _⟩ => ⟨S256x2048, .f32⟩
  | .hbm, ⟨49, _⟩ => ⟨S256x2048, .f32⟩
  | .hbm, ⟨50, _⟩ => ⟨S256x2048, .f32⟩
  | .hbm, ⟨51, _⟩ => ⟨S_, .f32⟩
  | .hbm, ⟨52, _⟩ => ⟨S256x2048, .f32⟩
  | .hbm, ⟨53, _⟩ => ⟨S256x2048, .f32⟩
  | .hbm, ⟨54, _⟩ => ⟨S256x2048, .f32⟩
  | .hbm, ⟨55, _⟩ => ⟨S_, .f32⟩
  | .hbm, ⟨56, _⟩ => ⟨S256x2048, .f32⟩
  | .hbm, ⟨57, _⟩ => ⟨S256x2048, .f32⟩
  | .hbm, ⟨58, _⟩ => ⟨S1x256x2048, .f32⟩
  | .hbm, ⟨59, _⟩ => ⟨S256x2048, .f32⟩
  | .hbm, ⟨60, _⟩ => ⟨S1x256x2048, .f32⟩
  | .hbm, ⟨61, _⟩ => ⟨S1x256x2048, .f32⟩
  | .hbm, ⟨62, _⟩ => ⟨S2x256x2048, .f32⟩
  | .hbm, ⟨63, _⟩ => ⟨S1x256x2048, .f32⟩
  | .hbm, ⟨64, _⟩ => ⟨S256x2048, .f32⟩
  | .hbm, ⟨65, _⟩ => ⟨S1x256x2048, .f32⟩
  | .hbm, ⟨66, _⟩ => ⟨S1x256x2048, .f32⟩
  | .hbm, ⟨67, _⟩ => ⟨S2x256x2048, .f32⟩
  | .hbm, ⟨68, _⟩ => ⟨S1x256x2048, .f32⟩
  | .hbm, ⟨69, _⟩ => ⟨S256x2048, .f32⟩
  | .hbm, ⟨70, _⟩ => ⟨S1x256x2048, .f32⟩
  | .hbm, ⟨71, _⟩ => ⟨S1x256x2048, .f32⟩
  | .hbm, ⟨72, _⟩ => ⟨S2x256x2048, .f32⟩
  | .hbm, ⟨73, _⟩ => ⟨S1x256x2048, .f32⟩
  | .hbm, ⟨74, _⟩ => ⟨S256x2048, .f32⟩
  | .hbm, ⟨75, _⟩ => ⟨S1x256x2048, .f32⟩
  | .hbm, ⟨76, _⟩ => ⟨S1x256x2048, .f32⟩
  | .hbm, ⟨77, _⟩ => ⟨S2x256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== SmallGrads.lean ====
abbrev S8x496x128 : Shape := ⟨3, ![8, 496, 128]⟩
abbrev S2x512 : Shape := ⟨2, ![2, 512]⟩
abbrev S2x4x128 : Shape := ⟨3, ![2, 4, 128]⟩
abbrev S496x128 : Shape := ⟨2, ![496, 128]⟩
abbrev S1x496x128 : Shape := ⟨3, ![1, 496, 128]⟩
abbrev S4x128 : Shape := ⟨2, ![4, 128]⟩
abbrev S1x4x128 : Shape := ⟨3, ![1, 4, 128]⟩

abbrev nBuf : Space → Nat
  | .hbm => 4
  | .vmem => 3
  | .smem => 0
  | _ => 0

abbrev bufTy : (tb : Table) → Fin (tcTables nBuf tb) → BufTy
  | .hbm, ⟨0, _⟩ => ⟨S8x496x128, .f32⟩
  | .hbm, ⟨1, _⟩ => ⟨S2x512, .f32⟩
  | .hbm, ⟨2, _⟩ => ⟨S2x4x128, .f32⟩
  | .hbm, ⟨3, _⟩ => ⟨S496x128, .f32⟩
  | .local _ .vmem, ⟨0, _⟩ => ⟨S8x496x128, .f32⟩
  | .local _ .vmem, ⟨1, _⟩ => ⟨S2x4x128, .f32⟩
  | .local _ .vmem, ⟨2, _⟩ => ⟨S496x128, .f32⟩
  | _, _ => ⟨S8x496x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x496x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S496x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== RefSmallGradsIdeal.lean ====
abbrev S8x496x128 : Shape := ⟨3, ![8, 496, 128]⟩
abbrev S2x512 : Shape := ⟨2, ![2, 512]⟩
abbrev S_ : Shape := ⟨0, ![]⟩
abbrev S496x128 : Shape := ⟨2, ![496, 128]⟩
abbrev S248x128 : Shape := ⟨2, ![248, 128]⟩
abbrev S4x128 : Shape := ⟨2, ![4, 128]⟩
abbrev S512 : Shape := ⟨1, ![512]⟩
abbrev S1x512 : Shape := ⟨2, ![1, 512]⟩
abbrev S244x128 : Shape := ⟨2, ![244, 128]⟩

abbrev nBuf : Space → Nat
  | .hbm => 95
  | .vmem => 0
  | .smem => 0
  | _ => 0

abbrev bufTy : (tb : Table) → Fin (tcTables nBuf tb) → BufTy
  | .hbm, ⟨0, _⟩ => ⟨S8x496x128, .f32⟩
  | .hbm, ⟨1, _⟩ => ⟨S2x512, .f32⟩
  | .hbm, ⟨2, _⟩ => ⟨S_, .f32⟩
  | .hbm, ⟨3, _⟩ => ⟨S496x128, .f32⟩
  | .hbm, ⟨4, _⟩ => ⟨S248x128, .f32⟩
  | .hbm, ⟨5, _⟩ => ⟨S248x128, .f32⟩
  | .hbm, ⟨6, _⟩ => ⟨S4x128, .f32⟩
  | .hbm, ⟨7, _⟩ => ⟨S512, .f32⟩
  | .hbm, ⟨8, _⟩ => ⟨S4x128, .f32⟩
  | .hbm, ⟨9, _⟩ => ⟨S512, .f32⟩
  | .hbm, ⟨10, _⟩ => ⟨S1x512, .f32⟩
  | .hbm, ⟨11, _⟩ => ⟨S1x512, .f32⟩
  | .hbm, ⟨12, _⟩ => ⟨S2x512, .f32⟩
  | .hbm, ⟨13, _⟩ => ⟨S_, .f32⟩
  | .hbm, ⟨14, _⟩ => ⟨S512, .f32⟩
  | .hbm, ⟨15, _⟩ => ⟨S1x512, .f32⟩
  | .hbm, ⟨16, _⟩ => ⟨S2x512, .f32⟩
  | .hbm, ⟨17, _⟩ => ⟨S2x512, .i1⟩
  | .hbm, ⟨18, _⟩ => ⟨S2x512, .f32⟩
  | .hbm, ⟨19, _⟩ => ⟨S_, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S512, .f32⟩
  | .hbm, ⟨24, _⟩ => ⟨S_, .f32⟩
  | .hbm, ⟨25, _⟩ => ⟨S512, .f32⟩
  | .hbm, ⟨26, _⟩ => ⟨S512, .i1⟩
  | .hbm, ⟨27, _⟩ => ⟨S_, .f32⟩
  | .hbm, ⟨28, _⟩ => ⟨S512, .f32⟩
  | .hbm, ⟨29, _⟩ => ⟨S512, .i1⟩
  | .hbm, ⟨30, _⟩ => ⟨S_, .f32⟩
  | .hbm, ⟨31, _⟩ => ⟨S512, .f32⟩
  | .hbm, ⟨32, _⟩ => ⟨S_, .f32⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S512, .f32⟩
  | .hbm, ⟨38, _⟩ => ⟨S1x512, .f32⟩
  | .hbm, ⟨39, _⟩ => ⟨S2x512, .f32⟩
  | .hbm, ⟨40, _⟩ => ⟨S2x512, .f32⟩
  | .hbm, ⟨41, _⟩ => ⟨S2x512, .f32⟩
  | .hbm, ⟨42, _⟩ => ⟨S_, .f32⟩
  | .hbm, ⟨43, _⟩ => ⟨S512, .f32⟩
  | .hbm, ⟨44, _⟩ => ⟨S1x512, .f32⟩
  | .hbm, ⟨45, _⟩ => ⟨S2x512, .f32⟩
  | .hbm, ⟨46, _⟩ => ⟨S2x512, .f32⟩
  | .hbm, ⟨47, _⟩ => ⟨S1x512, .f32⟩
  | .hbm, ⟨48, _⟩ => ⟨S_, .f32⟩
  | .hbm, ⟨49, _⟩ => ⟨S1x512, .f32⟩
  | .hbm, ⟨50, _⟩ => ⟨S1x512, .f32⟩
  | .hbm, ⟨51, _⟩ => ⟨S_, .f32⟩
  | .hbm, ⟨52, _⟩ => ⟨S_, .f32⟩
  | .hbm, ⟨53, _⟩ => ⟨S2x512, .f32⟩
  | .hbm, ⟨54, _⟩ => ⟨S1x512, .f32⟩
  | .hbm, ⟨55, _⟩ => ⟨S512, .f32⟩
  | .hbm, ⟨56, _⟩ => ⟨S1x512, .f32⟩
  | .hbm, ⟨57, _⟩ => ⟨S2x512, .f32⟩
  | .hbm, ⟨58, _⟩ => ⟨S2x512, .f32⟩
  | .hbm, ⟨59, _⟩ => ⟨S2x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S_, .f32⟩
  | .hbm, ⟨64, _⟩ => ⟨S512, .f32⟩
  | .hbm, ⟨65, _⟩ => ⟨S1x512, .f32⟩
  | .hbm, ⟨66, _⟩ => ⟨S_, .f32⟩
  | .hbm, ⟨67, _⟩ => ⟨S2x512, .f32⟩
  | .hbm, ⟨68, _⟩ => ⟨S2x512, .f32⟩
  | .hbm, ⟨69, _⟩ => ⟨S_, .f32⟩
  | .hbm, ⟨70, _⟩ => ⟨S_, .f32⟩
  | .hbm, ⟨71, _⟩ => ⟨S2x512, .f32⟩
  | .hbm, ⟨72, _⟩ => ⟨S2x512, .f32⟩
  | .hbm, ⟨73, _⟩ => ⟨S2x512, .f32⟩
  | .hbm, ⟨74, _⟩ => ⟨S2x512, .f32⟩
  | .hbm, ⟨75, _⟩ => ⟨S_, .f32⟩
  | .hbm, ⟨76, _⟩ => ⟨S512, .f32⟩
  | .hbm, ⟨77, _⟩ => ⟨S1x512, .f32⟩
  | .hbm, ⟨78, _⟩ => ⟨S1x512, .f32⟩
  | .hbm, ⟨79, _⟩ => ⟨S2x512, .f32⟩
  | .hbm, ⟨80, _⟩ => ⟨S2x512, .f32⟩
  | .hbm, ⟨81, _⟩ => ⟨S_, .f32⟩
  | .hbm, ⟨82, _⟩ => ⟨S512, .f32⟩
  | .hbm, ⟨83, _⟩ => ⟨S2x512, .f32⟩
  | .hbm, ⟨84, _⟩ => ⟨S2x512, .f32⟩
  | .hbm, ⟨85, _⟩ => ⟨S2x512, .f32⟩
  | .hbm, ⟨86, _⟩ => ⟨S1x512, .f32⟩
  | .hbm, ⟨87, _⟩ => ⟨S512, .f32⟩
  | .hbm, ⟨88, _⟩ => ⟨S4x128, .f32⟩
  | .hbm, ⟨89, _⟩ => ⟨S244x128, .f32⟩
  | .hbm, ⟨90, _⟩ => ⟨S1x512, .f32⟩
  | .hbm, ⟨91, _⟩ => ⟨S512, .f32⟩
  | .hbm, ⟨92, _⟩ => ⟨S4x128, .f32⟩
  | .hbm, ⟨93, _⟩ => ⟨S244x128, .f32⟩
  | .hbm, ⟨94, _⟩ => ⟨S496x128, .f32⟩
  | _, _ => ⟨S8x496x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_v37 : Ref sig .tc := ⟨.hbm, 50, rfl⟩
abbrev main_call0_call0_cst : Ref sig .tc := ⟨.hbm, 51, rfl⟩
abbrev main_call0_call0_v0 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_call1_call0_cst : Ref sig .tc := ⟨.hbm, 69, rfl⟩
abbrev main_call1_call0_v0 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_14 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]
-- ==== LnLoss.lean ====
abbrev S2048x2048 : Shape := ⟨2, ![2048, 2048]⟩
abbrev S2048 : Shape := ⟨1, ![2048]⟩
abbrev S1x2048 : Shape := ⟨2, ![1, 2048]⟩
abbrev S8x2048 : Shape := ⟨2, ![8, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1x256x2048 : Shape := ⟨3, ![1, 256, 2048]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 18
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S1x2048, .f32⟩
  | .hbm, ⟨6, _⟩ => ⟨S1x2048, .f32⟩
  | .hbm, ⟨7, _⟩ => ⟨S2048x2048, .f32⟩
  | .hbm, ⟨8, _⟩ => ⟨S2048x2048, .bf16⟩
  | .hbm, ⟨9, _⟩ => ⟨S8x2048, .f32⟩
  | .hbm, ⟨10, _⟩ => ⟨S8x2048, .f32⟩
  | .hbm, ⟨11, _⟩ => ⟨S8x128, .f32⟩
  | .hbm, ⟨12, _⟩ => ⟨S1x1, .f32⟩
  | .hbm, ⟨13, _⟩ => ⟨S_, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S8x2048, .f32⟩
  | .local _ .vmem, ⟨13, _⟩ => ⟨S8x2048, .f32⟩
  | .local _ .vmem, ⟨14, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RefLnLossIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 113
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S1x2048, .f32⟩
  | .hbm, ⟨40, _⟩ => ⟨S2048x2048, .f32⟩
  | .hbm, ⟨41, _⟩ => ⟨S2048x2048, .f32⟩
  | .hbm, ⟨42, _⟩ => ⟨S1x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S2048, .f32⟩
  | .hbm, ⟨63, _⟩ => ⟨S_, .f32⟩
  | .hbm, ⟨64, _⟩ => ⟨S2048, .f32⟩
  | .hbm, ⟨65, _⟩ => ⟨S2048, .f32⟩
  | .hbm, ⟨66, _⟩ => ⟨S2048x2048, .f32⟩
  | .hbm, ⟨67, _⟩ => ⟨S2048x2048, .f32⟩
  | .hbm, ⟨68, _⟩ => ⟨S_, .f32⟩
  | .hbm, ⟨69, _⟩ => ⟨S2048, .f32⟩
  | .hbm, ⟨70, _⟩ => ⟨S1x2048, .f32⟩
  | .hbm, ⟨71, _⟩ => ⟨S_, .f32⟩
  | .hbm, ⟨72, _⟩ => ⟨S2048, .f32⟩
  | .hbm, ⟨73, _⟩ => ⟨S2048x2048, .f32⟩
  | .hbm, ⟨74, _⟩ => ⟨S_, .f32⟩
  | .hbm, ⟨75, _⟩ => ⟨S2048, .f32⟩
  | .hbm, ⟨76, _⟩ => ⟨S1x2048, .f32⟩
  | .hbm, ⟨77, _⟩ => ⟨S2048x2048, .f32⟩
  | .hbm, ⟨78, _⟩ => ⟨S2048x2048, .f32⟩
  | .hbm, ⟨79, _⟩ => ⟨S_, .f32⟩
  | .hbm, ⟨80, _⟩ => ⟨S2048, .f32⟩
  | .hbm, ⟨81, _⟩ => ⟨S2048x2048, .f32⟩
  | .hbm, ⟨82, _⟩ => ⟨S_, .f32⟩
  | .hbm, ⟨83, _⟩ => ⟨S2048, .f32⟩
  | .hbm, ⟨84, _⟩ => ⟨S2048x1, .f32⟩
  | .hbm, ⟨85, _⟩ => ⟨S2048x2048, .f32⟩
  | .hbm, ⟨86, _⟩ => ⟨S2048x2048, .f32⟩
  | .hbm, ⟨87, _⟩ => ⟨S2048x1, .f32⟩
  | .hbm, ⟨88, _⟩ => ⟨S2048x2048, .f32⟩
  | .hbm, ⟨89, _⟩ => ⟨S_, .f32⟩
  | .hbm, ⟨90, _⟩ => ⟨S2048, .f32⟩
  | .hbm, ⟨91, _⟩ => ⟨S2048x1, .f32⟩
  | .hbm, ⟨92, _⟩ => ⟨S_, .f32⟩
  | .hbm, ⟨93, _⟩ => ⟨S2048x1, .f32⟩
  | .hbm, ⟨94, _⟩ => ⟨S2048x1, .f32⟩
  | .hbm, ⟨95, _⟩ => ⟨S_, .f32⟩
  | .hbm, ⟨96, _⟩ => ⟨S2048, .f32⟩
  | .hbm, ⟨97, _⟩ => ⟨S2048x2048, .f32⟩
  | .hbm, ⟨98, _⟩ => ⟨S2048x2048, .f32⟩
  | .hbm, ⟨99, _⟩ => ⟨S2048x2048, .f32⟩
  | .hbm, ⟨100, _⟩ => ⟨S_, .f32⟩
  | .hbm, ⟨101, _⟩ => ⟨S2048, .f32⟩
  | .hbm, ⟨102, _⟩ => ⟨S2048x1, .f32⟩
  | .hbm, ⟨103, _⟩ => ⟨S2048x2048, .f32⟩
  | .hbm, ⟨104, _⟩ => ⟨S2048x1, .f32⟩
  | .hbm, ⟨105, _⟩ => ⟨S_, .f32⟩
  | .hbm, ⟨106, _⟩ => ⟨S2048x1, .f32⟩
  | .hbm, ⟨107, _⟩ => ⟨S2048x1, .f32⟩
  | .hbm, ⟨108, _⟩ => ⟨S_, .f32⟩
  | .hbm, ⟨109, _⟩ => ⟨S2048, .f32⟩
  | .hbm, ⟨110, _⟩ => ⟨S2048x2048, .f32⟩
  | .hbm, ⟨111, _⟩ => ⟨S2048x2048, .f32⟩
  | .hbm, ⟨112, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_cst_12 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_cst_16 : Ref sig .tc := ⟨.hbm, 71, rfl⟩
abbrev main_v49 : Ref sig .tc := ⟨.hbm, 72, rfl⟩
abbrev main_v50 : Ref sig .tc := ⟨.hbm, 73, rfl⟩
abbrev main_cst_17 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_18 : Ref sig .tc := ⟨.hbm, 79, rfl⟩
abbrev main_v55 : Ref sig .tc := ⟨.hbm, 80, rfl⟩
abbrev main_v56 : Ref sig .tc := ⟨.hbm, 81, rfl⟩
abbrev main_cst_19 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_20 : Ref sig .tc := ⟨.hbm, 89, rfl⟩
abbrev main_v63 : Ref sig .tc := ⟨.hbm, 90, rfl⟩
abbrev main_v64 : Ref sig .tc := ⟨.hbm, 91, rfl⟩
abbrev main_cst_21 : Ref sig .tc := ⟨.hbm, 92, rfl⟩
abbrev main_v65 : Ref sig .tc := ⟨.hbm, 93, rfl⟩
abbrev main_v66 : Ref sig .tc := ⟨.hbm, 94, rfl⟩
abbrev main_cst_22 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_23 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_24 : Ref sig .tc := ⟨.hbm, 105, rfl⟩
abbrev main_v75 : Ref sig .tc := ⟨.hbm, 106, rfl⟩
abbrev main_v76 : Ref sig .tc := ⟨.hbm, 107, rfl⟩
abbrev main_cst_25 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩

abbrev nD : Nat := 1
abbrev τ : Topo := Topo.v7x

variable {F : FTy → Type} [FloatOps F]
-- ==== LnBwd.lean ====
abbrev S2048x2048 : Shape := ⟨2, ![2048, 2048]⟩
abbrev S2048 : Shape := ⟨1, ![2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S8x2048, .f32⟩
  | .hbm, ⟨8, _⟩ => ⟨S8x2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S8x2048, .f32⟩
  | .local _ .vmem, ⟨12, _⟩ => ⟨S8x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RefLnBwdIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 91
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x2048, .f32⟩
  | .hbm, ⟨35, _⟩ => ⟨S2048x2048, .f32⟩
  | .hbm, ⟨36, _⟩ => ⟨S1x2048, .f32⟩
  | .hbm, ⟨37, _⟩ => ⟨S2048x2048, .f32⟩
  | .hbm, ⟨38, _⟩ => ⟨S2048x2048, .f32⟩
  | .hbm, ⟨39, _⟩ => ⟨S1x2048, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S_, .f32⟩
  | .hbm, ⟨50, _⟩ => ⟨S2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S2048x2048, .f32⟩
  | .hbm, ⟨56, _⟩ => ⟨S2048x2048, .f32⟩
  | .hbm, ⟨57, _⟩ => ⟨S_, .f32⟩
  | .hbm, ⟨58, _⟩ => ⟨S2048, .f32⟩
  | .hbm, ⟨59, _⟩ => ⟨S2048x2048, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x2048, .f32⟩
  | .hbm, ⟨64, _⟩ => ⟨S2048x2048, .f32⟩
  | .hbm, ⟨65, _⟩ => ⟨S2048x1, .f32⟩
  | .hbm, ⟨66, _⟩ => ⟨S2048x2048, .f32⟩
  | .hbm, ⟨67, _⟩ => ⟨S_, .f32⟩
  | .hbm, ⟨68, _⟩ => ⟨S2048, .f32⟩
  | .hbm, ⟨69, _⟩ => ⟨S2048x1, .f32⟩
  | .hbm, ⟨70, _⟩ => ⟨S_, .f32⟩
  | .hbm, ⟨71, _⟩ => ⟨S2048x1, .f32⟩
  | .hbm, ⟨72, _⟩ => ⟨S2048x1, .f32⟩
  | .hbm, ⟨73, _⟩ => ⟨S_, .f32⟩
  | .hbm, ⟨74, _⟩ => ⟨S2048, .f32⟩
  | .hbm, ⟨75, _⟩ => ⟨S2048x2048, .f32⟩
  | .hbm, ⟨76, _⟩ => ⟨S2048x2048, .f32⟩
  | .hbm, ⟨77, _⟩ => ⟨S2048x2048, .f32⟩
  | .hbm, ⟨78, _⟩ => ⟨S_, .f32⟩
  | .hbm, ⟨79, _⟩ => ⟨S2048, .f32⟩
  | .hbm, ⟨80, _⟩ => ⟨S2048x1, .f32⟩
  | .hbm, ⟨81, _⟩ => ⟨S2048x2048, .f32⟩
  | .hbm, ⟨82, _⟩ => ⟨S2048x1, .f32⟩
  | .hbm, ⟨83, _⟩ => ⟨S_, .f32⟩
  | .hbm, ⟨84, _⟩ => ⟨S2048x1, .f32⟩
  | .hbm, ⟨85, _⟩ => ⟨S2048x1, .f32⟩
  | .hbm, ⟨86, _⟩ => ⟨S_, .f32⟩
  | .hbm, ⟨87, _⟩ => ⟨S2048, .f32⟩
  | .hbm, ⟨88, _⟩ => ⟨S2048x2048, .f32⟩
  | .hbm, ⟨89, _⟩ => ⟨S2048x2048, .f32⟩
  | .hbm, ⟨90, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_11 : Ref sig .tc := ⟨.hbm, 57, rfl⟩
abbrev main_v41 : Ref sig .tc := ⟨.hbm, 58, rfl⟩
abbrev main_v42 : Ref sig .tc := ⟨.hbm, 59, rfl⟩
abbrev main_cst_12 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_13 : Ref sig .tc := ⟨.hbm, 67, rfl⟩
abbrev main_v49 : Ref sig .tc := ⟨.hbm, 68, rfl⟩
abbrev main_v50 : Ref sig .tc := ⟨.hbm, 69, rfl⟩
abbrev main_cst_14 : Ref sig .tc := ⟨.hbm, 70, rfl⟩
abbrev main_v51 : Ref sig .tc := ⟨.hbm, 71, rfl⟩
abbrev main_v52 : Ref sig .tc := ⟨.hbm, 72, rfl⟩
abbrev main_cst_15 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_16 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_17 : Ref sig .tc := ⟨.hbm, 83, rfl⟩
abbrev main_v61 : Ref sig .tc := ⟨.hbm, 84, rfl⟩
abbrev main_v62 : Ref sig .tc := ⟨.hbm, 85, rfl⟩
abbrev main_cst_18 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== LnBwdAlone.lean ====
abbrev S2048x2048 : Shape := ⟨2, ![2048, 2048]⟩
abbrev S2048 : Shape := ⟨1, ![2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S8x2048, .f32⟩
  | .hbm, ⟨7, _⟩ => ⟨S8x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S8x2048, .f32⟩
  | .local _ .vmem, ⟨10, _⟩ => ⟨S8x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RefLnBwdAloneIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 87
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S1x2048, .f32⟩
  | .hbm, ⟨36, _⟩ => ⟨S2048x2048, .f32⟩
  | .hbm, ⟨37, _⟩ => ⟨S2048x2048, .f32⟩
  | .hbm, ⟨38, _⟩ => ⟨S1x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S_, .f32⟩
  | .hbm, ⟨46, _⟩ => ⟨S2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x2048, .f32⟩
  | .hbm, ⟨60, _⟩ => ⟨S2048x2048, .f32⟩
  | .hbm, ⟨61, _⟩ => ⟨S2048x1, .f32⟩
  | .hbm, ⟨62, _⟩ => ⟨S2048x2048, .f32⟩
  | .hbm, ⟨63, _⟩ => ⟨S_, .f32⟩
  | .hbm, ⟨64, _⟩ => ⟨S2048, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S_, .f32⟩
  | .hbm, ⟨70, _⟩ => ⟨S2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S_, .f32⟩
  | .hbm, ⟨75, _⟩ => ⟨S2048, .f32⟩
  | .hbm, ⟨76, _⟩ => ⟨S2048x1, .f32⟩
  | .hbm, ⟨77, _⟩ => ⟨S2048x2048, .f32⟩
  | .hbm, ⟨78, _⟩ => ⟨S2048x1, .f32⟩
  | .hbm, ⟨79, _⟩ => ⟨S_, .f32⟩
  | .hbm, ⟨80, _⟩ => ⟨S2048x1, .f32⟩
  | .hbm, ⟨81, _⟩ => ⟨S2048x1, .f32⟩
  | .hbm, ⟨82, _⟩ => ⟨S_, .f32⟩
  | .hbm, ⟨83, _⟩ => ⟨S2048, .f32⟩
  | .hbm, ⟨84, _⟩ => ⟨S2048x2048, .f32⟩
  | .hbm, ⟨85, _⟩ => ⟨S2048x2048, .f32⟩
  | .hbm, ⟨86, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_10 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_cst_13 : Ref sig .tc := ⟨.hbm, 66, rfl⟩
abbrev main_v49 : Ref sig .tc := ⟨.hbm, 67, rfl⟩
abbrev main_v50 : Ref sig .tc := ⟨.hbm, 68, rfl⟩
abbrev main_cst_14 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_15 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_16 : Ref sig .tc := ⟨.hbm, 79, rfl⟩
abbrev main_v59 : Ref sig .tc := ⟨.hbm, 80, rfl⟩
abbrev main_v60 : Ref sig .tc := ⟨.hbm, 81, rfl⟩
abbrev main_cst_17 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== LnFwd.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefLnFwdIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x2048, .f32⟩
  | .hbm, ⟨30, _⟩ => ⟨S2048x2048, .f32⟩
  | .hbm, ⟨31, _⟩ => ⟨S1x2048, .f32⟩
  | .hbm, ⟨32, _⟩ => ⟨S2048x2048, .f32⟩
  | .hbm, ⟨33, _⟩ => ⟨S2048x2048, .f32⟩
  | .hbm, ⟨34, _⟩ => ⟨S1x2048, .f32⟩
  | .hbm, ⟨35, _⟩ => ⟨S2048x2048, .f32⟩
  | .hbm, ⟨36, _⟩ => ⟨S2048x2048, .f32⟩
  | .hbm, ⟨37, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== ConvGateFwd.lean ====
abbrev S2048x5632 : Shape := ⟨2, ![2048, 5632]⟩
abbrev S3x5632 : Shape := ⟨2, ![3, 5632]⟩
abbrev S5632 : Shape := ⟨1, ![5632]⟩
abbrev S1x5632 : Shape := ⟨2, ![1, 5632]⟩
abbrev S2048x256 : Shape := ⟨2, ![2048, 256]⟩
abbrev S3x256 : Shape := ⟨2, ![3, 256]⟩
abbrev S1x256 : Shape := ⟨2, ![1, 256]⟩

abbrev nBuf : Space → Nat
  | .hbm => 6
  | .vmem => 10
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S3x5632, .f32⟩
  | .hbm, ⟨3, _⟩ => ⟨S5632, .f32⟩
  | .hbm, ⟨4, _⟩ => ⟨S1x5632, .f32⟩
  | .hbm, ⟨5, _⟩ => ⟨S2048x5632, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefConvGateFwdIdeal.lean ====
abbrev S2048x5632 : Shape := ⟨2, ![2048, 5632]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S2050x5632 : Shape := ⟨2, ![2050, 5632]⟩
abbrev S1x5632 : Shape := ⟨2, ![1, 5632]⟩

abbrev nBuf : Space → Nat
  | .hbm => 43
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S3x5632, .f32⟩
  | .hbm, ⟨3, _⟩ => ⟨S5632, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2x5632, .f32⟩
  | .hbm, ⟨8, _⟩ => ⟨S2050x5632, .f32⟩
  | .hbm, ⟨9, _⟩ => ⟨S1x5632, .f32⟩
  | .hbm, ⟨10, _⟩ => ⟨S5632, .f32⟩
  | .hbm, ⟨11, _⟩ => ⟨S2048x5632, .f32⟩
  | .hbm, ⟨12, _⟩ => ⟨S1x5632, .f32⟩
  | .hbm, ⟨13, _⟩ => ⟨S2048x5632, .f32⟩
  | .hbm, ⟨14, _⟩ => ⟨S2048x5632, .f32⟩
  | .hbm, ⟨15, _⟩ => ⟨S1x5632, .f32⟩
  | .hbm, ⟨16, _⟩ => ⟨S2048x5632, .f32⟩
  | .hbm, ⟨17, _⟩ => ⟨S2048x5632, .f32⟩
  | .hbm, ⟨18, _⟩ => ⟨S1x5632, .f32⟩
  | .hbm, ⟨19, _⟩ => ⟨S5632, .f32⟩
  | .hbm, ⟨20, _⟩ => ⟨S2048x5632, .f32⟩
  | .hbm, ⟨21, _⟩ => ⟨S1x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S1x5632, .f32⟩
  | .hbm, ⟨26, _⟩ => ⟨S5632, .f32⟩
  | .hbm, ⟨27, _⟩ => ⟨S2048x5632, .f32⟩
  | .hbm, ⟨28, _⟩ => ⟨S1x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S_, .f32⟩
  | .hbm, ⟨35, _⟩ => ⟨S2048x5632, .f32⟩
  | .hbm, ⟨36, _⟩ => ⟨S2048x5632, .f32⟩
  | .hbm, ⟨37, _⟩ => ⟨S_, .f32⟩
  | .hbm, ⟨38, _⟩ => ⟨S2048x5632, .f32⟩
  | .hbm, ⟨39, _⟩ => ⟨S2048x5632, .f32⟩
  | .hbm, ⟨40, _⟩ => ⟨S2048x5632, .f32⟩
  | .hbm, ⟨41, _⟩ => ⟨S2048x5632, .f32⟩
  | .hbm, ⟨42, _⟩ => ⟨S2048x5632, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Swap.lean ====
abbrev S4x2x704x2048 : Shape := ⟨4, ![4, 2, 704, 2048]⟩
abbrev S4x704x2048 : Shape := ⟨3, ![4, 704, 2048]⟩
abbrev S1 : Shape := ⟨1, ![1]⟩
abbrev S_ : Shape := ⟨0, ![]⟩
abbrev S4x1x704x2048 : Shape := ⟨4, ![4, 1, 704, 2048]⟩

abbrev nBuf : Space → Nat
  | .hbm => 2
  | .vmem => 0
  | .smem => 0
  | _ => 0

abbrev bufTy : (tb : Table) → Fin (tcTables nBuf tb) → BufTy
  | .hbm, ⟨0, _⟩ => ⟨S4x2x704x2048, .bf16⟩
  | .hbm, ⟨1, _⟩ => ⟨S4x704x2048, .bf16⟩
  | _, _ => ⟨S4x2x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c0_i32_10 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_11 : BitVec 32 := 0#32
  let c0_i32_12 : BitVec 32 := 0#32
  ![0, v9.toNat, 0, 0]
def k0_dev1 (d0 : Dev nD) : Nat :=
  let c0_i32_7 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v11 : BitVec 32 := Scalar.muli v2 c4_i32_6
  let v12 : BitVec 32 := Scalar.addi c0_i32_7 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v13 : BitVec 32 := Scalar.muli v5 c2_i32_8
  let v14 : BitVec 32 := Scalar.addi v12 v13
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_9 : BitVec 32 := 1#32
  let v15 : BitVec 32 := Scalar.muli v10 c1_i32_9
  let v16 : BitVec 32 := Scalar.addi v14 v15
  v16.toNat
-- ==== RefSwapIdeal.lean ====
abbrev S32x2x704x2048 : Shape := ⟨4, ![32, 2, 704, 2048]⟩
abbrev S4x1x704x2048 : Shape := ⟨4, ![4, 1, 704, 2048]⟩
abbrev S4x704x2048 : Shape := ⟨3, ![4, 704, 2048]⟩
abbrev S32x704x2048 : Shape := ⟨3, ![32, 704, 2048]⟩

abbrev nBuf : Space → Nat
  | .hbm => 18
  | .vmem => 0
  | .smem => 0
  | _ => 0

abbrev bufTy : (tb : Table) → Fin (tcTables nBuf tb) → BufTy
  | .hbm, ⟨0, _⟩ => ⟨S32x2x704x2048, .bf16⟩
  | .hbm, ⟨1, _⟩ => ⟨S4x1x704x2048, .bf16⟩
  | .hbm, ⟨2, _⟩ => ⟨S4x704x2048, .bf16⟩
  | .hbm, ⟨3, _⟩ => ⟨S4x1x704x2048, .bf16⟩
  | .hbm, ⟨4, _⟩ => ⟨S4x704x2048, .bf16⟩
  | .hbm, ⟨5, _⟩ => ⟨S4x1x704x2048, .bf16⟩
  | .hbm, ⟨6, _⟩ => ⟨S4x704x2048, .bf16⟩
  | .hbm, ⟨7, _⟩ => ⟨S4x1x704x2048, .bf16⟩
  | .hbm, ⟨8, _⟩ => ⟨S4x704x2048, .bf16⟩
  | .hbm, ⟨9, _⟩ => ⟨S4x1x704x2048, .bf16⟩
  | .hbm, ⟨10, _⟩ => ⟨S4x704x2048, .bf16⟩
  | .hbm, ⟨11, _⟩ => ⟨S4x1x704x2048, .bf16⟩
  | .hbm, ⟨12, _⟩ => ⟨S4x704x2048, .bf16⟩
  | .hbm, ⟨13, _⟩ => ⟨S4x1x704x2048, .bf16⟩
  | .hbm, ⟨14, _⟩ => ⟨S4x704x2048, .bf16⟩
  | .hbm, ⟨15, _⟩ => ⟨S4x1x704x2048, .bf16⟩
  | .hbm, ⟨16, _⟩ => ⟨S4x704x2048, .bf16⟩
  | .hbm, ⟨17, _⟩ => ⟨S32x704x2048, .bf16⟩
  | _, _ => ⟨S32x2x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩

abbrev nD : Nat := 1
abbrev τ : Topo := Topo.v7x

variable {F : FTy → Type} [FloatOps F]
-- ==== Cast.lean ====
abbrev S2x704x2048 : Shape := ⟨3, ![2, 704, 2048]⟩
abbrev S704x2048 : Shape := ⟨2, ![704, 2048]⟩
abbrev S1x176x2048 : Shape := ⟨3, ![1, 176, 2048]⟩
abbrev S176x2048 : Shape := ⟨2, ![176, 2048]⟩

abbrev nBuf : Space → Nat
  | .hbm => 2
  | .vmem => 4
  | .smem => 0
  | _ => 0

abbrev bufTy : (tb : Table) → Fin (tcTables nBuf tb) → BufTy
  | .hbm, ⟨0, _⟩ => ⟨S2x704x2048, .f32⟩
  | .hbm, ⟨1, _⟩ => ⟨S704x2048, .bf16⟩
  | .local _ .vmem, ⟨0, _⟩ => ⟨S1x176x2048, .f32⟩
  | .local _ .vmem, ⟨1, _⟩ => ⟨S1x176x2048, .f32⟩
  | .local _ .vmem, ⟨2, _⟩ => ⟨S176x2048, .bf16⟩
  | .local _ .vmem, ⟨3, _⟩ => ⟨S176x2048, .bf16⟩
  | _, _ => ⟨S2x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RefCastIdeal.lean ====
abbrev S2x704x2048 : Shape := ⟨3, ![2, 704, 2048]⟩
abbrev S1x704x2048 : Shape := ⟨3, ![1, 704, 2048]⟩
abbrev S704x2048 : Shape := ⟨2, ![704, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x704x2048, .f32⟩
  | .hbm, ⟨1, _⟩ => ⟨S1x704x2048, .f32⟩
  | .hbm, ⟨2, _⟩ => ⟨S704x2048, .f32⟩
  | .hbm, ⟨3, _⟩ => ⟨S704x2048, .bf16⟩
  | _, _ => ⟨S2x704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Mixed.lean ====
abbrev S2048x512 : Shape := ⟨2, ![2048, 512]⟩
abbrev S2048x768 : Shape := ⟨2, ![2048, 768]⟩
abbrev S2048x2048 : Shape := ⟨2, ![2048, 2048]⟩
abbrev S512x512 : Shape := ⟨2, ![512, 512]⟩
abbrev S512x768 : Shape := ⟨2, ![512, 768]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S2048x512, .f32⟩
  | .hbm, ⟨1, _⟩ => ⟨S2048x768, .f32⟩
  | .hbm, ⟨2, _⟩ => ⟨S2048x768, .f32⟩
  | .hbm, ⟨3, _⟩ => ⟨S2048x2048, .bf16⟩
  | .local _ .vmem, ⟨0, _⟩ => ⟨S512x512, .f32⟩
  | .local _ .vmem, ⟨1, _⟩ => ⟨S512x512, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x2048, .bf16⟩
  | .local _ .vmem, ⟨7, _⟩ => ⟨S512x2048, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefMixedIdeal.lean ====
abbrev S2048x512 : Shape := ⟨2, ![2048, 512]⟩
abbrev S2048x768 : Shape := ⟨2, ![2048, 768]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x768, .f32⟩
  | .hbm, ⟨2, _⟩ => ⟨S2048x768, .f32⟩
  | .hbm, ⟨3, _⟩ => ⟨S2048x2048, .f32⟩
  | .hbm, ⟨4, _⟩ => ⟨S2048x2048, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== PairAdd.lean ====
abbrev S4x2x704x2048 : Shape := ⟨4, ![4, 2, 704, 2048]⟩
abbrev S4x704x2048 : Shape := ⟨3, ![4, 704, 2048]⟩
abbrev S_ : Shape := ⟨0, ![]⟩
abbrev S1 : Shape := ⟨1, ![1]⟩
abbrev S1x1x176x2048 : Shape := ⟨4, ![1, 1, 176, 2048]⟩
abbrev S1x176x2048 : Shape := ⟨3, ![1, 176, 2048]⟩
abbrev S176x2048 : Shape := ⟨2, ![176, 2048]⟩

abbrev nBuf : Space → Nat
  | .hbm => 4
  | .vmem => 6
  | .smem => 1
  | _ => 0

abbrev bufTy : (tb : Table) → Fin (tcTables nBuf tb) → BufTy
  | .hbm, ⟨0, _⟩ => ⟨S4x2x704x2048, .bf16⟩
  | .hbm, ⟨1, _⟩ => ⟨S4x704x2048, .bf16⟩
  | .hbm, ⟨2, _⟩ => ⟨S_, .i32⟩
  | .hbm, ⟨3, _⟩ => ⟨S4x704x2048, .bf16⟩
  | .local _ .vmem, ⟨0, _⟩ => ⟨S1x1x176x2048, .bf16⟩
  | .local _ .vmem, ⟨1, _⟩ => ⟨S1x1x176x2048, .bf16⟩
  | .local _ .vmem, ⟨2, _⟩ => ⟨S1x176x2048, .bf16⟩
  | .local _ .vmem, ⟨3, _⟩ => ⟨S1x176x2048, .bf16⟩
  | .local _ .vmem, ⟨4, _⟩ => ⟨S1x176x2048, .bf16⟩
  | .local _ .vmem, ⟨5, _⟩ => ⟨S1x176x2048, .bf16⟩
  | .local _ .smem, ⟨0, _⟩ => ⟨S1, .i32⟩
  | _, _ => ⟨S4x2x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefPairAddIdeal.lean ====
abbrev S4x2x704x2048 : Shape := ⟨4, ![4, 2, 704, 2048]⟩
abbrev S4x704x2048 : Shape := ⟨3, ![4, 704, 2048]⟩
abbrev S_ : Shape := ⟨0, ![]⟩
abbrev S4x1x704x2048 : Shape := ⟨4, ![4, 1, 704, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4x2x704x2048, .bf16⟩
  | .hbm, ⟨1, _⟩ => ⟨S4x704x2048, .bf16⟩
  | .hbm, ⟨2, _⟩ => ⟨S_, .i32⟩
  | .hbm, ⟨3, _⟩ => ⟨S_, .i32⟩
  | .hbm, ⟨4, _⟩ => ⟨S_, .i1⟩
  | .hbm, ⟨5, _⟩ => ⟨S4x1x704x2048, .bf16⟩
  | .hbm, ⟨6, _⟩ => ⟨S4x704x2048, .bf16⟩
  | .hbm, ⟨7, _⟩ => ⟨S4x1x704x2048, .bf16⟩
  | .hbm, ⟨8, _⟩ => ⟨S4x704x2048, .bf16⟩
  | .hbm, ⟨9, _⟩ => ⟨S4x704x2048, .bf16⟩
  | .hbm, ⟨10, _⟩ => ⟨S4x704x2048, .f32⟩
  | .hbm, ⟨11, _⟩ => ⟨S4x704x2048, .f32⟩
  | .hbm, ⟨12, _⟩ => ⟨S4x704x2048, .f32⟩
  | .hbm, ⟨13, _⟩ => ⟨S4x704x2048, .bf16⟩
  | _, _ => ⟨S4x2x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== HgrnOut.lean ====
abbrev S2048x5632 : Shape := ⟨2, ![2048, 5632]⟩
abbrev S2x512 : Shape := ⟨2, ![2, 512]⟩
abbrev S128 : Shape := ⟨1, ![128]⟩
abbrev S2048x512 : Shape := ⟨2, ![2048, 512]⟩
abbrev S4x128x128x128 : Shape := ⟨4, ![4, 128, 128, 128]⟩
abbrev S2048x2048 : Shape := ⟨2, ![2048, 2048]⟩
abbrev S256x256 : Shape := ⟨2, ![256, 256]⟩
abbrev S1x128 : Shape := ⟨2, ![1, 128]⟩
abbrev S8x128 : Shape := ⟨2, ![8, 128]⟩
abbrev S4x8x128 : Shape := ⟨3, ![4, 8, 128]⟩
abbrev S256x128 : Shape := ⟨2, ![256, 128]⟩
abbrev S2x128 : Shape := ⟨2, ![2, 128]⟩
abbrev S1x16x128x128 : Shape := ⟨4, ![1, 16, 128, 128]⟩
abbrev S1x8x128 : Shape := ⟨3, ![1, 8, 128]⟩
abbrev S128x128 : Shape := ⟨2, ![128, 128]⟩
abbrev S256 : Shape := ⟨1, ![256]⟩
abbrev S256x1 : Shape := ⟨2, ![256, 1]⟩
abbrev S16x128 : Shape := ⟨2, ![16, 128]⟩
abbrev S1x1x128x128 : Shape := ⟨4, ![1, 1, 128, 128]⟩
abbrev S16 : Shape := ⟨1, ![16]⟩
abbrev S16x1 : Shape := ⟨2, ![16, 1]⟩
abbrev S1x1x128 : Shape := ⟨3, ![1, 1, 128]⟩
abbrev S4x1x128 : Shape := ⟨3, ![4, 1, 128]⟩
abbrev S4x128 : Shape := ⟨2, ![4, 128]⟩
abbrev S512 : Shape := ⟨1, ![512]⟩

abbrev nBuf : Space → Nat
  | .hbm => 20
  | .vmem => 31
  | .smem => 0
  | _ => 0

abbrev bufTy : (tb : Table) → Fin (tcTables nBuf tb) → BufTy
  | .hbm, ⟨0, _⟩ => ⟨S2048x5632, .f32⟩
  | .hbm, ⟨1, _⟩ => ⟨S2x512, .f32⟩
  | .hbm, ⟨2, _⟩ => ⟨S128, .f32⟩
  | .hbm, ⟨3, _⟩ => ⟨S2048x512, .f32⟩
  | .hbm, ⟨4, _⟩ => ⟨S4x128x128x128, .f32⟩
  | .hbm, ⟨5, _⟩ => ⟨S2048x2048, .f32⟩
  | .hbm, ⟨6, _⟩ => ⟨S256x256, .f32⟩
  | .hbm, ⟨7, _⟩ => ⟨S256x256, .f32⟩
  | .hbm, ⟨8, _⟩ => ⟨S1x128, .f32⟩
  | .hbm, ⟨9, _⟩ => ⟨S2048x512, .bf16⟩
  | .hbm, ⟨10, _⟩ => ⟨S2048x512, .bf16⟩
  | .hbm, ⟨11, _⟩ => ⟨S2048x512, .bf16⟩
  | .hbm, ⟨12, _⟩ => ⟨S2048x512, .bf16⟩
  | .hbm, ⟨13, _⟩ => ⟨S8x128, .f32⟩
  | .hbm, ⟨14, _⟩ => ⟨S4x8x128, .f32⟩
  | .hbm, ⟨15, _⟩ => ⟨S1x128, .f32⟩
  | .hbm, ⟨16, _⟩ => ⟨S128, .f32⟩
  | .hbm, ⟨17, _⟩ => ⟨S4x1x128, .f32⟩
  | .hbm, ⟨18, _⟩ => ⟨S4x128, .f32⟩
  | .hbm, ⟨19, _⟩ => ⟨S512, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S2x128, .f32⟩
  | .local _ .vmem, ⟨9, _⟩ => ⟨S2x128, .f32⟩
  | .local _ .vmem, ⟨10, _⟩ => ⟨S1x128, .f32⟩
  | .local _ .vmem, ⟨11, _⟩ => ⟨S256x256, .f32⟩
  | .local _ .vmem, ⟨12, _⟩ => ⟨S256x256, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S1x16x128x128, .f32⟩
  | .local _ .vmem, ⟨18, _⟩ => ⟨S1x16x128x128, .f32⟩
  | .local _ .vmem, ⟨19, _⟩ => ⟨S256x128, .bf16⟩
  | .local _ .vmem, ⟨20, _⟩ => ⟨S256x128, .bf16⟩
  | .local _ .vmem, ⟨21, _⟩ => ⟨S256x128, .bf16⟩
  | .local _ .vmem, ⟨22, _⟩ => ⟨S256x128, .bf16⟩
  | .local _ .vmem, ⟨23, _⟩ => ⟨S256x128, .bf16⟩
  | .local _ .vmem, ⟨24, _⟩ => ⟨S256x128, .bf16⟩
  | .local _ .vmem, ⟨25, _⟩ => ⟨S256x128, .bf16⟩
  | .local _ .vmem, ⟨26, _⟩ => ⟨S256x128, .bf16⟩
  | .local _ .vmem, ⟨27, _⟩ => ⟨S8x128, .f32⟩
  | .local _ .vmem, ⟨28, _⟩ => ⟨S1x8x128, .f32⟩
  | .local _ .vmem, ⟨29, _⟩ => ⟨S1x8x128, .f32⟩
  | .local _ .vmem, ⟨30, _⟩ => ⟨S128x128, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c4_i32 : BitVec 32 := 4#32
  let v1 : BitVec 32 := Scalar.addi c4_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c8_i32 : BitVec 32 := 8#32
  let v1 : BitVec 32 := Scalar.addi c8_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c12_i32 : BitVec 32 := 12#32
  let v1 : BitVec 32 := Scalar.addi c12_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc0_transform_10 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc0_transform_12 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc0_transform_13 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc0_transform_14 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== RefHgrnOutIdeal.lean ====
abbrev S2048x5632 : Shape := ⟨2, ![2048, 5632]⟩
abbrev S2x512 : Shape := ⟨2, ![2, 512]⟩
abbrev S128 : Shape := ⟨1, ![128]⟩
abbrev S2048x512 : Shape := ⟨2, ![2048, 512]⟩
abbrev S4x128x128x128 : Shape := ⟨4, ![4, 128, 128, 128]⟩
abbrev S2048x2048 : Shape := ⟨2, ![2048, 2048]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 55
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2x512, .f32⟩
  | .hbm, ⟨2, _⟩ => ⟨S128, .f32⟩
  | .hbm, ⟨3, _⟩ => ⟨S2048x512, .f32⟩
  | .hbm, ⟨4, _⟩ => ⟨S4x128x128x128, .f32⟩
  | .hbm, ⟨5, _⟩ => ⟨S2048x2048, .f32⟩
  | .hbm, ⟨6, _⟩ => ⟨S8192x128, .f32⟩
  | .hbm, ⟨7, _⟩ => ⟨S2048x512, .f32⟩
  | .hbm, ⟨8, _⟩ => ⟨S8192x128, .f32⟩
  | .hbm, ⟨9, _⟩ => ⟨S8192x128, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x128, .f32⟩
  | .hbm, ⟨21, _⟩ => ⟨S8192x128, .f32⟩
  | .hbm, ⟨22, _⟩ => ⟨S1x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S_, .f32⟩
  | .hbm, ⟨28, _⟩ => ⟨S8192x128, .f32⟩
  | .hbm, ⟨29, _⟩ => ⟨S8192x128, .f32⟩
  | .hbm, ⟨30, _⟩ => ⟨S_, .f32⟩
  | .hbm, ⟨31, _⟩ => ⟨S8192x128, .f32⟩
  | .hbm, ⟨32, _⟩ => ⟨S8192x128, .f32⟩
  | .hbm, ⟨33, _⟩ => ⟨S_, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S2048x512, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S8192x128, .f32⟩
  | .hbm, ⟨47, _⟩ => ⟨S8192x128, .f32⟩
  | .hbm, ⟨48, _⟩ => ⟨S_, .f32⟩
  | .hbm, ⟨49, _⟩ => ⟨S128, .f32⟩
  | .hbm, ⟨50, _⟩ => ⟨S1x128, .f32⟩
  | .hbm, ⟨51, _⟩ => ⟨S_, .f32⟩
  | .hbm, ⟨52, _⟩ => ⟨S128, .f32⟩
  | .hbm, ⟨53, _⟩ => ⟨S2048x512, .f32⟩
  | .hbm, ⟨54, _⟩ => ⟨S2048x512, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_v16_2 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_v16_1 : Ref sig .tc := ⟨.hbm, 36, rfl⟩
abbrev main_v16_0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v22 : Ref sig .tc := ⟨.hbm, 46, rfl⟩
abbrev main_v23 : Ref sig .tc := ⟨.hbm, 47, rfl⟩
abbrev main_cst_2 : Ref sig .tc := ⟨.hbm, 48, rfl⟩
abbrev main_v24 : Ref sig .tc := ⟨.hbm, 49, rfl⟩
abbrev main_v25 : Ref sig .tc := ⟨.hbm, 50, rfl⟩
abbrev main_cst_3 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩

abbrev nD : Nat := 1
abbrev τ : Topo := Topo.v7x

variable {F : FTy → Type} [FloatOps F]
-- ==== Proof.Scalar.lean ====
/- Extended-real facts about the logistic function and its gradient: the kernel writes the sigmoid as
   `0.5 * tanh (0.5 * x) + 0.5` and the gate's gradient as one product, the reference as the quotient
   `1 / (1 + exp (-x))` and as a sum of two products. -/
module

public import Idealize.ShloMosaic.PureOps.Ideal
public import Idealize.ShloMosaic.PureOps.Ideal.Laws
public import Mathlib.Tactic.FieldSimp
public import Mathlib.Tactic.Ring
public import Mathlib.Tactic.Linarith
public import Mathlib.Tactic.Positivity

@[expose] public section

noncomputable section

namespace Cert.Proof

open Idealize.ShloMosaic

/-- The word of one half. -/
theorem half_word : Ideal.ofBits .f32 0x3F000000#32 = ((1 / 2 : ℝ) : EReal) := by
  simp [Ideal.ofBits, Ideal.ieee, -EReal.coe_mul]; norm_num

/-- The word of one. -/
theorem one_word : Ideal.ofBits .f32 0x3F800000#32 = ((1 : ℝ) : EReal) := by
  simp [Ideal.ofBits, Ideal.ieee, -EReal.coe_mul]; norm_num

/-- The word of the bf16 infinity. -/
theorem inf_word : Ideal.ofBits .bf16 0x7F80#16 = (⊤ : EReal) := by
  simp [Ideal.ofBits, Ideal.ieee]

/-- The sigmoid as a real function. -/
def logis (x : ℝ) : ℝ := 1 / (1 + Real.exp (-x))

/-- The sigmoid on the extended reals, as the reference divides. -/
def sigm (x : EReal) : EReal := Ideal.div ((1 : ℝ) : EReal) (((1 : ℝ) : EReal) + Ideal.exp (-x))

theorem sigm_coe (x : ℝ) : sigm (x : EReal) = (logis x : EReal) := by
  unfold sigm logis
  rw [← EReal.coe_neg, Ideal.exp_coe, ← EReal.coe_add, Ideal.div_coe (by positivity), ← EReal.coe_mul]; congr 1; ring

theorem sigm_top : sigm ⊤ = 1 := by
  unfold sigm
  rw [EReal.neg_top, Ideal.exp_bot, add_zero, Ideal.div_coe one_ne_zero]; simp

theorem sigm_bot : sigm ⊥ = 0 := by
  unfold sigm
  rw [EReal.neg_bot, Ideal.exp_top, EReal.coe_add_top]
  simp [Ideal.div]

/-- Half the hyperbolic tangent of half the argument, plus one half, is the sigmoid. -/
theorem half_tanh (x : ℝ) : 1 / 2 * Real.tanh (1 / 2 * x) + 1 / 2 = logis x := by
  unfold logis
  rw [Real.tanh_eq_sinh_div_cosh, Real.sinh_eq, Real.cosh_eq]
  have h1 : Real.exp (-x) = Real.exp (-(1 / 2 * x)) * Real.exp (-(1 / 2 * x)) := by
    rw [← Real.exp_add]; congr 1; ring
  have h2 : Real.exp (1 / 2 * x) * Real.exp (-(1 / 2 * x)) = 1 := by
    rw [← Real.exp_add]; simp
  have p1 : 0 < Real.exp (1 / 2 * x) := Real.exp_pos _
  have p2 : 0 < Real.exp (-(1 / 2 * x)) := Real.exp_pos _
  rw [h1]
  generalize Real.exp (1 / 2 * x) = p at *
  generalize Real.exp (-(1 / 2 * x)) = q at *
  field_simp
  nlinarith

theorem tanh_sigm (x : EReal) :
    ((1 / 2 : ℝ) : EReal) * Ideal.tanh (((1 / 2 : ℝ) : EReal) * x) + ((1 / 2 : ℝ) : EReal) = sigm x := by
  have hp : (0 : ℝ) < 1 / 2 := by norm_num
  induction x using EReal.rec with
  | bot =>
    rw [EReal.coe_mul_bot_of_pos hp, sigm_bot, Ideal.tanh_bot, show (-1 : EReal) = ((-1 : ℝ) : EReal) by simp,
      ← EReal.coe_mul, ← EReal.coe_add]
    norm_num
  | coe r => rw [← EReal.coe_mul, Ideal.tanh_coe, ← EReal.coe_mul, ← EReal.coe_add, half_tanh, sigm_coe]
  | top =>
    rw [EReal.coe_mul_top_of_pos hp, sigm_top, Ideal.tanh_top, mul_one, ← EReal.coe_add]
    norm_num

/-- The gate's gradient: one product against two, for a finite cotangent `a`. -/
theorem silu_grad (a : ℝ) (c : EReal) :
    (a : EReal) * (sigm c * (((1 : ℝ) : EReal) + c * (((1 : ℝ) : EReal) - sigm c)))
      = (a : EReal) * sigm c + c * (a : EReal) * (sigm c * (((1 : ℝ) : EReal) - sigm c)) := by
  induction c using EReal.rec with
  | bot => rw [sigm_bot]; simp
  | coe r =>
    rw [sigm_coe]
    simp only [← EReal.coe_mul, ← EReal.coe_add, ← EReal.coe_sub]
    rw [EReal.coe_eq_coe_iff]; ring
  | top =>
    rw [sigm_top]
    have h : ((1 : ℝ) : EReal) - 1 = 0 := by
      rw [show (1 : EReal) = ((1 : ℝ) : EReal) by simp, ← EReal.coe_sub]; simp
    rw [h]; simp

/-- A value whose absolute value is below the infinity is a real number. -/
theorem real_of_abs_lt {x : EReal} (h : max x (-x) < ⊤) : ∃ r : ℝ, x = (r : EReal) := by
  induction x using EReal.rec with
  | bot => simp at h
  | coe r => exact ⟨r, rfl⟩
  | top => simp at h

end Cert.Proof

end
-- ==== Proof.Cols.lean ====
/- One column of the ConvFFN gate and of its backward pass, over the extended reals: the three-tap causal convolution,
   its sigmoid, and the gradient with respect to the convolution's output. -/
module

public import proofs.«01_k».proof.Proof.Scalar

@[expose] public section

noncomputable section

namespace Cert.Proof

/-- Rows moved down by `k`, zeros moved in at the top. -/
def down (k : Nat) (f : Fin 2048 → EReal) (r : Fin 2048) : EReal :=
  if h : k ≤ r.val then f ⟨r.val - k, by omega⟩ else 0

/-- Rows moved up by `k`, zeros moved in at the bottom. -/
def up (k : Nat) (f : Fin 2048 → EReal) (r : Fin 2048) : EReal :=
  if h : r.val + k < 2048 then f ⟨r.val + k, h⟩ else 0

/-- The convolution's output. -/
def conv (g : Fin 2048 → EReal) (w : Fin 3 → EReal) (b : EReal) (r : Fin 2048) : EReal :=
  b + w 2 * g r + w 1 * down 1 g r + w 0 * down 2 g r

/-- The gradient with respect to the convolution's output, as the kernel multiplies it. -/
def dconv (d g u : Fin 2048 → EReal) (w : Fin 3 → EReal) (b : EReal) (r : Fin 2048) : EReal :=
  d r * u r * (sigm (conv g w b r) * (((1 : ℝ) : EReal) + conv g w b r * (((1 : ℝ) : EReal) - sigm (conv g w b r))))

/-- The gradient with respect to the gate's input. -/
def dgate (x : Fin 2048 → EReal) (w : Fin 3 → EReal) (r : Fin 2048) : EReal :=
  w 2 * x r + w 1 * up 1 x r + w 0 * up 2 x r

/-- The gradient with respect to the gated factor. -/
def dup (d g : Fin 2048 → EReal) (w : Fin 3 → EReal) (b : EReal) (r : Fin 2048) : EReal :=
  d r * (conv g w b r * sigm (conv g w b r))

/-- The row of `g` that tap `k` of the convolution multiplies. -/
def tap (k : Fin 3) (g : Fin 2048 → EReal) : Fin 2048 → EReal :=
  match k with
  | 0 => down 2 g
  | 1 => down 1 g
  | 2 => g

/-- The gradient with respect to tap `k`'s weight. -/
def dweight (x g : Fin 2048 → EReal) (k : Fin 3) : EReal := ∑ r, x r * tap k g r

/-- The gradient with respect to the bias. -/
def dbias (x : Fin 2048 → EReal) : EReal := ∑ r, x r

end Cert.Proof

end
-- ==== Proof.Block.lean ====
/- What the kernel's body computes from one block of 256 columns, read at a row and a column: each named intermediate
   vector of the body is the column formula of `Cols`. -/
module

public import proofs.«01_k».proof.Proof.Cols
public import proofs.«01_k».proof.Proof.Gen.KernelIdeal.Value
public import Idealize.ShloMosaic.Lib.KernelVsHost
public import Idealize.ShloMosaic.Lib.ValueIdx

@[expose] public section

noncomputable section

namespace Cert.Proof.Block

open Cert.KernelIdeal Cert.KernelIdeal.Gen Idealize.ShloMosaic Idealize.ShloMosaic.ValueIdx Cert.Proof

theorem zero_word : (Scalar.ofBits .f32 0x00000000#32 : Ideal .f32) = (0 : EReal) := Ideal.ofBits_zero_f32

/-! ### The row comparisons -/

theorem ge_one : ∀ r : Fin 2048, IntOp.cmpi .sge (BitVec.ofNat 32 r.val) 1#32 = BitVec.ofBool (decide (1 ≤ r.val)) := by
  decide +kernel

theorem ge_two : ∀ r : Fin 2048, IntOp.cmpi .sge (BitVec.ofNat 32 r.val) 2#32 = BitVec.ofBool (decide (2 ≤ r.val)) := by
  decide +kernel

theorem lt_last : ∀ r : Fin 2048, IntOp.cmpi .slt (BitVec.ofNat 32 r.val) 2047#32 = BitVec.ofBool (decide (r.val + 1 < 2048)) := by
  decide +kernel

theorem lt_last2 : ∀ r : Fin 2048, IntOp.cmpi .slt (BitVec.ofNat 32 r.val) 2046#32 = BitVec.ofBool (decide (r.val + 2 < 2048)) := by
  decide +kernel

/-- A select on a decided bit. -/
theorem select_bit {α : Type} (p : Prop) [Decidable p] (a b : α) : Scalar.select (BitVec.ofBool (decide p)) a b = if p then a else b := by
  by_cases h : p <;> simp [Scalar.select, h]

/-- A rotation of the rows by `n`, read at a row and a column. -/
theorem rot_apply (n : Nat) (hn : n < 2048) (x : FVec Ideal S2048x256 .f32) (r : Fin 2048) (j : Fin 256) :
    dynamicRotate 0 (BitVec.ofNat 32 n) none x rotates_S2048x256_d0 (ix2 r j)
      = x (ix2 ⟨(r.val + 2048 - n) % 2048, Nat.mod_lt _ (by omega)⟩ j) := by
  refine dynamicRotate_apply (0 : Fin 2) _ x _ (ix2 r j) _ fun b => ?_
  have h : (BitVec.ofNat 32 n).toNat = n := by rw [BitVec.toNat_ofNat]; exact Nat.mod_eq_of_lt (by omega)
  match b with
  | ⟨0, _⟩ =>
    show (r.val + 2048 - n) % 2048 = (r.val + 2048 - (BitVec.ofNat 32 n).toNat % 2048) % 2048
    rw [h, Nat.mod_eq_of_lt hn]
  | ⟨1, _⟩ => rfl

/-- A block's row of rows moved down by one. -/
theorem pay5_apply (v0 : Vec Ideal S2048x256 .bf16) (r : Fin 2048) (j : Fin 256) :
    k0_pay5 v0 (ix2 r j) = down 1 (fun r => v0 (ix2 r j)) r := by
  show Scalar.select (IntOp.cmpi .sge (iota .tc S2048x256 32 [0] iota_S2048x256_d0_w32 (ix2 r j)) 1#32)
    (dynamicRotate 0 (BitVec.ofNat 32 1) none (k0_pay4 v0) rotates_S2048x256_d0 (ix2 r j)) (Scalar.ofBits .f32 0x00000000#32 : Ideal .f32) = _
  rw [iota_single_apply, show ((ix2 r j : S2048x256.Idx) 0).val = r.val from rfl, ge_one, select_bit, rot_apply 1 (by omega), zero_word]
  unfold down
  split
  · rename_i h
    show v0 (ix2 _ j) = v0 (ix2 _ j)
    congr 2; apply Fin.ext; show (r.val + 2048 - 1) % 2048 = r.val - 1; omega
  · rfl

theorem pay6_apply (v0 : Vec Ideal S2048x256 .bf16) (r : Fin 2048) (j : Fin 256) :
    k0_pay6 v0 (ix2 r j) = down 2 (fun r => v0 (ix2 r j)) r := by
  show Scalar.select (IntOp.cmpi .sge (iota .tc S2048x256 32 [0] iota_S2048x256_d0_w32 (ix2 r j)) 2#32)
    (dynamicRotate 0 (BitVec.ofNat 32 2) none (k0_pay4 v0) rotates_S2048x256_d0 (ix2 r j)) (Scalar.ofBits .f32 0x00000000#32 : Ideal .f32) = _
  rw [iota_single_apply, show ((ix2 r j : S2048x256.Idx) 0).val = r.val from rfl, ge_two, select_bit, rot_apply 2 (by omega), zero_word]
  unfold down
  split
  · rename_i h
    show v0 (ix2 _ j) = v0 (ix2 _ j)
    congr 2; apply Fin.ext; show (r.val + 2048 - 2) % 2048 = r.val - 2; omega
  · rfl

/-- Row `k` of the tap weights, spread over the rows. -/
theorem row_apply (n : Nat) (k : Fin 3) (hn : k.val = n) (x : FVec Ideal S3x256 .f32) (h : S3x256.Slices ![n, 0] S1x256) (r : Fin 2048) (j : Fin 256) :
    broadcastTo S2048x256 (extractStridedSlice S1x256 ![n, 0] x h) broadcasts_S1x256_S2048x256 (ix2 r j) = x (ix2 k j) := by
  subst hn
  rw [broadcastTo_apply _ broadcasts_S1x256_S2048x256 (ix2 r j) (ix2 (0 : Fin 1) j) (fun a => by
    match a with | ⟨0, _⟩ => rfl | ⟨1, _⟩ => rfl)]
  exact extractStridedSlice_apply _ x h (ix2 (0 : Fin 1) j) (ix2 k j) (fun a => by
    match a with | ⟨0, _⟩ => rfl | ⟨1, _⟩ => exact (Nat.zero_add _).symm)

theorem bias_apply (x : FVec Ideal S1x256 .f32) (r : Fin 2048) (j : Fin 256) :
    broadcastTo S2048x256 (shapeCast S1x256 x shapeCasts_S1x256_S1x256) broadcasts_S1x256_S2048x256 (ix2 r j) = x (ix2 (0 : Fin 1) j) := by
  rw [broadcastTo_apply _ broadcasts_S1x256_S2048x256 (ix2 r j) (ix2 (0 : Fin 1) j) (fun a => by
    match a with | ⟨0, _⟩ => rfl | ⟨1, _⟩ => rfl), shapeCast_self]

/-- The convolution's output. -/
theorem pay7_apply (v0 : Vec Ideal S2048x256 .bf16) (v3 : Vec Ideal S3x256 .f32) (v14 : Vec Ideal S1x256 .f32) (r : Fin 2048) (j : Fin 256) :
    k0_pay7 v0 v3 v14 (ix2 r j) = conv (fun r => v0 (ix2 r j)) (fun k => v3 (ix2 k j)) (v14 (ix2 (0 : Fin 1) j)) r := by
  unfold k0_pay7 conv
  simp only [addf_apply, mulf_apply]
  rw [bias_apply, row_apply 2 2 rfl, row_apply 1 1 rfl, row_apply 0 0 rfl, pay5_apply, pay6_apply]
  rfl

/-- Its sigmoid. -/
theorem pay8_apply (v0 : Vec Ideal S2048x256 .bf16) (v3 : Vec Ideal S3x256 .f32) (v14 : Vec Ideal S1x256 .f32) (r : Fin 2048) (j : Fin 256) :
    k0_pay8 v0 v3 v14 (ix2 r j) = sigm (conv (fun r => v0 (ix2 r j)) (fun k => v3 (ix2 k j)) (v14 (ix2 (0 : Fin 1) j)) r) := by
  rw [← pay7_apply, ← tanh_sigm, ← half_word]
  rfl

/-- The gradient with respect to the convolution's output. -/
theorem pay11_apply (v0 v36 v42 : Vec Ideal S2048x256 .bf16) (v3 : Vec Ideal S3x256 .f32) (v14 : Vec Ideal S1x256 .f32) (r : Fin 2048) (j : Fin 256) :
    k0_pay11 (k0_pay7 v0 v3 v14) (k0_pay8 v0 v3 v14) (k0_pay9 v36) v42 (ix2 r j)
      = dconv (fun r => v36 (ix2 r j)) (fun r => v0 (ix2 r j)) (fun r => v42 (ix2 r j)) (fun k => v3 (ix2 k j)) (v14 (ix2 (0 : Fin 1) j)) r := by
  unfold dconv
  rw [← pay8_apply, ← pay7_apply, ← one_word]
  rfl

/-- The gradient with respect to the gate's input, for any vector `x` in the convolution gradient's place. -/
theorem back_apply (x : FVec Ideal S2048x256 .f32) (v3 : Vec Ideal S3x256 .f32) (r : Fin 2048) (j : Fin 256) :
    (addf (addf (mulf (broadcastTo S2048x256 (extractStridedSlice S1x256 ![2, 0] v3 slices_S3x256_o2_0_S1x256) broadcasts_S1x256_S2048x256) x)
        (mulf (broadcastTo S2048x256 (extractStridedSlice S1x256 ![1, 0] v3 slices_S3x256_o1_0_S1x256) broadcasts_S1x256_S2048x256)
          (select (cmpi .slt (iota .tc S2048x256 32 [0] iota_S2048x256_d0_w32) (broadcast S2048x256 2047#32))
            (dynamicRotate 0 2047#32 none x rotates_S2048x256_d0) (broadcast S2048x256 (Scalar.ofBits .f32 0x00000000#32)))))
      (mulf (broadcastTo S2048x256 (extractStridedSlice S1x256 ![0, 0] v3 slices_S3x256_o0_0_S1x256) broadcasts_S1x256_S2048x256)
        (select (cmpi .slt (iota .tc S2048x256 32 [0] iota_S2048x256_d0_w32) (broadcast S2048x256 2046#32))
          (dynamicRotate 0 2046#32 none x rotates_S2048x256_d0) (broadcast S2048x256 (Scalar.ofBits .f32 0x00000000#32)))) : FVec Ideal S2048x256 .f32) (ix2 r j)
      = dgate (fun r => x (ix2 r j)) (fun k => v3 (ix2 k j)) r := by
  unfold dgate
  simp only [addf_apply, mulf_apply]
  rw [row_apply 2 2 rfl, row_apply 1 1 rfl, row_apply 0 0 rfl]
  have h1 : (select (cmpi .slt (iota .tc S2048x256 32 [0] iota_S2048x256_d0_w32) (broadcast S2048x256 2047#32))
            (dynamicRotate 0 2047#32 none x rotates_S2048x256_d0) (broadcast S2048x256 (Scalar.ofBits .f32 0x00000000#32))
              : FVec Ideal S2048x256 .f32) (ix2 r j)
      = up 1 (fun r => x (ix2 r j)) r := by
    show Scalar.select (IntOp.cmpi .slt (iota .tc S2048x256 32 [0] iota_S2048x256_d0_w32 (ix2 r j)) 2047#32)
      (dynamicRotate 0 (BitVec.ofNat 32 2047) none x rotates_S2048x256_d0 (ix2 r j)) (Scalar.ofBits .f32 0x00000000#32 : Ideal .f32) = _
    rw [iota_single_apply, show ((ix2 r j : S2048x256.Idx) 0).val = r.val from rfl, lt_last, select_bit, rot_apply 2047 (by omega), zero_word]
    unfold up
    split
    · rename_i h
      show x (ix2 _ j) = x (ix2 _ j)
      exact congrArg (fun q => x (ix2 q j)) (Fin.ext (by show (r.val + 2048 - 2047) % 2048 = r.val + 1; omega))
    · rfl
  have h2 : (select (cmpi .slt (iota .tc S2048x256 32 [0] iota_S2048x256_d0_w32) (broadcast S2048x256 2046#32))
            (dynamicRotate 0 2046#32 none x rotates_S2048x256_d0) (broadcast S2048x256 (Scalar.ofBits .f32 0x00000000#32))
              : FVec Ideal S2048x256 .f32) (ix2 r j)
      = up 2 (fun r => x (ix2 r j)) r := by
    show Scalar.select (IntOp.cmpi .slt (iota .tc S2048x256 32 [0] iota_S2048x256_d0_w32 (ix2 r j)) 2046#32)
      (dynamicRotate 0 (BitVec.ofNat 32 2046) none x rotates_S2048x256_d0 (ix2 r j)) (Scalar.ofBits .f32 0x00000000#32 : Ideal .f32) = _
    rw [iota_single_apply, show ((ix2 r j : S2048x256.Idx) 0).val = r.val from rfl, lt_last2, select_bit, rot_apply 2046 (by omega), zero_word]
    unfold up
    split
    · rename_i h
      show x (ix2 _ j) = x (ix2 _ j)
      exact congrArg (fun q => x (ix2 q j)) (Fin.ext (by show (r.val + 2048 - 2046) % 2048 = r.val + 2; omega))
    · rfl
  rw [h1, h2]

/-- A column sum kept as a row. -/
theorem colsum_apply (x : FVec Ideal S2048x256 .f32) (j : Fin 256) :
    (multiReduction .add [0] S256 x 0x00000000#32 reduces_S2048x256_S256 (.inl rfl) rfl : FVec Ideal S256 .f32) (ix1 j)
      = ∑ r : Fin 2048, x (ix2 r j) := by
  refine (Ideal.multiReduction_add_single (a := 0) x _ _ _ _ (ix1 j)).trans ?_
  refine Finset.sum_congr rfl fun r _ => congrArg x ?_
  funext a
  match a with
  | ⟨0, _⟩ => rfl
  | ⟨1, _⟩ => rfl

end Cert.Proof.Block

end
-- ==== Proof.Arrays.lean ====
/- The kernel's four result arrays as functions of its argument arrays, over the extended reals: each block of 256 columns is
   computed from the same block of the arguments, so a result at a row and a column is the column formula of `Cols`. -/
module

public import proofs.«01_k».proof.Proof.Block
public import Idealize.ShloMosaic.Lib.Pipeline.ValueKit

@[expose] public section

noncomputable section

namespace Cert.Proof.Block

open Idealize.ShloMosaic hiding ix0 ix1 ix2 eq_ix2
open Cert.KernelIdeal Cert.KernelIdeal.Gen Idealize.ShloMosaic.TcCoe Idealize.ShloMosaic.ValueIdx Cert.Proof Idealize.SL.Sem

theorem hz : (![0, 0] : Fin 2 → Nat) = fun _ => 0 := funext fun a => by fin_cases a <;> rfl

section Out

variable (d g u : Vec Ideal S2048x256 .bf16) (w : Vec Ideal S3x256 .f32) (b : Vec Ideal S1x256 .f32)

/-- Column `j` of a block of rows, of the tap weights, and of the bias. -/
abbrev bcol (x : Vec Ideal S2048x256 .bf16) (j : Fin 256) : Fin 2048 → EReal := fun r => x (ix2 r j)
abbrev wcol (w : Vec Ideal S3x256 .f32) (j : Fin 256) : Fin 3 → EReal := fun k => w (ix2 k j)

theorem pay18_apply (r : Fin 2048) (j : Fin 256) :
    k0_pay18 d g u w b (ix2 r j) = dconv (bcol d j) (bcol g j) (bcol u j) (wcol w j) (b (ix2 (0 : Fin 1) j)) r := by
  unfold k0_pay18 k0_pay15 k0_pay16 k0_pay17
  rw [View.ld_unit_zero hz, View.ld_unit_zero hz, View.ld_unit_zero hz, View.ld_unit_zero hz, View.ld_unit_zero hz]
  exact pay11_apply g d u w b r j

theorem out5_apply (r : Fin 2048) (j : Fin 256) :
    out0_5 d g u w b (ix2 r j)
      = dgate (dconv (bcol d j) (bcol g j) (bcol u j) (wcol w j) (b (ix2 (0 : Fin 1) j))) (wcol w j) r := by
  unfold out0_5
  rw [View.canon_unit_zero hz, View.ld_unit_zero hz]
  refine (back_apply (k0_pay18 d g u w b) w r j).trans ?_
  exact congrArg (fun x => dgate x (wcol w j) r) (funext fun r => pay18_apply d g u w b r j)

theorem out6_apply (r : Fin 2048) (j : Fin 256) :
    out0_6 d g u w b (ix2 r j) = dup (bcol d j) (bcol g j) (wcol w j) (b (ix2 (0 : Fin 1) j)) r := by
  unfold out0_6
  rw [View.canon_unit_zero hz, View.ld_unit_zero hz, View.ld_unit_zero hz, View.ld_unit_zero hz, View.ld_unit_zero hz]
  unfold dup
  rw [← pay8_apply, ← pay7_apply]
  rfl

/-- A column sum, read through its row. -/
theorem rowsum_apply (x : FVec Ideal S2048x256 .f32) (j : Fin 256) :
    shapeCast S1x256 (multiReduction .add [0] S256 x 0x00000000#32 reduces_S2048x256_S256 (.inl rfl) rfl : FVec Ideal S256 .f32)
      shapeCasts_S256_S1x256 (ix2 (0 : Fin 1) j) = ∑ r : Fin 2048, x (ix2 r j) := by
  rw [shapeCast_apply _ _ (ix2 (0 : Fin 1) j) (ix1 j) (by
    rw [Shape.rowMajor_val_one, Shape.rowMajor_val_two]; show j.val = 0 * 256 + j.val; omega)]
  exact colsum_apply x j

theorem out8_apply (j : Fin 256) :
    out0_8 d g u w b (ix2 (0 : Fin 1) j)
      = dbias (dconv (bcol d j) (bcol g j) (bcol u j) (wcol w j) (b (ix2 (0 : Fin 1) j))) := by
  unfold out0_8
  rw [View.canon_unit_zero hz]
  refine (rowsum_apply (k0_pay18 d g u w b) j).trans ?_
  exact Finset.sum_congr rfl fun r _ => pay18_apply d g u w b r j

theorem out7_apply (k : Fin 3) (j : Fin 256) :
    out0_7 d g u w b (ix2 k j)
      = dweight (dconv (bcol d j) (bcol g j) (bcol u j) (wcol w j) (b (ix2 (0 : Fin 1) j))) (bcol g j) k := by
  unfold out0_7
  refine (View.canon_apply_of_pieces (fun y : S3x256.Idx => dweight (dconv (bcol d (y 1)) (bcol g (y 1)) (bcol u (y 1)) (wcol w (y 1))
    (b (ix2 (0 : Fin 1) (y 1)))) (bcol g (y 1)) (y 0)) _ ?_ (ix2 k j) (cover0_7 _ _ _ _)).trans rfl
  intro pc hpc
  have key : ∀ (n : Fin 3) (x : S1x256.Idx) (q : S3x256.Idx) (h0 : q 0 = n) (h1 : (q 1).val = (x 1).val) (v : FVec Ideal S2048x256 .f32)
      (hv : ∀ r j, v (ix2 r j) = tap n (bcol g j) r),
      shapeCast S1x256 (multiReduction .add [0] S256 (mulf (k0_pay18 d g u w b) v) 0x00000000#32 reduces_S2048x256_S256 (.inl rfl) rfl : FVec Ideal S256 .f32)
        shapeCasts_S256_S1x256 x
      = dweight (dconv (bcol d (q 1)) (bcol g (q 1)) (bcol u (q 1)) (wcol w (q 1)) (b (ix2 (0 : Fin 1) (q 1)))) (bcol g (q 1)) (q 0) := by
    intro n x q h0 h1 v hv
    obtain ⟨i, rfl⟩ : ∃ i : Fin 256, x = ix2 (0 : Fin 1) i := ⟨x 1, by
      funext a
      match a with
      | ⟨0, _⟩ => exact Subsingleton.elim (α := Fin 1) _ _
      | ⟨1, _⟩ => rfl⟩
    obtain rfl : q = ix2 n i := by
      funext a
      match a with
      | ⟨0, _⟩ => exact h0
      | ⟨1, _⟩ => exact Fin.ext h1
    refine (rowsum_apply (mulf (k0_pay18 d g u w b) v) i).trans ?_
    show _ = dweight (dconv (bcol d i) (bcol g i) (bcol u i) (wcol w i) (b (ix2 (0 : Fin 1) i))) (bcol g i) n
    refine Finset.sum_congr rfl fun r _ => ?_
    rw [mulf_apply, pay18_apply, hv]
  rcases List.mem_cons.mp hpc with rfl | hpc
  · intro x
    refine key 2 x _ (Fin.ext ?_) ?_ (k0_pay4 (View.ld g r0_0)) fun r j => by rw [View.ld_unit_zero hz]; rfl
    · show 2 + 1 * (x 0).val = 2; have : (x 0).val < 1 := (x 0).isLt; omega
    · show 0 + 1 * (x 1).val = (x 1).val; omega
  rcases List.mem_cons.mp hpc with rfl | hpc
  · intro x
    refine key 1 x _ (Fin.ext ?_) ?_ (k0_pay5 (View.ld g r0_0)) fun r j => by rw [View.ld_unit_zero hz]; exact pay5_apply g r j
    · show 1 + 1 * (x 0).val = 1; have : (x 0).val < 1 := (x 0).isLt; omega
    · show 0 + 1 * (x 1).val = (x 1).val; omega
  rcases List.mem_cons.mp hpc with rfl | hpc
  · intro x
    refine key 0 x _ (Fin.ext ?_) ?_ (k0_pay6 (View.ld g r0_0)) fun r j => by rw [View.ld_unit_zero hz]; exact pay6_apply g r j
    · show 0 + 1 * (x 0).val = 0; have : (x 0).val < 1 := (x 0).isLt; omega
    · show 0 + 1 * (x 1).val = (x 1).val; omega
  · exact absurd hpc (List.not_mem_nil)

end Out

/-! ### The result arrays -/

/-- Column `j` of an array of rows, and of the tap weights. -/
abbrev acol (x : Vec Ideal S2048x5632 .bf16) (j : Fin 5632) : Fin 2048 → EReal := fun r => x (ix2 r j)
abbrev awcol (w : Vec Ideal S3x5632 .f32) (j : Fin 5632) : Fin 3 → EReal := fun k => w (ix2 k j)

/-- The convolution gradient's column `j`. -/
abbrev acon (d g u : Vec Ideal S2048x5632 .bf16) (w : Vec Ideal S3x5632 .f32) (b : Vec Ideal S5632 .f32) (j : Fin 5632) : Fin 2048 → EReal :=
  dconv (acol d j) (acol g j) (acol u j) (awcol w j) (b (ix1 j))

/-- The kernel's results as functions of its arguments. -/
def G5 (d g u : Vec Ideal S2048x5632 .bf16) (w : Vec Ideal S3x5632 .f32) (b : Vec Ideal S5632 .f32) : Vec Ideal S2048x5632 .bf16 :=
  fun i => dgate (acon d g u w b (i 1)) (awcol w (i 1)) (i 0)
def G6 (d g : Vec Ideal S2048x5632 .bf16) (w : Vec Ideal S3x5632 .f32) (b : Vec Ideal S5632 .f32) : Vec Ideal S2048x5632 .bf16 :=
  fun i => dup (acol d (i 1)) (acol g (i 1)) (awcol w (i 1)) (b (ix1 (i 1))) (i 0)
def G7 (d g u : Vec Ideal S2048x5632 .bf16) (w : Vec Ideal S3x5632 .f32) (b : Vec Ideal S5632 .f32) : Vec Ideal S3x5632 .f32 :=
  fun i => dweight (acon d g u w b (i 1)) (acol g (i 1)) (i 0)
def G8 (d g u : Vec Ideal S2048x5632 .bf16) (w : Vec Ideal S3x5632 .f32) (b : Vec Ideal S5632 .f32) : Vec Ideal S1x5632 .f32 :=
  fun i => dbias (acon d g u w b (i 1))

variable (m : (ℓ : Loc nD τ sig) → Buf (Elt Ideal) ℓ) (ρ : Dev nD → PrngReg)

/-- The bias row that the region reads is the bias. -/
theorem V_bias (c : Dev nD) (j : Fin 5632) : V m c main_v0 (ix2 (0 : Fin 1) j) = m ((c : Thread nD τ).loc main_arg4) (ix1 j) := by
  have h : V m c main_v0 = shapeCast S1x5632 (m ((c : Thread nD τ).loc main_arg4) : Vec Ideal S5632 .f32) shapeCasts_S5632_S1x5632 := by
    unfold V hostOps0
    rw [StableHlo.after_cons, StableHlo.after_nil, StableHlo.reshape_result]
    rfl
  rw [h]
  exact shapeCast_apply _ _ _ (ix1 j) (by rw [Shape.rowMajor_val_one, Shape.rowMajor_val_two]; show j.val = 0 * 5632 + j.val; omega)

/-- A window's block index at a point: the point's number on the columns. -/
theorem at0 : ∀ t : Fin cfg0.N, win0_0.index t = ![0, t.val] := (by decide +kernel : ∀ t : Fin grid0.N, _)
theorem at1 : ∀ t : Fin cfg0.N, win0_1.index t = ![0, t.val] := (by decide +kernel : ∀ t : Fin grid0.N, _)
theorem at2 : ∀ t : Fin cfg0.N, win0_2.index t = ![0, t.val] := (by decide +kernel : ∀ t : Fin grid0.N, _)
theorem at3 : ∀ t : Fin cfg0.N, win0_3.index t = ![0, t.val] := (by decide +kernel : ∀ t : Fin grid0.N, _)
theorem at4 : ∀ t : Fin cfg0.N, win0_4.index t = ![0, t.val] := (by decide +kernel : ∀ t : Fin grid0.N, _)
theorem at5 : ∀ t : Fin cfg0.N, win0_5.index t = ![0, t.val] := (by decide +kernel : ∀ t : Fin grid0.N, _)
theorem at6 : ∀ t : Fin cfg0.N, win0_6.index t = ![0, t.val] := (by decide +kernel : ∀ t : Fin grid0.N, _)
theorem at7 : ∀ t : Fin cfg0.N, win0_7.index t = ![0, t.val] := (by decide +kernel : ∀ t : Fin grid0.N, _)
theorem at8 : ∀ t : Fin cfg0.N, win0_8.index t = ![0, t.val] := (by decide +kernel : ∀ t : Fin grid0.N, _)

/-- The array's column that column `j` of the block at point `t` is. -/
abbrev acolumn (t : Fin cfg0.N) (j : Fin 256) : Fin 5632 := ⟨t.val * 256 + j.val, by have h : t.val < 22 := t.isLt; omega⟩

theorem iblk0_apply (c : Dev nD) (t : Fin cfg0.N) (r : Fin 2048) (j : Fin 256) :
    iblk m c 0 t (ix2 r j) = m ((c : Thread nD τ).loc main_arg0) (ix2 r (acolumn t j)) := by
  rw [← V_main_arg0 m c]; blk_simp [iblk]; congr 1; blk_ext [at0 t]

theorem iblk1_apply (c : Dev nD) (t : Fin cfg0.N) (r : Fin 2048) (j : Fin 256) :
    iblk m c 1 t (ix2 r j) = m ((c : Thread nD τ).loc main_arg1) (ix2 r (acolumn t j)) := by
  rw [← V_main_arg1 m c]; blk_simp [iblk]; congr 1; blk_ext [at1 t]

theorem iblk2_apply (c : Dev nD) (t : Fin cfg0.N) (r : Fin 2048) (j : Fin 256) :
    iblk m c 2 t (ix2 r j) = m ((c : Thread nD τ).loc main_arg2) (ix2 r (acolumn t j)) := by
  rw [← V_main_arg2 m c]; blk_simp [iblk]; congr 1; blk_ext [at2 t]

theorem iblk3_apply (c : Dev nD) (t : Fin cfg0.N) (r : Fin 3) (j : Fin 256) :
    iblk m c 3 t (ix2 r j) = m ((c : Thread nD τ).loc main_arg3) (ix2 r (acolumn t j)) := by
  rw [← V_main_arg3 m c]; blk_simp [iblk]; congr 1; blk_ext [at3 t]

theorem iblk4_apply (c : Dev nD) (t : Fin cfg0.N) (j : Fin 256) :
    iblk m c 4 t (ix2 (0 : Fin 1) j) = m ((c : Thread nD τ).loc main_arg4) (ix1 (acolumn t j)) := by
  rw [← V_bias m c]; blk_simp [iblk]; congr 1; blk_ext [at4 t]

section Final

variable (c : Dev nD)

theorem col0 (t : Fin cfg0.N) (j : Fin 256) : bcol (iblk m c 0 t) j = acol (m ((c : Thread nD τ).loc main_arg0)) (acolumn t j) := funext fun r => iblk0_apply m c t r j
theorem col1 (t : Fin cfg0.N) (j : Fin 256) : bcol (iblk m c 1 t) j = acol (m ((c : Thread nD τ).loc main_arg1)) (acolumn t j) := funext fun r => iblk1_apply m c t r j
theorem col2 (t : Fin cfg0.N) (j : Fin 256) : bcol (iblk m c 2 t) j = acol (m ((c : Thread nD τ).loc main_arg2)) (acolumn t j) := funext fun r => iblk2_apply m c t r j
theorem col3 (t : Fin cfg0.N) (j : Fin 256) : wcol (iblk m c 3 t) j = awcol (m ((c : Thread nD τ).loc main_arg3)) (acolumn t j) := funext fun k => iblk3_apply m c t k j

theorem final5 : (dats m 0 c).arrAt 5 cfg0.N = G5 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  obtain ⟨r, j, rfl⟩ : ∃ (r : Fin 2048) (j : Fin 256), y = ix2 r j := ⟨_, _, eq_ix2 y⟩
  rw [show (win0_5.blk t).view.emb (ix2 r j) = ix2 r (acolumn t j) from by blk_ext [at5 t], out5_apply,
    col0, col1, col2, col3, iblk4_apply]
  rfl

theorem final6 : (dats m 0 c).arrAt 6 cfg0.N = G6 (m ((c : Thread nD τ).loc main_arg0)) (m ((c : Thread nD τ).loc main_arg1)) (m ((c : Thread nD τ).loc main_arg3)) (m ((c : Thread nD τ).loc main_arg4)) := by
  refine (dats m 0 c).arrAt_eq_of_covers 6 _ (by decide +kernel) fun t hf y => ?_
  blk_simp
  rw [after0_6]
  obtain ⟨r, j, rfl⟩ : ∃ (r : Fin 2048) (j : Fin 256), y = ix2 r j := ⟨_, _, eq_ix2 y⟩
  rw [show (win0_6.blk t).view.emb (ix2 r j) = ix2 r (acolumn t j) from by blk_ext [at6 t], out6_apply,
    col0, col1, col3, iblk4_apply]
  rfl

theorem final7 : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  obtain ⟨k, j, rfl⟩ : ∃ (k : Fin 3) (j : Fin 256), y = ix2 k j := ⟨_, _, eq_ix2 y⟩
  rw [show (win0_7.blk t).view.emb (ix2 k j) = ix2 k (acolumn t j) from by blk_ext [at7 t], out7_apply,
    col0, col1, col2, col3, iblk4_apply]
  rfl

theorem final8 : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  obtain ⟨k, j, rfl⟩ : ∃ (k : Fin 1) (j : Fin 256), y = ix2 k j := ⟨_, _, eq_ix2 y⟩
  obtain rfl : k = 0 := Subsingleton.elim _ _
  rw [show (win0_8.blk t).view.emb (ix2 (0 : Fin 1) j) = ix2 (0 : Fin 1) (acolumn t j) from by blk_ext [at8 t], out8_apply,
    col0, col1, col2, col3, iblk4_apply]
  rfl

end Final

/-- The kernel's run, with its results at their functions of the arguments. -/
theorem run : θ_run defs (onTc (τ := τ) (main (F := Ideal))) ⟨m, fun _ => 0, ρ⟩ fun r => ∀ c : Dev nD,
      r.2.mem ((c : Thread nD τ).loc main_v1_0) = G5 (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_v1_1) = G6 (m ((c : Thread nD τ).loc main_arg0)) (m ((c : Thread nD τ).loc main_arg1))
          (m ((c : Thread nD τ).loc main_arg3)) (m ((c : Thread nD τ).loc main_arg4))
      ∧ r.2.mem ((c : Thread nD τ).loc main_v1_2) = G7 (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_v1_3) = G8 (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2.1.trans (final7 m c),
    (h c).2.2.2.1.trans (final8 m c), (h c).2.2.2.2⟩) (Cert.KernelIdeal.Value.run_blocks m ρ)

end Cert.Proof.Block

end
-- ==== Proof.RefRead.lean ====
/- The reference's results at a row and a column: its stages read one by one until each is the column formula of `Cols`
   in the reference's own order of sums and products. -/
module

public import proofs.«01_k».proof.Proof.Cols
public import proofs.«01_k».proof.Proof.Gen.ReferenceIdeal.Read
public import Idealize.ShloMosaic.Lib.KernelVsHost
public import Idealize.ShloMosaic.Lib.ValueIdx

@[expose] public section

noncomputable section

namespace Cert.Proof.Ref

open Idealize.ShloMosaic
open Cert.ReferenceIdeal Cert.ReferenceIdeal.Gen Cert.ReferenceIdeal.Read Idealize.ShloMosaic.ValueIdx Cert.Proof

theorem zero_word : (Scalar.ofBits .f32 0x00000000#32 : Ideal .f32) = (0 : EReal) := Ideal.ofBits_zero_f32

variable (x0 x1 x2 : FVec Ideal S2048x5632 .bf16) (x3 : FVec Ideal S3x5632 .f32) (x4 : FVec Ideal S5632 .f32)

/-- Two indices of a rank-2 array with the same coordinates. -/
theorem at2 {α : Type} {n k : Nat} (x : (⟨2, ![n, k]⟩ : Shape).Idx → α) (p : (⟨2, ![n, k]⟩ : Shape).Idx) (a : Fin n) (b : Fin k)
    (h0 : (p 0).val = a.val) (h1 : (p 1).val = b.val) : x p = x (ix2 a b) := by
  refine congrArg x (funext fun c => ?_)
  match c with
  | ⟨0, _⟩ => exact Fin.ext h0
  | ⟨1, _⟩ => exact Fin.ext h1

/-! ### The tap weights and the bias, spread over the rows -/

theorem v10_at (r : Fin 2048) (j : Fin 5632) : val_main_v10 (F := Ideal) x3 (ix2 r j) = x3 (ix2 0 j) := by
  rw [val_main_v10_apply, val_main_v9_apply, val_main_v7_apply, val_main_v6_apply]
  exact at2 x3 _ _ _ rfl (Nat.mod_eq_of_lt j.isLt)
theorem v57_at (r : Fin 2048) (j : Fin 5632) : val_main_v57 (F := Ideal) x3 (ix2 r j) = x3 (ix2 0 j) := by
  rw [val_main_v57_apply, val_main_v9_apply, val_main_v7_apply, val_main_v6_apply]
  exact at2 x3 _ _ _ rfl (Nat.mod_eq_of_lt j.isLt)
theorem v19_at (r : Fin 2048) (j : Fin 5632) : val_main_v19 (F := Ideal) x3 (ix2 r j) = x3 (ix2 1 j) := by
  rw [val_main_v19_apply, val_main_v18_apply, val_main_v16_apply, val_main_v15_apply]
  exact at2 x3 _ _ _ rfl (Nat.mod_eq_of_lt j.isLt)
theorem v43_at (r : Fin 2048) (j : Fin 5632) : val_main_v43 (F := Ideal) x3 (ix2 r j) = x3 (ix2 1 j) := by
  rw [val_main_v43_apply, val_main_v18_apply, val_main_v16_apply, val_main_v15_apply]
  exact at2 x3 _ _ _ rfl (Nat.mod_eq_of_lt j.isLt)
theorem v26_at (r : Fin 2048) (j : Fin 5632) : val_main_v26 (F := Ideal) x3 (ix2 r j) = x3 (ix2 2 j) := by
  rw [val_main_v26_apply, val_main_v25_apply, val_main_v23_apply, val_main_v22_apply]
  exact at2 x3 _ _ _ rfl (Nat.mod_eq_of_lt j.isLt)
theorem v34_at (r : Fin 2048) (j : Fin 5632) : val_main_v34 (F := Ideal) x3 (ix2 r j) = x3 (ix2 2 j) := by
  rw [val_main_v34_apply, val_main_v25_apply, val_main_v23_apply, val_main_v22_apply]
  exact at2 x3 _ _ _ rfl (Nat.mod_eq_of_lt j.isLt)
theorem v13_at (r : Fin 2048) (j : Fin 5632) : val_main_v13 (F := Ideal) x4 (ix2 r j) = x4 (ix1 j) := by
  rw [val_main_v13_apply, val_main_v12_apply]
  exact congrArg x4 (funext fun a => by match a with | ⟨0, _⟩ => rfl)

/-! ### The padded rows -/

/-- The rows with two zero rows before them. -/
theorem v4_at (q : Fin 2050) (j : Fin 5632) :
    val_main_v4 (F := Ideal) x1 (ix2 q j) = if h : 2 ≤ q.val then x1 (ix2 ⟨q.val - 2, by omega⟩ j) else 0 := by
  unfold val_main_v4
  by_cases h : 2 ≤ q.val
  · rw [dif_pos h, concatenate_pair_apply_right (t := S2050x5632) (s₁ := S2x5632) (s₂ := S2048x5632) 0 _ _ _ (ix2 q j) rfl rfl (ix2 ⟨q.val - 2, by omega⟩ j) (fun b hb => by
      match b with
      | ⟨0, _⟩ => exact absurd rfl hb
      | ⟨1, _⟩ => rfl) (by show q.val - 2 + 2 = q.val; omega), val_main_v1_apply]
    rfl
  · rw [dif_neg h, concatenate_pair_apply_left (t := S2050x5632) (s₁ := S2x5632) (s₂ := S2048x5632) 0 _ _ _ (ix2 q j) rfl (ix2 ⟨q.val, by omega⟩ j) (fun b => by
      match b with
      | ⟨0, _⟩ => rfl
      | ⟨1, _⟩ => rfl), val_main_v3_apply]
    exact zero_word

theorem v8_at (r : Fin 2048) (j : Fin 5632) : val_main_v8 (F := Ideal) x1 (ix2 r j) = down 2 (fun r => x1 (ix2 r j)) r := by
  rw [val_main_v8_apply, at2 (val_main_v4 (F := Ideal) x1) _ ⟨r.val, by omega⟩ j rfl rfl, v4_at]
  rfl
theorem v17_at (r : Fin 2048) (j : Fin 5632) : val_main_v17 (F := Ideal) x1 (ix2 r j) = down 1 (fun r => x1 (ix2 r j)) r := by
  rw [val_main_v17_apply, at2 (val_main_v4 (F := Ideal) x1) _ ⟨r.val + 1, by omega⟩ j (by first | rfl | exact Nat.add_comm _ _) rfl, v4_at]
  unfold down
  by_cases h : 1 ≤ r.val
  · rw [dif_pos h, dif_pos (show 2 ≤ r.val + 1 by omega)]
    exact at2 x1 _ _ _ (by show r.val + 1 - 2 = r.val - 1; omega) rfl
  · rw [dif_neg h, dif_neg (show ¬ 2 ≤ r.val + 1 by omega)]
theorem v24_at (r : Fin 2048) (j : Fin 5632) : val_main_v24 (F := Ideal) x1 (ix2 r j) = x1 (ix2 r j) := by
  rw [val_main_v24_apply, at2 (val_main_v4 (F := Ideal) x1) _ ⟨r.val + 2, by omega⟩ j (by first | rfl | exact Nat.add_comm _ _) rfl, v4_at,
    dif_pos (show 2 ≤ r.val + 2 by omega)]
  exact at2 x1 _ _ _ (by show r.val + 2 - 2 = r.val; omega) rfl

/-! ### The convolution, its sigmoid, and the gradient with respect to the convolution -/

/-- The convolution in the reference's order. -/
def rconv (g : Fin 2048 → EReal) (w : Fin 3 → EReal) (b : EReal) (r : Fin 2048) : EReal :=
  b + w 0 * down 2 g r + w 1 * down 1 g r + w 2 * g r

theorem v28_at (r : Fin 2048) (j : Fin 5632) :
    val_main_v28 (F := Ideal) x1 x3 x4 (ix2 r j) = rconv (fun r => x1 (ix2 r j)) (fun k => x3 (ix2 k j)) (x4 (ix1 j)) r := by
  show _ = x4 (ix1 j) + x3 (ix2 0 j) * down 2 (fun r => x1 (ix2 r j)) r + x3 (ix2 1 j) * down 1 (fun r => x1 (ix2 r j)) r
    + x3 (ix2 2 j) * x1 (ix2 r j)
  rw [← v8_at, ← v17_at, ← v24_at x1 r j, ← v10_at x3 r j, ← v19_at x3 r j, ← v26_at x3 r j, ← v13_at x4 r j]
  rfl

theorem s_at (r : Fin 2048) (j : Fin 5632) :
    val_main_v29_2 (F := Ideal) x1 x3 x4 (ix2 r j) = sigm (rconv (fun r => x1 (ix2 r j)) (fun k => x3 (ix2 k j)) (x4 (ix1 j)) r) := by
  rw [← v28_at]
  unfold sigm
  rw [← one_word]
  rfl

/-- The gradient with respect to the convolution, in the reference's order. -/
def rdconv (d g u : Fin 2048 → EReal) (w : Fin 3 → EReal) (b : EReal) (r : Fin 2048) : EReal :=
  d r * u r * sigm (rconv g w b r)
    + rconv g w b r * (d r * u r) * (sigm (rconv g w b r) * (((1 : ℝ) : EReal) - sigm (rconv g w b r)))

theorem v33_at (r : Fin 2048) (j : Fin 5632) :
    val_main_v33 (F := Ideal) x0 x1 x2 x3 x4 (ix2 r j)
      = rdconv (fun r => x0 (ix2 r j)) (fun r => x1 (ix2 r j)) (fun r => x2 (ix2 r j)) (fun k => x3 (ix2 k j)) (x4 (ix1 j)) r := by
  unfold rdconv
  rw [← s_at, ← v28_at, ← one_word]
  rfl

theorem v71_at (r : Fin 2048) (j : Fin 5632) :
    val_main_v71 (F := Ideal) x0 x1 x3 x4 (ix2 r j)
      = rconv (fun r => x1 (ix2 r j)) (fun k => x3 (ix2 k j)) (x4 (ix1 j)) r
          * sigm (rconv (fun r => x1 (ix2 r j)) (fun k => x3 (ix2 k j)) (x4 (ix1 j)) r) * x0 (ix2 r j) := by
  rw [← s_at, ← v28_at]
  rfl

/-! ### The gradient with respect to the gate's input -/

section Pad

variable (y : FVec Ideal S2048x5632 .f32) (v : FVec Ideal S_ .f32) (hv : v (Shape.Idx.first h_S_) = 0)

include hv

theorem pad20_at (r : Fin 2048) (j : Fin 5632) :
    pad S2050x5632 ![2, 0] ![0, 0] ![0, 0] y v pads_S2048x5632_S2050x5632_200_000 h_S_ (ix2 ⟨r.val + 2, by omega⟩ j) = y (ix2 r j) :=
  pad_apply_of_inside _ _ _ y v _ _ _ (ix2 r j) fun a => by
    match a with
    | ⟨0, _⟩ => show r.val + 2 = 2 + r.val * (0 + 1); omega
    | ⟨1, _⟩ => show j.val = 0 + j.val * (0 + 1); omega

theorem pad11_at (r : Fin 2048) (j : Fin 5632) :
    pad S2050x5632 ![1, 0] ![1, 0] ![0, 0] y v pads_S2048x5632_S2050x5632_110_000 h_S_ (ix2 ⟨r.val + 2, by omega⟩ j)
      = up 1 (fun r => y (ix2 r j)) r := by
  unfold up
  by_cases h : r.val + 1 < 2048
  · rw [dif_pos h]
    exact pad_apply_of_inside _ _ _ y v _ _ _ (ix2 ⟨r.val + 1, h⟩ j) fun a => by
      match a with
      | ⟨0, _⟩ => show r.val + 2 = 1 + (r.val + 1) * (0 + 1); omega
      | ⟨1, _⟩ => show j.val = 0 + j.val * (0 + 1); omega
  · rw [dif_neg h, ← hv]
    refine pad_apply_of_not_inside _ _ _ y v _ _ _ (0 : Fin 2) ?_
    show ¬(1 ≤ r.val + 2 ∧ (r.val + 2 - 1) % (0 + 1) = 0 ∧ (r.val + 2 - 1) / (0 + 1) < 2048)
    rw [Nat.zero_add, Nat.div_one]
    omega

theorem pad02_at (r : Fin 2048) (j : Fin 5632) :
    pad S2050x5632 ![0, 0] ![2, 0] ![0, 0] y v pads_S2048x5632_S2050x5632_020_000 h_S_ (ix2 ⟨r.val + 2, by omega⟩ j)
      = up 2 (fun r => y (ix2 r j)) r := by
  unfold up
  by_cases h : r.val + 2 < 2048
  · rw [dif_pos h]
    exact pad_apply_of_inside _ _ _ y v _ _ _ (ix2 ⟨r.val + 2, h⟩ j) fun a => by
      match a with
      | ⟨0, _⟩ => show r.val + 2 = 0 + (r.val + 2) * (0 + 1); omega
      | ⟨1, _⟩ => show j.val = 0 + j.val * (0 + 1); omega
  · rw [dif_neg h, ← hv]
    refine pad_apply_of_not_inside _ _ _ y v _ _ _ (0 : Fin 2) ?_
    show ¬(0 ≤ r.val + 2 ∧ (r.val + 2 - 0) % (0 + 1) = 0 ∧ (r.val + 2 - 0) / (0 + 1) < 2048)
    rw [Nat.zero_add, Nat.div_one]
    omega

end Pad

/-- A product with a weight commutes with moving the rows up. -/
theorem up_mul (k : Nat) (w : EReal) (x : Fin 2048 → EReal) (r : Fin 2048) : up k (fun r => w * x r) r = w * up k x r := by
  unfold up
  split
  · rfl
  · exact (mul_zero _).symm

theorem v70_at (r : Fin 2048) (j : Fin 5632) :
    val_main_v70 (F := Ideal) x0 x1 x2 x3 x4 (ix2 r j)
      = dgate (fun r => val_main_v33 (F := Ideal) x0 x1 x2 x3 x4 (ix2 r j)) (fun k => x3 (ix2 k j)) r := by
  show val_main_v69 (F := Ideal) x0 x1 x2 x3 x4 (ix2 r j) = _
  rw [val_main_v69_apply, at2 (val_main_v64 (F := Ideal) x0 x1 x2 x3 x4) _ ⟨r.val + 2, by omega⟩ j (by first | rfl | exact Nat.add_comm _ _) rfl]
  unfold dgate
  show val_main_v40 (F := Ideal) x0 x1 x2 x3 x4 _ + val_main_v49 (F := Ideal) x0 x1 x2 x3 x4 _ + val_main_v63 (F := Ideal) x0 x1 x2 x3 x4 _ = _
  unfold val_main_v40 val_main_v49 val_main_v63
  rw [pad20_at _ _ zero_word, pad11_at _ _ zero_word, pad02_at _ _ zero_word, ← up_mul, ← up_mul]
  refine congrArg₂ (· + ·) (congrArg₂ (· + ·) ?_ (congrArg (up 1 · r) (funext fun r => ?_))) (congrArg (up 2 · r) (funext fun r => ?_))
  · show _ = x3 (ix2 2 j) * _
    rw [← v34_at x3 r j]; rfl
  · show val_main_v44 (F := Ideal) x0 x1 x2 x3 x4 (ix2 r j) = x3 (ix2 1 j) * _
    rw [← v43_at x3 r j]; rfl
  · show val_main_v58 (F := Ideal) x0 x1 x2 x3 x4 (ix2 r j) = x3 (ix2 0 j) * _
    rw [← v57_at x3 r j]; rfl

/-! ### The gradients with respect to the taps and the bias -/

theorem reduce_at (y : FVec Ideal S2048x5632 .f32) (v : FVec Ideal S_ .f32) (hv : v (Shape.Idx.first h_S_) = 0) (j : Fin 5632) :
    Host.reduceAdd y v reducesTo_S2048x5632_S5632_d0 h_S_ (ix1 j) = ∑ r : Fin 2048, y (ix2 r j) := by
  simp only [Host.reduceAdd, Ideal.hostReduceAdd_def]
  rw [Ideal.hostReduceAdd_single reducesTo_S2048x5632_S5632_d0 (by decide), hv, zero_add]
  refine Finset.sum_congr rfl fun r _ => ?_
  exact at2 y _ _ _ rfl rfl

theorem reduce1_at (y : FVec Ideal S1x5632 .f32) (v : FVec Ideal S_ .f32) (hv : v (Shape.Idx.first h_S_) = 0) (j : Fin 5632) :
    Host.reduceAdd y v reducesTo_S1x5632_S5632_d0 h_S_ (ix1 j) = y (ix2 0 j) := by
  simp only [Host.reduceAdd, Ideal.hostReduceAdd_def]
  rw [Ideal.hostReduceAdd_single reducesTo_S1x5632_S5632_d0 (by decide), hv, zero_add]
  refine (Fin.sum_univ_one (fun k : Fin 1 => y _)).trans ?_
  exact at2 y _ _ _ rfl rfl

theorem cast_at (y : FVec Ideal S5632 .f32) (j : Fin 5632) : shapeCast S1x5632 y shapeCasts_S5632_S1x5632 (ix2 0 j) = y (ix1 j) :=
  shapeCast_apply _ _ _ (ix1 j) (by rw [Shape.rowMajor_val_one, Shape.rowMajor_val_two]; show j.val = 0 * 5632 + j.val; omega)

/-- The two sums of one weight's gradient: over the rows, then over a unit axis. -/
theorem sum_at (y : FVec Ideal S2048x5632 .f32) (v v' : FVec Ideal S_ .f32) (hv : v (Shape.Idx.first h_S_) = 0) (hv' : v' (Shape.Idx.first h_S_) = 0)
    (j : Fin 5632) :
    Host.reduceAdd (shapeCast S1x5632 (Host.reduceAdd y v reducesTo_S2048x5632_S5632_d0 h_S_ : FVec Ideal S5632 .f32) shapeCasts_S5632_S1x5632) v'
      reducesTo_S1x5632_S5632_d0 h_S_ (ix1 j) = ∑ r : Fin 2048, y (ix2 r j) := by
  rw [reduce1_at _ _ hv', cast_at, reduce_at _ _ hv]

section Pad3

variable (y : FVec Ideal S1x5632 .f32) (v : FVec Ideal S_ .f32) (hv : v (Shape.Idx.first h_S_) = 0)

include hv

theorem tap20_at (k : Fin 3) (j : Fin 5632) :
    pad S3x5632 ![2, 0] ![0, 0] ![0, 0] y v pads_S1x5632_S3x5632_200_000 h_S_ (ix2 k j) = if k = 2 then y (ix2 0 j) else 0 := by
  by_cases h : k = 2
  · subst h
    exact pad_apply_of_inside _ _ _ y v _ _ _ (ix2 0 j) fun a => by
      match a with
      | ⟨0, _⟩ => rfl
      | ⟨1, _⟩ => show j.val = 0 + j.val * (0 + 1); omega
  · rw [if_neg h, ← hv]
    refine pad_apply_of_not_inside _ _ _ y v _ _ _ (0 : Fin 2) ?_
    show ¬(2 ≤ k.val ∧ (k.val - 2) % (0 + 1) = 0 ∧ (k.val - 2) / (0 + 1) < 1)
    rw [Nat.zero_add, Nat.div_one]
    have : k.val ≠ 2 := fun e => h (Fin.ext e)
    omega

theorem tap11_at (k : Fin 3) (j : Fin 5632) :
    pad S3x5632 ![1, 0] ![1, 0] ![0, 0] y v pads_S1x5632_S3x5632_110_000 h_S_ (ix2 k j) = if k = 1 then y (ix2 0 j) else 0 := by
  by_cases h : k = 1
  · subst h
    exact pad_apply_of_inside _ _ _ y v _ _ _ (ix2 0 j) fun a => by
      match a with
      | ⟨0, _⟩ => rfl
      | ⟨1, _⟩ => show j.val = 0 + j.val * (0 + 1); omega
  · rw [if_neg h, ← hv]
    refine pad_apply_of_not_inside _ _ _ y v _ _ _ (0 : Fin 2) ?_
    show ¬(1 ≤ k.val ∧ (k.val - 1) % (0 + 1) = 0 ∧ (k.val - 1) / (0 + 1) < 1)
    rw [Nat.zero_add, Nat.div_one]
    have : k.val ≠ 1 := fun e => h (Fin.ext e)
    omega

theorem tap02_at (k : Fin 3) (j : Fin 5632) :
    pad S3x5632 ![0, 0] ![2, 0] ![0, 0] y v pads_S1x5632_S3x5632_020_000 h_S_ (ix2 k j) = if k = 0 then y (ix2 0 j) else 0 := by
  by_cases h : k = 0
  · subst h
    exact pad_apply_of_inside _ _ _ y v _ _ _ (ix2 0 j) fun a => by
      match a with
      | ⟨0, _⟩ => rfl
      | ⟨1, _⟩ => show j.val = 0 + j.val * (0 + 1); omega
  · rw [if_neg h, ← hv]
    refine pad_apply_of_not_inside _ _ _ y v _ _ _ (0 : Fin 2) ?_
    show ¬(0 ≤ k.val ∧ (k.val - 0) % (0 + 1) = 0 ∧ (k.val - 0) / (0 + 1) < 1)
    rw [Nat.zero_add, Nat.div_one]
    have : k.val ≠ 0 := fun e => h (Fin.ext e)
    omega

end Pad3

theorem v41_at (j : Fin 5632) : val_main_v41 (F := Ideal) x0 x1 x2 x3 x4 (ix2 0 j)
    = ∑ r : Fin 2048, val_main_v33 (F := Ideal) x0 x1 x2 x3 x4 (ix2 r j) * tap 2 (fun r => x1 (ix2 r j)) r := by
  rw [val_main_v41_apply, show idx_main_v41 (ix2 0 j) = ix1 j from funext fun a => by match a with | ⟨0, _⟩ => rfl]
  refine (sum_at (val_main_v36 (F := Ideal) x0 x1 x2 x3 x4) _ _ zero_word zero_word j).trans (Finset.sum_congr rfl fun r _ => ?_)
  exact congrArg (_ * ·) (v24_at x1 r j)
theorem v51_at (j : Fin 5632) : val_main_v51 (F := Ideal) x0 x1 x2 x3 x4 (ix2 0 j)
    = ∑ r : Fin 2048, val_main_v33 (F := Ideal) x0 x1 x2 x3 x4 (ix2 r j) * tap 1 (fun r => x1 (ix2 r j)) r := by
  rw [val_main_v51_apply, show idx_main_v51 (ix2 0 j) = ix1 j from funext fun a => by match a with | ⟨0, _⟩ => rfl]
  refine (sum_at (val_main_v45 (F := Ideal) x0 x1 x2 x3 x4) _ _ zero_word zero_word j).trans (Finset.sum_congr rfl fun r _ => ?_)
  exact congrArg (_ * ·) (v17_at x1 r j)
theorem v65_at (j : Fin 5632) : val_main_v65 (F := Ideal) x0 x1 x2 x3 x4 (ix2 0 j)
    = ∑ r : Fin 2048, val_main_v33 (F := Ideal) x0 x1 x2 x3 x4 (ix2 r j) * tap 0 (fun r => x1 (ix2 r j)) r := by
  rw [val_main_v65_apply, show idx_main_v65 (ix2 0 j) = ix1 j from funext fun a => by match a with | ⟨0, _⟩ => rfl]
  refine (sum_at (val_main_v59 (F := Ideal) x0 x1 x2 x3 x4) _ _ zero_word zero_word j).trans (Finset.sum_congr rfl fun r _ => ?_)
  exact congrArg (_ * ·) (v8_at x1 r j)

theorem v67_at (k : Fin 3) (j : Fin 5632) :
    val_main_v67 (F := Ideal) x0 x1 x2 x3 x4 (ix2 k j)
      = dweight (fun r => val_main_v33 (F := Ideal) x0 x1 x2 x3 x4 (ix2 r j)) (fun r => x1 (ix2 r j)) k := by
  show val_main_v42 (F := Ideal) x0 x1 x2 x3 x4 _ + val_main_v52 (F := Ideal) x0 x1 x2 x3 x4 _ + val_main_v66 (F := Ideal) x0 x1 x2 x3 x4 _ = _
  unfold val_main_v42 val_main_v52 val_main_v66
  rw [tap20_at _ _ zero_word, tap11_at _ _ zero_word, tap02_at _ _ zero_word, v41_at, v51_at, v65_at]
  match k with
  | 0 => exact (congrArg (· + _) (add_zero (0 : EReal))).trans (zero_add _)
  | 1 => exact (add_zero _).trans (zero_add _)
  | 2 => exact (add_zero _).trans (add_zero _)

theorem v72_at (j : Fin 5632) :
    val_main_v72 (F := Ideal) x0 x1 x2 x3 x4 (ix2 0 j) = dbias (fun r => val_main_v33 (F := Ideal) x0 x1 x2 x3 x4 (ix2 r j)) :=
  (cast_at (val_main_v56 (F := Ideal) x0 x1 x2 x3 x4) j).trans
    (sum_at (val_main_v33 (F := Ideal) x0 x1 x2 x3 x4) _ _ zero_word zero_word j)

end Cert.Proof.Ref

end
-- ==== Proof.ConvGate.lean ====
/- The gate's backward pass: the kernel's results and the reference's are the same functions of the arguments where the
   cotangent and the gated factor are finite. -/
module

public import proofs.«01_k».proof.Defs
public import proofs.«01_k».proof.Proof.Arrays
public import proofs.«01_k».proof.Proof.RefRead
public import proofs.«01_k».proof.Proof.Gen.ReferenceIdeal.Run
public import Idealize.ShloMosaic.Adequacy
public import Idealize.ShloMosaic.Init

@[expose] public section

noncomputable section

namespace Cert.Proof

open Idealize.ShloMosaic hiding ix0 ix1 ix2 eq_ix2
open Idealize.ShloMosaic.ValueIdx Idealize.ShloMosaic.TcCoe Idealize.SL.Sem

/-- The two orders of the convolution's sum agree. -/
theorem rconv_eq (g : Fin 2048 → EReal) (w : Fin 3 → EReal) (b : EReal) : Ref.rconv g w b = conv g w b := by
  funext r
  unfold Ref.rconv conv
  rw [add_right_comm (b + w 0 * down 2 g r), add_assoc b, add_comm (w 0 * down 2 g r), ← add_assoc b, add_right_comm]

/-- The two forms of the gradient with respect to the convolution agree where the cotangent and the gated factor are finite. -/
theorem rdconv_eq (d g u : Fin 2048 → EReal) (w : Fin 3 → EReal) (b : EReal) (hd : ∀ r, ∃ a : ℝ, d r = (a : EReal)) (hu : ∀ r, ∃ a : ℝ, u r = (a : EReal)) :
    Ref.rdconv d g u w b = dconv d g u w b := by
  funext r
  unfold Ref.rdconv dconv
  rw [rconv_eq]
  obtain ⟨a, ha⟩ := hd r
  obtain ⟨a', ha'⟩ := hu r
  rw [ha, ha', ← EReal.coe_mul]
  exact (silu_grad (a * a') _).symm

/-- What the precondition says at an index. -/
theorem finite_of_pre [Cert.Pre_finite_gate.Facts] (x0 x1 x2 : FVec Ideal Cert.Pre_finite_gate.S2048x5632 .bf16)
    (x3 : FVec Ideal Cert.Pre_finite_gate.S3x5632 .f32) (x4 : FVec Ideal Cert.Pre_finite_gate.S5632 .f32)
    (h : Cert.Pre_finite_gate.fn (F := Ideal) x0 x1 x2 x3 x4 = fun _ => 1#1) (i : Cert.Pre_finite_gate.S2048x5632.Idx) :
    (∃ a : ℝ, x0 i = (a : EReal)) ∧ ∃ a : ℝ, x2 i = (a : EReal) := by
  have key := congrFun h i
  have e : ∀ x : FVec Ideal Cert.Pre_finite_gate.S2048x5632 .bf16,
      (Host.absf x i : EReal) = max (x i : EReal) (-(x i : EReal)) := fun _ => rfl
  have key' : BitVec.ofBool (decide ((max (x0 i : EReal) (-(x0 i : EReal))) < Ideal.ofBits .bf16 0x7F80#16))
      &&& BitVec.ofBool (decide ((max (x2 i : EReal) (-(x2 i : EReal))) < Ideal.ofBits .bf16 0x7F80#16)) = 1#1 := key
  rw [inf_word] at key'
  refine ⟨real_of_abs_lt ?_, real_of_abs_lt ?_⟩
  · by_contra hn
    rw [decide_eq_false hn] at key'
    simp at key'
  · by_contra hn
    rw [decide_eq_false hn] at key'
    simp at key'

section arrays

open Cert.ReferenceIdeal (S2048x5632 S3x5632 S5632)
open Cert.ReferenceIdeal.Read (val_main_v33 val_main_v70 val_main_v71 val_main_v67 val_main_v72)

variable (x0 x1 x2 : FVec Ideal S2048x5632 .bf16) (x3 : FVec Ideal S3x5632 .f32) (x4 : FVec Ideal S5632 .f32)

/-- A column of the reference's gradient with respect to the convolution, under the precondition's reading. -/
theorem v33_col (hf : ∀ i : S2048x5632.Idx, (∃ a : ℝ, x0 i = (a : EReal)) ∧ ∃ a : ℝ, x2 i = (a : EReal)) (j : Fin 5632) :
    (fun r : Fin 2048 => val_main_v33 (F := Ideal) x0 x1 x2 x3 x4 (ix2 r j)) = Block.acon x0 x1 x2 x3 x4 j := by
  refine (funext fun r => Ref.v33_at x0 x1 x2 x3 x4 r j).trans ?_
  exact rdconv_eq _ _ _ _ _ (fun r => (hf (ix2 r j)).1) (fun r => (hf (ix2 r j)).2)

theorem v70_eq_G5 (hf : ∀ i : S2048x5632.Idx, (∃ a : ℝ, x0 i = (a : EReal)) ∧ ∃ a : ℝ, x2 i = (a : EReal)) :
    val_main_v70 (F := Ideal) x0 x1 x2 x3 x4 = Block.G5 x0 x1 x2 x3 x4 := by
  funext y
  obtain ⟨r, j, rfl⟩ : ∃ (r : Fin 2048) (j : Fin 5632), y = ix2 r j := ⟨_, _, eq_ix2 y⟩
  refine (Ref.v70_at x0 x1 x2 x3 x4 r j).trans ?_
  rw [v33_col x0 x1 x2 x3 x4 hf j]
  rfl

theorem v71_eq_G6 : val_main_v71 (F := Ideal) x0 x1 x3 x4 = Block.G6 x0 x1 x3 x4 := by
  funext y
  obtain ⟨r, j, rfl⟩ : ∃ (r : Fin 2048) (j : Fin 5632), y = ix2 r j := ⟨_, _, eq_ix2 y⟩
  refine (Ref.v71_at x0 x1 x3 x4 r j).trans ?_
  rw [rconv_eq, mul_comm]
  rfl

theorem v67_eq_G7 (hf : ∀ i : S2048x5632.Idx, (∃ a : ℝ, x0 i = (a : EReal)) ∧ ∃ a : ℝ, x2 i = (a : EReal)) :
    val_main_v67 (F := Ideal) x0 x1 x2 x3 x4 = Block.G7 x0 x1 x2 x3 x4 := by
  funext y
  obtain ⟨k, j, rfl⟩ : ∃ (k : Fin 3) (j : Fin 5632), y = ix2 k j := ⟨_, _, eq_ix2 y⟩
  refine (Ref.v67_at x0 x1 x2 x3 x4 k j).trans ?_
  rw [v33_col x0 x1 x2 x3 x4 hf j]
  rfl

theorem v72_eq_G8 (hf : ∀ i : S2048x5632.Idx, (∃ a : ℝ, x0 i = (a : EReal)) ∧ ∃ a : ℝ, x2 i = (a : EReal)) :
    val_main_v72 (F := Ideal) x0 x1 x2 x3 x4 = Block.G8 x0 x1 x2 x3 x4 := by
  funext y
  obtain ⟨z, j, rfl⟩ : ∃ (z : Fin 1) (j : Fin 5632), y = ix2 z j := ⟨_, _, eq_ix2 y⟩
  obtain rfl : z = 0 := Subsingleton.elim _ _
  refine (Ref.v72_at x0 x1 x2 x3 x4 j).trans ?_
  rw [v33_col x0 x1 x2 x3 x4 hf j]
  rfl

end arrays

theorem gate [Cert.Pre_finite_gate.Facts] : Cert.algebraic_KernelIdeal_ReferenceIdeal_pre_finite_gate := by
  intro m ρ m' ρ' hpre hagree
  refine ⟨_, _, _, _, Block.run m ρ, ?_⟩
  refine (θ_run (Cert.ReferenceIdeal.defs (F := Ideal)) _ _).mono (fun _ h c => ?_) (Cert.ReferenceIdeal.Value.run (F := Ideal) m' ρ')
  have hf := finite_of_pre _ _ _ _ _ (hpre c)
  obtain ⟨e0, e1, e2, e3, e4⟩ := hagree c
  obtain ⟨h0, h1, h2, h3, hrest⟩ := h c
  refine ⟨h0.trans ?_, h1.trans ?_, h2.trans ?_, h3.trans ?_, hrest⟩
  · refine (Cert.ReferenceIdeal.Read.val_main_v70_eq m' c).trans ?_
    rw [e0, e1, e2, e3, e4]
    exact v70_eq_G5 _ _ _ _ _ hf
  · refine (Cert.ReferenceIdeal.Read.val_main_v71_eq m' c).trans ?_
    rw [e0, e1, e3, e4]
    exact v71_eq_G6 _ _ _ _
  · refine (Cert.ReferenceIdeal.Read.val_main_v67_eq m' c).trans ?_
    rw [e0, e1, e2, e3, e4]
    exact v67_eq_G7 _ _ _ _ _ hf
  · refine (Cert.ReferenceIdeal.Read.val_main_v72_eq m' c).trans ?_
    rw [e0, e1, e2, e3, e4]
    exact v72_eq_G8 _ _ _ _ _ hf

end Cert.Proof

end
-- ==== Proof.Product.lean ====
/- The matrix product of the kernels' bodies at an index, for any extents: the three forms that the calls use, which differ in the
   axis of each operand that is summed over. -/
module

public import Idealize.ShloMosaic.Lib.Pipeline.ValueKit
public import Idealize.ShloMosaic.Lib.ValueIdx
public import Idealize.ShloMosaic.PureOps.Ideal.Laws

@[expose] public section

noncomputable section

namespace Cert.Proof.Product

open Idealize.ShloMosaic hiding ix0 ix1 ix2 eq_ix2
open Idealize.ShloMosaic.TcCoe Idealize.ShloMosaic.ValueIdx

/-- An array of two axes. -/
abbrev Two (p q : ℕ) : Shape := ⟨2, ![p, q]⟩

/-- A product whose one summed axis has `n` entries, the operands' indices at entry `k` being `f k` and `g k`. -/
theorem single {s₁ s₂ s₃ : Shape} {φ₁ φ₂ : FTy} (d : DotDims s₁ s₂ s₃) (n : ℕ) (h₁ : d.contr.rank = 1) (h₂ : d.contr.size ⟨0, by omega⟩ = n)
    (a : FVec Ideal s₁ φ₁) (b : FVec Ideal s₂ φ₂) (i : s₃.Idx) (f : Fin n → s₁.Idx) (g : Fin n → s₂.Idx)
    (hf : ∀ (q : d.contr.Idx) (k : Fin n), (q ⟨0, by omega⟩).val = k.val → d.lhsIdx i q = f k)
    (hg : ∀ (q : d.contr.Idx) (k : Fin n), (q ⟨0, by omega⟩).val = k.val → d.rhsIdx i q = g k) :
    (matmul (φ₁ := φ₁) (φ₂ := φ₂) d none a b (constant s₃ .f32 0x00000000#32) i : EReal) = ∑ k : Fin n, (a (f k) : EReal) * b (g k) := by
  refine (Ideal.matmul_constant_zero_apply (φ₁ := φ₁) (φ₂ := φ₂) d none a b i).trans ?_
  rw [← Equiv.sum_comp (ValueIdx.contrEquiv1 d n h₁ h₂).symm]
  refine Finset.sum_congr rfl fun k _ => ?_
  have hk := ValueIdx.contrEquiv1_symm_val d n h₁ h₂ k
  rw [hf _ k hk, hg _ k hk]

section forms

variable {M K N : ℕ} (r : Fin M) (j : Fin N)

/-- Rows by columns. -/
theorem rows_columns (h : DotDims.WF (Two M K) (Two K N) (Two M N) [1] [0] [0] [1] [] []) (a : FVec Ideal (Two M K) .bf16) (b : FVec Ideal (Two K N) .bf16) :
    (matmul (φ₁ := .bf16) (φ₂ := .bf16) (⟨[1], [0], [0], [1], [], [], h⟩ : DotDims (Two M K) (Two K N) (Two M N)) none a b (constant (Two M N) .f32 0x00000000#32) (ix2 r j) : EReal)
      = ∑ k : Fin K, (a (ix2 r k) : EReal) * b (ix2 k j) :=
  single _ K rfl rfl a b (ix2 r j) (fun k => ix2 r k) (fun k => ix2 k j)
    (fun q k hk => funext fun x => Fin.ext (by
      match x with
      | ⟨0, _⟩ => rfl
      | ⟨1, _⟩ => exact hk))
    (fun q k hk => funext fun x => Fin.ext (by
      match x with
      | ⟨0, _⟩ => exact hk
      | ⟨1, _⟩ => rfl))

/-- Rows by rows. -/
theorem rows_rows (h : DotDims.WF (Two M K) (Two N K) (Two M N) [1] [1] [0] [0] [] []) (a : FVec Ideal (Two M K) .bf16) (b : FVec Ideal (Two N K) .bf16) :
    (matmul (φ₁ := .bf16) (φ₂ := .bf16) (⟨[1], [1], [0], [0], [], [], h⟩ : DotDims (Two M K) (Two N K) (Two M N)) none a b (constant (Two M N) .f32 0x00000000#32) (ix2 r j) : EReal)
      = ∑ k : Fin K, (a (ix2 r k) : EReal) * b (ix2 j k) :=
  single _ K rfl rfl a b (ix2 r j) (fun k => ix2 r k) (fun k => ix2 j k)
    (fun q k hk => funext fun x => Fin.ext (by
      match x with
      | ⟨0, _⟩ => rfl
      | ⟨1, _⟩ => exact hk))
    (fun q k hk => funext fun x => Fin.ext (by
      match x with
      | ⟨0, _⟩ => rfl
      | ⟨1, _⟩ => exact hk))

/-- Columns by columns. -/
theorem columns_columns (h : DotDims.WF (Two K M) (Two K N) (Two M N) [0] [0] [1] [1] [] []) (a : FVec Ideal (Two K M) .bf16) (b : FVec Ideal (Two K N) .bf16) :
    (matmul (φ₁ := .bf16) (φ₂ := .bf16) (⟨[0], [0], [1], [1], [], [], h⟩ : DotDims (Two K M) (Two K N) (Two M N)) none a b (constant (Two M N) .f32 0x00000000#32) (ix2 r j) : EReal)
      = ∑ k : Fin K, (a (ix2 k r) : EReal) * b (ix2 k j) :=
  single _ K rfl rfl a b (ix2 r j) (fun k => ix2 k r) (fun k => ix2 k j)
    (fun q k hk => funext fun x => Fin.ext (by
      match x with
      | ⟨0, _⟩ => exact hk
      | ⟨1, _⟩ => rfl))
    (fun q k hk => funext fun x => Fin.ext (by
      match x with
      | ⟨0, _⟩ => exact hk
      | ⟨1, _⟩ => rfl))

end forms

end Cert.Proof.Product

end
-- ==== Proof.DownDx.lean ====
/- A product of the step, the gradient of the down projection's input: the kernel tiles the result over a grid of 8 points and keeps the whole contraction in
   a block, so both the kernel's result and the reference's are the same sum at each index. -/
module

public import proofs.«01_k».proof.Defs
public import proofs.«01_k».proof.Proof.Scalar
public import proofs.«01_k».proof.Proof.Product
public import proofs.«01_k».proof.Proof.Gen.DownDx.Frame
public import proofs.«01_k».proof.Proof.Gen.DownDxIdeal.Value
public import proofs.«01_k».proof.Proof.Gen.RefDownDxIdeal.Run
public import proofs.«01_k».proof.Proof.Gen.RefDownDxIdeal.Read
public import Idealize.ShloMosaic.Lib.Pipeline.ValueKit
public import Idealize.ShloMosaic.Adequacy
public import Idealize.ShloMosaic.Init

@[expose] public section

noncomputable section

namespace Cert.Proof.DownDx

open Idealize.ShloMosaic hiding ix0 ix1 ix2 eq_ix2
open Idealize.ShloMosaic.TcCoe Idealize.ShloMosaic.ValueIdx Cert.Proof Idealize.SL.Sem

section kernel

open Cert.DownDxIdeal Cert.DownDxIdeal.Gen

theorem hz : (![0, 0] : Fin 2 → Nat) = fun _ => 0 := funext fun a => by fin_cases a <;> rfl

/-- What a point stores at an index of its block. -/
theorem out_apply (a : Vec Ideal S1024x2048 .bf16) (b : Vec Ideal S1408x2048 .bf16) (r : Fin 1024) (j : Fin 1408) :
    (out0_2 a b (ix2 r j) : EReal) = ∑ k : Fin 2048, (a (ix2 r k) : EReal) * b (ix2 j k) := by
  unfold out0_2
  rw [View.canon_unit_zero hz, View.ld_unit_zero hz, View.ld_unit_zero hz]
  unfold k0_pay1
  exact Product.rows_rows r j _ a b

/-- The result as a function of the arguments. -/
def G (a : FVec Ideal S2048x2048 .bf16) (b : FVec Ideal S5632x2048 .bf16) : FVec Ideal S2048x5632 .bf16 :=
  fun i => ∑ k : Fin 2048, (a (ix2 (i 0) k) : EReal) * b (ix2 (i 1) k)

variable (m : (ℓ : Loc nD τ sig) → Buf (Elt Ideal) ℓ) (ρ : Dev nD → PrngReg)

/-! A window's block index at a point. -/

theorem at0 : ∀ t : Fin cfg0.N, win0_0.index t = ![t.val / 4, 0] := (by decide +kernel : ∀ t : Fin grid0.N, _)
theorem at1 : ∀ t : Fin cfg0.N, win0_1.index t = ![t.val % 4, 0] := (by decide +kernel : ∀ t : Fin grid0.N, _)
theorem at2 : ∀ t : Fin cfg0.N, win0_2.index t = ![t.val / 4, t.val % 4] := (by decide +kernel : ∀ t : Fin grid0.N, _)

/-- The result's row and column that a row and a column of the block at point `t` are. -/
abbrev arow (t : Fin cfg0.N) (r : Fin 1024) : Fin 2048 := ⟨t.val / 4 * 1024 + r.val, by have h : t.val < 8 := t.isLt; omega⟩
abbrev acolumn (t : Fin cfg0.N) (j : Fin 1408) : Fin 5632 := ⟨t.val % 4 * 1408 + j.val, by omega⟩

theorem iblk0_apply (c : Dev nD) (t : Fin cfg0.N) (r : Fin 1024) (k : Fin 2048) :
    iblk m c 0 t (ix2 r k) = m ((c : Thread nD τ).loc main_arg0) (ix2 (arow t r) k) := by
  rw [← V_main_arg0 m c]; blk_simp [iblk]; congr 1; blk_ext [at0 t]

theorem iblk1_apply (c : Dev nD) (t : Fin cfg0.N) (j : Fin 1408) (k : Fin 2048) :
    iblk m c 1 t (ix2 j k) = m ((c : Thread nD τ).loc main_arg1) (ix2 (acolumn t j) k) := by
  rw [← V_main_arg1 m c]; blk_simp [iblk]; congr 1; blk_ext [at1 t]

theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, j, rfl⟩ : ∃ (r : Fin 1024) (j : Fin 1408), y = ix2 r j := ⟨_, _, eq_ix2 y⟩
  rw [show (win0_2.blk t).view.emb (ix2 r j) = ix2 (arow t r) (acolumn t j) from by blk_ext [at2 t]]
  refine (out_apply _ _ r j).trans ?_
  exact Finset.sum_congr rfl fun k _ => congrArg₂ (fun p q : EReal => p * q) (iblk0_apply m c t r k) (iblk1_apply m c t j k)

/-- The kernel's run, with its result at its function of the arguments. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.DownDxIdeal.Value.run_blocks m ρ)

end kernel

section reference

open Cert.RefDownDxIdeal Cert.RefDownDxIdeal.Read

theorem reference_eq (x0 : FVec Ideal S2048x2048 .bf16) (x1 : FVec Ideal S5632x2048 .bf16) : val_main_v5 (F := Ideal) x0 x1 = G x0 x1 := by
  funext y
  rw [val_main_v5_apply]
  show (val_main_v4 (F := Ideal) x0 x1 y : EReal) = _
  rw [val_main_v4_apply]
  · refine Finset.sum_congr rfl fun k _ => ?_
    rw [val_main_v0_apply, val_main_v1_apply]
    refine congrArg₂ (fun p q : EReal => p * q) (congrArg x0 (funext fun d => ?_)) (congrArg x1 (funext fun d => ?_))
    · match d with
      | ⟨0, _⟩ => rfl
      | ⟨1, _⟩ => rfl
    · match d with
      | ⟨0, _⟩ => rfl
      | ⟨1, _⟩ => rfl

end reference

theorem reference_frame : Cert.quiescent_RefDownDxIdeal := fun m ρ _ =>
  (θ_run Cert.RefDownDxIdeal.defs _ _).mono
    (fun r h => ⟨fun c => (h c).2, Idealize.ShloMosaic.sem_eq_zero_of_no_sems (by decide) r.2⟩)
    (Cert.RefDownDxIdeal.Value.run (F := Ideal) m ρ)

theorem algebraic : Cert.algebraic_DownDxIdeal_RefDownDxIdeal := by
  intro m ρ m' ρ' _ hagree
  refine ⟨_, run m ρ, ?_⟩
  refine (θ_run (Cert.RefDownDxIdeal.defs (F := Ideal)) _ _).mono (fun _ h c => ?_) (Cert.RefDownDxIdeal.Value.run (F := Ideal) m' ρ')
  obtain ⟨e0, e1⟩ := hagree c
  obtain ⟨h0, hrest⟩ := h c
  refine ⟨h0.trans ?_, hrest⟩
  refine (Cert.RefDownDxIdeal.Read.val_main_v5_eq _ _).trans ?_
  rw [e0, e1]
  exact reference_eq _ _

end Cert.Proof.DownDx

end
-- ==== Proof.DownDw.lean ====
/- A product of the step, the gradient of the down projection's weight: the kernel tiles the result over a grid of 8 points and keeps the whole contraction in
   a block, so both the kernel's result and the reference's are the same sum at each index. -/
module

public import proofs.«01_k».proof.Defs
public import proofs.«01_k».proof.Proof.Scalar
public import proofs.«01_k».proof.Proof.Product
public import proofs.«01_k».proof.Proof.Gen.DownDw.Frame
public import proofs.«01_k».proof.Proof.Gen.DownDwIdeal.Value
public import proofs.«01_k».proof.Proof.Gen.RefDownDwIdeal.Run
public import proofs.«01_k».proof.Proof.Gen.RefDownDwIdeal.Read
public import Idealize.ShloMosaic.Lib.Pipeline.ValueKit
public import Idealize.ShloMosaic.Adequacy
public import Idealize.ShloMosaic.Init

@[expose] public section

noncomputable section

namespace Cert.Proof.DownDw

open Idealize.ShloMosaic hiding ix0 ix1 ix2 eq_ix2
open Idealize.ShloMosaic.TcCoe Idealize.ShloMosaic.ValueIdx Cert.Proof Idealize.SL.Sem

section kernel

open Cert.DownDwIdeal Cert.DownDwIdeal.Gen

theorem hz : (![0, 0] : Fin 2 → Nat) = fun _ => 0 := funext fun a => by fin_cases a <;> rfl

/-- What a point stores at an index of its block. -/
theorem out_apply (a : Vec Ideal S2048x1408 .bf16) (b : Vec Ideal S2048x1024 .bf16) (r : Fin 1408) (j : Fin 1024) :
    (out0_2 a b (ix2 r j) : EReal) = ∑ k : Fin 2048, (a (ix2 k r) : EReal) * b (ix2 k j) := by
  unfold out0_2
  rw [View.canon_unit_zero hz, View.ld_unit_zero hz, View.ld_unit_zero hz]
  unfold k0_pay1
  exact Product.columns_columns r j _ a b

/-- The result as a function of the arguments. -/
def G (a : FVec Ideal S2048x5632 .bf16) (b : FVec Ideal S2048x2048 .bf16) : FVec Ideal S5632x2048 .bf16 :=
  fun i => ∑ k : Fin 2048, (a (ix2 k (i 0)) : EReal) * b (ix2 k (i 1))

variable (m : (ℓ : Loc nD τ sig) → Buf (Elt Ideal) ℓ) (ρ : Dev nD → PrngReg)

/-! A window's block index at a point. -/

theorem at0 : ∀ t : Fin cfg0.N, win0_0.index t = ![0, t.val / 2] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, t.val % 2] := (by decide +kernel : ∀ t : Fin grid0.N, _)

/-- The result's row and column that a row and a column of the block at point `t` are. -/
abbrev arow (t : Fin cfg0.N) (r : Fin 1408) : Fin 5632 := ⟨t.val / 2 * 1408 + r.val, by have h : t.val < 8 := t.isLt; omega⟩
abbrev acolumn (t : Fin cfg0.N) (j : Fin 1024) : Fin 2048 := ⟨t.val % 2 * 1024 + j.val, by omega⟩

theorem iblk0_apply (c : Dev nD) (t : Fin cfg0.N) (r : Fin 1408) (k : Fin 2048) :
    iblk m c 0 t (ix2 k r) = m ((c : Thread nD τ).loc main_arg0) (ix2 k (arow t r)) := by
  rw [← V_main_arg0 m c]; blk_simp [iblk]; congr 1; blk_ext [at0 t]

theorem iblk1_apply (c : Dev nD) (t : Fin cfg0.N) (j : Fin 1024) (k : Fin 2048) :
    iblk m c 1 t (ix2 k j) = m ((c : Thread nD τ).loc main_arg1) (ix2 k (acolumn t j)) := by
  rw [← V_main_arg1 m c]; blk_simp [iblk]; congr 1; blk_ext [at1 t]

theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, j, rfl⟩ : ∃ (r : Fin 1408) (j : Fin 1024), y = ix2 r j := ⟨_, _, eq_ix2 y⟩
  rw [show (win0_2.blk t).view.emb (ix2 r j) = ix2 (arow t r) (acolumn t j) from by blk_ext [at2 t]]
  refine (out_apply _ _ r j).trans ?_
  exact Finset.sum_congr rfl fun k _ => congrArg₂ (fun p q : EReal => p * q) (iblk0_apply m c t r k) (iblk1_apply m c t j k)

/-- The kernel's run, with its result at its function of the arguments. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.DownDwIdeal.Value.run_blocks m ρ)

end kernel

section reference

open Cert.RefDownDwIdeal Cert.RefDownDwIdeal.Read

theorem reference_eq (x0 : FVec Ideal S2048x5632 .bf16) (x1 : FVec Ideal S2048x2048 .bf16) : val_main_v6 (F := Ideal) x0 x1 = G x0 x1 := by
  funext y
  rw [val_main_v6_apply]
  show (val_main_v5 (F := Ideal) x0 x1 y : EReal) = _
  rw [val_main_v5_apply, val_main_v4_apply]
  · refine Finset.sum_congr rfl fun k _ => ?_
    rw [val_main_v0_apply, val_main_v1_apply]
    rw [mul_comm]
    refine congrArg₂ (fun p q : EReal => p * q) (congrArg x0 (funext fun d => ?_)) (congrArg x1 (funext fun d => ?_))
    · match d with
      | ⟨0, _⟩ => rfl
      | ⟨1, _⟩ => rfl
    · match d with
      | ⟨0, _⟩ => rfl
      | ⟨1, _⟩ => rfl

end reference

theorem reference_frame : Cert.quiescent_RefDownDwIdeal := fun m ρ _ =>
  (θ_run Cert.RefDownDwIdeal.defs _ _).mono
    (fun r h => ⟨fun c => (h c).2, Idealize.ShloMosaic.sem_eq_zero_of_no_sems (by decide) r.2⟩)
    (Cert.RefDownDwIdeal.Value.run (F := Ideal) m ρ)

theorem algebraic : Cert.algebraic_DownDwIdeal_RefDownDwIdeal := by
  intro m ρ m' ρ' _ hagree
  refine ⟨_, run m ρ, ?_⟩
  refine (θ_run (Cert.RefDownDwIdeal.defs (F := Ideal)) _ _).mono (fun _ h c => ?_) (Cert.RefDownDwIdeal.Value.run (F := Ideal) m' ρ')
  obtain ⟨e0, e1⟩ := hagree c
  obtain ⟨h0, hrest⟩ := h c
  refine ⟨h0.trans ?_, hrest⟩
  refine (Cert.RefDownDwIdeal.Read.val_main_v6_eq _ _).trans ?_
  rw [e0, e1]
  exact reference_eq _ _

end Cert.Proof.DownDw

end
-- ==== Proof.GateDx.lean ====
/- A product of the step, the gradient of the gate projection's input: the kernel tiles the result over a grid of 8 points and keeps the whole contraction in
   a block, so both the kernel's result and the reference's are the same sum at each index. -/
module

public import proofs.«01_k».proof.Defs
public import proofs.«01_k».proof.Proof.Scalar
public import proofs.«01_k».proof.Proof.Product
public import proofs.«01_k».proof.Proof.Gen.GateDx.Frame
public import proofs.«01_k».proof.Proof.Gen.GateDxIdeal.Value
public import proofs.«01_k».proof.Proof.Gen.RefGateDxIdeal.Run
public import proofs.«01_k».proof.Proof.Gen.RefGateDxIdeal.Read
public import Idealize.ShloMosaic.Lib.Pipeline.ValueKit
public import Idealize.ShloMosaic.Adequacy
public import Idealize.ShloMosaic.Init

@[expose] public section

noncomputable section

namespace Cert.Proof.GateDx

open Idealize.ShloMosaic hiding ix0 ix1 ix2 eq_ix2
open Idealize.ShloMosaic.TcCoe Idealize.ShloMosaic.ValueIdx Cert.Proof Idealize.SL.Sem

section kernel

open Cert.GateDxIdeal Cert.GateDxIdeal.Gen

theorem hz : (![0, 0] : Fin 2 → Nat) = fun _ => 0 := funext fun a => by fin_cases a <;> rfl

/-- What a point stores at an index of its block. -/
theorem out_apply (a : Vec Ideal S1024x5632 .bf16) (b : Vec Ideal S5632x512 .bf16) (r : Fin 1024) (j : Fin 512) :
    (out0_2 a b (ix2 r j) : EReal) = ∑ k : Fin 5632, (a (ix2 r k) : EReal) * b (ix2 k j) := by
  unfold out0_2
  rw [View.canon_unit_zero hz, View.ld_unit_zero hz, View.ld_unit_zero hz]
  unfold k0_pay1
  exact Product.rows_columns r j _ a b

/-- The result as a function of the arguments. -/
def G (a : FVec Ideal S2048x5632 .bf16) (b : FVec Ideal S5632x2048 .bf16) : FVec Ideal S2048x2048 .f32 :=
  fun i => ∑ k : Fin 5632, (a (ix2 (i 0) k) : EReal) * b (ix2 k (i 1))

variable (m : (ℓ : Loc nD τ sig) → Buf (Elt Ideal) ℓ) (ρ : Dev nD → PrngReg)

/-! A window's block index at a point. -/

theorem at0 : ∀ t : Fin cfg0.N, win0_0.index t = ![t.val / 4, 0] := (by decide +kernel : ∀ t : Fin grid0.N, _)
theorem at1 : ∀ t : Fin cfg0.N, win0_1.index t = ![0, t.val % 4] := (by decide +kernel : ∀ t : Fin grid0.N, _)
theorem at2 : ∀ t : Fin cfg0.N, win0_2.index t = ![t.val / 4, t.val % 4] := (by decide +kernel : ∀ t : Fin grid0.N, _)

/-- The result's row and column that a row and a column of the block at point `t` are. -/
abbrev arow (t : Fin cfg0.N) (r : Fin 1024) : Fin 2048 := ⟨t.val / 4 * 1024 + r.val, by have h : t.val < 8 := t.isLt; omega⟩
abbrev acolumn (t : Fin cfg0.N) (j : Fin 512) : Fin 2048 := ⟨t.val % 4 * 512 + j.val, by omega⟩

theorem iblk0_apply (c : Dev nD) (t : Fin cfg0.N) (r : Fin 1024) (k : Fin 5632) :
    iblk m c 0 t (ix2 r k) = m ((c : Thread nD τ).loc main_arg0) (ix2 (arow t r) k) := by
  rw [← V_main_arg0 m c]; blk_simp [iblk]; congr 1; blk_ext [at0 t]

theorem iblk1_apply (c : Dev nD) (t : Fin cfg0.N) (j : Fin 512) (k : Fin 5632) :
    iblk m c 1 t (ix2 k j) = m ((c : Thread nD τ).loc main_arg1) (ix2 k (acolumn t j)) := by
  rw [← V_main_arg1 m c]; blk_simp [iblk]; congr 1; blk_ext [at1 t]

theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, j, rfl⟩ : ∃ (r : Fin 1024) (j : Fin 512), y = ix2 r j := ⟨_, _, eq_ix2 y⟩
  rw [show (win0_2.blk t).view.emb (ix2 r j) = ix2 (arow t r) (acolumn t j) from by blk_ext [at2 t]]
  refine (out_apply _ _ r j).trans ?_
  exact Finset.sum_congr rfl fun k _ => congrArg₂ (fun p q : EReal => p * q) (iblk0_apply m c t r k) (iblk1_apply m c t j k)

/-- The kernel's run, with its result at its function of the arguments. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.GateDxIdeal.Value.run_blocks m ρ)

end kernel

section reference

open Cert.RefGateDxIdeal Cert.RefGateDxIdeal.Read

theorem reference_eq (x0 : FVec Ideal S2048x5632 .bf16) (x1 : FVec Ideal S5632x2048 .bf16) : val_main_v5 (F := Ideal) x0 x1 = G x0 x1 := by
  funext y
  rw [val_main_v5_apply]
  · refine Finset.sum_congr rfl fun k _ => ?_
    rw [val_main_v0_apply, val_main_v3_apply, val_main_v1_apply]
    refine congrArg₂ (fun p q : EReal => p * q) (congrArg x0 (funext fun d => ?_)) (congrArg x1 (funext fun d => ?_))
    · match d with
      | ⟨0, _⟩ => rfl
      | ⟨1, _⟩ => rfl
    · match d with
      | ⟨0, _⟩ => rfl
      | ⟨1, _⟩ => rfl

end reference

theorem reference_frame : Cert.quiescent_RefGateDxIdeal := fun m ρ _ =>
  (θ_run Cert.RefGateDxIdeal.defs _ _).mono
    (fun r h => ⟨fun c => (h c).2, Idealize.ShloMosaic.sem_eq_zero_of_no_sems (by decide) r.2⟩)
    (Cert.RefGateDxIdeal.Value.run (F := Ideal) m ρ)

theorem algebraic : Cert.algebraic_GateDxIdeal_RefGateDxIdeal := by
  intro m ρ m' ρ' _ hagree
  refine ⟨_, run m ρ, ?_⟩
  refine (θ_run (Cert.RefGateDxIdeal.defs (F := Ideal)) _ _).mono (fun _ h c => ?_) (Cert.RefGateDxIdeal.Value.run (F := Ideal) m' ρ')
  obtain ⟨e0, e1⟩ := hagree c
  obtain ⟨h0, hrest⟩ := h c
  refine ⟨h0.trans ?_, hrest⟩
  refine (Cert.RefGateDxIdeal.Read.val_main_v5_eq _ _).trans ?_
  rw [e0, e1]
  exact reference_eq _ _

end Cert.Proof.GateDx

end
-- ==== Proof.UpDx.lean ====
/- A product of the step, the gradient of the up projection's input, added to the gate projection's: the kernel tiles the result over a grid of 8 points and keeps the whole contraction in
   a block, so both the kernel's result and the reference's are the same sum at each index. -/
module

public import proofs.«01_k».proof.Defs
public import proofs.«01_k».proof.Proof.Scalar
public import proofs.«01_k».proof.Proof.Product
public import proofs.«01_k».proof.Proof.Gen.UpDx.Frame
public import proofs.«01_k».proof.Proof.Gen.UpDxIdeal.Value
public import proofs.«01_k».proof.Proof.Gen.RefUpDxIdeal.Run
public import proofs.«01_k».proof.Proof.Gen.RefUpDxIdeal.Read
public import Idealize.ShloMosaic.Lib.Pipeline.ValueKit
public import Idealize.ShloMosaic.Adequacy
public import Idealize.ShloMosaic.Init

@[expose] public section

noncomputable section

namespace Cert.Proof.UpDx

open Idealize.ShloMosaic hiding ix0 ix1 ix2 eq_ix2
open Idealize.ShloMosaic.TcCoe Idealize.ShloMosaic.ValueIdx Cert.Proof Idealize.SL.Sem

section kernel

open Cert.UpDxIdeal Cert.UpDxIdeal.Gen

theorem hz : (![0, 0] : Fin 2 → Nat) = fun _ => 0 := funext fun a => by fin_cases a <;> rfl

/-- What a point stores at an index of its block. -/
theorem out_apply (a : Vec Ideal S1024x5632 .bf16) (b : Vec Ideal S5632x512 .bf16) (t : Vec Ideal S1024x512 .f32) (r : Fin 1024) (j : Fin 512) :
    (out0_3 a b t (ix2 r j) : EReal) = (∑ k : Fin 5632, (a (ix2 r k) : EReal) * b (ix2 k j)) + (t (ix2 r j) : EReal) := by
  unfold out0_3
  rw [View.canon_unit_zero hz, View.ld_unit_zero hz, View.ld_unit_zero hz, View.ld_unit_zero hz]
  unfold k0_pay1
  refine (congrArg₂ (fun p q : EReal => p + q) (Product.rows_columns r j _ a b) (?_ : Ideal.ofBits .f32 0x3F800000#32 * (t (ix2 r j) : EReal) = t (ix2 r j))).trans rfl
  rw [one_word, EReal.coe_one, one_mul]

/-- The result as a function of the arguments. -/
def G (a : FVec Ideal S2048x5632 .bf16) (b : FVec Ideal S5632x2048 .bf16) (t : FVec Ideal S2048x2048 .f32) : FVec Ideal S2048x2048 .f32 :=
  fun i => (∑ k : Fin 5632, (a (ix2 (i 0) k) : EReal) * b (ix2 k (i 1))) + (t i : EReal)

variable (m : (ℓ : Loc nD τ sig) → Buf (Elt Ideal) ℓ) (ρ : Dev nD → PrngReg)

/-! A window's block index at a point. -/

theorem at0 : ∀ t : Fin cfg0.N, win0_0.index t = ![t.val / 4, 0] := (by decide +kernel : ∀ t : Fin grid0.N, _)
theorem at1 : ∀ t : Fin cfg0.N, win0_1.index t = ![0, t.val % 4] := (by decide +kernel : ∀ t : Fin grid0.N, _)
theorem at2 : ∀ t : Fin cfg0.N, win0_2.index t = ![t.val / 4, t.val % 4] := (by decide +kernel : ∀ t : Fin grid0.N, _)
theorem at3 : ∀ t : Fin cfg0.N, win0_3.index t = ![t.val / 4, t.val % 4] := (by decide +kernel : ∀ t : Fin grid0.N, _)

/-- The result's row and column that a row and a column of the block at point `t` are. -/
abbrev arow (t : Fin cfg0.N) (r : Fin 1024) : Fin 2048 := ⟨t.val / 4 * 1024 + r.val, by have h : t.val < 8 := t.isLt; omega⟩
abbrev acolumn (t : Fin cfg0.N) (j : Fin 512) : Fin 2048 := ⟨t.val % 4 * 512 + j.val, by omega⟩

theorem iblk0_apply (c : Dev nD) (t : Fin cfg0.N) (r : Fin 1024) (k : Fin 5632) :
    iblk m c 0 t (ix2 r k) = m ((c : Thread nD τ).loc main_arg0) (ix2 (arow t r) k) := by
  rw [← V_main_arg0 m c]; blk_simp [iblk]; congr 1; blk_ext [at0 t]

theorem iblk1_apply (c : Dev nD) (t : Fin cfg0.N) (j : Fin 512) (k : Fin 5632) :
    iblk m c 1 t (ix2 k j) = m ((c : Thread nD τ).loc main_arg1) (ix2 k (acolumn t j)) := by
  rw [← V_main_arg1 m c]; blk_simp [iblk]; congr 1; blk_ext [at1 t]

theorem iblk2_apply (c : Dev nD) (t : Fin cfg0.N) (r : Fin 1024) (j : Fin 512) :
    iblk m c 2 t (ix2 r j) = m ((c : Thread nD τ).loc main_arg2) (ix2 (arow t r) (acolumn t j)) := by
  rw [← V_main_arg2 m c]; blk_simp [iblk]; congr 1; blk_ext [at2 t]

theorem final (c : Dev nD) : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, j, rfl⟩ : ∃ (r : Fin 1024) (j : Fin 512), y = ix2 r j := ⟨_, _, eq_ix2 y⟩
  rw [show (win0_3.blk t).view.emb (ix2 r j) = ix2 (arow t r) (acolumn t j) from by blk_ext [at3 t]]
  refine (out_apply _ _ _ r j).trans ?_
  exact congrArg₂ (fun p q : EReal => p + q) (Finset.sum_congr rfl fun k _ => congrArg₂ (fun p q : EReal => p * q) (iblk0_apply m c t r k) (iblk1_apply m c t j k)) (iblk2_apply m c t r j)

/-- The kernel's run, with its result at its function of the arguments. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.UpDxIdeal.Value.run_blocks m ρ)

end kernel

section reference

open Cert.RefUpDxIdeal Cert.RefUpDxIdeal.Read

theorem reference_eq (x0 : FVec Ideal S2048x5632 .bf16) (x1 : FVec Ideal S5632x2048 .bf16) (x2 : FVec Ideal S2048x2048 .f32) : val_main_v6 (F := Ideal) x0 x1 x2 = G x0 x1 x2 := by
  funext y
  rw [val_main_v6_apply]
  show (x2 y : EReal) + val_main_v5 (F := Ideal) x0 x1 y = _
  rw [val_main_v5_apply, add_comm]
  refine congrArg (fun p : EReal => p + x2 y) ?_
  · refine Finset.sum_congr rfl fun k _ => ?_
    rw [val_main_v0_apply, val_main_v3_apply, val_main_v1_apply]
    refine congrArg₂ (fun p q : EReal => p * q) (congrArg x0 (funext fun d => ?_)) (congrArg x1 (funext fun d => ?_))
    · match d with
      | ⟨0, _⟩ => rfl
      | ⟨1, _⟩ => rfl
    · match d with
      | ⟨0, _⟩ => rfl
      | ⟨1, _⟩ => rfl

end reference

theorem reference_frame : Cert.quiescent_RefUpDxIdeal := fun m ρ _ =>
  (θ_run Cert.RefUpDxIdeal.defs _ _).mono
    (fun r h => ⟨fun c => (h c).2, Idealize.ShloMosaic.sem_eq_zero_of_no_sems (by decide) r.2⟩)
    (Cert.RefUpDxIdeal.Value.run (F := Ideal) m ρ)

theorem algebraic : Cert.algebraic_UpDxIdeal_RefUpDxIdeal := by
  intro m ρ m' ρ' _ hagree
  refine ⟨_, run m ρ, ?_⟩
  refine (θ_run (Cert.RefUpDxIdeal.defs (F := Ideal)) _ _).mono (fun _ h c => ?_) (Cert.RefUpDxIdeal.Value.run (F := Ideal) m' ρ')
  obtain ⟨e0, e1, e2⟩ := hagree c
  obtain ⟨h0, hrest⟩ := h c
  refine ⟨h0.trans ?_, hrest⟩
  refine (Cert.RefUpDxIdeal.Read.val_main_v6_eq _ _ _).trans ?_
  rw [e0, e1, e2]
  exact reference_eq _ _ _

end Cert.Proof.UpDx

end
-- ==== Proof.GateDw.lean ====
/- A product of the step, the gradient of the gate projection's weight: the kernel tiles the result over a grid of 8 points and keeps the whole contraction in
   a block, so both the kernel's result and the reference's are the same sum at each index. -/
module

public import proofs.«01_k».proof.Defs
public import proofs.«01_k».proof.Proof.Scalar
public import proofs.«01_k».proof.Proof.Product
public import proofs.«01_k».proof.Proof.Gen.GateDw.Frame
public import proofs.«01_k».proof.Proof.Gen.GateDwIdeal.Value
public import proofs.«01_k».proof.Proof.Gen.RefGateDwIdeal.Run
public import proofs.«01_k».proof.Proof.Gen.RefGateDwIdeal.Read
public import Idealize.ShloMosaic.Lib.Pipeline.ValueKit
public import Idealize.ShloMosaic.Adequacy
public import Idealize.ShloMosaic.Init

@[expose] public section

noncomputable section

namespace Cert.Proof.GateDw

open Idealize.ShloMosaic hiding ix0 ix1 ix2 eq_ix2
open Idealize.ShloMosaic.TcCoe Idealize.ShloMosaic.ValueIdx Cert.Proof Idealize.SL.Sem

section kernel

open Cert.GateDwIdeal Cert.GateDwIdeal.Gen

theorem hz : (![0, 0] : Fin 2 → Nat) = fun _ => 0 := funext fun a => by fin_cases a <;> rfl

/-- What a point stores at an index of its block. -/
theorem out_apply (a : Vec Ideal S2048x1408 .bf16) (b : Vec Ideal S2048x1024 .bf16) (r : Fin 1408) (j : Fin 1024) :
    (out0_2 a b (ix2 r j) : EReal) = ∑ k : Fin 2048, (a (ix2 k r) : EReal) * b (ix2 k j) := by
  unfold out0_2
  rw [View.canon_unit_zero hz, View.ld_unit_zero hz, View.ld_unit_zero hz]
  unfold k0_pay1
  exact Product.columns_columns r j _ a b

/-- The result as a function of the arguments. -/
def G (a : FVec Ideal S2048x5632 .bf16) (b : FVec Ideal S2048x2048 .bf16) : FVec Ideal S5632x2048 .bf16 :=
  fun i => ∑ k : Fin 2048, (a (ix2 k (i 0)) : EReal) * b (ix2 k (i 1))

variable (m : (ℓ : Loc nD τ sig) → Buf (Elt Ideal) ℓ) (ρ : Dev nD → PrngReg)

/-! A window's block index at a point. -/

theorem at0 : ∀ t : Fin cfg0.N, win0_0.index t = ![0, t.val / 2] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, t.val % 2] := (by decide +kernel : ∀ t : Fin grid0.N, _)

/-- The result's row and column that a row and a column of the block at point `t` are. -/
abbrev arow (t : Fin cfg0.N) (r : Fin 1408) : Fin 5632 := ⟨t.val / 2 * 1408 + r.val, by have h : t.val < 8 := t.isLt; omega⟩
abbrev acolumn (t : Fin cfg0.N) (j : Fin 1024) : Fin 2048 := ⟨t.val % 2 * 1024 + j.val, by omega⟩

theorem iblk0_apply (c : Dev nD) (t : Fin cfg0.N) (r : Fin 1408) (k : Fin 2048) :
    iblk m c 0 t (ix2 k r) = m ((c : Thread nD τ).loc main_arg0) (ix2 k (arow t r)) := by
  rw [← V_main_arg0 m c]; blk_simp [iblk]; congr 1; blk_ext [at0 t]

theorem iblk1_apply (c : Dev nD) (t : Fin cfg0.N) (j : Fin 1024) (k : Fin 2048) :
    iblk m c 1 t (ix2 k j) = m ((c : Thread nD τ).loc main_arg1) (ix2 k (acolumn t j)) := by
  rw [← V_main_arg1 m c]; blk_simp [iblk]; congr 1; blk_ext [at1 t]

theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, j, rfl⟩ : ∃ (r : Fin 1408) (j : Fin 1024), y = ix2 r j := ⟨_, _, eq_ix2 y⟩
  rw [show (win0_2.blk t).view.emb (ix2 r j) = ix2 (arow t r) (acolumn t j) from by blk_ext [at2 t]]
  refine (out_apply _ _ r j).trans ?_
  exact Finset.sum_congr rfl fun k _ => congrArg₂ (fun p q : EReal => p * q) (iblk0_apply m c t r k) (iblk1_apply m c t j k)

/-- The kernel's run, with its result at its function of the arguments. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.GateDwIdeal.Value.run_blocks m ρ)

end kernel

section reference

open Cert.RefGateDwIdeal Cert.RefGateDwIdeal.Read

theorem reference_eq (x0 : FVec Ideal S2048x5632 .bf16) (x1 : FVec Ideal S2048x2048 .bf16) : val_main_v8 (F := Ideal) x0 x1 = G x0 x1 := by
  funext y
  rw [val_main_v8_apply]
  show (val_main_v7 (F := Ideal) x0 x1 y : EReal) = _
  rw [val_main_v7_apply, val_main_v6_apply, val_main_v5_apply]
  · refine Finset.sum_congr rfl fun k _ => ?_
    rw [val_main_v0_apply, val_main_v1_apply]
    refine congrArg₂ (fun p q : EReal => p * q) (congrArg x0 (funext fun d => ?_)) (congrArg x1 (funext fun d => ?_))
    · match d with
      | ⟨0, _⟩ => rfl
      | ⟨1, _⟩ => rfl
    · match d with
      | ⟨0, _⟩ => rfl
      | ⟨1, _⟩ => rfl

end reference

theorem reference_frame : Cert.quiescent_RefGateDwIdeal := fun m ρ _ =>
  (θ_run Cert.RefGateDwIdeal.defs _ _).mono
    (fun r h => ⟨fun c => (h c).2, Idealize.ShloMosaic.sem_eq_zero_of_no_sems (by decide) r.2⟩)
    (Cert.RefGateDwIdeal.Value.run (F := Ideal) m ρ)

theorem algebraic : Cert.algebraic_GateDwIdeal_RefGateDwIdeal := by
  intro m ρ m' ρ' _ hagree
  refine ⟨_, run m ρ, ?_⟩
  refine (θ_run (Cert.RefGateDwIdeal.defs (F := Ideal)) _ _).mono (fun _ h c => ?_) (Cert.RefGateDwIdeal.Value.run (F := Ideal) m' ρ')
  obtain ⟨e0, e1⟩ := hagree c
  obtain ⟨h0, hrest⟩ := h c
  refine ⟨h0.trans ?_, hrest⟩
  refine (Cert.RefGateDwIdeal.Read.val_main_v8_eq _ _).trans ?_
  rw [e0, e1]
  exact reference_eq _ _

end Cert.Proof.GateDw

end
-- ==== Proof.OutDx.lean ====
/- A product of the step, the gradient of the output projection's input: the kernel tiles the result over a grid of 4 points and keeps the whole contraction in
   a block, so both the kernel's result and the reference's are the same sum at each index. -/
module

public import proofs.«01_k».proof.Defs
public import proofs.«01_k».proof.Proof.Scalar
public import proofs.«01_k».proof.Proof.Product
public import proofs.«01_k».proof.Proof.Gen.OutDx.Frame
public import proofs.«01_k».proof.Proof.Gen.OutDxIdeal.Value
public import proofs.«01_k».proof.Proof.Gen.RefOutDxIdeal.Run
public import proofs.«01_k».proof.Proof.Gen.RefOutDxIdeal.Read
public import Idealize.ShloMosaic.Lib.Pipeline.ValueKit
public import Idealize.ShloMosaic.Adequacy
public import Idealize.ShloMosaic.Init

@[expose] public section

noncomputable section

namespace Cert.Proof.OutDx

open Idealize.ShloMosaic hiding ix0 ix1 ix2 eq_ix2
open Idealize.ShloMosaic.TcCoe Idealize.ShloMosaic.ValueIdx Cert.Proof Idealize.SL.Sem

section kernel

open Cert.OutDxIdeal Cert.OutDxIdeal.Gen

theorem hz : (![0, 0] : Fin 2 → Nat) = fun _ => 0 := funext fun a => by fin_cases a <;> rfl

/-- What a point stores at an index of its block. -/
theorem out_apply (a : Vec Ideal S1024x2048 .bf16) (b : Vec Ideal S1024x2048 .bf16) (r : Fin 1024) (j : Fin 1024) :
    (out0_2 a b (ix2 r j) : EReal) = ∑ k : Fin 2048, (a (ix2 r k) : EReal) * b (ix2 j k) := by
  unfold out0_2
  rw [View.canon_unit_zero hz, View.ld_unit_zero hz, View.ld_unit_zero hz]
  unfold k0_pay1
  exact Product.rows_rows r j _ a b

/-- The result as a function of the arguments. -/
def G (a : FVec Ideal S2048x2048 .bf16) (b : FVec Ideal S2048x2048 .bf16) : FVec Ideal S2048x2048 .f32 :=
  fun i => ∑ k : Fin 2048, (a (ix2 (i 0) k) : EReal) * b (ix2 (i 1) k)

variable (m : (ℓ : Loc nD τ sig) → Buf (Elt Ideal) ℓ) (ρ : Dev nD → PrngReg)

/-! A window's block index at a point. -/

theorem at0 : ∀ t : Fin cfg0.N, win0_0.index t = ![t.val / 2, 0] := (by decide +kernel : ∀ t : Fin grid0.N, _)
theorem at1 : ∀ t : Fin cfg0.N, win0_1.index t = ![t.val % 2, 0] := (by decide +kernel : ∀ t : Fin grid0.N, _)
theorem at2 : ∀ t : Fin cfg0.N, win0_2.index t = ![t.val / 2, t.val % 2] := (by decide +kernel : ∀ t : Fin grid0.N, _)

/-- The result's row and column that a row and a column of the block at point `t` are. -/
abbrev arow (t : Fin cfg0.N) (r : Fin 1024) : Fin 2048 := ⟨t.val / 2 * 1024 + r.val, by have h : t.val < 4 := t.isLt; omega⟩
abbrev acolumn (t : Fin cfg0.N) (j : Fin 1024) : Fin 2048 := ⟨t.val % 2 * 1024 + j.val, by omega⟩

theorem iblk0_apply (c : Dev nD) (t : Fin cfg0.N) (r : Fin 1024) (k : Fin 2048) :
    iblk m c 0 t (ix2 r k) = m ((c : Thread nD τ).loc main_arg0) (ix2 (arow t r) k) := by
  rw [← V_main_arg0 m c]; blk_simp [iblk]; congr 1; blk_ext [at0 t]

theorem iblk1_apply (c : Dev nD) (t : Fin cfg0.N) (j : Fin 1024) (k : Fin 2048) :
    iblk m c 1 t (ix2 j k) = m ((c : Thread nD τ).loc main_arg1) (ix2 (acolumn t j) k) := by
  rw [← V_main_arg1 m c]; blk_simp [iblk]; congr 1; blk_ext [at1 t]

theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, j, rfl⟩ : ∃ (r : Fin 1024) (j : Fin 1024), y = ix2 r j := ⟨_, _, eq_ix2 y⟩
  rw [show (win0_2.blk t).view.emb (ix2 r j) = ix2 (arow t r) (acolumn t j) from by blk_ext [at2 t]]
  refine (out_apply _ _ r j).trans ?_
  exact Finset.sum_congr rfl fun k _ => congrArg₂ (fun p q : EReal => p * q) (iblk0_apply m c t r k) (iblk1_apply m c t j k)

/-- The kernel's run, with its result at its function of the arguments. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.OutDxIdeal.Value.run_blocks m ρ)

end kernel

section reference

open Cert.RefOutDxIdeal Cert.RefOutDxIdeal.Read

theorem reference_eq (x0 : FVec Ideal S2048x2048 .bf16) (x1 : FVec Ideal S2048x2048 .bf16) : val_main_v4 (F := Ideal) x0 x1 = G x0 x1 := by
  funext y
  rw [val_main_v4_apply]
  · refine Finset.sum_congr rfl fun k _ => ?_
    rw [val_main_v0_apply, val_main_v1_apply]
    refine congrArg₂ (fun p q : EReal => p * q) (congrArg x0 (funext fun d => ?_)) (congrArg x1 (funext fun d => ?_))
    · match d with
      | ⟨0, _⟩ => rfl
      | ⟨1, _⟩ => rfl
    · match d with
      | ⟨0, _⟩ => rfl
      | ⟨1, _⟩ => rfl

end reference

theorem reference_frame : Cert.quiescent_RefOutDxIdeal := fun m ρ _ =>
  (θ_run Cert.RefOutDxIdeal.defs _ _).mono
    (fun r h => ⟨fun c => (h c).2, Idealize.ShloMosaic.sem_eq_zero_of_no_sems (by decide) r.2⟩)
    (Cert.RefOutDxIdeal.Value.run (F := Ideal) m ρ)

theorem algebraic : Cert.algebraic_OutDxIdeal_RefOutDxIdeal := by
  intro m ρ m' ρ' _ hagree
  refine ⟨_, run m ρ, ?_⟩
  refine (θ_run (Cert.RefOutDxIdeal.defs (F := Ideal)) _ _).mono (fun _ h c => ?_) (Cert.RefOutDxIdeal.Value.run (F := Ideal) m' ρ')
  obtain ⟨e0, e1⟩ := hagree c
  obtain ⟨h0, hrest⟩ := h c
  refine ⟨h0.trans ?_, hrest⟩
  refine (Cert.RefOutDxIdeal.Read.val_main_v4_eq _ _).trans ?_
  rw [e0, e1]
  exact reference_eq _ _

end Cert.Proof.OutDx

end
-- ==== Proof.OutDw.lean ====
/- A product of the step, the gradient of the output projection's weight: the kernel tiles the result over a grid of 4 points and keeps the whole contraction in
   a block, so both the kernel's result and the reference's are the same sum at each index. -/
module

public import proofs.«01_k».proof.Defs
public import proofs.«01_k».proof.Proof.Scalar
public import proofs.«01_k».proof.Proof.Product
public import proofs.«01_k».proof.Proof.Gen.OutDw.Frame
public import proofs.«01_k».proof.Proof.Gen.OutDwIdeal.Value
public import proofs.«01_k».proof.Proof.Gen.RefOutDwIdeal.Run
public import proofs.«01_k».proof.Proof.Gen.RefOutDwIdeal.Read
public import Idealize.ShloMosaic.Lib.Pipeline.ValueKit
public import Idealize.ShloMosaic.Adequacy
public import Idealize.ShloMosaic.Init

@[expose] public section

noncomputable section

namespace Cert.Proof.OutDw

open Idealize.ShloMosaic hiding ix0 ix1 ix2 eq_ix2
open Idealize.ShloMosaic.TcCoe Idealize.ShloMosaic.ValueIdx Cert.Proof Idealize.SL.Sem

section kernel

open Cert.OutDwIdeal Cert.OutDwIdeal.Gen

theorem hz : (![0, 0] : Fin 2 → Nat) = fun _ => 0 := funext fun a => by fin_cases a <;> rfl

/-- What a point stores at an index of its block. -/
theorem out_apply (a : Vec Ideal S2048x1024 .bf16) (b : Vec Ideal S2048x1024 .bf16) (r : Fin 1024) (j : Fin 1024) :
    (out0_2 a b (ix2 r j) : EReal) = ∑ k : Fin 2048, (a (ix2 k r) : EReal) * b (ix2 k j) := by
  unfold out0_2
  rw [View.canon_unit_zero hz, View.ld_unit_zero hz, View.ld_unit_zero hz]
  unfold k0_pay1
  exact Product.columns_columns r j _ a b

/-- The result as a function of the arguments. -/
def G (a : FVec Ideal S2048x2048 .bf16) (b : FVec Ideal S2048x2048 .bf16) : FVec Ideal S2048x2048 .bf16 :=
  fun i => ∑ k : Fin 2048, (a (ix2 k (i 0)) : EReal) * b (ix2 k (i 1))

variable (m : (ℓ : Loc nD τ sig) → Buf (Elt Ideal) ℓ) (ρ : Dev nD → PrngReg)

/-! A window's block index at a point. -/

theorem at0 : ∀ t : Fin cfg0.N, win0_0.index t = ![0, t.val / 2] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, t.val % 2] := (by decide +kernel : ∀ t : Fin grid0.N, _)

/-- The result's row and column that a row and a column of the block at point `t` are. -/
abbrev arow (t : Fin cfg0.N) (r : Fin 1024) : Fin 2048 := ⟨t.val / 2 * 1024 + r.val, by have h : t.val < 4 := t.isLt; omega⟩
abbrev acolumn (t : Fin cfg0.N) (j : Fin 1024) : Fin 2048 := ⟨t.val % 2 * 1024 + j.val, by omega⟩

theorem iblk0_apply (c : Dev nD) (t : Fin cfg0.N) (r : Fin 1024) (k : Fin 2048) :
    iblk m c 0 t (ix2 k r) = m ((c : Thread nD τ).loc main_arg0) (ix2 k (arow t r)) := by
  rw [← V_main_arg0 m c]; blk_simp [iblk]; congr 1; blk_ext [at0 t]

theorem iblk1_apply (c : Dev nD) (t : Fin cfg0.N) (j : Fin 1024) (k : Fin 2048) :
    iblk m c 1 t (ix2 k j) = m ((c : Thread nD τ).loc main_arg1) (ix2 k (acolumn t j)) := by
  rw [← V_main_arg1 m c]; blk_simp [iblk]; congr 1; blk_ext [at1 t]

theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, j, rfl⟩ : ∃ (r : Fin 1024) (j : Fin 1024), y = ix2 r j := ⟨_, _, eq_ix2 y⟩
  rw [show (win0_2.blk t).view.emb (ix2 r j) = ix2 (arow t r) (acolumn t j) from by blk_ext [at2 t]]
  refine (out_apply _ _ r j).trans ?_
  exact Finset.sum_congr rfl fun k _ => congrArg₂ (fun p q : EReal => p * q) (iblk0_apply m c t r k) (iblk1_apply m c t j k)

/-- The kernel's run, with its result at its function of the arguments. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.OutDwIdeal.Value.run_blocks m ρ)

end kernel

section reference

open Cert.RefOutDwIdeal Cert.RefOutDwIdeal.Read

theorem reference_eq (x0 : FVec Ideal S2048x2048 .bf16) (x1 : FVec Ideal S2048x2048 .bf16) : val_main_v6 (F := Ideal) x0 x1 = G x0 x1 := by
  funext y
  rw [val_main_v6_apply]
  show (val_main_v5 (F := Ideal) x0 x1 y : EReal) = _
  rw [val_main_v5_apply, val_main_v4_apply]
  · refine Finset.sum_congr rfl fun k _ => ?_
    rw [val_main_v0_apply, val_main_v1_apply]
    rw [mul_comm]
    refine congrArg₂ (fun p q : EReal => p * q) (congrArg x0 (funext fun d => ?_)) (congrArg x1 (funext fun d => ?_))
    · match d with
      | ⟨0, _⟩ => rfl
      | ⟨1, _⟩ => rfl
    · match d with
      | ⟨0, _⟩ => rfl
      | ⟨1, _⟩ => rfl

end reference

theorem reference_frame : Cert.quiescent_RefOutDwIdeal := fun m ρ _ =>
  (θ_run Cert.RefOutDwIdeal.defs _ _).mono
    (fun r h => ⟨fun c => (h c).2, Idealize.ShloMosaic.sem_eq_zero_of_no_sems (by decide) r.2⟩)
    (Cert.RefOutDwIdeal.Value.run (F := Ideal) m ρ)

theorem algebraic : Cert.algebraic_OutDwIdeal_RefOutDwIdeal := by
  intro m ρ m' ρ' _ hagree
  refine ⟨_, run m ρ, ?_⟩
  refine (θ_run (Cert.RefOutDwIdeal.defs (F := Ideal)) _ _).mono (fun _ h c => ?_) (Cert.RefOutDwIdeal.Value.run (F := Ideal) m' ρ')
  obtain ⟨e0, e1⟩ := hagree c
  obtain ⟨h0, hrest⟩ := h c
  refine ⟨h0.trans ?_, hrest⟩
  refine (Cert.RefOutDwIdeal.Read.val_main_v6_eq _ _).trans ?_
  rw [e0, e1]
  exact reference_eq _ _

end Cert.Proof.OutDw

end
-- ==== Proof.ProjDx.lean ====
/- A product of the step, the gradient of a layer's input: the kernel tiles the result over a grid of 8 points and keeps the whole contraction in
   a block, so both the kernel's result and the reference's are the same sum at each index. -/
module

public import proofs.«01_k».proof.Defs
public import proofs.«01_k».proof.Proof.Scalar
public import proofs.«01_k».proof.Proof.Product
public import proofs.«01_k».proof.Proof.Gen.ProjDx.Frame
public import proofs.«01_k».proof.Proof.Gen.ProjDxIdeal.Value
public import proofs.«01_k».proof.Proof.Gen.RefProjDxIdeal.Run
public import proofs.«01_k».proof.Proof.Gen.RefProjDxIdeal.Read
public import Idealize.ShloMosaic.Lib.Pipeline.ValueKit
public import Idealize.ShloMosaic.Adequacy
public import Idealize.ShloMosaic.Init

@[expose] public section

noncomputable section

namespace Cert.Proof.ProjDx

open Idealize.ShloMosaic hiding ix0 ix1 ix2 eq_ix2
open Idealize.ShloMosaic.TcCoe Idealize.ShloMosaic.ValueIdx Cert.Proof Idealize.SL.Sem

section kernel

open Cert.ProjDxIdeal Cert.ProjDxIdeal.Gen

theorem hz : (![0, 0] : Fin 2 → Nat) = fun _ => 0 := funext fun a => by fin_cases a <;> rfl

/-- What a point stores at an index of its block. -/
theorem out_apply (a : Vec Ideal S1024x5632 .bf16) (b : Vec Ideal S5632x512 .bf16) (t : Vec Ideal S1024x512 .f32) (r : Fin 1024) (j : Fin 512) :
    (out0_3 a b t (ix2 r j) : EReal) = (∑ k : Fin 5632, (a (ix2 r k) : EReal) * b (ix2 k j)) + Ideal.ofBits .f32 0x3FB504F3#32 * (t (ix2 r j) : EReal) := by
  unfold out0_3
  rw [View.canon_unit_zero hz, View.ld_unit_zero hz, View.ld_unit_zero hz, View.ld_unit_zero hz]
  unfold k0_pay1
  exact congrArg₂ (fun p q : EReal => p + q) (Product.rows_columns r j _ a b) rfl

/-- The result as a function of the arguments. -/
def G (a : FVec Ideal S2048x5632 .bf16) (b : FVec Ideal S5632x2048 .bf16) (t : FVec Ideal S2048x2048 .f32) : FVec Ideal S2048x2048 .f32 :=
  fun i => (∑ k : Fin 5632, (a (ix2 (i 0) k) : EReal) * b (ix2 k (i 1))) + Ideal.ofBits .f32 0x3FB504F3#32 * (t i : EReal)

variable (m : (ℓ : Loc nD τ sig) → Buf (Elt Ideal) ℓ) (ρ : Dev nD → PrngReg)

/-! A window's block index at a point. -/

theorem at0 : ∀ t : Fin cfg0.N, win0_0.index t = ![t.val / 4, 0] := (by decide +kernel : ∀ t : Fin grid0.N, _)
theorem at1 : ∀ t : Fin cfg0.N, win0_1.index t = ![0, t.val % 4] := (by decide +kernel : ∀ t : Fin grid0.N, _)
theorem at2 : ∀ t : Fin cfg0.N, win0_2.index t = ![t.val / 4, t.val % 4] := (by decide +kernel : ∀ t : Fin grid0.N, _)
theorem at3 : ∀ t : Fin cfg0.N, win0_3.index t = ![t.val / 4, t.val % 4] := (by decide +kernel : ∀ t : Fin grid0.N, _)

/-- The result's row and column that a row and a column of the block at point `t` are. -/
abbrev arow (t : Fin cfg0.N) (r : Fin 1024) : Fin 2048 := ⟨t.val / 4 * 1024 + r.val, by have h : t.val < 8 := t.isLt; omega⟩
abbrev acolumn (t : Fin cfg0.N) (j : Fin 512) : Fin 2048 := ⟨t.val % 4 * 512 + j.val, by omega⟩

theorem iblk0_apply (c : Dev nD) (t : Fin cfg0.N) (r : Fin 1024) (k : Fin 5632) :
    iblk m c 0 t (ix2 r k) = m ((c : Thread nD τ).loc main_arg0) (ix2 (arow t r) k) := by
  rw [← V_main_arg0 m c]; blk_simp [iblk]; congr 1; blk_ext [at0 t]

theorem iblk1_apply (c : Dev nD) (t : Fin cfg0.N) (j : Fin 512) (k : Fin 5632) :
    iblk m c 1 t (ix2 k j) = m ((c : Thread nD τ).loc main_arg1) (ix2 k (acolumn t j)) := by
  rw [← V_main_arg1 m c]; blk_simp [iblk]; congr 1; blk_ext [at1 t]

theorem iblk2_apply (c : Dev nD) (t : Fin cfg0.N) (r : Fin 1024) (j : Fin 512) :
    iblk m c 2 t (ix2 r j) = m ((c : Thread nD τ).loc main_arg2) (ix2 (arow t r) (acolumn t j)) := by
  rw [← V_main_arg2 m c]; blk_simp [iblk]; congr 1; blk_ext [at2 t]

theorem final (c : Dev nD) : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, j, rfl⟩ : ∃ (r : Fin 1024) (j : Fin 512), y = ix2 r j := ⟨_, _, eq_ix2 y⟩
  rw [show (win0_3.blk t).view.emb (ix2 r j) = ix2 (arow t r) (acolumn t j) from by blk_ext [at3 t]]
  refine (out_apply _ _ _ r j).trans ?_
  exact congrArg₂ (fun p q : EReal => p + Ideal.ofBits .f32 0x3FB504F3#32 * q) (Finset.sum_congr rfl fun k _ => congrArg₂ (fun p q : EReal => p * q) (iblk0_apply m c t r k) (iblk1_apply m c t j k)) (iblk2_apply m c t r j)

/-- The kernel's run, with its result at its function of the arguments. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.ProjDxIdeal.Value.run_blocks m ρ)

end kernel

section reference

open Cert.RefProjDxIdeal Cert.RefProjDxIdeal.Read

theorem reference_eq (x0 : FVec Ideal S2048x5632 .bf16) (x1 : FVec Ideal S5632x2048 .bf16) (x2 : FVec Ideal S2048x2048 .f32) : val_main_v10 (F := Ideal) x0 x1 x2 = G x0 x1 x2 := by
  funext y
  rw [val_main_v10_apply, val_main_v8_apply, val_main_v7_apply, val_main_cst_1_apply]
  show Ideal.ofBits .f32 0x3FB504F3#32 * (x2 y : EReal) + val_main_v9 (F := Ideal) x0 x1 y = _
  rw [val_main_v9_apply, add_comm]
  refine congrArg (fun p : EReal => p + Ideal.ofBits .f32 0x3FB504F3#32 * (x2 y : EReal)) ?_
  · refine Finset.sum_congr rfl fun k _ => ?_
    rw [val_main_v0_apply, val_main_v3_apply, val_main_v1_apply]
    refine congrArg₂ (fun p q : EReal => p * q) (congrArg x0 (funext fun d => ?_)) (congrArg x1 (funext fun d => ?_))
    · match d with
      | ⟨0, _⟩ => rfl
      | ⟨1, _⟩ => rfl
    · match d with
      | ⟨0, _⟩ => rfl
      | ⟨1, _⟩ => rfl

end reference

theorem reference_frame : Cert.quiescent_RefProjDxIdeal := fun m ρ _ =>
  (θ_run Cert.RefProjDxIdeal.defs _ _).mono
    (fun r h => ⟨fun c => (h c).2, Idealize.ShloMosaic.sem_eq_zero_of_no_sems (by decide) r.2⟩)
    (Cert.RefProjDxIdeal.Value.run (F := Ideal) m ρ)

theorem algebraic : Cert.algebraic_ProjDxIdeal_RefProjDxIdeal := by
  intro m ρ m' ρ' _ hagree
  refine ⟨_, run m ρ, ?_⟩
  refine (θ_run (Cert.RefProjDxIdeal.defs (F := Ideal)) _ _).mono (fun _ h c => ?_) (Cert.RefProjDxIdeal.Value.run (F := Ideal) m' ρ')
  obtain ⟨e0, e1, e2⟩ := hagree c
  obtain ⟨h0, hrest⟩ := h c
  refine ⟨h0.trans ?_, hrest⟩
  refine (Cert.RefProjDxIdeal.Read.val_main_v10_eq _ _ _).trans ?_
  rw [e0, e1, e2]
  exact reference_eq _ _ _

end Cert.Proof.ProjDx

end
-- ==== Proof.Proj.lean ====
/- A product of the step, the input projection: the kernel tiles the result over a grid of 8 points and keeps the whole contraction in
   a block, so both the kernel's result and the reference's are the same sum at each index. -/
module

public import proofs.«01_k».proof.Defs
public import proofs.«01_k».proof.Proof.Scalar
public import proofs.«01_k».proof.Proof.Product
public import proofs.«01_k».proof.Proof.Gen.Proj.Frame
public import proofs.«01_k».proof.Proof.Gen.ProjIdeal.Value
public import proofs.«01_k».proof.Proof.Gen.RefProjIdeal.Run
public import proofs.«01_k».proof.Proof.Gen.RefProjIdeal.Read
public import Idealize.ShloMosaic.Lib.Pipeline.ValueKit
public import Idealize.ShloMosaic.Adequacy
public import Idealize.ShloMosaic.Init

@[expose] public section

noncomputable section

namespace Cert.Proof.Proj

open Idealize.ShloMosaic hiding ix0 ix1 ix2 eq_ix2
open Idealize.ShloMosaic.TcCoe Idealize.ShloMosaic.ValueIdx Cert.Proof Idealize.SL.Sem

section kernel

open Cert.ProjIdeal Cert.ProjIdeal.Gen

theorem hz : (![0, 0] : Fin 2 → Nat) = fun _ => 0 := funext fun a => by fin_cases a <;> rfl

/-- What a point stores at an index of its block. -/
theorem out_apply (a : Vec Ideal S1024x2048 .bf16) (b : Vec Ideal S1408x2048 .bf16) (r : Fin 1024) (j : Fin 1408) :
    (out0_2 a b (ix2 r j) : EReal) = ∑ k : Fin 2048, (a (ix2 r k) : EReal) * b (ix2 j k) := by
  unfold out0_2
  rw [View.canon_unit_zero hz, View.ld_unit_zero hz, View.ld_unit_zero hz]
  unfold k0_pay1
  exact Product.rows_rows r j _ a b

/-- The result as a function of the arguments. -/
def G (a : FVec Ideal S2048x2048 .bf16) (b : FVec Ideal S5632x2048 .bf16) : FVec Ideal S2048x5632 .f32 :=
  fun i => ∑ k : Fin 2048, (a (ix2 (i 0) k) : EReal) * b (ix2 (i 1) k)

variable (m : (ℓ : Loc nD τ sig) → Buf (Elt Ideal) ℓ) (ρ : Dev nD → PrngReg)

/-! A window's block index at a point. -/

theorem at0 : ∀ t : Fin cfg0.N, win0_0.index t = ![t.val / 4, 0] := (by decide +kernel : ∀ t : Fin grid0.N, _)
theorem at1 : ∀ t : Fin cfg0.N, win0_1.index t = ![t.val % 4, 0] := (by decide +kernel : ∀ t : Fin grid0.N, _)
theorem at2 : ∀ t : Fin cfg0.N, win0_2.index t = ![t.val / 4, t.val % 4] := (by decide +kernel : ∀ t : Fin grid0.N, _)

/-- The result's row and column that a row and a column of the block at point `t` are. -/
abbrev arow (t : Fin cfg0.N) (r : Fin 1024) : Fin 2048 := ⟨t.val / 4 * 1024 + r.val, by have h : t.val < 8 := t.isLt; omega⟩
abbrev acolumn (t : Fin cfg0.N) (j : Fin 1408) : Fin 5632 := ⟨t.val % 4 * 1408 + j.val, by omega⟩

theorem iblk0_apply (c : Dev nD) (t : Fin cfg0.N) (r : Fin 1024) (k : Fin 2048) :
    iblk m c 0 t (ix2 r k) = m ((c : Thread nD τ).loc main_arg0) (ix2 (arow t r) k) := by
  rw [← V_main_arg0 m c]; blk_simp [iblk]; congr 1; blk_ext [at0 t]

theorem iblk1_apply (c : Dev nD) (t : Fin cfg0.N) (j : Fin 1408) (k : Fin 2048) :
    iblk m c 1 t (ix2 j k) = m ((c : Thread nD τ).loc main_arg1) (ix2 (acolumn t j) k) := by
  rw [← V_main_arg1 m c]; blk_simp [iblk]; congr 1; blk_ext [at1 t]

theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, j, rfl⟩ : ∃ (r : Fin 1024) (j : Fin 1408), y = ix2 r j := ⟨_, _, eq_ix2 y⟩
  rw [show (win0_2.blk t).view.emb (ix2 r j) = ix2 (arow t r) (acolumn t j) from by blk_ext [at2 t]]
  refine (out_apply _ _ r j).trans ?_
  exact Finset.sum_congr rfl fun k _ => congrArg₂ (fun p q : EReal => p * q) (iblk0_apply m c t r k) (iblk1_apply m c t j k)

/-- The kernel's run, with its result at its function of the arguments. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.ProjIdeal.Value.run_blocks m ρ)

end kernel

section reference

open Cert.RefProjIdeal Cert.RefProjIdeal.Read

theorem reference_eq (x0 : FVec Ideal S2048x2048 .bf16) (x1 : FVec Ideal S5632x2048 .bf16) : val_main_v3 (F := Ideal) x0 x1 = G x0 x1 := by
  funext y
  rw [val_main_v3_apply]
  · refine Finset.sum_congr rfl fun k _ => ?_
    rw [val_main_v0_apply, val_main_v2_apply, val_main_v1_apply]
    refine congrArg₂ (fun p q : EReal => p * q) (congrArg x0 (funext fun d => ?_)) (congrArg x1 (funext fun d => ?_))
    · match d with
      | ⟨0, _⟩ => rfl
      | ⟨1, _⟩ => rfl
    · match d with
      | ⟨0, _⟩ => rfl
      | ⟨1, _⟩ => rfl

end reference

theorem reference_frame : Cert.quiescent_RefProjIdeal := fun m ρ _ =>
  (θ_run Cert.RefProjIdeal.defs _ _).mono
    (fun r h => ⟨fun c => (h c).2, Idealize.ShloMosaic.sem_eq_zero_of_no_sems (by decide) r.2⟩)
    (Cert.RefProjIdeal.Value.run (F := Ideal) m ρ)

theorem algebraic : Cert.algebraic_ProjIdeal_RefProjIdeal := by
  intro m ρ m' ρ' _ hagree
  refine ⟨_, run m ρ, ?_⟩
  refine (θ_run (Cert.RefProjIdeal.defs (F := Ideal)) _ _).mono (fun _ h c => ?_) (Cert.RefProjIdeal.Value.run (F := Ideal) m' ρ')
  obtain ⟨e0, e1⟩ := hagree c
  obtain ⟨h0, hrest⟩ := h c
  refine ⟨h0.trans ?_, hrest⟩
  refine (Cert.RefProjIdeal.Read.val_main_v3_eq _ _).trans ?_
  rw [e0, e1]
  exact reference_eq _ _

end Cert.Proof.Proj

end
-- ==== Proof.MixOut.lean ====
/- A product of the step, the output projection: the kernel tiles the result over a grid of 4 points and keeps the whole contraction in
   a block, so both the kernel's result and the reference's are the same sum at each index. -/
module

public import proofs.«01_k».proof.Defs
public import proofs.«01_k».proof.Proof.Scalar
public import proofs.«01_k».proof.Proof.Product
public import proofs.«01_k».proof.Proof.Gen.MixOut.Frame
public import proofs.«01_k».proof.Proof.Gen.MixOutIdeal.Value
public import proofs.«01_k».proof.Proof.Gen.RefMixOutIdeal.Run
public import proofs.«01_k».proof.Proof.Gen.RefMixOutIdeal.Read
public import Idealize.ShloMosaic.Lib.Pipeline.ValueKit
public import Idealize.ShloMosaic.Adequacy
public import Idealize.ShloMosaic.Init

@[expose] public section

noncomputable section

namespace Cert.Proof.MixOut

open Idealize.ShloMosaic hiding ix0 ix1 ix2 eq_ix2
open Idealize.ShloMosaic.TcCoe Idealize.ShloMosaic.ValueIdx Cert.Proof Idealize.SL.Sem

section kernel

open Cert.MixOutIdeal Cert.MixOutIdeal.Gen

theorem hz : (![0, 0] : Fin 2 → Nat) = fun _ => 0 := funext fun a => by fin_cases a <;> rfl

/-- What a point stores at an index of its block. -/
theorem out_apply (a : Vec Ideal S1024x2048 .bf16) (b : Vec Ideal S2048x1024 .bf16) (r : Fin 1024) (j : Fin 1024) :
    (out0_2 a b (ix2 r j) : EReal) = ∑ k : Fin 2048, (a (ix2 r k) : EReal) * b (ix2 k j) := by
  unfold out0_2
  rw [View.canon_unit_zero hz, View.ld_unit_zero hz, View.ld_unit_zero hz]
  unfold k0_pay1
  exact Product.rows_columns r j _ a b

/-- The result as a function of the arguments. -/
def G (a : FVec Ideal S2048x2048 .bf16) (b : FVec Ideal S2048x2048 .bf16) : FVec Ideal S2048x2048 .f32 :=
  fun i => ∑ k : Fin 2048, (a (ix2 (i 0) k) : EReal) * b (ix2 k (i 1))

variable (m : (ℓ : Loc nD τ sig) → Buf (Elt Ideal) ℓ) (ρ : Dev nD → PrngReg)

/-! A window's block index at a point. -/

theorem at0 : ∀ t : Fin cfg0.N, win0_0.index t = ![t.val / 2, 0] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, t.val % 2] := (by decide +kernel : ∀ t : Fin grid0.N, _)

/-- The result's row and column that a row and a column of the block at point `t` are. -/
abbrev arow (t : Fin cfg0.N) (r : Fin 1024) : Fin 2048 := ⟨t.val / 2 * 1024 + r.val, by have h : t.val < 4 := t.isLt; omega⟩
abbrev acolumn (t : Fin cfg0.N) (j : Fin 1024) : Fin 2048 := ⟨t.val % 2 * 1024 + j.val, by omega⟩

theorem iblk0_apply (c : Dev nD) (t : Fin cfg0.N) (r : Fin 1024) (k : Fin 2048) :
    iblk m c 0 t (ix2 r k) = m ((c : Thread nD τ).loc main_arg0) (ix2 (arow t r) k) := by
  rw [← V_main_arg0 m c]; blk_simp [iblk]; congr 1; blk_ext [at0 t]

theorem iblk1_apply (c : Dev nD) (t : Fin cfg0.N) (j : Fin 1024) (k : Fin 2048) :
    iblk m c 1 t (ix2 k j) = m ((c : Thread nD τ).loc main_arg1) (ix2 k (acolumn t j)) := by
  rw [← V_main_arg1 m c]; blk_simp [iblk]; congr 1; blk_ext [at1 t]

theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, j, rfl⟩ : ∃ (r : Fin 1024) (j : Fin 1024), y = ix2 r j := ⟨_, _, eq_ix2 y⟩
  rw [show (win0_2.blk t).view.emb (ix2 r j) = ix2 (arow t r) (acolumn t j) from by blk_ext [at2 t]]
  refine (out_apply _ _ r j).trans ?_
  exact Finset.sum_congr rfl fun k _ => congrArg₂ (fun p q : EReal => p * q) (iblk0_apply m c t r k) (iblk1_apply m c t j k)

/-- The kernel's run, with its result at its function of the arguments. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.MixOutIdeal.Value.run_blocks m ρ)

end kernel

section reference

open Cert.RefMixOutIdeal Cert.RefMixOutIdeal.Read

theorem reference_eq (x0 : FVec Ideal S2048x2048 .bf16) (x1 : FVec Ideal S2048x2048 .bf16) : val_main_v2 (F := Ideal) x0 x1 = G x0 x1 := by
  funext y
  rw [val_main_v2_apply]
  · refine Finset.sum_congr rfl fun k _ => ?_
    rw [val_main_v0_apply, val_main_v1_apply]
    refine congrArg₂ (fun p q : EReal => p * q) (congrArg x0 (funext fun d => ?_)) (congrArg x1 (funext fun d => ?_))
    · match d with
      | ⟨0, _⟩ => rfl
      | ⟨1, _⟩ => rfl
    · match d with
      | ⟨0, _⟩ => rfl
      | ⟨1, _⟩ => rfl

end reference

theorem reference_frame : Cert.quiescent_RefMixOutIdeal := fun m ρ _ =>
  (θ_run Cert.RefMixOutIdeal.defs _ _).mono
    (fun r h => ⟨fun c => (h c).2, Idealize.ShloMosaic.sem_eq_zero_of_no_sems (by decide) r.2⟩)
    (Cert.RefMixOutIdeal.Value.run (F := Ideal) m ρ)

theorem algebraic : Cert.algebraic_MixOutIdeal_RefMixOutIdeal := by
  intro m ρ m' ρ' _ hagree
  refine ⟨_, run m ρ, ?_⟩
  refine (θ_run (Cert.RefMixOutIdeal.defs (F := Ideal)) _ _).mono (fun _ h c => ?_) (Cert.RefMixOutIdeal.Value.run (F := Ideal) m' ρ')
  obtain ⟨e0, e1⟩ := hagree c
  obtain ⟨h0, hrest⟩ := h c
  refine ⟨h0.trans ?_, hrest⟩
  refine (Cert.RefMixOutIdeal.Read.val_main_v2_eq _ _).trans ?_
  rw [e0, e1]
  exact reference_eq _ _

end Cert.Proof.MixOut

end
-- ==== Proof.Gate.lean ====
/- A product of the step, the gate projection: the kernel tiles the result over a grid of 8 points and keeps the whole contraction in
   a block, so both the kernel's result and the reference's are the same sum at each index. -/
module

public import proofs.«01_k».proof.Defs
public import proofs.«01_k».proof.Proof.Scalar
public import proofs.«01_k».proof.Proof.Product
public import proofs.«01_k».proof.Proof.Gen.Gate.Frame
public import proofs.«01_k».proof.Proof.Gen.GateIdeal.Value
public import proofs.«01_k».proof.Proof.Gen.RefGateIdeal.Run
public import proofs.«01_k».proof.Proof.Gen.RefGateIdeal.Read
public import Idealize.ShloMosaic.Lib.Pipeline.ValueKit
public import Idealize.ShloMosaic.Adequacy
public import Idealize.ShloMosaic.Init

@[expose] public section

noncomputable section

namespace Cert.Proof.Gate

open Idealize.ShloMosaic hiding ix0 ix1 ix2 eq_ix2
open Idealize.ShloMosaic.TcCoe Idealize.ShloMosaic.ValueIdx Cert.Proof Idealize.SL.Sem

section kernel

open Cert.GateIdeal Cert.GateIdeal.Gen

theorem hz : (![0, 0] : Fin 2 → Nat) = fun _ => 0 := funext fun a => by fin_cases a <;> rfl

/-- What a point stores at an index of its block. -/
theorem out_apply (a : Vec Ideal S1024x2048 .bf16) (b : Vec Ideal S1408x2048 .bf16) (r : Fin 1024) (j : Fin 1408) :
    (out0_2 a b (ix2 r j) : EReal) = ∑ k : Fin 2048, (a (ix2 r k) : EReal) * b (ix2 j k) := by
  unfold out0_2
  rw [View.canon_unit_zero hz, View.ld_unit_zero hz, View.ld_unit_zero hz]
  unfold k0_pay1
  exact Product.rows_rows r j _ a b

/-- The result as a function of the arguments. -/
def G (a : FVec Ideal S2048x2048 .bf16) (b : FVec Ideal S5632x2048 .bf16) : FVec Ideal S2048x5632 .bf16 :=
  fun i => ∑ k : Fin 2048, (a (ix2 (i 0) k) : EReal) * b (ix2 (i 1) k)

variable (m : (ℓ : Loc nD τ sig) → Buf (Elt Ideal) ℓ) (ρ : Dev nD → PrngReg)

/-! A window's block index at a point. -/

theorem at0 : ∀ t : Fin cfg0.N, win0_0.index t = ![t.val / 4, 0] := (by decide +kernel : ∀ t : Fin grid0.N, _)
theorem at1 : ∀ t : Fin cfg0.N, win0_1.index t = ![t.val % 4, 0] := (by decide +kernel : ∀ t : Fin grid0.N, _)
theorem at2 : ∀ t : Fin cfg0.N, win0_2.index t = ![t.val / 4, t.val % 4] := (by decide +kernel : ∀ t : Fin grid0.N, _)

/-- The result's row and column that a row and a column of the block at point `t` are. -/
abbrev arow (t : Fin cfg0.N) (r : Fin 1024) : Fin 2048 := ⟨t.val / 4 * 1024 + r.val, by have h : t.val < 8 := t.isLt; omega⟩
abbrev acolumn (t : Fin cfg0.N) (j : Fin 1408) : Fin 5632 := ⟨t.val % 4 * 1408 + j.val, by omega⟩

theorem iblk0_apply (c : Dev nD) (t : Fin cfg0.N) (r : Fin 1024) (k : Fin 2048) :
    iblk m c 0 t (ix2 r k) = m ((c : Thread nD τ).loc main_arg0) (ix2 (arow t r) k) := by
  rw [← V_main_arg0 m c]; blk_simp [iblk]; congr 1; blk_ext [at0 t]

theorem iblk1_apply (c : Dev nD) (t : Fin cfg0.N) (j : Fin 1408) (k : Fin 2048) :
    iblk m c 1 t (ix2 j k) = m ((c : Thread nD τ).loc main_arg1) (ix2 (acolumn t j) k) := by
  rw [← V_main_arg1 m c]; blk_simp [iblk]; congr 1; blk_ext [at1 t]

theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, j, rfl⟩ : ∃ (r : Fin 1024) (j : Fin 1408), y = ix2 r j := ⟨_, _, eq_ix2 y⟩
  rw [show (win0_2.blk t).view.emb (ix2 r j) = ix2 (arow t r) (acolumn t j) from by blk_ext [at2 t]]
  refine (out_apply _ _ r j).trans ?_
  exact Finset.sum_congr rfl fun k _ => congrArg₂ (fun p q : EReal => p * q) (iblk0_apply m c t r k) (iblk1_apply m c t j k)

/-- The kernel's run, with its result at its function of the arguments. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.GateIdeal.Value.run_blocks m ρ)

end kernel

section reference

open Cert.RefGateIdeal Cert.RefGateIdeal.Read

theorem reference_eq (x0 : FVec Ideal S2048x2048 .bf16) (x1 : FVec Ideal S5632x2048 .bf16) : val_main_v4 (F := Ideal) x0 x1 = G x0 x1 := by
  funext y
  rw [val_main_v4_apply]
  show (val_main_v3 (F := Ideal) x0 x1 y : EReal) = _
  rw [val_main_v3_apply]
  · refine Finset.sum_congr rfl fun k _ => ?_
    rw [val_main_v0_apply, val_main_v2_apply, val_main_v1_apply]
    refine congrArg₂ (fun p q : EReal => p * q) (congrArg x0 (funext fun d => ?_)) (congrArg x1 (funext fun d => ?_))
    · match d with
      | ⟨0, _⟩ => rfl
      | ⟨1, _⟩ => rfl
    · match d with
      | ⟨0, _⟩ => rfl
      | ⟨1, _⟩ => rfl

end reference

theorem reference_frame : Cert.quiescent_RefGateIdeal := fun m ρ _ =>
  (θ_run Cert.RefGateIdeal.defs _ _).mono
    (fun r h => ⟨fun c => (h c).2, Idealize.ShloMosaic.sem_eq_zero_of_no_sems (by decide) r.2⟩)
    (Cert.RefGateIdeal.Value.run (F := Ideal) m ρ)

theorem algebraic : Cert.algebraic_GateIdeal_RefGateIdeal := by
  intro m ρ m' ρ' _ hagree
  refine ⟨_, run m ρ, ?_⟩
  refine (θ_run (Cert.RefGateIdeal.defs (F := Ideal)) _ _).mono (fun _ h c => ?_) (Cert.RefGateIdeal.Value.run (F := Ideal) m' ρ')
  obtain ⟨e0, e1⟩ := hagree c
  obtain ⟨h0, hrest⟩ := h c
  refine ⟨h0.trans ?_, hrest⟩
  refine (Cert.RefGateIdeal.Read.val_main_v4_eq _ _).trans ?_
  rw [e0, e1]
  exact reference_eq _ _

end Cert.Proof.Gate

end
-- ==== Proof.Down.lean ====
/- A product of the step, the down projection: the kernel tiles the result over a grid of 8 points and keeps the whole contraction in
   a block, so both the kernel's result and the reference's are the same sum at each index. -/
module

public import proofs.«01_k».proof.Defs
public import proofs.«01_k».proof.Proof.Scalar
public import proofs.«01_k».proof.Proof.Product
public import proofs.«01_k».proof.Proof.Gen.Down.Frame
public import proofs.«01_k».proof.Proof.Gen.DownIdeal.Value
public import proofs.«01_k».proof.Proof.Gen.RefDownIdeal.Run
public import proofs.«01_k».proof.Proof.Gen.RefDownIdeal.Read
public import Idealize.ShloMosaic.Lib.Pipeline.ValueKit
public import Idealize.ShloMosaic.Adequacy
public import Idealize.ShloMosaic.Init

@[expose] public section

noncomputable section

namespace Cert.Proof.Down

open Idealize.ShloMosaic hiding ix0 ix1 ix2 eq_ix2
open Idealize.ShloMosaic.TcCoe Idealize.ShloMosaic.ValueIdx Cert.Proof Idealize.SL.Sem

section kernel

open Cert.DownIdeal Cert.DownIdeal.Gen

theorem hz : (![0, 0] : Fin 2 → Nat) = fun _ => 0 := funext fun a => by fin_cases a <;> rfl

/-- What a point stores at an index of its block. -/
theorem out_apply (a : Vec Ideal S1024x5632 .bf16) (b : Vec Ideal S5632x512 .bf16) (r : Fin 1024) (j : Fin 512) :
    (out0_2 a b (ix2 r j) : EReal) = ∑ k : Fin 5632, (a (ix2 r k) : EReal) * b (ix2 k j) := by
  unfold out0_2
  rw [View.canon_unit_zero hz, View.ld_unit_zero hz, View.ld_unit_zero hz]
  unfold k0_pay1
  exact Product.rows_columns r j _ a b

/-- The result as a function of the arguments. -/
def G (a : FVec Ideal S2048x5632 .bf16) (b : FVec Ideal S5632x2048 .bf16) : FVec Ideal S2048x2048 .f32 :=
  fun i => ∑ k : Fin 5632, (a (ix2 (i 0) k) : EReal) * b (ix2 k (i 1))

variable (m : (ℓ : Loc nD τ sig) → Buf (Elt Ideal) ℓ) (ρ : Dev nD → PrngReg)

/-! A window's block index at a point. -/

theorem at0 : ∀ t : Fin cfg0.N, win0_0.index t = ![t.val / 4, 0] := (by decide +kernel : ∀ t : Fin grid0.N, _)
theorem at1 : ∀ t : Fin cfg0.N, win0_1.index t = ![0, t.val % 4] := (by decide +kernel : ∀ t : Fin grid0.N, _)
theorem at2 : ∀ t : Fin cfg0.N, win0_2.index t = ![t.val / 4, t.val % 4] := (by decide +kernel : ∀ t : Fin grid0.N, _)

/-- The result's row and column that a row and a column of the block at point `t` are. -/
abbrev arow (t : Fin cfg0.N) (r : Fin 1024) : Fin 2048 := ⟨t.val / 4 * 1024 + r.val, by have h : t.val < 8 := t.isLt; omega⟩
abbrev acolumn (t : Fin cfg0.N) (j : Fin 512) : Fin 2048 := ⟨t.val % 4 * 512 + j.val, by omega⟩

theorem iblk0_apply (c : Dev nD) (t : Fin cfg0.N) (r : Fin 1024) (k : Fin 5632) :
    iblk m c 0 t (ix2 r k) = m ((c : Thread nD τ).loc main_arg0) (ix2 (arow t r) k) := by
  rw [← V_main_arg0 m c]; blk_simp [iblk]; congr 1; blk_ext [at0 t]

theorem iblk1_apply (c : Dev nD) (t : Fin cfg0.N) (j : Fin 512) (k : Fin 5632) :
    iblk m c 1 t (ix2 k j) = m ((c : Thread nD τ).loc main_arg1) (ix2 k (acolumn t j)) := by
  rw [← V_main_arg1 m c]; blk_simp [iblk]; congr 1; blk_ext [at1 t]

theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, j, rfl⟩ : ∃ (r : Fin 1024) (j : Fin 512), y = ix2 r j := ⟨_, _, eq_ix2 y⟩
  rw [show (win0_2.blk t).view.emb (ix2 r j) = ix2 (arow t r) (acolumn t j) from by blk_ext [at2 t]]
  refine (out_apply _ _ r j).trans ?_
  exact Finset.sum_congr rfl fun k _ => congrArg₂ (fun p q : EReal => p * q) (iblk0_apply m c t r k) (iblk1_apply m c t j k)

/-- The kernel's run, with its result at its function of the arguments. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.DownIdeal.Value.run_blocks m ρ)

end kernel

section reference

open Cert.RefDownIdeal Cert.RefDownIdeal.Read

theorem reference_eq (x0 : FVec Ideal S2048x5632 .bf16) (x1 : FVec Ideal S5632x2048 .bf16) : val_main_v2 (F := Ideal) x0 x1 = G x0 x1 := by
  funext y
  rw [val_main_v2_apply]
  · refine Finset.sum_congr rfl fun k _ => ?_
    rw [val_main_v0_apply, val_main_v1_apply]
    refine congrArg₂ (fun p q : EReal => p * q) (congrArg x0 (funext fun d => ?_)) (congrArg x1 (funext fun d => ?_))
    · match d with
      | ⟨0, _⟩ => rfl
      | ⟨1, _⟩ => rfl
    · match d with
      | ⟨0, _⟩ => rfl
      | ⟨1, _⟩ => rfl

end reference

theorem reference_frame : Cert.quiescent_RefDownIdeal := fun m ρ _ =>
  (θ_run Cert.RefDownIdeal.defs _ _).mono
    (fun r h => ⟨fun c => (h c).2, Idealize.ShloMosaic.sem_eq_zero_of_no_sems (by decide) r.2⟩)
    (Cert.RefDownIdeal.Value.run (F := Ideal) m ρ)

theorem algebraic : Cert.algebraic_DownIdeal_RefDownIdeal := by
  intro m ρ m' ρ' _ hagree
  refine ⟨_, run m ρ, ?_⟩
  refine (θ_run (Cert.RefDownIdeal.defs (F := Ideal)) _ _).mono (fun _ h c => ?_) (Cert.RefDownIdeal.Value.run (F := Ideal) m' ρ')
  obtain ⟨e0, e1⟩ := hagree c
  obtain ⟨h0, hrest⟩ := h c
  refine ⟨h0.trans ?_, hrest⟩
  refine (Cert.RefDownIdeal.Read.val_main_v2_eq _ _).trans ?_
  rw [e0, e1]
  exact reference_eq _ _

end Cert.Proof.Down

end
-- ==== Proof.AdamSmall.lean ====
/- The optimiser's step on the packed small parameters: the kernel's results and the reference's are the same functions of the
   arguments, element by element. -/
module

public import proofs.«01_k».proof.Defs
public import proofs.«01_k».proof.Proof.Gen.AdamSmall.Frame
public import proofs.«01_k».proof.Proof.Gen.AdamSmallIdeal.Value
public import proofs.«01_k».proof.Proof.Gen.RefAdamSmallIdeal.Run
public import proofs.«01_k».proof.Proof.Gen.RefAdamSmallIdeal.Read
public import Idealize.ShloMosaic.Adequacy
public import Idealize.ShloMosaic.Init

@[expose] public section

noncomputable section

namespace Cert.Proof.AdamSmall

open Idealize.ShloMosaic Idealize.ShloMosaic.TcCoe Idealize.SL.Sem

section reference

open Cert.RefAdamSmallIdeal Cert.RefAdamSmallIdeal.Read

variable (x0 x1 x2 x3 : FVec Ideal S264x128 .f32)

theorem moment_eq : val_main_v4 (F := Ideal) x0 x2 = Cert.AdamSmallIdeal.Value.G5 x0 x2 := by
  funext i
  rw [val_main_v4_apply, val_main_v1_apply, val_main_v0_apply, val_main_v3_apply, val_main_v2_apply]
  rfl

theorem second_eq : val_main_v10 (F := Ideal) x0 x3 = Cert.AdamSmallIdeal.Value.G6 x0 x3 := by
  funext i
  rw [val_main_v10_apply, val_main_v6_apply, val_main_v5_apply, val_main_v9_apply, val_main_v8_apply, val_main_v7_apply]
  rfl

theorem delta_eq : val_main_v23 (F := Ideal) x0 x1 x2 x3 = Cert.AdamSmallIdeal.Value.G4 x0 x1 x2 x3 := by
  funext i
  rw [val_main_v23_apply, val_main_v22_apply, val_main_v21_apply, val_main_v18_apply, val_main_v12_apply, val_main_v11_apply,
    val_main_v17_apply, val_main_v15_apply, val_main_v14_apply, val_main_v13_apply, val_main_v16_apply, val_main_v20_apply,
    val_main_v19_apply, moment_eq, second_eq]
  rfl

end reference

theorem reference_frame : Cert.quiescent_RefAdamSmallIdeal := fun m ρ _ =>
  (θ_run Cert.RefAdamSmallIdeal.defs _ _).mono
    (fun r h => ⟨fun c => (h c).2.2.2, Idealize.ShloMosaic.sem_eq_zero_of_no_sems (by decide) r.2⟩)
    (Cert.RefAdamSmallIdeal.Value.run (F := Ideal) m ρ)

theorem algebraic : Cert.algebraic_AdamSmallIdeal_RefAdamSmallIdeal := by
  intro m ρ m' ρ' _ hagree
  refine ⟨_, _, _, Cert.AdamSmallIdeal.Value.run m ρ, ?_⟩
  refine (θ_run (Cert.RefAdamSmallIdeal.defs (F := Ideal)) _ _).mono (fun _ h c => ?_) (Cert.RefAdamSmallIdeal.Value.run (F := Ideal) m' ρ')
  obtain ⟨e0, e1, e2, e3⟩ := hagree c
  obtain ⟨h0, h1, h2, hrest⟩ := h c
  refine ⟨h0.trans ?_, h1.trans ?_, h2.trans ?_, hrest⟩
  · refine (Cert.RefAdamSmallIdeal.Read.val_main_v23_eq _ _ _ _).trans ?_
    rw [e0, e1, e2, e3]
    exact delta_eq _ _ _ _
  · refine (Cert.RefAdamSmallIdeal.Read.val_main_v4_eq _ _).trans ?_
    rw [e0, e2]
    exact moment_eq _ _
  · refine (Cert.RefAdamSmallIdeal.Read.val_main_v10_eq _ _).trans ?_
    rw [e0, e3]
    exact second_eq _ _

end Cert.Proof.AdamSmall
-- ==== Proof.Step.lean ====
/- The optimiser's step at one element: the decayed moments and the change of the weight, and the sum of the four chips' parts. -/
module

public import Idealize.ShloMosaic.PureOps.Ideal.Laws
public import Idealize.ShloMosaic.Lib.KernelVsHost

@[expose] public section

noncomputable section

namespace Cert.Proof.Step

open Idealize.ShloMosaic

variable (g w m v : Ideal .f32)

/-- The new first moment. -/
def moment : Ideal .f32 :=
  FloatOps.addf (FloatOps.mulf (FloatOps.ofBits .f32 0x3F666666#32) m) (FloatOps.mulf (FloatOps.ofBits .f32 0x3DCCCCCD#32) g)

/-- The new second moment. -/
def second : Ideal .f32 :=
  FloatOps.addf (FloatOps.mulf (FloatOps.ofBits .f32 0x3F7FBE77#32) v)
    (FloatOps.mulf (FloatOps.ofBits .f32 0x3A83126F#32) (FloatOps.mulf g g))

/-- The change of the weight, from the new moments. -/
def change (m' v' : Ideal .f32) : Ideal .f32 :=
  FloatOps.mulf (FloatOps.ofBits .f32 0xBA83126F#32)
    (FloatOps.addf
      (FloatOps.divf (FloatOps.divf m' (FloatOps.ofBits .f32 0x3F26BD02#32))
        (FloatOps.addf (FloatOps.sqrt (FloatOps.divf v' (FloatOps.ofBits .f32 0x3C231ACC#32))) (FloatOps.ofBits .f32 0x322BCC77#32)))
      (FloatOps.mulf (FloatOps.ofBits .f32 0x3C23D70A#32) w))

/-- The change of the weight. -/
def delta : Ideal .f32 := change w (moment g m) (second g v)

/-- The sum of the chips' parts, this chip's own where the chip's number says so and the landed ones elsewhere. -/
def total (chip : BitVec 32) (own landed : Fin 4 → EReal) : EReal :=
  ∑ k : Fin 4, if chip = BitVec.ofNat 32 k.val then own k else landed k

/-- A choice made by an equality of two words. -/
theorem select_eq {α : Type} (a b : BitVec 32) (x y : α) : Scalar.select (IntOp.cmpi .eq a b) x y = if a = b then x else y := by
  by_cases h : a = b
  · subst h; simp [Scalar.select, IntOp.cmpi]
  · have e : (a == b) = false := beq_eq_false_iff_ne.mpr h
    simp [Scalar.select, IntOp.cmpi, h, e]

/-- The parts added one after another, the chip's own part already chosen. -/
theorem total_eq (chip : BitVec 32) (own landed : Fin 4 → EReal) (o : EReal)
    (ho : ∀ k : Fin 4, chip = BitVec.ofNat 32 k.val → o = own k) :
    (((Scalar.select (IntOp.cmpi .eq chip 0#32) o (landed 0) + Scalar.select (IntOp.cmpi .eq chip 1#32) o (landed 1))
      + Scalar.select (IntOp.cmpi .eq chip 2#32) o (landed 2)) + Scalar.select (IntOp.cmpi .eq chip 3#32) o (landed 3) : EReal)
      = total chip own landed := by
  have key : ∀ k : Fin 4, Scalar.select (IntOp.cmpi .eq chip (BitVec.ofNat 32 k.val)) o (landed k)
      = if chip = BitVec.ofNat 32 k.val then own k else landed k := fun k => by
    rw [select_eq]
    split
    · rename_i h; exact ho k h
    · rfl
  unfold total
  rw [Fin.sum_univ_four, ← key 0, ← key 1, ← key 2, ← key 3]
  rfl

/-- The comparison of a chip's number with the four chips' numbers, its bounds read off the words. -/
theorem chip_lt (chip : BitVec 32) (h0 : IntOp.cmpi .sge chip 0#32 = 1#1) (h4 : IntOp.cmpi .slt chip 4#32 = 1#1) : chip.toNat < 4 := by
  have one (p : Bool) : (BitVec.ofBool p = 1#1) ↔ p = true := by cases p <;> decide
  simp only [IntOp.cmpi, one, BitVec.sle, BitVec.slt, decide_eq_true_eq, BitVec.toInt, BitVec.toNat_ofNat] at h0 h4
  have := chip.isLt
  omega

end Cert.Proof.Step
-- ==== Proof.Layer.lean ====
/- The two layers of an array and the blocks of its rows, at whatever number of rows: casts, slabs, cuts and stacks read at an element. -/
module

public import proofs.«01_k».proof.Proof.Step
public import proofs.«01_k».proof.Defs
public import Idealize.ShloMosaic.Lib.Pipeline.ValueKit
public import Idealize.ShloMosaic.Lib.ValueIdx
public import Idealize.ShloMosaic.Init

@[expose] public section

noncomputable section

namespace Cert.Proof.Layer

open Idealize.ShloMosaic hiding ix0 ix1 ix2 ix3 eq_ix2 eq_ix3
open Idealize.ShloMosaic.ValueIdx Idealize.ShloMosaic.TcCoe Idealize.SL.Sem

abbrev Flat (n : ℕ) : Shape := ⟨2, ![n, 2048]⟩
abbrev One (n : ℕ) : Shape := ⟨3, ![1, n, 2048]⟩
abbrev Two (n : ℕ) : Shape := ⟨3, ![2, n, 2048]⟩
abbrev Four (n : ℕ) : Shape := ⟨3, ![4, n, 2048]⟩

theorem pair {a b : ℕ} (i : Shape.Idx ⟨2, ![a, b]⟩) : ∃ (r : Fin a) (j : Fin b), i = ix2 r j := ⟨_, _, eq_ix2 i⟩
theorem triple {a b c : ℕ} (i : Shape.Idx ⟨3, ![a, b, c]⟩) : ∃ (z : Fin a) (r : Fin b) (j : Fin c), i = ix3 z r j := ⟨_, _, _, eq_ix3 i⟩

variable {n : ℕ} {η : FTy} (r : Fin n) (j : Fin 2048)

theorem down (x : FVec Ideal (One n) η) (h : (One n).ShapeCasts (Flat n)) : shapeCast (Flat n) x h (ix2 r j) = x (ix3 0 r j) :=
  shapeCast_apply _ _ _ _ (by rw [Shape.rowMajor_val_two, Shape.rowMajor_val_three]; show (0 * n + r.val) * 2048 + j.val = r.val * 2048 + j.val; omega)

theorem up (x : FVec Ideal (Flat n) η) (h : (Flat n).ShapeCasts (One n)) (z : Fin 1) : shapeCast (One n) x h (ix3 z r j) = x (ix2 r j) :=
  shapeCast_apply _ _ _ _ (by
    rw [Shape.rowMajor_val_two, Shape.rowMajor_val_three]
    show r.val * 2048 + j.val = (z.val * n + r.val) * 2048 + j.val
    rw [show z.val = 0 by omega, Nat.zero_mul, Nat.zero_add])

theorem choose_apply {s : Shape} (b : BitVec 1) (x y : FVec Ideal s .f32) (i : s.Idx) : Scalar.select b x y i = Scalar.select b (x i) (y i) := by
  unfold Scalar.select; split <;> rfl

/-- A slab of the block of landed parts. -/
theorem slab (x : Vec Ideal (Four n) .bf16) (k : Fin 4) (l : Nat) (hl : k.val = l) (h : ∀ a, (![l, 0, 0] : Fin 3 → Nat) a + (![1, n, 2048] : Fin 3 → Nat) a ≤ (Four n).size a) :
    View.ld x (Rect.unit (s := Four n) ![l, 0, 0] ![1, n, 2048] h) (ix3 0 r j) = x (ix3 k r j) := by
  subst hl
  exact congrArg x (funext fun a => Fin.ext (by match a with
    | ⟨0, _⟩ => show k.val + 1 * 0 = k.val; omega
    | ⟨1, _⟩ => show 0 + 1 * r.val = r.val; omega
    | ⟨2, _⟩ => show 0 + 1 * j.val = j.val; omega))

/-- A layer of the array from the call, the other one from the array before it. -/
abbrev half (z : ℕ) (f : Fin n → Fin 2048 → EReal) (x : FVec Ideal (Two n) .f32) : FVec Ideal (Two n) .f32 :=
  fun i : (Two n).Idx => if (i 0 : ℕ) / 1 = z then f (i 1) (i 2) else x i

/-- The second layer of an array. -/
theorem cut (x : FVec Ideal (Two n) .f32) (hs : (Two n).Slices ![1, 0, 0] (One n)) (hc : (One n).ShapeCasts (Flat n)) :
    shapeCast (Flat n) (extractStridedSlice (One n) ![1, 0, 0] x hs) hc (ix2 r j) = x (ix3 1 r j) := by
  refine (down r j _ hc).trans ?_
  unfold extractStridedSlice
  exact congrArg x (funext fun a => Fin.ext (by match a with
    | ⟨0, _⟩ => rfl
    | ⟨1, _⟩ => show 0 + r.val = r.val; omega
    | ⟨2, _⟩ => show 0 + j.val = j.val; omega))

theorem cut_half (f : Fin n → Fin 2048 → EReal) (x y : FVec Ideal (Two n) .f32) (e : y = half 1 f x) (hs : (Two n).Slices ![1, 0, 0] (One n)) (hc : (One n).ShapeCasts (Flat n)) :
    shapeCast (Flat n) (extractStridedSlice (One n) ![1, 0, 0] y hs) hc = fun i : (Flat n).Idx => f (i 0) (i 1) := by
  subst e
  funext i
  obtain ⟨r, j, rfl⟩ := pair i
  exact (cut r j _ hs hc).trans (if_pos (rfl : ((1 : Fin 2) : ℕ) / 1 = 1))

/-- The place of a layer's element in the array. -/
theorem at_layer (z : Fin 2) (i : (One n).Idx) (h0 : (i 0).val = 0) (h1 : (i 1).val = (r.val * 2048 + j.val) / 2048 % n) (h2 : (i 2).val = (r.val * 2048 + j.val) % 2048)
    (k : (Two n).Idx) (e0 : (k 0).val = z.val + (i 0).val) (e1 : (k 1).val = (i 1).val) (e2 : (k 2).val = (i 2).val) : k = ix3 z r j :=
  funext fun a => Fin.ext (by
    have hj := j.isLt
    match a with
    | ⟨0, _⟩ => show (k 0).val = z.val; omega
    | ⟨1, _⟩ =>
      show (k 1).val = r.val
      rw [e1, h1, show (r.val * 2048 + j.val) / 2048 = r.val by omega, Nat.mod_eq_of_lt r.isLt]
    | ⟨2, _⟩ => show (k 2).val = j.val; omega)

/-- Two layers set one after the other. -/
theorem stack_apply (a b : FVec Ideal (One n) .f32) (h : Shape.Concatenates [One n, One n] (Two n) 0) (z : Fin 2) :
    concatenate (Two n) 0 [⟨One n, a⟩, ⟨One n, b⟩] h (ix3 z r j) = if (z : ℕ) / 1 = 0 then a (ix3 0 r j) else b (ix3 0 r j) := by
  rw [Nat.div_one]
  match z with
  | ⟨0, _⟩ =>
    rw [if_pos rfl]
    exact concatenate_pair_apply_left (t := Two n) (s₁ := One n) (s₂ := One n) 0 a b h _ rfl (ix3 0 r j) (fun d => by
      match d with
      | ⟨0, _⟩ => rfl
      | ⟨1, _⟩ => rfl
      | ⟨2, _⟩ => rfl)
  | ⟨1, _⟩ =>
    refine Eq.trans ?_ (if_neg (show ¬ ((1 : ℕ) = 0) by decide)).symm
    exact concatenate_pair_apply_right (t := Two n) (s₁ := One n) (s₂ := One n) 0 a b h _ rfl rfl (ix3 0 r j) (fun d hd => by
      match d with
      | ⟨0, _⟩ => exact absurd rfl hd
      | ⟨1, _⟩ => rfl
      | ⟨2, _⟩ => rfl) rfl

/-- A table of one word is the word. -/
theorem one_word (w : IVec ⟨0, ![]⟩ 32) (h : Shape.ShapeCasts ⟨0, ![]⟩ ⟨1, ![1]⟩) (x : Shape.Idx ⟨1, ![1]⟩) : shapeCast ⟨1, ![1]⟩ w h x = w (fun a => a.elim0) :=
  shapeCast_apply _ _ _ _ (by
    have hx : (Shape.rowMajor ⟨1, ![1]⟩ x).val < 1 := (Shape.rowMajor ⟨1, ![1]⟩ x).isLt
    have hy : (Shape.rowMajor ⟨0, ![]⟩ (fun a => a.elim0)).val < 1 := (Shape.rowMajor ⟨0, ![]⟩ (fun a => a.elim0)).isLt
    omega)

theorem chip_eq (w : BitVec 32) (h : w.toNat < 4) : ∃ q : Fin 4, w = BitVec.ofNat 32 q.val := ⟨⟨_, h⟩, (BitVec.ofNat_toNat 32 w).symm ▸ by simp⟩

/-- A chip's number names one chip. -/
theorem one_chip {w : BitVec 32} {q k : Fin 4} (hq : w = BitVec.ofNat 32 q.val) (hk : w = BitVec.ofNat 32 k.val) : q = k := by
  have e := congrArg BitVec.toNat (hq.symm.trans hk)
  simp only [BitVec.toNat_ofNat] at e
  exact Fin.ext (by omega)

end Cert.Proof.Layer
-- ==== Proof.Upper.lean ====
module

public import proofs.«01_k».proof.Defs
public import proofs.«01_k».proof.Proof.Layer
public import proofs.«01_k».proof.Proof.Gen.Upper.Frame
public import proofs.«01_k».proof.Proof.Gen.UpperIdeal.Frame
public import proofs.«01_k».proof.Proof.Gen.RefUpperIdeal.Run
public import proofs.«01_k».proof.Proof.Gen.RefUpperIdeal.Read
public import proofs.«01_k».proof.Proof.Gen.Pre_a_chip_upper
public import Idealize.ShloMosaic.Lib.StableHlo.Predicate
public import Idealize.ShloMosaic.Lib.Pipeline.ValueKit
public import Idealize.ShloMosaic.Lib.ValueIdx
public import Idealize.ShloMosaic.Adequacy
public import Idealize.ShloMosaic.Init

@[expose] public section

noncomputable section

namespace Cert.Proof.Upper

open Idealize.ShloMosaic hiding ix0 ix1 ix2 ix3 eq_ix2 eq_ix3
open Idealize.ShloMosaic.TcCoe Idealize.ShloMosaic.ValueIdx Idealize.SL.Sem Cert.Proof.Step Cert.Proof.Layer

section value

open Cert.UpperIdeal Cert.UpperIdeal.Gen

theorem down_apply {η : FTy} (x : FVec Ideal S1x64x2048 η) (r : Fin 64) (j : Fin 2048) :
    shapeCast S64x2048 x shapeCasts_S1x64x2048_S64x2048 (ix2 r j) = x (ix3 0 r j) := down r j x _

theorem up_apply {η : FTy} (x : FVec Ideal S64x2048 η) (z : Fin 1) (r : Fin 64) (j : Fin 2048) :
    shapeCast S1x64x2048 x shapeCasts_S64x2048_S1x64x2048 (ix3 z r j) = x (ix2 r j) := up r j x _ z

/-- The sum of the parts, at a row and a column of the block. -/
theorem pay3_apply (o a0 a1 a2 a3 : Vec Ideal S1x64x2048 .bf16) (w : BitVec 32) (r : Fin 64) (j : Fin 2048) :
    k0_pay3 o w a0 w a1 w a2 w a3 (ix2 r j)
      = (((Scalar.select (IntOp.cmpi .eq w 0#32) (o (ix3 0 r j)) (a0 (ix3 0 r j)) + Scalar.select (IntOp.cmpi .eq w 1#32) (o (ix3 0 r j)) (a1 (ix3 0 r j)))
        + Scalar.select (IntOp.cmpi .eq w 2#32) (o (ix3 0 r j)) (a2 (ix3 0 r j)))
        + Scalar.select (IntOp.cmpi .eq w 3#32) (o (ix3 0 r j)) (a3 (ix3 0 r j)) : EReal) := by
  rw [← down_apply (η := .bf16) o, ← down_apply (η := .bf16) a0, ← down_apply (η := .bf16) a1, ← down_apply (η := .bf16) a2, ← down_apply (η := .bf16) a3]
  unfold k0_pay3
  simp only [addf_apply, choose_apply]
  rfl

theorem pay5_apply (g : FVec Ideal S64x2048 .f32) (v : Vec Ideal S1x64x2048 .f32) (r : Fin 64) (j : Fin 2048) :
    k0_pay5 g v (ix2 r j) = moment (g (ix2 r j)) (v (ix3 0 r j)) := by
  rw [← down_apply v]; rfl

theorem pay6_apply (g : FVec Ideal S64x2048 .f32) (v : Vec Ideal S1x64x2048 .f32) (r : Fin 64) (j : Fin 2048) :
    k0_pay6 g v (ix2 r j) = second (g (ix2 r j)) (v (ix3 0 r j)) := by
  rw [← down_apply v]; rfl

theorem pay8_apply (g : FVec Ideal S64x2048 .f32) (w m v : Vec Ideal S1x64x2048 .f32) (z : Fin 1) (r : Fin 64) (j : Fin 2048) :
    k0_pay8 g (k0_pay4 w) m v (ix3 z r j) = delta (g (ix2 r j)) (w (ix3 0 r j)) (m (ix3 0 r j)) (v (ix3 0 r j)) := by
  unfold k0_pay8
  refine (up_apply _ z r j).trans ?_
  unfold delta
  rw [← pay5_apply, ← pay6_apply, ← down_apply w]
  rfl

variable (m : (ℓ : Loc nD τ sig) → Buf (Elt Ideal) ℓ)

/-- The chip's number. -/
abbrev chip : BitVec 32 := m (((0 : Dev nD) : Thread nD τ).loc main_arg2) (fun a => a.elim0)

set_option backward.proofsInPublic true in
/-- A table of one word. -/
def word (w : BitVec 32) : pre0.Contents (Elt Ideal) := fun | ⟨0, _⟩ => fun _ => w | ⟨_ + 1, h⟩ => absurd h (by simp)

theorem tbl_eq : tbl m = word (chip m) := by
  have h : V m (0 : Dev nD) main_v0 = shapeCast S1 (m (((0 : Dev nD) : Thread nD τ).loc main_arg2) : IVec S_ 32) shapeCasts_S_S1 := by
    show StableHlo.after hostOps0 (fun b => m ((0 : Dev nD), b)) (Proc.devRef .tc main_v0) = _
    unfold hostOps0
    rw [StableHlo.after_cons, StableHlo.after_nil, StableHlo.reshape_result]
    rfl
  funext j x
  match j with
  | ⟨0, _⟩ =>
    refine (congrFun h x).trans ?_
    exact one_word _ _ x

theorem word_ok : ∀ q : Fin 4, ok0 (word (BitVec.ofNat 32 q.val)) := by decide +kernel

theorem chip_of_pre (h : Cert.Pre_UpperIdeal m) : (chip m).toNat < 4 := by
  have one (a b : BitVec 1) : IntOp.andi a b = 1#1 ↔ a = 1#1 ∧ b = 1#1 := by revert a b; decide
  have e := congrFun (h 0) (fun a => a.elim0)
  simp only [Cert.Pre_a_chip_upper.fn, constantI, cmpi, andi, one] at e
  exact chip_lt _ e.1 e.2

theorem ok_of_pre (h : Cert.Pre_UpperIdeal m) : Ok m := by
  obtain ⟨q, hq⟩ := chip_eq (chip m) (chip_of_pre m h)
  unfold Ok
  rw [tbl_eq, hq]
  exact word_ok q

/-! ### Where the blocks lie -/

/-- The chip is the number `q`. -/
abbrev Own (q : Fin 4) : Prop := chip m = BitVec.ofNat 32 q.val

theorem at1 (hO : Ok m) (q : Fin 4) (hq : Own m q) (t : Fin (cfgM m hO).N) :
    ((cfgM m hO).win 1).index t = ![q.val, t.val, 0] := by
  have key : ∀ (q : Fin 4) (t : Fin grid0.N), cc0_transform_1 inb_S1_S1_0 numel1_S1 (word (BitVec.ofNat 32 q.val)) (grid0.coords t) = ![q.val, t.val, 0] := by
    decide +kernel
  show cc0_transform_1 inb_S1_S1_0 numel1_S1 (tbl m) (grid0.coords t) = _
  rw [tbl_eq, hq]
  exact key q t

theorem at0 (hO : Ok m) (t : Fin (cfgM m hO).N) : ((cfgM m hO).win 0).index t = ![0, t.val, 0] :=
  (by decide +kernel : ∀ t : Fin grid0.N, cc0_transform_0 (grid0.coords t) = ![0, t.val, 0]) t

theorem at2 (hO : Ok m) (t : Fin (cfgM m hO).N) : ((cfgM m hO).win 2).index t = ![1, t.val, 0] :=
  (by decide +kernel : ∀ t : Fin grid0.N, cc0_transform_2 (grid0.coords t) = ![1, t.val, 0]) t

theorem at5 (hO : Ok m) (t : Fin (cfgM m hO).N) : ((cfgM m hO).win 5).index t = ![1, t.val, 0] := at2 m hO t

abbrev row (hO : Ok m) (t : Fin (cfgM m hO).N) (r : Fin 64) : Fin 704 := ⟨t.val * 64 + r.val, by have h : t.val < 11 := t.isLt; omega⟩

theorem iblk0_apply (hO : Ok m) (c : Dev nD) (t : Fin (cfgM m hO).N) (k : Fin 4) (r : Fin 64) (j : Fin 2048) :
    iblk m hO c 0 t (ix3 k r j) = m ((c : Thread nD τ).loc main_arg0) (ix3 k (row m hO t r) j) := by
  rw [← V_main_arg0 m c]; blk_simp [iblk]; congr 1; blk_ext [at0 m hO t]

theorem iblk1_apply (hO : Ok m) (q : Fin 4) (hq : Own m q) (c : Dev nD) (t : Fin (cfgM m hO).N) (r : Fin 64) (j : Fin 2048) :
    iblk m hO c 1 t (ix3 (0 : Fin 1) r j) = m ((c : Thread nD τ).loc main_arg1) (ix3 q (row m hO t r) j) := by
  rw [← V_main_arg1 m c]; blk_simp [iblk]; congr 1; blk_ext [at1 m hO q hq t]

theorem iblk2_apply (hO : Ok m) (c : Dev nD) (t : Fin (cfgM m hO).N) (r : Fin 64) (j : Fin 2048) :
    iblk m hO c 2 t (ix3 (0 : Fin 1) r j) = m ((c : Thread nD τ).loc main_arg3) (ix3 1 (row m hO t r) j) := by
  rw [← V_main_arg3 m c]; blk_simp [iblk]; congr 1; blk_ext [at2 m hO t]

theorem at3 (hO : Ok m) (t : Fin (cfgM m hO).N) : ((cfgM m hO).win 3).index t = ![1, t.val, 0] := at2 m hO t
theorem at4 (hO : Ok m) (t : Fin (cfgM m hO).N) : ((cfgM m hO).win 4).index t = ![1, t.val, 0] := at2 m hO t
theorem at6 (hO : Ok m) (t : Fin (cfgM m hO).N) : ((cfgM m hO).win 6).index t = ![1, t.val, 0] := at2 m hO t
theorem at7 (hO : Ok m) (t : Fin (cfgM m hO).N) : ((cfgM m hO).win 7).index t = ![1, t.val, 0] := at2 m hO t
theorem at8 (hO : Ok m) (t : Fin (cfgM m hO).N) : ((cfgM m hO).win 8).index t = ![1, t.val, 0] := at2 m hO t

theorem iblk3_apply (hO : Ok m) (c : Dev nD) (t : Fin (cfgM m hO).N) (r : Fin 64) (j : Fin 2048) :
    iblk m hO c 3 t (ix3 (0 : Fin 1) r j) = m ((c : Thread nD τ).loc main_arg4) (ix3 1 (row m hO t r) j) := by
  rw [← V_main_arg4 m c]; blk_simp [iblk]; congr 1; blk_ext [at3 m hO t]

theorem iblk4_apply (hO : Ok m) (c : Dev nD) (t : Fin (cfgM m hO).N) (r : Fin 64) (j : Fin 2048) :
    iblk m hO c 4 t (ix3 (0 : Fin 1) r j) = m ((c : Thread nD τ).loc main_arg5) (ix3 1 (row m hO t r) j) := by
  rw [← V_main_arg5 m c]; blk_simp [iblk]; congr 1; blk_ext [at4 m hO t]

/-! ### The results at an element -/

/-- The gradient at a row and a column: the chips' parts added. -/
def gradAt (c : Dev nD) (r : Fin 704) (j : Fin 2048) : EReal :=
  total (chip m) (fun k => m ((c : Thread nD τ).loc main_arg1) (ix3 k r j)) (fun k => m ((c : Thread nD τ).loc main_arg0) (ix3 k r j))
def deltaAt (c : Dev nD) (r : Fin 704) (j : Fin 2048) : EReal :=
  delta (gradAt m c r j) (m ((c : Thread nD τ).loc main_arg3) (ix3 1 r j)) (m ((c : Thread nD τ).loc main_arg4) (ix3 1 r j))
    (m ((c : Thread nD τ).loc main_arg5) (ix3 1 r j))
def momentAt (c : Dev nD) (r : Fin 704) (j : Fin 2048) : EReal :=
  moment (gradAt m c r j) (m ((c : Thread nD τ).loc main_arg4) (ix3 1 r j))
def secondAt (c : Dev nD) (r : Fin 704) (j : Fin 2048) : EReal :=
  second (gradAt m c r j) (m ((c : Thread nD τ).loc main_arg5) (ix3 1 r j))

/-- What the body makes of a block's parts: the gradient. -/
theorem sum_apply (hO : Ok m) (q : Fin 4) (hq : Own m q) (c : Dev nD) (t : Fin (cfgM m hO).N)
    (o : Vec Ideal S1x64x2048 .bf16) (x : Vec Ideal S4x64x2048 .bf16) (w : BitVec 32) (ho : o = iblk m hO c 1 t) (hx : x = iblk m hO c 0 t)
    (hw : w = chip m) (h0 h1 h2 h3) (r : Fin 64) (j : Fin 2048) :
    k0_pay3 o w (View.ld x (Rect.unit (s := S4x64x2048) ![0, 0, 0] ![1, 64, 2048] h0)) w (View.ld x (Rect.unit (s := S4x64x2048) ![1, 0, 0] ![1, 64, 2048] h1))
      w (View.ld x (Rect.unit (s := S4x64x2048) ![2, 0, 0] ![1, 64, 2048] h2)) w (View.ld x (Rect.unit (s := S4x64x2048) ![3, 0, 0] ![1, 64, 2048] h3)) (ix2 r j)
      = gradAt m c (row m hO t r) j := by
  subst hw
  have eo : o (ix3 0 r j) = m ((c : Thread nD τ).loc main_arg1) (ix3 q (row m hO t r) j) := (congrFun ho _).trans (iblk1_apply m hO q hq c t r j)
  have ex : ∀ k : Fin 4, x (ix3 k r j) = m ((c : Thread nD τ).loc main_arg0) (ix3 k (row m hO t r) j) := fun k =>
    (congrFun hx _).trans (iblk0_apply m hO c t k r j)
  rw [pay3_apply, slab r j x 0 0 rfl h0, slab r j x 1 1 rfl h1, slab r j x 2 2 rfl h2, slab r j x 3 3 rfl h3, eo, ex, ex, ex, ex]
  refine total_eq (chip m) _ (fun k => m ((c : Thread nD τ).loc main_arg0) (ix3 k (row m hO t r) j)) _ fun k hk => ?_
  rw [one_chip hq hk]

theorem pay7_apply (x : FVec Ideal S64x2048 .f32) (z : Fin 1) (r : Fin 64) (j : Fin 2048) : k0_pay7 x (ix3 z r j) = x (ix2 r j) := up_apply _ z r j
theorem pay1_apply (x : FVec Ideal S64x2048 .f32) (z : Fin 1) (r : Fin 64) (j : Fin 2048) : k0_pay1 x (ix3 z r j) = x (ix2 r j) := up_apply _ z r j
theorem pay2_apply (x : FVec Ideal S64x2048 .f32) (z : Fin 1) (r : Fin 64) (j : Fin 2048) : k0_pay2 x (ix3 z r j) = x (ix2 r j) := up_apply _ z r j

/-- The word the body reads off the table. -/
theorem word_at (q : Fin 4) (hq : chip m = BitVec.ofNat 32 q.val) (i : S1.Idx) : tbl m 0 i = chip m := by rw [tbl_eq]; rfl

theorem out5_apply (hO : Ok m) (q : Fin 4) (hq : Own m q) (c : Dev nD) (t : Fin (cfgM m hO).N) (z : Fin 1) (r : Fin 64) (j : Fin 2048) :
    (outsAt0 m hO c t).1 (ix3 z r j) = gradAt m c (row m hO t r) j := by
  unfold outsAt0
  dsimp only
  frame_out
  refine (pay7_apply _ z r j).trans ?_
  exact sum_apply m hO q hq c t _ _ _ (Memref.IsWhole.read_unread _ _) (Memref.IsWhole.read_unread _ _) (word_at m q hq _) _ _ _ _ r j

theorem out6_apply (hO : Ok m) (q : Fin 4) (hq : Own m q) (c : Dev nD) (t : Fin (cfgM m hO).N) (z : Fin 1) (r : Fin 64) (j : Fin 2048) :
    (outsAt0 m hO c t).2.1 (ix3 z r j) = deltaAt m c (row m hO t r) j := by
  unfold outsAt0
  dsimp only
  frame_out
  refine (pay8_apply _ _ _ _ z r j).trans ?_
  unfold deltaAt
  congr 1
  · exact sum_apply m hO q hq c t _ _ _ (Memref.IsWhole.read_unread _ _) (Memref.IsWhole.read_unread _ _) (word_at m q hq _) _ _ _ _ r j
  · exact (congrFun (Memref.IsWhole.read_unread _ _) _).trans (iblk2_apply m hO c t r j)
  · exact (congrFun (Memref.IsWhole.read_unread _ _) _).trans (iblk3_apply m hO c t r j)
  · exact (congrFun (Memref.IsWhole.read_unread _ _) _).trans (iblk4_apply m hO c t r j)

theorem out7_apply (hO : Ok m) (q : Fin 4) (hq : Own m q) (c : Dev nD) (t : Fin (cfgM m hO).N) (z : Fin 1) (r : Fin 64) (j : Fin 2048) :
    (outsAt0 m hO c t).2.2.1 (ix3 z r j) = momentAt m c (row m hO t r) j := by
  unfold outsAt0
  dsimp only
  frame_out
  refine (pay1_apply _ z r j).trans ((pay5_apply _ _ r j).trans ?_)
  unfold momentAt
  congr 1
  · exact sum_apply m hO q hq c t _ _ _ (Memref.IsWhole.read_unread _ _) (Memref.IsWhole.read_unread _ _) (word_at m q hq _) _ _ _ _ r j
  · exact (congrFun (Memref.IsWhole.read_unread _ _) _).trans (iblk3_apply m hO c t r j)

theorem out8_apply (hO : Ok m) (q : Fin 4) (hq : Own m q) (c : Dev nD) (t : Fin (cfgM m hO).N) (z : Fin 1) (r : Fin 64) (j : Fin 2048) :
    (outsAt0 m hO c t).2.2.2 (ix3 z r j) = secondAt m c (row m hO t r) j := by
  unfold outsAt0
  dsimp only
  frame_out
  refine (pay2_apply _ z r j).trans ((pay6_apply _ _ r j).trans ?_)
  unfold secondAt
  congr 1
  · exact sum_apply m hO q hq c t _ _ _ (Memref.IsWhole.read_unread _ _) (Memref.IsWhole.read_unread _ _) (word_at m q hq _) _ _ _ _ r j
  · exact (congrFun (Memref.IsWhole.read_unread _ _) _).trans (iblk4_apply m hO c t r j)

/-! ### The result arrays after the run -/

theorem final5 (hO : Ok m) (q : Fin 4) (hq : Own m q) (c : Dev nD) :
    (dats m hO 0 c).arrAt 5 (cfgM m hO).N = half 1 (gradAt m c) ((dats m hO 0 c).A 5) := by
  refine (dats m hO 0 c).arrAt_eq_of_coversWhere 5 (fun i : S2x704x2048.Idx => gradAt m c (i 1) (i 2)) (fun β => β (0 : Fin 3) = 1) (by decide +kernel : ((cfg0 (F := Ideal) ⟨word 0, word_ok 0⟩).win 5).CoversWhere (fun β => β (0 : Fin 3) = 1)) (fun t hf y => ?_) (fun j => Iff.rfl)
  blk_simp
  rw [after0_5]
  obtain ⟨z, r, j, rfl⟩ := triple y
  refine (out5_apply m hO q hq c t z r j).trans ?_
  rw [show (((cfgM m hO).win 5).blk t).view.emb (ix3 z r j) = (ix3 (1 : Fin 2) (row m hO t r) j : S2x704x2048.Idx) from by blk_ext [at5 m hO t]]

theorem final6 (hO : Ok m) (q : Fin 4) (hq : Own m q) (c : Dev nD) :
    (dats m hO 0 c).arrAt 6 (cfgM m hO).N = half 1 (deltaAt m c) ((dats m hO 0 c).A 6) := by
  refine (dats m hO 0 c).arrAt_eq_of_coversWhere 6 (fun i : S2x704x2048.Idx => deltaAt m c (i 1) (i 2)) (fun β => β (0 : Fin 3) = 1) (by decide +kernel : ((cfg0 (F := Ideal) ⟨word 0, word_ok 0⟩).win 6).CoversWhere (fun β => β (0 : Fin 3) = 1)) (fun t hf y => ?_) (fun j => Iff.rfl)
  blk_simp
  rw [after0_6]
  obtain ⟨z, r, j, rfl⟩ := triple y
  refine (out6_apply m hO q hq c t z r j).trans ?_
  rw [show (((cfgM m hO).win 6).blk t).view.emb (ix3 z r j) = (ix3 (1 : Fin 2) (row m hO t r) j : S2x704x2048.Idx) from by blk_ext [at6 m hO t]]

theorem final7 (hO : Ok m) (q : Fin 4) (hq : Own m q) (c : Dev nD) :
    (dats m hO 0 c).arrAt 7 (cfgM m hO).N = half 1 (momentAt m c) ((dats m hO 0 c).A 7) := by
  refine (dats m hO 0 c).arrAt_eq_of_coversWhere 7 (fun i : S2x704x2048.Idx => momentAt m c (i 1) (i 2)) (fun β => β (0 : Fin 3) = 1) (by decide +kernel : ((cfg0 (F := Ideal) ⟨word 0, word_ok 0⟩).win 7).CoversWhere (fun β => β (0 : Fin 3) = 1)) (fun t hf y => ?_) (fun j => Iff.rfl)
  blk_simp
  rw [after0_7]
  obtain ⟨z, r, j, rfl⟩ := triple y
  refine (out7_apply m hO q hq c t z r j).trans ?_
  rw [show (((cfgM m hO).win 7).blk t).view.emb (ix3 z r j) = (ix3 (1 : Fin 2) (row m hO t r) j : S2x704x2048.Idx) from by blk_ext [at7 m hO t]]

theorem final8 (hO : Ok m) (q : Fin 4) (hq : Own m q) (c : Dev nD) :
    (dats m hO 0 c).arrAt 8 (cfgM m hO).N = half 1 (secondAt m c) ((dats m hO 0 c).A 8) := by
  refine (dats m hO 0 c).arrAt_eq_of_coversWhere 8 (fun i : S2x704x2048.Idx => secondAt m c (i 1) (i 2)) (fun β => β (0 : Fin 3) = 1) (by decide +kernel : ((cfg0 (F := Ideal) ⟨word 0, word_ok 0⟩).win 8).CoversWhere (fun β => β (0 : Fin 3) = 1)) (fun t hf y => ?_) (fun j => Iff.rfl)
  blk_simp
  rw [after0_8]
  obtain ⟨z, r, j, rfl⟩ := triple y
  refine (out8_apply m hO q hq c t z r j).trans ?_
  rw [show (((cfgM m hO).win 8).blk t).view.emb (ix3 z r j) = (ix3 (1 : Fin 2) (row m hO t r) j : S2x704x2048.Idx) from by blk_ext [at8 m hO t]]

/-! ### The layer cut out of each array -/

/-- The second layer of an array, cut out of it. -/
abbrev second_layer (x : FVec Ideal S2x704x2048 .f32) : FVec Ideal S704x2048 .f32 :=
  shapeCast S704x2048 (extractStridedSlice S1x704x2048 ![1, 0, 0] x slices_S2x704x2048_S1x704x2048_1_0_0) shapeCasts_S1x704x2048_S704x2048

/-- What the region leaves. -/
abbrev left (hO : Ok m) (c : Dev nD) : Valuation τ sig (Elt Ideal) := Pipeline.withArrays spec0 c (V0 m c) (fun w => (dats m hO 0 c).arrAt w (cfgM m hO).N)

theorem left_arr (hO : Ok m) (c : Dev nD) (w : Fin (cfgM m hO).W) : left m hO c (Proc.devRef .tc (Pipeline.arrRef spec0 w)) = (dats m hO 0 c).arrAt w (cfgM m hO).N :=
  Pipeline.withArrays_arr spec0 (launch0 (F := Ideal)).win.arr_inj c (V0 m c) (fun w => (dats m hO 0 c).arrAt w (cfgM m hO).N) w

abbrev at_end (hO : Ok m) (c : Dev nD) := Pipeline.afterTail (pcfgs (F := Ideal)) (fun _ => adm m hO) (dats m hO) 0 (V0 m) [hostOps1 (F := Ideal)] c

variable (W : Valuation τ sig (Elt Ideal))

theorem tail_grad : StableHlo.after (hostOps1 (F := Ideal)) W (Proc.devRef .tc main_v3)
    = shapeCast S704x2048 (extractStridedSlice S1x704x2048 ![1, 0, 0] (W (Proc.devRef .tc main_v1_0) : FVec Ideal S2x704x2048 .f32) slices_S2x704x2048_S1x704x2048_1_0_0) shapeCasts_S1x704x2048_S704x2048 := by
  simp only [hostOps1]
  after_results_simp <;> rfl

theorem result_grad (hO : Ok m) (q : Fin 4) (hq : Own m q) (c : Dev nD) :
    at_end m hO c main_v3 = (fun i : S704x2048.Idx => gradAt m c (i 0) (i 1)) :=
  (tail_grad (left m hO c)).trans (cut_half _ ((dats m hO 0 c).A 5) _ ((left_arr m hO c 5).trans (final5 m hO q hq c)) _ _)

theorem tail_delta : StableHlo.after (hostOps1 (F := Ideal)) W (Proc.devRef .tc main_v5)
    = shapeCast S704x2048 (extractStridedSlice S1x704x2048 ![1, 0, 0] (W (Proc.devRef .tc main_v1_1) : FVec Ideal S2x704x2048 .f32) slices_S2x704x2048_S1x704x2048_1_0_0) shapeCasts_S1x704x2048_S704x2048 := by
  simp only [hostOps1]
  after_results_simp <;> rfl

theorem result_delta (hO : Ok m) (q : Fin 4) (hq : Own m q) (c : Dev nD) :
    at_end m hO c main_v5 = (fun i : S704x2048.Idx => deltaAt m c (i 0) (i 1)) :=
  (tail_delta (left m hO c)).trans (cut_half _ ((dats m hO 0 c).A 6) _ ((left_arr m hO c 6).trans (final6 m hO q hq c)) _ _)

theorem tail_moment : StableHlo.after (hostOps1 (F := Ideal)) W (Proc.devRef .tc main_v7)
    = shapeCast S704x2048 (extractStridedSlice S1x704x2048 ![1, 0, 0] (W (Proc.devRef .tc main_v1_2) : FVec Ideal S2x704x2048 .f32) slices_S2x704x2048_S1x704x2048_1_0_0) shapeCasts_S1x704x2048_S704x2048 := by
  simp only [hostOps1]
  after_results_simp <;> rfl

theorem result_moment (hO : Ok m) (q : Fin 4) (hq : Own m q) (c : Dev nD) :
    at_end m hO c main_v7 = (fun i : S704x2048.Idx => momentAt m c (i 0) (i 1)) :=
  (tail_moment (left m hO c)).trans (cut_half _ ((dats m hO 0 c).A 7) _ ((left_arr m hO c 7).trans (final7 m hO q hq c)) _ _)

theorem tail_second : StableHlo.after (hostOps1 (F := Ideal)) W (Proc.devRef .tc main_v9)
    = shapeCast S704x2048 (extractStridedSlice S1x704x2048 ![1, 0, 0] (W (Proc.devRef .tc main_v1_3) : FVec Ideal S2x704x2048 .f32) slices_S2x704x2048_S1x704x2048_1_0_0) shapeCasts_S1x704x2048_S704x2048 := by
  simp only [hostOps1]
  after_results_simp <;> rfl

theorem result_second (hO : Ok m) (q : Fin 4) (hq : Own m q) (c : Dev nD) :
    at_end m hO c main_v9 = (fun i : S704x2048.Idx => secondAt m c (i 0) (i 1)) :=
  (tail_second (left m hO c)).trans (cut_half _ ((dats m hO 0 c).A 8) _ ((left_arr m hO c 8).trans (final8 m hO q hq c)) _ _)

/-- What the call leaves: the gradient, the change of the weights and the two new moments, the arguments as they were. -/
theorem run (ρ : Dev nD → PrngReg) (h : Cert.Pre_UpperIdeal m) :
    θ_run (defs (F := Ideal)) (onTc (τ := τ) (main (F := Ideal))) ⟨m, fun _ => 0, ρ⟩ fun r => ∀ c : Dev nD,
      r.2.mem ((c.tc : Thread nD τ).loc main_v3) = (fun i : S704x2048.Idx => gradAt m c (i 0) (i 1))
      ∧ r.2.mem ((c.tc : Thread nD τ).loc main_v5) = (fun i : S704x2048.Idx => deltaAt m c (i 0) (i 1))
      ∧ r.2.mem ((c.tc : Thread nD τ).loc main_v7) = (fun i : S704x2048.Idx => momentAt m c (i 0) (i 1))
      ∧ r.2.mem ((c.tc : Thread nD τ).loc main_v9) = (fun i : S704x2048.Idx => secondAt m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have hO := ok_of_pre m h
  obtain ⟨q, hq⟩ := chip_eq (chip m) (chip_of_pre m h)
  refine (θ_run (defs (F := Ideal)) _ _).mono (fun r hr c => ?_) (θ_run_and (run_main m ρ hO) (unchanged m ρ hO))
  obtain ⟨hr, hk⟩ := hr
  exact ⟨((hr c).2 main_v3 (by decide : main_v3 ∈ Pipeline.restRefs sig spec0)).trans (result_grad m hO q hq c),
    ((hr c).2 main_v5 (by decide : main_v5 ∈ Pipeline.restRefs sig spec0)).trans (result_delta m hO q hq c),
    ((hr c).2 main_v7 (by decide : main_v7 ∈ Pipeline.restRefs sig spec0)).trans (result_moment m hO q hq c),
    ((hr c).2 main_v9 (by decide : main_v9 ∈ Pipeline.restRefs sig spec0)).trans (result_second m hO q hq c),
    hk c⟩

end value

section reference

open Cert.RefUpperIdeal Cert.RefUpperIdeal.Read

variable (x0 x1 : FVec Ideal S4x704x2048 .bf16) (x2 : IVec S_ 32) (x3 x4 x5 : FVec Ideal S2x704x2048 .f32) (r : Fin 704) (j : Fin 2048)

/-- The parts the reference adds. -/
theorem part_apply (k : Fin 4) : val_main_v5 (F := Ideal) x0 x1 x2 (ix3 k r j)
    = if x2 (fun a => a.elim0) = BitVec.ofNat 32 k.val then x1 (ix3 k r j) else x0 (ix3 k r j) := by
  rw [val_main_v5_apply, val_main_v4_apply, val_main_call0_v0_apply, val_main_v3_apply, val_main_v2_apply, val_main_v1_apply, val_main_v0_apply, select_eq]
  refine Eq.trans ?_ (if_congr eq_comm rfl rfl)
  rfl

theorem ref_grad : val_main_v6 (F := Ideal) x0 x1 x2 (ix2 r j)
    = total (x2 (fun a => a.elim0)) (fun k => x1 (ix3 k r j)) (fun k => x0 (ix3 k r j)) := by
  rw [val_main_v6_apply, val_main_cst_apply]
  refine (congrArg (· + _) Ideal.ofBits_zero_f32).trans ((zero_add _).trans ?_)
  unfold total
  refine Finset.sum_congr rfl fun k _ => ?_
  rw [show idx_main_v6 (ix2 r j) k = ix3 k r j from funext fun a => Fin.ext (by match a with
    | ⟨0, _⟩ => rfl
    | ⟨1, _⟩ => rfl
    | ⟨2, _⟩ => rfl)]
  exact part_apply x0 x1 x2 r j k

theorem ref_weight : val_main_v8 (F := Ideal) x3 (ix2 r j) = x3 (ix3 1 r j) := by
  rw [val_main_v8_apply, val_main_v7_apply]
  exact congrArg x3 (at_layer r j 1 _ rfl rfl rfl _ rfl rfl rfl)

theorem ref_m : val_main_v10 (F := Ideal) x4 (ix2 r j) = x4 (ix3 1 r j) := by
  rw [val_main_v10_apply, val_main_v9_apply]
  exact congrArg x4 (at_layer r j 1 _ rfl rfl rfl _ rfl rfl rfl)

theorem ref_v : val_main_v12 (F := Ideal) x5 (ix2 r j) = x5 (ix3 1 r j) := by
  rw [val_main_v12_apply, val_main_v11_apply]
  exact congrArg x5 (at_layer r j 1 _ rfl rfl rfl _ rfl rfl rfl)

theorem ref_moment : val_main_v17 (F := Ideal) x0 x1 x2 x4 (ix2 r j) = moment (val_main_v6 (F := Ideal) x0 x1 x2 (ix2 r j)) (x4 (ix3 1 r j)) := by
  rw [val_main_v17_apply, val_main_v14_apply, val_main_v13_apply, ref_m, val_main_v16_apply, val_main_v15_apply]
  rfl

theorem ref_second : val_main_v23 (F := Ideal) x0 x1 x2 x5 (ix2 r j) = second (val_main_v6 (F := Ideal) x0 x1 x2 (ix2 r j)) (x5 (ix3 1 r j)) := by
  rw [val_main_v23_apply, val_main_v19_apply, val_main_v18_apply, ref_v, val_main_v22_apply, val_main_v21_apply, val_main_v20_apply]
  rfl

theorem ref_delta : val_main_v36 (F := Ideal) x0 x1 x2 x3 x4 x5 (ix2 r j)
    = delta (val_main_v6 (F := Ideal) x0 x1 x2 (ix2 r j)) (x3 (ix3 1 r j)) (x4 (ix3 1 r j)) (x5 (ix3 1 r j)) := by
  rw [val_main_v36_apply, val_main_v35_apply, val_main_v34_apply, val_main_v31_apply, val_main_v25_apply, val_main_v24_apply, ref_moment,
    val_main_v30_apply, val_main_v28_apply, val_main_v27_apply, val_main_v26_apply, ref_second, val_main_v29_apply, val_main_v33_apply, val_main_v32_apply, ref_weight]
  rfl

end reference

section frames

open Cert.Upper Cert.Upper.Gen

variable (m : (ℓ : Loc nD τ sig) → Buf (Elt Bits) ℓ)

abbrev chip' : BitVec 32 := m (((0 : Dev nD) : Thread nD τ).loc main_arg2) (fun a => a.elim0)

set_option backward.proofsInPublic true in
def word' (w : BitVec 32) : pre0.Contents (Elt Bits) := fun | ⟨0, _⟩ => fun _ => w | ⟨_ + 1, h⟩ => absurd h (by simp)

theorem tbl_eq' : tbl m = word' (chip' m) := by
  have h : V m (0 : Dev nD) main_v0 = shapeCast S1 (m (((0 : Dev nD) : Thread nD τ).loc main_arg2) : IVec S_ 32) shapeCasts_S_S1 := by
    show StableHlo.after hostOps0 (fun b => m ((0 : Dev nD), b)) (Proc.devRef .tc main_v0) = _
    unfold hostOps0
    rw [StableHlo.after_cons, StableHlo.after_nil, StableHlo.reshape_result]
    rfl
  funext j x
  match j with
  | ⟨0, _⟩ =>
    refine (congrFun h x).trans ?_
    exact one_word _ _ x

theorem word_ok' : ∀ q : Fin 4, ok0 (word' (BitVec.ofNat 32 q.val)) := by decide +kernel

theorem ok_of_pre' (h : Cert.Pre_Upper m) : Ok m := by
  have one (a b : BitVec 1) : IntOp.andi a b = 1#1 ↔ a = 1#1 ∧ b = 1#1 := by revert a b; decide
  have e := congrFun (h 0) (fun a => a.elim0)
  simp only [Cert.Pre_a_chip_upper.fn, constantI, cmpi, andi, one] at e
  have hl : (chip' m).toNat < 4 := chip_lt _ e.1 e.2
  obtain ⟨q, hq⟩ := chip_eq (chip' m) hl
  unfold Ok
  rw [tbl_eq', hq]
  exact word_ok' q

end frames

theorem frame : Cert.quiescent_Upper := fun m ρ h => Cert.Upper.Gen.frame m ρ (ok_of_pre' m h)

theorem frame_ideal : Cert.quiescent_UpperIdeal := fun m ρ h => Cert.UpperIdeal.Gen.frame m ρ (ok_of_pre m h)

theorem reference_frame : Cert.quiescent_RefUpperIdeal := fun m ρ _ =>
  (θ_run Cert.RefUpperIdeal.defs _ _).mono
    (fun r h => ⟨fun c => (h c).2.2.2.2, Idealize.ShloMosaic.sem_eq_zero_of_no_sems (by decide) r.2⟩)
    (Cert.RefUpperIdeal.Value.run (F := Ideal) m ρ)

open Cert.RefUpperIdeal Cert.RefUpperIdeal.Read in
theorem algebraic : Cert.algebraic_UpperIdeal_RefUpperIdeal := by
  intro m ρ m' ρ' hpre hagree
  refine ⟨_, _, _, _, run m ρ hpre, ?_⟩
  refine (θ_run (Cert.RefUpperIdeal.defs (F := Ideal)) _ _).mono (fun _ h c => ?_) (Cert.RefUpperIdeal.Value.run (F := Ideal) m' ρ')
  obtain ⟨e0, e1, e2, e3, e4, e5⟩ := hagree c
  have ec : m' ((c.tc : Thread nD τ).loc main_arg2) (fun a => a.elim0) = chip m :=
    (congrFun e2 _).trans (by rw [Subsingleton.elim c 0]; rfl)
  obtain ⟨h0, h1, h2, h3, hrest⟩ := h c
  have hg (r : Fin 704) (j : Fin 2048) : val_main_v6 (F := Ideal)
      (m' ((c.tc : Thread nD τ).loc main_arg0))
      (m' ((c.tc : Thread nD τ).loc main_arg1))
      (m' ((c.tc : Thread nD τ).loc main_arg2)) (ix2 r j) = gradAt m c r j := by
    refine (ref_grad _ _ _ r j).trans ?_
    unfold gradAt
    rw [e0, e1]
    exact congrArg (fun w => total w _ _) ec
  refine ⟨h0.trans ?_, h1.trans ?_, h2.trans ?_, h3.trans ?_, hrest⟩
  · refine (val_main_v6_eq _ _ _).trans ?_
    funext i
    obtain ⟨r, j, rfl⟩ := pair i
    exact hg r j
  · refine (val_main_v36_eq _ _ _ _ _ _).trans ?_
    funext i
    obtain ⟨r, j, rfl⟩ := pair i
    refine (ref_delta _ _ _ _ _ _ r j).trans ?_
    rw [hg r j, e3, e4, e5]
    rfl
  · refine (val_main_v17_eq _ _ _ _).trans ?_
    funext i
    obtain ⟨r, j, rfl⟩ := pair i
    refine (ref_moment _ _ _ _ r j).trans ?_
    rw [hg r j, e4]
    rfl
  · refine (val_main_v23_eq _ _ _ _).trans ?_
    funext i
    obtain ⟨r, j, rfl⟩ := pair i
    refine (ref_second _ _ _ _ r j).trans ?_
    rw [hg r j, e5]
    rfl

end Cert.Proof.Upper
-- ==== Proof.Lower.lean ====
module

public import proofs.«01_k».proof.Defs
public import proofs.«01_k».proof.Proof.Layer
public import proofs.«01_k».proof.Proof.Gen.Lower.Frame
public import proofs.«01_k».proof.Proof.Gen.LowerIdeal.Frame
public import proofs.«01_k».proof.Proof.Gen.RefLowerIdeal.Run
public import proofs.«01_k».proof.Proof.Gen.RefLowerIdeal.Read
public import proofs.«01_k».proof.Proof.Gen.Pre_a_chip_lower
public import Idealize.ShloMosaic.Lib.StableHlo.Predicate
public import Idealize.ShloMosaic.Lib.Pipeline.ValueKit
public import Idealize.ShloMosaic.Lib.ValueIdx
public import Idealize.ShloMosaic.Adequacy
public import Idealize.ShloMosaic.Init

@[expose] public section

noncomputable section

namespace Cert.Proof.Lower

open Idealize.ShloMosaic hiding ix0 ix1 ix2 ix3 eq_ix2 eq_ix3
open Idealize.ShloMosaic.TcCoe Idealize.ShloMosaic.ValueIdx Idealize.SL.Sem Cert.Proof.Step Cert.Proof.Layer

section value

open Cert.LowerIdeal Cert.LowerIdeal.Gen

theorem down_apply {η : FTy} (x : FVec Ideal S1x64x2048 η) (r : Fin 64) (j : Fin 2048) :
    shapeCast S64x2048 x shapeCasts_S1x64x2048_S64x2048 (ix2 r j) = x (ix3 0 r j) := down r j x _

theorem up_apply {η : FTy} (x : FVec Ideal S64x2048 η) (z : Fin 1) (r : Fin 64) (j : Fin 2048) :
    shapeCast S1x64x2048 x shapeCasts_S64x2048_S1x64x2048 (ix3 z r j) = x (ix2 r j) := up r j x _ z

/-- The sum of the parts, at a row and a column of the block. -/
theorem pay3_apply (o a0 a1 a2 a3 : Vec Ideal S1x64x2048 .bf16) (w : BitVec 32) (r : Fin 64) (j : Fin 2048) :
    k0_pay3 o w a0 w a1 w a2 w a3 (ix2 r j)
      = (((Scalar.select (IntOp.cmpi .eq w 0#32) (o (ix3 0 r j)) (a0 (ix3 0 r j)) + Scalar.select (IntOp.cmpi .eq w 1#32) (o (ix3 0 r j)) (a1 (ix3 0 r j)))
        + Scalar.select (IntOp.cmpi .eq w 2#32) (o (ix3 0 r j)) (a2 (ix3 0 r j)))
        + Scalar.select (IntOp.cmpi .eq w 3#32) (o (ix3 0 r j)) (a3 (ix3 0 r j)) : EReal) := by
  rw [← down_apply (η := .bf16) o, ← down_apply (η := .bf16) a0, ← down_apply (η := .bf16) a1, ← down_apply (η := .bf16) a2, ← down_apply (η := .bf16) a3]
  unfold k0_pay3
  simp only [addf_apply, choose_apply]
  rfl

theorem pay5_apply (g : FVec Ideal S64x2048 .f32) (v : Vec Ideal S1x64x2048 .f32) (r : Fin 64) (j : Fin 2048) :
    k0_pay5 g v (ix2 r j) = moment (g (ix2 r j)) (v (ix3 0 r j)) := by
  rw [← down_apply v]; rfl

theorem pay6_apply (g : FVec Ideal S64x2048 .f32) (v : Vec Ideal S1x64x2048 .f32) (r : Fin 64) (j : Fin 2048) :
    k0_pay6 g v (ix2 r j) = second (g (ix2 r j)) (v (ix3 0 r j)) := by
  rw [← down_apply v]; rfl

theorem pay8_apply (g : FVec Ideal S64x2048 .f32) (w m v : Vec Ideal S1x64x2048 .f32) (z : Fin 1) (r : Fin 64) (j : Fin 2048) :
    k0_pay8 g (k0_pay4 w) m v (ix3 z r j) = delta (g (ix2 r j)) (w (ix3 0 r j)) (m (ix3 0 r j)) (v (ix3 0 r j)) := by
  unfold k0_pay8
  refine (up_apply _ z r j).trans ?_
  unfold delta
  rw [← pay5_apply, ← pay6_apply, ← down_apply w]
  rfl

variable (m : (ℓ : Loc nD τ sig) → Buf (Elt Ideal) ℓ)

/-- The chip's number. -/
abbrev chip : BitVec 32 := m (((0 : Dev nD) : Thread nD τ).loc main_arg2) (fun a => a.elim0)

set_option backward.proofsInPublic true in
/-- A table of one word. -/
def word (w : BitVec 32) : pre0.Contents (Elt Ideal) := fun | ⟨0, _⟩ => fun _ => w | ⟨_ + 1, h⟩ => absurd h (by simp)

theorem tbl_eq : tbl m = word (chip m) := by
  have h : V m (0 : Dev nD) main_v0 = shapeCast S1 (m (((0 : Dev nD) : Thread nD τ).loc main_arg2) : IVec S_ 32) shapeCasts_S_S1 := by
    show StableHlo.after hostOps0 (fun b => m ((0 : Dev nD), b)) (Proc.devRef .tc main_v0) = _
    unfold hostOps0
    after_results_simp
    rfl
  funext j x
  match j with
  | ⟨0, _⟩ =>
    refine (congrFun h x).trans ?_
    exact one_word _ _ x

theorem word_ok : ∀ q : Fin 4, ok0 (word (BitVec.ofNat 32 q.val)) := by decide +kernel

theorem chip_of_pre (h : Cert.Pre_LowerIdeal m) : (chip m).toNat < 4 := by
  have one (a b : BitVec 1) : IntOp.andi a b = 1#1 ↔ a = 1#1 ∧ b = 1#1 := by revert a b; decide
  have e := congrFun (h 0) (fun a => a.elim0)
  simp only [Cert.Pre_a_chip_lower.fn, constantI, cmpi, andi, one] at e
  exact chip_lt _ e.1 e.2

theorem ok_of_pre (h : Cert.Pre_LowerIdeal m) : Ok m := by
  obtain ⟨q, hq⟩ := chip_eq (chip m) (chip_of_pre m h)
  unfold Ok
  rw [tbl_eq, hq]
  exact word_ok q

/-! ### Where the blocks lie -/

/-- The chip is the number `q`. -/
abbrev Own (q : Fin 4) : Prop := chip m = BitVec.ofNat 32 q.val

theorem at1 (hO : Ok m) (q : Fin 4) (hq : Own m q) (t : Fin (cfgM m hO).N) :
    ((cfgM m hO).win 1).index t = ![q.val, t.val, 0] := by
  have key : ∀ (q : Fin 4) (t : Fin grid0.N), cc0_transform_1 inb_S1_S1_0 numel1_S1 (word (BitVec.ofNat 32 q.val)) (grid0.coords t) = ![q.val, t.val, 0] := by
    decide +kernel
  show cc0_transform_1 inb_S1_S1_0 numel1_S1 (tbl m) (grid0.coords t) = _
  rw [tbl_eq, hq]
  exact key q t

theorem at0 (hO : Ok m) (t : Fin (cfgM m hO).N) : ((cfgM m hO).win 0).index t = ![0, t.val, 0] :=
  (by decide +kernel : ∀ t : Fin grid0.N, cc0_transform_0 (grid0.coords t) = ![0, t.val, 0]) t

theorem at2 (hO : Ok m) (t : Fin (cfgM m hO).N) : ((cfgM m hO).win 2).index t = ![0, t.val, 0] :=
  (by decide +kernel : ∀ t : Fin grid0.N, cc0_transform_2 (grid0.coords t) = ![0, t.val, 0]) t

theorem at5 (hO : Ok m) (t : Fin (cfgM m hO).N) : ((cfgM m hO).win 5).index t = ![0, t.val, 0] := at2 m hO t

abbrev row (hO : Ok m) (t : Fin (cfgM m hO).N) (r : Fin 64) : Fin 704 := ⟨t.val * 64 + r.val, by have h : t.val < 11 := t.isLt; omega⟩

theorem iblk0_apply (hO : Ok m) (c : Dev nD) (t : Fin (cfgM m hO).N) (k : Fin 4) (r : Fin 64) (j : Fin 2048) :
    iblk m hO c 0 t (ix3 k r j) = m ((c : Thread nD τ).loc main_arg0) (ix3 k (row m hO t r) j) := by
  rw [← V_main_arg0 m c]; blk_simp [iblk]; congr 1; blk_ext [at0 m hO t]

theorem iblk1_apply (hO : Ok m) (q : Fin 4) (hq : Own m q) (c : Dev nD) (t : Fin (cfgM m hO).N) (r : Fin 64) (j : Fin 2048) :
    iblk m hO c 1 t (ix3 (0 : Fin 1) r j) = m ((c : Thread nD τ).loc main_arg1) (ix3 q (row m hO t r) j) := by
  rw [← V_main_arg1 m c]; blk_simp [iblk]; congr 1; blk_ext [at1 m hO q hq t]

theorem iblk2_apply (hO : Ok m) (c : Dev nD) (t : Fin (cfgM m hO).N) (r : Fin 64) (j : Fin 2048) :
    iblk m hO c 2 t (ix3 (0 : Fin 1) r j) = m ((c : Thread nD τ).loc main_arg3) (ix3 0 (row m hO t r) j) := by
  rw [← V_main_arg3 m c]; blk_simp [iblk]; congr 1; blk_ext [at2 m hO t]

theorem at3 (hO : Ok m) (t : Fin (cfgM m hO).N) : ((cfgM m hO).win 3).index t = ![0, t.val, 0] := at2 m hO t
theorem at4 (hO : Ok m) (t : Fin (cfgM m hO).N) : ((cfgM m hO).win 4).index t = ![0, t.val, 0] := at2 m hO t
theorem at6 (hO : Ok m) (t : Fin (cfgM m hO).N) : ((cfgM m hO).win 6).index t = ![0, t.val, 0] := at2 m hO t
theorem at7 (hO : Ok m) (t : Fin (cfgM m hO).N) : ((cfgM m hO).win 7).index t = ![0, t.val, 0] := at2 m hO t
theorem at8 (hO : Ok m) (t : Fin (cfgM m hO).N) : ((cfgM m hO).win 8).index t = ![0, t.val, 0] := at2 m hO t

theorem iblk3_apply (hO : Ok m) (c : Dev nD) (t : Fin (cfgM m hO).N) (r : Fin 64) (j : Fin 2048) :
    iblk m hO c 3 t (ix3 (0 : Fin 1) r j) = m ((c : Thread nD τ).loc main_arg4) (ix3 0 (row m hO t r) j) := by
  rw [← V_main_arg4 m c]; blk_simp [iblk]; congr 1; blk_ext [at3 m hO t]

theorem iblk4_apply (hO : Ok m) (c : Dev nD) (t : Fin (cfgM m hO).N) (r : Fin 64) (j : Fin 2048) :
    iblk m hO c 4 t (ix3 (0 : Fin 1) r j) = m ((c : Thread nD τ).loc main_arg5) (ix3 0 (row m hO t r) j) := by
  rw [← V_main_arg5 m c]; blk_simp [iblk]; congr 1; blk_ext [at4 m hO t]

/-! ### The results at an element -/

/-- The gradient at a row and a column: the chips' parts added. -/
def gradAt (c : Dev nD) (r : Fin 704) (j : Fin 2048) : EReal :=
  total (chip m) (fun k => m ((c : Thread nD τ).loc main_arg1) (ix3 k r j)) (fun k => m ((c : Thread nD τ).loc main_arg0) (ix3 k r j))
def deltaAt (c : Dev nD) (r : Fin 704) (j : Fin 2048) : EReal :=
  delta (gradAt m c r j) (m ((c : Thread nD τ).loc main_arg3) (ix3 0 r j)) (m ((c : Thread nD τ).loc main_arg4) (ix3 0 r j))
    (m ((c : Thread nD τ).loc main_arg5) (ix3 0 r j))
def momentAt (c : Dev nD) (r : Fin 704) (j : Fin 2048) : EReal :=
  moment (gradAt m c r j) (m ((c : Thread nD τ).loc main_arg4) (ix3 0 r j))
def secondAt (c : Dev nD) (r : Fin 704) (j : Fin 2048) : EReal :=
  second (gradAt m c r j) (m ((c : Thread nD τ).loc main_arg5) (ix3 0 r j))

/-- What the body makes of a block's parts: the gradient. -/
theorem sum_apply (hO : Ok m) (q : Fin 4) (hq : Own m q) (c : Dev nD) (t : Fin (cfgM m hO).N)
    (o : Vec Ideal S1x64x2048 .bf16) (x : Vec Ideal S4x64x2048 .bf16) (w : BitVec 32) (ho : o = iblk m hO c 1 t) (hx : x = iblk m hO c 0 t)
    (hw : w = chip m) (h0 h1 h2 h3) (r : Fin 64) (j : Fin 2048) :
    k0_pay3 o w (View.ld x (Rect.unit (s := S4x64x2048) ![0, 0, 0] ![1, 64, 2048] h0)) w (View.ld x (Rect.unit (s := S4x64x2048) ![1, 0, 0] ![1, 64, 2048] h1))
      w (View.ld x (Rect.unit (s := S4x64x2048) ![2, 0, 0] ![1, 64, 2048] h2)) w (View.ld x (Rect.unit (s := S4x64x2048) ![3, 0, 0] ![1, 64, 2048] h3)) (ix2 r j)
      = gradAt m c (row m hO t r) j := by
  subst hw
  have eo : o (ix3 0 r j) = m ((c : Thread nD τ).loc main_arg1) (ix3 q (row m hO t r) j) := (congrFun ho _).trans (iblk1_apply m hO q hq c t r j)
  have ex : ∀ k : Fin 4, x (ix3 k r j) = m ((c : Thread nD τ).loc main_arg0) (ix3 k (row m hO t r) j) := fun k =>
    (congrFun hx _).trans (iblk0_apply m hO c t k r j)
  rw [pay3_apply, slab r j x 0 0 rfl h0, slab r j x 1 1 rfl h1, slab r j x 2 2 rfl h2, slab r j x 3 3 rfl h3, eo, ex, ex, ex, ex]
  refine total_eq (chip m) _ (fun k => m ((c : Thread nD τ).loc main_arg0) (ix3 k (row m hO t r) j)) _ fun k hk => ?_
  rw [one_chip hq hk]

theorem pay7_apply (x : FVec Ideal S64x2048 .f32) (z : Fin 1) (r : Fin 64) (j : Fin 2048) : k0_pay7 x (ix3 z r j) = x (ix2 r j) := up_apply _ z r j
theorem pay1_apply (x : FVec Ideal S64x2048 .f32) (z : Fin 1) (r : Fin 64) (j : Fin 2048) : k0_pay1 x (ix3 z r j) = x (ix2 r j) := up_apply _ z r j
theorem pay2_apply (x : FVec Ideal S64x2048 .f32) (z : Fin 1) (r : Fin 64) (j : Fin 2048) : k0_pay2 x (ix3 z r j) = x (ix2 r j) := up_apply _ z r j

/-- The word the body reads off the table. -/
theorem word_at (q : Fin 4) (hq : chip m = BitVec.ofNat 32 q.val) (i : S1.Idx) : tbl m 0 i = chip m := by rw [tbl_eq]; rfl

theorem out5_apply (hO : Ok m) (q : Fin 4) (hq : Own m q) (c : Dev nD) (t : Fin (cfgM m hO).N) (z : Fin 1) (r : Fin 64) (j : Fin 2048) :
    (outsAt0 m hO c t).1 (ix3 z r j) = gradAt m c (row m hO t r) j := by
  unfold outsAt0
  dsimp only
  frame_out
  refine (pay7_apply _ z r j).trans ?_
  exact sum_apply m hO q hq c t _ _ _ (Memref.IsWhole.read_unread _ _) (Memref.IsWhole.read_unread _ _) (word_at m q hq _) _ _ _ _ r j

theorem out6_apply (hO : Ok m) (q : Fin 4) (hq : Own m q) (c : Dev nD) (t : Fin (cfgM m hO).N) (z : Fin 1) (r : Fin 64) (j : Fin 2048) :
    (outsAt0 m hO c t).2.1 (ix3 z r j) = deltaAt m c (row m hO t r) j := by
  unfold outsAt0
  dsimp only
  frame_out
  refine (pay8_apply _ _ _ _ z r j).trans ?_
  unfold deltaAt
  congr 1
  · exact sum_apply m hO q hq c t _ _ _ (Memref.IsWhole.read_unread _ _) (Memref.IsWhole.read_unread _ _) (word_at m q hq _) _ _ _ _ r j
  · exact (congrFun (Memref.IsWhole.read_unread _ _) _).trans (iblk2_apply m hO c t r j)
  · exact (congrFun (Memref.IsWhole.read_unread _ _) _).trans (iblk3_apply m hO c t r j)
  · exact (congrFun (Memref.IsWhole.read_unread _ _) _).trans (iblk4_apply m hO c t r j)

theorem out7_apply (hO : Ok m) (q : Fin 4) (hq : Own m q) (c : Dev nD) (t : Fin (cfgM m hO).N) (z : Fin 1) (r : Fin 64) (j : Fin 2048) :
    (outsAt0 m hO c t).2.2.1 (ix3 z r j) = momentAt m c (row m hO t r) j := by
  unfold outsAt0
  dsimp only
  frame_out
  refine (pay1_apply _ z r j).trans ((pay5_apply _ _ r j).trans ?_)
  unfold momentAt
  congr 1
  · exact sum_apply m hO q hq c t _ _ _ (Memref.IsWhole.read_unread _ _) (Memref.IsWhole.read_unread _ _) (word_at m q hq _) _ _ _ _ r j
  · exact (congrFun (Memref.IsWhole.read_unread _ _) _).trans (iblk3_apply m hO c t r j)

theorem out8_apply (hO : Ok m) (q : Fin 4) (hq : Own m q) (c : Dev nD) (t : Fin (cfgM m hO).N) (z : Fin 1) (r : Fin 64) (j : Fin 2048) :
    (outsAt0 m hO c t).2.2.2 (ix3 z r j) = secondAt m c (row m hO t r) j := by
  unfold outsAt0
  dsimp only
  frame_out
  refine (pay2_apply _ z r j).trans ((pay6_apply _ _ r j).trans ?_)
  unfold secondAt
  congr 1
  · exact sum_apply m hO q hq c t _ _ _ (Memref.IsWhole.read_unread _ _) (Memref.IsWhole.read_unread _ _) (word_at m q hq _) _ _ _ _ r j
  · exact (congrFun (Memref.IsWhole.read_unread _ _) _).trans (iblk4_apply m hO c t r j)

/-! ### The result arrays after the run -/

theorem final5 (hO : Ok m) (q : Fin 4) (hq : Own m q) (c : Dev nD) :
    (dats m hO 0 c).arrAt 5 (cfgM m hO).N = half 0 (gradAt m c) ((dats m hO 0 c).A 5) := by
  refine (dats m hO 0 c).arrAt_eq_of_coversWhere 5 (fun i : S2x704x2048.Idx => gradAt m c (i 1) (i 2)) (fun β => β (0 : Fin 3) = 0) (by decide +kernel : ((cfg0 (F := Ideal) ⟨word 0, word_ok 0⟩).win 5).CoversWhere (fun β => β (0 : Fin 3) = 0)) (fun t hf y => ?_) (fun j => Iff.rfl)
  blk_simp
  rw [after0_5]
  obtain ⟨z, r, j, rfl⟩ := triple y
  refine (out5_apply m hO q hq c t z r j).trans ?_
  rw [show (((cfgM m hO).win 5).blk t).view.emb (ix3 z r j) = (ix3 (0 : Fin 2) (row m hO t r) j : S2x704x2048.Idx) from by blk_ext [at5 m hO t]]

theorem final6 (hO : Ok m) (q : Fin 4) (hq : Own m q) (c : Dev nD) :
    (dats m hO 0 c).arrAt 6 (cfgM m hO).N = half 0 (deltaAt m c) ((dats m hO 0 c).A 6) := by
  refine (dats m hO 0 c).arrAt_eq_of_coversWhere 6 (fun i : S2x704x2048.Idx => deltaAt m c (i 1) (i 2)) (fun β => β (0 : Fin 3) = 0) (by decide +kernel : ((cfg0 (F := Ideal) ⟨word 0, word_ok 0⟩).win 6).CoversWhere (fun β => β (0 : Fin 3) = 0)) (fun t hf y => ?_) (fun j => Iff.rfl)
  blk_simp
  rw [after0_6]
  obtain ⟨z, r, j, rfl⟩ := triple y
  refine (out6_apply m hO q hq c t z r j).trans ?_
  rw [show (((cfgM m hO).win 6).blk t).view.emb (ix3 z r j) = (ix3 (0 : Fin 2) (row m hO t r) j : S2x704x2048.Idx) from by blk_ext [at6 m hO t]]

theorem final7 (hO : Ok m) (q : Fin 4) (hq : Own m q) (c : Dev nD) :
    (dats m hO 0 c).arrAt 7 (cfgM m hO).N = half 0 (momentAt m c) ((dats m hO 0 c).A 7) := by
  refine (dats m hO 0 c).arrAt_eq_of_coversWhere 7 (fun i : S2x704x2048.Idx => momentAt m c (i 1) (i 2)) (fun β => β (0 : Fin 3) = 0) (by decide +kernel : ((cfg0 (F := Ideal) ⟨word 0, word_ok 0⟩).win 7).CoversWhere (fun β => β (0 : Fin 3) = 0)) (fun t hf y => ?_) (fun j => Iff.rfl)
  blk_simp
  rw [after0_7]
  obtain ⟨z, r, j, rfl⟩ := triple y
  refine (out7_apply m hO q hq c t z r j).trans ?_
  rw [show (((cfgM m hO).win 7).blk t).view.emb (ix3 z r j) = (ix3 (0 : Fin 2) (row m hO t r) j : S2x704x2048.Idx) from by blk_ext [at7 m hO t]]

theorem final8 (hO : Ok m) (q : Fin 4) (hq : Own m q) (c : Dev nD) :
    (dats m hO 0 c).arrAt 8 (cfgM m hO).N = half 0 (secondAt m c) ((dats m hO 0 c).A 8) := by
  refine (dats m hO 0 c).arrAt_eq_of_coversWhere 8 (fun i : S2x704x2048.Idx => secondAt m c (i 1) (i 2)) (fun β => β (0 : Fin 3) = 0) (by decide +kernel : ((cfg0 (F := Ideal) ⟨word 0, word_ok 0⟩).win 8).CoversWhere (fun β => β (0 : Fin 3) = 0)) (fun t hf y => ?_) (fun j => Iff.rfl)
  blk_simp
  rw [after0_8]
  obtain ⟨z, r, j, rfl⟩ := triple y
  refine (out8_apply m hO q hq c t z r j).trans ?_
  rw [show (((cfgM m hO).win 8).blk t).view.emb (ix3 z r j) = (ix3 (0 : Fin 2) (row m hO t r) j : S2x704x2048.Idx) from by blk_ext [at8 m hO t]]

/-! ### The other layer is the earlier array's -/

theorem result_grad (hO : Ok m) (q : Fin 4) (hq : Own m q) (c : Dev nD) :
    (dats m hO 0 c).arrAt 5 (cfgM m hO).N
      = half 0 (gradAt m c) (m ((c : Thread nD τ).loc main_arg6)) := by
  have e : (dats m hO 0 c).A 5 = m ((c : Thread nD τ).loc main_arg6) := by
    rw [A_eq]
    show StableHlo.after (hostOps0 (F := Ideal)) (fun b => m (c, b)) (Proc.devRef .tc main_v1_0) = _
    simp only [hostOps0]
    after_results_simp <;> rfl
  rw [final5 m hO q hq c, e]

theorem result_delta (hO : Ok m) (q : Fin 4) (hq : Own m q) (c : Dev nD) :
    (dats m hO 0 c).arrAt 6 (cfgM m hO).N
      = half 0 (deltaAt m c) (m ((c : Thread nD τ).loc main_arg7)) := by
  have e : (dats m hO 0 c).A 6 = m ((c : Thread nD τ).loc main_arg7) := by
    rw [A_eq]
    show StableHlo.after (hostOps0 (F := Ideal)) (fun b => m (c, b)) (Proc.devRef .tc main_v1_1) = _
    simp only [hostOps0]
    after_results_simp <;> rfl
  rw [final6 m hO q hq c, e]

theorem result_moment (hO : Ok m) (q : Fin 4) (hq : Own m q) (c : Dev nD) :
    (dats m hO 0 c).arrAt 7 (cfgM m hO).N
      = half 0 (momentAt m c) (m ((c : Thread nD τ).loc main_arg8)) := by
  have e : (dats m hO 0 c).A 7 = m ((c : Thread nD τ).loc main_arg8) := by
    rw [A_eq]
    show StableHlo.after (hostOps0 (F := Ideal)) (fun b => m (c, b)) (Proc.devRef .tc main_v1_2) = _
    simp only [hostOps0]
    after_results_simp <;> rfl
  rw [final7 m hO q hq c, e]

theorem result_second (hO : Ok m) (q : Fin 4) (hq : Own m q) (c : Dev nD) :
    (dats m hO 0 c).arrAt 8 (cfgM m hO).N
      = half 0 (secondAt m c) (m ((c : Thread nD τ).loc main_arg9)) := by
  have e : (dats m hO 0 c).A 8 = m ((c : Thread nD τ).loc main_arg9) := by
    rw [A_eq]
    show StableHlo.after (hostOps0 (F := Ideal)) (fun b => m (c, b)) (Proc.devRef .tc main_v1_3) = _
    simp only [hostOps0]
    after_results_simp <;> rfl
  rw [final8 m hO q hq c, e]

/-- What the call leaves: the gradient, the change of the weights and the two new moments in one layer, the earlier arrays' other
    layer, and the arguments as they were. -/
theorem run (ρ : Dev nD → PrngReg) (h : Cert.Pre_LowerIdeal m) :
    θ_run (defs (F := Ideal)) (onTc (τ := τ) (main (F := Ideal))) ⟨m, fun _ => 0, ρ⟩ fun r => ∀ c : Dev nD,
      r.2.mem ((c.tc : Thread nD τ).loc main_v1_0) = half 0 (gradAt m c) (m ((c : Thread nD τ).loc main_arg6))
      ∧ r.2.mem ((c.tc : Thread nD τ).loc main_v1_1) = half 0 (deltaAt m c) (m ((c : Thread nD τ).loc main_arg7))
      ∧ r.2.mem ((c.tc : Thread nD τ).loc main_v1_2) = half 0 (momentAt m c) (m ((c : Thread nD τ).loc main_arg8))
      ∧ r.2.mem ((c.tc : Thread nD τ).loc main_v1_3) = half 0 (secondAt m c) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  have hO := ok_of_pre m h
  obtain ⟨q, hq⟩ := chip_eq (chip m) (chip_of_pre m h)
  refine (θ_run (defs (F := Ideal)) _ _).mono (fun r hr c => ?_) (θ_run_and (run_main m ρ hO) (unchanged m ρ hO))
  obtain ⟨hr, hk⟩ := hr
  exact ⟨((hr c).1 5).trans (result_grad m hO q hq c), ((hr c).1 6).trans (result_delta m hO q hq c),
    ((hr c).1 7).trans (result_moment m hO q hq c), ((hr c).1 8).trans (result_second m hO q hq c), hk c⟩

end value

section reference

open Cert.RefLowerIdeal Cert.RefLowerIdeal.Read

variable (x0 x1 : FVec Ideal S4x704x2048 .bf16) (x2 : IVec S_ 32) (x3 x4 x5 : FVec Ideal S2x704x2048 .f32) (r : Fin 704) (j : Fin 2048)

/-- The parts the reference adds. -/
theorem part_apply (k : Fin 4) : val_main_v5 (F := Ideal) x0 x1 x2 (ix3 k r j)
    = if x2 (fun a => a.elim0) = BitVec.ofNat 32 k.val then x1 (ix3 k r j) else x0 (ix3 k r j) := by
  rw [val_main_v5_apply, val_main_v4_apply, val_main_call0_v0_apply, val_main_v3_apply, val_main_v2_apply, val_main_v1_apply, val_main_v0_apply, select_eq]
  refine Eq.trans ?_ (if_congr eq_comm rfl rfl)
  rfl

theorem ref_grad : val_main_v6 (F := Ideal) x0 x1 x2 (ix2 r j)
    = total (x2 (fun a => a.elim0)) (fun k => x1 (ix3 k r j)) (fun k => x0 (ix3 k r j)) := by
  rw [val_main_v6_apply, val_main_cst_apply]
  refine (congrArg (· + _) Ideal.ofBits_zero_f32).trans ((zero_add _).trans ?_)
  unfold total
  refine Finset.sum_congr rfl fun k _ => ?_
  rw [show idx_main_v6 (ix2 r j) k = ix3 k r j from funext fun a => Fin.ext (by match a with
    | ⟨0, _⟩ => rfl
    | ⟨1, _⟩ => rfl
    | ⟨2, _⟩ => rfl)]
  exact part_apply x0 x1 x2 r j k

theorem ref_weight : val_main_v8 (F := Ideal) x3 (ix2 r j) = x3 (ix3 0 r j) := by
  rw [val_main_v8_apply, val_main_v7_apply]
  exact congrArg x3 (at_layer r j 0 (idx_main_v8 (ix2 r j)) rfl rfl rfl _ (Nat.zero_add _).symm rfl rfl)

theorem ref_m : val_main_v10 (F := Ideal) x4 (ix2 r j) = x4 (ix3 0 r j) := by
  rw [val_main_v10_apply, val_main_v9_apply]
  exact congrArg x4 (at_layer r j 0 (idx_main_v10 (ix2 r j)) rfl rfl rfl _ (Nat.zero_add _).symm rfl rfl)

theorem ref_v : val_main_v12 (F := Ideal) x5 (ix2 r j) = x5 (ix3 0 r j) := by
  rw [val_main_v12_apply, val_main_v11_apply]
  exact congrArg x5 (at_layer r j 0 (idx_main_v12 (ix2 r j)) rfl rfl rfl _ (Nat.zero_add _).symm rfl rfl)

theorem ref_moment : val_main_v17 (F := Ideal) x0 x1 x2 x4 (ix2 r j) = moment (val_main_v6 (F := Ideal) x0 x1 x2 (ix2 r j)) (x4 (ix3 0 r j)) := by
  rw [val_main_v17_apply, val_main_v14_apply, val_main_v13_apply, ref_m, val_main_v16_apply, val_main_v15_apply]
  rfl

theorem ref_second : val_main_v23 (F := Ideal) x0 x1 x2 x5 (ix2 r j) = second (val_main_v6 (F := Ideal) x0 x1 x2 (ix2 r j)) (x5 (ix3 0 r j)) := by
  rw [val_main_v23_apply, val_main_v19_apply, val_main_v18_apply, ref_v, val_main_v22_apply, val_main_v21_apply, val_main_v20_apply]
  rfl

theorem ref_delta : val_main_v36 (F := Ideal) x0 x1 x2 x3 x4 x5 (ix2 r j)
    = delta (val_main_v6 (F := Ideal) x0 x1 x2 (ix2 r j)) (x3 (ix3 0 r j)) (x4 (ix3 0 r j)) (x5 (ix3 0 r j)) := by
  rw [val_main_v36_apply, val_main_v35_apply, val_main_v34_apply, val_main_v31_apply, val_main_v25_apply, val_main_v24_apply, ref_moment,
    val_main_v30_apply, val_main_v28_apply, val_main_v27_apply, val_main_v26_apply, ref_second, val_main_v29_apply, val_main_v33_apply, val_main_v32_apply, ref_weight]
  rfl

variable (x6 : FVec Ideal S2x704x2048 .f32)

theorem kept_grad : val_main_v40 (F := Ideal) x6 (ix3 0 r j) = x6 (ix3 1 r j) := by
  rw [val_main_v40_apply, val_main_v38_apply, val_main_v37_apply]
  exact congrArg x6 (at_layer r j 1 _ rfl rfl rfl _ rfl rfl rfl)

theorem kept_delta : val_main_v45 (F := Ideal) x6 (ix3 0 r j) = x6 (ix3 1 r j) := by
  rw [val_main_v45_apply, val_main_v43_apply, val_main_v42_apply]
  exact congrArg x6 (at_layer r j 1 _ rfl rfl rfl _ rfl rfl rfl)

theorem kept_moment : val_main_v50 (F := Ideal) x6 (ix3 0 r j) = x6 (ix3 1 r j) := by
  rw [val_main_v50_apply, val_main_v48_apply, val_main_v47_apply]
  exact congrArg x6 (at_layer r j 1 _ rfl rfl rfl _ rfl rfl rfl)

theorem kept_second : val_main_v55 (F := Ideal) x6 (ix3 0 r j) = x6 (ix3 1 r j) := by
  rw [val_main_v55_apply, val_main_v53_apply, val_main_v52_apply]
  exact congrArg x6 (at_layer r j 1 _ rfl rfl rfl _ rfl rfl rfl)

theorem stack_grad (z : Fin 2) : val_main_v41 (F := Ideal) x0 x1 x2 x6 (ix3 z r j)
    = if (z : ℕ) / 1 = 0 then val_main_v6 (F := Ideal) x0 x1 x2 (ix2 r j) else x6 (ix3 1 r j) := by
  unfold val_main_v41
  rw [stack_apply r j _ _ _ z, kept_grad, val_main_v39_apply, show idx_main_v39 (ix3 0 r j) = ix2 r j from funext fun | ⟨0, _⟩ => rfl | ⟨1, _⟩ => rfl]

theorem stack_delta (z : Fin 2) : val_main_v46 (F := Ideal) x0 x1 x2 x3 x4 x5 x6 (ix3 z r j)
    = if (z : ℕ) / 1 = 0 then val_main_v36 (F := Ideal) x0 x1 x2 x3 x4 x5 (ix2 r j) else x6 (ix3 1 r j) := by
  unfold val_main_v46
  rw [stack_apply r j _ _ _ z, kept_delta, val_main_v44_apply, show idx_main_v44 (ix3 0 r j) = ix2 r j from funext fun | ⟨0, _⟩ => rfl | ⟨1, _⟩ => rfl]

theorem stack_moment (z : Fin 2) : val_main_v51 (F := Ideal) x0 x1 x2 x4 x6 (ix3 z r j)
    = if (z : ℕ) / 1 = 0 then val_main_v17 (F := Ideal) x0 x1 x2 x4 (ix2 r j) else x6 (ix3 1 r j) := by
  unfold val_main_v51
  rw [stack_apply r j _ _ _ z, kept_moment, val_main_v49_apply, show idx_main_v49 (ix3 0 r j) = ix2 r j from funext fun | ⟨0, _⟩ => rfl | ⟨1, _⟩ => rfl]

theorem stack_second (z : Fin 2) : val_main_v56 (F := Ideal) x0 x1 x2 x5 x6 (ix3 z r j)
    = if (z : ℕ) / 1 = 0 then val_main_v23 (F := Ideal) x0 x1 x2 x5 (ix2 r j) else x6 (ix3 1 r j) := by
  unfold val_main_v56
  rw [stack_apply r j _ _ _ z, kept_second, val_main_v54_apply, show idx_main_v54 (ix3 0 r j) = ix2 r j from funext fun | ⟨0, _⟩ => rfl | ⟨1, _⟩ => rfl]

end reference

section frames

open Cert.Lower Cert.Lower.Gen

variable (m : (ℓ : Loc nD τ sig) → Buf (Elt Bits) ℓ)

abbrev chip' : BitVec 32 := m (((0 : Dev nD) : Thread nD τ).loc main_arg2) (fun a => a.elim0)

set_option backward.proofsInPublic true in
def word' (w : BitVec 32) : pre0.Contents (Elt Bits) := fun | ⟨0, _⟩ => fun _ => w | ⟨_ + 1, h⟩ => absurd h (by simp)

theorem tbl_eq' : tbl m = word' (chip' m) := by
  have h : V m (0 : Dev nD) main_v0 = shapeCast S1 (m (((0 : Dev nD) : Thread nD τ).loc main_arg2) : IVec S_ 32) shapeCasts_S_S1 := by
    show StableHlo.after hostOps0 (fun b => m ((0 : Dev nD), b)) (Proc.devRef .tc main_v0) = _
    unfold hostOps0
    after_results_simp
    rfl
  funext j x
  match j with
  | ⟨0, _⟩ =>
    refine (congrFun h x).trans ?_
    exact one_word _ _ x

theorem word_ok' : ∀ q : Fin 4, ok0 (word' (BitVec.ofNat 32 q.val)) := by decide +kernel

theorem ok_of_pre' (h : Cert.Pre_Lower m) : Ok m := by
  have one (a b : BitVec 1) : IntOp.andi a b = 1#1 ↔ a = 1#1 ∧ b = 1#1 := by revert a b; decide
  have e := congrFun (h 0) (fun a => a.elim0)
  simp only [Cert.Pre_a_chip_lower.fn, constantI, cmpi, andi, one] at e
  have hl : (chip' m).toNat < 4 := chip_lt _ e.1 e.2
  obtain ⟨q, hq⟩ := chip_eq (chip' m) hl
  unfold Ok
  rw [tbl_eq', hq]
  exact word_ok' q

end frames

theorem frame : Cert.quiescent_Lower := fun m ρ h => Cert.Lower.Gen.frame m ρ (ok_of_pre' m h)

theorem frame_ideal : Cert.quiescent_LowerIdeal := fun m ρ h => Cert.LowerIdeal.Gen.frame m ρ (ok_of_pre m h)

theorem reference_frame : Cert.quiescent_RefLowerIdeal := fun m ρ _ =>
  (θ_run Cert.RefLowerIdeal.defs _ _).mono
    (fun r h => ⟨fun c => (h c).2.2.2.2, Idealize.ShloMosaic.sem_eq_zero_of_no_sems (by decide) r.2⟩)
    (Cert.RefLowerIdeal.Value.run (F := Ideal) m ρ)

/-- Two layers chosen by the same place agree where their parts do. -/
theorem two_layers (f g : EReal) (x y : FVec Ideal Cert.LowerIdeal.S2x704x2048 .f32) (z : Fin 2) (r : Fin 704) (j : Fin 2048) (hf : f = g) (hx : x = y) :
    (if (z : ℕ) / 1 = 0 then f else x (ix3 1 r j)) = if (z : ℕ) / 1 = 0 then g else y (ix3 z r j) := by
  subst hx hf
  match z with
  | ⟨0, _⟩ => exact (if_pos (show (0 : ℕ) / 1 = 0 from rfl)).trans (if_pos (show (0 : ℕ) / 1 = 0 from rfl)).symm
  | ⟨1, _⟩ =>
    have hne : ¬ ((1 : ℕ) / 1 = 0) := by decide
    exact (if_neg hne).trans (if_neg hne).symm

open Cert.RefLowerIdeal Cert.RefLowerIdeal.Read in
theorem algebraic : Cert.algebraic_LowerIdeal_RefLowerIdeal := by
  intro m ρ m' ρ' hpre hagree
  refine ⟨_, _, _, _, run m ρ hpre, ?_⟩
  refine (θ_run (Cert.RefLowerIdeal.defs (F := Ideal)) _ _).mono (fun _ h c => ?_) (Cert.RefLowerIdeal.Value.run (F := Ideal) m' ρ')
  obtain ⟨e0, e1, e2, e3, e4, e5, e6, e7, e8, e9⟩ := hagree c
  have ec : m' ((c.tc : Thread nD τ).loc main_arg2) (fun a => a.elim0) = chip m :=
    (congrFun e2 _).trans (by rw [Subsingleton.elim c 0]; rfl)
  obtain ⟨h0, h1, h2, h3, hrest⟩ := h c
  have hg (r : Fin 704) (j : Fin 2048) : val_main_v6 (F := Ideal)
      (m' ((c.tc : Thread nD τ).loc main_arg0))
      (m' ((c.tc : Thread nD τ).loc main_arg1))
      (m' ((c.tc : Thread nD τ).loc main_arg2)) (ix2 r j) = gradAt m c r j := by
    refine (ref_grad _ _ _ r j).trans ?_
    unfold gradAt
    rw [e0, e1]
    exact congrArg (fun w => total w _ _) ec
  have hdelta (r : Fin 704) (j : Fin 2048) : val_main_v36 (F := Ideal)
      (m' ((c.tc : Thread nD τ).loc main_arg0))
      (m' ((c.tc : Thread nD τ).loc main_arg1))
      (m' ((c.tc : Thread nD τ).loc main_arg2))
      (m' ((c.tc : Thread nD τ).loc main_arg3))
      (m' ((c.tc : Thread nD τ).loc main_arg4))
      (m' ((c.tc : Thread nD τ).loc main_arg5)) (ix2 r j) = deltaAt m c r j := by
    refine (ref_delta _ _ _ _ _ _ r j).trans ?_
    rw [hg r j, e3, e4, e5]
    rfl
  have hmoment (r : Fin 704) (j : Fin 2048) : val_main_v17 (F := Ideal)
      (m' ((c.tc : Thread nD τ).loc main_arg0))
      (m' ((c.tc : Thread nD τ).loc main_arg1))
      (m' ((c.tc : Thread nD τ).loc main_arg2))
      (m' ((c.tc : Thread nD τ).loc main_arg4)) (ix2 r j) = momentAt m c r j := by
    refine (ref_moment _ _ _ _ r j).trans ?_
    rw [hg r j, e4]
    rfl
  have hsecond (r : Fin 704) (j : Fin 2048) : val_main_v23 (F := Ideal)
      (m' ((c.tc : Thread nD τ).loc main_arg0))
      (m' ((c.tc : Thread nD τ).loc main_arg1))
      (m' ((c.tc : Thread nD τ).loc main_arg2))
      (m' ((c.tc : Thread nD τ).loc main_arg5)) (ix2 r j) = secondAt m c r j := by
    refine (ref_second _ _ _ _ r j).trans ?_
    rw [hg r j, e5]
    rfl
  refine ⟨h0.trans ?_, h1.trans ?_, h2.trans ?_, h3.trans ?_, hrest⟩
  · refine (val_main_v41_eq _ _ _ _).trans ?_
    funext i
    obtain ⟨z, r, j, rfl⟩ := triple i
    exact (stack_grad _ _ _ r j _ z).trans (two_layers _ _ _ _ z r j (hg r j) e6)
  · refine (val_main_v46_eq _ _ _ _ _ _ _).trans ?_
    funext i
    obtain ⟨z, r, j, rfl⟩ := triple i
    exact (stack_delta _ _ _ _ _ _ r j _ z).trans (two_layers _ _ _ _ z r j (hdelta r j) e7)
  · refine (val_main_v51_eq _ _ _ _ _).trans ?_
    funext i
    obtain ⟨z, r, j, rfl⟩ := triple i
    exact (stack_moment _ _ _ _ r j _ z).trans (two_layers _ _ _ _ z r j (hmoment r j) e8)
  · refine (val_main_v56_eq _ _ _ _ _).trans ?_
    funext i
    obtain ⟨z, r, j, rfl⟩ := triple i
    exact (stack_second _ _ _ _ r j _ z).trans (two_layers _ _ _ _ z r j (hsecond r j) e9)

end Cert.Proof.Lower
-- ==== Proof.OutUpper.lean ====
module

public import proofs.«01_k».proof.Defs
public import proofs.«01_k».proof.Proof.Layer
public import proofs.«01_k».proof.Proof.Gen.OutUpper.Frame
public import proofs.«01_k».proof.Proof.Gen.OutUpperIdeal.Frame
public import proofs.«01_k».proof.Proof.Gen.RefOutUpperIdeal.Run
public import proofs.«01_k».proof.Proof.Gen.RefOutUpperIdeal.Read
public import proofs.«01_k».proof.Proof.Gen.Pre_a_chip_out_upper
public import Idealize.ShloMosaic.Lib.StableHlo.Predicate
public import Idealize.ShloMosaic.Lib.Pipeline.ValueKit
public import Idealize.ShloMosaic.Lib.ValueIdx
public import Idealize.ShloMosaic.Adequacy
public import Idealize.ShloMosaic.Init

@[expose] public section

noncomputable section

namespace Cert.Proof.OutUpper

open Idealize.ShloMosaic hiding ix0 ix1 ix2 ix3 eq_ix2 eq_ix3
open Idealize.ShloMosaic.TcCoe Idealize.ShloMosaic.ValueIdx Idealize.SL.Sem Cert.Proof.Step Cert.Proof.Layer

section value

open Cert.OutUpperIdeal Cert.OutUpperIdeal.Gen

theorem down_apply {η : FTy} (x : FVec Ideal S1x128x2048 η) (r : Fin 128) (j : Fin 2048) :
    shapeCast S128x2048 x shapeCasts_S1x128x2048_S128x2048 (ix2 r j) = x (ix3 0 r j) := down r j x _

theorem up_apply {η : FTy} (x : FVec Ideal S128x2048 η) (z : Fin 1) (r : Fin 128) (j : Fin 2048) :
    shapeCast S1x128x2048 x shapeCasts_S128x2048_S1x128x2048 (ix3 z r j) = x (ix2 r j) := up r j x _ z

/-- The sum of the parts, at a row and a column of the block. -/
theorem pay3_apply (o a0 a1 a2 a3 : Vec Ideal S1x128x2048 .bf16) (w : BitVec 32) (r : Fin 128) (j : Fin 2048) :
    k0_pay3 o w a0 w a1 w a2 w a3 (ix2 r j)
      = (((Scalar.select (IntOp.cmpi .eq w 0#32) (o (ix3 0 r j)) (a0 (ix3 0 r j)) + Scalar.select (IntOp.cmpi .eq w 1#32) (o (ix3 0 r j)) (a1 (ix3 0 r j)))
        + Scalar.select (IntOp.cmpi .eq w 2#32) (o (ix3 0 r j)) (a2 (ix3 0 r j)))
        + Scalar.select (IntOp.cmpi .eq w 3#32) (o (ix3 0 r j)) (a3 (ix3 0 r j)) : EReal) := by
  rw [← down_apply (η := .bf16) o, ← down_apply (η := .bf16) a0, ← down_apply (η := .bf16) a1, ← down_apply (η := .bf16) a2, ← down_apply (η := .bf16) a3]
  unfold k0_pay3
  simp only [addf_apply, choose_apply]
  rfl

theorem pay5_apply (g : FVec Ideal S128x2048 .f32) (v : Vec Ideal S1x128x2048 .f32) (r : Fin 128) (j : Fin 2048) :
    k0_pay5 g v (ix2 r j) = moment (g (ix2 r j)) (v (ix3 0 r j)) := by
  rw [← down_apply v]; rfl

theorem pay6_apply (g : FVec Ideal S128x2048 .f32) (v : Vec Ideal S1x128x2048 .f32) (r : Fin 128) (j : Fin 2048) :
    k0_pay6 g v (ix2 r j) = second (g (ix2 r j)) (v (ix3 0 r j)) := by
  rw [← down_apply v]; rfl

theorem pay8_apply (g : FVec Ideal S128x2048 .f32) (w m v : Vec Ideal S1x128x2048 .f32) (z : Fin 1) (r : Fin 128) (j : Fin 2048) :
    k0_pay8 g (k0_pay4 w) m v (ix3 z r j) = delta (g (ix2 r j)) (w (ix3 0 r j)) (m (ix3 0 r j)) (v (ix3 0 r j)) := by
  unfold k0_pay8
  refine (up_apply _ z r j).trans ?_
  unfold delta
  rw [← pay5_apply, ← pay6_apply, ← down_apply w]
  rfl

variable (m : (ℓ : Loc nD τ sig) → Buf (Elt Ideal) ℓ)

/-- The chip's number. -/
abbrev chip : BitVec 32 := m (((0 : Dev nD) : Thread nD τ).loc main_arg2) (fun a => a.elim0)

set_option backward.proofsInPublic true in
/-- A table of one word. -/
def word (w : BitVec 32) : pre0.Contents (Elt Ideal) := fun | ⟨0, _⟩ => fun _ => w | ⟨_ + 1, h⟩ => absurd h (by simp)

theorem tbl_eq : tbl m = word (chip m) := by
  have h : V m (0 : Dev nD) main_v0 = shapeCast S1 (m (((0 : Dev nD) : Thread nD τ).loc main_arg2) : IVec S_ 32) shapeCasts_S_S1 := by
    show StableHlo.after hostOps0 (fun b => m ((0 : Dev nD), b)) (Proc.devRef .tc main_v0) = _
    unfold hostOps0
    rw [StableHlo.after_cons, StableHlo.after_nil, StableHlo.reshape_result]
    rfl
  funext j x
  match j with
  | ⟨0, _⟩ =>
    refine (congrFun h x).trans ?_
    exact one_word _ _ x

theorem word_ok : ∀ q : Fin 4, ok0 (word (BitVec.ofNat 32 q.val)) := by decide +kernel

theorem chip_of_pre (h : Cert.Pre_OutUpperIdeal m) : (chip m).toNat < 4 := by
  have one (a b : BitVec 1) : IntOp.andi a b = 1#1 ↔ a = 1#1 ∧ b = 1#1 := by revert a b; decide
  have e := congrFun (h 0) (fun a => a.elim0)
  simp only [Cert.Pre_a_chip_out_upper.fn, constantI, cmpi, andi, one] at e
  exact chip_lt _ e.1 e.2

theorem ok_of_pre (h : Cert.Pre_OutUpperIdeal m) : Ok m := by
  obtain ⟨q, hq⟩ := chip_eq (chip m) (chip_of_pre m h)
  unfold Ok
  rw [tbl_eq, hq]
  exact word_ok q

/-! ### Where the blocks lie -/

/-- The chip is the number `q`. -/
abbrev Own (q : Fin 4) : Prop := chip m = BitVec.ofNat 32 q.val

theorem at1 (hO : Ok m) (q : Fin 4) (hq : Own m q) (t : Fin (cfgM m hO).N) :
    ((cfgM m hO).win 1).index t = ![q.val, t.val, 0] := by
  have key : ∀ (q : Fin 4) (t : Fin grid0.N), cc0_transform_1 inb_S1_S1_0 numel1_S1 (word (BitVec.ofNat 32 q.val)) (grid0.coords t) = ![q.val, t.val, 0] := by
    decide +kernel
  show cc0_transform_1 inb_S1_S1_0 numel1_S1 (tbl m) (grid0.coords t) = _
  rw [tbl_eq, hq]
  exact key q t

theorem at0 (hO : Ok m) (t : Fin (cfgM m hO).N) : ((cfgM m hO).win 0).index t = ![0, t.val, 0] :=
  (by decide +kernel : ∀ t : Fin grid0.N, cc0_transform_0 (grid0.coords t) = ![0, t.val, 0]) t

theorem at2 (hO : Ok m) (t : Fin (cfgM m hO).N) : ((cfgM m hO).win 2).index t = ![1, t.val, 0] :=
  (by decide +kernel : ∀ t : Fin grid0.N, cc0_transform_2 (grid0.coords t) = ![1, t.val, 0]) t

theorem at5 (hO : Ok m) (t : Fin (cfgM m hO).N) : ((cfgM m hO).win 5).index t = ![1, t.val, 0] := at2 m hO t

abbrev row (hO : Ok m) (t : Fin (cfgM m hO).N) (r : Fin 128) : Fin 256 := ⟨t.val * 128 + r.val, by have h : t.val < 2 := t.isLt; omega⟩

theorem iblk0_apply (hO : Ok m) (c : Dev nD) (t : Fin (cfgM m hO).N) (k : Fin 4) (r : Fin 128) (j : Fin 2048) :
    iblk m hO c 0 t (ix3 k r j) = m ((c : Thread nD τ).loc main_arg0) (ix3 k (row m hO t r) j) := by
  rw [← V_main_arg0 m c]; blk_simp [iblk]; congr 1; blk_ext [at0 m hO t]

theorem iblk1_apply (hO : Ok m) (q : Fin 4) (hq : Own m q) (c : Dev nD) (t : Fin (cfgM m hO).N) (r : Fin 128) (j : Fin 2048) :
    iblk m hO c 1 t (ix3 (0 : Fin 1) r j) = m ((c : Thread nD τ).loc main_arg1) (ix3 q (row m hO t r) j) := by
  rw [← V_main_arg1 m c]; blk_simp [iblk]; congr 1; blk_ext [at1 m hO q hq t]

theorem iblk2_apply (hO : Ok m) (c : Dev nD) (t : Fin (cfgM m hO).N) (r : Fin 128) (j : Fin 2048) :
    iblk m hO c 2 t (ix3 (0 : Fin 1) r j) = m ((c : Thread nD τ).loc main_arg3) (ix3 1 (row m hO t r) j) := by
  rw [← V_main_arg3 m c]; blk_simp [iblk]; congr 1; blk_ext [at2 m hO t]

theorem at3 (hO : Ok m) (t : Fin (cfgM m hO).N) : ((cfgM m hO).win 3).index t = ![1, t.val, 0] := at2 m hO t
theorem at4 (hO : Ok m) (t : Fin (cfgM m hO).N) : ((cfgM m hO).win 4).index t = ![1, t.val, 0] := at2 m hO t
theorem at6 (hO : Ok m) (t : Fin (cfgM m hO).N) : ((cfgM m hO).win 6).index t = ![1, t.val, 0] := at2 m hO t
theorem at7 (hO : Ok m) (t : Fin (cfgM m hO).N) : ((cfgM m hO).win 7).index t = ![1, t.val, 0] := at2 m hO t
theorem at8 (hO : Ok m) (t : Fin (cfgM m hO).N) : ((cfgM m hO).win 8).index t = ![1, t.val, 0] := at2 m hO t

theorem iblk3_apply (hO : Ok m) (c : Dev nD) (t : Fin (cfgM m hO).N) (r : Fin 128) (j : Fin 2048) :
    iblk m hO c 3 t (ix3 (0 : Fin 1) r j) = m ((c : Thread nD τ).loc main_arg4) (ix3 1 (row m hO t r) j) := by
  rw [← V_main_arg4 m c]; blk_simp [iblk]; congr 1; blk_ext [at3 m hO t]

theorem iblk4_apply (hO : Ok m) (c : Dev nD) (t : Fin (cfgM m hO).N) (r : Fin 128) (j : Fin 2048) :
    iblk m hO c 4 t (ix3 (0 : Fin 1) r j) = m ((c : Thread nD τ).loc main_arg5) (ix3 1 (row m hO t r) j) := by
  rw [← V_main_arg5 m c]; blk_simp [iblk]; congr 1; blk_ext [at4 m hO t]

/-! ### The results at an element -/

/-- The gradient at a row and a column: the chips' parts added. -/
def gradAt (c : Dev nD) (r : Fin 256) (j : Fin 2048) : EReal :=
  total (chip m) (fun k => m ((c : Thread nD τ).loc main_arg1) (ix3 k r j)) (fun k => m ((c : Thread nD τ).loc main_arg0) (ix3 k r j))
def deltaAt (c : Dev nD) (r : Fin 256) (j : Fin 2048) : EReal :=
  delta (gradAt m c r j) (m ((c : Thread nD τ).loc main_arg3) (ix3 1 r j)) (m ((c : Thread nD τ).loc main_arg4) (ix3 1 r j))
    (m ((c : Thread nD τ).loc main_arg5) (ix3 1 r j))
def momentAt (c : Dev nD) (r : Fin 256) (j : Fin 2048) : EReal :=
  moment (gradAt m c r j) (m ((c : Thread nD τ).loc main_arg4) (ix3 1 r j))
def secondAt (c : Dev nD) (r : Fin 256) (j : Fin 2048) : EReal :=
  second (gradAt m c r j) (m ((c : Thread nD τ).loc main_arg5) (ix3 1 r j))

/-- What the body makes of a block's parts: the gradient. -/
theorem sum_apply (hO : Ok m) (q : Fin 4) (hq : Own m q) (c : Dev nD) (t : Fin (cfgM m hO).N)
    (o : Vec Ideal S1x128x2048 .bf16) (x : Vec Ideal S4x128x2048 .bf16) (w : BitVec 32) (ho : o = iblk m hO c 1 t) (hx : x = iblk m hO c 0 t)
    (hw : w = chip m) (h0 h1 h2 h3) (r : Fin 128) (j : Fin 2048) :
    k0_pay3 o w (View.ld x (Rect.unit (s := S4x128x2048) ![0, 0, 0] ![1, 128, 2048] h0)) w (View.ld x (Rect.unit (s := S4x128x2048) ![1, 0, 0] ![1, 128, 2048] h1))
      w (View.ld x (Rect.unit (s := S4x128x2048) ![2, 0, 0] ![1, 128, 2048] h2)) w (View.ld x (Rect.unit (s := S4x128x2048) ![3, 0, 0] ![1, 128, 2048] h3)) (ix2 r j)
      = gradAt m c (row m hO t r) j := by
  subst hw
  have eo : o (ix3 0 r j) = m ((c : Thread nD τ).loc main_arg1) (ix3 q (row m hO t r) j) := (congrFun ho _).trans (iblk1_apply m hO q hq c t r j)
  have ex : ∀ k : Fin 4, x (ix3 k r j) = m ((c : Thread nD τ).loc main_arg0) (ix3 k (row m hO t r) j) := fun k =>
    (congrFun hx _).trans (iblk0_apply m hO c t k r j)
  rw [pay3_apply, slab r j x 0 0 rfl h0, slab r j x 1 1 rfl h1, slab r j x 2 2 rfl h2, slab r j x 3 3 rfl h3, eo, ex, ex, ex, ex]
  refine total_eq (chip m) _ (fun k => m ((c : Thread nD τ).loc main_arg0) (ix3 k (row m hO t r) j)) _ fun k hk => ?_
  rw [one_chip hq hk]

theorem pay7_apply (x : FVec Ideal S128x2048 .f32) (z : Fin 1) (r : Fin 128) (j : Fin 2048) : k0_pay7 x (ix3 z r j) = x (ix2 r j) := up_apply _ z r j
theorem pay1_apply (x : FVec Ideal S128x2048 .f32) (z : Fin 1) (r : Fin 128) (j : Fin 2048) : k0_pay1 x (ix3 z r j) = x (ix2 r j) := up_apply _ z r j
theorem pay2_apply (x : FVec Ideal S128x2048 .f32) (z : Fin 1) (r : Fin 128) (j : Fin 2048) : k0_pay2 x (ix3 z r j) = x (ix2 r j) := up_apply _ z r j

/-- The word the body reads off the table. -/
theorem word_at (q : Fin 4) (hq : chip m = BitVec.ofNat 32 q.val) (i : S1.Idx) : tbl m 0 i = chip m := by rw [tbl_eq]; rfl

theorem out5_apply (hO : Ok m) (q : Fin 4) (hq : Own m q) (c : Dev nD) (t : Fin (cfgM m hO).N) (z : Fin 1) (r : Fin 128) (j : Fin 2048) :
    (outsAt0 m hO c t).1 (ix3 z r j) = gradAt m c (row m hO t r) j := by
  unfold outsAt0
  dsimp only
  frame_out
  refine (pay7_apply _ z r j).trans ?_
  exact sum_apply m hO q hq c t _ _ _ (Memref.IsWhole.read_unread _ _) (Memref.IsWhole.read_unread _ _) (word_at m q hq _) _ _ _ _ r j

theorem out6_apply (hO : Ok m) (q : Fin 4) (hq : Own m q) (c : Dev nD) (t : Fin (cfgM m hO).N) (z : Fin 1) (r : Fin 128) (j : Fin 2048) :
    (outsAt0 m hO c t).2.1 (ix3 z r j) = deltaAt m c (row m hO t r) j := by
  unfold outsAt0
  dsimp only
  frame_out
  refine (pay8_apply _ _ _ _ z r j).trans ?_
  unfold deltaAt
  congr 1
  · exact sum_apply m hO q hq c t _ _ _ (Memref.IsWhole.read_unread _ _) (Memref.IsWhole.read_unread _ _) (word_at m q hq _) _ _ _ _ r j
  · exact (congrFun (Memref.IsWhole.read_unread _ _) _).trans (iblk2_apply m hO c t r j)
  · exact (congrFun (Memref.IsWhole.read_unread _ _) _).trans (iblk3_apply m hO c t r j)
  · exact (congrFun (Memref.IsWhole.read_unread _ _) _).trans (iblk4_apply m hO c t r j)

theorem out7_apply (hO : Ok m) (q : Fin 4) (hq : Own m q) (c : Dev nD) (t : Fin (cfgM m hO).N) (z : Fin 1) (r : Fin 128) (j : Fin 2048) :
    (outsAt0 m hO c t).2.2.1 (ix3 z r j) = momentAt m c (row m hO t r) j := by
  unfold outsAt0
  dsimp only
  frame_out
  refine (pay1_apply _ z r j).trans ((pay5_apply _ _ r j).trans ?_)
  unfold momentAt
  congr 1
  · exact sum_apply m hO q hq c t _ _ _ (Memref.IsWhole.read_unread _ _) (Memref.IsWhole.read_unread _ _) (word_at m q hq _) _ _ _ _ r j
  · exact (congrFun (Memref.IsWhole.read_unread _ _) _).trans (iblk3_apply m hO c t r j)

theorem out8_apply (hO : Ok m) (q : Fin 4) (hq : Own m q) (c : Dev nD) (t : Fin (cfgM m hO).N) (z : Fin 1) (r : Fin 128) (j : Fin 2048) :
    (outsAt0 m hO c t).2.2.2 (ix3 z r j) = secondAt m c (row m hO t r) j := by
  unfold outsAt0
  dsimp only
  frame_out
  refine (pay2_apply _ z r j).trans ((pay6_apply _ _ r j).trans ?_)
  unfold secondAt
  congr 1
  · exact sum_apply m hO q hq c t _ _ _ (Memref.IsWhole.read_unread _ _) (Memref.IsWhole.read_unread _ _) (word_at m q hq _) _ _ _ _ r j
  · exact (congrFun (Memref.IsWhole.read_unread _ _) _).trans (iblk4_apply m hO c t r j)

/-! ### The result arrays after the run -/

theorem final5 (hO : Ok m) (q : Fin 4) (hq : Own m q) (c : Dev nD) :
    (dats m hO 0 c).arrAt 5 (cfgM m hO).N = half 1 (gradAt m c) ((dats m hO 0 c).A 5) := by
  refine (dats m hO 0 c).arrAt_eq_of_coversWhere 5 (fun i : S2x256x2048.Idx => gradAt m c (i 1) (i 2)) (fun β => β (0 : Fin 3) = 1) (by decide +kernel : ((cfg0 (F := Ideal) ⟨word 0, word_ok 0⟩).win 5).CoversWhere (fun β => β (0 : Fin 3) = 1)) (fun t hf y => ?_) (fun j => Iff.rfl)
  blk_simp
  rw [after0_5]
  obtain ⟨z, r, j, rfl⟩ := triple y
  refine (out5_apply m hO q hq c t z r j).trans ?_
  rw [show (((cfgM m hO).win 5).blk t).view.emb (ix3 z r j) = (ix3 (1 : Fin 2) (row m hO t r) j : S2x256x2048.Idx) from by blk_ext [at5 m hO t]]

theorem final6 (hO : Ok m) (q : Fin 4) (hq : Own m q) (c : Dev nD) :
    (dats m hO 0 c).arrAt 6 (cfgM m hO).N = half 1 (deltaAt m c) ((dats m hO 0 c).A 6) := by
  refine (dats m hO 0 c).arrAt_eq_of_coversWhere 6 (fun i : S2x256x2048.Idx => deltaAt m c (i 1) (i 2)) (fun β => β (0 : Fin 3) = 1) (by decide +kernel : ((cfg0 (F := Ideal) ⟨word 0, word_ok 0⟩).win 6).CoversWhere (fun β => β (0 : Fin 3) = 1)) (fun t hf y => ?_) (fun j => Iff.rfl)
  blk_simp
  rw [after0_6]
  obtain ⟨z, r, j, rfl⟩ := triple y
  refine (out6_apply m hO q hq c t z r j).trans ?_
  rw [show (((cfgM m hO).win 6).blk t).view.emb (ix3 z r j) = (ix3 (1 : Fin 2) (row m hO t r) j : S2x256x2048.Idx) from by blk_ext [at6 m hO t]]

theorem final7 (hO : Ok m) (q : Fin 4) (hq : Own m q) (c : Dev nD) :
    (dats m hO 0 c).arrAt 7 (cfgM m hO).N = half 1 (momentAt m c) ((dats m hO 0 c).A 7) := by
  refine (dats m hO 0 c).arrAt_eq_of_coversWhere 7 (fun i : S2x256x2048.Idx => momentAt m c (i 1) (i 2)) (fun β => β (0 : Fin 3) = 1) (by decide +kernel : ((cfg0 (F := Ideal) ⟨word 0, word_ok 0⟩).win 7).CoversWhere (fun β => β (0 : Fin 3) = 1)) (fun t hf y => ?_) (fun j => Iff.rfl)
  blk_simp
  rw [after0_7]
  obtain ⟨z, r, j, rfl⟩ := triple y
  refine (out7_apply m hO q hq c t z r j).trans ?_
  rw [show (((cfgM m hO).win 7).blk t).view.emb (ix3 z r j) = (ix3 (1 : Fin 2) (row m hO t r) j : S2x256x2048.Idx) from by blk_ext [at7 m hO t]]

theorem final8 (hO : Ok m) (q : Fin 4) (hq : Own m q) (c : Dev nD) :
    (dats m hO 0 c).arrAt 8 (cfgM m hO).N = half 1 (secondAt m c) ((dats m hO 0 c).A 8) := by
  refine (dats m hO 0 c).arrAt_eq_of_coversWhere 8 (fun i : S2x256x2048.Idx => secondAt m c (i 1) (i 2)) (fun β => β (0 : Fin 3) = 1) (by decide +kernel : ((cfg0 (F := Ideal) ⟨word 0, word_ok 0⟩).win 8).CoversWhere (fun β => β (0 : Fin 3) = 1)) (fun t hf y => ?_) (fun j => Iff.rfl)
  blk_simp
  rw [after0_8]
  obtain ⟨z, r, j, rfl⟩ := triple y
  refine (out8_apply m hO q hq c t z r j).trans ?_
  rw [show (((cfgM m hO).win 8).blk t).view.emb (ix3 z r j) = (ix3 (1 : Fin 2) (row m hO t r) j : S2x256x2048.Idx) from by blk_ext [at8 m hO t]]

/-! ### The layer cut out of each array -/

/-- The second layer of an array, cut out of it. -/
abbrev second_layer (x : FVec Ideal S2x256x2048 .f32) : FVec Ideal S256x2048 .f32 :=
  shapeCast S256x2048 (extractStridedSlice S1x256x2048 ![1, 0, 0] x slices_S2x256x2048_S1x256x2048_1_0_0) shapeCasts_S1x256x2048_S256x2048

/-- What the region leaves. -/
abbrev left (hO : Ok m) (c : Dev nD) : Valuation τ sig (Elt Ideal) := Pipeline.withArrays spec0 c (V0 m c) (fun w => (dats m hO 0 c).arrAt w (cfgM m hO).N)

theorem left_arr (hO : Ok m) (c : Dev nD) (w : Fin (cfgM m hO).W) : left m hO c (Proc.devRef .tc (Pipeline.arrRef spec0 w)) = (dats m hO 0 c).arrAt w (cfgM m hO).N :=
  Pipeline.withArrays_arr spec0 (launch0 (F := Ideal)).win.arr_inj c (V0 m c) (fun w => (dats m hO 0 c).arrAt w (cfgM m hO).N) w

abbrev at_end (hO : Ok m) (c : Dev nD) := Pipeline.afterTail (pcfgs (F := Ideal)) (fun _ => adm m hO) (dats m hO) 0 (V0 m) [hostOps1 (F := Ideal)] c

variable (W : Valuation τ sig (Elt Ideal))

theorem tail_grad : StableHlo.after (hostOps1 (F := Ideal)) W (Proc.devRef .tc main_v3)
    = shapeCast S256x2048 (extractStridedSlice S1x256x2048 ![1, 0, 0] (W (Proc.devRef .tc main_v1_0) : FVec Ideal S2x256x2048 .f32) slices_S2x256x2048_S1x256x2048_1_0_0) shapeCasts_S1x256x2048_S256x2048 := by
  simp only [hostOps1]
  after_results_simp <;> rfl

theorem result_grad (hO : Ok m) (q : Fin 4) (hq : Own m q) (c : Dev nD) :
    at_end m hO c main_v3 = (fun i : S256x2048.Idx => gradAt m c (i 0) (i 1)) :=
  (tail_grad (left m hO c)).trans (cut_half _ ((dats m hO 0 c).A 5) _ ((left_arr m hO c 5).trans (final5 m hO q hq c)) _ _)

theorem tail_delta : StableHlo.after (hostOps1 (F := Ideal)) W (Proc.devRef .tc main_v5)
    = shapeCast S256x2048 (extractStridedSlice S1x256x2048 ![1, 0, 0] (W (Proc.devRef .tc main_v1_1) : FVec Ideal S2x256x2048 .f32) slices_S2x256x2048_S1x256x2048_1_0_0) shapeCasts_S1x256x2048_S256x2048 := by
  simp only [hostOps1]
  after_results_simp <;> rfl

theorem result_delta (hO : Ok m) (q : Fin 4) (hq : Own m q) (c : Dev nD) :
    at_end m hO c main_v5 = (fun i : S256x2048.Idx => deltaAt m c (i 0) (i 1)) :=
  (tail_delta (left m hO c)).trans (cut_half _ ((dats m hO 0 c).A 6) _ ((left_arr m hO c 6).trans (final6 m hO q hq c)) _ _)

theorem tail_moment : StableHlo.after (hostOps1 (F := Ideal)) W (Proc.devRef .tc main_v7)
    = shapeCast S256x2048 (extractStridedSlice S1x256x2048 ![1, 0, 0] (W (Proc.devRef .tc main_v1_2) : FVec Ideal S2x256x2048 .f32) slices_S2x256x2048_S1x256x2048_1_0_0) shapeCasts_S1x256x2048_S256x2048 := by
  simp only [hostOps1]
  after_results_simp <;> rfl

theorem result_moment (hO : Ok m) (q : Fin 4) (hq : Own m q) (c : Dev nD) :
    at_end m hO c main_v7 = (fun i : S256x2048.Idx => momentAt m c (i 0) (i 1)) :=
  (tail_moment (left m hO c)).trans (cut_half _ ((dats m hO 0 c).A 7) _ ((left_arr m hO c 7).trans (final7 m hO q hq c)) _ _)

theorem tail_second : StableHlo.after (hostOps1 (F := Ideal)) W (Proc.devRef .tc main_v9)
    = shapeCast S256x2048 (extractStridedSlice S1x256x2048 ![1, 0, 0] (W (Proc.devRef .tc main_v1_3) : FVec Ideal S2x256x2048 .f32) slices_S2x256x2048_S1x256x2048_1_0_0) shapeCasts_S1x256x2048_S256x2048 := by
  simp only [hostOps1]
  after_results_simp <;> rfl

theorem result_second (hO : Ok m) (q : Fin 4) (hq : Own m q) (c : Dev nD) :
    at_end m hO c main_v9 = (fun i : S256x2048.Idx => secondAt m c (i 0) (i 1)) :=
  (tail_second (left m hO c)).trans (cut_half _ ((dats m hO 0 c).A 8) _ ((left_arr m hO c 8).trans (final8 m hO q hq c)) _ _)

/-- What the call leaves: the gradient, the change of the weights and the two new moments, the arguments as they were. -/
theorem run (ρ : Dev nD → PrngReg) (h : Cert.Pre_OutUpperIdeal m) :
    θ_run (defs (F := Ideal)) (onTc (τ := τ) (main (F := Ideal))) ⟨m, fun _ => 0, ρ⟩ fun r => ∀ c : Dev nD,
      r.2.mem ((c.tc : Thread nD τ).loc main_v3) = (fun i : S256x2048.Idx => gradAt m c (i 0) (i 1))
      ∧ r.2.mem ((c.tc : Thread nD τ).loc main_v5) = (fun i : S256x2048.Idx => deltaAt m c (i 0) (i 1))
      ∧ r.2.mem ((c.tc : Thread nD τ).loc main_v7) = (fun i : S256x2048.Idx => momentAt m c (i 0) (i 1))
      ∧ r.2.mem ((c.tc : Thread nD τ).loc main_v9) = (fun i : S256x2048.Idx => secondAt m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have hO := ok_of_pre m h
  obtain ⟨q, hq⟩ := chip_eq (chip m) (chip_of_pre m h)
  refine (θ_run (defs (F := Ideal)) _ _).mono (fun r hr c => ?_) (θ_run_and (run_main m ρ hO) (unchanged m ρ hO))
  obtain ⟨hr, hk⟩ := hr
  exact ⟨((hr c).2 main_v3 (by decide : main_v3 ∈ Pipeline.restRefs sig spec0)).trans (result_grad m hO q hq c),
    ((hr c).2 main_v5 (by decide : main_v5 ∈ Pipeline.restRefs sig spec0)).trans (result_delta m hO q hq c),
    ((hr c).2 main_v7 (by decide : main_v7 ∈ Pipeline.restRefs sig spec0)).trans (result_moment m hO q hq c),
    ((hr c).2 main_v9 (by decide : main_v9 ∈ Pipeline.restRefs sig spec0)).trans (result_second m hO q hq c),
    hk c⟩

end value

section reference

open Cert.RefOutUpperIdeal Cert.RefOutUpperIdeal.Read

variable (x0 x1 : FVec Ideal S4x256x2048 .bf16) (x2 : IVec S_ 32) (x3 x4 x5 : FVec Ideal S2x256x2048 .f32) (r : Fin 256) (j : Fin 2048)

/-- The parts the reference adds. -/
theorem part_apply (k : Fin 4) : val_main_v5 (F := Ideal) x0 x1 x2 (ix3 k r j)
    = if x2 (fun a => a.elim0) = BitVec.ofNat 32 k.val then x1 (ix3 k r j) else x0 (ix3 k r j) := by
  rw [val_main_v5_apply, val_main_v4_apply, val_main_call0_v0_apply, val_main_v3_apply, val_main_v2_apply, val_main_v1_apply, val_main_v0_apply, select_eq]
  refine Eq.trans ?_ (if_congr eq_comm rfl rfl)
  rfl

theorem ref_grad : val_main_v6 (F := Ideal) x0 x1 x2 (ix2 r j)
    = total (x2 (fun a => a.elim0)) (fun k => x1 (ix3 k r j)) (fun k => x0 (ix3 k r j)) := by
  rw [val_main_v6_apply, val_main_cst_apply]
  refine (congrArg (· + _) Ideal.ofBits_zero_f32).trans ((zero_add _).trans ?_)
  unfold total
  refine Finset.sum_congr rfl fun k _ => ?_
  rw [show idx_main_v6 (ix2 r j) k = ix3 k r j from funext fun a => Fin.ext (by match a with
    | ⟨0, _⟩ => rfl
    | ⟨1, _⟩ => rfl
    | ⟨2, _⟩ => rfl)]
  exact part_apply x0 x1 x2 r j k

theorem ref_weight : val_main_v8 (F := Ideal) x3 (ix2 r j) = x3 (ix3 1 r j) := by
  rw [val_main_v8_apply, val_main_v7_apply]
  exact congrArg x3 (at_layer r j 1 _ rfl rfl rfl _ rfl rfl rfl)

theorem ref_m : val_main_v10 (F := Ideal) x4 (ix2 r j) = x4 (ix3 1 r j) := by
  rw [val_main_v10_apply, val_main_v9_apply]
  exact congrArg x4 (at_layer r j 1 _ rfl rfl rfl _ rfl rfl rfl)

theorem ref_v : val_main_v12 (F := Ideal) x5 (ix2 r j) = x5 (ix3 1 r j) := by
  rw [val_main_v12_apply, val_main_v11_apply]
  exact congrArg x5 (at_layer r j 1 _ rfl rfl rfl _ rfl rfl rfl)

theorem ref_moment : val_main_v17 (F := Ideal) x0 x1 x2 x4 (ix2 r j) = moment (val_main_v6 (F := Ideal) x0 x1 x2 (ix2 r j)) (x4 (ix3 1 r j)) := by
  rw [val_main_v17_apply, val_main_v14_apply, val_main_v13_apply, ref_m, val_main_v16_apply, val_main_v15_apply]
  rfl

theorem ref_second : val_main_v23 (F := Ideal) x0 x1 x2 x5 (ix2 r j) = second (val_main_v6 (F := Ideal) x0 x1 x2 (ix2 r j)) (x5 (ix3 1 r j)) := by
  rw [val_main_v23_apply, val_main_v19_apply, val_main_v18_apply, ref_v, val_main_v22_apply, val_main_v21_apply, val_main_v20_apply]
  rfl

theorem ref_delta : val_main_v36 (F := Ideal) x0 x1 x2 x3 x4 x5 (ix2 r j)
    = delta (val_main_v6 (F := Ideal) x0 x1 x2 (ix2 r j)) (x3 (ix3 1 r j)) (x4 (ix3 1 r j)) (x5 (ix3 1 r j)) := by
  rw [val_main_v36_apply, val_main_v35_apply, val_main_v34_apply, val_main_v31_apply, val_main_v25_apply, val_main_v24_apply, ref_moment,
    val_main_v30_apply, val_main_v28_apply, val_main_v27_apply, val_main_v26_apply, ref_second, val_main_v29_apply, val_main_v33_apply, val_main_v32_apply, ref_weight]
  rfl

end reference

section frames

open Cert.OutUpper Cert.OutUpper.Gen

variable (m : (ℓ : Loc nD τ sig) → Buf (Elt Bits) ℓ)

abbrev chip' : BitVec 32 := m (((0 : Dev nD) : Thread nD τ).loc main_arg2) (fun a => a.elim0)

set_option backward.proofsInPublic true in
def word' (w : BitVec 32) : pre0.Contents (Elt Bits) := fun | ⟨0, _⟩ => fun _ => w | ⟨_ + 1, h⟩ => absurd h (by simp)

theorem tbl_eq' : tbl m = word' (chip' m) := by
  have h : V m (0 : Dev nD) main_v0 = shapeCast S1 (m (((0 : Dev nD) : Thread nD τ).loc main_arg2) : IVec S_ 32) shapeCasts_S_S1 := by
    show StableHlo.after hostOps0 (fun b => m ((0 : Dev nD), b)) (Proc.devRef .tc main_v0) = _
    unfold hostOps0
    rw [StableHlo.after_cons, StableHlo.after_nil, StableHlo.reshape_result]
    rfl
  funext j x
  match j with
  | ⟨0, _⟩ =>
    refine (congrFun h x).trans ?_
    exact one_word _ _ x

theorem word_ok' : ∀ q : Fin 4, ok0 (word' (BitVec.ofNat 32 q.val)) := by decide +kernel

theorem ok_of_pre' (h : Cert.Pre_OutUpper m) : Ok m := by
  have one (a b : BitVec 1) : IntOp.andi a b = 1#1 ↔ a = 1#1 ∧ b = 1#1 := by revert a b; decide
  have e := congrFun (h 0) (fun a => a.elim0)
  simp only [Cert.Pre_a_chip_out_upper.fn, constantI, cmpi, andi, one] at e
  have hl : (chip' m).toNat < 4 := chip_lt _ e.1 e.2
  obtain ⟨q, hq⟩ := chip_eq (chip' m) hl
  unfold Ok
  rw [tbl_eq', hq]
  exact word_ok' q

end frames

theorem frame : Cert.quiescent_OutUpper := fun m ρ h => Cert.OutUpper.Gen.frame m ρ (ok_of_pre' m h)

theorem frame_ideal : Cert.quiescent_OutUpperIdeal := fun m ρ h => Cert.OutUpperIdeal.Gen.frame m ρ (ok_of_pre m h)

theorem reference_frame : Cert.quiescent_RefOutUpperIdeal := fun m ρ _ =>
  (θ_run Cert.RefOutUpperIdeal.defs _ _).mono
    (fun r h => ⟨fun c => (h c).2.2.2.2, Idealize.ShloMosaic.sem_eq_zero_of_no_sems (by decide) r.2⟩)
    (Cert.RefOutUpperIdeal.Value.run (F := Ideal) m ρ)

open Cert.RefOutUpperIdeal Cert.RefOutUpperIdeal.Read in
theorem algebraic : Cert.algebraic_OutUpperIdeal_RefOutUpperIdeal := by
  intro m ρ m' ρ' hpre hagree
  refine ⟨_, _, _, _, run m ρ hpre, ?_⟩
  refine (θ_run (Cert.RefOutUpperIdeal.defs (F := Ideal)) _ _).mono (fun _ h c => ?_) (Cert.RefOutUpperIdeal.Value.run (F := Ideal) m' ρ')
  obtain ⟨e0, e1, e2, e3, e4, e5⟩ := hagree c
  have ec : m' ((c.tc : Thread nD τ).loc main_arg2) (fun a => a.elim0) = chip m :=
    (congrFun e2 _).trans (by rw [Subsingleton.elim c 0]; rfl)
  obtain ⟨h0, h1, h2, h3, hrest⟩ := h c
  have hg (r : Fin 256) (j : Fin 2048) : val_main_v6 (F := Ideal)
      (m' ((c.tc : Thread nD τ).loc main_arg0))
      (m' ((c.tc : Thread nD τ).loc main_arg1))
      (m' ((c.tc : Thread nD τ).loc main_arg2)) (ix2 r j) = gradAt m c r j := by
    refine (ref_grad _ _ _ r j).trans ?_
    unfold gradAt
    rw [e0, e1]
    exact congrArg (fun w => total w _ _) ec
  refine ⟨h0.trans ?_, h1.trans ?_, h2.trans ?_, h3.trans ?_, hrest⟩
  · refine (val_main_v6_eq _ _ _).trans ?_
    funext i
    obtain ⟨r, j, rfl⟩ := pair i
    exact hg r j
  · refine (val_main_v36_eq _ _ _ _ _ _).trans ?_
    funext i
    obtain ⟨r, j, rfl⟩ := pair i
    refine (ref_delta _ _ _ _ _ _ r j).trans ?_
    rw [hg r j, e3, e4, e5]
    rfl
  · refine (val_main_v17_eq _ _ _ _).trans ?_
    funext i
    obtain ⟨r, j, rfl⟩ := pair i
    refine (ref_moment _ _ _ _ r j).trans ?_
    rw [hg r j, e4]
    rfl
  · refine (val_main_v23_eq _ _ _ _).trans ?_
    funext i
    obtain ⟨r, j, rfl⟩ := pair i
    refine (ref_second _ _ _ _ r j).trans ?_
    rw [hg r j, e5]
    rfl

end Cert.Proof.OutUpper
-- ==== Proof.OutLower.lean ====
module

public import proofs.«01_k».proof.Defs
public import proofs.«01_k».proof.Proof.Layer
public import proofs.«01_k».proof.Proof.Gen.OutLower.Frame
public import proofs.«01_k».proof.Proof.Gen.OutLowerIdeal.Frame
public import proofs.«01_k».proof.Proof.Gen.RefOutLowerIdeal.Run
public import proofs.«01_k».proof.Proof.Gen.RefOutLowerIdeal.Read
public import proofs.«01_k».proof.Proof.Gen.Pre_a_chip_out_lower
public import Idealize.ShloMosaic.Lib.StableHlo.Predicate
public import Idealize.ShloMosaic.Lib.Pipeline.ValueKit
public import Idealize.ShloMosaic.Lib.ValueIdx
public import Idealize.ShloMosaic.Adequacy
public import Idealize.ShloMosaic.Init

@[expose] public section

noncomputable section

namespace Cert.Proof.OutLower

open Idealize.ShloMosaic hiding ix0 ix1 ix2 ix3 eq_ix2 eq_ix3
open Idealize.ShloMosaic.TcCoe Idealize.ShloMosaic.ValueIdx Idealize.SL.Sem Cert.Proof.Step Cert.Proof.Layer

section value

open Cert.OutLowerIdeal Cert.OutLowerIdeal.Gen

theorem down_apply {η : FTy} (x : FVec Ideal S1x128x2048 η) (r : Fin 128) (j : Fin 2048) :
    shapeCast S128x2048 x shapeCasts_S1x128x2048_S128x2048 (ix2 r j) = x (ix3 0 r j) := down r j x _

theorem up_apply {η : FTy} (x : FVec Ideal S128x2048 η) (z : Fin 1) (r : Fin 128) (j : Fin 2048) :
    shapeCast S1x128x2048 x shapeCasts_S128x2048_S1x128x2048 (ix3 z r j) = x (ix2 r j) := up r j x _ z

/-- The sum of the parts, at a row and a column of the block. -/
theorem pay3_apply (o a0 a1 a2 a3 : Vec Ideal S1x128x2048 .bf16) (w : BitVec 32) (r : Fin 128) (j : Fin 2048) :
    k0_pay3 o w a0 w a1 w a2 w a3 (ix2 r j)
      = (((Scalar.select (IntOp.cmpi .eq w 0#32) (o (ix3 0 r j)) (a0 (ix3 0 r j)) + Scalar.select (IntOp.cmpi .eq w 1#32) (o (ix3 0 r j)) (a1 (ix3 0 r j)))
        + Scalar.select (IntOp.cmpi .eq w 2#32) (o (ix3 0 r j)) (a2 (ix3 0 r j)))
        + Scalar.select (IntOp.cmpi .eq w 3#32) (o (ix3 0 r j)) (a3 (ix3 0 r j)) : EReal) := by
  rw [← down_apply (η := .bf16) o, ← down_apply (η := .bf16) a0, ← down_apply (η := .bf16) a1, ← down_apply (η := .bf16) a2, ← down_apply (η := .bf16) a3]
  unfold k0_pay3
  simp only [addf_apply, choose_apply]
  rfl

theorem pay5_apply (g : FVec Ideal S128x2048 .f32) (v : Vec Ideal S1x128x2048 .f32) (r : Fin 128) (j : Fin 2048) :
    k0_pay5 g v (ix2 r j) = moment (g (ix2 r j)) (v (ix3 0 r j)) := by
  rw [← down_apply v]; rfl

theorem pay6_apply (g : FVec Ideal S128x2048 .f32) (v : Vec Ideal S1x128x2048 .f32) (r : Fin 128) (j : Fin 2048) :
    k0_pay6 g v (ix2 r j) = second (g (ix2 r j)) (v (ix3 0 r j)) := by
  rw [← down_apply v]; rfl

theorem pay8_apply (g : FVec Ideal S128x2048 .f32) (w m v : Vec Ideal S1x128x2048 .f32) (z : Fin 1) (r : Fin 128) (j : Fin 2048) :
    k0_pay8 g (k0_pay4 w) m v (ix3 z r j) = delta (g (ix2 r j)) (w (ix3 0 r j)) (m (ix3 0 r j)) (v (ix3 0 r j)) := by
  unfold k0_pay8
  refine (up_apply _ z r j).trans ?_
  unfold delta
  rw [← pay5_apply, ← pay6_apply, ← down_apply w]
  rfl

variable (m : (ℓ : Loc nD τ sig) → Buf (Elt Ideal) ℓ)

/-- The chip's number. -/
abbrev chip : BitVec 32 := m (((0 : Dev nD) : Thread nD τ).loc main_arg2) (fun a => a.elim0)

set_option backward.proofsInPublic true in
/-- A table of one word. -/
def word (w : BitVec 32) : pre0.Contents (Elt Ideal) := fun | ⟨0, _⟩ => fun _ => w | ⟨_ + 1, h⟩ => absurd h (by simp)

theorem tbl_eq : tbl m = word (chip m) := by
  have h : V m (0 : Dev nD) main_v0 = shapeCast S1 (m (((0 : Dev nD) : Thread nD τ).loc main_arg2) : IVec S_ 32) shapeCasts_S_S1 := by
    show StableHlo.after hostOps0 (fun b => m ((0 : Dev nD), b)) (Proc.devRef .tc main_v0) = _
    unfold hostOps0
    after_results_simp
    rfl
  funext j x
  match j with
  | ⟨0, _⟩ =>
    refine (congrFun h x).trans ?_
    exact one_word _ _ x

theorem word_ok : ∀ q : Fin 4, ok0 (word (BitVec.ofNat 32 q.val)) := by decide +kernel

theorem chip_of_pre (h : Cert.Pre_OutLowerIdeal m) : (chip m).toNat < 4 := by
  have one (a b : BitVec 1) : IntOp.andi a b = 1#1 ↔ a = 1#1 ∧ b = 1#1 := by revert a b; decide
  have e := congrFun (h 0) (fun a => a.elim0)
  simp only [Cert.Pre_a_chip_out_lower.fn, constantI, cmpi, andi, one] at e
  exact chip_lt _ e.1 e.2

theorem ok_of_pre (h : Cert.Pre_OutLowerIdeal m) : Ok m := by
  obtain ⟨q, hq⟩ := chip_eq (chip m) (chip_of_pre m h)
  unfold Ok
  rw [tbl_eq, hq]
  exact word_ok q

/-! ### Where the blocks lie -/

/-- The chip is the number `q`. -/
abbrev Own (q : Fin 4) : Prop := chip m = BitVec.ofNat 32 q.val

theorem at1 (hO : Ok m) (q : Fin 4) (hq : Own m q) (t : Fin (cfgM m hO).N) :
    ((cfgM m hO).win 1).index t = ![q.val, t.val, 0] := by
  have key : ∀ (q : Fin 4) (t : Fin grid0.N), cc0_transform_1 inb_S1_S1_0 numel1_S1 (word (BitVec.ofNat 32 q.val)) (grid0.coords t) = ![q.val, t.val, 0] := by
    decide +kernel
  show cc0_transform_1 inb_S1_S1_0 numel1_S1 (tbl m) (grid0.coords t) = _
  rw [tbl_eq, hq]
  exact key q t

theorem at0 (hO : Ok m) (t : Fin (cfgM m hO).N) : ((cfgM m hO).win 0).index t = ![0, t.val, 0] :=
  (by decide +kernel : ∀ t : Fin grid0.N, cc0_transform_0 (grid0.coords t) = ![0, t.val, 0]) t

theorem at2 (hO : Ok m) (t : Fin (cfgM m hO).N) : ((cfgM m hO).win 2).index t = ![0, t.val, 0] :=
  (by decide +kernel : ∀ t : Fin grid0.N, cc0_transform_2 (grid0.coords t) = ![0, t.val, 0]) t

theorem at5 (hO : Ok m) (t : Fin (cfgM m hO).N) : ((cfgM m hO).win 5).index t = ![0, t.val, 0] := at2 m hO t

abbrev row (hO : Ok m) (t : Fin (cfgM m hO).N) (r : Fin 128) : Fin 256 := ⟨t.val * 128 + r.val, by have h : t.val < 2 := t.isLt; omega⟩

theorem iblk0_apply (hO : Ok m) (c : Dev nD) (t : Fin (cfgM m hO).N) (k : Fin 4) (r : Fin 128) (j : Fin 2048) :
    iblk m hO c 0 t (ix3 k r j) = m ((c : Thread nD τ).loc main_arg0) (ix3 k (row m hO t r) j) := by
  rw [← V_main_arg0 m c]; blk_simp [iblk]; congr 1; blk_ext [at0 m hO t]

theorem iblk1_apply (hO : Ok m) (q : Fin 4) (hq : Own m q) (c : Dev nD) (t : Fin (cfgM m hO).N) (r : Fin 128) (j : Fin 2048) :
    iblk m hO c 1 t (ix3 (0 : Fin 1) r j) = m ((c : Thread nD τ).loc main_arg1) (ix3 q (row m hO t r) j) := by
  rw [← V_main_arg1 m c]; blk_simp [iblk]; congr 1; blk_ext [at1 m hO q hq t]

theorem iblk2_apply (hO : Ok m) (c : Dev nD) (t : Fin (cfgM m hO).N) (r : Fin 128) (j : Fin 2048) :
    iblk m hO c 2 t (ix3 (0 : Fin 1) r j) = m ((c : Thread nD τ).loc main_arg3) (ix3 0 (row m hO t r) j) := by
  rw [← V_main_arg3 m c]; blk_simp [iblk]; congr 1; blk_ext [at2 m hO t]

theorem at3 (hO : Ok m) (t : Fin (cfgM m hO).N) : ((cfgM m hO).win 3).index t = ![0, t.val, 0] := at2 m hO t
theorem at4 (hO : Ok m) (t : Fin (cfgM m hO).N) : ((cfgM m hO).win 4).index t = ![0, t.val, 0] := at2 m hO t
theorem at6 (hO : Ok m) (t : Fin (cfgM m hO).N) : ((cfgM m hO).win 6).index t = ![0, t.val, 0] := at2 m hO t
theorem at7 (hO : Ok m) (t : Fin (cfgM m hO).N) : ((cfgM m hO).win 7).index t = ![0, t.val, 0] := at2 m hO t
theorem at8 (hO : Ok m) (t : Fin (cfgM m hO).N) : ((cfgM m hO).win 8).index t = ![0, t.val, 0] := at2 m hO t

theorem iblk3_apply (hO : Ok m) (c : Dev nD) (t : Fin (cfgM m hO).N) (r : Fin 128) (j : Fin 2048) :
    iblk m hO c 3 t (ix3 (0 : Fin 1) r j) = m ((c : Thread nD τ).loc main_arg4) (ix3 0 (row m hO t r) j) := by
  rw [← V_main_arg4 m c]; blk_simp [iblk]; congr 1; blk_ext [at3 m hO t]

theorem iblk4_apply (hO : Ok m) (c : Dev nD) (t : Fin (cfgM m hO).N) (r : Fin 128) (j : Fin 2048) :
    iblk m hO c 4 t (ix3 (0 : Fin 1) r j) = m ((c : Thread nD τ).loc main_arg5) (ix3 0 (row m hO t r) j) := by
  rw [← V_main_arg5 m c]; blk_simp [iblk]; congr 1; blk_ext [at4 m hO t]

/-! ### The results at an element -/

/-- The gradient at a row and a column: the chips' parts added. -/
def gradAt (c : Dev nD) (r : Fin 256) (j : Fin 2048) : EReal :=
  total (chip m) (fun k => m ((c : Thread nD τ).loc main_arg1) (ix3 k r j)) (fun k => m ((c : Thread nD τ).loc main_arg0) (ix3 k r j))
def deltaAt (c : Dev nD) (r : Fin 256) (j : Fin 2048) : EReal :=
  delta (gradAt m c r j) (m ((c : Thread nD τ).loc main_arg3) (ix3 0 r j)) (m ((c : Thread nD τ).loc main_arg4) (ix3 0 r j))
    (m ((c : Thread nD τ).loc main_arg5) (ix3 0 r j))
def momentAt (c : Dev nD) (r : Fin 256) (j : Fin 2048) : EReal :=
  moment (gradAt m c r j) (m ((c : Thread nD τ).loc main_arg4) (ix3 0 r j))
def secondAt (c : Dev nD) (r : Fin 256) (j : Fin 2048) : EReal :=
  second (gradAt m c r j) (m ((c : Thread nD τ).loc main_arg5) (ix3 0 r j))

/-- What the body makes of a block's parts: the gradient. -/
theorem sum_apply (hO : Ok m) (q : Fin 4) (hq : Own m q) (c : Dev nD) (t : Fin (cfgM m hO).N)
    (o : Vec Ideal S1x128x2048 .bf16) (x : Vec Ideal S4x128x2048 .bf16) (w : BitVec 32) (ho : o = iblk m hO c 1 t) (hx : x = iblk m hO c 0 t)
    (hw : w = chip m) (h0 h1 h2 h3) (r : Fin 128) (j : Fin 2048) :
    k0_pay3 o w (View.ld x (Rect.unit (s := S4x128x2048) ![0, 0, 0] ![1, 128, 2048] h0)) w (View.ld x (Rect.unit (s := S4x128x2048) ![1, 0, 0] ![1, 128, 2048] h1))
      w (View.ld x (Rect.unit (s := S4x128x2048) ![2, 0, 0] ![1, 128, 2048] h2)) w (View.ld x (Rect.unit (s := S4x128x2048) ![3, 0, 0] ![1, 128, 2048] h3)) (ix2 r j)
      = gradAt m c (row m hO t r) j := by
  subst hw
  have eo : o (ix3 0 r j) = m ((c : Thread nD τ).loc main_arg1) (ix3 q (row m hO t r) j) := (congrFun ho _).trans (iblk1_apply m hO q hq c t r j)
  have ex : ∀ k : Fin 4, x (ix3 k r j) = m ((c : Thread nD τ).loc main_arg0) (ix3 k (row m hO t r) j) := fun k =>
    (congrFun hx _).trans (iblk0_apply m hO c t k r j)
  rw [pay3_apply, slab r j x 0 0 rfl h0, slab r j x 1 1 rfl h1, slab r j x 2 2 rfl h2, slab r j x 3 3 rfl h3, eo, ex, ex, ex, ex]
  refine total_eq (chip m) _ (fun k => m ((c : Thread nD τ).loc main_arg0) (ix3 k (row m hO t r) j)) _ fun k hk => ?_
  rw [one_chip hq hk]

theorem pay7_apply (x : FVec Ideal S128x2048 .f32) (z : Fin 1) (r : Fin 128) (j : Fin 2048) : k0_pay7 x (ix3 z r j) = x (ix2 r j) := up_apply _ z r j
theorem pay1_apply (x : FVec Ideal S128x2048 .f32) (z : Fin 1) (r : Fin 128) (j : Fin 2048) : k0_pay1 x (ix3 z r j) = x (ix2 r j) := up_apply _ z r j
theorem pay2_apply (x : FVec Ideal S128x2048 .f32) (z : Fin 1) (r : Fin 128) (j : Fin 2048) : k0_pay2 x (ix3 z r j) = x (ix2 r j) := up_apply _ z r j

/-- The word the body reads off the table. -/
theorem word_at (q : Fin 4) (hq : chip m = BitVec.ofNat 32 q.val) (i : S1.Idx) : tbl m 0 i = chip m := by rw [tbl_eq]; rfl

theorem out5_apply (hO : Ok m) (q : Fin 4) (hq : Own m q) (c : Dev nD) (t : Fin (cfgM m hO).N) (z : Fin 1) (r : Fin 128) (j : Fin 2048) :
    (outsAt0 m hO c t).1 (ix3 z r j) = gradAt m c (row m hO t r) j := by
  unfold outsAt0
  dsimp only
  frame_out
  refine (pay7_apply _ z r j).trans ?_
  exact sum_apply m hO q hq c t _ _ _ (Memref.IsWhole.read_unread _ _) (Memref.IsWhole.read_unread _ _) (word_at m q hq _) _ _ _ _ r j

theorem out6_apply (hO : Ok m) (q : Fin 4) (hq : Own m q) (c : Dev nD) (t : Fin (cfgM m hO).N) (z : Fin 1) (r : Fin 128) (j : Fin 2048) :
    (outsAt0 m hO c t).2.1 (ix3 z r j) = deltaAt m c (row m hO t r) j := by
  unfold outsAt0
  dsimp only
  frame_out
  refine (pay8_apply _ _ _ _ z r j).trans ?_
  unfold deltaAt
  congr 1
  · exact sum_apply m hO q hq c t _ _ _ (Memref.IsWhole.read_unread _ _) (Memref.IsWhole.read_unread _ _) (word_at m q hq _) _ _ _ _ r j
  · exact (congrFun (Memref.IsWhole.read_unread _ _) _).trans (iblk2_apply m hO c t r j)
  · exact (congrFun (Memref.IsWhole.read_unread _ _) _).trans (iblk3_apply m hO c t r j)
  · exact (congrFun (Memref.IsWhole.read_unread _ _) _).trans (iblk4_apply m hO c t r j)

theorem out7_apply (hO : Ok m) (q : Fin 4) (hq : Own m q) (c : Dev nD) (t : Fin (cfgM m hO).N) (z : Fin 1) (r : Fin 128) (j : Fin 2048) :
    (outsAt0 m hO c t).2.2.1 (ix3 z r j) = momentAt m c (row m hO t r) j := by
  unfold outsAt0
  dsimp only
  frame_out
  refine (pay1_apply _ z r j).trans ((pay5_apply _ _ r j).trans ?_)
  unfold momentAt
  congr 1
  · exact sum_apply m hO q hq c t _ _ _ (Memref.IsWhole.read_unread _ _) (Memref.IsWhole.read_unread _ _) (word_at m q hq _) _ _ _ _ r j
  · exact (congrFun (Memref.IsWhole.read_unread _ _) _).trans (iblk3_apply m hO c t r j)

theorem out8_apply (hO : Ok m) (q : Fin 4) (hq : Own m q) (c : Dev nD) (t : Fin (cfgM m hO).N) (z : Fin 1) (r : Fin 128) (j : Fin 2048) :
    (outsAt0 m hO c t).2.2.2 (ix3 z r j) = secondAt m c (row m hO t r) j := by
  unfold outsAt0
  dsimp only
  frame_out
  refine (pay2_apply _ z r j).trans ((pay6_apply _ _ r j).trans ?_)
  unfold secondAt
  congr 1
  · exact sum_apply m hO q hq c t _ _ _ (Memref.IsWhole.read_unread _ _) (Memref.IsWhole.read_unread _ _) (word_at m q hq _) _ _ _ _ r j
  · exact (congrFun (Memref.IsWhole.read_unread _ _) _).trans (iblk4_apply m hO c t r j)

/-! ### The result arrays after the run -/

theorem final5 (hO : Ok m) (q : Fin 4) (hq : Own m q) (c : Dev nD) :
    (dats m hO 0 c).arrAt 5 (cfgM m hO).N = half 0 (gradAt m c) ((dats m hO 0 c).A 5) := by
  refine (dats m hO 0 c).arrAt_eq_of_coversWhere 5 (fun i : S2x256x2048.Idx => gradAt m c (i 1) (i 2)) (fun β => β (0 : Fin 3) = 0) (by decide +kernel : ((cfg0 (F := Ideal) ⟨word 0, word_ok 0⟩).win 5).CoversWhere (fun β => β (0 : Fin 3) = 0)) (fun t hf y => ?_) (fun j => Iff.rfl)
  blk_simp
  rw [after0_5]
  obtain ⟨z, r, j, rfl⟩ := triple y
  refine (out5_apply m hO q hq c t z r j).trans ?_
  rw [show (((cfgM m hO).win 5).blk t).view.emb (ix3 z r j) = (ix3 (0 : Fin 2) (row m hO t r) j : S2x256x2048.Idx) from by blk_ext [at5 m hO t]]

theorem final6 (hO : Ok m) (q : Fin 4) (hq : Own m q) (c : Dev nD) :
    (dats m hO 0 c).arrAt 6 (cfgM m hO).N = half 0 (deltaAt m c) ((dats m hO 0 c).A 6) := by
  refine (dats m hO 0 c).arrAt_eq_of_coversWhere 6 (fun i : S2x256x2048.Idx => deltaAt m c (i 1) (i 2)) (fun β => β (0 : Fin 3) = 0) (by decide +kernel : ((cfg0 (F := Ideal) ⟨word 0, word_ok 0⟩).win 6).CoversWhere (fun β => β (0 : Fin 3) = 0)) (fun t hf y => ?_) (fun j => Iff.rfl)
  blk_simp
  rw [after0_6]
  obtain ⟨z, r, j, rfl⟩ := triple y
  refine (out6_apply m hO q hq c t z r j).trans ?_
  rw [show (((cfgM m hO).win 6).blk t).view.emb (ix3 z r j) = (ix3 (0 : Fin 2) (row m hO t r) j : S2x256x2048.Idx) from by blk_ext [at6 m hO t]]

theorem final7 (hO : Ok m) (q : Fin 4) (hq : Own m q) (c : Dev nD) :
    (dats m hO 0 c).arrAt 7 (cfgM m hO).N = half 0 (momentAt m c) ((dats m hO 0 c).A 7) := by
  refine (dats m hO 0 c).arrAt_eq_of_coversWhere 7 (fun i : S2x256x2048.Idx => momentAt m c (i 1) (i 2)) (fun β => β (0 : Fin 3) = 0) (by decide +kernel : ((cfg0 (F := Ideal) ⟨word 0, word_ok 0⟩).win 7).CoversWhere (fun β => β (0 : Fin 3) = 0)) (fun t hf y => ?_) (fun j => Iff.rfl)
  blk_simp
  rw [after0_7]
  obtain ⟨z, r, j, rfl⟩ := triple y
  refine (out7_apply m hO q hq c t z r j).trans ?_
  rw [show (((cfgM m hO).win 7).blk t).view.emb (ix3 z r j) = (ix3 (0 : Fin 2) (row m hO t r) j : S2x256x2048.Idx) from by blk_ext [at7 m hO t]]

theorem final8 (hO : Ok m) (q : Fin 4) (hq : Own m q) (c : Dev nD) :
    (dats m hO 0 c).arrAt 8 (cfgM m hO).N = half 0 (secondAt m c) ((dats m hO 0 c).A 8) := by
  refine (dats m hO 0 c).arrAt_eq_of_coversWhere 8 (fun i : S2x256x2048.Idx => secondAt m c (i 1) (i 2)) (fun β => β (0 : Fin 3) = 0) (by decide +kernel : ((cfg0 (F := Ideal) ⟨word 0, word_ok 0⟩).win 8).CoversWhere (fun β => β (0 : Fin 3) = 0)) (fun t hf y => ?_) (fun j => Iff.rfl)
  blk_simp
  rw [after0_8]
  obtain ⟨z, r, j, rfl⟩ := triple y
  refine (out8_apply m hO q hq c t z r j).trans ?_
  rw [show (((cfgM m hO).win 8).blk t).view.emb (ix3 z r j) = (ix3 (0 : Fin 2) (row m hO t r) j : S2x256x2048.Idx) from by blk_ext [at8 m hO t]]

/-! ### The other layer is the earlier array's -/

theorem result_grad (hO : Ok m) (q : Fin 4) (hq : Own m q) (c : Dev nD) :
    (dats m hO 0 c).arrAt 5 (cfgM m hO).N
      = half 0 (gradAt m c) (m ((c : Thread nD τ).loc main_arg6)) := by
  have e : (dats m hO 0 c).A 5 = m ((c : Thread nD τ).loc main_arg6) := by
    rw [A_eq]
    show StableHlo.after (hostOps0 (F := Ideal)) (fun b => m (c, b)) (Proc.devRef .tc main_v1_0) = _
    simp only [hostOps0]
    after_results_simp <;> rfl
  rw [final5 m hO q hq c, e]

theorem result_delta (hO : Ok m) (q : Fin 4) (hq : Own m q) (c : Dev nD) :
    (dats m hO 0 c).arrAt 6 (cfgM m hO).N
      = half 0 (deltaAt m c) (m ((c : Thread nD τ).loc main_arg7)) := by
  have e : (dats m hO 0 c).A 6 = m ((c : Thread nD τ).loc main_arg7) := by
    rw [A_eq]
    show StableHlo.after (hostOps0 (F := Ideal)) (fun b => m (c, b)) (Proc.devRef .tc main_v1_1) = _
    simp only [hostOps0]
    after_results_simp <;> rfl
  rw [final6 m hO q hq c, e]

theorem result_moment (hO : Ok m) (q : Fin 4) (hq : Own m q) (c : Dev nD) :
    (dats m hO 0 c).arrAt 7 (cfgM m hO).N
      = half 0 (momentAt m c) (m ((c : Thread nD τ).loc main_arg8)) := by
  have e : (dats m hO 0 c).A 7 = m ((c : Thread nD τ).loc main_arg8) := by
    rw [A_eq]
    show StableHlo.after (hostOps0 (F := Ideal)) (fun b => m (c, b)) (Proc.devRef .tc main_v1_2) = _
    simp only [hostOps0]
    after_results_simp <;> rfl
  rw [final7 m hO q hq c, e]

theorem result_second (hO : Ok m) (q : Fin 4) (hq : Own m q) (c : Dev nD) :
    (dats m hO 0 c).arrAt 8 (cfgM m hO).N
      = half 0 (secondAt m c) (m ((c : Thread nD τ).loc main_arg9)) := by
  have e : (dats m hO 0 c).A 8 = m ((c : Thread nD τ).loc main_arg9) := by
    rw [A_eq]
    show StableHlo.after (hostOps0 (F := Ideal)) (fun b => m (c, b)) (Proc.devRef .tc main_v1_3) = _
    simp only [hostOps0]
    after_results_simp <;> rfl
  rw [final8 m hO q hq c, e]

/-- What the call leaves: the gradient, the change of the weights and the two new moments in one layer, the earlier arrays' other
    layer, and the arguments as they were. -/
theorem run (ρ : Dev nD → PrngReg) (h : Cert.Pre_OutLowerIdeal m) :
    θ_run (defs (F := Ideal)) (onTc (τ := τ) (main (F := Ideal))) ⟨m, fun _ => 0, ρ⟩ fun r => ∀ c : Dev nD,
      r.2.mem ((c.tc : Thread nD τ).loc main_v1_0) = half 0 (gradAt m c) (m ((c : Thread nD τ).loc main_arg6))
      ∧ r.2.mem ((c.tc : Thread nD τ).loc main_v1_1) = half 0 (deltaAt m c) (m ((c : Thread nD τ).loc main_arg7))
      ∧ r.2.mem ((c.tc : Thread nD τ).loc main_v1_2) = half 0 (momentAt m c) (m ((c : Thread nD τ).loc main_arg8))
      ∧ r.2.mem ((c.tc : Thread nD τ).loc main_v1_3) = half 0 (secondAt m c) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  have hO := ok_of_pre m h
  obtain ⟨q, hq⟩ := chip_eq (chip m) (chip_of_pre m h)
  refine (θ_run (defs (F := Ideal)) _ _).mono (fun r hr c => ?_) (θ_run_and (run_main m ρ hO) (unchanged m ρ hO))
  obtain ⟨hr, hk⟩ := hr
  exact ⟨((hr c).1 5).trans (result_grad m hO q hq c), ((hr c).1 6).trans (result_delta m hO q hq c),
    ((hr c).1 7).trans (result_moment m hO q hq c), ((hr c).1 8).trans (result_second m hO q hq c), hk c⟩

end value

section reference

open Cert.RefOutLowerIdeal Cert.RefOutLowerIdeal.Read

variable (x0 x1 : FVec Ideal S4x256x2048 .bf16) (x2 : IVec S_ 32) (x3 x4 x5 : FVec Ideal S2x256x2048 .f32) (r : Fin 256) (j : Fin 2048)

/-- The parts the reference adds. -/
theorem part_apply (k : Fin 4) : val_main_v5 (F := Ideal) x0 x1 x2 (ix3 k r j)
    = if x2 (fun a => a.elim0) = BitVec.ofNat 32 k.val then x1 (ix3 k r j) else x0 (ix3 k r j) := by
  rw [val_main_v5_apply, val_main_v4_apply, val_main_call0_v0_apply, val_main_v3_apply, val_main_v2_apply, val_main_v1_apply, val_main_v0_apply, select_eq]
  refine Eq.trans ?_ (if_congr eq_comm rfl rfl)
  rfl

theorem ref_grad : val_main_v6 (F := Ideal) x0 x1 x2 (ix2 r j)
    = total (x2 (fun a => a.elim0)) (fun k => x1 (ix3 k r j)) (fun k => x0 (ix3 k r j)) := by
  rw [val_main_v6_apply, val_main_cst_apply]
  refine (congrArg (· + _) Ideal.ofBits_zero_f32).trans ((zero_add _).trans ?_)
  unfold total
  refine Finset.sum_congr rfl fun k _ => ?_
  rw [show idx_main_v6 (ix2 r j) k = ix3 k r j from funext fun a => Fin.ext (by match a with
    | ⟨0, _⟩ => rfl
    | ⟨1, _⟩ => rfl
    | ⟨2, _⟩ => rfl)]
  exact part_apply x0 x1 x2 r j k

theorem ref_weight : val_main_v8 (F := Ideal) x3 (ix2 r j) = x3 (ix3 0 r j) := by
  rw [val_main_v8_apply, val_main_v7_apply]
  exact congrArg x3 (at_layer r j 0 (idx_main_v8 (ix2 r j)) rfl rfl rfl _ (Nat.zero_add _).symm rfl rfl)

theorem ref_m : val_main_v10 (F := Ideal) x4 (ix2 r j) = x4 (ix3 0 r j) := by
  rw [val_main_v10_apply, val_main_v9_apply]
  exact congrArg x4 (at_layer r j 0 (idx_main_v10 (ix2 r j)) rfl rfl rfl _ (Nat.zero_add _).symm rfl rfl)

theorem ref_v : val_main_v12 (F := Ideal) x5 (ix2 r j) = x5 (ix3 0 r j) := by
  rw [val_main_v12_apply, val_main_v11_apply]
  exact congrArg x5 (at_layer r j 0 (idx_main_v12 (ix2 r j)) rfl rfl rfl _ (Nat.zero_add _).symm rfl rfl)

theorem ref_moment : val_main_v17 (F := Ideal) x0 x1 x2 x4 (ix2 r j) = moment (val_main_v6 (F := Ideal) x0 x1 x2 (ix2 r j)) (x4 (ix3 0 r j)) := by
  rw [val_main_v17_apply, val_main_v14_apply, val_main_v13_apply, ref_m, val_main_v16_apply, val_main_v15_apply]
  rfl

theorem ref_second : val_main_v23 (F := Ideal) x0 x1 x2 x5 (ix2 r j) = second (val_main_v6 (F := Ideal) x0 x1 x2 (ix2 r j)) (x5 (ix3 0 r j)) := by
  rw [val_main_v23_apply, val_main_v19_apply, val_main_v18_apply, ref_v, val_main_v22_apply, val_main_v21_apply, val_main_v20_apply]
  rfl

theorem ref_delta : val_main_v36 (F := Ideal) x0 x1 x2 x3 x4 x5 (ix2 r j)
    = delta (val_main_v6 (F := Ideal) x0 x1 x2 (ix2 r j)) (x3 (ix3 0 r j)) (x4 (ix3 0 r j)) (x5 (ix3 0 r j)) := by
  rw [val_main_v36_apply, val_main_v35_apply, val_main_v34_apply, val_main_v31_apply, val_main_v25_apply, val_main_v24_apply, ref_moment,
    val_main_v30_apply, val_main_v28_apply, val_main_v27_apply, val_main_v26_apply, ref_second, val_main_v29_apply, val_main_v33_apply, val_main_v32_apply, ref_weight]
  rfl

variable (x6 : FVec Ideal S2x256x2048 .f32)

theorem kept_grad : val_main_v40 (F := Ideal) x6 (ix3 0 r j) = x6 (ix3 1 r j) := by
  rw [val_main_v40_apply, val_main_v38_apply, val_main_v37_apply]
  exact congrArg x6 (at_layer r j 1 _ rfl rfl rfl _ rfl rfl rfl)

theorem kept_delta : val_main_v45 (F := Ideal) x6 (ix3 0 r j) = x6 (ix3 1 r j) := by
  rw [val_main_v45_apply, val_main_v43_apply, val_main_v42_apply]
  exact congrArg x6 (at_layer r j 1 _ rfl rfl rfl _ rfl rfl rfl)

theorem kept_moment : val_main_v50 (F := Ideal) x6 (ix3 0 r j) = x6 (ix3 1 r j) := by
  rw [val_main_v50_apply, val_main_v48_apply, val_main_v47_apply]
  exact congrArg x6 (at_layer r j 1 _ rfl rfl rfl _ rfl rfl rfl)

theorem kept_second : val_main_v55 (F := Ideal) x6 (ix3 0 r j) = x6 (ix3 1 r j) := by
  rw [val_main_v55_apply, val_main_v53_apply, val_main_v52_apply]
  exact congrArg x6 (at_layer r j 1 _ rfl rfl rfl _ rfl rfl rfl)

theorem stack_grad (z : Fin 2) : val_main_v41 (F := Ideal) x0 x1 x2 x6 (ix3 z r j)
    = if (z : ℕ) / 1 = 0 then val_main_v6 (F := Ideal) x0 x1 x2 (ix2 r j) else x6 (ix3 1 r j) := by
  unfold val_main_v41
  rw [stack_apply r j _ _ _ z, kept_grad, val_main_v39_apply, show idx_main_v39 (ix3 0 r j) = ix2 r j from funext fun | ⟨0, _⟩ => rfl | ⟨1, _⟩ => rfl]

theorem stack_delta (z : Fin 2) : val_main_v46 (F := Ideal) x0 x1 x2 x3 x4 x5 x6 (ix3 z r j)
    = if (z : ℕ) / 1 = 0 then val_main_v36 (F := Ideal) x0 x1 x2 x3 x4 x5 (ix2 r j) else x6 (ix3 1 r j) := by
  unfold val_main_v46
  rw [stack_apply r j _ _ _ z, kept_delta, val_main_v44_apply, show idx_main_v44 (ix3 0 r j) = ix2 r j from funext fun | ⟨0, _⟩ => rfl | ⟨1, _⟩ => rfl]

theorem stack_moment (z : Fin 2) : val_main_v51 (F := Ideal) x0 x1 x2 x4 x6 (ix3 z r j)
    = if (z : ℕ) / 1 = 0 then val_main_v17 (F := Ideal) x0 x1 x2 x4 (ix2 r j) else x6 (ix3 1 r j) := by
  unfold val_main_v51
  rw [stack_apply r j _ _ _ z, kept_moment, val_main_v49_apply, show idx_main_v49 (ix3 0 r j) = ix2 r j from funext fun | ⟨0, _⟩ => rfl | ⟨1, _⟩ => rfl]

theorem stack_second (z : Fin 2) : val_main_v56 (F := Ideal) x0 x1 x2 x5 x6 (ix3 z r j)
    = if (z : ℕ) / 1 = 0 then val_main_v23 (F := Ideal) x0 x1 x2 x5 (ix2 r j) else x6 (ix3 1 r j) := by
  unfold val_main_v56
  rw [stack_apply r j _ _ _ z, kept_second, val_main_v54_apply, show idx_main_v54 (ix3 0 r j) = ix2 r j from funext fun | ⟨0, _⟩ => rfl | ⟨1, _⟩ => rfl]

end reference

section frames

open Cert.OutLower Cert.OutLower.Gen

variable (m : (ℓ : Loc nD τ sig) → Buf (Elt Bits) ℓ)

abbrev chip' : BitVec 32 := m (((0 : Dev nD) : Thread nD τ).loc main_arg2) (fun a => a.elim0)

set_option backward.proofsInPublic true in
def word' (w : BitVec 32) : pre0.Contents (Elt Bits) := fun | ⟨0, _⟩ => fun _ => w | ⟨_ + 1, h⟩ => absurd h (by simp)

theorem tbl_eq' : tbl m = word' (chip' m) := by
  have h : V m (0 : Dev nD) main_v0 = shapeCast S1 (m (((0 : Dev nD) : Thread nD τ).loc main_arg2) : IVec S_ 32) shapeCasts_S_S1 := by
    show StableHlo.after hostOps0 (fun b => m ((0 : Dev nD), b)) (Proc.devRef .tc main_v0) = _
    unfold hostOps0
    after_results_simp
    rfl
  funext j x
  match j with
  | ⟨0, _⟩ =>
    refine (congrFun h x).trans ?_
    exact one_word _ _ x

theorem word_ok' : ∀ q : Fin 4, ok0 (word' (BitVec.ofNat 32 q.val)) := by decide +kernel

theorem ok_of_pre' (h : Cert.Pre_OutLower m) : Ok m := by
  have one (a b : BitVec 1) : IntOp.andi a b = 1#1 ↔ a = 1#1 ∧ b = 1#1 := by revert a b; decide
  have e := congrFun (h 0) (fun a => a.elim0)
  simp only [Cert.Pre_a_chip_out_lower.fn, constantI, cmpi, andi, one] at e
  have hl : (chip' m).toNat < 4 := chip_lt _ e.1 e.2
  obtain ⟨q, hq⟩ := chip_eq (chip' m) hl
  unfold Ok
  rw [tbl_eq', hq]
  exact word_ok' q

end frames

theorem frame : Cert.quiescent_OutLower := fun m ρ h => Cert.OutLower.Gen.frame m ρ (ok_of_pre' m h)

theorem frame_ideal : Cert.quiescent_OutLowerIdeal := fun m ρ h => Cert.OutLowerIdeal.Gen.frame m ρ (ok_of_pre m h)

theorem reference_frame : Cert.quiescent_RefOutLowerIdeal := fun m ρ _ =>
  (θ_run Cert.RefOutLowerIdeal.defs _ _).mono
    (fun r h => ⟨fun c => (h c).2.2.2.2, Idealize.ShloMosaic.sem_eq_zero_of_no_sems (by decide) r.2⟩)
    (Cert.RefOutLowerIdeal.Value.run (F := Ideal) m ρ)

/-- Two layers chosen by the same place agree where their parts do. -/
theorem two_layers (f g : EReal) (x y : FVec Ideal Cert.OutLowerIdeal.S2x256x2048 .f32) (z : Fin 2) (r : Fin 256) (j : Fin 2048) (hf : f = g) (hx : x = y) :
    (if (z : ℕ) / 1 = 0 then f else x (ix3 1 r j)) = if (z : ℕ) / 1 = 0 then g else y (ix3 z r j) := by
  subst hx hf
  match z with
  | ⟨0, _⟩ => exact (if_pos (show (0 : ℕ) / 1 = 0 from rfl)).trans (if_pos (show (0 : ℕ) / 1 = 0 from rfl)).symm
  | ⟨1, _⟩ =>
    have hne : ¬ ((1 : ℕ) / 1 = 0) := by decide
    exact (if_neg hne).trans (if_neg hne).symm

open Cert.RefOutLowerIdeal Cert.RefOutLowerIdeal.Read in
theorem algebraic : Cert.algebraic_OutLowerIdeal_RefOutLowerIdeal := by
  intro m ρ m' ρ' hpre hagree
  refine ⟨_, _, _, _, run m ρ hpre, ?_⟩
  refine (θ_run (Cert.RefOutLowerIdeal.defs (F := Ideal)) _ _).mono (fun _ h c => ?_) (Cert.RefOutLowerIdeal.Value.run (F := Ideal) m' ρ')
  obtain ⟨e0, e1, e2, e3, e4, e5, e6, e7, e8, e9⟩ := hagree c
  have ec : m' ((c.tc : Thread nD τ).loc main_arg2) (fun a => a.elim0) = chip m :=
    (congrFun e2 _).trans (by rw [Subsingleton.elim c 0]; rfl)
  obtain ⟨h0, h1, h2, h3, hrest⟩ := h c
  have hg (r : Fin 256) (j : Fin 2048) : val_main_v6 (F := Ideal)
      (m' ((c.tc : Thread nD τ).loc main_arg0))
      (m' ((c.tc : Thread nD τ).loc main_arg1))
      (m' ((c.tc : Thread nD τ).loc main_arg2)) (ix2 r j) = gradAt m c r j := by
    refine (ref_grad _ _ _ r j).trans ?_
    unfold gradAt
    rw [e0, e1]
    exact congrArg (fun w => total w _ _) ec
  have hdelta (r : Fin 256) (j : Fin 2048) : val_main_v36 (F := Ideal)
      (m' ((c.tc : Thread nD τ).loc main_arg0))
      (m' ((c.tc : Thread nD τ).loc main_arg1))
      (m' ((c.tc : Thread nD τ).loc main_arg2))
      (m' ((c.tc : Thread nD τ).loc main_arg3))
      (m' ((c.tc : Thread nD τ).loc main_arg4))
      (m' ((c.tc : Thread nD τ).loc main_arg5)) (ix2 r j) = deltaAt m c r j := by
    refine (ref_delta _ _ _ _ _ _ r j).trans ?_
    rw [hg r j, e3, e4, e5]
    rfl
  have hmoment (r : Fin 256) (j : Fin 2048) : val_main_v17 (F := Ideal)
      (m' ((c.tc : Thread nD τ).loc main_arg0))
      (m' ((c.tc : Thread nD τ).loc main_arg1))
      (m' ((c.tc : Thread nD τ).loc main_arg2))
      (m' ((c.tc : Thread nD τ).loc main_arg4)) (ix2 r j) = momentAt m c r j := by
    refine (ref_moment _ _ _ _ r j).trans ?_
    rw [hg r j, e4]
    rfl
  have hsecond (r : Fin 256) (j : Fin 2048) : val_main_v23 (F := Ideal)
      (m' ((c.tc : Thread nD τ).loc main_arg0))
      (m' ((c.tc : Thread nD τ).loc main_arg1))
      (m' ((c.tc : Thread nD τ).loc main_arg2))
      (m' ((c.tc : Thread nD τ).loc main_arg5)) (ix2 r j) = secondAt m c r j := by
    refine (ref_second _ _ _ _ r j).trans ?_
    rw [hg r j, e5]
    rfl
  refine ⟨h0.trans ?_, h1.trans ?_, h2.trans ?_, h3.trans ?_, hrest⟩
  · refine (val_main_v41_eq _ _ _ _).trans ?_
    funext i
    obtain ⟨z, r, j, rfl⟩ := triple i
    exact (stack_grad _ _ _ r j _ z).trans (two_layers _ _ _ _ z r j (hg r j) e6)
  · refine (val_main_v46_eq _ _ _ _ _ _ _).trans ?_
    funext i
    obtain ⟨z, r, j, rfl⟩ := triple i
    exact (stack_delta _ _ _ _ _ _ r j _ z).trans (two_layers _ _ _ _ z r j (hdelta r j) e7)
  · refine (val_main_v51_eq _ _ _ _ _).trans ?_
    funext i
    obtain ⟨z, r, j, rfl⟩ := triple i
    exact (stack_moment _ _ _ _ r j _ z).trans (two_layers _ _ _ _ z r j (hmoment r j) e8)
  · refine (val_main_v56_eq _ _ _ _ _).trans ?_
    funext i
    obtain ⟨z, r, j, rfl⟩ := triple i
    exact (stack_second _ _ _ _ r j _ z).trans (two_layers _ _ _ _ z r j (hsecond r j) e9)

end Cert.Proof.OutLower
-- ==== Proof.SmallGrads.lean ====
/- The sums of the small weights' gradients and the backward pass of the lower bounds, on the packed rows: the kernel's rows and the
   reference's are the same where the devices' parts of the lower bounds' gradients and the lower bounds' logits are finite. -/
module

public import proofs.«01_k».proof.Defs
public import proofs.«01_k».proof.Proof.Gen.SmallGrads.Frame
public import proofs.«01_k».proof.Proof.Gen.SmallGradsIdeal.Value
public import proofs.«01_k».proof.Proof.Gen.RefSmallGradsIdeal.Run
public import proofs.«01_k».proof.Proof.Gen.RefSmallGradsIdeal.Read
public import proofs.«01_k».proof.Proof.Gen.Pre_finite_bounds
public import Idealize.ShloMosaic.Lib.Pipeline.ValueKit
public import Idealize.ShloMosaic.Lib.ValueIdx
public import Idealize.ShloMosaic.Lib.KernelVsHost
public import Idealize.ShloMosaic.Lib.ReduceAll
public import Idealize.ShloMosaic.Lib.Routing.OpsOne
public import Idealize.ShloMosaic.Lib.WritesUnit
public import Idealize.ShloMosaic.PureOps.Ideal.Laws
public import Idealize.ShloMosaic.Adequacy
public import Idealize.ShloMosaic.Init

@[expose] public section

noncomputable section

namespace Cert.Proof.SmallGrads

open Idealize.ShloMosaic hiding ix0 ix1 ix2 ix3 eq_ix2 eq_ix3
open Idealize.ShloMosaic.TcCoe Idealize.ShloMosaic.ValueIdx Idealize.SL.Sem

/-! ### The scalars -/

theorem low_word : Ideal.ofBits .f32 0xFF800000#32 = (⊥ : EReal) := by simp [Ideal.ofBits, Ideal.ieee]
theorem high_word : Ideal.ofBits .f32 0x7F800000#32 = (⊤ : EReal) := by simp [Ideal.ofBits, Ideal.ieee]
theorem nought_word : Ideal.ofBits .f32 0x00000000#32 = (0 : EReal) := by simp [Ideal.ofBits, Ideal.ieee]
theorem unit_word : Ideal.ofBits .f32 0x3F800000#32 = (1 : EReal) := by
  refine Eq.trans ?_ (rfl : ((1 : ℝ) : EReal) = 1)
  simp [Ideal.ofBits, Ideal.ieee, -EReal.coe_mul]; norm_num

theorem max_of_two (g : Fin 2 → EReal) : (Finset.univ : Finset (Fin 2)).fold max (Ideal.ofBits .f32 0xFF800000#32) g = max (g 0) (g 1) := by
  rw [low_word, show (Finset.univ : Finset (Fin 2)) = {0, 1} from rfl, Finset.fold_insert (by decide), Finset.fold_singleton]
  simp

theorem real_of_abs_lt {x : EReal} (h : max x (-x) < ⊤) : ∃ r : ℝ, x = (r : EReal) := by
  induction x using EReal.rec with
  | bot => simp at h
  | coe r => exact ⟨r, rfl⟩
  | top => simp at h

/-- The share that a logit has in the softmax of two. -/
def share (x y w : EReal) : EReal := Ideal.div (Ideal.exp (w - max x y)) (Ideal.exp (x - max x y) + Ideal.exp (y - max x y))

/-- The gradient of the second logit, from the second layer's part. -/
def lower (c x y : EReal) : EReal := c * share x y x * share x y y

theorem exps (x y : ℝ) : ∃ a b : ℝ, 0 < a ∧ 0 < b ∧ Ideal.exp ((x : EReal) - max (x : EReal) y) = a ∧ Ideal.exp ((y : EReal) - max (x : EReal) y) = b := by
  refine ⟨Real.exp (x - max x y), Real.exp (y - max x y), Real.exp_pos _, Real.exp_pos _, ?_, ?_⟩
  · rw [show max (x : EReal) (y : EReal) = ((max x y : ℝ) : EReal) from (EReal.coe_strictMono.monotone.map_max).symm, ← EReal.coe_sub, Ideal.exp_coe]
  · rw [show max (x : EReal) (y : EReal) = ((max x y : ℝ) : EReal) from (EReal.coe_strictMono.monotone.map_max).symm, ← EReal.coe_sub, Ideal.exp_coe]

theorem lower_eq (c x y a b : ℝ) (ha : 0 < a) (hb : 0 < b) (ea : Ideal.exp ((x : EReal) - max (x : EReal) y) = a)
    (eb : Ideal.exp ((y : EReal) - max (x : EReal) y) = b) : lower c x y = ((c * (a / (a + b)) * (b / (a + b)) : ℝ) : EReal) := by
  unfold lower share
  have h : a + b ≠ 0 := (add_pos ha hb).ne'
  rw [ea, eb, ← EReal.coe_add, Ideal.div_coe h, Ideal.div_coe h, ← EReal.coe_mul, ← EReal.coe_mul, ← EReal.coe_mul, ← EReal.coe_mul]
  congr 1
  field_simp

/-- The reference's row of the softmax's backward pass: `v` the row's part of the cumulative sum's, `v0` and `v1` both rows', `e` the row's exponential, `a` and `b` both rows'. -/
def back (v v0 v1 e a b : EReal) : EReal :=
  (Ideal.div v (a + b) + (0 + -(0 + (v0 * Ideal.div 1 ((a + b) * (a + b)) * a + v1 * Ideal.div 1 ((a + b) * (a + b)) * b)))) * e

/-- The first row's part of what enters the cumulative sum's backward pass, and the second's. -/
def top (c0 c1 : EReal) : EReal := c0 + (0 + (0 + (-c0 + -c1)))
def low (c1 : EReal) : EReal := c1 + 0

theorem back_first (c0 c1 x y : ℝ) :
    back (0 + top c0 c1 + low c1) (0 + top c0 c1 + low c1) (0 + low c1 + 0) (Ideal.exp ((x : EReal) - max (x : EReal) y))
      (Ideal.exp ((x : EReal) - max (x : EReal) y)) (Ideal.exp ((y : EReal) - max (x : EReal) y)) = 0 - lower c1 x y := by
  obtain ⟨a, b, ha, hb, ea, eb⟩ := exps x y
  have h : a + b ≠ 0 := (add_pos ha hb).ne'
  have h2 : (a + b) * (a + b) ≠ 0 := mul_ne_zero h h
  rw [lower_eq c1 x y a b ha hb ea eb, ea, eb]
  unfold back top low
  have e1 : (1 : EReal) = ((1 : ℝ) : EReal) := rfl
  have e0 : (0 : EReal) = ((0 : ℝ) : EReal) := rfl
  rw [e1, e0]
  simp only [← EReal.coe_add, ← EReal.coe_mul, ← EReal.coe_neg, ← EReal.coe_sub, Ideal.div_coe h, Ideal.div_coe h2]
  congr 1
  field_simp
  ring

theorem back_second (c0 c1 x y : ℝ) :
    back (0 + low c1 + 0) (0 + top c0 c1 + low c1) (0 + low c1 + 0) (Ideal.exp ((y : EReal) - max (x : EReal) y))
      (Ideal.exp ((x : EReal) - max (x : EReal) y)) (Ideal.exp ((y : EReal) - max (x : EReal) y)) = lower c1 x y := by
  obtain ⟨a, b, ha, hb, ea, eb⟩ := exps x y
  have h : a + b ≠ 0 := (add_pos ha hb).ne'
  have h2 : (a + b) * (a + b) ≠ 0 := mul_ne_zero h h
  rw [lower_eq c1 x y a b ha hb ea eb, ea, eb]
  unfold back top low
  have e1 : (1 : EReal) = ((1 : ℝ) : EReal) := rfl
  have e0 : (0 : EReal) = ((0 : ℝ) : EReal) := rfl
  rw [e1, e0]
  simp only [← EReal.coe_add, ← EReal.coe_mul, ← EReal.coe_neg, ← EReal.coe_sub, Ideal.div_coe h, Ideal.div_coe h2]
  congr 1
  field_simp
  ring

/-! ### The result as a function of the arguments -/

section function

open Cert.RefSmallGradsIdeal

/-- A device's column that a row of four and a lane are. -/
abbrev col (r : Fin 4) (t : Fin 128) : Fin 512 := ⟨r.val * 128 + t.val, by omega⟩

/-- The devices' parts added up. -/
def total (x0 : FVec Ideal S8x496x128 .f32) (r : Fin 496) (t : Fin 128) : EReal := ∑ k : Fin 8, (x0 (ix3 k r t) : EReal)

/-- The second logit's gradient at a row of four and a lane. -/
def bound (x0 : FVec Ideal S8x496x128 .f32) (x1 : FVec Ideal S2x512 .f32) (r : Fin 4) (t : Fin 128) : EReal :=
  lower (total x0 ⟨248 + r.val, by omega⟩ t) (x1 (ix2 0 (col r t))) (x1 (ix2 1 (col r t)))

def rows (x0 : FVec Ideal S8x496x128 .f32) (x1 : FVec Ideal S2x512 .f32) (r : Fin 496) (t : Fin 128) : EReal :=
  if h : r.val < 4 then 0 - bound x0 x1 ⟨r.val, h⟩ t
  else if h : 248 ≤ r.val ∧ r.val < 252 then bound x0 x1 ⟨r.val - 248, by omega⟩ t
  else total x0 r t

end function

section reference

open Cert.RefSmallGradsIdeal Cert.RefSmallGradsIdeal.Read

variable (x0 : FVec Ideal S8x496x128 .f32) (x1 : FVec Ideal S2x512 .f32)

theorem total_at (i : S496x128.Idx) : val_main_v0 (F := Ideal) x0 i = total x0 (i 0) (i 1) := by
  rw [val_main_v0_apply, val_main_cst_apply]
  show Ideal.ofBits .f32 0x00000000#32 + _ = _
  rw [nought_word, zero_add]
  exact Finset.sum_congr rfl fun k _ => congrArg x0 (funext fun a => by match a with
    | ⟨0, _⟩ => rfl
    | ⟨1, _⟩ => rfl
    | ⟨2, _⟩ => rfl)

/-- The two layers' parts of the lower bounds' gradients, at a column. -/
abbrev first (j : Fin 512) : EReal := total x0 ⟨j.val / 128, by omega⟩ ⟨j.val % 128, by omega⟩
abbrev second (j : Fin 512) : EReal := total x0 ⟨248 + j.val / 128, by omega⟩ ⟨j.val % 128, by omega⟩

theorem part_first (z : Fin 1) (j : Fin 512) : val_main_v7 (F := Ideal) x0 (ix2 z j) = first x0 j := by
  rw [val_main_v7_apply, val_main_v4_apply, val_main_v3_apply, val_main_v1_apply, total_at]
  rfl

theorem part_second (z : Fin 1) (j : Fin 512) : val_main_v8 (F := Ideal) x0 (ix2 z j) = second x0 j := by
  rw [val_main_v8_apply, val_main_v6_apply, val_main_v5_apply, val_main_v2_apply, total_at]
  rfl

theorem parts_first (j : Fin 512) : val_main_v9 (F := Ideal) x0 (ix2 0 j) = first x0 j := by
  unfold val_main_v9
  refine (concatenate_pair_apply_left (t := S2x512) (s₁ := S1x512) (s₂ := S1x512) 0 _ _ _ _ rfl (ix2 0 j) (fun d => by
      match d with
      | ⟨0, _⟩ => rfl
      | ⟨1, _⟩ => rfl)).trans (part_first x0 0 j)

theorem parts_second (j : Fin 512) : val_main_v9 (F := Ideal) x0 (ix2 1 j) = second x0 j := by
  unfold val_main_v9
  refine (concatenate_pair_apply_right (t := S2x512) (s₁ := S1x512) (s₂ := S1x512) 0 _ _ _ _ rfl rfl (ix2 0 j) (fun d hd => by
      match d with
      | ⟨0, _⟩ => exact absurd rfl hd
      | ⟨1, _⟩ => rfl) rfl).trans (part_second x0 0 j)

theorem away (z : Fin 1) (j : Fin 512) : val_main_v48 (F := Ideal) x0 (ix2 z j) = 0 + (0 + (-first x0 j + -second x0 j)) := by
  rw [val_main_v48_apply, val_main_v47_apply, val_main_cst_11_apply]
  show Ideal.ofBits .f32 0x00000000#32 + _ = _
  rw [nought_word, Fin.sum_univ_one, val_main_v46_apply, val_main_v45_apply, val_main_cst_10_apply]
  show 0 + (Ideal.ofBits .f32 0x00000000#32 + _) = _
  rw [nought_word, Fin.sum_univ_two, val_main_v44_apply, val_main_v44_apply, ← parts_first, ← parts_second]
  have e0 : idx_main_v45 (idx_main_v46 (idx_main_v47 (idx_main_v48 (ix2 z j)) 0)) 0 = ix2 0 j := funext fun d => Fin.ext (by
    match d with
    | ⟨0, _⟩ => rfl
    | ⟨1, _⟩ => show 0 * 512 + j.val = j.val; omega)
  have e1 : idx_main_v45 (idx_main_v46 (idx_main_v47 (idx_main_v48 (ix2 z j)) 0)) 1 = ix2 1 j := funext fun d => Fin.ext (by
    match d with
    | ⟨0, _⟩ => rfl
    | ⟨1, _⟩ => show 0 * 512 + j.val = j.val; omega)
  rw [e0, e1]
  rfl

theorem enter_first (j : Fin 512) : val_main_v50 (F := Ideal) x0 (ix2 0 j) = top (first x0 j) (second x0 j) := by
  rw [val_main_v50_apply, parts_first]
  unfold val_main_v49
  rw [pad_apply_of_inside _ _ _ _ _ _ _ (ix2 0 j) (ix2 0 j) (fun a => by
    match a with
    | ⟨0, _⟩ => rfl
    | ⟨1, _⟩ => show j.val = 0 + j.val * (0 + 1); omega), away]
  rfl

theorem enter_second (j : Fin 512) : val_main_v50 (F := Ideal) x0 (ix2 1 j) = low (second x0 j) := by
  rw [val_main_v50_apply, parts_second]
  unfold val_main_v49
  rw [pad_apply_of_not_inside _ _ _ _ _ _ _ (ix2 1 j) (0 : Fin 2) (fun h => absurd (show 1 / 1 < 1 from h.2.2) (by decide)), val_main_cst_12_apply]
  show _ + Ideal.ofBits .f32 0x00000000#32 = _
  rw [nought_word]
  rfl

/-- The two positions of the cumulative sum's window. -/
theorem window_list : List.finRange (⟨2, ![2, 1]⟩ : Shape).numel = [⟨0, by decide⟩, ⟨1, by decide⟩] := by decide

theorem window_pos (n : Fin (⟨2, ![2, 1]⟩ : Shape).numel) : (((⟨2, ![2, 1]⟩ : Shape).rowMajor.symm n) 0).val = n.val ∧ (((⟨2, ![2, 1]⟩ : Shape).rowMajor.symm n) 1).val = 0 := by
  have h := Routing.symm_col (R := 2) n
  exact ⟨by rw [h]; rfl, by rw [h]; rfl⟩

theorem window_start (i : S_.Idx) : val_main_call1_call0_v0 (F := Ideal) i = (0 : EReal) := by
  rw [val_main_call1_call0_v0_apply, val_main_call1_call0_cst_apply]
  exact nought_word

/-- One step of the window's sum, at a position inside the rows and at one outside them. -/
theorem window_in (y : S2x512.Idx → EReal) (v : EReal) (z : Fin 2) (k : Fin 2) (j : Fin 512) (n : Fin (⟨2, ![2, 1]⟩ : Shape).numel) (hk : z.val + n.val = k.val)
    (h : S2x512.ReduceWindows (![2, 1] : Fin 2 → Nat) ![1, 1] ![0, 0] ![1, 0] S2x512) :
    (if hin : ∀ a : Fin 2, (![0, 0] : Fin 2 → Nat) a ≤ ((ix2 z j : S2x512.Idx) (a.cast h.1)).val * (![1, 1] : Fin 2 → Nat) a + (((⟨2, ![2, 1]⟩ : Shape).rowMajor.symm n) a).val
        ∧ ((ix2 z j : S2x512.Idx) (a.cast h.1)).val * (![1, 1] : Fin 2 → Nat) a + (((⟨2, ![2, 1]⟩ : Shape).rowMajor.symm n) a).val - (![0, 0] : Fin 2 → Nat) a < S2x512.size a
      then y (fun a => ⟨((ix2 z j : S2x512.Idx) (a.cast h.1)).val * (![1, 1] : Fin 2 → Nat) a + (((⟨2, ![2, 1]⟩ : Shape).rowMajor.symm n) a).val - (![0, 0] : Fin 2 → Nat) a, (hin a).2⟩) else v)
      = y (ix2 k j) := by
  obtain ⟨p0, p1⟩ := window_pos n
  have hk2 := k.isLt
  have hj := j.isLt
  rw [dif_pos fun a => by
    match a with
    | ⟨0, _⟩ =>
      show 0 ≤ z.val * 1 + (((⟨2, ![2, 1]⟩ : Shape).rowMajor.symm n) 0).val ∧ z.val * 1 + (((⟨2, ![2, 1]⟩ : Shape).rowMajor.symm n) 0).val - 0 < 2
      rw [p0]; omega
    | ⟨1, _⟩ =>
      show 0 ≤ j.val * 1 + (((⟨2, ![2, 1]⟩ : Shape).rowMajor.symm n) 1).val ∧ j.val * 1 + (((⟨2, ![2, 1]⟩ : Shape).rowMajor.symm n) 1).val - 0 < 512
      rw [p1]; omega]
  refine congrArg y (funext fun a => Fin.ext ?_)
  match a with
  | ⟨0, _⟩ =>
    show z.val * 1 + (((⟨2, ![2, 1]⟩ : Shape).rowMajor.symm n) 0).val - 0 = k.val
    rw [p0]; omega
  | ⟨1, _⟩ =>
    show j.val * 1 + (((⟨2, ![2, 1]⟩ : Shape).rowMajor.symm n) 1).val - 0 = j.val
    rw [p1]; omega

theorem window_first (j : Fin 512) : val_main_v51 (F := Ideal) x0 (ix2 0 j) = 0 + top (first x0 j) (second x0 j) + low (second x0 j) := by
  rw [← enter_first, ← enter_second]
  unfold val_main_v51
  generalize val_main_v50 (F := Ideal) x0 = y
  simp only [Host.reduceWindowAdd, Ideal.hostReduceWindowAdd_def, Ideal.hostReduceWindowAdd, Host.reduceWindow]
  rw [window_list, window_start]
  simp only [List.foldl_cons, List.foldl_nil]
  exact congrArg₂ (fun p q : EReal => 0 + p + q) (window_in y 0 0 0 j ⟨0, by decide⟩ rfl Gen.reduceWindows_S2x512_S2x512_w2s1p0_1_w1s1p0_0) (window_in y 0 0 1 j ⟨1, by decide⟩ rfl Gen.reduceWindows_S2x512_S2x512_w2s1p0_1_w1s1p0_0)

theorem window_second (j : Fin 512) : val_main_v51 (F := Ideal) x0 (ix2 1 j) = 0 + low (second x0 j) + 0 := by
  rw [← enter_second]
  unfold val_main_v51
  generalize val_main_v50 (F := Ideal) x0 = y
  simp only [Host.reduceWindowAdd, Ideal.hostReduceWindowAdd_def, Ideal.hostReduceWindowAdd, Host.reduceWindow]
  rw [window_list, window_start]
  simp only [List.foldl_cons, List.foldl_nil]
  refine congrArg₂ (fun p q : EReal => 0 + p + q) (window_in y 0 1 1 j ⟨0, by decide⟩ rfl Gen.reduceWindows_S2x512_S2x512_w2s1p0_1_w1s1p0_0) (dif_neg fun hin => ?_)
  have h0 : 1 * 1 + (((⟨2, ![2, 1]⟩ : Shape).rowMajor.symm ⟨1, by decide⟩) 0).val - 0 < 2 := (hin 0).2
  rw [(window_pos _).1] at h0
  exact absurd h0 (by decide)

/-- The larger logit, and the two exponentials. -/
theorem largest (j : Fin 512) : val_main_v17 (F := Ideal) x1 (ix1 j) = max (x1 (ix2 0 j) : EReal) (x1 (ix2 1 j)) := by
  rw [val_main_v17_apply, val_main_v16_apply, val_main_cst_2_apply]
  show max (Ideal.ofBits .f32 0xFF800000#32) (val_main_v10 (F := Ideal) x1 (ix1 j) : EReal) = _
  unfold val_main_v10
  rw [Host.reduce_eq_fold_single FloatOps.maximumf x1 _ Gen.reducesTo_S2x512_S512_d0 (by decide) Gen.h_S_]
  refine Eq.trans (congrArg (max (Ideal.ofBits .f32 0xFF800000#32)) (max_of_two _)) ?_
  rw [low_word, max_eq_right bot_le]
  refine congrArg₂ (fun p q : EReal => max p q) (congrArg x1 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => rfl

abbrev big (j : Fin 512) : EReal := max (x1 (ix2 0 j) : EReal) (x1 (ix2 1 j))

/-- The exponential of a logit less the larger one. -/
abbrev grown (z : Fin 2) (j : Fin 512) : EReal := Ideal.exp ((x1 (ix2 z j) : EReal) - big x1 j)

theorem exponential (z : Fin 2) (j : Fin 512) : val_main_v30 (F := Ideal) x1 (ix2 z j) = grown x1 z j := by
  rw [val_main_v30_apply, val_main_v29_apply, val_main_v28_apply, val_main_v27_apply, show idx_main_v27 (idx_main_v28 (ix2 z j)) = ix1 j from funext fun a => Fin.ext (by
    match a with
    | ⟨0, _⟩ => rfl), largest]
  rfl

theorem both (i : S1x512.Idx) (j : Fin 512) (h : (i 1).val = j.val) : val_main_v32 (F := Ideal) x1 i = grown x1 0 j + grown x1 1 j := by
  rw [val_main_v32_apply, val_main_v31_apply, val_main_cst_8_apply, Fin.sum_univ_two]
  show Ideal.ofBits .f32 0x00000000#32 + _ = _
  rw [nought_word, zero_add, ← exponential, ← exponential]
  refine congrArg₂ (fun p q : EReal => p + q) (congrArg (val_main_v30 (F := Ideal) x1) (funext fun a => Fin.ext ?_)) (congrArg (val_main_v30 (F := Ideal) x1) (funext fun a => Fin.ext ?_))
  · match a with
    | ⟨0, _⟩ => rfl
    | ⟨1, _⟩ => exact h
  · match a with
    | ⟨0, _⟩ => rfl
    | ⟨1, _⟩ => exact h

theorem inverse (i : S1x512.Idx) (j : Fin 512) (h : (i 1).val = j.val) : val_main_v37 (F := Ideal) x1 i
    = Ideal.div 1 ((grown x1 0 j + grown x1 1 j) * (grown x1 0 j + grown x1 1 j)) := by
  rw [val_main_v37_apply, val_main_v36_apply, val_main_cst_9_apply, val_main_v35_apply, both x1 i j h]
  show Ideal.div (Ideal.ofBits .f32 0x3F800000#32) _ = _
  rw [unit_word]
  rfl

theorem product (z : Fin 2) (j : Fin 512) : val_main_v54 (F := Ideal) x0 x1 (ix2 z j)
    = val_main_v51 (F := Ideal) x0 (ix2 z j) * Ideal.div 1 ((grown x1 0 j + grown x1 1 j) * (grown x1 0 j + grown x1 1 j)) * grown x1 z j := by
  rw [val_main_v54_apply, val_main_v53_apply, val_main_v52_apply, inverse x1 _ j rfl, exponential]
  rfl

theorem back_at (z : Fin 2) (j : Fin 512) : val_main_v63 (F := Ideal) x0 x1 (ix2 z j)
    = back (val_main_v51 (F := Ideal) x0 (ix2 z j)) (val_main_v51 (F := Ideal) x0 (ix2 0 j)) (val_main_v51 (F := Ideal) x0 (ix2 1 j)) (grown x1 z j) (grown x1 0 j) (grown x1 1 j) := by
  have e0 : idx_main_v55 (idx_main_v56 (idx_main_v60 (idx_main_v61 (ix2 z j)) 0)) 0 = ix2 0 j := funext fun d => Fin.ext (by
    match d with
    | ⟨0, _⟩ => rfl
    | ⟨1, _⟩ => show 0 * 512 + j.val = j.val; omega)
  have e1 : idx_main_v55 (idx_main_v56 (idx_main_v60 (idx_main_v61 (ix2 z j)) 0)) 1 = ix2 1 j := funext fun d => Fin.ext (by
    match d with
    | ⟨0, _⟩ => rfl
    | ⟨1, _⟩ => show 0 * 512 + j.val = j.val; omega)
  rw [val_main_v63_apply, val_main_v62_apply, val_main_v59_apply, val_main_v58_apply, val_main_v61_apply, val_main_v60_apply, Fin.sum_univ_one, val_main_v57_apply,
    val_main_v56_apply, val_main_v55_apply, Fin.sum_univ_two, e0, e1, product, product, exponential, both x1 _ j rfl, val_main_cst_14_apply, val_main_cst_13_apply]
  show (Ideal.div _ _ + (Ideal.ofBits .f32 0x00000000#32 + -(Ideal.ofBits .f32 0x00000000#32 + _))) * _ = _
  rw [nought_word]
  rfl

/-- What the precondition says of a column. -/
def Real2 (j : Fin 512) : Prop := (∃ a : ℝ, first x0 j = a) ∧ (∃ a : ℝ, second x0 j = a) ∧ (∃ a : ℝ, (x1 (ix2 0 j) : EReal) = a) ∧ ∃ a : ℝ, (x1 (ix2 1 j) : EReal) = a

theorem row_first (j : Fin 512) (h : Real2 x0 x1 j) : val_main_v63 (F := Ideal) x0 x1 (ix2 0 j) = 0 - lower (second x0 j) (x1 (ix2 0 j)) (x1 (ix2 1 j)) := by
  obtain ⟨⟨c0, h0⟩, ⟨c1, h1⟩, ⟨x, hx⟩, ⟨y, hy⟩⟩ := h
  rw [back_at, window_first, window_second, h0, h1]
  unfold grown big
  rw [hx, hy]
  exact back_first c0 c1 x y

theorem row_second (j : Fin 512) (h : Real2 x0 x1 j) : val_main_v63 (F := Ideal) x0 x1 (ix2 1 j) = lower (second x0 j) (x1 (ix2 0 j)) (x1 (ix2 1 j)) := by
  obtain ⟨⟨c0, h0⟩, ⟨c1, h1⟩, ⟨x, hx⟩, ⟨y, hy⟩⟩ := h
  rw [back_at, window_first, window_second, h0, h1]
  unfold grown big
  rw [hx, hy]
  exact back_second c0 c1 x y

theorem second_col (r : Fin 4) (t : Fin 128) : second x0 (col r t) = total x0 ⟨248 + r.val, by omega⟩ t := by
  show total x0 ⟨248 + (r.val * 128 + t.val) / 128, _⟩ ⟨(r.val * 128 + t.val) % 128, _⟩ = _
  have e1 : (r.val * 128 + t.val) / 128 = r.val := by omega
  have e2 : (r.val * 128 + t.val) % 128 = t.val := by omega
  simp only [e1, e2]

theorem block_first (r : Fin 4) (t : Fin 128) (h : ∀ j, Real2 x0 x1 j) : val_main_v66 (F := Ideal) x0 x1 (ix2 r t) = 0 - bound x0 x1 r t := by
  rw [val_main_v66_apply, val_main_v65_apply, val_main_v64_apply, show idx_main_v64 (idx_main_v65 (idx_main_v66 (ix2 r t))) = ix2 0 (col r t) from funext fun d => Fin.ext (by
    match d with
    | ⟨0, _⟩ => rfl
    | ⟨1, _⟩ => show (r.val * 128 + t.val) % 512 = r.val * 128 + t.val; omega), row_first x0 x1 _ (h _), second_col]
  rfl

theorem block_second (r : Fin 4) (t : Fin 128) (h : ∀ j, Real2 x0 x1 j) : val_main_v70 (F := Ideal) x0 x1 (ix2 r t) = bound x0 x1 r t := by
  rw [val_main_v70_apply, val_main_v69_apply, val_main_v68_apply, show idx_main_v68 (idx_main_v69 (idx_main_v70 (ix2 r t))) = ix2 1 (col r t) from funext fun d => Fin.ext (by
    match d with
    | ⟨0, _⟩ => rfl
    | ⟨1, _⟩ => show (r.val * 128 + t.val) % 512 = r.val * 128 + t.val; omega), row_second x0 x1 _ (h _), second_col]
  rfl

theorem rest_first (r : Fin 244) (t : Fin 128) : val_main_v67 (F := Ideal) x0 (ix2 r t) = total x0 ⟨4 + r.val, by omega⟩ t := by
  rw [val_main_v67_apply, val_main_v1_apply, total_at]
  rfl

theorem rest_second (r : Fin 244) (t : Fin 128) : val_main_v71 (F := Ideal) x0 (ix2 r t) = total x0 ⟨252 + r.val, by omega⟩ t := by
  rw [val_main_v71_apply, val_main_v2_apply, total_at]
  exact congrArg (total x0 · t) (Fin.ext (show 248 + (4 + r.val) = 252 + r.val by omega))

/-- The four pieces of the packed rows, one below the other. -/
theorem pieces (a : FVec Ideal S4x128 .f32) (b : FVec Ideal S244x128 .f32) (c : FVec Ideal S4x128 .f32) (d : FVec Ideal S244x128 .f32)
    (h : Shape.Concatenates [S4x128, S244x128, S4x128, S244x128] S496x128 0) (r : Fin 496) (t : Fin 128) :
    concatenate S496x128 0 [⟨S4x128, a⟩, ⟨S244x128, b⟩, ⟨S4x128, c⟩, ⟨S244x128, d⟩] h (ix2 r t)
      = if h1 : r.val < 4 then a (ix2 ⟨r.val, h1⟩ t) else if h2 : r.val < 248 then b (ix2 ⟨r.val - 4, by omega⟩ t)
        else if h3 : r.val < 252 then c (ix2 ⟨r.val - 248, by omega⟩ t) else d (ix2 ⟨r.val - 252, by omega⟩ t) := by
  have hr := r.isLt
  split_ifs with h1 h2 h3
  · exact concatenate_apply_piece (t := S496x128) 0 [⟨S4x128, a⟩, ⟨S244x128, b⟩, ⟨S4x128, c⟩, ⟨S244x128, d⟩] h (ix2 r t) 0 (show 0 < 4 by decide) S4x128 a rfl rfl 0 rfl
      (ix2 ⟨r.val, h1⟩ t) (fun b hb => by
        match b with
        | ⟨0, _⟩ => exact absurd rfl hb
        | ⟨1, _⟩ => rfl) (Nat.zero_add _)
  · exact concatenate_apply_piece (t := S496x128) 0 [⟨S4x128, a⟩, ⟨S244x128, b⟩, ⟨S4x128, c⟩, ⟨S244x128, d⟩] h (ix2 r t) 1 (show 1 < 4 by decide) S244x128 b rfl rfl 4 rfl
      (ix2 ⟨r.val - 4, by omega⟩ t) (fun b hb => by
        match b with
        | ⟨0, _⟩ => exact absurd rfl hb
        | ⟨1, _⟩ => rfl) (show 4 + (r.val - 4) = r.val by omega)
  · exact concatenate_apply_piece (t := S496x128) 0 [⟨S4x128, a⟩, ⟨S244x128, b⟩, ⟨S4x128, c⟩, ⟨S244x128, d⟩] h (ix2 r t) 2 (show 2 < 4 by decide) S4x128 c rfl rfl 248 rfl
      (ix2 ⟨r.val - 248, by omega⟩ t) (fun b hb => by
        match b with
        | ⟨0, _⟩ => exact absurd rfl hb
        | ⟨1, _⟩ => rfl) (show 248 + (r.val - 248) = r.val by omega)
  · exact concatenate_apply_piece (t := S496x128) 0 [⟨S4x128, a⟩, ⟨S244x128, b⟩, ⟨S4x128, c⟩, ⟨S244x128, d⟩] h (ix2 r t) 3 (show 3 < 4 by decide) S244x128 d rfl rfl 252 rfl
      (ix2 ⟨r.val - 252, by omega⟩ t) (fun b hb => by
        match b with
        | ⟨0, _⟩ => exact absurd rfl hb
        | ⟨1, _⟩ => rfl) (show 252 + (r.val - 252) = r.val by omega)

theorem reference_eq (h : ∀ j, Real2 x0 x1 j) (r : Fin 496) (t : Fin 128) : val_main_v72 (F := Ideal) x0 x1 (ix2 r t) = rows x0 x1 r t := by
  have hr := r.isLt
  unfold val_main_v72 rows
  rw [pieces]
  by_cases h1 : r.val < 4
  · rw [dif_pos h1, dif_pos h1]
    exact block_first x0 x1 _ t h
  · rw [dif_neg h1, dif_neg h1]
    by_cases h2 : r.val < 248
    · rw [dif_pos h2, dif_neg (by omega)]
      exact (rest_first x0 _ t).trans (congrArg (total x0 · t) (Fin.ext (show 4 + (r.val - 4) = r.val by omega)))
    · rw [dif_neg h2]
      by_cases h3 : r.val < 252
      · rw [dif_pos h3, dif_pos ⟨by omega, h3⟩]
        exact block_second x0 x1 _ t h
      · rw [dif_neg h3, dif_neg (by omega)]
        exact (rest_second x0 _ t).trans (congrArg (total x0 · t) (Fin.ext (show 252 + (r.val - 252) = r.val by omega)))

end reference

section kernel

open Cert.SmallGradsIdeal Cert.SmallGradsIdeal.Gen

theorem down_apply (x : FVec Ideal S1x4x128 .f32) (r : Fin 4) (t : Fin 128) : shapeCast S4x128 x shapeCasts_S1x4x128_S4x128 (ix2 r t) = x (ix3 0 r t) :=
  shapeCast_apply _ _ _ _ (by rw [Shape.rowMajor_val_two, Shape.rowMajor_val_three]; show (0 * 4 + r.val) * 128 + t.val = r.val * 128 + t.val; omega)

theorem up_apply (x : FVec Ideal S4x128 .f32) (z : Fin 1) (r : Fin 4) (t : Fin 128) : shapeCast S1x4x128 x shapeCasts_S4x128_S1x4x128 (ix3 z r t) = x (ix2 r t) :=
  shapeCast_apply _ _ _ _ (by rw [Shape.rowMajor_val_two, Shape.rowMajor_val_three]; show r.val * 128 + t.val = (z.val * 4 + r.val) * 128 + t.val; omega)

theorem slab_apply (x : FVec Ideal S1x496x128 .f32) (r : Fin 496) (t : Fin 128) : shapeCast S496x128 x shapeCasts_S1x496x128_S496x128 (ix2 r t) = x (ix3 0 r t) :=
  shapeCast_apply _ _ _ _ (by rw [Shape.rowMajor_val_two, Shape.rowMajor_val_three]; show (0 * 496 + r.val) * 128 + t.val = r.val * 128 + t.val; omega)

theorem spread_apply (x : FVec Ideal S1x4x128 .f32) (z : Fin 2) (r : Fin 4) (t : Fin 128) : broadcastTo S2x4x128 x broadcasts_S1x4x128_S2x4x128 (ix3 z r t) = x (ix3 0 r t) :=
  congrArg x (funext fun a => Fin.ext (by
    match a with
    | ⟨0, _⟩ => rfl
    | ⟨1, _⟩ => rfl
    | ⟨2, _⟩ => rfl))

/-- The sum of the devices' slabs at a row and a lane. -/
theorem pay3_apply (a0 a1 a2 a3 a4 a5 a6 a7 : Vec Ideal S1x496x128 .f32) (r : Fin 496) (t : Fin 128) :
    (k0_pay3 a0 a1 a2 a3 a4 a5 a6 a7 (ix2 r t) : EReal) = a0 (ix3 0 r t) + a1 (ix3 0 r t) + a2 (ix3 0 r t) + a3 (ix3 0 r t) + a4 (ix3 0 r t) + a5 (ix3 0 r t) + a6 (ix3 0 r t) + a7 (ix3 0 r t) := by
  rw [← slab_apply a0, ← slab_apply a1, ← slab_apply a2, ← slab_apply a3, ← slab_apply a4, ← slab_apply a5, ← slab_apply a6, ← slab_apply a7]
  rfl

theorem pay4_apply (v : Vec Ideal S2x4x128 .f32) (z : Fin 2) (r : Fin 4) (t : Fin 128) : k0_pay4 v (ix3 z r t) = v (ix3 z r t) :=
  shapeCast_apply _ _ _ _ rfl

theorem pay5_apply (v : Vec Ideal S2x4x128 .f32) (z : Fin 2) (r : Fin 4) (t : Fin 128) : (k0_pay5 v (ix3 z r t) : EReal) = max (v (ix3 0 r t) : EReal) (v (ix3 1 r t)) := by
  unfold k0_pay5
  refine (spread_apply _ z r t).trans ((up_apply _ 0 r t).trans ?_)
  refine (Ideal.multiReduction_maximumf_single _ _ _ _ _ _).trans ((max_of_two _).trans ?_)
  refine congrArg₂ (fun p q : EReal => max p q) ((congrArg (k0_pay4 v) (funext fun a => Fin.ext ?_)).trans (pay4_apply v 0 r t)) ((congrArg (k0_pay4 v) (funext fun a => Fin.ext ?_)).trans (pay4_apply v 1 r t))
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The exponentials' sum over the two layers. -/
theorem sum_apply (e : FVec Ideal S2x4x128 .f32) (r : Fin 4) (t : Fin 128) :
    (multiReduction .add [0] S4x128 e 0x00000000#32 reduces_S2x4x128_S4x128 (.inl rfl) rfl (ix2 r t) : EReal) = (e (ix3 0 r t) : EReal) + e (ix3 1 r t) := by
  refine (Ideal.multiReduction_add_single _ _ _ _ _ _).trans ((Fin.sum_univ_two _).trans ?_)
  refine congrArg₂ (fun p q : EReal => p + q) (congrArg e (funext fun a => Fin.ext ?_)) (congrArg e (funext fun a => Fin.ext ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The layers' shares of the logits. -/
def weights (v : Vec Ideal S2x4x128 .f32) : FVec Ideal S2x4x128 .f32 :=
  divf (exp (subf (k0_pay4 v) (k0_pay5 v))) (broadcastTo S2x4x128 (shapeCast S1x4x128 (multiReduction .add [0] S4x128 (exp (subf (k0_pay4 v) (k0_pay5 v))) 0x00000000#32 reduces_S2x4x128_S4x128 (.inl rfl) rfl)
    shapeCasts_S4x128_S1x4x128) broadcasts_S1x4x128_S2x4x128)

theorem share_apply (v : Vec Ideal S2x4x128 .f32) (z : Fin 2) (r : Fin 4) (t : Fin 128) : (weights v (ix3 z r t) : EReal) = share (v (ix3 0 r t)) (v (ix3 1 r t)) (v (ix3 z r t)) := by
  have he : ∀ z : Fin 2, (exp (subf (k0_pay4 v) (k0_pay5 v)) (ix3 z r t) : EReal) = Ideal.exp ((v (ix3 z r t) : EReal) - max (v (ix3 0 r t) : EReal) (v (ix3 1 r t))) := fun z => by
    rw [← pay5_apply v z, ← pay4_apply v z]; rfl
  unfold share weights
  rw [← he z, ← he 0, ← he 1]
  refine congrArg (Ideal.div _) ((spread_apply _ z r t).trans ((up_apply _ 0 r t).trans (sum_apply _ r t)))

theorem pay1_eq (g : FVec Ideal S496x128 .f32) (v : Vec Ideal S2x4x128 .f32) : k0_pay1 g (k0_pay4 v) (k0_pay5 v)
    = mulf (mulf (extractStridedSlice S4x128 ![248, 0] g slices_S496x128_o248_0_S4x128)
        (shapeCast S4x128 (extractStridedSlice S1x4x128 ![0, 0, 0] (weights v) slices_S2x4x128_o0_0_0_S1x4x128) shapeCasts_S1x4x128_S4x128))
      (shapeCast S4x128 (extractStridedSlice S1x4x128 ![1, 0, 0] (weights v) slices_S2x4x128_o1_0_0_S1x4x128) shapeCasts_S1x4x128_S4x128) := rfl

theorem layer0_apply (w : FVec Ideal S2x4x128 .f32) (r : Fin 4) (t : Fin 128) :
    shapeCast S4x128 (extractStridedSlice S1x4x128 ![0, 0, 0] w slices_S2x4x128_o0_0_0_S1x4x128) shapeCasts_S1x4x128_S4x128 (ix2 r t) = w (ix3 0 r t) := by
  refine (down_apply _ r t).trans (congrArg w (funext fun a => Fin.ext ?_))
  match a with
  | ⟨0, _⟩ => rfl
  | ⟨1, _⟩ => show 0 + r.val = r.val; omega
  | ⟨2, _⟩ => show 0 + t.val = t.val; omega

theorem layer1_apply (w : FVec Ideal S2x4x128 .f32) (r : Fin 4) (t : Fin 128) :
    shapeCast S4x128 (extractStridedSlice S1x4x128 ![1, 0, 0] w slices_S2x4x128_o1_0_0_S1x4x128) shapeCasts_S1x4x128_S4x128 (ix2 r t) = w (ix3 1 r t) := by
  refine (down_apply _ r t).trans (congrArg w (funext fun a => Fin.ext ?_))
  match a with
  | ⟨0, _⟩ => rfl
  | ⟨1, _⟩ => show 0 + r.val = r.val; omega
  | ⟨2, _⟩ => show 0 + t.val = t.val; omega

theorem rows248_apply (g : FVec Ideal S496x128 .f32) (r : Fin 4) (t : Fin 128) :
    extractStridedSlice S4x128 ![248, 0] g slices_S496x128_o248_0_S4x128 (ix2 r t) = g (ix2 ⟨248 + r.val, by omega⟩ t) := by
  refine congrArg g (funext fun a => Fin.ext ?_)
  match a with
  | ⟨0, _⟩ => rfl
  | ⟨1, _⟩ => show 0 + t.val = t.val; omega

theorem pay1_apply (g : FVec Ideal S496x128 .f32) (v : Vec Ideal S2x4x128 .f32) (r : Fin 4) (t : Fin 128) :
    (k0_pay1 g (k0_pay4 v) (k0_pay5 v) (ix2 r t) : EReal) = lower (g (ix2 ⟨248 + r.val, by omega⟩ t)) (v (ix3 0 r t)) (v (ix3 1 r t)) := by
  rw [pay1_eq]
  unfold lower
  rw [← share_apply v 0 r t, ← share_apply v 1 r t]
  exact congrArg₂ (fun p q : EReal => p * q) (congrArg₂ (fun p q : EReal => p * q) (rows248_apply g r t) (layer0_apply _ r t)) (layer1_apply _ r t)

theorem pay2_apply (g : FVec Ideal S496x128 .f32) (v : Vec Ideal S2x4x128 .f32) (r : Fin 4) (t : Fin 128) :
    (k0_pay2 g (k0_pay4 v) (k0_pay5 v) (ix2 r t) : EReal) = 0 - lower (g (ix2 ⟨248 + r.val, by omega⟩ t)) (v (ix3 0 r t)) (v (ix3 1 r t)) := by
  rw [← pay1_apply, ← nought_word]
  rfl

variable (m : (ℓ : Loc nD τ sig) → Buf (Elt Ideal) ℓ) (ρ : Dev nD → PrngReg)

theorem word_rect {off : Fin 3 → Nat} (k : Fin 8) (h : off = ![k.val, 0, 0]) (inb : ∀ a, off a + (![1, 496, 128] : Fin 3 → Nat) a ≤ S8x496x128.size a)
    (x : Vec Ideal S8x496x128 .f32) (r : Fin 496) (t : Fin 128) :
    View.ld x (Rect.unit (s := S8x496x128) off ![1, 496, 128] inb) (ix3 0 r t) = x (ix3 k r t) := by
  subst h
  exact congrArg x (funext fun a => Fin.ext (by
    match a with
    | ⟨0, _⟩ => show k.val + 1 * 0 = k.val; omega
    | ⟨1, _⟩ => show 0 + 1 * r.val = r.val; omega
    | ⟨2, _⟩ => show 0 + 1 * t.val = t.val; omega))

/-- The sum of the slabs of a block of all the devices' parts. -/
def slabs (x : Vec Ideal S8x496x128 .f32) : FVec Ideal S496x128 .f32 :=
  k0_pay3 (View.ld x (Rect.unit (s := S8x496x128) ![0, 0, 0] ![1, 496, 128] inb_S8x496x128_S1x496x128_0_0_0))
    (View.ld x (Rect.unit (s := S8x496x128) ![1, 0, 0] ![1, 496, 128] inb_S8x496x128_S1x496x128_1_0_0))
    (View.ld x (Rect.unit (s := S8x496x128) ![2, 0, 0] ![1, 496, 128] inb_S8x496x128_S1x496x128_2_0_0))
    (View.ld x (Rect.unit (s := S8x496x128) ![3, 0, 0] ![1, 496, 128] inb_S8x496x128_S1x496x128_3_0_0))
    (View.ld x (Rect.unit (s := S8x496x128) ![4, 0, 0] ![1, 496, 128] inb_S8x496x128_S1x496x128_4_0_0))
    (View.ld x (Rect.unit (s := S8x496x128) ![5, 0, 0] ![1, 496, 128] inb_S8x496x128_S1x496x128_5_0_0))
    (View.ld x (Rect.unit (s := S8x496x128) ![6, 0, 0] ![1, 496, 128] inb_S8x496x128_S1x496x128_6_0_0))
    (View.ld x (Rect.unit (s := S8x496x128) ![7, 0, 0] ![1, 496, 128] inb_S8x496x128_S1x496x128_7_0_0))

theorem slabs_apply (x : Vec Ideal S8x496x128 .f32) (r : Fin 496) (t : Fin 128) : (slabs x (ix2 r t) : EReal) = total x r t := by
  unfold slabs total
  rw [pay3_apply, word_rect (off := ![0, 0, 0]) 0 rfl, word_rect (off := ![1, 0, 0]) 1 rfl, word_rect (off := ![2, 0, 0]) 2 rfl, word_rect (off := ![3, 0, 0]) 3 rfl, word_rect (off := ![4, 0, 0]) 4 rfl, word_rect (off := ![5, 0, 0]) 5 rfl, word_rect (off := ![6, 0, 0]) 6 rfl, word_rect (off := ![7, 0, 0]) 7 rfl, Fin.sum_univ_eight]

/-- The rows that the stores leave, the last store first. -/
theorem canon_apply (p : FVec Ideal S4x128 .f32) (q : FVec Ideal S4x128 .f32) (w : FVec Ideal S496x128 .f32) (r : Fin 496) (t : Fin 128) :
    View.canon (Val := Elt Ideal) (s := S496x128) (e := .f32) [⟨Rect.unit ![248, 0] ![4, 128] inb_S496x128_S4x128_248_0, p⟩, ⟨Rect.unit ![0, 0] ![4, 128] inb_S496x128_S4x128_0_0, q⟩,
      ⟨Rect.unit ![0, 0] ![496, 128] inb_S496x128_S496x128_0_0, w⟩] (ix2 r t)
      = if h : r.val < 4 then q (ix2 ⟨r.val, h⟩ t) else if h : 248 ≤ r.val ∧ r.val < 252 then p (ix2 ⟨r.val - 248, by omega⟩ t) else w (ix2 r t) := by
  have hr := r.isLt
  have off (o : Nat) (inb) (L : List (View.Piece (Elt Ideal) S496x128 .f32)) (x : FVec Ideal S4x128 .f32) (h : r.val < o ∨ o + 4 ≤ r.val) :
      View.canon (Val := Elt Ideal) (s := S496x128) (e := .f32) (⟨Rect.unit ![o, 0] ![4, 128] inb, x⟩ :: L) (ix2 r t) = View.canon L (ix2 r t) :=
    View.canon_cons_of_not_mem _ _ fun hm => by
      have hm' : ∀ a : Fin 2, (![o, 0] : Fin 2 → Nat) a ≤ ((ix2 r t : S496x128.Idx) a : Nat) ∧ ((ix2 r t : S496x128.Idx) a : Nat) < (![o, 0] : Fin 2 → Nat) a + (![4, 128] : Fin 2 → Nat) a := (Rect.mem_set_unit (s := S496x128) (off := ![o, 0]) (size := ![4, 128]) (inb := inb) (i := ix2 r t)).mp hm
      have h0 : o ≤ r.val ∧ r.val < o + 4 := hm' 0
      omega
  have on (o : Nat) (inb) (L : List (View.Piece (Elt Ideal) S496x128 .f32)) (x : FVec Ideal S4x128 .f32) (k : Fin 4) (h : o + k.val = r.val) :
      View.canon (Val := Elt Ideal) (s := S496x128) (e := .f32) (⟨Rect.unit ![o, 0] ![4, 128] inb, x⟩ :: L) (ix2 r t) = x (ix2 k t) := by
    have e : (Rect.unit (s := S496x128) ![o, 0] ![4, 128] inb).emb (show (Rect.unit (s := S496x128) ![o, 0] ![4, 128] inb).shape.Idx from (ix2 k t : S4x128.Idx)) = ix2 r t := funext fun a => Fin.ext (by
      match a with
      | ⟨0, _⟩ => show o + 1 * k.val = r.val; omega
      | ⟨1, _⟩ => show 0 + 1 * t.val = t.val; omega)
    rw [← e]
    exact View.canon_cons_emb (Rect.unit (s := S496x128) ![o, 0] ![4, 128] inb) x L _
  split_ifs with h1 h2
  · rw [off 248 _ _ _ (by omega)]
    exact on 0 _ _ _ ⟨r.val, h1⟩ (Nat.zero_add _)
  · exact on 248 _ _ _ ⟨r.val - 248, by omega⟩ (by show 248 + (r.val - 248) = r.val; omega)
  · rw [off 248 _ _ _ (by omega), off 0 _ _ _ (by omega)]
    have e : (Rect.unit (s := S496x128) ![0, 0] ![496, 128] inb_S496x128_S496x128_0_0).emb (show (Rect.unit (s := S496x128) ![0, 0] ![496, 128] inb_S496x128_S496x128_0_0).shape.Idx from (ix2 r t : S496x128.Idx)) = ix2 r t := funext fun a => Fin.ext (by
      match a with
      | ⟨0, _⟩ => show 0 + 1 * r.val = r.val; omega
      | ⟨1, _⟩ => show 0 + 1 * t.val = t.val; omega)
    refine Eq.trans (congrArg _ e.symm) ?_
    exact View.canon_cons_emb (Val := Elt Ideal) (e := .f32) (Rect.unit (s := S496x128) ![0, 0] ![496, 128] inb_S496x128_S496x128_0_0) w [] _

theorem logits_eq (c : Dev nD) : V m c main_v0 = shapeCast S2x4x128 (m ((c : Thread nD τ).loc main_arg1) : FVec Ideal S2x512 .f32) shapeCasts_S2x512_S2x4x128 := by
  show StableHlo.after hostOps0 (fun b => m (c, b)) (Proc.devRef .tc main_v0) = _
  unfold hostOps0
  rw [StableHlo.after_cons, StableHlo.after_nil, StableHlo.reshape_result]
  rfl

theorem logits_apply (x : FVec Ideal S2x512 .f32) (z : Fin 2) (r : Fin 4) (t : Fin 128) : shapeCast S2x4x128 x shapeCasts_S2x512_S2x4x128 (ix3 z r t) = x (ix2 z (col r t)) :=
  shapeCast_apply _ _ _ _ (by
    rw [Shape.rowMajor_val_two, Shape.rowMajor_val_three]
    show z.val * 512 + (r.val * 128 + t.val) = (z.val * 4 + r.val) * 128 + t.val; omega)

theorem at0 : ∀ t : Fin cfg0.N, win0_0.index t = ![0, 0, 0] := (by decide +kernel : ∀ t : Fin grid0.N, _)
theorem at1 : ∀ t : Fin cfg0.N, win0_1.index t = ![0, 0, 0] := (by decide +kernel : ∀ t : Fin grid0.N, _)
theorem at2 : ∀ t : Fin cfg0.N, win0_2.index t = ![0, 0] := (by decide +kernel : ∀ t : Fin grid0.N, _)

theorem iblk0_apply (c : Dev nD) (t : Fin cfg0.N) (k : Fin 8) (r : Fin 496) (j : Fin 128) : iblk m c 0 t (ix3 k r j) = m ((c : Thread nD τ).loc main_arg0) (ix3 k r j) := by
  rw [← V_main_arg0 m c]; blk_simp [iblk]; congr 1; blk_ext [at0 t]

theorem iblk1_apply (c : Dev nD) (t : Fin cfg0.N) (z : Fin 2) (r : Fin 4) (j : Fin 128) : iblk m c 1 t (ix3 z r j) = m ((c : Thread nD τ).loc main_arg1) (ix2 z (col r j)) := by
  refine Eq.trans ?_ (logits_apply (m ((c : Thread nD τ).loc main_arg1)) z r j)
  rw [← logits_eq m c]; blk_simp [iblk]; congr 1; blk_ext [at1 t]

theorem out_apply (c : Dev nD) (t : Fin cfg0.N) (r : Fin 496) (j : Fin 128) :
    (outsAt0 m c t (ix2 r j) : EReal) = rows (m ((c : Thread nD τ).loc main_arg0)) (m ((c : Thread nD τ).loc main_arg1)) r j := by
  have ht (r : Fin 496) : (slabs (iblk m c 0 t) (ix2 r j) : EReal) = total (m ((c : Thread nD τ).loc main_arg0)) r j :=
    (slabs_apply _ r j).trans (Finset.sum_congr rfl fun k _ => iblk0_apply m c t k r j)
  have hb (r : Fin 4) : lower (slabs (iblk m c 0 t) (ix2 ⟨248 + r.val, by omega⟩ j)) (iblk m c 1 t (ix3 0 r j)) (iblk m c 1 t (ix3 1 r j))
      = bound (m ((c : Thread nD τ).loc main_arg0)) (m ((c : Thread nD τ).loc main_arg1)) r j := by
    rw [ht, iblk1_apply, iblk1_apply]; rfl
  unfold outsAt0
  frame_out
  generalize hA : View.read (Elt Ideal) (View.whole cc0_stg0_0) _ = A
  generalize hB : View.read (Elt Ideal) (View.whole cc0_stg1_0) _ = B
  obtain rfl : A = iblk m c 0 t := hA.symm.trans (Memref.IsWhole.read_unread _ _)
  obtain rfl : B = iblk m c 1 t := hB.symm.trans (Memref.IsWhole.read_unread _ _)
  refine (canon_apply (k0_pay1 (slabs (iblk m c 0 t)) (k0_pay4 (iblk m c 1 t)) (k0_pay5 (iblk m c 1 t))) (k0_pay2 (slabs (iblk m c 0 t)) (k0_pay4 (iblk m c 1 t)) (k0_pay5 (iblk m c 1 t))) (slabs (iblk m c 0 t)) r j).trans ?_
  unfold rows
  split_ifs with h1 h2
  · rw [pay2_apply, hb]
  · rw [pay1_apply, hb]
  · exact ht r

theorem final (c : Dev nD) : (dats m 0 c).arrAt 2 cfg0.N = (fun y => rows (m ((c : Thread nD τ).loc main_arg0)) (m ((c : Thread nD τ).loc main_arg1)) (y 0) (y 1) : FVec Ideal S496x128 .f32) := by
  refine (dats m 0 c).arrAt_eq_of_covers 2 _ (by decide +kernel) fun t hf y => ?_
  blk_simp
  rw [after0_2]
  obtain ⟨r, j, rfl⟩ : ∃ (r : Fin 496) (j : Fin 128), y = ix2 r j := ⟨_, _, eq_ix2 y⟩
  rw [show (win0_2.blk t).view.emb (ix2 r j) = ix2 r j from by blk_ext [at2 t]]
  exact out_apply m c t r j

/-- The kernel's run, with its result at its function of the arguments. -/
theorem run : θ_run defs (onTc (τ := τ) (main (F := Ideal))) ⟨m, fun _ => 0, ρ⟩ fun r => ∀ c : Dev nD,
      r.2.mem ((c : Thread nD τ).loc main_v1) = (fun y => rows (m ((c : Thread nD τ).loc main_arg0)) (m ((c : Thread nD τ).loc main_arg1)) (y 0) (y 1) : FVec Ideal S496x128 .f32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.SmallGradsIdeal.Value.run_blocks m ρ)

end kernel

section precondition

open Cert.Pre_finite_bounds

instance : Subsingleton S_.Idx := ⟨fun i j => funext fun a => a.elim0⟩

theorem finite_of_all {s : Shape} {axes : List (Fin s.rank)} (x : FVec Ideal s .f32) (w : FVec Ideal s .f32) (hw : ∀ i, (w i : EReal) = ⊤) (init : IVec S_ 1) (h : s.ReducesTo axes S_) (hu : 0 < S_.numel) (o : S_.Idx)
    (e : Host.reduce IntOp.andi (cmpf .olt (Host.absf x) w) init h hu o = 1#1) (i : s.Idx) : ∃ a : ℝ, (x i : EReal) = a := by
  have key := Host.reduce_andi_all _ _ _ _ _ e i
  have key' : BitVec.ofBool (decide (max (x i : EReal) (-(x i : EReal)) < (w i : EReal))) = 1#1 := key
  rw [hw] at key'
  refine real_of_abs_lt ?_
  by_contra hn
  rw [decide_eq_false hn] at key'
  simp at key'

theorem finite_of_pre [Cert.Pre_finite_bounds.Facts] (x0 : FVec Ideal S8x496x128 .f32) (x1 : FVec Ideal S2x512 .f32) (h : fn (F := Ideal) x0 x1 = fun _ => 1#1) :
    (∀ (k : Fin 8) (r : Fin 4) (t : Fin 128), ∃ a : ℝ, (x0 (ix3 k ⟨r.val, by omega⟩ t) : EReal) = a)
    ∧ (∀ (k : Fin 8) (r : Fin 4) (t : Fin 128), ∃ a : ℝ, (x0 (ix3 k ⟨248 + r.val, by omega⟩ t) : EReal) = a)
    ∧ ∀ (z : Fin 2) (j : Fin 512), ∃ a : ℝ, (x1 (ix2 z j) : EReal) = a := by
  have one (a b : BitVec 1) : IntOp.andi a b = 1#1 ↔ a = 1#1 ∧ b = 1#1 := by revert a b; decide
  have e := congrFun h (fun a => a.elim0)
  simp only [fn, andi, one] at e
  obtain ⟨⟨e0, e1⟩, e2⟩ := e
  refine ⟨fun k r t => ?_, fun k r t => ?_, fun z j => finite_of_all _ _ (fun _ => high_word) _ _ _ _ e2 (ix2 z j)⟩
  · obtain ⟨a, ha⟩ := finite_of_all _ _ (fun _ => high_word) _ _ _ _ e0 (ix3 k r t)
    refine ⟨a, Eq.trans (congrArg x0 (funext fun d => Fin.ext ?_)) ha⟩
    match d with
    | ⟨0, _⟩ => show k.val = 0 + k.val; omega
    | ⟨1, _⟩ => show r.val = 0 + r.val; omega
    | ⟨2, _⟩ => show t.val = 0 + t.val; omega
  · obtain ⟨a, ha⟩ := finite_of_all _ _ (fun _ => high_word) _ _ _ _ e1 (ix3 k r t)
    refine ⟨a, Eq.trans (congrArg x0 (funext fun d => Fin.ext ?_)) ha⟩
    match d with
    | ⟨0, _⟩ => show k.val = 0 + k.val; omega
    | ⟨1, _⟩ => rfl
    | ⟨2, _⟩ => show t.val = 0 + t.val; omega

theorem real_sum {ι : Type} (s : Finset ι) (f : ι → EReal) (h : ∀ k, ∃ a : ℝ, f k = a) : ∃ a : ℝ, ∑ k ∈ s, f k = a := by
  classical
  induction s using Finset.induction with
  | empty => exact ⟨0, rfl⟩
  | insert k s hk ih =>
    obtain ⟨a, ha⟩ := h k
    obtain ⟨b, hb⟩ := ih
    exact ⟨a + b, by rw [Finset.sum_insert hk, ha, hb, EReal.coe_add]⟩

theorem real_of_pre [Cert.Pre_finite_bounds.Facts] (x0 : FVec Ideal S8x496x128 .f32) (x1 : FVec Ideal S2x512 .f32) (h : fn (F := Ideal) x0 x1 = fun _ => 1#1) (j : Fin 512) : Real2 x0 x1 j := by
  obtain ⟨h0, h1, h2⟩ := finite_of_pre x0 x1 h
  exact ⟨real_sum _ _ fun k => h0 k ⟨j.val / 128, by omega⟩ ⟨j.val % 128, by omega⟩, real_sum _ _ fun k => h1 k ⟨j.val / 128, by omega⟩ ⟨j.val % 128, by omega⟩, h2 0 j, h2 1 j⟩

end precondition

theorem reference_frame : Cert.quiescent_RefSmallGradsIdeal := fun m ρ _ =>
  (θ_run Cert.RefSmallGradsIdeal.defs _ _).mono
    (fun r h => ⟨fun c => (h c).2, Idealize.ShloMosaic.sem_eq_zero_of_no_sems (by decide) r.2⟩)
    (Cert.RefSmallGradsIdeal.Value.run (F := Ideal) m ρ)

theorem algebraic [Cert.Pre_finite_bounds.Facts] : Cert.algebraic_SmallGradsIdeal_RefSmallGradsIdeal_pre_finite_bounds := by
  intro m ρ m' ρ' hpre hagree
  refine ⟨_, run m ρ, ?_⟩
  refine (θ_run (Cert.RefSmallGradsIdeal.defs (F := Ideal)) _ _).mono (fun _ h c => ?_) (Cert.RefSmallGradsIdeal.Value.run (F := Ideal) m' ρ')
  obtain ⟨e0, e1⟩ := hagree c
  obtain ⟨h0, hrest⟩ := h c
  refine ⟨h0.trans ?_, hrest⟩
  refine (Cert.RefSmallGradsIdeal.Read.val_main_v72_eq _ _).trans ?_
  rw [e0, e1]
  funext y
  obtain ⟨r, t, rfl⟩ : ∃ (r : Fin 496) (t : Fin 128), y = ix2 r t := ⟨_, _, eq_ix2 y⟩
  exact reference_eq _ _ (fun j => real_of_pre _ _ (hpre c) j) r t

end Cert.Proof.SmallGrads

end
-- ==== Proof.Norm.lean ====
/- The layer norm and its backward pass on real numbers: the kernels' form and the reference's, and the kernels' array operations on
   arrays whose entries are real. -/
module

public import proofs.«01_k».proof.Defs
public import Idealize.ShloMosaic.Lib.Pipeline.ValueKit
public import Idealize.ShloMosaic.Lib.ValueIdx
public import Idealize.ShloMosaic.Lib.KernelVsHost
public import Idealize.ShloMosaic.Lib.ReduceAll
public import Idealize.ShloMosaic.Lib.WritesUnit
public import Idealize.ShloMosaic.Lib.VecWindow
public import Idealize.ShloMosaic.PureOps.Ideal.Laws
public import Idealize.ShloMosaic.Init

@[expose] public section

noncomputable section

namespace Cert.Proof.Norm

open Idealize.ShloMosaic hiding ix0 ix1 ix2 ix3 eq_ix2 eq_ix3
open Idealize.ShloMosaic.TcCoe Idealize.ShloMosaic.ValueIdx Idealize.SL.Sem

/-! ### The scalars -/

/-- The constant under the root, and the residual's factor. -/
def eps : ℝ := 10995116 / 1099511627776
def alpha : ℝ := 11863283 / 8388608

theorem eps_pos : 0 < eps := by unfold eps; norm_num

theorem nought_word : Ideal.ofBits .f32 0x00000000#32 = (0 : EReal) := by simp [Ideal.ofBits, Ideal.ieee]
theorem high_word : Ideal.ofBits .f32 0x7F800000#32 = (⊤ : EReal) := by simp [Ideal.ofBits, Ideal.ieee]
theorem unit_word : Ideal.ofBits .f32 0x3F800000#32 = ((1 : ℝ) : EReal) := by
  simp [Ideal.ofBits, Ideal.ieee, -EReal.coe_mul, -EReal.coe_one]; norm_num
theorem width_word : Ideal.ofBits .f32 0x45000000#32 = ((2048 : ℝ) : EReal) := by
  simp [Ideal.ofBits, Ideal.ieee, -EReal.coe_mul]; norm_num
theorem half_word : Ideal.ofBits .f32 0x3F000000#32 = ((1 / 2 : ℝ) : EReal) := by
  simp [Ideal.ofBits, Ideal.ieee, -EReal.coe_mul]; norm_num
theorem less_word : Ideal.ofBits .f32 0xBF000000#32 = ((-(1 / 2) : ℝ) : EReal) := by
  simp [Ideal.ofBits, Ideal.ieee, -EReal.coe_mul]; norm_num
theorem two_word : Ideal.ofBits .f32 0x40000000#32 = ((2 : ℝ) : EReal) := by
  simp [Ideal.ofBits, Ideal.ieee, -EReal.coe_mul]; norm_num
theorem step_word : Ideal.ofBits .f32 0x3A000000#32 = ((1 / 2048 : ℝ) : EReal) := by
  simp [Ideal.ofBits, Ideal.ieee, -EReal.coe_mul]; norm_num
theorem part_word : Ideal.ofBits .f32 0x39800000#32 = ((1 / 4096 : ℝ) : EReal) := by
  simp [Ideal.ofBits, Ideal.ieee, -EReal.coe_mul]; norm_num
theorem eps_word : Ideal.ofBits .f32 0x3727C5AC#32 = ((eps : ℝ) : EReal) := by
  unfold eps; simp [Ideal.ofBits, Ideal.ieee, -EReal.coe_mul]; norm_num
theorem alpha_word : Ideal.ofBits .f32 0x3FB504F3#32 = ((alpha : ℝ) : EReal) := by
  unfold alpha; simp [Ideal.ofBits, Ideal.ieee, -EReal.coe_mul]; norm_num

theorem div_real (a b : ℝ) (h : b ≠ 0) : Ideal.div (a : EReal) (b : EReal) = ((a / b : ℝ) : EReal) := by
  rw [Ideal.div_coe h, ← EReal.coe_mul, mul_one_div]

theorem rsqrt_real (a : ℝ) (h : 0 < a) : Ideal.rsqrt (a : EReal) = (((Real.sqrt a)⁻¹ : ℝ) : EReal) := by
  rw [Ideal.rsqrt_coe, if_neg (not_lt.mpr h.le), if_neg h.ne']

theorem sum_real {ι : Type} (s : Finset ι) (f : ι → ℝ) : ∑ k ∈ s, (f k : EReal) = ((∑ k ∈ s, f k : ℝ) : EReal) := by
  classical
  induction s using Finset.induction with
  | empty => rfl
  | insert k s hk ih => rw [Finset.sum_insert hk, Finset.sum_insert hk, ih, EReal.coe_add]

theorem real_of_abs_lt {x : EReal} (h : max x (-x) < ⊤) : ∃ r : ℝ, x = (r : EReal) := by
  induction x using EReal.rec with
  | bot => simp at h
  | coe r => exact ⟨r, rfl⟩
  | top => simp at h

theorem finite_of_all {s u : Shape} {axes : List (Fin s.rank)} [Subsingleton u.Idx] (x : FVec Ideal s .f32) (w : FVec Ideal s .f32) (hw : ∀ i, (w i : EReal) = ⊤) (init : IVec u 1) (h : s.ReducesTo axes u) (hu : 0 < u.numel) (o : u.Idx)
    (e : Host.reduce IntOp.andi (cmpf .olt (Host.absf x) w) init h hu o = 1#1) (i : s.Idx) : (x i : EReal) = ((EReal.toReal (x i) : ℝ) : EReal) := by
  have key := Host.reduce_andi_all _ _ _ _ _ e i
  have key' : BitVec.ofBool (decide (max (x i : EReal) (-(x i : EReal)) < (w i : EReal))) = 1#1 := key
  rw [hw] at key'
  have hr : ∃ r : ℝ, (x i : EReal) = (r : EReal) := by
    refine real_of_abs_lt ?_
    by_contra hn
    rw [decide_eq_false hn] at key'
    simp at key'
  obtain ⟨r, hr⟩ := hr
  rw [hr]
  rfl

/-! ### A row on real numbers -/

section row

variable (z d : Fin 2048 → ℝ) (j : Fin 2048)

def mid : ℝ := (∑ k, z k) / 2048
def cen : ℝ := z j - mid z
def spread : ℝ := (∑ k, cen z k * cen z k) / 2048
def scale : ℝ := (Real.sqrt (spread z + eps))⁻¹
def normed : ℝ := cen z j * scale z

/-- The row's gradient as the kernels write it. -/
def back : ℝ := scale z * (d j - (∑ k, d k) / 2048 - normed z j * ((∑ k, d k * normed z k) / 2048))

/-- The part of the row's gradient that goes through the variance, and the whole as the reference writes it. -/
def slope : ℝ := ((∑ k, cen z k * d k) * (-(1 / 2) * (scale z / (spread z + eps)))) / 2048
def whole : ℝ := (d j * scale z + slope z d * (2 * cen z j)) + ((∑ k, -(d k * scale z)) + ∑ k, -(slope z d * (2 * cen z k))) / 2048

theorem spread_nonneg : 0 ≤ spread z := div_nonneg (Finset.sum_nonneg fun k _ => mul_self_nonneg _) (by norm_num)

theorem under_pos : 0 < spread z + eps := add_pos_of_nonneg_of_pos (spread_nonneg z) eps_pos

theorem cen_sum : ∑ k, cen z k = 0 := by
  unfold cen mid
  rw [Finset.sum_sub_distrib, Finset.sum_const, Finset.card_univ, Fintype.card_fin, nsmul_eq_mul]
  push_cast
  ring

theorem scale_div : scale z / (spread z + eps) = scale z * (scale z * scale z) := by
  have h : scale z * scale z = (spread z + eps)⁻¹ := by
    unfold scale
    rw [← mul_inv, Real.mul_self_sqrt (under_pos z).le]
  rw [h, div_eq_mul_inv]

theorem whole_eq : whole z d j = back z d j := by
  have e1 : ∑ k, -(slope z d * (2 * cen z k)) = 0 := by
    rw [Finset.sum_neg_distrib, ← Finset.mul_sum, ← Finset.mul_sum, cen_sum]
    ring
  have e2 : ∑ k, -(d k * scale z) = -((∑ k, d k) * scale z) := by rw [Finset.sum_neg_distrib, ← Finset.sum_mul]
  have e3 : ∑ k, d k * normed z k = (∑ k, cen z k * d k) * scale z := by
    rw [Finset.sum_mul]
    exact Finset.sum_congr rfl fun k _ => by unfold normed; ring
  unfold whole back
  rw [e1, e2, e3]
  unfold slope
  rw [scale_div]
  unfold normed
  ring

end row

/-! ### Sums over the rows, a block of 256 at a time -/

/-- The sum over the first blocks of 256 rows. -/
def upto (f : Fin 2048 → ℝ) : ℕ → ℝ
  | 0 => 0
  | n + 1 => upto f n + if h : n < 8 then ∑ r : Fin 256, f ⟨n * 256 + r.val, by omega⟩ else 0

theorem upto_succ (f : Fin 2048 → ℝ) (n : ℕ) (h : n < 8) : upto f (n + 1) = upto f n + ∑ r : Fin 256, f ⟨n * 256 + r.val, by omega⟩ := by
  show upto f n + (if h : n < 8 then ∑ r : Fin 256, f ⟨n * 256 + r.val, by omega⟩ else 0) = _
  rw [dif_pos h]

theorem upto_all (f : Fin 2048 → ℝ) : upto f 8 = ∑ r, f r := by
  have e : ∑ r : Fin 2048, f r = ∑ p : Fin 8 × Fin 256, f ⟨p.1.val * 256 + p.2.val, by omega⟩ :=
    (Fintype.sum_equiv (finProdFinEquiv (m := 8) (n := 256)) _ _ fun p => congrArg f (Fin.ext (by
      show p.1.val * 256 + p.2.val = p.2.val + 256 * p.1.val; omega))).symm
  rw [e, Fintype.sum_prod_type, Fin.sum_univ_eight, upto_succ f 7 (by omega), upto_succ f 6 (by omega), upto_succ f 5 (by omega), upto_succ f 4 (by omega),
    upto_succ f 3 (by omega), upto_succ f 2 (by omega), upto_succ f 1 (by omega), upto_succ f 0 (by omega)]
  show 0 + _ + _ + _ + _ + _ + _ + _ + _ = _
  rw [zero_add]
  rfl

/-! ### The kernels' array operations -/

abbrev Blk : Shape := ⟨2, ![256, 2048]⟩
abbrev Col : Shape := ⟨2, ![256, 1]⟩
abbrev Rows : Shape := ⟨1, ![256]⟩
abbrev Line : Shape := ⟨2, ![1, 2048]⟩
abbrev Flat : Shape := ⟨1, ![2048]⟩

theorem over_lanes : Blk.Reduces [1] Rows := by decide
theorem over_rows : Blk.Reduces [0] Flat := by decide
theorem to_col : Rows.ShapeCasts Col := by decide
theorem to_line : Flat.ShapeCasts Line := by decide
theorem same_line : Line.ShapeCasts Line := by decide
theorem from_col : Col.Broadcasts Blk := by decide
theorem from_line : Line.Broadcasts Blk := by decide

/-- An array's entries are these real numbers. -/
def Is (v : FVec Ideal Blk .f32) (w : Fin 256 → Fin 2048 → ℝ) : Prop := ∀ r j, (v (ix2 r j) : EReal) = ((w r j : ℝ) : EReal)
def IsCol (v : FVec Ideal Col .f32) (w : Fin 256 → ℝ) : Prop := ∀ r, (v (ix2 r 0) : EReal) = ((w r : ℝ) : EReal)
def IsLine (v : FVec Ideal Line .f32) (w : Fin 2048 → ℝ) : Prop := ∀ j, (v (ix2 0 j) : EReal) = ((w j : ℝ) : EReal)

def meanCol (v : FVec Ideal Blk .f32) : FVec Ideal Col .f32 :=
  divf (shapeCast Col (multiReduction .add [1] Rows v 0x00000000#32 over_lanes (.inl rfl) rfl) to_col) (broadcast Col (Scalar.ofBits .f32 0x45000000#32))
def wide (v : FVec Ideal Col .f32) : FVec Ideal Blk .f32 := broadcastTo Blk v from_col
def tall (v : FVec Ideal Line .f32) : FVec Ideal Blk .f32 := broadcastTo Blk (shapeCast Line v same_line) from_line
def centred (v : FVec Ideal Blk .f32) : FVec Ideal Blk .f32 := subf v (wide (meanCol v))
def scaleCol (v : FVec Ideal Blk .f32) : FVec Ideal Col .f32 := rsqrt (addf (meanCol (mulf (centred v) (centred v))) (broadcast Col (Scalar.ofBits .f32 0x3727C5AC#32)))
def unitArr (v : FVec Ideal Blk .f32) : FVec Ideal Blk .f32 := mulf (centred v) (wide (scaleCol v))
def backArr (r : FVec Ideal Col .f32) (u d : FVec Ideal Blk .f32) : FVec Ideal Blk .f32 :=
  mulf (wide r) (subf (subf d (wide (meanCol d))) (mulf u (wide (meanCol (mulf d u)))))
def addRows (a : FVec Ideal Line .f32) (v : FVec Ideal Blk .f32) : FVec Ideal Line .f32 :=
  addf (shapeCast Line a same_line) (shapeCast Line (multiReduction .add [0] Flat v 0x00000000#32 over_rows (.inl rfl) rfl) to_line)
def mixed (x y : FVec Ideal Blk .f32) : FVec Ideal Blk .f32 := addf (mulf (broadcast Blk (Scalar.ofBits .f32 0x3FB504F3#32)) x) y

section ops

variable {v u d : FVec Ideal Blk .f32} {w p q : Fin 256 → Fin 2048 → ℝ}

theorem wide_apply (x : FVec Ideal Col .f32) (r : Fin 256) (j : Fin 2048) : wide x (ix2 r j) = x (ix2 r 0) :=
  congrArg x (funext fun a => Fin.ext (by
    match a with
    | ⟨0, _⟩ => rfl
    | ⟨1, _⟩ => rfl))

theorem tall_apply (x : FVec Ideal Line .f32) (r : Fin 256) (j : Fin 2048) : tall x (ix2 r j) = x (ix2 0 j) :=
  (congrArg (shapeCast Line x same_line) (show _ = (ix2 0 j : Line.Idx) from funext fun a => Fin.ext (by
    match a with
    | ⟨0, _⟩ => rfl
    | ⟨1, _⟩ => rfl))).trans (shapeCast_apply _ _ _ _ rfl)

theorem meanCol_apply (x : FVec Ideal Blk .f32) (r : Fin 256) : (meanCol x (ix2 r 0) : EReal) = Ideal.div (∑ k : Fin 2048, (x (ix2 r k) : EReal)) (Ideal.ofBits .f32 0x45000000#32) := by
  refine congrArg (fun e : EReal => Ideal.div e _) ?_
  refine (shapeCast_apply _ _ _ (ix1 r) (by
    rw [Shape.rowMajor_val_one, Shape.rowMajor_val_two]; show r.val = r.val * 1 + 0; omega)).trans ?_
  refine (Ideal.multiReduction_add_single _ _ _ _ _ _).trans (Finset.sum_congr rfl fun k _ => congrArg x (funext fun a => Fin.ext ?_))
  match a with
  | ⟨0, _⟩ => rfl
  | ⟨1, _⟩ => rfl

theorem addRows_apply (a : FVec Ideal Line .f32) (x : FVec Ideal Blk .f32) (j : Fin 2048) : (addRows a x (ix2 0 j) : EReal) = (a (ix2 0 j) : EReal) + ∑ k : Fin 256, (x (ix2 k j) : EReal) := by
  refine congrArg₂ (fun e f : EReal => e + f) (shapeCast_apply _ _ _ _ rfl) ?_
  refine (shapeCast_apply _ _ _ (ix1 j) (by
    rw [Shape.rowMajor_val_one, Shape.rowMajor_val_two]; show j.val = 0 * 2048 + j.val; omega)).trans ?_
  refine (Ideal.multiReduction_add_single _ _ _ _ _ _).trans (Finset.sum_congr rfl fun k _ => congrArg x (funext fun a => Fin.ext ?_))
  match a with
  | ⟨0, _⟩ => rfl
  | ⟨1, _⟩ => rfl

theorem meanCol_is (hv : Is v w) : IsCol (meanCol v) fun r => (∑ k, w r k) / 2048 := fun r => by
  rw [meanCol_apply, Finset.sum_congr rfl fun k _ => hv r k, sum_real, width_word, div_real _ _ (by norm_num)]

theorem mul_is (hv : Is v w) (hu : Is u p) : Is (mulf v u) fun r j => w r j * p r j := fun r j => by
  show (v (ix2 r j) : EReal) * u (ix2 r j) = _
  rw [hv, hu, EReal.coe_mul]

theorem sub_is (hv : Is v w) (hu : Is u p) : Is (subf v u) fun r j => w r j - p r j := fun r j => by
  show (v (ix2 r j) : EReal) - u (ix2 r j) = _
  rw [hv, hu, EReal.coe_sub]

theorem add_is (hv : Is v w) (hu : Is u p) : Is (addf v u) fun r j => w r j + p r j := fun r j => by
  show (v (ix2 r j) : EReal) + u (ix2 r j) = _
  rw [hv, hu, EReal.coe_add]

theorem wide_is {c : FVec Ideal Col .f32} {f : Fin 256 → ℝ} (hc : IsCol c f) : Is (wide c) fun r _ => f r := fun r j => (congrArg id (wide_apply c r j)).trans (hc r)
theorem tall_is {c : FVec Ideal Line .f32} {f : Fin 2048 → ℝ} (hc : IsLine c f) : Is (tall c) fun _ j => f j := fun r j => (congrArg id (tall_apply c r j)).trans (hc j)

theorem mixed_is (hv : Is v w) (hu : Is u p) : Is (mixed v u) fun r j => alpha * w r j + p r j := fun r j => by
  show Ideal.ofBits .f32 0x3FB504F3#32 * (v (ix2 r j) : EReal) + u (ix2 r j) = _
  rw [hv, hu, alpha_word, ← EReal.coe_mul, ← EReal.coe_add]

theorem centred_is (hv : Is v w) : Is (centred v) fun r j => cen (w r) j := sub_is hv (wide_is (meanCol_is hv))

theorem scaleCol_is (hv : Is v w) : IsCol (scaleCol v) fun r => scale (w r) := fun r => by
  have h := meanCol_is (mul_is (centred_is hv) (centred_is hv)) r
  show Ideal.rsqrt ((meanCol (mulf (centred v) (centred v)) (ix2 r 0) : EReal) + Ideal.ofBits .f32 0x3727C5AC#32) = _
  rw [h, eps_word, ← EReal.coe_add]
  exact rsqrt_real _ (under_pos (w r))

theorem unitArr_is (hv : Is v w) : Is (unitArr v) fun r j => normed (w r) j := mul_is (centred_is hv) (wide_is (scaleCol_is hv))

theorem backArr_is (hv : Is v w) (hd : Is d q) : Is (backArr (scaleCol v) (unitArr v) d) fun r j => back (w r) (q r) j :=
  mul_is (wide_is (scaleCol_is hv)) (sub_is (sub_is hd (wide_is (meanCol_is hd))) (mul_is (unitArr_is hv) (wide_is (meanCol_is (mul_is hd (unitArr_is hv))))))

theorem addRows_is {a : FVec Ideal Line .f32} {f : Fin 2048 → ℝ} (ha : IsLine a f) (hv : Is v w) : IsLine (addRows a v) fun j => f j + ∑ k, w k j := fun j => by
  rw [addRows_apply, ha, Finset.sum_congr rfl fun k _ => hv k j, sum_real, EReal.coe_add]

end ops

/-! ### The first row of an accumulator of eight rows -/

section line

abbrev Acc (n : ℕ) : Shape := ⟨2, ![8, n]⟩
abbrev Row (n : ℕ) : Shape := ⟨2, ![1, n]⟩

variable {n : ℕ} {sig : RefSig} {κ : Kind} {sp : Space} (v : View sig κ sp (Acc n) .f32)
  (inb : ∀ a, (![0, 0] : Fin 2 → ℕ) a + (![1, n] : Fin 2 → ℕ) a ≤ (Acc n).size a) (inb' : ∀ a, (![0, 0] : Fin 2 → ℕ) a + (![8, n] : Fin 2 → ℕ) a ≤ (Acc n).size a)
  (x : FVec Ideal (Row n) .f32) (w : FVec Ideal (Acc n) .f32) (j : Fin n)

theorem line_emb : (Rect.unit (s := Acc n) ![0, 0] ![1, n] inb).emb (ix2 (0 : Fin 1) j) = (ix2 (0 : Fin 8) j : (Acc n).Idx) := funext fun a => Fin.ext (by
  match a with
  | ⟨0, _⟩ => rfl
  | ⟨1, _⟩ => show 0 + 1 * j.val = j.val; omega)

theorem canon_line (L : List (View.Piece (Elt Ideal) (Acc n) .f32)) :
    View.canon (Val := Elt Ideal) (s := Acc n) (e := .f32) (⟨Rect.unit ![0, 0] ![1, n] inb, x⟩ :: L) (ix2 0 j) = x (ix2 0 j) :=
  (congrArg _ (line_emb inb j).symm).trans (View.canon_cons_emb (Val := Elt Ideal) (e := .f32) (Rect.unit (s := Acc n) ![0, 0] ![1, n] inb) x L _)

theorem ld_line : View.ld (Val := Elt Ideal) (e' := .f32) w (Rect.unit (s := Acc n) ![0, 0] ![1, n] inb) (ix2 0 j) = w (ix2 0 j) := congrArg w (line_emb inb j)

theorem readCov_line : v.readCov (Val := Elt Ideal) [⟨Rect.unit ![0, 0] ![8, n] inb', w⟩] (Rect.unit (s := Acc n) ![0, 0] ![1, n] inb).toLoadRect (ix2 0 j) = w (ix2 0 j) := by
  rw [View.readCov_eq_canon']
  refine Eq.trans (b := View.canon (Val := Elt Ideal) (s := Acc n) (e := .f32) [⟨Rect.unit ![0, 0] ![8, n] inb', w⟩] (ix2 0 j)) (congrArg _ (line_emb inb j)) ?_
  rw [View.canon_unit_zero (S := Acc n) (Val := Elt Ideal) (e := .f32) (off := ![0, 0]) (funext fun a => by match a with
    | ⟨0, _⟩ => rfl
    | ⟨1, _⟩ => rfl) inb' w]

theorem writes_line (f : v.ty.Contents (Elt Ideal)) (L : List (View.Piece (Elt Ideal) (Acc n) .f32)) :
    v.read (Elt Ideal) (v.writes (Elt Ideal) f (⟨Rect.unit ![0, 0] ![1, n] inb, x⟩ :: L)) (ix2 0 j) = x (ix2 0 j) :=
  View.read_writes_cons_unit_of_mem v f inb x L (ix2 (0 : Fin 8) j) (ix2 (0 : Fin 1) j) rfl (fun a => by
    match a with
    | ⟨0, _⟩ => rfl
    | ⟨1, _⟩ => show j.val = 0 + j.val; omega)

end line

/-! ### Operations on entries that are real numbers -/

section entries

variable {x y z : Ideal .f32} {a b : ℝ}

theorem e_add (hx : x = ((a : ℝ) : EReal)) (hy : y = ((b : ℝ) : EReal)) : FloatOps.addf x y = ((a + b : ℝ) : EReal) := by
  show (x : EReal) + y = _
  rw [hx, hy, EReal.coe_add]
theorem e_sub (hx : x = ((a : ℝ) : EReal)) (hy : y = ((b : ℝ) : EReal)) : FloatOps.subf x y = ((a - b : ℝ) : EReal) := by
  show (x : EReal) - y = _
  rw [hx, hy, EReal.coe_sub]
theorem e_mul (hx : x = ((a : ℝ) : EReal)) (hy : y = ((b : ℝ) : EReal)) : FloatOps.mulf x y = ((a * b : ℝ) : EReal) := by
  show (x : EReal) * y = _
  rw [hx, hy, EReal.coe_mul]
theorem e_neg (hx : x = ((a : ℝ) : EReal)) : FloatOps.hostNegf x = ((-a : ℝ) : EReal) := by
  show -(x : EReal) = _
  rw [hx, EReal.coe_neg]
theorem e_div (hx : x = ((a : ℝ) : EReal)) (hy : y = ((b : ℝ) : EReal)) (h : b ≠ 0) : FloatOps.hostDivf x y = ((a / b : ℝ) : EReal) := by
  show Ideal.div x y = _
  rw [hx, hy, div_real _ _ h]
theorem e_rsqrt (hx : x = ((a : ℝ) : EReal)) (h : 0 < a) : FloatOps.hostUnary .rsqrt x = (((Real.sqrt a)⁻¹ : ℝ) : EReal) := by
  show Ideal.rsqrt x = _
  rw [hx]
  exact rsqrt_real a h

variable (hz : z = FloatOps.ofBits .f32 0x00000000#32)
include hz

theorem host_sum (f : Fin 2048 → EReal) (w : Fin 2048 → ℝ) (h : ∀ k, f k = ((w k : ℝ) : EReal)) : (z : EReal) + ∑ k, f k = ((∑ k, w k : ℝ) : EReal) := by
  rw [Finset.sum_congr rfl fun k _ => h k, sum_real, hz.trans nought_word, zero_add]

theorem host_one (f : Fin 1 → EReal) (w : ℝ) (h : ∀ k, f k = ((w : ℝ) : EReal)) : (z : EReal) + ∑ k, f k = ((w : ℝ) : EReal) := by
  rw [Fin.sum_univ_one, h, hz.trans nought_word, zero_add]

theorem host_all (f : Flat.Idx → EReal) (w : Fin 2048 → ℝ) (h : ∀ r, f (ix1 r) = ((w r : ℝ) : EReal)) : (z : EReal) + ∑ k, f k = ((∑ k, w k : ℝ) : EReal) := by
  have e : ∑ i : Flat.Idx, f i = ∑ k : Fin 2048, f (ix1 k) :=
    (Fintype.sum_equiv ⟨fun k => (ix1 k : Flat.Idx), fun i => i 0, fun _ => rfl, fun i => (ValueIdx.eq_ix1 i).symm⟩ (fun k => f (ix1 k)) f fun _ => rfl).symm
  rw [e, Finset.sum_congr rfl fun k _ => h k, sum_real, hz.trans nought_word, zero_add]

omit hz

theorem ext1 {n : ℕ} {i i' : (⟨1, ![n]⟩ : Shape).Idx} (h : i 0 = i' 0) : i = i' := funext fun d => by match d with
  | ⟨0, _⟩ => exact h
theorem ext2 {n k : ℕ} {i i' : (⟨2, ![n, k]⟩ : Shape).Idx} (h0 : i 0 = i' 0) (h1 : i 1 = i' 1) : i = i' := funext fun d => by match d with
  | ⟨0, _⟩ => exact h0
  | ⟨1, _⟩ => exact h1

end entries

end Cert.Proof.Norm

end
-- ==== Proof.LnLoss.lean ====
/- The loss head on one device: the second layer's last layer norm, the loss and the backward pass of both. The kernel's results and the
   reference's are the same where the arguments are finite. -/
module

public import proofs.«01_k».proof.Defs
public import proofs.«01_k».proof.Proof.Norm
public import proofs.«01_k».proof.Proof.Gen.LnLossIdeal.Frame
public import proofs.«01_k».proof.Proof.Gen.RefLnLossIdeal.Run
public import proofs.«01_k».proof.Proof.Gen.RefLnLossIdeal.Read
public import proofs.«01_k».proof.Proof.Gen.Pre_finite_head
public import Idealize.ShloMosaic.Lib.Pipeline.ValueKit
public import Idealize.ShloMosaic.Lib.ValueIdx
public import Idealize.ShloMosaic.Lib.KernelVsHost
public import Idealize.ShloMosaic.Lib.ReduceAll
public import Idealize.ShloMosaic.Lib.WritesUnit
public import Idealize.ShloMosaic.PureOps.Ideal.Laws
public import Idealize.ShloMosaic.Adequacy
public import Idealize.ShloMosaic.Init

@[expose] public section

noncomputable section

namespace Cert.Proof.LnLoss

open Idealize.ShloMosaic hiding ix0 ix1 ix2 ix3 eq_ix2 eq_ix3
open Idealize.ShloMosaic.TcCoe Idealize.ShloMosaic.ValueIdx Idealize.SL.Sem Cert.Proof.Norm

section payloads

open Cert.LnLossIdeal Cert.LnLossIdeal.Gen

variable {x y t : FVec Ideal S256x2048 .f32} {g h : FVec Ideal S1x2048 .f32} {a b s : Fin 256 → Fin 2048 → ℝ} {p q : Fin 2048 → ℝ}

/-- What the norm takes, row by row. -/
abbrev row {ι : Type} (a b : ι → Fin 2048 → ℝ) (r : ι) : Fin 2048 → ℝ := fun j => alpha * a r j + b r j
/-- The normalised rows' distance from the target. -/
abbrev far {ι : Type} (a b s : ι → Fin 2048 → ℝ) (p q : Fin 2048 → ℝ) (r : ι) (j : Fin 2048) : ℝ := normed (row a b r) j * p j + q j - s r j
/-- The gradient of the norm's result, and that of what the norm takes. -/
abbrev pull {ι : Type} (a b s : ι → Fin 2048 → ℝ) (p q : Fin 2048 → ℝ) (r : ι) (j : Fin 2048) : ℝ := far a b s p q r j * (1 / 2048)
abbrev turn {ι : Type} (a b s : ι → Fin 2048 → ℝ) (p q : Fin 2048 → ℝ) (r : ι) (j : Fin 2048) : ℝ := back (row a b r) (fun k => pull a b s p q r k * p k) j

theorem pay6_eq : k0_pay6 x y = scaleCol (mixed x y) := rfl
theorem pay7_eq : k0_pay7 x y = unitArr (mixed x y) := rfl
theorem pay8_eq : k0_pay8 x y g h t = subf (addf (mulf (unitArr (mixed x y)) (tall g)) (tall h)) t := rfl
theorem pay13_eq (r : FVec Ideal S256x1 .f32) (u e : FVec Ideal S256x2048 .f32) : k0_pay13 r u e g = backArr r u (mulf (k0_pay12 e) (tall g)) := rfl
theorem pay15_eq (u e : FVec Ideal S256x2048 .f32) : k0_pay15 u e g = addRows g (mulf (k0_pay12 e) u) := rfl
theorem pay1_eq (d : FVec Ideal S256x2048 .f32) : k0_pay1 d g = addRows g d := rfl

theorem pay8_is (hx : Is x a) (hy : Is y b) (hg : IsLine g p) (hh : IsLine h q) (ht : Is t s) : Is (k0_pay8 x y g h t) (far a b s p q) := by
  rw [pay8_eq]
  exact sub_is (add_is (mul_is (unitArr_is (mixed_is hx hy)) (tall_is hg)) (tall_is hh)) ht

theorem pay12_is {e : FVec Ideal S256x2048 .f32} {f : Fin 256 → Fin 2048 → ℝ} (he : Is e f) : Is (k0_pay12 e) fun r j => f r j * (1 / 2048) := fun r j => by
  show (e (ix2 r j) : EReal) * Ideal.ofBits .f32 0x3A000000#32 = _
  rw [he, step_word, EReal.coe_mul]

theorem pay11_apply (c : FVec Ideal S8x128 .f32) (e : FVec Ideal S256x2048 .f32) :
    (k0_pay11 c (shapeCast S1x256x2048 e shapeCasts_S256x2048_S1x256x2048) (ix2 0 0) : EReal)
      = (c (ix2 0 0) : EReal) + Ideal.ofBits .f32 0x39800000#32 * ∑ r : Fin 256, ∑ j : Fin 2048, (e (ix2 r j) : EReal) := by
  refine congrArg (fun f : EReal => (c (ix2 0 0) : EReal) + Ideal.ofBits .f32 0x39800000#32 * f) ?_
  refine Eq.trans (Ideal.multiReduction_add_total (shapeCast S1x256x2048 e shapeCasts_S256x2048_S1x256x2048) 0x00000000#32 reduces_S1x256x2048_S1 (by decide) (.inl rfl) rfl _) ?_
  refine Eq.trans (Equiv.sum_comp (Shape.reshapeEquiv _) fun i => (e i : EReal)) ?_
  exact ValueIdx.sum_idx2 _

theorem pay13_is (hx : Is x a) (hy : Is y b) (hg : IsLine g p) (hh : IsLine h q) (ht : Is t s) :
    Is (k0_pay13 (k0_pay6 x y) (k0_pay7 x y) (k0_pay8 x y g h t) g) (turn a b s p q) := by
  rw [pay13_eq, pay6_eq, pay7_eq]
  exact backArr_is (mixed_is hx hy) (mul_is (pay12_is (pay8_is hx hy hg hh ht)) (tall_is hg))

theorem pay14_is (hx : Is x a) (hy : Is y b) (hg : IsLine g p) (hh : IsLine h q) (ht : Is t s) (r : Fin 256) (j : Fin 2048) :
    (k0_pay14 (F := Ideal) (k0_pay6 x y) (k0_pay7 x y) (k0_pay8 x y g h t) g (ix2 r j) : EReal) = ((turn a b s p q r j : ℝ) : EReal) := pay13_is hx hy hg hh ht r j

theorem pay15_is (hx : Is x a) (hy : Is y b) (hg : IsLine g p) (hh : IsLine h q) (ht : Is t s) {u : FVec Ideal S1x2048 .f32} {f : Fin 2048 → ℝ} (hu : IsLine u f) :
    IsLine (k0_pay15 (k0_pay7 x y) (k0_pay8 x y g h t) u) fun j => f j + ∑ r, pull a b s p q r j * normed (row a b r) j := by
  rw [pay15_eq, pay7_eq]
  exact addRows_is hu (mul_is (pay12_is (pay8_is hx hy hg hh ht)) (unitArr_is (mixed_is hx hy)))

theorem pay1_is (hx : Is x a) (hy : Is y b) (hg : IsLine g p) (hh : IsLine h q) (ht : Is t s) {u : FVec Ideal S1x2048 .f32} {f : Fin 2048 → ℝ} (hu : IsLine u f) :
    IsLine (k0_pay1 (k0_pay12 (k0_pay8 x y g h t)) u) fun j => f j + ∑ r, pull a b s p q r j := by
  rw [pay1_eq]
  exact addRows_is hu (pay12_is (pay8_is hx hy hg hh ht))

theorem pay11_is (hx : Is x a) (hy : Is y b) (hg : IsLine g p) (hh : IsLine h q) (ht : Is t s) {u : FVec Ideal S8x128 .f32} {f : ℝ} (hu : (u (ix2 0 0) : EReal) = ((1 / 4096 * f : ℝ) : EReal)) :
    (k0_pay11 (F := Ideal) (k0_pay9 u) (k0_pay10 x y g h t) (ix2 0 0) : EReal) = ((1 / 4096 * (f + ∑ r, ∑ j, far a b s p q r j * far a b s p q r j) : ℝ) : EReal) := by
  have e := mul_is (pay8_is hx hy hg hh ht) (pay8_is hx hy hg hh ht)
  refine Eq.trans (pay11_apply (k0_pay9 u) (mulf (k0_pay8 x y g h t) (k0_pay8 x y g h t))) ?_
  rw [Finset.sum_congr rfl fun r _ => (Finset.sum_congr rfl fun j _ => e r j).trans (sum_real _ _), sum_real, part_word, ← EReal.coe_mul,
    show k0_pay9 (F := Ideal) u (ix2 0 0) = u (ix2 0 0) from shapeCast_apply _ _ _ _ rfl, hu, ← EReal.coe_add, mul_add]

end payloads

section kernel

open Cert.LnLossIdeal Cert.LnLossIdeal.Gen

variable (m : (ℓ : Loc nD τ sig) → Buf (Elt Ideal) ℓ)

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![0, 0] := (by decide +kernel : ∀ t : Fin grid0.N, _)

theorem steps (t : Fin cfg0.N) : t.val < 8 := t.isLt
/-- The row of the whole array in a step's block. -/
abbrev place (t : Fin cfg0.N) (r : Fin 256) : Fin 2048 := ⟨t.val * 256 + r.val, by have := steps t; omega⟩
/-- A step's rows. -/
abbrev cut (a : Fin 2048 → Fin 2048 → ℝ) (t : Fin cfg0.N) (r : Fin 256) : Fin 2048 → ℝ := a (place t r)

theorem gain_eq (c : Dev nD) : V m c main_v0 = shapeCast S1x2048 (m ((c : Thread nD τ).loc main_arg2) : FVec Ideal S2048 .f32) shapeCasts_S2048_S1x2048 := by
  show StableHlo.after hostOps0 (fun b => m (c, b)) (Proc.devRef .tc main_v0) = _
  simp only [hostOps0]
  after_results_simp <;> rfl

theorem shift_eq (c : Dev nD) : V m c main_v1 = shapeCast S1x2048 (m ((c : Thread nD τ).loc main_arg3) : FVec Ideal S2048 .f32) shapeCasts_S2048_S1x2048 := by
  show StableHlo.after hostOps0 (fun b => m (c, b)) (Proc.devRef .tc main_v1) = _
  simp only [hostOps0]
  after_results_simp <;> rfl

theorem line_apply (x : FVec Ideal S2048 .f32) (j : Fin 2048) : shapeCast S1x2048 x shapeCasts_S2048_S1x2048 (ix2 (0 : Fin 1) j) = x (ix1 j) :=
  shapeCast_apply _ _ _ _ (by rw [Shape.rowMajor_val_one, Shape.rowMajor_val_two]; show j.val = 0 * 2048 + j.val; omega)

theorem iblk0_apply (c : Dev nD) (t : Fin cfg0.N) (r : Fin 256) (j : Fin 2048) : iblk m c 0 t (ix2 r j) = m ((c : Thread nD τ).loc main_arg0) (ix2 (place t r) j) := by
  rw [← V_main_arg0 m c]; blk_simp [iblk]; congr 1; blk_ext [at0 t]
theorem iblk1_apply (c : Dev nD) (t : Fin cfg0.N) (r : Fin 256) (j : Fin 2048) : iblk m c 1 t (ix2 r j) = m ((c : Thread nD τ).loc main_arg1) (ix2 (place t r) j) := by
  rw [← V_main_arg1 m c]; blk_simp [iblk]; congr 1; blk_ext [at1 t]
theorem iblk2_apply (c : Dev nD) (t : Fin cfg0.N) (j : Fin 2048) : iblk m c 2 t (ix2 (0 : Fin 1) j) = m ((c : Thread nD τ).loc main_arg2) (ix1 j) := by
  refine Eq.trans ?_ (line_apply (m ((c : Thread nD τ).loc main_arg2)) j)
  rw [← gain_eq m c]; blk_simp [iblk]; congr 1; blk_ext [at2 t]
theorem iblk3_apply (c : Dev nD) (t : Fin cfg0.N) (j : Fin 2048) : iblk m c 3 t (ix2 (0 : Fin 1) j) = m ((c : Thread nD τ).loc main_arg3) (ix1 j) := by
  refine Eq.trans ?_ (line_apply (m ((c : Thread nD τ).loc main_arg3)) j)
  rw [← shift_eq m c]; blk_simp [iblk]; congr 1; blk_ext [at3 t]
theorem iblk4_apply (c : Dev nD) (t : Fin cfg0.N) (r : Fin 256) (j : Fin 2048) : iblk m c 4 t (ix2 r j) = m ((c : Thread nD τ).loc main_arg4) (ix2 (place t r) j) := by
  rw [← V_main_arg4 m c]; blk_simp [iblk]; congr 1; blk_ext [at4 t]

/-- The arguments of a device are these real numbers. -/
structure Given (c : Dev nD) (a b s : Fin 2048 → Fin 2048 → ℝ) (p q : Fin 2048 → ℝ) : Prop where
  x : ∀ r j, (m ((c : Thread nD τ).loc main_arg0) (ix2 r j) : EReal) = ((a r j : ℝ) : EReal)
  y : ∀ r j, (m ((c : Thread nD τ).loc main_arg1) (ix2 r j) : EReal) = ((b r j : ℝ) : EReal)
  g : ∀ j, (m ((c : Thread nD τ).loc main_arg2) (ix1 j) : EReal) = ((p j : ℝ) : EReal)
  h : ∀ j, (m ((c : Thread nD τ).loc main_arg3) (ix1 j) : EReal) = ((q j : ℝ) : EReal)
  t : ∀ r j, (m ((c : Thread nD τ).loc main_arg4) (ix2 r j) : EReal) = ((s r j : ℝ) : EReal)

variable {m} {c : Dev nD} {a b s : Fin 2048 → Fin 2048 → ℝ} {p q : Fin 2048 → ℝ} (hm : Given m c a b s p q)
include hm

theorem is0 (t : Fin cfg0.N) : Is (iblk m c 0 t) (cut a t) := fun r j => (iblk0_apply m c t r j).trans (hm.x _ _)
theorem is1 (t : Fin cfg0.N) : Is (iblk m c 1 t) (cut b t) := fun r j => (iblk1_apply m c t r j).trans (hm.y _ _)
theorem is2 (t : Fin cfg0.N) : IsLine (iblk m c 2 t) p := fun j => (iblk2_apply m c t j).trans (hm.g _)
theorem is3 (t : Fin cfg0.N) : IsLine (iblk m c 3 t) q := fun j => (iblk3_apply m c t j).trans (hm.h _)
theorem is4 (t : Fin cfg0.N) : Is (iblk m c 4 t) (cut s t) := fun r j => (iblk4_apply m c t r j).trans (hm.t _ _)

omit hm in
/-- What is left after the step: the gradient's rows in both types, and the three sums so far. -/
structure After (a b s : Fin 2048 → Fin 2048 → ℝ) (p q : Fin 2048 → ℝ) (t : Fin cfg0.N)
    (o : FVec Ideal S256x2048 .f32 × FVec Ideal S256x2048 .bf16 × FVec Ideal S8x2048 .f32 × FVec Ideal S8x2048 .f32 × FVec Ideal S8x128 .f32) : Prop where
  grad : ∀ r j, (o.1 (ix2 r j) : EReal) = ((turn a b s p q (place t r) j : ℝ) : EReal)
  half : ∀ r j, (o.2.1 (ix2 r j) : EReal) = ((turn a b s p q (place t r) j : ℝ) : EReal)
  gain : ∀ j, (o.2.2.1 (ix2 0 j) : EReal) = ((upto (fun r => pull a b s p q r j * normed (row a b r) j) (t.val + 1) : ℝ) : EReal)
  shift : ∀ j, (o.2.2.2.1 (ix2 0 j) : EReal) = ((upto (fun r => pull a b s p q r j) (t.val + 1) : ℝ) : EReal)
  loss : (o.2.2.2.2 (ix2 0 0) : EReal) = ((1 / 4096 * upto (fun r => ∑ j, far a b s p q r j * far a b s p q r j) (t.val + 1) : ℝ) : EReal)

set_option maxHeartbeats 1000000 in
theorem after_eq (n : ℕ) : ∀ h : n < cfg0.N, After a b s p q ⟨n, h⟩ (outsAt0 m c n h) := by
  induction n with
  | zero =>
    intro h
    have ht : (⟨0, h⟩ : Fin cfg0.N).val % 8 = 0 := rfl
    have e := outsAt0_A m c ⟨0, h⟩ ht
    refine (congrArg (After a b s p q ⟨0, h⟩) (show outsAt0 m c 0 h = _ from e)).mpr ?_
    frame_out
    refine ⟨pay13_is (is0 hm _) (is1 hm _) (is2 hm _) (is3 hm _) (is4 hm _), pay14_is (is0 hm _) (is1 hm _) (is2 hm _) (is3 hm _) (is4 hm _), fun j => ?_, fun j => ?_, ?_⟩ <;> dsimp only
    · generalize hX : k0_pay15 (F := Ideal) _ _ _ = X
      refine (canon_line inb_S8x2048_S1x2048_0_0 X j _).trans ?_
      rw [← hX]
      refine (pay15_is (is0 hm _) (is1 hm _) (is2 hm _) (is3 hm _) (is4 hm _) (f := fun _ => 0) (fun k => ?_) j).trans ?_
      · exact (readCov_line _ inb_S8x2048_S1x2048_0_0 inb_S8x2048_S8x2048_0_0 k0_pay2 k).trans nought_word
      rw [upto_succ _ _ (by omega)]; rfl
    · generalize hX : k0_pay1 (F := Ideal) _ _ = X
      refine (canon_line inb_S8x2048_S1x2048_0_0 X j _).trans ?_
      rw [← hX]
      refine (pay1_is (is0 hm _) (is1 hm _) (is2 hm _) (is3 hm _) (is4 hm _) (f := fun _ => 0) (fun k => ?_) j).trans ?_
      · exact (readCov_line _ inb_S8x2048_S1x2048_0_0 inb_S8x2048_S8x2048_0_0 k0_pay3 k).trans nought_word
      rw [upto_succ _ _ (by omega)]; rfl
    · refine (pay11_is (is0 hm _) (is1 hm _) (is2 hm _) (is3 hm _) (is4 hm _) (f := 0) ?_).trans ?_
      · rw [mul_zero]; exact nought_word
      · rw [upto_succ _ _ (by omega)]; rfl
  | succ n ih =>
    intro h
    have hn : n + 1 < 8 := steps ⟨n + 1, h⟩
    have ht : ¬ (⟨n + 1, h⟩ : Fin cfg0.N).val % 8 = 0 := by show ¬ (n + 1) % 8 = 0; omega
    have e := outsAt0_B m c ⟨n + 1, h⟩ ht
    have old := ih (by omega)
    refine (congrArg (After a b s p q ⟨n + 1, h⟩) (show outsAt0 m c (n + 1) h = _ from e)).mpr ?_
    frame_out
    refine ⟨pay13_is (is0 hm _) (is1 hm _) (is2 hm _) (is3 hm _) (is4 hm _), pay14_is (is0 hm _) (is1 hm _) (is2 hm _) (is3 hm _) (is4 hm _), fun j => ?_, fun j => ?_, ?_⟩ <;> dsimp only
    · generalize hX : k0_pay15 (F := Ideal) _ _ _ = X
      refine (writes_line _ inb_S8x2048_S1x2048_0_0 X j _ _).trans ?_
      rw [← hX]
      refine (pay15_is (is0 hm _) (is1 hm _) (is2 hm _) (is3 hm _) (is4 hm _) (f := fun j => upto (fun r => pull a b s p q r j * normed (row a b r) j) (n + 1)) (fun k => ?_) j).trans ?_
      · exact Eq.trans (ld_line inb_S8x2048_S1x2048_0_0 _ k) (old.gain k)
      rw [upto_succ _ (n + 1) hn]
    · generalize hX : k0_pay1 (F := Ideal) _ _ = X
      refine (writes_line _ inb_S8x2048_S1x2048_0_0 X j _ _).trans ?_
      rw [← hX]
      refine (pay1_is (is0 hm _) (is1 hm _) (is2 hm _) (is3 hm _) (is4 hm _) (f := fun j => upto (fun r => pull a b s p q r j) (n + 1)) (fun k => ?_) j).trans ?_
      · exact Eq.trans (ld_line inb_S8x2048_S1x2048_0_0 _ k) (old.shift k)
      rw [upto_succ _ (n + 1) hn]
    · refine (pay11_is (is0 hm _) (is1 hm _) (is2 hm _) (is3 hm _) (is4 hm _) old.loss).trans ?_
      rw [upto_succ _ (n + 1) hn]

theorem after_at (t : Fin cfg0.N) : After a b s p q t (outsAt0 m c t.val t.isLt) := after_eq hm t.val t.isLt

theorem final5 : (dats m 0 c).arrAt 5 cfg0.N = (fun y => ((turn a b s p q (y 0) (y 1) : ℝ) : EReal) : FVec Ideal S2048x2048 .f32) := by
  refine (dats m 0 c).arrAt_eq_of_covers 5 _ (by decide +kernel) fun t hf y => ?_
  blk_simp
  rw [after0_5]
  obtain ⟨r, j, rfl⟩ : ∃ (r : Fin 256) (j : Fin 2048), y = ix2 r j := ⟨_, _, eq_ix2 y⟩
  rw [show (win0_5.blk t).view.emb (ix2 r j) = ix2 (place t r) j from by blk_ext [at5 t]]
  exact (after_at hm t).grad r j

theorem final6 : (dats m 0 c).arrAt 6 cfg0.N = (fun y => ((turn a b s p q (y 0) (y 1) : ℝ) : EReal) : FVec Ideal S2048x2048 .bf16) := by
  refine (dats m 0 c).arrAt_eq_of_covers 6 _ (by decide +kernel) fun t hf y => ?_
  blk_simp
  rw [after0_6]
  obtain ⟨r, j, rfl⟩ : ∃ (r : Fin 256) (j : Fin 2048), y = ix2 r j := ⟨_, _, eq_ix2 y⟩
  rw [show (win0_6.blk t).view.emb (ix2 r j) = ix2 (place t r) j from by blk_ext [at6 t]]
  exact (after_at hm t).half r j

omit hm in
theorem last (t : Fin cfg0.N) (h : t.val % 8 = 7) : t = ⟨7, by decide⟩ := Fin.ext (by have := steps t; show t.val = 7; omega)

omit hm in
theorem final7 : (dats m 0 c).arrAt 7 cfg0.N = (outsAt0 m c 7 (by decide)).2.2.1 := by
  refine (dats m 0 c).arrAt_eq_of_covers 7 (outsAt0 m c 7 (by decide)).2.2.1 (by decide +kernel) fun t hf y => ?_
  have h7 := last t ((flush0_7 t).mp hf)
  blk_simp
  rw [after0_7]
  obtain ⟨r, j, rfl⟩ : ∃ (r : Fin 8) (j : Fin 2048), y = ix2 r j := ⟨_, _, eq_ix2 y⟩
  rw [show (win0_7.blk t).view.emb (ix2 r j) = ix2 r j from by blk_ext [at7 t]]
  subst h7
  rfl

omit hm in
theorem final8 : (dats m 0 c).arrAt 8 cfg0.N = (outsAt0 m c 7 (by decide)).2.2.2.1 := by
  refine (dats m 0 c).arrAt_eq_of_covers 8 (outsAt0 m c 7 (by decide)).2.2.2.1 (by decide +kernel) fun t hf y => ?_
  have h7 := last t ((flush0_8 t).mp hf)
  blk_simp
  rw [after0_8]
  obtain ⟨r, j, rfl⟩ : ∃ (r : Fin 8) (j : Fin 2048), y = ix2 r j := ⟨_, _, eq_ix2 y⟩
  rw [show (win0_8.blk t).view.emb (ix2 r j) = ix2 r j from by blk_ext [at8 t]]
  subst h7
  rfl

omit hm in
theorem final9 : (dats m 0 c).arrAt 9 cfg0.N = (outsAt0 m c 7 (by decide)).2.2.2.2 := by
  refine (dats m 0 c).arrAt_eq_of_covers 9 (outsAt0 m c 7 (by decide)).2.2.2.2 (by decide +kernel) fun t hf y => ?_
  have h7 := last t ((flush0_9 t).mp hf)
  blk_simp
  rw [after0_9]
  obtain ⟨r, j, rfl⟩ : ∃ (r : Fin 8) (j : Fin 128), y = ix2 r j := ⟨_, _, eq_ix2 y⟩
  rw [show (win0_9.blk t).view.emb (ix2 r j) = ix2 r j from by blk_ext [at9 t]]
  subst h7
  rfl

end kernel

section tail

open Cert.LnLossIdeal Cert.LnLossIdeal.Gen

variable (W : Valuation τ sig (Elt Ideal))

theorem tail_loss : StableHlo.after (hostOps1 (F := Ideal)) W (Proc.devRef .tc main_v4)
    = shapeCast S_ (extractStridedSlice S1x1 ![0, 0] (W (Proc.devRef .tc main_v2_4) : FVec Ideal S8x128 .f32) slices_S8x128_S1x1_0_0) shapeCasts_S1x1_S_ := by
  simp only [hostOps1]
  after_results_simp <;> rfl

theorem tail_gain : StableHlo.after (hostOps1 (F := Ideal)) W (Proc.devRef .tc main_v6)
    = shapeCast S2048 (extractStridedSlice S1x2048 ![0, 0] (W (Proc.devRef .tc main_v2_2) : FVec Ideal S8x2048 .f32) slices_S8x2048_S1x2048_0_0) shapeCasts_S1x2048_S2048 := by
  simp only [hostOps1]
  after_results_simp <;> rfl

theorem tail_shift : StableHlo.after (hostOps1 (F := Ideal)) W (Proc.devRef .tc main_v8)
    = shapeCast S2048 (extractStridedSlice S1x2048 ![0, 0] (W (Proc.devRef .tc main_v2_3) : FVec Ideal S8x2048 .f32) slices_S8x2048_S1x2048_0_0) shapeCasts_S1x2048_S2048 := by
  simp only [hostOps1]
  after_results_simp <;> rfl

theorem first_row (x : FVec Ideal S8x2048 .f32) (j : Fin 2048) :
    shapeCast S2048 (extractStridedSlice S1x2048 ![0, 0] x slices_S8x2048_S1x2048_0_0) shapeCasts_S1x2048_S2048 (ix1 j) = x (ix2 0 j) := by
  refine (shapeCast_apply _ _ (ix1 j) (ix2 (0 : Fin 1) j) (by
    rw [Shape.rowMajor_val_one, Shape.rowMajor_val_two]; show 0 * 2048 + j.val = j.val; omega)).trans ?_
  unfold extractStridedSlice
  exact congrArg x (funext fun a => Fin.ext (by match a with
    | ⟨0, _⟩ => rfl
    | ⟨1, _⟩ => show 0 + j.val = j.val; omega))

theorem first_entry (x : FVec Ideal S8x128 .f32) (i : S_.Idx) :
    shapeCast S_ (extractStridedSlice S1x1 ![0, 0] x slices_S8x128_S1x1_0_0) shapeCasts_S1x1_S_ i = x (ix2 0 0) := by
  refine (shapeCast_apply _ _ i (ix2 (0 : Fin 1) (0 : Fin 1)) (by
    rw [Shape.rowMajor_val_two]; exact Nat.lt_one_iff.mp (S_.rowMajor i).isLt)).trans ?_
  unfold extractStridedSlice
  exact congrArg x (funext fun a => Fin.ext (by match a with
    | ⟨0, _⟩ => rfl
    | ⟨1, _⟩ => rfl))

variable {m : (ℓ : Loc nD τ sig) → Buf (Elt Ideal) ℓ} {c : Dev nD} {a b s : Fin 2048 → Fin 2048 → ℝ} {p q : Fin 2048 → ℝ} (hm : Given m c a b s p q)
include hm

theorem result_loss : Pipeline.afterTail₀ cfgs (dats m) 0 (V0 m) [hostOps1 (F := Ideal)] c main_v4
    = (fun _ => ((1 / 4096 * ∑ r, ∑ j, far a b s p q r j * far a b s p q r j : ℝ) : EReal) : FVec Ideal S_ .f32) := by
  have e : Pipeline.withArrays spec0 c (V0 m c) (fun w => (dats m 0 c).arrAt w cfg0.N) (Proc.devRef .tc main_v2_4) = (dats m 0 c).arrAt 9 cfg0.N :=
    Pipeline.withArrays_arr spec0 launch0.win.arr_inj c (V0 m c) (fun w => (dats m 0 c).arrAt w cfg0.N) 9
  show StableHlo.after (hostOps1 (F := Ideal)) (Pipeline.withArrays spec0 c (V0 m c) (fun w => (dats m 0 c).arrAt w cfg0.N)) (Proc.devRef .tc main_v4) = _
  rw [tail_loss, e, final9]
  funext i
  refine (first_entry _ i).trans ((after_eq hm 7 (by decide)).loss.trans ?_)
  rw [show (7 + 1 : ℕ) = 8 from rfl, upto_all]

theorem result_gain : Pipeline.afterTail₀ cfgs (dats m) 0 (V0 m) [hostOps1 (F := Ideal)] c main_v6
    = (fun i => ((∑ r, pull a b s p q r (i 0) * normed (row a b r) (i 0) : ℝ) : EReal) : FVec Ideal S2048 .f32) := by
  have e : Pipeline.withArrays spec0 c (V0 m c) (fun w => (dats m 0 c).arrAt w cfg0.N) (Proc.devRef .tc main_v2_2) = (dats m 0 c).arrAt 7 cfg0.N :=
    Pipeline.withArrays_arr spec0 launch0.win.arr_inj c (V0 m c) (fun w => (dats m 0 c).arrAt w cfg0.N) 7
  show StableHlo.after (hostOps1 (F := Ideal)) (Pipeline.withArrays spec0 c (V0 m c) (fun w => (dats m 0 c).arrAt w cfg0.N)) (Proc.devRef .tc main_v6) = _
  rw [tail_gain, e, final7]
  funext i
  obtain ⟨j, rfl⟩ : ∃ j : Fin 2048, i = ix1 j := ⟨_, ValueIdx.eq_ix1 i⟩
  refine (first_row _ j).trans (((after_eq hm 7 (by decide)).gain j).trans ?_)
  rw [show (7 + 1 : ℕ) = 8 from rfl, upto_all]

theorem result_shift : Pipeline.afterTail₀ cfgs (dats m) 0 (V0 m) [hostOps1 (F := Ideal)] c main_v8
    = (fun i => ((∑ r, pull a b s p q r (i 0) : ℝ) : EReal) : FVec Ideal S2048 .f32) := by
  have e : Pipeline.withArrays spec0 c (V0 m c) (fun w => (dats m 0 c).arrAt w cfg0.N) (Proc.devRef .tc main_v2_3) = (dats m 0 c).arrAt 8 cfg0.N :=
    Pipeline.withArrays_arr spec0 launch0.win.arr_inj c (V0 m c) (fun w => (dats m 0 c).arrAt w cfg0.N) 8
  show StableHlo.after (hostOps1 (F := Ideal)) (Pipeline.withArrays spec0 c (V0 m c) (fun w => (dats m 0 c).arrAt w cfg0.N)) (Proc.devRef .tc main_v8) = _
  rw [tail_shift, e, final8]
  funext i
  obtain ⟨j, rfl⟩ : ∃ j : Fin 2048, i = ix1 j := ⟨_, ValueIdx.eq_ix1 i⟩
  refine (first_row _ j).trans (((after_eq hm 7 (by decide)).shift j).trans ?_)
  rw [show (7 + 1 : ℕ) = 8 from rfl, upto_all]

omit hm in
/-- What the call leaves where the arguments are real numbers. -/
theorem run (ρ : Dev nD → PrngReg) (a b s : Dev nD → Fin 2048 → Fin 2048 → ℝ) (p q : Dev nD → Fin 2048 → ℝ) (hm : ∀ c, Given m c (a c) (b c) (s c) (p c) (q c)) :
    θ_run (defs (F := Ideal)) (onTc (τ := τ) (main (F := Ideal))) ⟨m, fun _ => 0, ρ⟩ fun r => ∀ c : Dev nD,
      r.2.mem ((c.tc : Thread nD τ).loc main_v4) = (fun _ => ((1 / 4096 * ∑ r, ∑ j, far (a c) (b c) (s c) (p c) (q c) r j * far (a c) (b c) (s c) (p c) (q c) r j : ℝ) : EReal) : FVec Ideal S_ .f32)
      ∧ r.2.mem ((c.tc : Thread nD τ).loc main_v2_0) = (fun y => ((turn (a c) (b c) (s c) (p c) (q c) (y 0) (y 1) : ℝ) : EReal) : FVec Ideal S2048x2048 .f32)
      ∧ r.2.mem ((c.tc : Thread nD τ).loc main_v2_1) = (fun y => ((turn (a c) (b c) (s c) (p c) (q c) (y 0) (y 1) : ℝ) : EReal) : FVec Ideal S2048x2048 .bf16)
      ∧ r.2.mem ((c.tc : Thread nD τ).loc main_v6) = (fun i => ((∑ r, pull (a c) (b c) (s c) (p c) (q c) r (i 0) * normed (row (a c) (b c) r) (i 0) : ℝ) : EReal) : FVec Ideal S2048 .f32)
      ∧ r.2.mem ((c.tc : Thread nD τ).loc main_v8) = (fun i => ((∑ r, pull (a c) (b c) (s c) (p c) (q c) r (i 0) : ℝ) : EReal) : FVec Ideal S2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run (defs (F := Ideal)) _ _).mono (fun r hr c => ?_) (θ_run_and (run_main m ρ) (unchanged m ρ))
  obtain ⟨hr, hk⟩ := hr
  exact ⟨((hr c).2 main_v4 (by decide : main_v4 ∈ Pipeline.restRefs sig spec0)).trans (result_loss (hm c)),
    ((hr c).1 5).trans (final5 (hm c)),
    ((hr c).1 6).trans (final6 (hm c)),
    ((hr c).2 main_v6 (by decide : main_v6 ∈ Pipeline.restRefs sig spec0)).trans (result_gain (hm c)),
    ((hr c).2 main_v8 (by decide : main_v8 ∈ Pipeline.restRefs sig spec0)).trans (result_shift (hm c)),
    hk c⟩

end tail
section reference

open Cert.RefLnLossIdeal Cert.RefLnLossIdeal.Read

variable {x0 x1 x4 : FVec Ideal S2048x2048 .f32} {x2 x3 : FVec Ideal S2048 .f32} {a b s : Fin 2048 → Fin 2048 → ℝ} {p q : Fin 2048 → ℝ}

/-- The arguments are these real numbers. -/
structure Real5 (x0 x1 : FVec Ideal S2048x2048 .f32) (x2 x3 : FVec Ideal S2048 .f32) (x4 : FVec Ideal S2048x2048 .f32) (a b s : Fin 2048 → Fin 2048 → ℝ) (p q : Fin 2048 → ℝ) : Prop where
  x : ∀ r j, (x0 (ix2 r j) : EReal) = ((a r j : ℝ) : EReal)
  y : ∀ r j, (x1 (ix2 r j) : EReal) = ((b r j : ℝ) : EReal)
  g : ∀ j, (x2 (ix1 j) : EReal) = ((p j : ℝ) : EReal)
  h : ∀ j, (x3 (ix1 j) : EReal) = ((q j : ℝ) : EReal)
  t : ∀ r j, (x4 (ix2 r j) : EReal) = ((s r j : ℝ) : EReal)

theorem ref0 (H : Real5 x0 x1 x2 x3 x4 a b s p q) (r j : Fin 2048) : (val_main_v0 (F := Ideal)  (ix2 r j) : EReal) = ((alpha : ℝ) : EReal) :=
  by
  rw [val_main_v0_apply (F := Ideal)  (ix2 r j)]
  exact alpha_word

theorem ref1 (H : Real5 x0 x1 x2 x3 x4 a b s p q) (r j : Fin 2048) : (val_main_v1 (F := Ideal) x0 (ix2 r j) : EReal) = (((alpha) * (a r j) : ℝ) : EReal) :=
  by
  rw [val_main_v1_apply (F := Ideal) x0 (ix2 r j)]
  exact (e_mul (ref0 H r j) (H.x r j))

theorem ref2 (H : Real5 x0 x1 x2 x3 x4 a b s p q) (r j : Fin 2048) : (val_main_v2 (F := Ideal) x0 x1 (ix2 r j) : EReal) = ((row a b r j : ℝ) : EReal) :=
  by
  rw [val_main_v2_apply (F := Ideal) x0 x1 (ix2 r j)]
  exact (e_add (ref1 H r j) (H.y r j))

theorem ref3 (H : Real5 x0 x1 x2 x3 x4 a b s p q) (r : Fin 2048) : (val_main_v3 (F := Ideal) x0 x1 (ix1 r) : EReal) = ((∑ k, (row a b r k) : ℝ) : EReal) :=
  by
  rw [val_main_v3_apply x0 x1 (ix1 r)]
  exact (host_sum (val_main_cst_0_apply (F := Ideal) _) _ _ fun k => by
    rw [show idx_main_v3 (ix1 r) k = ix2 r k from ext2 rfl rfl]
    exact ref2 H r k)

theorem ref4 (H : Real5 x0 x1 x2 x3 x4 a b s p q) (r : Fin 2048) : (val_main_v4 (F := Ideal) x0 x1 (ix2 r 0) : EReal) = ((∑ k, (row a b r k) : ℝ) : EReal) :=
  by
  rw [val_main_v4_apply (F := Ideal) x0 x1 (ix2 r 0), show idx_main_v4 (ix2 r 0) = ix1 r from ext1 rfl]
  exact (ref3 H r)

theorem ref5 (H : Real5 x0 x1 x2 x3 x4 a b s p q) (r : Fin 2048) : (val_main_v5 (F := Ideal)  (ix2 r 0) : EReal) = ((2048 : ℝ) : EReal) :=
  by
  rw [val_main_v5_apply (F := Ideal)  (ix2 r 0)]
  exact width_word

theorem ref6 (H : Real5 x0 x1 x2 x3 x4 a b s p q) (r : Fin 2048) : (val_main_v6 (F := Ideal) x0 x1 (ix2 r 0) : EReal) = ((mid (row a b r) : ℝ) : EReal) :=
  by
  rw [val_main_v6_apply (F := Ideal) x0 x1 (ix2 r 0)]
  exact (e_div (ref4 H r) (ref5 H r) (by norm_num))

theorem ref7 (H : Real5 x0 x1 x2 x3 x4 a b s p q) (r j : Fin 2048) : (val_main_v7 (F := Ideal) x0 x1 (ix2 r j) : EReal) = ((mid (row a b r) : ℝ) : EReal) :=
  by
  rw [val_main_v7_apply (F := Ideal) x0 x1 (ix2 r j), show idx_main_v7 (ix2 r j) = ix2 r 0 from ext2 rfl rfl]
  exact (ref6 H r)

theorem ref8 (H : Real5 x0 x1 x2 x3 x4 a b s p q) (r j : Fin 2048) : (val_main_v8 (F := Ideal) x0 x1 (ix2 r j) : EReal) = ((cen (row a b r) j : ℝ) : EReal) :=
  by
  rw [val_main_v8_apply (F := Ideal) x0 x1 (ix2 r j)]
  exact (e_sub (ref2 H r j) (ref7 H r j))

theorem ref9 (H : Real5 x0 x1 x2 x3 x4 a b s p q) (r j : Fin 2048) : (val_main_v9 (F := Ideal) x0 x1 (ix2 r j) : EReal) = (((cen (row a b r) j) * (cen (row a b r) j) : ℝ) : EReal) :=
  by
  rw [val_main_v9_apply (F := Ideal) x0 x1 (ix2 r j)]
  exact (e_mul (ref8 H r j) (ref8 H r j))

theorem ref10 (H : Real5 x0 x1 x2 x3 x4 a b s p q) (r j : Fin 2048) : (val_main_v10 (F := Ideal)  (ix2 r j) : EReal) = ((2 : ℝ) : EReal) :=
  by
  rw [val_main_v10_apply (F := Ideal)  (ix2 r j)]
  exact two_word

theorem ref11 (H : Real5 x0 x1 x2 x3 x4 a b s p q) (r j : Fin 2048) : (val_main_v11 (F := Ideal) x0 x1 (ix2 r j) : EReal) = (((2) * (cen (row a b r) j) : ℝ) : EReal) :=
  by
  rw [val_main_v11_apply (F := Ideal) x0 x1 (ix2 r j)]
  exact (e_mul (ref10 H r j) (ref8 H r j))

theorem ref12 (H : Real5 x0 x1 x2 x3 x4 a b s p q) (r : Fin 2048) : (val_main_v12 (F := Ideal) x0 x1 (ix1 r) : EReal) = ((∑ k, ((cen (row a b r) k) * (cen (row a b r) k)) : ℝ) : EReal) :=
  by
  rw [val_main_v12_apply x0 x1 (ix1 r)]
  exact (host_sum (val_main_cst_3_apply (F := Ideal) _) _ _ fun k => by
    rw [show idx_main_v12 (ix1 r) k = ix2 r k from ext2 rfl rfl]
    exact ref9 H r k)

theorem ref13 (H : Real5 x0 x1 x2 x3 x4 a b s p q) (r : Fin 2048) : (val_main_v13 (F := Ideal) x0 x1 (ix2 r 0) : EReal) = ((∑ k, ((cen (row a b r) k) * (cen (row a b r) k)) : ℝ) : EReal) :=
  by
  rw [val_main_v13_apply (F := Ideal) x0 x1 (ix2 r 0), show idx_main_v13 (ix2 r 0) = ix1 r from ext1 rfl]
  exact (ref12 H r)

theorem ref14 (H : Real5 x0 x1 x2 x3 x4 a b s p q) (r : Fin 2048) : (val_main_v14 (F := Ideal)  (ix2 r 0) : EReal) = ((2048 : ℝ) : EReal) :=
  by
  rw [val_main_v14_apply (F := Ideal)  (ix2 r 0)]
  exact width_word

theorem ref15 (H : Real5 x0 x1 x2 x3 x4 a b s p q) (r : Fin 2048) : (val_main_v15 (F := Ideal) x0 x1 (ix2 r 0) : EReal) = ((spread (row a b r) : ℝ) : EReal) :=
  by
  rw [val_main_v15_apply (F := Ideal) x0 x1 (ix2 r 0)]
  exact (e_div (ref13 H r) (ref14 H r) (by norm_num))

theorem ref16 (H : Real5 x0 x1 x2 x3 x4 a b s p q) (r j : Fin 2048) : (val_main_v16 (F := Ideal) x0 x1 (ix2 r j) : EReal) = ((mid (row a b r) : ℝ) : EReal) :=
  by
  rw [val_main_v16_apply (F := Ideal) x0 x1 (ix2 r j), show idx_main_v16 (ix2 r j) = ix2 r 0 from ext2 rfl rfl]
  exact (ref6 H r)

theorem ref17 (H : Real5 x0 x1 x2 x3 x4 a b s p q) (r j : Fin 2048) : (val_main_v17 (F := Ideal) x0 x1 (ix2 r j) : EReal) = ((cen (row a b r) j : ℝ) : EReal) :=
  by
  rw [val_main_v17_apply (F := Ideal) x0 x1 (ix2 r j)]
  exact (e_sub (ref2 H r j) (ref16 H r j))

theorem ref18 (H : Real5 x0 x1 x2 x3 x4 a b s p q) (r : Fin 2048) : (val_main_v18 (F := Ideal)  (ix2 r 0) : EReal) = ((eps : ℝ) : EReal) :=
  by
  rw [val_main_v18_apply (F := Ideal)  (ix2 r 0)]
  exact eps_word

theorem ref19 (H : Real5 x0 x1 x2 x3 x4 a b s p q) (r : Fin 2048) : (val_main_v19 (F := Ideal) x0 x1 (ix2 r 0) : EReal) = ((spread (row a b r) + eps : ℝ) : EReal) :=
  by
  rw [val_main_v19_apply (F := Ideal) x0 x1 (ix2 r 0)]
  exact (e_add (ref15 H r) (ref18 H r))

theorem ref20 (H : Real5 x0 x1 x2 x3 x4 a b s p q) (r : Fin 2048) : (val_main_v20 (F := Ideal) x0 x1 (ix2 r 0) : EReal) = ((scale (row a b r) : ℝ) : EReal) :=
  by
  rw [val_main_v20_apply (F := Ideal) x0 x1 (ix2 r 0)]
  exact (e_rsqrt (ref19 H r) (under_pos _))

theorem ref21 (H : Real5 x0 x1 x2 x3 x4 a b s p q) (r : Fin 2048) : (val_main_v21 (F := Ideal) x0 x1 (ix2 r 0) : EReal) = (((scale (row a b r)) / (spread (row a b r) + eps) : ℝ) : EReal) :=
  by
  rw [val_main_v21_apply (F := Ideal) x0 x1 (ix2 r 0)]
  exact (e_div (ref20 H r) (ref19 H r) (under_pos _).ne')

theorem ref22 (H : Real5 x0 x1 x2 x3 x4 a b s p q) (r : Fin 2048) : (val_main_v22 (F := Ideal)  (ix2 r 0) : EReal) = ((-(1 / 2) : ℝ) : EReal) :=
  by
  rw [val_main_v22_apply (F := Ideal)  (ix2 r 0)]
  exact less_word

theorem ref23 (H : Real5 x0 x1 x2 x3 x4 a b s p q) (r : Fin 2048) : (val_main_v23 (F := Ideal) x0 x1 (ix2 r 0) : EReal) = (((-(1 / 2)) * ((scale (row a b r)) / (spread (row a b r) + eps)) : ℝ) : EReal) :=
  by
  rw [val_main_v23_apply (F := Ideal) x0 x1 (ix2 r 0)]
  exact (e_mul (ref22 H r) (ref21 H r))

theorem ref24 (H : Real5 x0 x1 x2 x3 x4 a b s p q) (r j : Fin 2048) : (val_main_v24 (F := Ideal) x0 x1 (ix2 r j) : EReal) = ((scale (row a b r) : ℝ) : EReal) :=
  by
  rw [val_main_v24_apply (F := Ideal) x0 x1 (ix2 r j), show idx_main_v24 (ix2 r j) = ix2 r 0 from ext2 rfl rfl]
  exact (ref20 H r)

theorem ref25 (H : Real5 x0 x1 x2 x3 x4 a b s p q) (r j : Fin 2048) : (val_main_v25 (F := Ideal) x0 x1 (ix2 r j) : EReal) = ((normed (row a b r) j : ℝ) : EReal) :=
  by
  rw [val_main_v25_apply (F := Ideal) x0 x1 (ix2 r j)]
  exact (e_mul (ref17 H r j) (ref24 H r j))

theorem ref26 (H : Real5 x0 x1 x2 x3 x4 a b s p q) (r : Fin 2048) : (val_main_v26 (F := Ideal) x2 (ix2 0 r) : EReal) = ((p r : ℝ) : EReal) :=
  by
  rw [val_main_v26_apply (F := Ideal) x2 (ix2 0 r), show idx_main_v26 (ix2 0 r) = ix1 r from ext1 rfl]
  exact (H.g r)

theorem ref27 (H : Real5 x0 x1 x2 x3 x4 a b s p q) (r j : Fin 2048) : (val_main_v27 (F := Ideal) x2 (ix2 r j) : EReal) = ((p j : ℝ) : EReal) :=
  by
  rw [val_main_v27_apply (F := Ideal) x2 (ix2 r j), show idx_main_v27 (ix2 r j) = ix2 0 j from ext2 rfl rfl]
  exact (ref26 H j)

theorem ref28 (H : Real5 x0 x1 x2 x3 x4 a b s p q) (r j : Fin 2048) : (val_main_v28 (F := Ideal) x0 x1 x2 (ix2 r j) : EReal) = (((normed (row a b r) j) * (p j) : ℝ) : EReal) :=
  by
  rw [val_main_v28_apply (F := Ideal) x0 x1 x2 (ix2 r j)]
  exact (e_mul (ref25 H r j) (ref27 H r j))

theorem ref29 (H : Real5 x0 x1 x2 x3 x4 a b s p q) (r : Fin 2048) : (val_main_v29 (F := Ideal) x3 (ix2 0 r) : EReal) = ((q r : ℝ) : EReal) :=
  by
  rw [val_main_v29_apply (F := Ideal) x3 (ix2 0 r), show idx_main_v29 (ix2 0 r) = ix1 r from ext1 rfl]
  exact (H.h r)

theorem ref30 (H : Real5 x0 x1 x2 x3 x4 a b s p q) (r j : Fin 2048) : (val_main_v30 (F := Ideal) x3 (ix2 r j) : EReal) = ((q j : ℝ) : EReal) :=
  by
  rw [val_main_v30_apply (F := Ideal) x3 (ix2 r j), show idx_main_v30 (ix2 r j) = ix2 0 j from ext2 rfl rfl]
  exact (ref29 H j)

theorem ref31 (H : Real5 x0 x1 x2 x3 x4 a b s p q) (r j : Fin 2048) : (val_main_v31 (F := Ideal) x0 x1 x2 x3 (ix2 r j) : EReal) = ((((normed (row a b r) j) * (p j)) + (q j) : ℝ) : EReal) :=
  by
  rw [val_main_v31_apply (F := Ideal) x0 x1 x2 x3 (ix2 r j)]
  exact (e_add (ref28 H r j) (ref30 H r j))

theorem ref32 (H : Real5 x0 x1 x2 x3 x4 a b s p q) (r j : Fin 2048) : (val_main_v32 (F := Ideal) x0 x1 x2 x3 x4 (ix2 r j) : EReal) = ((far a b s p q r j : ℝ) : EReal) :=
  by
  rw [val_main_v32_apply (F := Ideal) x0 x1 x2 x3 x4 (ix2 r j)]
  exact (e_sub (ref31 H r j) (H.t r j))

theorem ref33 (H : Real5 x0 x1 x2 x3 x4 a b s p q) (r j : Fin 2048) : (val_main_v33 (F := Ideal) x0 x1 x2 x3 x4 (ix2 r j) : EReal) = (((far a b s p q r j) * (far a b s p q r j) : ℝ) : EReal) :=
  by
  rw [val_main_v33_apply (F := Ideal) x0 x1 x2 x3 x4 (ix2 r j)]
  exact (e_mul (ref32 H r j) (ref32 H r j))

theorem ref34 (H : Real5 x0 x1 x2 x3 x4 a b s p q) (r j : Fin 2048) : (val_main_v34 (F := Ideal)  (ix2 r j) : EReal) = ((2 : ℝ) : EReal) :=
  by
  rw [val_main_v34_apply (F := Ideal)  (ix2 r j)]
  exact two_word

theorem ref35 (H : Real5 x0 x1 x2 x3 x4 a b s p q) (r j : Fin 2048) : (val_main_v35 (F := Ideal) x0 x1 x2 x3 x4 (ix2 r j) : EReal) = (((2) * (far a b s p q r j) : ℝ) : EReal) :=
  by
  rw [val_main_v35_apply (F := Ideal) x0 x1 x2 x3 x4 (ix2 r j)]
  exact (e_mul (ref34 H r j) (ref32 H r j))

theorem ref36 (H : Real5 x0 x1 x2 x3 x4 a b s p q) (r : Fin 2048) : (val_main_v36 (F := Ideal) x0 x1 x2 x3 x4 (ix1 r) : EReal) = ((∑ k, ((far a b s p q r k) * (far a b s p q r k)) : ℝ) : EReal) :=
  by
  rw [val_main_v36_apply x0 x1 x2 x3 x4 (ix1 r)]
  exact (host_sum (val_main_cst_8_apply (F := Ideal) _) _ _ fun k => by
    rw [show idx_main_v36 (ix1 r) k = ix2 r k from ext2 rfl rfl]
    exact ref33 H r k)

theorem ref37 (H : Real5 x0 x1 x2 x3 x4 a b s p q) (r : Fin 2048) : (val_main_v37 (F := Ideal)  (ix1 r) : EReal) = ((2048 : ℝ) : EReal) :=
  by
  rw [val_main_v37_apply (F := Ideal)  (ix1 r)]
  exact width_word

theorem ref38 (H : Real5 x0 x1 x2 x3 x4 a b s p q) (r : Fin 2048) : (val_main_v38 (F := Ideal) x0 x1 x2 x3 x4 (ix1 r) : EReal) = (((∑ k, ((far a b s p q r k) * (far a b s p q r k))) / (2048) : ℝ) : EReal) :=
  by
  rw [val_main_v38_apply (F := Ideal) x0 x1 x2 x3 x4 (ix1 r)]
  exact (e_div (ref36 H r) (ref37 H r) (by norm_num))

theorem ref39 (H : Real5 x0 x1 x2 x3 x4 a b s p q) (i : S_.Idx) : (val_main_v39 (F := Ideal) x0 x1 x2 x3 x4 i : EReal) = ((∑ r, ((∑ k, ((far a b s p q r k) * (far a b s p q r k))) / (2048)) : ℝ) : EReal) :=
  by
  rw [val_main_v39_apply x0 x1 x2 x3 x4 i]
  exact (host_all (val_main_cst_10_apply (F := Ideal) _) _ _ fun r => ref38 H r)

theorem ref40 (H : Real5 x0 x1 x2 x3 x4 a b s p q) (i : S_.Idx) : (val_main_v40 (F := Ideal) x0 x1 x2 x3 x4 i : EReal) = (((1 / 2) * (∑ r, ((∑ k, ((far a b s p q r k) * (far a b s p q r k))) / (2048))) : ℝ) : EReal) :=
  by
  rw [val_main_v40_apply (F := Ideal) x0 x1 x2 x3 x4 i]
  exact (e_mul half_word (ref39 H i))

theorem ref41 (H : Real5 x0 x1 x2 x3 x4 a b s p q) (i : S_.Idx) : (val_main_v41 (F := Ideal)  i : EReal) = (((1 / 2) * (1) : ℝ) : EReal) :=
  by
  rw [val_main_v41_apply (F := Ideal)  i]
  exact (e_mul half_word unit_word)

theorem ref42 (H : Real5 x0 x1 x2 x3 x4 a b s p q) (r : Fin 2048) : (val_main_v42 (F := Ideal)  (ix1 r) : EReal) = (((1 / 2) * (1) : ℝ) : EReal) :=
  by
  rw [val_main_v42_apply (F := Ideal)  (ix1 r), show idx_main_v42 (ix1 r) = (fun a => a.elim0) from funext fun a => a.elim0]
  exact (ref41 H (fun a => a.elim0))

theorem ref43 (H : Real5 x0 x1 x2 x3 x4 a b s p q) (r : Fin 2048) : (val_main_v43 (F := Ideal)  (ix1 r) : EReal) = ((2048 : ℝ) : EReal) :=
  by
  rw [val_main_v43_apply (F := Ideal)  (ix1 r)]
  exact width_word

theorem ref44 (H : Real5 x0 x1 x2 x3 x4 a b s p q) (r : Fin 2048) : (val_main_v44 (F := Ideal)  (ix1 r) : EReal) = ((((1 / 2) * (1)) / (2048) : ℝ) : EReal) :=
  by
  rw [val_main_v44_apply (F := Ideal)  (ix1 r)]
  exact (e_div (ref42 H r) (ref43 H r) (by norm_num))

theorem ref45 (H : Real5 x0 x1 x2 x3 x4 a b s p q) (r j : Fin 2048) : (val_main_v45 (F := Ideal)  (ix2 r j) : EReal) = ((((1 / 2) * (1)) / (2048) : ℝ) : EReal) :=
  by
  rw [val_main_v45_apply (F := Ideal)  (ix2 r j), show idx_main_v45 (ix2 r j) = ix1 r from ext1 rfl]
  exact (ref44 H r)

theorem ref46 (H : Real5 x0 x1 x2 x3 x4 a b s p q) (r j : Fin 2048) : (val_main_v46 (F := Ideal) x0 x1 x2 x3 x4 (ix2 r j) : EReal) = ((pull a b s p q r j : ℝ) : EReal) :=
  by
  rw [val_main_v46_apply (F := Ideal) x0 x1 x2 x3 x4 (ix2 r j)]
  exact Eq.trans (e_mul (ref45 H r j) (ref35 H r j)) (congrArg _ (by ring))

theorem ref47 (H : Real5 x0 x1 x2 x3 x4 a b s p q) (r : Fin 2048) : (val_main_v47 (F := Ideal) x0 x1 x2 x3 x4 (ix1 r) : EReal) = ((∑ k, (pull a b s p q k r) : ℝ) : EReal) :=
  by
  rw [val_main_v47_apply x0 x1 x2 x3 x4 (ix1 r)]
  exact (host_sum (val_main_cst_15_apply (F := Ideal) _) _ _ fun k => by
    rw [show idx_main_v47 (ix1 r) k = ix2 k r from ext2 rfl rfl]
    exact ref46 H k r)

theorem ref48 (H : Real5 x0 x1 x2 x3 x4 a b s p q) (r : Fin 2048) : (val_main_v48 (F := Ideal) x0 x1 x2 x3 x4 (ix2 0 r) : EReal) = ((∑ k, (pull a b s p q k r) : ℝ) : EReal) :=
  by
  rw [val_main_v48_apply (F := Ideal) x0 x1 x2 x3 x4 (ix2 0 r), show idx_main_v48 (ix2 0 r) = ix1 r from ext1 (Fin.ext (by show 0 * 2048 + r.val = r.val; omega))]
  exact (ref47 H r)

theorem ref49 (H : Real5 x0 x1 x2 x3 x4 a b s p q) (r : Fin 2048) : (val_main_v49 (F := Ideal) x0 x1 x2 x3 x4 (ix1 r) : EReal) = ((∑ k, (pull a b s p q k r) : ℝ) : EReal) :=
  by
  rw [val_main_v49_apply x0 x1 x2 x3 x4 (ix1 r)]
  exact (host_one (val_main_cst_16_apply (F := Ideal) _) _ _ fun k => by
    rw [show idx_main_v49 (ix1 r) k = ix2 0 r from ext2 (Subsingleton.elim (α := Fin 1) _ _) rfl]
    exact ref48 H r)

theorem ref50 (H : Real5 x0 x1 x2 x3 x4 a b s p q) (r j : Fin 2048) : (val_main_v50 (F := Ideal) x0 x1 x2 x3 x4 (ix2 r j) : EReal) = ((pull a b s p q r j * normed (row a b r) j : ℝ) : EReal) :=
  by
  rw [val_main_v50_apply (F := Ideal) x0 x1 x2 x3 x4 (ix2 r j)]
  exact Eq.trans (e_mul (ref25 H r j) (ref46 H r j)) (congrArg _ (mul_comm _ _))

theorem ref51 (H : Real5 x0 x1 x2 x3 x4 a b s p q) (r : Fin 2048) : (val_main_v51 (F := Ideal) x0 x1 x2 x3 x4 (ix1 r) : EReal) = ((∑ k, (pull a b s p q k r * normed (row a b k) r) : ℝ) : EReal) :=
  by
  rw [val_main_v51_apply x0 x1 x2 x3 x4 (ix1 r)]
  exact (host_sum (val_main_cst_17_apply (F := Ideal) _) _ _ fun k => by
    rw [show idx_main_v51 (ix1 r) k = ix2 k r from ext2 rfl rfl]
    exact ref50 H k r)

theorem ref52 (H : Real5 x0 x1 x2 x3 x4 a b s p q) (r : Fin 2048) : (val_main_v52 (F := Ideal) x0 x1 x2 x3 x4 (ix2 0 r) : EReal) = ((∑ k, (pull a b s p q k r * normed (row a b k) r) : ℝ) : EReal) :=
  by
  rw [val_main_v52_apply (F := Ideal) x0 x1 x2 x3 x4 (ix2 0 r), show idx_main_v52 (ix2 0 r) = ix1 r from ext1 (Fin.ext (by show 0 * 2048 + r.val = r.val; omega))]
  exact (ref51 H r)

theorem ref53 (H : Real5 x0 x1 x2 x3 x4 a b s p q) (r j : Fin 2048) : (val_main_v53 (F := Ideal) x2 (ix2 r j) : EReal) = ((p j : ℝ) : EReal) :=
  by
  rw [val_main_v53_apply (F := Ideal) x2 (ix2 r j), show idx_main_v53 (ix2 r j) = ix2 0 j from ext2 rfl rfl]
  exact (ref26 H j)

theorem ref54 (H : Real5 x0 x1 x2 x3 x4 a b s p q) (r j : Fin 2048) : (val_main_v54 (F := Ideal) x0 x1 x2 x3 x4 (ix2 r j) : EReal) = (((pull a b s p q r j) * (p j) : ℝ) : EReal) :=
  by
  rw [val_main_v54_apply (F := Ideal) x0 x1 x2 x3 x4 (ix2 r j)]
  exact (e_mul (ref46 H r j) (ref53 H r j))

theorem ref55 (H : Real5 x0 x1 x2 x3 x4 a b s p q) (r : Fin 2048) : (val_main_v55 (F := Ideal) x0 x1 x2 x3 x4 (ix1 r) : EReal) = ((∑ k, (pull a b s p q k r * normed (row a b k) r) : ℝ) : EReal) :=
  by
  rw [val_main_v55_apply x0 x1 x2 x3 x4 (ix1 r)]
  exact (host_one (val_main_cst_18_apply (F := Ideal) _) _ _ fun k => by
    rw [show idx_main_v55 (ix1 r) k = ix2 0 r from ext2 (Subsingleton.elim (α := Fin 1) _ _) rfl]
    exact ref52 H r)

theorem ref56 (H : Real5 x0 x1 x2 x3 x4 a b s p q) (r j : Fin 2048) : (val_main_v56 (F := Ideal) x0 x1 x2 x3 x4 (ix2 r j) : EReal) = (((cen (row a b r) j) * ((pull a b s p q r j) * (p j)) : ℝ) : EReal) :=
  by
  rw [val_main_v56_apply (F := Ideal) x0 x1 x2 x3 x4 (ix2 r j)]
  exact (e_mul (ref17 H r j) (ref54 H r j))

theorem ref57 (H : Real5 x0 x1 x2 x3 x4 a b s p q) (r : Fin 2048) : (val_main_v57 (F := Ideal) x0 x1 x2 x3 x4 (ix1 r) : EReal) = ((∑ k, ((cen (row a b r) k) * ((pull a b s p q r k) * (p k))) : ℝ) : EReal) :=
  by
  rw [val_main_v57_apply x0 x1 x2 x3 x4 (ix1 r)]
  exact (host_sum (val_main_cst_19_apply (F := Ideal) _) _ _ fun k => by
    rw [show idx_main_v57 (ix1 r) k = ix2 r k from ext2 rfl rfl]
    exact ref56 H r k)

theorem ref58 (H : Real5 x0 x1 x2 x3 x4 a b s p q) (r : Fin 2048) : (val_main_v58 (F := Ideal) x0 x1 x2 x3 x4 (ix2 r 0) : EReal) = ((∑ k, ((cen (row a b r) k) * ((pull a b s p q r k) * (p k))) : ℝ) : EReal) :=
  by
  rw [val_main_v58_apply (F := Ideal) x0 x1 x2 x3 x4 (ix2 r 0), show idx_main_v58 (ix2 r 0) = ix1 r from ext1 (Fin.ext (by show r.val * 1 + 0 = r.val; omega))]
  exact (ref57 H r)

theorem ref59 (H : Real5 x0 x1 x2 x3 x4 a b s p q) (r j : Fin 2048) : (val_main_v59 (F := Ideal) x0 x1 (ix2 r j) : EReal) = ((scale (row a b r) : ℝ) : EReal) :=
  by
  rw [val_main_v59_apply (F := Ideal) x0 x1 (ix2 r j), show idx_main_v59 (ix2 r j) = ix2 r 0 from ext2 rfl rfl]
  exact (ref20 H r)

theorem ref60 (H : Real5 x0 x1 x2 x3 x4 a b s p q) (r j : Fin 2048) : (val_main_v60 (F := Ideal) x0 x1 x2 x3 x4 (ix2 r j) : EReal) = ((((pull a b s p q r j) * (p j)) * (scale (row a b r)) : ℝ) : EReal) :=
  by
  rw [val_main_v60_apply (F := Ideal) x0 x1 x2 x3 x4 (ix2 r j)]
  exact (e_mul (ref54 H r j) (ref59 H r j))

theorem ref61 (H : Real5 x0 x1 x2 x3 x4 a b s p q) (r : Fin 2048) : (val_main_v61 (F := Ideal) x0 x1 x2 x3 x4 (ix2 r 0) : EReal) = (((∑ k, ((cen (row a b r) k) * ((pull a b s p q r k) * (p k)))) * ((-(1 / 2)) * ((scale (row a b r)) / (spread (row a b r) + eps))) : ℝ) : EReal) :=
  by
  rw [val_main_v61_apply (F := Ideal) x0 x1 x2 x3 x4 (ix2 r 0)]
  exact (e_mul (ref58 H r) (ref23 H r))

theorem ref62 (H : Real5 x0 x1 x2 x3 x4 a b s p q) (r j : Fin 2048) : (val_main_v62 (F := Ideal) x0 x1 x2 x3 x4 (ix2 r j) : EReal) = ((-(((pull a b s p q r j) * (p j)) * (scale (row a b r))) : ℝ) : EReal) :=
  by
  rw [val_main_v62_apply (F := Ideal) x0 x1 x2 x3 x4 (ix2 r j)]
  exact (e_neg (ref60 H r j))

theorem ref63 (H : Real5 x0 x1 x2 x3 x4 a b s p q) (r : Fin 2048) : (val_main_v63 (F := Ideal) x0 x1 x2 x3 x4 (ix1 r) : EReal) = ((∑ k, (-(((pull a b s p q r k) * (p k)) * (scale (row a b r)))) : ℝ) : EReal) :=
  by
  rw [val_main_v63_apply x0 x1 x2 x3 x4 (ix1 r)]
  exact (host_sum (val_main_cst_20_apply (F := Ideal) _) _ _ fun k => by
    rw [show idx_main_v63 (ix1 r) k = ix2 r k from ext2 rfl rfl]
    exact ref62 H r k)

theorem ref64 (H : Real5 x0 x1 x2 x3 x4 a b s p q) (r : Fin 2048) : (val_main_v64 (F := Ideal) x0 x1 x2 x3 x4 (ix2 r 0) : EReal) = ((∑ k, (-(((pull a b s p q r k) * (p k)) * (scale (row a b r)))) : ℝ) : EReal) :=
  by
  rw [val_main_v64_apply (F := Ideal) x0 x1 x2 x3 x4 (ix2 r 0), show idx_main_v64 (ix2 r 0) = ix1 r from ext1 (Fin.ext (by show r.val * 1 + 0 = r.val; omega))]
  exact (ref63 H r)

theorem ref65 (H : Real5 x0 x1 x2 x3 x4 a b s p q) (r : Fin 2048) : (val_main_v65 (F := Ideal)  (ix2 r 0) : EReal) = ((2048 : ℝ) : EReal) :=
  by
  rw [val_main_v65_apply (F := Ideal)  (ix2 r 0)]
  exact width_word

theorem ref66 (H : Real5 x0 x1 x2 x3 x4 a b s p q) (r : Fin 2048) : (val_main_v66 (F := Ideal) x0 x1 x2 x3 x4 (ix2 r 0) : EReal) = ((slope (row a b r) (fun k => pull a b s p q r k * p k) : ℝ) : EReal) :=
  by
  rw [val_main_v66_apply (F := Ideal) x0 x1 x2 x3 x4 (ix2 r 0)]
  exact (e_div (ref61 H r) (ref65 H r) (by norm_num))

theorem ref67 (H : Real5 x0 x1 x2 x3 x4 a b s p q) (r : Fin 2048) : (val_main_v67 (F := Ideal) x0 x1 x2 x3 x4 (ix1 r) : EReal) = ((slope (row a b r) (fun k => pull a b s p q r k * p k) : ℝ) : EReal) :=
  by
  rw [val_main_v67_apply x0 x1 x2 x3 x4 (ix1 r)]
  exact (host_one (val_main_cst_22_apply (F := Ideal) _) _ _ fun k => by
    rw [show idx_main_v67 (ix1 r) k = ix2 r 0 from ext2 rfl (Subsingleton.elim (α := Fin 1) _ _)]
    exact ref66 H r)

theorem ref68 (H : Real5 x0 x1 x2 x3 x4 a b s p q) (r j : Fin 2048) : (val_main_v68 (F := Ideal) x0 x1 x2 x3 x4 (ix2 r j) : EReal) = ((slope (row a b r) (fun k => pull a b s p q r k * p k) : ℝ) : EReal) :=
  by
  rw [val_main_v68_apply (F := Ideal) x0 x1 x2 x3 x4 (ix2 r j), show idx_main_v68 (ix2 r j) = ix1 r from ext1 rfl]
  exact (ref67 H r)

theorem ref69 (H : Real5 x0 x1 x2 x3 x4 a b s p q) (r j : Fin 2048) : (val_main_v69 (F := Ideal) x0 x1 x2 x3 x4 (ix2 r j) : EReal) = (((slope (row a b r) (fun k => pull a b s p q r k * p k)) * ((2) * (cen (row a b r) j)) : ℝ) : EReal) :=
  by
  rw [val_main_v69_apply (F := Ideal) x0 x1 x2 x3 x4 (ix2 r j)]
  exact (e_mul (ref68 H r j) (ref11 H r j))

theorem ref70 (H : Real5 x0 x1 x2 x3 x4 a b s p q) (r j : Fin 2048) : (val_main_v70 (F := Ideal) x0 x1 x2 x3 x4 (ix2 r j) : EReal) = ((-((slope (row a b r) (fun k => pull a b s p q r k * p k)) * ((2) * (cen (row a b r) j))) : ℝ) : EReal) :=
  by
  rw [val_main_v70_apply (F := Ideal) x0 x1 x2 x3 x4 (ix2 r j)]
  exact (e_neg (ref69 H r j))

theorem ref71 (H : Real5 x0 x1 x2 x3 x4 a b s p q) (r : Fin 2048) : (val_main_v71 (F := Ideal) x0 x1 x2 x3 x4 (ix1 r) : EReal) = ((∑ k, (-((slope (row a b r) (fun k => pull a b s p q r k * p k)) * ((2) * (cen (row a b r) k)))) : ℝ) : EReal) :=
  by
  rw [val_main_v71_apply x0 x1 x2 x3 x4 (ix1 r)]
  exact (host_sum (val_main_cst_23_apply (F := Ideal) _) _ _ fun k => by
    rw [show idx_main_v71 (ix1 r) k = ix2 r k from ext2 rfl rfl]
    exact ref70 H r k)

theorem ref72 (H : Real5 x0 x1 x2 x3 x4 a b s p q) (r : Fin 2048) : (val_main_v72 (F := Ideal) x0 x1 x2 x3 x4 (ix2 r 0) : EReal) = ((∑ k, (-((slope (row a b r) (fun k => pull a b s p q r k * p k)) * ((2) * (cen (row a b r) k)))) : ℝ) : EReal) :=
  by
  rw [val_main_v72_apply (F := Ideal) x0 x1 x2 x3 x4 (ix2 r 0), show idx_main_v72 (ix2 r 0) = ix1 r from ext1 (Fin.ext (by show r.val * 1 + 0 = r.val; omega))]
  exact (ref71 H r)

theorem ref73 (H : Real5 x0 x1 x2 x3 x4 a b s p q) (r j : Fin 2048) : (val_main_v73 (F := Ideal) x0 x1 x2 x3 x4 (ix2 r j) : EReal) = (((((pull a b s p q r j) * (p j)) * (scale (row a b r))) + ((slope (row a b r) (fun k => pull a b s p q r k * p k)) * ((2) * (cen (row a b r) j))) : ℝ) : EReal) :=
  by
  rw [val_main_v73_apply (F := Ideal) x0 x1 x2 x3 x4 (ix2 r j)]
  exact (e_add (ref60 H r j) (ref69 H r j))

theorem ref74 (H : Real5 x0 x1 x2 x3 x4 a b s p q) (r : Fin 2048) : (val_main_v74 (F := Ideal) x0 x1 x2 x3 x4 (ix2 r 0) : EReal) = (((∑ k, (-(((pull a b s p q r k) * (p k)) * (scale (row a b r))))) + (∑ k, (-((slope (row a b r) (fun k => pull a b s p q r k * p k)) * ((2) * (cen (row a b r) k))))) : ℝ) : EReal) :=
  by
  rw [val_main_v74_apply (F := Ideal) x0 x1 x2 x3 x4 (ix2 r 0)]
  exact (e_add (ref64 H r) (ref72 H r))

theorem ref75 (H : Real5 x0 x1 x2 x3 x4 a b s p q) (r : Fin 2048) : (val_main_v75 (F := Ideal)  (ix2 r 0) : EReal) = ((2048 : ℝ) : EReal) :=
  by
  rw [val_main_v75_apply (F := Ideal)  (ix2 r 0)]
  exact width_word

theorem ref76 (H : Real5 x0 x1 x2 x3 x4 a b s p q) (r : Fin 2048) : (val_main_v76 (F := Ideal) x0 x1 x2 x3 x4 (ix2 r 0) : EReal) = ((((∑ k, (-(((pull a b s p q r k) * (p k)) * (scale (row a b r))))) + (∑ k, (-((slope (row a b r) (fun k => pull a b s p q r k * p k)) * ((2) * (cen (row a b r) k)))))) / (2048) : ℝ) : EReal) :=
  by
  rw [val_main_v76_apply (F := Ideal) x0 x1 x2 x3 x4 (ix2 r 0)]
  exact (e_div (ref74 H r) (ref75 H r) (by norm_num))

theorem ref77 (H : Real5 x0 x1 x2 x3 x4 a b s p q) (r : Fin 2048) : (val_main_v77 (F := Ideal) x0 x1 x2 x3 x4 (ix1 r) : EReal) = ((((∑ k, (-(((pull a b s p q r k) * (p k)) * (scale (row a b r))))) + (∑ k, (-((slope (row a b r) (fun k => pull a b s p q r k * p k)) * ((2) * (cen (row a b r) k)))))) / (2048) : ℝ) : EReal) :=
  by
  rw [val_main_v77_apply x0 x1 x2 x3 x4 (ix1 r)]
  exact (host_one (val_main_cst_25_apply (F := Ideal) _) _ _ fun k => by
    rw [show idx_main_v77 (ix1 r) k = ix2 r 0 from ext2 rfl (Subsingleton.elim (α := Fin 1) _ _)]
    exact ref76 H r)

theorem ref78 (H : Real5 x0 x1 x2 x3 x4 a b s p q) (r j : Fin 2048) : (val_main_v78 (F := Ideal) x0 x1 x2 x3 x4 (ix2 r j) : EReal) = ((((∑ k, (-(((pull a b s p q r k) * (p k)) * (scale (row a b r))))) + (∑ k, (-((slope (row a b r) (fun k => pull a b s p q r k * p k)) * ((2) * (cen (row a b r) k)))))) / (2048) : ℝ) : EReal) :=
  by
  rw [val_main_v78_apply (F := Ideal) x0 x1 x2 x3 x4 (ix2 r j), show idx_main_v78 (ix2 r j) = ix1 r from ext1 rfl]
  exact (ref77 H r)

theorem ref79 (H : Real5 x0 x1 x2 x3 x4 a b s p q) (r j : Fin 2048) : (val_main_v79 (F := Ideal) x0 x1 x2 x3 x4 (ix2 r j) : EReal) = ((whole (row a b r) (fun k => pull a b s p q r k * p k) j : ℝ) : EReal) :=
  by
  rw [val_main_v79_apply (F := Ideal) x0 x1 x2 x3 x4 (ix2 r j)]
  exact (e_add (ref73 H r j) (ref78 H r j))

theorem loss_eq (H : Real5 x0 x1 x2 x3 x4 a b s p q) (i : S_.Idx) : (val_main_v40 (F := Ideal) x0 x1 x2 x3 x4 i : EReal)
    = ((1 / 4096 * ∑ r, ∑ j, far a b s p q r j * far a b s p q r j : ℝ) : EReal) :=
  (ref40 H i).trans (congrArg _ (by rw [← Finset.sum_div]; ring))

theorem turn_eq (H : Real5 x0 x1 x2 x3 x4 a b s p q) (r j : Fin 2048) : (val_main_v79 (F := Ideal) x0 x1 x2 x3 x4 (ix2 r j) : EReal) = ((turn a b s p q r j : ℝ) : EReal) :=
  (ref79 H r j).trans (congrArg _ (whole_eq _ _ _))

end reference

section precondition

open Cert.Pre_finite_head

instance : Subsingleton S_.Idx := ⟨fun i j => funext fun a => a.elim0⟩

theorem real_of_pre [Cert.Pre_finite_head.Facts] (x0 x1 : FVec Ideal S2048x2048 .f32) (x2 x3 : FVec Ideal S2048 .f32) (x4 : FVec Ideal S2048x2048 .f32) (h : fn (F := Ideal) x0 x1 x2 x3 x4 = fun _ => 1#1) :
    Real5 x0 x1 x2 x3 x4 (fun r j => (x0 (ix2 r j) : EReal).toReal) (fun r j => (x1 (ix2 r j) : EReal).toReal) (fun r j => (x4 (ix2 r j) : EReal).toReal)
      (fun j => (x2 (ix1 j) : EReal).toReal) (fun j => (x3 (ix1 j) : EReal).toReal) := by
  have one (a b : BitVec 1) : IntOp.andi a b = 1#1 ↔ a = 1#1 ∧ b = 1#1 := by revert a b; decide
  have e := congrFun h (fun a => a.elim0)
  simp only [fn, fn_part1, andi, one] at e
  obtain ⟨⟨⟨⟨e0, e1⟩, e2⟩, e3⟩, e4⟩ := e
  exact ⟨fun r j => finite_of_all _ _ (fun _ => high_word) _ _ _ _ e0 (ix2 r j), fun r j => finite_of_all _ _ (fun _ => high_word) _ _ _ _ e1 (ix2 r j),
    fun j => finite_of_all _ _ (fun _ => high_word) _ _ _ _ e2 (ix1 j), fun j => finite_of_all _ _ (fun _ => high_word) _ _ _ _ e3 (ix1 j),
    fun r j => finite_of_all _ _ (fun _ => high_word) _ _ _ _ e4 (ix2 r j)⟩

end precondition

theorem reference_frame : Cert.quiescent_RefLnLossIdeal := fun m ρ _ =>
  (θ_run Cert.RefLnLossIdeal.defs _ _).mono
    (fun r h => ⟨fun c => (h c).2.2.2.2.2, Idealize.ShloMosaic.sem_eq_zero_of_no_sems (by decide) r.2⟩)
    (Cert.RefLnLossIdeal.Value.run (F := Ideal) m ρ)

theorem algebraic [Cert.Pre_finite_head.Facts] : Cert.algebraic_LnLossIdeal_RefLnLossIdeal_pre_finite_head := by
  intro m ρ m' ρ' hpre hagree
  have H := fun c => real_of_pre _ _ _ _ _ (hpre c)
  refine ⟨_, _, _, _, _, run ρ _ _ _ _ _ fun c => ⟨(H c).x, (H c).y, (H c).g, (H c).h, (H c).t⟩, ?_⟩
  refine (θ_run (Cert.RefLnLossIdeal.defs (F := Ideal)) _ _).mono (fun _ h c => ?_) (Cert.RefLnLossIdeal.Value.run (F := Ideal) m' ρ')
  obtain ⟨e0, e1, e2, e3, e4⟩ := hagree c
  obtain ⟨h0, h1, h2, h3, h4, hrest⟩ := h c
  refine ⟨h0.trans ?_, h1.trans ?_, h2.trans ?_, h3.trans ?_, h4.trans ?_, hrest⟩
  · refine (Cert.RefLnLossIdeal.Read.val_main_v40_eq _ _).trans ?_
    rw [e0, e1, e2, e3, e4]
    exact funext fun i => loss_eq (H c) i
  · refine (Cert.RefLnLossIdeal.Read.val_main_v79_eq _ _).trans ?_
    rw [e0, e1, e2, e3, e4]
    funext y
    obtain ⟨r, j, rfl⟩ : ∃ (r j : Fin 2048), y = ix2 r j := ⟨_, _, eq_ix2 y⟩
    exact turn_eq (H c) r j
  · refine (Cert.RefLnLossIdeal.Read.val_main_v80_eq _ _).trans ?_
    rw [e0, e1, e2, e3, e4]
    funext y
    obtain ⟨r, j, rfl⟩ : ∃ (r j : Fin 2048), y = ix2 r j := ⟨_, _, eq_ix2 y⟩
    exact turn_eq (H c) r j
  · refine (Cert.RefLnLossIdeal.Read.val_main_v55_eq _ _).trans ?_
    rw [e0, e1, e2, e3, e4]
    funext y
    obtain ⟨j, rfl⟩ : ∃ (j : Fin 2048), y = ix1 j := ⟨_, ValueIdx.eq_ix1 y⟩
    exact ref55 (H c) j
  · refine (Cert.RefLnLossIdeal.Read.val_main_v49_eq _ _ _ _ _).trans ?_
    rw [e0, e1, e2, e3, e4]
    funext y
    obtain ⟨j, rfl⟩ : ∃ (j : Fin 2048), y = ix1 j := ⟨_, ValueIdx.eq_ix1 y⟩
    exact ref49 (H c) j

end Cert.Proof.LnLoss

end
-- ==== Proof.LnBwd.lean ====
/- The backward pass of a layer norm whose result a sublayer and the next residual take on one device. The kernel's results and the
   reference's are the same where the arguments are finite. -/
module

public import proofs.«01_k».proof.Defs
public import proofs.«01_k».proof.Proof.Norm
public import proofs.«01_k».proof.Proof.Gen.LnBwdIdeal.Frame
public import proofs.«01_k».proof.Proof.Gen.RefLnBwdIdeal.Run
public import proofs.«01_k».proof.Proof.Gen.RefLnBwdIdeal.Read
public import proofs.«01_k».proof.Proof.Gen.Pre_finite_norm
public import Idealize.ShloMosaic.Lib.Pipeline.ValueKit
public import Idealize.ShloMosaic.Lib.ValueIdx
public import Idealize.ShloMosaic.Lib.KernelVsHost
public import Idealize.ShloMosaic.Lib.ReduceAll
public import Idealize.ShloMosaic.Lib.WritesUnit
public import Idealize.ShloMosaic.PureOps.Ideal.Laws
public import Idealize.ShloMosaic.Adequacy
public import Idealize.ShloMosaic.Init

@[expose] public section

noncomputable section

namespace Cert.Proof.LnBwd

open Idealize.ShloMosaic hiding ix0 ix1 ix2 ix3 eq_ix2 eq_ix3
open Idealize.ShloMosaic.TcCoe Idealize.ShloMosaic.ValueIdx Idealize.SL.Sem Cert.Proof.Norm

section payloads

open Cert.LnBwdIdeal Cert.LnBwdIdeal.Gen

variable {x y t : FVec Ideal S256x2048 .f32} {g : FVec Ideal S1x2048 .f32} {a b s : Fin 256 → Fin 2048 → ℝ} {p : Fin 2048 → ℝ}

/-- The gradient of the norm's result, and that of what the norm takes. -/
abbrev pull {ι : Type} (b s : ι → Fin 2048 → ℝ) (r : ι) (j : Fin 2048) : ℝ := b r j + alpha * s r j
abbrev turn {ι : Type} (a b s : ι → Fin 2048 → ℝ) (p : Fin 2048 → ℝ) (r : ι) (j : Fin 2048) : ℝ := back (a r) (fun k => pull b s r k * p k) j

theorem pay7_apply (r : Fin 256) (j : Fin 2048) : (k0_pay7 (F := Ideal) y t (ix2 r j) : EReal) = (y (ix2 r j) : EReal) + Ideal.ofBits .f32 0x3FB504F3#32 * (t (ix2 r j) : EReal) := rfl
theorem pay9_eq : k0_pay9 x = scaleCol x := rfl
theorem pay10_eq : k0_pay10 x = unitArr x := rfl
theorem pay1_eq : k0_pay1 (k0_pay9 x) (k0_pay10 x) (k0_pay11 y t g) (k0_pay12 y t g) (k0_pay13 y t x g)
    = backArr (scaleCol x) (unitArr x) (mulf (k0_pay7 y t) (tall g)) := rfl
theorem gain_step (d : FVec Ideal S256x2048 .f32) (u : FVec Ideal S1x2048 .f32) : k0_pay3 d (k0_pay10 x) u = addRows u (mulf d (k0_pay10 x)) := rfl
theorem shift_step (d : FVec Ideal S256x2048 .f32) (u : FVec Ideal S1x2048 .f32) : k0_pay4 d u = addRows u d := rfl

theorem pull_is (hy : Is y b) (ht : Is t s) : Is (k0_pay7 y t) (pull b s) := fun r j => by
  rw [pay7_apply, hy, ht, alpha_word, ← EReal.coe_mul, ← EReal.coe_add]

theorem grad_is (hx : Is x a) (hy : Is y b) (ht : Is t s) (hg : IsLine g p) : Is (k0_pay1 (k0_pay9 x) (k0_pay10 x) (k0_pay11 y t g) (k0_pay12 y t g) (k0_pay13 y t x g)) (turn a b s p) := by
  rw [pay1_eq]
  exact backArr_is hx (mul_is (pull_is hy ht) (tall_is hg))

theorem half_is (hx : Is x a) (hy : Is y b) (ht : Is t s) (hg : IsLine g p) (r : Fin 256) (j : Fin 2048) :
    (k0_pay2 (F := Ideal) (k0_pay9 x) (k0_pay10 x) (k0_pay11 y t g) (k0_pay12 y t g) (k0_pay13 y t x g) (ix2 r j) : EReal) = ((turn a b s p r j : ℝ) : EReal) := grad_is hx hy ht hg r j

theorem gain_is (hx : Is x a) (hy : Is y b) (ht : Is t s) {u : FVec Ideal S1x2048 .f32} {f : Fin 2048 → ℝ} (hu : IsLine u f) :
    IsLine (k0_pay3 (k0_pay7 y t) (k0_pay10 x) u) fun j => f j + ∑ r, pull b s r j * normed (a r) j := by
  rw [gain_step, pay10_eq]
  exact addRows_is hu (mul_is (pull_is hy ht) (unitArr_is hx))

theorem shift_is (hy : Is y b) (ht : Is t s) {u : FVec Ideal S1x2048 .f32} {f : Fin 2048 → ℝ} (hu : IsLine u f) :
    IsLine (k0_pay4 (k0_pay7 y t) u) fun j => f j + ∑ r, pull b s r j := by
  rw [shift_step]
  exact addRows_is hu (pull_is hy ht)

end payloads

section kernel

open Cert.LnBwdIdeal Cert.LnBwdIdeal.Gen

variable (m : (ℓ : Loc nD τ sig) → Buf (Elt Ideal) ℓ)

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)

theorem steps (t : Fin cfg0.N) : t.val < 8 := t.isLt
/-- The row of the whole array in a step's block. -/
abbrev place (t : Fin cfg0.N) (r : Fin 256) : Fin 2048 := ⟨t.val * 256 + r.val, by have := steps t; omega⟩
/-- A step's rows. -/
abbrev cut (a : Fin 2048 → Fin 2048 → ℝ) (t : Fin cfg0.N) (r : Fin 256) : Fin 2048 → ℝ := a (place t r)

theorem gain_eq (c : Dev nD) : V m c main_v0 = shapeCast S1x2048 (m ((c : Thread nD τ).loc main_arg3) : FVec Ideal S2048 .f32) shapeCasts_S2048_S1x2048 := by
  show StableHlo.after hostOps0 (fun b => m (c, b)) (Proc.devRef .tc main_v0) = _
  simp only [hostOps0]
  after_results_simp <;> rfl

theorem line_apply (x : FVec Ideal S2048 .f32) (j : Fin 2048) : shapeCast S1x2048 x shapeCasts_S2048_S1x2048 (ix2 (0 : Fin 1) j) = x (ix1 j) :=
  shapeCast_apply _ _ _ _ (by rw [Shape.rowMajor_val_one, Shape.rowMajor_val_two]; show j.val = 0 * 2048 + j.val; omega)

theorem iblk0_apply (c : Dev nD) (t : Fin cfg0.N) (r : Fin 256) (j : Fin 2048) : iblk m c 0 t (ix2 r j) = m ((c : Thread nD τ).loc main_arg0) (ix2 (place t r) j) := by
  rw [← V_main_arg0 m c]; blk_simp [iblk]; congr 1; blk_ext [at0 t]
theorem iblk1_apply (c : Dev nD) (t : Fin cfg0.N) (r : Fin 256) (j : Fin 2048) : iblk m c 1 t (ix2 r j) = m ((c : Thread nD τ).loc main_arg1) (ix2 (place t r) j) := by
  rw [← V_main_arg1 m c]; blk_simp [iblk]; congr 1; blk_ext [at1 t]
theorem iblk2_apply (c : Dev nD) (t : Fin cfg0.N) (r : Fin 256) (j : Fin 2048) : iblk m c 2 t (ix2 r j) = m ((c : Thread nD τ).loc main_arg2) (ix2 (place t r) j) := by
  rw [← V_main_arg2 m c]; blk_simp [iblk]; congr 1; blk_ext [at2 t]
theorem iblk3_apply (c : Dev nD) (t : Fin cfg0.N) (j : Fin 2048) : iblk m c 3 t (ix2 (0 : Fin 1) j) = m ((c : Thread nD τ).loc main_arg3) (ix1 j) := by
  refine Eq.trans ?_ (line_apply (m ((c : Thread nD τ).loc main_arg3)) j)
  rw [← gain_eq m c]; blk_simp [iblk]; congr 1; blk_ext [at3 t]

/-- The arguments of a device are these real numbers. -/
structure Given (c : Dev nD) (a b s : Fin 2048 → Fin 2048 → ℝ) (p : Fin 2048 → ℝ) : Prop where
  x : ∀ r j, (m ((c : Thread nD τ).loc main_arg0) (ix2 r j) : EReal) = ((a r j : ℝ) : EReal)
  y : ∀ r j, (m ((c : Thread nD τ).loc main_arg1) (ix2 r j) : EReal) = ((b r j : ℝ) : EReal)
  t : ∀ r j, (m ((c : Thread nD τ).loc main_arg2) (ix2 r j) : EReal) = ((s r j : ℝ) : EReal)
  g : ∀ j, (m ((c : Thread nD τ).loc main_arg3) (ix1 j) : EReal) = ((p j : ℝ) : EReal)

variable {m} {c : Dev nD} {a b s : Fin 2048 → Fin 2048 → ℝ} {p : Fin 2048 → ℝ} (hm : Given m c a b s p)
include hm

theorem is0 (t : Fin cfg0.N) : Is (iblk m c 0 t) (cut a t) := fun r j => (iblk0_apply m c t r j).trans (hm.x _ _)
theorem is1 (t : Fin cfg0.N) : Is (iblk m c 1 t) (cut b t) := fun r j => (iblk1_apply m c t r j).trans (hm.y _ _)
theorem is2 (t : Fin cfg0.N) : Is (iblk m c 2 t) (cut s t) := fun r j => (iblk2_apply m c t r j).trans (hm.t _ _)
theorem is3 (t : Fin cfg0.N) : IsLine (iblk m c 3 t) p := fun j => (iblk3_apply m c t j).trans (hm.g _)

omit hm in
/-- What is left after the step: the gradient's rows in both types, and the two sums so far. -/
structure After (a b s : Fin 2048 → Fin 2048 → ℝ) (p : Fin 2048 → ℝ) (t : Fin cfg0.N)
    (o : FVec Ideal S256x2048 .f32 × FVec Ideal S256x2048 .bf16 × FVec Ideal S8x2048 .f32 × FVec Ideal S8x2048 .f32) : Prop where
  grad : ∀ r j, (o.1 (ix2 r j) : EReal) = ((turn a b s p (place t r) j : ℝ) : EReal)
  half : ∀ r j, (o.2.1 (ix2 r j) : EReal) = ((turn a b s p (place t r) j : ℝ) : EReal)
  gain : ∀ j, (o.2.2.1 (ix2 0 j) : EReal) = ((upto (fun r => pull b s r j * normed (a r) j) (t.val + 1) : ℝ) : EReal)
  shift : ∀ j, (o.2.2.2 (ix2 0 j) : EReal) = ((upto (fun r => pull b s r j) (t.val + 1) : ℝ) : EReal)

set_option maxHeartbeats 1000000 in
theorem after_eq (n : ℕ) : ∀ h : n < cfg0.N, After a b s p ⟨n, h⟩ (outsAt0 m c n h) := by
  induction n with
  | zero =>
    intro h
    have ht : (⟨0, h⟩ : Fin cfg0.N).val % 8 = 0 := rfl
    have e := outsAt0_A m c ⟨0, h⟩ ht
    refine (congrArg (After a b s p ⟨0, h⟩) (show outsAt0 m c 0 h = _ from e)).mpr ?_
    frame_out
    refine ⟨grad_is (is0 hm _) (is1 hm _) (is2 hm _) (is3 hm _), half_is (is0 hm _) (is1 hm _) (is2 hm _) (is3 hm _), fun j => ?_, fun j => ?_⟩ <;> dsimp only
    · generalize hX : k0_pay3 (F := Ideal) _ _ _ = X
      refine (canon_line inb_S8x2048_S1x2048_0_0 X j _).trans ?_
      rw [← hX]
      refine (gain_is (is0 hm _) (is1 hm _) (is2 hm _) (f := fun _ => 0) (fun k => ?_) j).trans ?_
      · exact (readCov_line _ inb_S8x2048_S1x2048_0_0 inb_S8x2048_S8x2048_0_0 k0_pay5 k).trans nought_word
      rw [upto_succ _ _ (by omega)]; rfl
    · generalize hX : k0_pay4 (F := Ideal) _ _ = X
      refine (canon_line inb_S8x2048_S1x2048_0_0 X j _).trans ?_
      rw [← hX]
      refine (shift_is (is1 hm _) (is2 hm _) (f := fun _ => 0) (fun k => ?_) j).trans ?_
      · exact (readCov_line _ inb_S8x2048_S1x2048_0_0 inb_S8x2048_S8x2048_0_0 k0_pay6 k).trans nought_word
      rw [upto_succ _ _ (by omega)]; rfl
  | succ n ih =>
    intro h
    have hn : n + 1 < 8 := steps ⟨n + 1, h⟩
    have ht : ¬ (⟨n + 1, h⟩ : Fin cfg0.N).val % 8 = 0 := by show ¬ (n + 1) % 8 = 0; omega
    have e := outsAt0_B m c ⟨n + 1, h⟩ ht
    have old := ih (by omega)
    refine (congrArg (After a b s p ⟨n + 1, h⟩) (show outsAt0 m c (n + 1) h = _ from e)).mpr ?_
    frame_out
    refine ⟨grad_is (is0 hm _) (is1 hm _) (is2 hm _) (is3 hm _), half_is (is0 hm _) (is1 hm _) (is2 hm _) (is3 hm _), fun j => ?_, fun j => ?_⟩ <;> dsimp only
    · generalize hX : k0_pay3 (F := Ideal) _ _ _ = X
      refine (writes_line _ inb_S8x2048_S1x2048_0_0 X j _ _).trans ?_
      rw [← hX]
      refine (gain_is (is0 hm _) (is1 hm _) (is2 hm _) (f := fun j => upto (fun r => pull b s r j * normed (a r) j) (n + 1)) (fun k => ?_) j).trans ?_
      · exact Eq.trans (ld_line inb_S8x2048_S1x2048_0_0 _ k) (old.gain k)
      rw [upto_succ _ (n + 1) hn]
    · generalize hX : k0_pay4 (F := Ideal) _ _ = X
      refine (writes_line _ inb_S8x2048_S1x2048_0_0 X j _ _).trans ?_
      rw [← hX]
      refine (shift_is (is1 hm _) (is2 hm _) (f := fun j => upto (fun r => pull b s r j) (n + 1)) (fun k => ?_) j).trans ?_
      · exact Eq.trans (ld_line inb_S8x2048_S1x2048_0_0 _ k) (old.shift k)
      rw [upto_succ _ (n + 1) hn]

theorem after_at (t : Fin cfg0.N) : After a b s p t (outsAt0 m c t.val t.isLt) := after_eq hm t.val t.isLt

theorem final4 : (dats m 0 c).arrAt 4 cfg0.N = (fun y => ((turn a b s p (y 0) (y 1) : ℝ) : EReal) : FVec Ideal S2048x2048 .f32) := by
  refine (dats m 0 c).arrAt_eq_of_covers 4 _ (by decide +kernel) fun t hf y => ?_
  blk_simp
  rw [after0_4]
  obtain ⟨r, j, rfl⟩ : ∃ (r : Fin 256) (j : Fin 2048), y = ix2 r j := ⟨_, _, eq_ix2 y⟩
  rw [show (win0_4.blk t).view.emb (ix2 r j) = ix2 (place t r) j from by blk_ext [at4 t]]
  exact (after_at hm t).grad r j

theorem final5 : (dats m 0 c).arrAt 5 cfg0.N = (fun y => ((turn a b s p (y 0) (y 1) : ℝ) : EReal) : FVec Ideal S2048x2048 .bf16) := by
  refine (dats m 0 c).arrAt_eq_of_covers 5 _ (by decide +kernel) fun t hf y => ?_
  blk_simp
  rw [after0_5]
  obtain ⟨r, j, rfl⟩ : ∃ (r : Fin 256) (j : Fin 2048), y = ix2 r j := ⟨_, _, eq_ix2 y⟩
  rw [show (win0_5.blk t).view.emb (ix2 r j) = ix2 (place t r) j from by blk_ext [at5 t]]
  exact (after_at hm t).half r j

omit hm in
theorem last (t : Fin cfg0.N) (h : t.val % 8 = 7) : t = ⟨7, by decide⟩ := Fin.ext (by have := steps t; show t.val = 7; omega)

omit hm in
theorem final6 : (dats m 0 c).arrAt 6 cfg0.N = (outsAt0 m c 7 (by decide)).2.2.1 := by
  refine (dats m 0 c).arrAt_eq_of_covers 6 (outsAt0 m c 7 (by decide)).2.2.1 (by decide +kernel) fun t hf y => ?_
  have h7 := last t ((flush0_6 t).mp hf)
  blk_simp
  rw [after0_6]
  obtain ⟨r, j, rfl⟩ : ∃ (r : Fin 8) (j : Fin 2048), y = ix2 r j := ⟨_, _, eq_ix2 y⟩
  rw [show (win0_6.blk t).view.emb (ix2 r j) = ix2 r j from by blk_ext [at6 t]]
  subst h7
  rfl

omit hm in
theorem final7 : (dats m 0 c).arrAt 7 cfg0.N = (outsAt0 m c 7 (by decide)).2.2.2 := by
  refine (dats m 0 c).arrAt_eq_of_covers 7 (outsAt0 m c 7 (by decide)).2.2.2 (by decide +kernel) fun t hf y => ?_
  have h7 := last t ((flush0_7 t).mp hf)
  blk_simp
  rw [after0_7]
  obtain ⟨r, j, rfl⟩ : ∃ (r : Fin 8) (j : Fin 2048), y = ix2 r j := ⟨_, _, eq_ix2 y⟩
  rw [show (win0_7.blk t).view.emb (ix2 r j) = ix2 r j from by blk_ext [at7 t]]
  subst h7
  rfl

end kernel

section tail

open Cert.LnBwdIdeal Cert.LnBwdIdeal.Gen

variable (W : Valuation τ sig (Elt Ideal))

theorem tail_gain : StableHlo.after (hostOps1 (F := Ideal)) W (Proc.devRef .tc main_v3)
    = shapeCast S2048 (extractStridedSlice S1x2048 ![0, 0] (W (Proc.devRef .tc main_v1_2) : FVec Ideal S8x2048 .f32) slices_S8x2048_S1x2048_0_0) shapeCasts_S1x2048_S2048 := by
  simp only [hostOps1]
  after_results_simp <;> rfl

theorem tail_shift : StableHlo.after (hostOps1 (F := Ideal)) W (Proc.devRef .tc main_v5)
    = shapeCast S2048 (extractStridedSlice S1x2048 ![0, 0] (W (Proc.devRef .tc main_v1_3) : FVec Ideal S8x2048 .f32) slices_S8x2048_S1x2048_0_0) shapeCasts_S1x2048_S2048 := by
  simp only [hostOps1]
  after_results_simp <;> rfl

theorem first_row (x : FVec Ideal S8x2048 .f32) (j : Fin 2048) :
    shapeCast S2048 (extractStridedSlice S1x2048 ![0, 0] x slices_S8x2048_S1x2048_0_0) shapeCasts_S1x2048_S2048 (ix1 j) = x (ix2 0 j) := by
  refine (shapeCast_apply _ _ (ix1 j) (ix2 (0 : Fin 1) j) (by
    rw [Shape.rowMajor_val_one, Shape.rowMajor_val_two]; show 0 * 2048 + j.val = j.val; omega)).trans ?_
  unfold extractStridedSlice
  exact congrArg x (funext fun a => Fin.ext (by match a with
    | ⟨0, _⟩ => rfl
    | ⟨1, _⟩ => show 0 + j.val = j.val; omega))

variable {m : (ℓ : Loc nD τ sig) → Buf (Elt Ideal) ℓ} {c : Dev nD} {a b s : Fin 2048 → Fin 2048 → ℝ} {p : Fin 2048 → ℝ} (hm : Given m c a b s p)
include hm

theorem result_gain : Pipeline.afterTail₀ cfgs (dats m) 0 (V0 m) [hostOps1 (F := Ideal)] c main_v3
    = (fun i => ((∑ r, pull b s r (i 0) * normed (a r) (i 0) : ℝ) : EReal) : FVec Ideal S2048 .f32) := by
  have e : Pipeline.withArrays spec0 c (V0 m c) (fun w => (dats m 0 c).arrAt w cfg0.N) (Proc.devRef .tc main_v1_2) = (dats m 0 c).arrAt 6 cfg0.N :=
    Pipeline.withArrays_arr spec0 launch0.win.arr_inj c (V0 m c) (fun w => (dats m 0 c).arrAt w cfg0.N) 6
  show StableHlo.after (hostOps1 (F := Ideal)) (Pipeline.withArrays spec0 c (V0 m c) (fun w => (dats m 0 c).arrAt w cfg0.N)) (Proc.devRef .tc main_v3) = _
  rw [tail_gain, e, final6]
  funext i
  obtain ⟨j, rfl⟩ : ∃ j : Fin 2048, i = ix1 j := ⟨_, ValueIdx.eq_ix1 i⟩
  refine (first_row _ j).trans (((after_eq hm 7 (by decide)).gain j).trans ?_)
  rw [show (7 + 1 : ℕ) = 8 from rfl, upto_all]

theorem result_shift : Pipeline.afterTail₀ cfgs (dats m) 0 (V0 m) [hostOps1 (F := Ideal)] c main_v5
    = (fun i => ((∑ r, pull b s r (i 0) : ℝ) : EReal) : FVec Ideal S2048 .f32) := by
  have e : Pipeline.withArrays spec0 c (V0 m c) (fun w => (dats m 0 c).arrAt w cfg0.N) (Proc.devRef .tc main_v1_3) = (dats m 0 c).arrAt 7 cfg0.N :=
    Pipeline.withArrays_arr spec0 launch0.win.arr_inj c (V0 m c) (fun w => (dats m 0 c).arrAt w cfg0.N) 7
  show StableHlo.after (hostOps1 (F := Ideal)) (Pipeline.withArrays spec0 c (V0 m c) (fun w => (dats m 0 c).arrAt w cfg0.N)) (Proc.devRef .tc main_v5) = _
  rw [tail_shift, e, final7]
  funext i
  obtain ⟨j, rfl⟩ : ∃ j : Fin 2048, i = ix1 j := ⟨_, ValueIdx.eq_ix1 i⟩
  refine (first_row _ j).trans (((after_eq hm 7 (by decide)).shift j).trans ?_)
  rw [show (7 + 1 : ℕ) = 8 from rfl, upto_all]

omit hm in
/-- What the call leaves where the arguments are real numbers. -/
theorem run (ρ : Dev nD → PrngReg) (a b s : Dev nD → Fin 2048 → Fin 2048 → ℝ) (p : Dev nD → Fin 2048 → ℝ) (hm : ∀ c, Given m c (a c) (b c) (s c) (p c)) :
    θ_run (defs (F := Ideal)) (onTc (τ := τ) (main (F := Ideal))) ⟨m, fun _ => 0, ρ⟩ fun r => ∀ c : Dev nD,
      r.2.mem ((c.tc : Thread nD τ).loc main_v1_0) = (fun y => ((turn (a c) (b c) (s c) (p c) (y 0) (y 1) : ℝ) : EReal) : FVec Ideal S2048x2048 .f32)
      ∧ r.2.mem ((c.tc : Thread nD τ).loc main_v1_1) = (fun y => ((turn (a c) (b c) (s c) (p c) (y 0) (y 1) : ℝ) : EReal) : FVec Ideal S2048x2048 .bf16)
      ∧ r.2.mem ((c.tc : Thread nD τ).loc main_v3) = (fun i => ((∑ r, pull (b c) (s c) r (i 0) * normed (a c r) (i 0) : ℝ) : EReal) : FVec Ideal S2048 .f32)
      ∧ r.2.mem ((c.tc : Thread nD τ).loc main_v5) = (fun i => ((∑ r, pull (b c) (s c) r (i 0) : ℝ) : EReal) : FVec Ideal S2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run (defs (F := Ideal)) _ _).mono (fun r hr c => ?_) (θ_run_and (run_main m ρ) (unchanged m ρ))
  obtain ⟨hr, hk⟩ := hr
  exact ⟨((hr c).1 4).trans (final4 (hm c)),
    ((hr c).1 5).trans (final5 (hm c)),
    ((hr c).2 main_v3 (by decide : main_v3 ∈ Pipeline.restRefs sig spec0)).trans (result_gain (hm c)),
    ((hr c).2 main_v5 (by decide : main_v5 ∈ Pipeline.restRefs sig spec0)).trans (result_shift (hm c)),
    hk c⟩

end tail

section reference

open Cert.RefLnBwdIdeal Cert.RefLnBwdIdeal.Read

variable {x0 x1 x2 : FVec Ideal S2048x2048 .f32} {x3 : FVec Ideal S2048 .f32} {a b s : Fin 2048 → Fin 2048 → ℝ} {p : Fin 2048 → ℝ}

/-- The arguments are these real numbers. -/
structure Reals (x0 x1 x2 : FVec Ideal S2048x2048 .f32) (x3 : FVec Ideal S2048 .f32) (a b s : Fin 2048 → Fin 2048 → ℝ) (p : Fin 2048 → ℝ) : Prop where
  x : ∀ r j, (x0 (ix2 r j) : EReal) = ((a r j : ℝ) : EReal)
  y : ∀ r j, (x1 (ix2 r j) : EReal) = ((b r j : ℝ) : EReal)
  t : ∀ r j, (x2 (ix2 r j) : EReal) = ((s r j : ℝ) : EReal)
  g : ∀ j, (x3 (ix1 j) : EReal) = ((p j : ℝ) : EReal)

theorem ref1 (H : Reals x0 x1 x2 x3 a b s p) (r : Fin 2048) : (val_main_v1 (F := Ideal) x0 (ix1 r) : EReal) = ((∑ k, (a r k) : ℝ) : EReal) :=
  by
  rw [val_main_v1_apply x0 (ix1 r)]
  exact (host_sum (val_main_cst_0_apply (F := Ideal) _) _ _ fun k => by
    rw [show idx_main_v1 (ix1 r) k = ix2 r k from ext2 rfl rfl]
    exact H.x r k)

theorem ref2 (H : Reals x0 x1 x2 x3 a b s p) (r : Fin 2048) : (val_main_v2 (F := Ideal) x0 (ix2 r 0) : EReal) = ((∑ k, (a r k) : ℝ) : EReal) :=
  by
  rw [val_main_v2_apply (F := Ideal) x0 (ix2 r 0), show idx_main_v2 (ix2 r 0) = ix1 r from ext1 rfl]
  exact (ref1 H r)

theorem ref3 (H : Reals x0 x1 x2 x3 a b s p) (r : Fin 2048) : (val_main_v3 (F := Ideal)  (ix2 r 0) : EReal) = ((2048 : ℝ) : EReal) :=
  by
  rw [val_main_v3_apply (F := Ideal)  (ix2 r 0)]
  exact width_word

theorem ref4 (H : Reals x0 x1 x2 x3 a b s p) (r : Fin 2048) : (val_main_v4 (F := Ideal) x0 (ix2 r 0) : EReal) = ((mid (a r) : ℝ) : EReal) :=
  by
  rw [val_main_v4_apply (F := Ideal) x0 (ix2 r 0)]
  exact (e_div (ref2 H r) (ref3 H r) (by norm_num))

theorem ref5 (H : Reals x0 x1 x2 x3 a b s p) (r j : Fin 2048) : (val_main_v5 (F := Ideal) x0 (ix2 r j) : EReal) = ((mid (a r) : ℝ) : EReal) :=
  by
  rw [val_main_v5_apply (F := Ideal) x0 (ix2 r j), show idx_main_v5 (ix2 r j) = ix2 r 0 from ext2 rfl rfl]
  exact (ref4 H r)

theorem ref6 (H : Reals x0 x1 x2 x3 a b s p) (r j : Fin 2048) : (val_main_v6 (F := Ideal) x0 (ix2 r j) : EReal) = ((cen (a r) j : ℝ) : EReal) :=
  by
  rw [val_main_v6_apply (F := Ideal) x0 (ix2 r j)]
  exact (e_sub (H.x r j) (ref5 H r j))

theorem ref7 (H : Reals x0 x1 x2 x3 a b s p) (r j : Fin 2048) : (val_main_v7 (F := Ideal) x0 (ix2 r j) : EReal) = (((cen (a r) j) * (cen (a r) j) : ℝ) : EReal) :=
  by
  rw [val_main_v7_apply (F := Ideal) x0 (ix2 r j)]
  exact (e_mul (ref6 H r j) (ref6 H r j))

theorem ref8 (H : Reals x0 x1 x2 x3 a b s p) (r j : Fin 2048) : (val_main_v8 (F := Ideal)  (ix2 r j) : EReal) = ((2 : ℝ) : EReal) :=
  by
  rw [val_main_v8_apply (F := Ideal)  (ix2 r j)]
  exact two_word

theorem ref9 (H : Reals x0 x1 x2 x3 a b s p) (r j : Fin 2048) : (val_main_v9 (F := Ideal) x0 (ix2 r j) : EReal) = (((2) * (cen (a r) j) : ℝ) : EReal) :=
  by
  rw [val_main_v9_apply (F := Ideal) x0 (ix2 r j)]
  exact (e_mul (ref8 H r j) (ref6 H r j))

theorem ref10 (H : Reals x0 x1 x2 x3 a b s p) (r : Fin 2048) : (val_main_v10 (F := Ideal) x0 (ix1 r) : EReal) = ((∑ k, ((cen (a r) k) * (cen (a r) k)) : ℝ) : EReal) :=
  by
  rw [val_main_v10_apply x0 (ix1 r)]
  exact (host_sum (val_main_cst_3_apply (F := Ideal) _) _ _ fun k => by
    rw [show idx_main_v10 (ix1 r) k = ix2 r k from ext2 rfl rfl]
    exact ref7 H r k)

theorem ref11 (H : Reals x0 x1 x2 x3 a b s p) (r : Fin 2048) : (val_main_v11 (F := Ideal) x0 (ix2 r 0) : EReal) = ((∑ k, ((cen (a r) k) * (cen (a r) k)) : ℝ) : EReal) :=
  by
  rw [val_main_v11_apply (F := Ideal) x0 (ix2 r 0), show idx_main_v11 (ix2 r 0) = ix1 r from ext1 rfl]
  exact (ref10 H r)

theorem ref12 (H : Reals x0 x1 x2 x3 a b s p) (r : Fin 2048) : (val_main_v12 (F := Ideal)  (ix2 r 0) : EReal) = ((2048 : ℝ) : EReal) :=
  by
  rw [val_main_v12_apply (F := Ideal)  (ix2 r 0)]
  exact width_word

theorem ref13 (H : Reals x0 x1 x2 x3 a b s p) (r : Fin 2048) : (val_main_v13 (F := Ideal) x0 (ix2 r 0) : EReal) = ((spread (a r) : ℝ) : EReal) :=
  by
  rw [val_main_v13_apply (F := Ideal) x0 (ix2 r 0)]
  exact (e_div (ref11 H r) (ref12 H r) (by norm_num))

theorem ref14 (H : Reals x0 x1 x2 x3 a b s p) (r j : Fin 2048) : (val_main_v14 (F := Ideal) x0 (ix2 r j) : EReal) = ((mid (a r) : ℝ) : EReal) :=
  by
  rw [val_main_v14_apply (F := Ideal) x0 (ix2 r j), show idx_main_v14 (ix2 r j) = ix2 r 0 from ext2 rfl rfl]
  exact (ref4 H r)

theorem ref15 (H : Reals x0 x1 x2 x3 a b s p) (r j : Fin 2048) : (val_main_v15 (F := Ideal) x0 (ix2 r j) : EReal) = ((cen (a r) j : ℝ) : EReal) :=
  by
  rw [val_main_v15_apply (F := Ideal) x0 (ix2 r j)]
  exact (e_sub (H.x r j) (ref14 H r j))

theorem ref16 (H : Reals x0 x1 x2 x3 a b s p) (r : Fin 2048) : (val_main_v16 (F := Ideal)  (ix2 r 0) : EReal) = ((eps : ℝ) : EReal) :=
  by
  rw [val_main_v16_apply (F := Ideal)  (ix2 r 0)]
  exact eps_word

theorem ref17 (H : Reals x0 x1 x2 x3 a b s p) (r : Fin 2048) : (val_main_v17 (F := Ideal) x0 (ix2 r 0) : EReal) = ((spread (a r) + eps : ℝ) : EReal) :=
  by
  rw [val_main_v17_apply (F := Ideal) x0 (ix2 r 0)]
  exact (e_add (ref13 H r) (ref16 H r))

theorem ref18 (H : Reals x0 x1 x2 x3 a b s p) (r : Fin 2048) : (val_main_v18 (F := Ideal) x0 (ix2 r 0) : EReal) = ((scale (a r) : ℝ) : EReal) :=
  by
  rw [val_main_v18_apply (F := Ideal) x0 (ix2 r 0)]
  exact (e_rsqrt (ref17 H r) (under_pos _))

theorem ref19 (H : Reals x0 x1 x2 x3 a b s p) (r : Fin 2048) : (val_main_v19 (F := Ideal) x0 (ix2 r 0) : EReal) = (((scale (a r)) / (spread (a r) + eps) : ℝ) : EReal) :=
  by
  rw [val_main_v19_apply (F := Ideal) x0 (ix2 r 0)]
  exact (e_div (ref18 H r) (ref17 H r) (under_pos _).ne')

theorem ref20 (H : Reals x0 x1 x2 x3 a b s p) (r : Fin 2048) : (val_main_v20 (F := Ideal)  (ix2 r 0) : EReal) = ((-(1 / 2) : ℝ) : EReal) :=
  by
  rw [val_main_v20_apply (F := Ideal)  (ix2 r 0)]
  exact less_word

theorem ref21 (H : Reals x0 x1 x2 x3 a b s p) (r : Fin 2048) : (val_main_v21 (F := Ideal) x0 (ix2 r 0) : EReal) = (((-(1 / 2)) * ((scale (a r)) / (spread (a r) + eps)) : ℝ) : EReal) :=
  by
  rw [val_main_v21_apply (F := Ideal) x0 (ix2 r 0)]
  exact (e_mul (ref20 H r) (ref19 H r))

theorem ref22 (H : Reals x0 x1 x2 x3 a b s p) (r j : Fin 2048) : (val_main_v22 (F := Ideal) x0 (ix2 r j) : EReal) = ((scale (a r) : ℝ) : EReal) :=
  by
  rw [val_main_v22_apply (F := Ideal) x0 (ix2 r j), show idx_main_v22 (ix2 r j) = ix2 r 0 from ext2 rfl rfl]
  exact (ref18 H r)

theorem ref23 (H : Reals x0 x1 x2 x3 a b s p) (r j : Fin 2048) : (val_main_v23 (F := Ideal) x0 (ix2 r j) : EReal) = ((normed (a r) j : ℝ) : EReal) :=
  by
  rw [val_main_v23_apply (F := Ideal) x0 (ix2 r j)]
  exact (e_mul (ref15 H r j) (ref22 H r j))

theorem ref24 (H : Reals x0 x1 x2 x3 a b s p) (r : Fin 2048) : (val_main_v24 (F := Ideal) x3 (ix2 0 r) : EReal) = ((p r : ℝ) : EReal) :=
  by
  rw [val_main_v24_apply (F := Ideal) x3 (ix2 0 r), show idx_main_v24 (ix2 0 r) = ix1 r from ext1 rfl]
  exact (H.g r)

theorem ref30 (H : Reals x0 x1 x2 x3 a b s p) (r j : Fin 2048) : (val_main_v30 (F := Ideal)  (ix2 r j) : EReal) = ((alpha : ℝ) : EReal) :=
  by
  rw [val_main_v30_apply (F := Ideal)  (ix2 r j)]
  exact alpha_word

theorem ref31 (H : Reals x0 x1 x2 x3 a b s p) (r j : Fin 2048) : (val_main_v31 (F := Ideal) x2 (ix2 r j) : EReal) = (((alpha) * (s r j) : ℝ) : EReal) :=
  by
  rw [val_main_v31_apply (F := Ideal) x2 (ix2 r j)]
  exact (e_mul (ref30 H r j) (H.t r j))

theorem ref32 (H : Reals x0 x1 x2 x3 a b s p) (r j : Fin 2048) : (val_main_v32 (F := Ideal) x1 x2 (ix2 r j) : EReal) = ((pull b s r j : ℝ) : EReal) :=
  by
  rw [val_main_v32_apply (F := Ideal) x1 x2 (ix2 r j)]
  exact (e_add (H.y r j) (ref31 H r j))

theorem ref33 (H : Reals x0 x1 x2 x3 a b s p) (r : Fin 2048) : (val_main_v33 (F := Ideal) x1 x2 (ix1 r) : EReal) = ((∑ k, (pull b s k r) : ℝ) : EReal) :=
  by
  rw [val_main_v33_apply x1 x2 (ix1 r)]
  exact (host_sum (val_main_cst_8_apply (F := Ideal) _) _ _ fun k => by
    rw [show idx_main_v33 (ix1 r) k = ix2 k r from ext2 rfl rfl]
    exact ref32 H k r)

theorem ref34 (H : Reals x0 x1 x2 x3 a b s p) (r : Fin 2048) : (val_main_v34 (F := Ideal) x1 x2 (ix2 0 r) : EReal) = ((∑ k, (pull b s k r) : ℝ) : EReal) :=
  by
  rw [val_main_v34_apply (F := Ideal) x1 x2 (ix2 0 r), show idx_main_v34 (ix2 0 r) = ix1 r from ext1 (Fin.ext (by show 0 * 2048 + r.val = r.val; omega))]
  exact (ref33 H r)

theorem ref35 (H : Reals x0 x1 x2 x3 a b s p) (r : Fin 2048) : (val_main_v35 (F := Ideal) x1 x2 (ix1 r) : EReal) = ((∑ k, (pull b s k r) : ℝ) : EReal) :=
  by
  rw [val_main_v35_apply x1 x2 (ix1 r)]
  exact (host_one (val_main_cst_9_apply (F := Ideal) _) _ _ fun k => by
    rw [show idx_main_v35 (ix1 r) k = ix2 0 r from ext2 (Subsingleton.elim (α := Fin 1) _ _) rfl]
    exact ref34 H r)

theorem ref36 (H : Reals x0 x1 x2 x3 a b s p) (r j : Fin 2048) : (val_main_v36 (F := Ideal) x0 x1 x2 (ix2 r j) : EReal) = ((pull b s r j * normed (a r) j : ℝ) : EReal) :=
  by
  rw [val_main_v36_apply (F := Ideal) x0 x1 x2 (ix2 r j)]
  exact Eq.trans (e_mul (ref23 H r j) (ref32 H r j)) (congrArg _ (mul_comm _ _))

theorem ref37 (H : Reals x0 x1 x2 x3 a b s p) (r : Fin 2048) : (val_main_v37 (F := Ideal) x0 x1 x2 (ix1 r) : EReal) = ((∑ k, (pull b s k r * normed (a k) r) : ℝ) : EReal) :=
  by
  rw [val_main_v37_apply x0 x1 x2 (ix1 r)]
  exact (host_sum (val_main_cst_10_apply (F := Ideal) _) _ _ fun k => by
    rw [show idx_main_v37 (ix1 r) k = ix2 k r from ext2 rfl rfl]
    exact ref36 H k r)

theorem ref38 (H : Reals x0 x1 x2 x3 a b s p) (r : Fin 2048) : (val_main_v38 (F := Ideal) x0 x1 x2 (ix2 0 r) : EReal) = ((∑ k, (pull b s k r * normed (a k) r) : ℝ) : EReal) :=
  by
  rw [val_main_v38_apply (F := Ideal) x0 x1 x2 (ix2 0 r), show idx_main_v38 (ix2 0 r) = ix1 r from ext1 (Fin.ext (by show 0 * 2048 + r.val = r.val; omega))]
  exact (ref37 H r)

theorem ref39 (H : Reals x0 x1 x2 x3 a b s p) (r j : Fin 2048) : (val_main_v39 (F := Ideal) x3 (ix2 r j) : EReal) = ((p j : ℝ) : EReal) :=
  by
  rw [val_main_v39_apply (F := Ideal) x3 (ix2 r j), show idx_main_v39 (ix2 r j) = ix2 0 j from ext2 rfl rfl]
  exact (ref24 H j)

theorem ref40 (H : Reals x0 x1 x2 x3 a b s p) (r j : Fin 2048) : (val_main_v40 (F := Ideal) x1 x2 x3 (ix2 r j) : EReal) = (((pull b s r j) * (p j) : ℝ) : EReal) :=
  by
  rw [val_main_v40_apply (F := Ideal) x1 x2 x3 (ix2 r j)]
  exact (e_mul (ref32 H r j) (ref39 H r j))

theorem ref41 (H : Reals x0 x1 x2 x3 a b s p) (r : Fin 2048) : (val_main_v41 (F := Ideal) x0 x1 x2 (ix1 r) : EReal) = ((∑ k, (pull b s k r * normed (a k) r) : ℝ) : EReal) :=
  by
  rw [val_main_v41_apply x0 x1 x2 (ix1 r)]
  exact (host_one (val_main_cst_11_apply (F := Ideal) _) _ _ fun k => by
    rw [show idx_main_v41 (ix1 r) k = ix2 0 r from ext2 (Subsingleton.elim (α := Fin 1) _ _) rfl]
    exact ref38 H r)

theorem ref42 (H : Reals x0 x1 x2 x3 a b s p) (r j : Fin 2048) : (val_main_v42 (F := Ideal) x0 x1 x2 x3 (ix2 r j) : EReal) = (((cen (a r) j) * ((pull b s r j) * (p j)) : ℝ) : EReal) :=
  by
  rw [val_main_v42_apply (F := Ideal) x0 x1 x2 x3 (ix2 r j)]
  exact (e_mul (ref15 H r j) (ref40 H r j))

theorem ref43 (H : Reals x0 x1 x2 x3 a b s p) (r : Fin 2048) : (val_main_v43 (F := Ideal) x0 x1 x2 x3 (ix1 r) : EReal) = ((∑ k, ((cen (a r) k) * ((pull b s r k) * (p k))) : ℝ) : EReal) :=
  by
  rw [val_main_v43_apply x0 x1 x2 x3 (ix1 r)]
  exact (host_sum (val_main_cst_12_apply (F := Ideal) _) _ _ fun k => by
    rw [show idx_main_v43 (ix1 r) k = ix2 r k from ext2 rfl rfl]
    exact ref42 H r k)

theorem ref44 (H : Reals x0 x1 x2 x3 a b s p) (r : Fin 2048) : (val_main_v44 (F := Ideal) x0 x1 x2 x3 (ix2 r 0) : EReal) = ((∑ k, ((cen (a r) k) * ((pull b s r k) * (p k))) : ℝ) : EReal) :=
  by
  rw [val_main_v44_apply (F := Ideal) x0 x1 x2 x3 (ix2 r 0), show idx_main_v44 (ix2 r 0) = ix1 r from ext1 (Fin.ext (by show r.val * 1 + 0 = r.val; omega))]
  exact (ref43 H r)

theorem ref45 (H : Reals x0 x1 x2 x3 a b s p) (r j : Fin 2048) : (val_main_v45 (F := Ideal) x0 (ix2 r j) : EReal) = ((scale (a r) : ℝ) : EReal) :=
  by
  rw [val_main_v45_apply (F := Ideal) x0 (ix2 r j), show idx_main_v45 (ix2 r j) = ix2 r 0 from ext2 rfl rfl]
  exact (ref18 H r)

theorem ref46 (H : Reals x0 x1 x2 x3 a b s p) (r j : Fin 2048) : (val_main_v46 (F := Ideal) x0 x1 x2 x3 (ix2 r j) : EReal) = ((((pull b s r j) * (p j)) * (scale (a r)) : ℝ) : EReal) :=
  by
  rw [val_main_v46_apply (F := Ideal) x0 x1 x2 x3 (ix2 r j)]
  exact (e_mul (ref40 H r j) (ref45 H r j))

theorem ref47 (H : Reals x0 x1 x2 x3 a b s p) (r : Fin 2048) : (val_main_v47 (F := Ideal) x0 x1 x2 x3 (ix2 r 0) : EReal) = (((∑ k, ((cen (a r) k) * ((pull b s r k) * (p k)))) * ((-(1 / 2)) * ((scale (a r)) / (spread (a r) + eps))) : ℝ) : EReal) :=
  by
  rw [val_main_v47_apply (F := Ideal) x0 x1 x2 x3 (ix2 r 0)]
  exact (e_mul (ref44 H r) (ref21 H r))

theorem ref48 (H : Reals x0 x1 x2 x3 a b s p) (r j : Fin 2048) : (val_main_v48 (F := Ideal) x0 x1 x2 x3 (ix2 r j) : EReal) = ((-(((pull b s r j) * (p j)) * (scale (a r))) : ℝ) : EReal) :=
  by
  rw [val_main_v48_apply (F := Ideal) x0 x1 x2 x3 (ix2 r j)]
  exact (e_neg (ref46 H r j))

theorem ref49 (H : Reals x0 x1 x2 x3 a b s p) (r : Fin 2048) : (val_main_v49 (F := Ideal) x0 x1 x2 x3 (ix1 r) : EReal) = ((∑ k, (-(((pull b s r k) * (p k)) * (scale (a r)))) : ℝ) : EReal) :=
  by
  rw [val_main_v49_apply x0 x1 x2 x3 (ix1 r)]
  exact (host_sum (val_main_cst_13_apply (F := Ideal) _) _ _ fun k => by
    rw [show idx_main_v49 (ix1 r) k = ix2 r k from ext2 rfl rfl]
    exact ref48 H r k)

theorem ref50 (H : Reals x0 x1 x2 x3 a b s p) (r : Fin 2048) : (val_main_v50 (F := Ideal) x0 x1 x2 x3 (ix2 r 0) : EReal) = ((∑ k, (-(((pull b s r k) * (p k)) * (scale (a r)))) : ℝ) : EReal) :=
  by
  rw [val_main_v50_apply (F := Ideal) x0 x1 x2 x3 (ix2 r 0), show idx_main_v50 (ix2 r 0) = ix1 r from ext1 (Fin.ext (by show r.val * 1 + 0 = r.val; omega))]
  exact (ref49 H r)

theorem ref51 (H : Reals x0 x1 x2 x3 a b s p) (r : Fin 2048) : (val_main_v51 (F := Ideal)  (ix2 r 0) : EReal) = ((2048 : ℝ) : EReal) :=
  by
  rw [val_main_v51_apply (F := Ideal)  (ix2 r 0)]
  exact width_word

theorem ref52 (H : Reals x0 x1 x2 x3 a b s p) (r : Fin 2048) : (val_main_v52 (F := Ideal) x0 x1 x2 x3 (ix2 r 0) : EReal) = ((slope (a r) (fun k => pull b s r k * p k) : ℝ) : EReal) :=
  by
  rw [val_main_v52_apply (F := Ideal) x0 x1 x2 x3 (ix2 r 0)]
  exact (e_div (ref47 H r) (ref51 H r) (by norm_num))

theorem ref53 (H : Reals x0 x1 x2 x3 a b s p) (r : Fin 2048) : (val_main_v53 (F := Ideal) x0 x1 x2 x3 (ix1 r) : EReal) = ((slope (a r) (fun k => pull b s r k * p k) : ℝ) : EReal) :=
  by
  rw [val_main_v53_apply x0 x1 x2 x3 (ix1 r)]
  exact (host_one (val_main_cst_15_apply (F := Ideal) _) _ _ fun k => by
    rw [show idx_main_v53 (ix1 r) k = ix2 r 0 from ext2 rfl (Subsingleton.elim (α := Fin 1) _ _)]
    exact ref52 H r)

theorem ref54 (H : Reals x0 x1 x2 x3 a b s p) (r j : Fin 2048) : (val_main_v54 (F := Ideal) x0 x1 x2 x3 (ix2 r j) : EReal) = ((slope (a r) (fun k => pull b s r k * p k) : ℝ) : EReal) :=
  by
  rw [val_main_v54_apply (F := Ideal) x0 x1 x2 x3 (ix2 r j), show idx_main_v54 (ix2 r j) = ix1 r from ext1 rfl]
  exact (ref53 H r)

theorem ref55 (H : Reals x0 x1 x2 x3 a b s p) (r j : Fin 2048) : (val_main_v55 (F := Ideal) x0 x1 x2 x3 (ix2 r j) : EReal) = (((slope (a r) (fun k => pull b s r k * p k)) * ((2) * (cen (a r) j)) : ℝ) : EReal) :=
  by
  rw [val_main_v55_apply (F := Ideal) x0 x1 x2 x3 (ix2 r j)]
  exact (e_mul (ref54 H r j) (ref9 H r j))

theorem ref56 (H : Reals x0 x1 x2 x3 a b s p) (r j : Fin 2048) : (val_main_v56 (F := Ideal) x0 x1 x2 x3 (ix2 r j) : EReal) = ((-((slope (a r) (fun k => pull b s r k * p k)) * ((2) * (cen (a r) j))) : ℝ) : EReal) :=
  by
  rw [val_main_v56_apply (F := Ideal) x0 x1 x2 x3 (ix2 r j)]
  exact (e_neg (ref55 H r j))

theorem ref57 (H : Reals x0 x1 x2 x3 a b s p) (r : Fin 2048) : (val_main_v57 (F := Ideal) x0 x1 x2 x3 (ix1 r) : EReal) = ((∑ k, (-((slope (a r) (fun k => pull b s r k * p k)) * ((2) * (cen (a r) k)))) : ℝ) : EReal) :=
  by
  rw [val_main_v57_apply x0 x1 x2 x3 (ix1 r)]
  exact (host_sum (val_main_cst_16_apply (F := Ideal) _) _ _ fun k => by
    rw [show idx_main_v57 (ix1 r) k = ix2 r k from ext2 rfl rfl]
    exact ref56 H r k)

theorem ref58 (H : Reals x0 x1 x2 x3 a b s p) (r : Fin 2048) : (val_main_v58 (F := Ideal) x0 x1 x2 x3 (ix2 r 0) : EReal) = ((∑ k, (-((slope (a r) (fun k => pull b s r k * p k)) * ((2) * (cen (a r) k)))) : ℝ) : EReal) :=
  by
  rw [val_main_v58_apply (F := Ideal) x0 x1 x2 x3 (ix2 r 0), show idx_main_v58 (ix2 r 0) = ix1 r from ext1 (Fin.ext (by show r.val * 1 + 0 = r.val; omega))]
  exact (ref57 H r)

theorem ref59 (H : Reals x0 x1 x2 x3 a b s p) (r j : Fin 2048) : (val_main_v59 (F := Ideal) x0 x1 x2 x3 (ix2 r j) : EReal) = (((((pull b s r j) * (p j)) * (scale (a r))) + ((slope (a r) (fun k => pull b s r k * p k)) * ((2) * (cen (a r) j))) : ℝ) : EReal) :=
  by
  rw [val_main_v59_apply (F := Ideal) x0 x1 x2 x3 (ix2 r j)]
  exact (e_add (ref46 H r j) (ref55 H r j))

theorem ref60 (H : Reals x0 x1 x2 x3 a b s p) (r : Fin 2048) : (val_main_v60 (F := Ideal) x0 x1 x2 x3 (ix2 r 0) : EReal) = (((∑ k, (-(((pull b s r k) * (p k)) * (scale (a r))))) + (∑ k, (-((slope (a r) (fun k => pull b s r k * p k)) * ((2) * (cen (a r) k))))) : ℝ) : EReal) :=
  by
  rw [val_main_v60_apply (F := Ideal) x0 x1 x2 x3 (ix2 r 0)]
  exact (e_add (ref50 H r) (ref58 H r))

theorem ref61 (H : Reals x0 x1 x2 x3 a b s p) (r : Fin 2048) : (val_main_v61 (F := Ideal)  (ix2 r 0) : EReal) = ((2048 : ℝ) : EReal) :=
  by
  rw [val_main_v61_apply (F := Ideal)  (ix2 r 0)]
  exact width_word

theorem ref62 (H : Reals x0 x1 x2 x3 a b s p) (r : Fin 2048) : (val_main_v62 (F := Ideal) x0 x1 x2 x3 (ix2 r 0) : EReal) = ((((∑ k, (-(((pull b s r k) * (p k)) * (scale (a r))))) + (∑ k, (-((slope (a r) (fun k => pull b s r k * p k)) * ((2) * (cen (a r) k)))))) / (2048) : ℝ) : EReal) :=
  by
  rw [val_main_v62_apply (F := Ideal) x0 x1 x2 x3 (ix2 r 0)]
  exact (e_div (ref60 H r) (ref61 H r) (by norm_num))

theorem ref63 (H : Reals x0 x1 x2 x3 a b s p) (r : Fin 2048) : (val_main_v63 (F := Ideal) x0 x1 x2 x3 (ix1 r) : EReal) = ((((∑ k, (-(((pull b s r k) * (p k)) * (scale (a r))))) + (∑ k, (-((slope (a r) (fun k => pull b s r k * p k)) * ((2) * (cen (a r) k)))))) / (2048) : ℝ) : EReal) :=
  by
  rw [val_main_v63_apply x0 x1 x2 x3 (ix1 r)]
  exact (host_one (val_main_cst_18_apply (F := Ideal) _) _ _ fun k => by
    rw [show idx_main_v63 (ix1 r) k = ix2 r 0 from ext2 rfl (Subsingleton.elim (α := Fin 1) _ _)]
    exact ref62 H r)

theorem ref64 (H : Reals x0 x1 x2 x3 a b s p) (r j : Fin 2048) : (val_main_v64 (F := Ideal) x0 x1 x2 x3 (ix2 r j) : EReal) = ((((∑ k, (-(((pull b s r k) * (p k)) * (scale (a r))))) + (∑ k, (-((slope (a r) (fun k => pull b s r k * p k)) * ((2) * (cen (a r) k)))))) / (2048) : ℝ) : EReal) :=
  by
  rw [val_main_v64_apply (F := Ideal) x0 x1 x2 x3 (ix2 r j), show idx_main_v64 (ix2 r j) = ix1 r from ext1 rfl]
  exact (ref63 H r)

theorem ref65 (H : Reals x0 x1 x2 x3 a b s p) (r j : Fin 2048) : (val_main_v65 (F := Ideal) x0 x1 x2 x3 (ix2 r j) : EReal) = ((whole (a r) (fun k => pull b s r k * p k) j : ℝ) : EReal) :=
  by
  rw [val_main_v65_apply (F := Ideal) x0 x1 x2 x3 (ix2 r j)]
  exact (e_add (ref59 H r j) (ref64 H r j))

theorem turn_eq (H : Reals x0 x1 x2 x3 a b s p) (r j : Fin 2048) : (val_main_v65 (F := Ideal) x0 x1 x2 x3 (ix2 r j) : EReal) = ((turn a b s p r j : ℝ) : EReal) :=
  (ref65 H r j).trans (congrArg _ (whole_eq _ _ _))

end reference

section precondition

open Cert.Pre_finite_norm

instance : Subsingleton S_.Idx := ⟨fun i j => funext fun a => a.elim0⟩

theorem real_of_pre [Cert.Pre_finite_norm.Facts] (x0 x1 x2 : FVec Ideal S2048x2048 .f32) (x3 : FVec Ideal S2048 .f32) (h : fn (F := Ideal) x0 x1 x2 x3 = fun _ => 1#1) :
    Reals x0 x1 x2 x3 (fun r j => (x0 (ix2 r j) : EReal).toReal) (fun r j => (x1 (ix2 r j) : EReal).toReal) (fun r j => (x2 (ix2 r j) : EReal).toReal) (fun j => (x3 (ix1 j) : EReal).toReal) := by
  have one (a b : BitVec 1) : IntOp.andi a b = 1#1 ↔ a = 1#1 ∧ b = 1#1 := by revert a b; decide
  have e := congrFun h (fun a => a.elim0)
  simp only [fn, fn_part1, andi, one] at e
  obtain ⟨⟨⟨e0, e1⟩, e2⟩, e3⟩ := e
  exact ⟨fun r j => finite_of_all _ _ (fun _ => high_word) _ _ _ _ e0 (ix2 r j), fun r j => finite_of_all _ _ (fun _ => high_word) _ _ _ _ e1 (ix2 r j), fun r j => finite_of_all _ _ (fun _ => high_word) _ _ _ _ e2 (ix2 r j), fun j => finite_of_all _ _ (fun _ => high_word) _ _ _ _ e3 (ix1 j)⟩

end precondition

theorem reference_frame : Cert.quiescent_RefLnBwdIdeal := fun m ρ _ =>
  (θ_run Cert.RefLnBwdIdeal.defs _ _).mono
    (fun r h => ⟨fun c => (h c).2.2.2.2, Idealize.ShloMosaic.sem_eq_zero_of_no_sems (by decide) r.2⟩)
    (Cert.RefLnBwdIdeal.Value.run (F := Ideal) m ρ)

theorem algebraic [Cert.Pre_finite_norm.Facts] : Cert.algebraic_LnBwdIdeal_RefLnBwdIdeal_pre_finite_norm := by
  intro m ρ m' ρ' hpre hagree
  have H := fun c => real_of_pre _ _ _ _ (hpre c)
  refine ⟨_, _, _, _, run ρ _ _ _ _ fun c => ⟨(H c).x, (H c).y, (H c).t, (H c).g⟩, ?_⟩
  refine (θ_run (Cert.RefLnBwdIdeal.defs (F := Ideal)) _ _).mono (fun _ h c => ?_) (Cert.RefLnBwdIdeal.Value.run (F := Ideal) m' ρ')
  obtain ⟨e0, e1, e2, e3⟩ := hagree c
  obtain ⟨h0, h1, h2, h3, hrest⟩ := h c
  refine ⟨h0.trans ?_, h1.trans ?_, h2.trans ?_, h3.trans ?_, hrest⟩
  · refine (Cert.RefLnBwdIdeal.Read.val_main_v65_eq _ _).trans ?_
    rw [e0, e1, e2, e3]
    funext y
    obtain ⟨r, j, rfl⟩ : ∃ (r j : Fin 2048), y = ix2 r j := ⟨_, _, eq_ix2 y⟩
    exact turn_eq (H c) r j
  · refine (Cert.RefLnBwdIdeal.Read.val_main_v66_eq _ _).trans ?_
    rw [e0, e1, e2, e3]
    funext y
    obtain ⟨r, j, rfl⟩ : ∃ (r j : Fin 2048), y = ix2 r j := ⟨_, _, eq_ix2 y⟩
    exact turn_eq (H c) r j
  · refine (Cert.RefLnBwdIdeal.Read.val_main_v41_eq _ _ _).trans ?_
    rw [e0, e1, e2]
    funext y
    obtain ⟨j, rfl⟩ : ∃ (j : Fin 2048), y = ix1 j := ⟨_, ValueIdx.eq_ix1 y⟩
    exact ref41 (H c) j
  · refine (Cert.RefLnBwdIdeal.Read.val_main_v35_eq _ _).trans ?_
    rw [e1, e2]
    funext y
    obtain ⟨j, rfl⟩ : ∃ (j : Fin 2048), y = ix1 j := ⟨_, ValueIdx.eq_ix1 y⟩
    exact ref35 (H c) j

end Cert.Proof.LnBwd

end
-- ==== Proof.LnBwdAlone.lean ====
/- The backward pass of a layer norm whose result the last sublayer alone takes on one device. The kernel's results and the
   reference's are the same where the arguments are finite. -/
module

public import proofs.«01_k».proof.Defs
public import proofs.«01_k».proof.Proof.Norm
public import proofs.«01_k».proof.Proof.Gen.LnBwdAloneIdeal.Frame
public import proofs.«01_k».proof.Proof.Gen.RefLnBwdAloneIdeal.Run
public import proofs.«01_k».proof.Proof.Gen.RefLnBwdAloneIdeal.Read
public import proofs.«01_k».proof.Proof.Gen.Pre_finite_norm_alone
public import Idealize.ShloMosaic.Lib.Pipeline.ValueKit
public import Idealize.ShloMosaic.Lib.ValueIdx
public import Idealize.ShloMosaic.Lib.KernelVsHost
public import Idealize.ShloMosaic.Lib.ReduceAll
public import Idealize.ShloMosaic.Lib.WritesUnit
public import Idealize.ShloMosaic.PureOps.Ideal.Laws
public import Idealize.ShloMosaic.Adequacy
public import Idealize.ShloMosaic.Init

@[expose] public section

noncomputable section

namespace Cert.Proof.LnBwdAlone

open Idealize.ShloMosaic hiding ix0 ix1 ix2 ix3 eq_ix2 eq_ix3
open Idealize.ShloMosaic.TcCoe Idealize.ShloMosaic.ValueIdx Idealize.SL.Sem Cert.Proof.Norm

section payloads

open Cert.LnBwdAloneIdeal Cert.LnBwdAloneIdeal.Gen

variable {x y t : FVec Ideal S256x2048 .f32} {g : FVec Ideal S1x2048 .f32} {a b s : Fin 256 → Fin 2048 → ℝ} {p : Fin 2048 → ℝ}

/-- The gradient of the norm's result, and that of what the norm takes. -/
abbrev pull {ι : Type} (b : ι → Fin 2048 → ℝ) (r : ι) (j : Fin 2048) : ℝ := b r j
abbrev turn {ι : Type} (a b : ι → Fin 2048 → ℝ) (p : Fin 2048 → ℝ) (r : ι) (j : Fin 2048) : ℝ := back (a r) (fun k => pull b r k * p k) j

theorem pay7_eq : k0_pay7 x = scaleCol x := rfl
theorem pay8_eq : k0_pay8 x = unitArr x := rfl
theorem pay9_eq : k0_pay9 y x g = backArr (scaleCol x) (unitArr x) (mulf y (tall g)) := rfl
theorem gain_step (u : FVec Ideal S1x2048 .f32) : k0_pay2 y (k0_pay8 x) u = addRows u (mulf y (k0_pay8 x)) := rfl
theorem shift_step (u : FVec Ideal S1x2048 .f32) : k0_pay3 y u = addRows u y := rfl

theorem grad_is (hx : Is x a) (hy : Is y b) (hg : IsLine g p) : Is (k0_pay9 y x g) (turn a b p) := by
  rw [pay9_eq]
  exact backArr_is hx (mul_is hy (tall_is hg))

theorem half_is (hx : Is x a) (hy : Is y b) (hg : IsLine g p) (r : Fin 256) (j : Fin 2048) : (k0_pay1 (F := Ideal) (k0_pay9 y x g) (ix2 r j) : EReal) = ((turn a b p r j : ℝ) : EReal) := grad_is hx hy hg r j

theorem gain_is (hx : Is x a) (hy : Is y b) {u : FVec Ideal S1x2048 .f32} {f : Fin 2048 → ℝ} (hu : IsLine u f) :
    IsLine (k0_pay2 y (k0_pay8 x) u) fun j => f j + ∑ r, pull b r j * normed (a r) j := by
  rw [gain_step, pay8_eq]
  exact addRows_is hu (mul_is hy (unitArr_is hx))

theorem shift_is (hy : Is y b) {u : FVec Ideal S1x2048 .f32} {f : Fin 2048 → ℝ} (hu : IsLine u f) :
    IsLine (k0_pay3 y u) fun j => f j + ∑ r, pull b r j := by
  rw [shift_step]
  exact addRows_is hu hy

end payloads

section kernel

open Cert.LnBwdAloneIdeal Cert.LnBwdAloneIdeal.Gen

variable (m : (ℓ : Loc nD τ sig) → Buf (Elt Ideal) ℓ)

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)

theorem steps (t : Fin cfg0.N) : t.val < 8 := t.isLt
/-- The row of the whole array in a step's block. -/
abbrev place (t : Fin cfg0.N) (r : Fin 256) : Fin 2048 := ⟨t.val * 256 + r.val, by have := steps t; omega⟩
/-- A step's rows. -/
abbrev cut (a : Fin 2048 → Fin 2048 → ℝ) (t : Fin cfg0.N) (r : Fin 256) : Fin 2048 → ℝ := a (place t r)

theorem gain_eq (c : Dev nD) : V m c main_v0 = shapeCast S1x2048 (m ((c : Thread nD τ).loc main_arg2) : FVec Ideal S2048 .f32) shapeCasts_S2048_S1x2048 := by
  show StableHlo.after hostOps0 (fun b => m (c, b)) (Proc.devRef .tc main_v0) = _
  simp only [hostOps0]
  after_results_simp <;> rfl

theorem line_apply (x : FVec Ideal S2048 .f32) (j : Fin 2048) : shapeCast S1x2048 x shapeCasts_S2048_S1x2048 (ix2 (0 : Fin 1) j) = x (ix1 j) :=
  shapeCast_apply _ _ _ _ (by rw [Shape.rowMajor_val_one, Shape.rowMajor_val_two]; show j.val = 0 * 2048 + j.val; omega)

theorem iblk0_apply (c : Dev nD) (t : Fin cfg0.N) (r : Fin 256) (j : Fin 2048) : iblk m c 0 t (ix2 r j) = m ((c : Thread nD τ).loc main_arg0) (ix2 (place t r) j) := by
  rw [← V_main_arg0 m c]; blk_simp [iblk]; congr 1; blk_ext [at0 t]
theorem iblk1_apply (c : Dev nD) (t : Fin cfg0.N) (r : Fin 256) (j : Fin 2048) : iblk m c 1 t (ix2 r j) = m ((c : Thread nD τ).loc main_arg1) (ix2 (place t r) j) := by
  rw [← V_main_arg1 m c]; blk_simp [iblk]; congr 1; blk_ext [at1 t]
theorem iblk2_apply (c : Dev nD) (t : Fin cfg0.N) (j : Fin 2048) : iblk m c 2 t (ix2 (0 : Fin 1) j) = m ((c : Thread nD τ).loc main_arg2) (ix1 j) := by
  refine Eq.trans ?_ (line_apply (m ((c : Thread nD τ).loc main_arg2)) j)
  rw [← gain_eq m c]; blk_simp [iblk]; congr 1; blk_ext [at2 t]

/-- The arguments of a device are these real numbers. -/
structure Given (c : Dev nD) (a b : Fin 2048 → Fin 2048 → ℝ) (p : Fin 2048 → ℝ) : Prop where
  x : ∀ r j, (m ((c : Thread nD τ).loc main_arg0) (ix2 r j) : EReal) = ((a r j : ℝ) : EReal)
  y : ∀ r j, (m ((c : Thread nD τ).loc main_arg1) (ix2 r j) : EReal) = ((b r j : ℝ) : EReal)
  g : ∀ j, (m ((c : Thread nD τ).loc main_arg2) (ix1 j) : EReal) = ((p j : ℝ) : EReal)

variable {m} {c : Dev nD} {a b : Fin 2048 → Fin 2048 → ℝ} {p : Fin 2048 → ℝ} (hm : Given m c a b p)
include hm

theorem is0 (t : Fin cfg0.N) : Is (iblk m c 0 t) (cut a t) := fun r j => (iblk0_apply m c t r j).trans (hm.x _ _)
theorem is1 (t : Fin cfg0.N) : Is (iblk m c 1 t) (cut b t) := fun r j => (iblk1_apply m c t r j).trans (hm.y _ _)
theorem is2 (t : Fin cfg0.N) : IsLine (iblk m c 2 t) p := fun j => (iblk2_apply m c t j).trans (hm.g _)

omit hm in
/-- What is left after the step: the gradient's rows in both types, and the two sums so far. -/
structure After (a b : Fin 2048 → Fin 2048 → ℝ) (p : Fin 2048 → ℝ) (t : Fin cfg0.N)
    (o : FVec Ideal S256x2048 .f32 × FVec Ideal S256x2048 .bf16 × FVec Ideal S8x2048 .f32 × FVec Ideal S8x2048 .f32) : Prop where
  grad : ∀ r j, (o.1 (ix2 r j) : EReal) = ((turn a b p (place t r) j : ℝ) : EReal)
  half : ∀ r j, (o.2.1 (ix2 r j) : EReal) = ((turn a b p (place t r) j : ℝ) : EReal)
  gain : ∀ j, (o.2.2.1 (ix2 0 j) : EReal) = ((upto (fun r => pull b r j * normed (a r) j) (t.val + 1) : ℝ) : EReal)
  shift : ∀ j, (o.2.2.2 (ix2 0 j) : EReal) = ((upto (fun r => pull b r j) (t.val + 1) : ℝ) : EReal)

set_option maxHeartbeats 1000000 in
theorem after_eq (n : ℕ) : ∀ h : n < cfg0.N, After a b p ⟨n, h⟩ (outsAt0 m c n h) := by
  induction n with
  | zero =>
    intro h
    have ht : (⟨0, h⟩ : Fin cfg0.N).val % 8 = 0 := rfl
    have e := outsAt0_A m c ⟨0, h⟩ ht
    refine (congrArg (After a b p ⟨0, h⟩) (show outsAt0 m c 0 h = _ from e)).mpr ?_
    frame_out
    refine ⟨grad_is (is0 hm _) (is1 hm _) (is2 hm _), half_is (is0 hm _) (is1 hm _) (is2 hm _), fun j => ?_, fun j => ?_⟩ <;> dsimp only
    · generalize hX : k0_pay2 (F := Ideal) _ _ _ = X
      refine (canon_line inb_S8x2048_S1x2048_0_0 X j _).trans ?_
      rw [← hX]
      refine (gain_is (is0 hm _) (is1 hm _) (f := fun _ => 0) (fun k => ?_) j).trans ?_
      · exact (readCov_line _ inb_S8x2048_S1x2048_0_0 inb_S8x2048_S8x2048_0_0 k0_pay4 k).trans nought_word
      rw [upto_succ _ _ (by omega)]; rfl
    · generalize hX : k0_pay3 (F := Ideal) _ _ = X
      refine (canon_line inb_S8x2048_S1x2048_0_0 X j _).trans ?_
      rw [← hX]
      refine (shift_is (is1 hm _) (f := fun _ => 0) (fun k => ?_) j).trans ?_
      · exact (readCov_line _ inb_S8x2048_S1x2048_0_0 inb_S8x2048_S8x2048_0_0 k0_pay5 k).trans nought_word
      rw [upto_succ _ _ (by omega)]; rfl
  | succ n ih =>
    intro h
    have hn : n + 1 < 8 := steps ⟨n + 1, h⟩
    have ht : ¬ (⟨n + 1, h⟩ : Fin cfg0.N).val % 8 = 0 := by show ¬ (n + 1) % 8 = 0; omega
    have e := outsAt0_B m c ⟨n + 1, h⟩ ht
    have old := ih (by omega)
    refine (congrArg (After a b p ⟨n + 1, h⟩) (show outsAt0 m c (n + 1) h = _ from e)).mpr ?_
    frame_out
    refine ⟨grad_is (is0 hm _) (is1 hm _) (is2 hm _), half_is (is0 hm _) (is1 hm _) (is2 hm _), fun j => ?_, fun j => ?_⟩ <;> dsimp only
    · generalize hX : k0_pay2 (F := Ideal) _ _ _ = X
      refine (writes_line _ inb_S8x2048_S1x2048_0_0 X j _ _).trans ?_
      rw [← hX]
      refine (gain_is (is0 hm _) (is1 hm _) (f := fun j => upto (fun r => pull b r j * normed (a r) j) (n + 1)) (fun k => ?_) j).trans ?_
      · exact Eq.trans (ld_line inb_S8x2048_S1x2048_0_0 _ k) (old.gain k)
      rw [upto_succ _ (n + 1) hn]
    · generalize hX : k0_pay3 (F := Ideal) _ _ = X
      refine (writes_line _ inb_S8x2048_S1x2048_0_0 X j _ _).trans ?_
      rw [← hX]
      refine (shift_is (is1 hm _) (f := fun j => upto (fun r => pull b r j) (n + 1)) (fun k => ?_) j).trans ?_
      · exact Eq.trans (ld_line inb_S8x2048_S1x2048_0_0 _ k) (old.shift k)
      rw [upto_succ _ (n + 1) hn]

theorem after_at (t : Fin cfg0.N) : After a b p t (outsAt0 m c t.val t.isLt) := after_eq hm t.val t.isLt

theorem final3 : (dats m 0 c).arrAt 3 cfg0.N = (fun y => ((turn a b p (y 0) (y 1) : ℝ) : EReal) : FVec Ideal S2048x2048 .f32) := by
  refine (dats m 0 c).arrAt_eq_of_covers 3 _ (by decide +kernel) fun t hf y => ?_
  blk_simp
  rw [after0_3]
  obtain ⟨r, j, rfl⟩ : ∃ (r : Fin 256) (j : Fin 2048), y = ix2 r j := ⟨_, _, eq_ix2 y⟩
  rw [show (win0_3.blk t).view.emb (ix2 r j) = ix2 (place t r) j from by blk_ext [at3 t]]
  exact (after_at hm t).grad r j

theorem final4 : (dats m 0 c).arrAt 4 cfg0.N = (fun y => ((turn a b p (y 0) (y 1) : ℝ) : EReal) : FVec Ideal S2048x2048 .bf16) := by
  refine (dats m 0 c).arrAt_eq_of_covers 4 _ (by decide +kernel) fun t hf y => ?_
  blk_simp
  rw [after0_4]
  obtain ⟨r, j, rfl⟩ : ∃ (r : Fin 256) (j : Fin 2048), y = ix2 r j := ⟨_, _, eq_ix2 y⟩
  rw [show (win0_4.blk t).view.emb (ix2 r j) = ix2 (place t r) j from by blk_ext [at4 t]]
  exact (after_at hm t).half r j

omit hm in
theorem last (t : Fin cfg0.N) (h : t.val % 8 = 7) : t = ⟨7, by decide⟩ := Fin.ext (by have := steps t; show t.val = 7; omega)

omit hm in
theorem final5 : (dats m 0 c).arrAt 5 cfg0.N = (outsAt0 m c 7 (by decide)).2.2.1 := by
  refine (dats m 0 c).arrAt_eq_of_covers 5 (outsAt0 m c 7 (by decide)).2.2.1 (by decide +kernel) fun t hf y => ?_
  have h7 := last t ((flush0_5 t).mp hf)
  blk_simp
  rw [after0_5]
  obtain ⟨r, j, rfl⟩ : ∃ (r : Fin 8) (j : Fin 2048), y = ix2 r j := ⟨_, _, eq_ix2 y⟩
  rw [show (win0_5.blk t).view.emb (ix2 r j) = ix2 r j from by blk_ext [at5 t]]
  subst h7
  rfl

omit hm in
theorem final6 : (dats m 0 c).arrAt 6 cfg0.N = (outsAt0 m c 7 (by decide)).2.2.2 := by
  refine (dats m 0 c).arrAt_eq_of_covers 6 (outsAt0 m c 7 (by decide)).2.2.2 (by decide +kernel) fun t hf y => ?_
  have h7 := last t ((flush0_6 t).mp hf)
  blk_simp
  rw [after0_6]
  obtain ⟨r, j, rfl⟩ : ∃ (r : Fin 8) (j : Fin 2048), y = ix2 r j := ⟨_, _, eq_ix2 y⟩
  rw [show (win0_6.blk t).view.emb (ix2 r j) = ix2 r j from by blk_ext [at6 t]]
  subst h7
  rfl

end kernel

section tail

open Cert.LnBwdAloneIdeal Cert.LnBwdAloneIdeal.Gen

variable (W : Valuation τ sig (Elt Ideal))

theorem tail_gain : StableHlo.after (hostOps1 (F := Ideal)) W (Proc.devRef .tc main_v3)
    = shapeCast S2048 (extractStridedSlice S1x2048 ![0, 0] (W (Proc.devRef .tc main_v1_2) : FVec Ideal S8x2048 .f32) slices_S8x2048_S1x2048_0_0) shapeCasts_S1x2048_S2048 := by
  simp only [hostOps1]
  after_results_simp <;> rfl

theorem tail_shift : StableHlo.after (hostOps1 (F := Ideal)) W (Proc.devRef .tc main_v5)
    = shapeCast S2048 (extractStridedSlice S1x2048 ![0, 0] (W (Proc.devRef .tc main_v1_3) : FVec Ideal S8x2048 .f32) slices_S8x2048_S1x2048_0_0) shapeCasts_S1x2048_S2048 := by
  simp only [hostOps1]
  after_results_simp <;> rfl

theorem first_row (x : FVec Ideal S8x2048 .f32) (j : Fin 2048) :
    shapeCast S2048 (extractStridedSlice S1x2048 ![0, 0] x slices_S8x2048_S1x2048_0_0) shapeCasts_S1x2048_S2048 (ix1 j) = x (ix2 0 j) := by
  refine (shapeCast_apply _ _ (ix1 j) (ix2 (0 : Fin 1) j) (by
    rw [Shape.rowMajor_val_one, Shape.rowMajor_val_two]; show 0 * 2048 + j.val = j.val; omega)).trans ?_
  unfold extractStridedSlice
  exact congrArg x (funext fun a => Fin.ext (by match a with
    | ⟨0, _⟩ => rfl
    | ⟨1, _⟩ => show 0 + j.val = j.val; omega))

variable {m : (ℓ : Loc nD τ sig) → Buf (Elt Ideal) ℓ} {c : Dev nD} {a b : Fin 2048 → Fin 2048 → ℝ} {p : Fin 2048 → ℝ} (hm : Given m c a b p)
include hm

theorem result_gain : Pipeline.afterTail₀ cfgs (dats m) 0 (V0 m) [hostOps1 (F := Ideal)] c main_v3
    = (fun i => ((∑ r, pull b r (i 0) * normed (a r) (i 0) : ℝ) : EReal) : FVec Ideal S2048 .f32) := by
  have e : Pipeline.withArrays spec0 c (V0 m c) (fun w => (dats m 0 c).arrAt w cfg0.N) (Proc.devRef .tc main_v1_2) = (dats m 0 c).arrAt 5 cfg0.N :=
    Pipeline.withArrays_arr spec0 launch0.win.arr_inj c (V0 m c) (fun w => (dats m 0 c).arrAt w cfg0.N) 5
  show StableHlo.after (hostOps1 (F := Ideal)) (Pipeline.withArrays spec0 c (V0 m c) (fun w => (dats m 0 c).arrAt w cfg0.N)) (Proc.devRef .tc main_v3) = _
  rw [tail_gain, e, final5]
  funext i
  obtain ⟨j, rfl⟩ : ∃ j : Fin 2048, i = ix1 j := ⟨_, ValueIdx.eq_ix1 i⟩
  refine (first_row _ j).trans (((after_eq hm 7 (by decide)).gain j).trans ?_)
  rw [show (7 + 1 : ℕ) = 8 from rfl, upto_all]

theorem result_shift : Pipeline.afterTail₀ cfgs (dats m) 0 (V0 m) [hostOps1 (F := Ideal)] c main_v5
    = (fun i => ((∑ r, pull b r (i 0) : ℝ) : EReal) : FVec Ideal S2048 .f32) := by
  have e : Pipeline.withArrays spec0 c (V0 m c) (fun w => (dats m 0 c).arrAt w cfg0.N) (Proc.devRef .tc main_v1_3) = (dats m 0 c).arrAt 6 cfg0.N :=
    Pipeline.withArrays_arr spec0 launch0.win.arr_inj c (V0 m c) (fun w => (dats m 0 c).arrAt w cfg0.N) 6
  show StableHlo.after (hostOps1 (F := Ideal)) (Pipeline.withArrays spec0 c (V0 m c) (fun w => (dats m 0 c).arrAt w cfg0.N)) (Proc.devRef .tc main_v5) = _
  rw [tail_shift, e, final6]
  funext i
  obtain ⟨j, rfl⟩ : ∃ j : Fin 2048, i = ix1 j := ⟨_, ValueIdx.eq_ix1 i⟩
  refine (first_row _ j).trans (((after_eq hm 7 (by decide)).shift j).trans ?_)
  rw [show (7 + 1 : ℕ) = 8 from rfl, upto_all]

omit hm in
/-- What the call leaves where the arguments are real numbers. -/
theorem run (ρ : Dev nD → PrngReg) (a b : Dev nD → Fin 2048 → Fin 2048 → ℝ) (p : Dev nD → Fin 2048 → ℝ) (hm : ∀ c, Given m c (a c) (b c) (p c)) :
    θ_run (defs (F := Ideal)) (onTc (τ := τ) (main (F := Ideal))) ⟨m, fun _ => 0, ρ⟩ fun r => ∀ c : Dev nD,
      r.2.mem ((c.tc : Thread nD τ).loc main_v1_0) = (fun y => ((turn (a c) (b c) (p c) (y 0) (y 1) : ℝ) : EReal) : FVec Ideal S2048x2048 .f32)
      ∧ r.2.mem ((c.tc : Thread nD τ).loc main_v1_1) = (fun y => ((turn (a c) (b c) (p c) (y 0) (y 1) : ℝ) : EReal) : FVec Ideal S2048x2048 .bf16)
      ∧ r.2.mem ((c.tc : Thread nD τ).loc main_v3) = (fun i => ((∑ r, pull (b c) r (i 0) * normed (a c r) (i 0) : ℝ) : EReal) : FVec Ideal S2048 .f32)
      ∧ r.2.mem ((c.tc : Thread nD τ).loc main_v5) = (fun i => ((∑ r, pull (b c) r (i 0) : ℝ) : EReal) : FVec Ideal S2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run (defs (F := Ideal)) _ _).mono (fun r hr c => ?_) (θ_run_and (run_main m ρ) (unchanged m ρ))
  obtain ⟨hr, hk⟩ := hr
  exact ⟨((hr c).1 3).trans (final3 (hm c)),
    ((hr c).1 4).trans (final4 (hm c)),
    ((hr c).2 main_v3 (by decide : main_v3 ∈ Pipeline.restRefs sig spec0)).trans (result_gain (hm c)),
    ((hr c).2 main_v5 (by decide : main_v5 ∈ Pipeline.restRefs sig spec0)).trans (result_shift (hm c)),
    hk c⟩

end tail

section reference

open Cert.RefLnBwdAloneIdeal Cert.RefLnBwdAloneIdeal.Read

variable {x0 x1 : FVec Ideal S2048x2048 .f32} {x2 : FVec Ideal S2048 .f32} {a b : Fin 2048 → Fin 2048 → ℝ} {p : Fin 2048 → ℝ}

/-- The arguments are these real numbers. -/
structure Reals (x0 x1 : FVec Ideal S2048x2048 .f32) (x2 : FVec Ideal S2048 .f32) (a b : Fin 2048 → Fin 2048 → ℝ) (p : Fin 2048 → ℝ) : Prop where
  x : ∀ r j, (x0 (ix2 r j) : EReal) = ((a r j : ℝ) : EReal)
  y : ∀ r j, (x1 (ix2 r j) : EReal) = ((b r j : ℝ) : EReal)
  g : ∀ j, (x2 (ix1 j) : EReal) = ((p j : ℝ) : EReal)

theorem ref1 (H : Reals x0 x1 x2 a b p) (r : Fin 2048) : (val_main_v1 (F := Ideal) x0 (ix1 r) : EReal) = ((∑ k, (a r k) : ℝ) : EReal) :=
  by
  rw [val_main_v1_apply x0 (ix1 r)]
  exact (host_sum (val_main_cst_0_apply (F := Ideal) _) _ _ fun k => by
    rw [show idx_main_v1 (ix1 r) k = ix2 r k from ext2 rfl rfl]
    exact H.x r k)

theorem ref2 (H : Reals x0 x1 x2 a b p) (r : Fin 2048) : (val_main_v2 (F := Ideal) x0 (ix2 r 0) : EReal) = ((∑ k, (a r k) : ℝ) : EReal) :=
  by
  rw [val_main_v2_apply (F := Ideal) x0 (ix2 r 0), show idx_main_v2 (ix2 r 0) = ix1 r from ext1 rfl]
  exact (ref1 H r)

theorem ref3 (H : Reals x0 x1 x2 a b p) (r : Fin 2048) : (val_main_v3 (F := Ideal)  (ix2 r 0) : EReal) = ((2048 : ℝ) : EReal) :=
  by
  rw [val_main_v3_apply (F := Ideal)  (ix2 r 0)]
  exact width_word

theorem ref4 (H : Reals x0 x1 x2 a b p) (r : Fin 2048) : (val_main_v4 (F := Ideal) x0 (ix2 r 0) : EReal) = ((mid (a r) : ℝ) : EReal) :=
  by
  rw [val_main_v4_apply (F := Ideal) x0 (ix2 r 0)]
  exact (e_div (ref2 H r) (ref3 H r) (by norm_num))

theorem ref5 (H : Reals x0 x1 x2 a b p) (r j : Fin 2048) : (val_main_v5 (F := Ideal) x0 (ix2 r j) : EReal) = ((mid (a r) : ℝ) : EReal) :=
  by
  rw [val_main_v5_apply (F := Ideal) x0 (ix2 r j), show idx_main_v5 (ix2 r j) = ix2 r 0 from ext2 rfl rfl]
  exact (ref4 H r)

theorem ref6 (H : Reals x0 x1 x2 a b p) (r j : Fin 2048) : (val_main_v6 (F := Ideal) x0 (ix2 r j) : EReal) = ((cen (a r) j : ℝ) : EReal) :=
  by
  rw [val_main_v6_apply (F := Ideal) x0 (ix2 r j)]
  exact (e_sub (H.x r j) (ref5 H r j))

theorem ref7 (H : Reals x0 x1 x2 a b p) (r j : Fin 2048) : (val_main_v7 (F := Ideal) x0 (ix2 r j) : EReal) = (((cen (a r) j) * (cen (a r) j) : ℝ) : EReal) :=
  by
  rw [val_main_v7_apply (F := Ideal) x0 (ix2 r j)]
  exact (e_mul (ref6 H r j) (ref6 H r j))

theorem ref8 (H : Reals x0 x1 x2 a b p) (r j : Fin 2048) : (val_main_v8 (F := Ideal)  (ix2 r j) : EReal) = ((2 : ℝ) : EReal) :=
  by
  rw [val_main_v8_apply (F := Ideal)  (ix2 r j)]
  exact two_word

theorem ref9 (H : Reals x0 x1 x2 a b p) (r j : Fin 2048) : (val_main_v9 (F := Ideal) x0 (ix2 r j) : EReal) = (((2) * (cen (a r) j) : ℝ) : EReal) :=
  by
  rw [val_main_v9_apply (F := Ideal) x0 (ix2 r j)]
  exact (e_mul (ref8 H r j) (ref6 H r j))

theorem ref10 (H : Reals x0 x1 x2 a b p) (r : Fin 2048) : (val_main_v10 (F := Ideal) x0 (ix1 r) : EReal) = ((∑ k, ((cen (a r) k) * (cen (a r) k)) : ℝ) : EReal) :=
  by
  rw [val_main_v10_apply x0 (ix1 r)]
  exact (host_sum (val_main_cst_3_apply (F := Ideal) _) _ _ fun k => by
    rw [show idx_main_v10 (ix1 r) k = ix2 r k from ext2 rfl rfl]
    exact ref7 H r k)

theorem ref11 (H : Reals x0 x1 x2 a b p) (r : Fin 2048) : (val_main_v11 (F := Ideal) x0 (ix2 r 0) : EReal) = ((∑ k, ((cen (a r) k) * (cen (a r) k)) : ℝ) : EReal) :=
  by
  rw [val_main_v11_apply (F := Ideal) x0 (ix2 r 0), show idx_main_v11 (ix2 r 0) = ix1 r from ext1 rfl]
  exact (ref10 H r)

theorem ref12 (H : Reals x0 x1 x2 a b p) (r : Fin 2048) : (val_main_v12 (F := Ideal)  (ix2 r 0) : EReal) = ((2048 : ℝ) : EReal) :=
  by
  rw [val_main_v12_apply (F := Ideal)  (ix2 r 0)]
  exact width_word

theorem ref13 (H : Reals x0 x1 x2 a b p) (r : Fin 2048) : (val_main_v13 (F := Ideal) x0 (ix2 r 0) : EReal) = ((spread (a r) : ℝ) : EReal) :=
  by
  rw [val_main_v13_apply (F := Ideal) x0 (ix2 r 0)]
  exact (e_div (ref11 H r) (ref12 H r) (by norm_num))

theorem ref14 (H : Reals x0 x1 x2 a b p) (r j : Fin 2048) : (val_main_v14 (F := Ideal) x0 (ix2 r j) : EReal) = ((mid (a r) : ℝ) : EReal) :=
  by
  rw [val_main_v14_apply (F := Ideal) x0 (ix2 r j), show idx_main_v14 (ix2 r j) = ix2 r 0 from ext2 rfl rfl]
  exact (ref4 H r)

theorem ref15 (H : Reals x0 x1 x2 a b p) (r j : Fin 2048) : (val_main_v15 (F := Ideal) x0 (ix2 r j) : EReal) = ((cen (a r) j : ℝ) : EReal) :=
  by
  rw [val_main_v15_apply (F := Ideal) x0 (ix2 r j)]
  exact (e_sub (H.x r j) (ref14 H r j))

theorem ref16 (H : Reals x0 x1 x2 a b p) (r : Fin 2048) : (val_main_v16 (F := Ideal)  (ix2 r 0) : EReal) = ((eps : ℝ) : EReal) :=
  by
  rw [val_main_v16_apply (F := Ideal)  (ix2 r 0)]
  exact eps_word

theorem ref17 (H : Reals x0 x1 x2 a b p) (r : Fin 2048) : (val_main_v17 (F := Ideal) x0 (ix2 r 0) : EReal) = ((spread (a r) + eps : ℝ) : EReal) :=
  by
  rw [val_main_v17_apply (F := Ideal) x0 (ix2 r 0)]
  exact (e_add (ref13 H r) (ref16 H r))

theorem ref18 (H : Reals x0 x1 x2 a b p) (r : Fin 2048) : (val_main_v18 (F := Ideal) x0 (ix2 r 0) : EReal) = ((scale (a r) : ℝ) : EReal) :=
  by
  rw [val_main_v18_apply (F := Ideal) x0 (ix2 r 0)]
  exact (e_rsqrt (ref17 H r) (under_pos _))

theorem ref19 (H : Reals x0 x1 x2 a b p) (r : Fin 2048) : (val_main_v19 (F := Ideal) x0 (ix2 r 0) : EReal) = (((scale (a r)) / (spread (a r) + eps) : ℝ) : EReal) :=
  by
  rw [val_main_v19_apply (F := Ideal) x0 (ix2 r 0)]
  exact (e_div (ref18 H r) (ref17 H r) (under_pos _).ne')

theorem ref20 (H : Reals x0 x1 x2 a b p) (r : Fin 2048) : (val_main_v20 (F := Ideal)  (ix2 r 0) : EReal) = ((-(1 / 2) : ℝ) : EReal) :=
  by
  rw [val_main_v20_apply (F := Ideal)  (ix2 r 0)]
  exact less_word

theorem ref21 (H : Reals x0 x1 x2 a b p) (r : Fin 2048) : (val_main_v21 (F := Ideal) x0 (ix2 r 0) : EReal) = (((-(1 / 2)) * ((scale (a r)) / (spread (a r) + eps)) : ℝ) : EReal) :=
  by
  rw [val_main_v21_apply (F := Ideal) x0 (ix2 r 0)]
  exact (e_mul (ref20 H r) (ref19 H r))

theorem ref22 (H : Reals x0 x1 x2 a b p) (r j : Fin 2048) : (val_main_v22 (F := Ideal) x0 (ix2 r j) : EReal) = ((scale (a r) : ℝ) : EReal) :=
  by
  rw [val_main_v22_apply (F := Ideal) x0 (ix2 r j), show idx_main_v22 (ix2 r j) = ix2 r 0 from ext2 rfl rfl]
  exact (ref18 H r)

theorem ref23 (H : Reals x0 x1 x2 a b p) (r j : Fin 2048) : (val_main_v23 (F := Ideal) x0 (ix2 r j) : EReal) = ((normed (a r) j : ℝ) : EReal) :=
  by
  rw [val_main_v23_apply (F := Ideal) x0 (ix2 r j)]
  exact (e_mul (ref15 H r j) (ref22 H r j))

theorem ref24 (H : Reals x0 x1 x2 a b p) (r : Fin 2048) : (val_main_v24 (F := Ideal) x2 (ix2 0 r) : EReal) = ((p r : ℝ) : EReal) :=
  by
  rw [val_main_v24_apply (F := Ideal) x2 (ix2 0 r), show idx_main_v24 (ix2 0 r) = ix1 r from ext1 rfl]
  exact (H.g r)

theorem ref30 (H : Reals x0 x1 x2 a b p) (r j : Fin 2048) : (val_main_v30 (F := Ideal) x1 (ix2 r j) : EReal) = ((pull b r j : ℝ) : EReal) :=
  by
  rw [val_main_v30_apply (F := Ideal) x1 (ix2 r j), show idx_main_v30 (ix2 r j) = ix2 r j from ext2 (Fin.ext (by show (r.val * 2048 + j.val) / 2048 = r.val; omega)) (Fin.ext (by show (r.val * 2048 + j.val) % 2048 = j.val; omega))]
  exact (H.y r j)

theorem ref31 (H : Reals x0 x1 x2 a b p) (r : Fin 2048) : (val_main_v31 (F := Ideal) x1 (ix1 r) : EReal) = ((∑ k, (b k r) : ℝ) : EReal) :=
  by
  rw [val_main_v31_apply x1 (ix1 r)]
  exact (host_sum (val_main_cst_7_apply (F := Ideal) _) _ _ fun k => by
    rw [show idx_main_v31 (ix1 r) k = ix2 k r from ext2 rfl rfl]
    exact H.y k r)

theorem ref32 (H : Reals x0 x1 x2 a b p) (r : Fin 2048) : (val_main_v32 (F := Ideal) x1 (ix2 0 r) : EReal) = ((∑ k, (b k r) : ℝ) : EReal) :=
  by
  rw [val_main_v32_apply (F := Ideal) x1 (ix2 0 r), show idx_main_v32 (ix2 0 r) = ix1 r from ext1 (Fin.ext (by show 0 * 2048 + r.val = r.val; omega))]
  exact (ref31 H r)

theorem ref33 (H : Reals x0 x1 x2 a b p) (r : Fin 2048) : (val_main_v33 (F := Ideal) x1 (ix1 r) : EReal) = ((∑ k, (b k r) : ℝ) : EReal) :=
  by
  rw [val_main_v33_apply x1 (ix1 r)]
  exact (host_one (val_main_cst_8_apply (F := Ideal) _) _ _ fun k => by
    rw [show idx_main_v33 (ix1 r) k = ix2 0 r from ext2 (Subsingleton.elim (α := Fin 1) _ _) rfl]
    exact ref32 H r)

theorem ref34 (H : Reals x0 x1 x2 a b p) (r j : Fin 2048) : (val_main_v34 (F := Ideal) x0 x1 (ix2 r j) : EReal) = ((pull b r j * normed (a r) j : ℝ) : EReal) :=
  by
  rw [val_main_v34_apply (F := Ideal) x0 x1 (ix2 r j)]
  exact Eq.trans (e_mul (ref23 H r j) (ref30 H r j)) (congrArg _ (mul_comm _ _))

theorem ref35 (H : Reals x0 x1 x2 a b p) (r : Fin 2048) : (val_main_v35 (F := Ideal) x0 x1 (ix1 r) : EReal) = ((∑ k, (pull b k r * normed (a k) r) : ℝ) : EReal) :=
  by
  rw [val_main_v35_apply x0 x1 (ix1 r)]
  exact (host_sum (val_main_cst_9_apply (F := Ideal) _) _ _ fun k => by
    rw [show idx_main_v35 (ix1 r) k = ix2 k r from ext2 rfl rfl]
    exact ref34 H k r)

theorem ref36 (H : Reals x0 x1 x2 a b p) (r : Fin 2048) : (val_main_v36 (F := Ideal) x0 x1 (ix2 0 r) : EReal) = ((∑ k, (pull b k r * normed (a k) r) : ℝ) : EReal) :=
  by
  rw [val_main_v36_apply (F := Ideal) x0 x1 (ix2 0 r), show idx_main_v36 (ix2 0 r) = ix1 r from ext1 (Fin.ext (by show 0 * 2048 + r.val = r.val; omega))]
  exact (ref35 H r)

theorem ref37 (H : Reals x0 x1 x2 a b p) (r j : Fin 2048) : (val_main_v37 (F := Ideal) x2 (ix2 r j) : EReal) = ((p j : ℝ) : EReal) :=
  by
  rw [val_main_v37_apply (F := Ideal) x2 (ix2 r j), show idx_main_v37 (ix2 r j) = ix2 0 j from ext2 rfl rfl]
  exact (ref24 H j)

theorem ref38 (H : Reals x0 x1 x2 a b p) (r j : Fin 2048) : (val_main_v38 (F := Ideal) x1 x2 (ix2 r j) : EReal) = (((pull b r j) * (p j) : ℝ) : EReal) :=
  by
  rw [val_main_v38_apply (F := Ideal) x1 x2 (ix2 r j)]
  exact (e_mul (ref30 H r j) (ref37 H r j))

theorem ref39 (H : Reals x0 x1 x2 a b p) (r : Fin 2048) : (val_main_v39 (F := Ideal) x0 x1 (ix1 r) : EReal) = ((∑ k, (pull b k r * normed (a k) r) : ℝ) : EReal) :=
  by
  rw [val_main_v39_apply x0 x1 (ix1 r)]
  exact (host_one (val_main_cst_10_apply (F := Ideal) _) _ _ fun k => by
    rw [show idx_main_v39 (ix1 r) k = ix2 0 r from ext2 (Subsingleton.elim (α := Fin 1) _ _) rfl]
    exact ref36 H r)

theorem ref40 (H : Reals x0 x1 x2 a b p) (r j : Fin 2048) : (val_main_v40 (F := Ideal) x0 x1 x2 (ix2 r j) : EReal) = (((cen (a r) j) * ((pull b r j) * (p j)) : ℝ) : EReal) :=
  by
  rw [val_main_v40_apply (F := Ideal) x0 x1 x2 (ix2 r j)]
  exact (e_mul (ref15 H r j) (ref38 H r j))

theorem ref41 (H : Reals x0 x1 x2 a b p) (r : Fin 2048) : (val_main_v41 (F := Ideal) x0 x1 x2 (ix1 r) : EReal) = ((∑ k, ((cen (a r) k) * ((pull b r k) * (p k))) : ℝ) : EReal) :=
  by
  rw [val_main_v41_apply x0 x1 x2 (ix1 r)]
  exact (host_sum (val_main_cst_11_apply (F := Ideal) _) _ _ fun k => by
    rw [show idx_main_v41 (ix1 r) k = ix2 r k from ext2 rfl rfl]
    exact ref40 H r k)

theorem ref42 (H : Reals x0 x1 x2 a b p) (r : Fin 2048) : (val_main_v42 (F := Ideal) x0 x1 x2 (ix2 r 0) : EReal) = ((∑ k, ((cen (a r) k) * ((pull b r k) * (p k))) : ℝ) : EReal) :=
  by
  rw [val_main_v42_apply (F := Ideal) x0 x1 x2 (ix2 r 0), show idx_main_v42 (ix2 r 0) = ix1 r from ext1 (Fin.ext (by show r.val * 1 + 0 = r.val; omega))]
  exact (ref41 H r)

theorem ref43 (H : Reals x0 x1 x2 a b p) (r j : Fin 2048) : (val_main_v43 (F := Ideal) x0 (ix2 r j) : EReal) = ((scale (a r) : ℝ) : EReal) :=
  by
  rw [val_main_v43_apply (F := Ideal) x0 (ix2 r j), show idx_main_v43 (ix2 r j) = ix2 r 0 from ext2 rfl rfl]
  exact (ref18 H r)

theorem ref44 (H : Reals x0 x1 x2 a b p) (r j : Fin 2048) : (val_main_v44 (F := Ideal) x0 x1 x2 (ix2 r j) : EReal) = ((((pull b r j) * (p j)) * (scale (a r)) : ℝ) : EReal) :=
  by
  rw [val_main_v44_apply (F := Ideal) x0 x1 x2 (ix2 r j)]
  exact (e_mul (ref38 H r j) (ref43 H r j))

theorem ref45 (H : Reals x0 x1 x2 a b p) (r : Fin 2048) : (val_main_v45 (F := Ideal) x0 x1 x2 (ix2 r 0) : EReal) = (((∑ k, ((cen (a r) k) * ((pull b r k) * (p k)))) * ((-(1 / 2)) * ((scale (a r)) / (spread (a r) + eps))) : ℝ) : EReal) :=
  by
  rw [val_main_v45_apply (F := Ideal) x0 x1 x2 (ix2 r 0)]
  exact (e_mul (ref42 H r) (ref21 H r))

theorem ref46 (H : Reals x0 x1 x2 a b p) (r j : Fin 2048) : (val_main_v46 (F := Ideal) x0 x1 x2 (ix2 r j) : EReal) = ((-(((pull b r j) * (p j)) * (scale (a r))) : ℝ) : EReal) :=
  by
  rw [val_main_v46_apply (F := Ideal) x0 x1 x2 (ix2 r j)]
  exact (e_neg (ref44 H r j))

theorem ref47 (H : Reals x0 x1 x2 a b p) (r : Fin 2048) : (val_main_v47 (F := Ideal) x0 x1 x2 (ix1 r) : EReal) = ((∑ k, (-(((pull b r k) * (p k)) * (scale (a r)))) : ℝ) : EReal) :=
  by
  rw [val_main_v47_apply x0 x1 x2 (ix1 r)]
  exact (host_sum (val_main_cst_12_apply (F := Ideal) _) _ _ fun k => by
    rw [show idx_main_v47 (ix1 r) k = ix2 r k from ext2 rfl rfl]
    exact ref46 H r k)

theorem ref48 (H : Reals x0 x1 x2 a b p) (r : Fin 2048) : (val_main_v48 (F := Ideal) x0 x1 x2 (ix2 r 0) : EReal) = ((∑ k, (-(((pull b r k) * (p k)) * (scale (a r)))) : ℝ) : EReal) :=
  by
  rw [val_main_v48_apply (F := Ideal) x0 x1 x2 (ix2 r 0), show idx_main_v48 (ix2 r 0) = ix1 r from ext1 (Fin.ext (by show r.val * 1 + 0 = r.val; omega))]
  exact (ref47 H r)

theorem ref49 (H : Reals x0 x1 x2 a b p) (r : Fin 2048) : (val_main_v49 (F := Ideal)  (ix2 r 0) : EReal) = ((2048 : ℝ) : EReal) :=
  by
  rw [val_main_v49_apply (F := Ideal)  (ix2 r 0)]
  exact width_word

theorem ref50 (H : Reals x0 x1 x2 a b p) (r : Fin 2048) : (val_main_v50 (F := Ideal) x0 x1 x2 (ix2 r 0) : EReal) = ((slope (a r) (fun k => pull b r k * p k) : ℝ) : EReal) :=
  by
  rw [val_main_v50_apply (F := Ideal) x0 x1 x2 (ix2 r 0)]
  exact (e_div (ref45 H r) (ref49 H r) (by norm_num))

theorem ref51 (H : Reals x0 x1 x2 a b p) (r : Fin 2048) : (val_main_v51 (F := Ideal) x0 x1 x2 (ix1 r) : EReal) = ((slope (a r) (fun k => pull b r k * p k) : ℝ) : EReal) :=
  by
  rw [val_main_v51_apply x0 x1 x2 (ix1 r)]
  exact (host_one (val_main_cst_14_apply (F := Ideal) _) _ _ fun k => by
    rw [show idx_main_v51 (ix1 r) k = ix2 r 0 from ext2 rfl (Subsingleton.elim (α := Fin 1) _ _)]
    exact ref50 H r)

theorem ref52 (H : Reals x0 x1 x2 a b p) (r j : Fin 2048) : (val_main_v52 (F := Ideal) x0 x1 x2 (ix2 r j) : EReal) = ((slope (a r) (fun k => pull b r k * p k) : ℝ) : EReal) :=
  by
  rw [val_main_v52_apply (F := Ideal) x0 x1 x2 (ix2 r j), show idx_main_v52 (ix2 r j) = ix1 r from ext1 rfl]
  exact (ref51 H r)

theorem ref53 (H : Reals x0 x1 x2 a b p) (r j : Fin 2048) : (val_main_v53 (F := Ideal) x0 x1 x2 (ix2 r j) : EReal) = (((slope (a r) (fun k => pull b r k * p k)) * ((2) * (cen (a r) j)) : ℝ) : EReal) :=
  by
  rw [val_main_v53_apply (F := Ideal) x0 x1 x2 (ix2 r j)]
  exact (e_mul (ref52 H r j) (ref9 H r j))

theorem ref54 (H : Reals x0 x1 x2 a b p) (r j : Fin 2048) : (val_main_v54 (F := Ideal) x0 x1 x2 (ix2 r j) : EReal) = ((-((slope (a r) (fun k => pull b r k * p k)) * ((2) * (cen (a r) j))) : ℝ) : EReal) :=
  by
  rw [val_main_v54_apply (F := Ideal) x0 x1 x2 (ix2 r j)]
  exact (e_neg (ref53 H r j))

theorem ref55 (H : Reals x0 x1 x2 a b p) (r : Fin 2048) : (val_main_v55 (F := Ideal) x0 x1 x2 (ix1 r) : EReal) = ((∑ k, (-((slope (a r) (fun k => pull b r k * p k)) * ((2) * (cen (a r) k)))) : ℝ) : EReal) :=
  by
  rw [val_main_v55_apply x0 x1 x2 (ix1 r)]
  exact (host_sum (val_main_cst_15_apply (F := Ideal) _) _ _ fun k => by
    rw [show idx_main_v55 (ix1 r) k = ix2 r k from ext2 rfl rfl]
    exact ref54 H r k)

theorem ref56 (H : Reals x0 x1 x2 a b p) (r : Fin 2048) : (val_main_v56 (F := Ideal) x0 x1 x2 (ix2 r 0) : EReal) = ((∑ k, (-((slope (a r) (fun k => pull b r k * p k)) * ((2) * (cen (a r) k)))) : ℝ) : EReal) :=
  by
  rw [val_main_v56_apply (F := Ideal) x0 x1 x2 (ix2 r 0), show idx_main_v56 (ix2 r 0) = ix1 r from ext1 (Fin.ext (by show r.val * 1 + 0 = r.val; omega))]
  exact (ref55 H r)

theorem ref57 (H : Reals x0 x1 x2 a b p) (r j : Fin 2048) : (val_main_v57 (F := Ideal) x0 x1 x2 (ix2 r j) : EReal) = (((((pull b r j) * (p j)) * (scale (a r))) + ((slope (a r) (fun k => pull b r k * p k)) * ((2) * (cen (a r) j))) : ℝ) : EReal) :=
  by
  rw [val_main_v57_apply (F := Ideal) x0 x1 x2 (ix2 r j)]
  exact (e_add (ref44 H r j) (ref53 H r j))

theorem ref58 (H : Reals x0 x1 x2 a b p) (r : Fin 2048) : (val_main_v58 (F := Ideal) x0 x1 x2 (ix2 r 0) : EReal) = (((∑ k, (-(((pull b r k) * (p k)) * (scale (a r))))) + (∑ k, (-((slope (a r) (fun k => pull b r k * p k)) * ((2) * (cen (a r) k))))) : ℝ) : EReal) :=
  by
  rw [val_main_v58_apply (F := Ideal) x0 x1 x2 (ix2 r 0)]
  exact (e_add (ref48 H r) (ref56 H r))

theorem ref59 (H : Reals x0 x1 x2 a b p) (r : Fin 2048) : (val_main_v59 (F := Ideal)  (ix2 r 0) : EReal) = ((2048 : ℝ) : EReal) :=
  by
  rw [val_main_v59_apply (F := Ideal)  (ix2 r 0)]
  exact width_word

theorem ref60 (H : Reals x0 x1 x2 a b p) (r : Fin 2048) : (val_main_v60 (F := Ideal) x0 x1 x2 (ix2 r 0) : EReal) = ((((∑ k, (-(((pull b r k) * (p k)) * (scale (a r))))) + (∑ k, (-((slope (a r) (fun k => pull b r k * p k)) * ((2) * (cen (a r) k)))))) / (2048) : ℝ) : EReal) :=
  by
  rw [val_main_v60_apply (F := Ideal) x0 x1 x2 (ix2 r 0)]
  exact (e_div (ref58 H r) (ref59 H r) (by norm_num))

theorem ref61 (H : Reals x0 x1 x2 a b p) (r : Fin 2048) : (val_main_v61 (F := Ideal) x0 x1 x2 (ix1 r) : EReal) = ((((∑ k, (-(((pull b r k) * (p k)) * (scale (a r))))) + (∑ k, (-((slope (a r) (fun k => pull b r k * p k)) * ((2) * (cen (a r) k)))))) / (2048) : ℝ) : EReal) :=
  by
  rw [val_main_v61_apply x0 x1 x2 (ix1 r)]
  exact (host_one (val_main_cst_17_apply (F := Ideal) _) _ _ fun k => by
    rw [show idx_main_v61 (ix1 r) k = ix2 r 0 from ext2 rfl (Subsingleton.elim (α := Fin 1) _ _)]
    exact ref60 H r)

theorem ref62 (H : Reals x0 x1 x2 a b p) (r j : Fin 2048) : (val_main_v62 (F := Ideal) x0 x1 x2 (ix2 r j) : EReal) = ((((∑ k, (-(((pull b r k) * (p k)) * (scale (a r))))) + (∑ k, (-((slope (a r) (fun k => pull b r k * p k)) * ((2) * (cen (a r) k)))))) / (2048) : ℝ) : EReal) :=
  by
  rw [val_main_v62_apply (F := Ideal) x0 x1 x2 (ix2 r j), show idx_main_v62 (ix2 r j) = ix1 r from ext1 rfl]
  exact (ref61 H r)

theorem ref63 (H : Reals x0 x1 x2 a b p) (r j : Fin 2048) : (val_main_v63 (F := Ideal) x0 x1 x2 (ix2 r j) : EReal) = ((whole (a r) (fun k => pull b r k * p k) j : ℝ) : EReal) :=
  by
  rw [val_main_v63_apply (F := Ideal) x0 x1 x2 (ix2 r j)]
  exact (e_add (ref57 H r j) (ref62 H r j))

theorem turn_eq (H : Reals x0 x1 x2 a b p) (r j : Fin 2048) : (val_main_v63 (F := Ideal) x0 x1 x2 (ix2 r j) : EReal) = ((turn a b p r j : ℝ) : EReal) :=
  (ref63 H r j).trans (congrArg _ (whole_eq _ _ _))

end reference

section precondition

open Cert.Pre_finite_norm_alone

instance : Subsingleton S_.Idx := ⟨fun i j => funext fun a => a.elim0⟩

theorem real_of_pre [Cert.Pre_finite_norm_alone.Facts] (x0 x1 : FVec Ideal S2048x2048 .f32) (x2 : FVec Ideal S2048 .f32) (h : fn (F := Ideal) x0 x1 x2 = fun _ => 1#1) :
    Reals x0 x1 x2 (fun r j => (x0 (ix2 r j) : EReal).toReal) (fun r j => (x1 (ix2 r j) : EReal).toReal) (fun j => (x2 (ix1 j) : EReal).toReal) := by
  have one (a b : BitVec 1) : IntOp.andi a b = 1#1 ↔ a = 1#1 ∧ b = 1#1 := by revert a b; decide
  have e := congrFun h (fun a => a.elim0)
  simp only [fn, andi, one] at e
  obtain ⟨⟨e0, e1⟩, e2⟩ := e
  exact ⟨fun r j => finite_of_all _ _ (fun _ => high_word) _ _ _ _ e0 (ix2 r j), fun r j => finite_of_all _ _ (fun _ => high_word) _ _ _ _ e1 (ix2 r j), fun j => finite_of_all _ _ (fun _ => high_word) _ _ _ _ e2 (ix1 j)⟩

end precondition

theorem reference_frame : Cert.quiescent_RefLnBwdAloneIdeal := fun m ρ _ =>
  (θ_run Cert.RefLnBwdAloneIdeal.defs _ _).mono
    (fun r h => ⟨fun c => (h c).2.2.2.2, Idealize.ShloMosaic.sem_eq_zero_of_no_sems (by decide) r.2⟩)
    (Cert.RefLnBwdAloneIdeal.Value.run (F := Ideal) m ρ)

theorem algebraic [Cert.Pre_finite_norm_alone.Facts] : Cert.algebraic_LnBwdAloneIdeal_RefLnBwdAloneIdeal_pre_finite_norm_alone := by
  intro m ρ m' ρ' hpre hagree
  have H := fun c => real_of_pre _ _ _ (hpre c)
  refine ⟨_, _, _, _, run ρ _ _ _ fun c => ⟨(H c).x, (H c).y, (H c).g⟩, ?_⟩
  refine (θ_run (Cert.RefLnBwdAloneIdeal.defs (F := Ideal)) _ _).mono (fun _ h c => ?_) (Cert.RefLnBwdAloneIdeal.Value.run (F := Ideal) m' ρ')
  obtain ⟨e0, e1, e2⟩ := hagree c
  obtain ⟨h0, h1, h2, h3, hrest⟩ := h c
  refine ⟨h0.trans ?_, h1.trans ?_, h2.trans ?_, h3.trans ?_, hrest⟩
  · refine (Cert.RefLnBwdAloneIdeal.Read.val_main_v63_eq _ _).trans ?_
    rw [e0, e1, e2]
    funext y
    obtain ⟨r, j, rfl⟩ : ∃ (r j : Fin 2048), y = ix2 r j := ⟨_, _, eq_ix2 y⟩
    exact turn_eq (H c) r j
  · refine (Cert.RefLnBwdAloneIdeal.Read.val_main_v64_eq _ _).trans ?_
    rw [e0, e1, e2]
    funext y
    obtain ⟨r, j, rfl⟩ : ∃ (r j : Fin 2048), y = ix2 r j := ⟨_, _, eq_ix2 y⟩
    exact turn_eq (H c) r j
  · refine (Cert.RefLnBwdAloneIdeal.Read.val_main_v39_eq _ _).trans ?_
    rw [e0, e1]
    funext y
    obtain ⟨j, rfl⟩ : ∃ (j : Fin 2048), y = ix1 j := ⟨_, ValueIdx.eq_ix1 y⟩
    exact ref39 (H c) j
  · refine (Cert.RefLnBwdAloneIdeal.Read.val_main_v33_eq _).trans ?_
    rw [e1]
    funext y
    obtain ⟨j, rfl⟩ : ∃ (j : Fin 2048), y = ix1 j := ⟨_, ValueIdx.eq_ix1 y⟩
    exact ref33 (H c) j

end Cert.Proof.LnBwdAlone

end
-- ==== Proof.LnFwd.lean ====
/- A layer norm of the forward pass with the residual sum before it, on one device. The kernel's results and the reference's are
   the same functions of the arguments, for every argument. -/
module

public import proofs.«01_k».proof.Defs
public import proofs.«01_k».proof.Proof.Norm
public import proofs.«01_k».proof.Proof.Gen.LnFwd.Frame
public import proofs.«01_k».proof.Proof.Gen.LnFwdIdeal.Value
public import proofs.«01_k».proof.Proof.Gen.RefLnFwdIdeal.Run
public import proofs.«01_k».proof.Proof.Gen.RefLnFwdIdeal.Read
public import Idealize.ShloMosaic.Lib.Pipeline.ValueKit
public import Idealize.ShloMosaic.Lib.ValueIdx
public import Idealize.ShloMosaic.Lib.KernelVsHost
public import Idealize.ShloMosaic.PureOps.Ideal.Laws
public import Idealize.ShloMosaic.Adequacy
public import Idealize.ShloMosaic.Init

@[expose] public section

noncomputable section

namespace Cert.Proof.LnFwd

open Idealize.ShloMosaic hiding ix0 ix1 ix2 ix3 eq_ix2 eq_ix3
open Idealize.ShloMosaic.TcCoe Idealize.ShloMosaic.ValueIdx Idealize.SL.Sem Cert.Proof.Norm

/-! ### One row, over the extended reals -/

section row

/-- The residual sum. -/
def joined (x y : Fin 2048 → EReal) (j : Fin 2048) : EReal := Ideal.ofBits .f32 0x3FB504F3#32 * x j + y j
def rowMean (z : Fin 2048 → EReal) : EReal := Ideal.div (∑ k, z k) (Ideal.ofBits .f32 0x45000000#32)
def rowCen (z : Fin 2048 → EReal) (j : Fin 2048) : EReal := z j - rowMean z
def rowScale (z : Fin 2048 → EReal) : EReal := Ideal.rsqrt (rowMean (fun k => rowCen z k * rowCen z k) + Ideal.ofBits .f32 0x3727C5AC#32)
/-- The norm's result. -/
def rowOut (z g b : Fin 2048 → EReal) (j : Fin 2048) : EReal := rowCen z j * rowScale z * g j + b j

end row

section payloads

variable (x y v : FVec Ideal Blk .f32) (g b : FVec Ideal Line .f32) (r : Fin 256) (j : Fin 2048)

theorem mean_at : (meanCol v (ix2 r 0) : EReal) = rowMean fun k => v (ix2 r k) := meanCol_apply v r

theorem centred_at : (centred v (ix2 r j) : EReal) = rowCen (fun k => v (ix2 r k)) j := by
  show FloatOps.subf (v (ix2 r j)) (wide (meanCol v) (ix2 r j)) = _
  rw [wide_apply, mean_at]; rfl

theorem scale_at : (scaleCol v (ix2 r 0) : EReal) = rowScale fun k => v (ix2 r k) := by
  have h : (meanCol (mulf (centred v) (centred v)) (ix2 r 0) : EReal) = rowMean fun k => rowCen (fun k => v (ix2 r k)) k * rowCen (fun k => v (ix2 r k)) k := by
    rw [mean_at]
    refine congrArg rowMean (funext fun k => ?_)
    show FloatOps.mulf (centred v (ix2 r k)) (centred v (ix2 r k)) = _
    rw [centred_at]; rfl
  show FloatOps.rsqrt (FloatOps.addf (meanCol (mulf (centred v) (centred v)) (ix2 r 0)) _) = _
  rw [h]; rfl

theorem unit_at : (unitArr v (ix2 r j) : EReal) = rowCen (fun k => v (ix2 r k)) j * rowScale fun k => v (ix2 r k) := by
  show FloatOps.mulf (centred v (ix2 r j)) (wide (scaleCol v) (ix2 r j)) = _
  rw [wide_apply, centred_at, scale_at]; rfl

theorem out_at : (addf (mulf (unitArr v) (tall g)) (tall b) (ix2 r j) : EReal) = rowOut (fun k => v (ix2 r k)) (fun k => g (ix2 0 k)) (fun k => b (ix2 0 k)) j := by
  show FloatOps.addf (FloatOps.mulf (unitArr v (ix2 r j)) (tall g (ix2 r j))) (tall b (ix2 r j)) = _
  rw [tall_apply, tall_apply, unit_at]; rfl

theorem mixed_at : (mixed x y (ix2 r j) : EReal) = joined (fun k => x (ix2 r k)) (fun k => y (ix2 r k)) j := rfl

end payloads

/-! ### The kernel -/

section kernel

open Cert.LnFwdIdeal Cert.LnFwdIdeal.Gen

theorem pay1_eq (x y : FVec Ideal S256x2048 .f32) : k0_pay1 x y = mixed x y := rfl
theorem pay2_eq (x y : FVec Ideal S256x2048 .f32) (g b : FVec Ideal S1x2048 .f32) : k0_pay2 x y g b = addf (mulf (unitArr (mixed x y)) (tall g)) (tall b) := rfl

theorem pay2_at (x y : FVec Ideal S256x2048 .f32) (g b : FVec Ideal S1x2048 .f32) (r : Fin 256) (j : Fin 2048) :
    (k0_pay2 (F := Ideal) x y g b (ix2 r j) : EReal) = rowOut (joined (fun k => x (ix2 r k)) fun k => y (ix2 r k)) (fun k => g (ix2 0 k)) (fun k => b (ix2 0 k)) j := by
  rw [pay2_eq, out_at]; rfl

variable (m : (ℓ : Loc nD τ sig) → Buf (Elt Ideal) ℓ)

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)

theorem steps (t : Fin cfg0.N) : t.val < 8 := t.isLt
/-- The row of the whole array in a step's block. -/
abbrev place (t : Fin cfg0.N) (r : Fin 256) : Fin 2048 := ⟨t.val * 256 + r.val, by have := steps t; omega⟩

theorem gain_eq (c : Dev nD) : V m c main_v0 = shapeCast S1x2048 (m ((c : Thread nD τ).loc main_arg2) : FVec Ideal S2048 .f32) shapeCasts_S2048_S1x2048 := by
  show StableHlo.after hostOps0 (fun b => m (c, b)) (Proc.devRef .tc main_v0) = _
  simp only [hostOps0]
  after_results_simp <;> rfl
theorem shift_eq (c : Dev nD) : V m c main_v1 = shapeCast S1x2048 (m ((c : Thread nD τ).loc main_arg3) : FVec Ideal S2048 .f32) shapeCasts_S2048_S1x2048 := by
  show StableHlo.after hostOps0 (fun b => m (c, b)) (Proc.devRef .tc main_v1) = _
  simp only [hostOps0]
  after_results_simp <;> rfl

theorem line_apply (x : FVec Ideal S2048 .f32) (j : Fin 2048) : shapeCast S1x2048 x shapeCasts_S2048_S1x2048 (ix2 (0 : Fin 1) j) = x (ix1 j) :=
  shapeCast_apply _ _ _ _ (by rw [Shape.rowMajor_val_one, Shape.rowMajor_val_two]; show j.val = 0 * 2048 + j.val; omega)

theorem iblk0_apply (c : Dev nD) (t : Fin cfg0.N) (r : Fin 256) (j : Fin 2048) : iblk m c 0 t (ix2 r j) = m ((c : Thread nD τ).loc main_arg0) (ix2 (place t r) j) := by
  rw [← V_main_arg0 m c]; blk_simp [iblk]; congr 1; blk_ext [at0 t]
theorem iblk1_apply (c : Dev nD) (t : Fin cfg0.N) (r : Fin 256) (j : Fin 2048) : iblk m c 1 t (ix2 r j) = m ((c : Thread nD τ).loc main_arg1) (ix2 (place t r) j) := by
  rw [← V_main_arg1 m c]; blk_simp [iblk]; congr 1; blk_ext [at1 t]
theorem iblk2_apply (c : Dev nD) (t : Fin cfg0.N) (j : Fin 2048) : iblk m c 2 t (ix2 (0 : Fin 1) j) = m ((c : Thread nD τ).loc main_arg2) (ix1 j) := by
  refine Eq.trans ?_ (line_apply (m ((c : Thread nD τ).loc main_arg2)) j)
  rw [← gain_eq m c]; blk_simp [iblk]; congr 1; blk_ext [at2 t]
theorem iblk3_apply (c : Dev nD) (t : Fin cfg0.N) (j : Fin 2048) : iblk m c 3 t (ix2 (0 : Fin 1) j) = m ((c : Thread nD τ).loc main_arg3) (ix1 j) := by
  refine Eq.trans ?_ (line_apply (m ((c : Thread nD τ).loc main_arg3)) j)
  rw [← shift_eq m c]; blk_simp [iblk]; congr 1; blk_ext [at3 t]

/-- The residual sum and the norm's result as whole arrays. -/
def Sum (x y : FVec Ideal S2048x2048 .f32) (i : S2048x2048.Idx) : EReal := joined (fun k => x (ix2 (i 0) k)) (fun k => y (ix2 (i 0) k)) (i 1)
def Out (x y : FVec Ideal S2048x2048 .f32) (g b : FVec Ideal S2048 .f32) (i : S2048x2048.Idx) : EReal :=
  rowOut (joined (fun k => x (ix2 (i 0) k)) fun k => y (ix2 (i 0) k)) (fun k => g (ix1 k)) (fun k => b (ix1 k)) (i 1)

theorem hz : (![0, 0] : Fin 2 → Nat) = fun _ => 0 := funext fun a => by match a with | ⟨0, _⟩ => rfl | ⟨1, _⟩ => rfl

theorem sum_block (c : Dev nD) (t : Fin cfg0.N) (r : Fin 256) (j : Fin 2048) :
    (out0_4 (iblk m c 0 t) (iblk m c 1 t) (iblk m c 2 t) (iblk m c 3 t) (ix2 r j) : EReal)
      = Sum (m ((c : Thread nD τ).loc main_arg0)) (m ((c : Thread nD τ).loc main_arg1)) (ix2 (place t r) j) := by
  unfold out0_4
  rw [View.canon_unit_zero hz, View.ld_unit_zero hz, View.ld_unit_zero hz]
  rw [pay1_eq, mixed_at]
  exact congrArg₂ (fun f h : Fin 2048 → EReal => joined f h j) (funext fun k => iblk0_apply m c t r k) (funext fun k => iblk1_apply m c t r k)

theorem out_row (c : Dev nD) (t : Fin cfg0.N) (r : Fin 256) (j : Fin 2048) :
    (k0_pay2 (F := Ideal) (iblk m c 0 t) (iblk m c 1 t) (iblk m c 2 t) (iblk m c 3 t) (ix2 r j) : EReal)
      = Out (m ((c : Thread nD τ).loc main_arg0)) (m ((c : Thread nD τ).loc main_arg1)) (m ((c : Thread nD τ).loc main_arg2)) (m ((c : Thread nD τ).loc main_arg3)) (ix2 (place t r) j) := by
  rw [pay2_at, funext fun k => iblk0_apply m c t r k, funext fun k => iblk1_apply m c t r k, funext fun k => iblk2_apply m c t k, funext fun k => iblk3_apply m c t k]
  rfl

theorem out_block (c : Dev nD) (t : Fin cfg0.N) (r : Fin 256) (j : Fin 2048) :
    (out0_5 (iblk m c 0 t) (iblk m c 1 t) (iblk m c 2 t) (iblk m c 3 t) (ix2 r j) : EReal)
      = Out (m ((c : Thread nD τ).loc main_arg0)) (m ((c : Thread nD τ).loc main_arg1)) (m ((c : Thread nD τ).loc main_arg2)) (m ((c : Thread nD τ).loc main_arg3)) (ix2 (place t r) j) := by
  unfold out0_5
  rw [View.canon_unit_zero hz, View.ld_unit_zero hz, View.ld_unit_zero hz, View.ld_unit_zero hz, View.ld_unit_zero hz]
  exact out_row m c t r j

theorem half_block (c : Dev nD) (t : Fin cfg0.N) (r : Fin 256) (j : Fin 2048) :
    (out0_6 (iblk m c 0 t) (iblk m c 1 t) (iblk m c 2 t) (iblk m c 3 t) (ix2 r j) : EReal)
      = Out (m ((c : Thread nD τ).loc main_arg0)) (m ((c : Thread nD τ).loc main_arg1)) (m ((c : Thread nD τ).loc main_arg2)) (m ((c : Thread nD τ).loc main_arg3)) (ix2 (place t r) j) := by
  unfold out0_6
  rw [View.canon_unit_zero hz, View.ld_unit_zero hz, View.ld_unit_zero hz, View.ld_unit_zero hz, View.ld_unit_zero hz]
  exact out_row m c t r j

theorem final4 (c : Dev nD) : (dats m 0 c).arrAt 4 cfg0.N = (Sum (m ((c : Thread nD τ).loc main_arg0)) (m ((c : Thread nD τ).loc main_arg1)) : FVec Ideal S2048x2048 .f32) := by
  refine (dats m 0 c).arrAt_eq_of_covers 4 _ (by decide +kernel) fun t hf y => ?_
  blk_simp
  rw [after0_4]
  obtain ⟨r, j, rfl⟩ : ∃ (r : Fin 256) (j : Fin 2048), y = ix2 r j := ⟨_, _, eq_ix2 y⟩
  rw [show (win0_4.blk t).view.emb (ix2 r j) = ix2 (place t r) j from by blk_ext [at4 t]]
  exact sum_block m c t r j

theorem final5 (c : Dev nD) : (dats m 0 c).arrAt 5 cfg0.N = (Out (m ((c : Thread nD τ).loc main_arg0)) (m ((c : Thread nD τ).loc main_arg1)) (m ((c : Thread nD τ).loc main_arg2)) (m ((c : Thread nD τ).loc main_arg3)) : FVec Ideal S2048x2048 .f32) := by
  refine (dats m 0 c).arrAt_eq_of_covers 5 _ (by decide +kernel) fun t hf y => ?_
  blk_simp
  rw [after0_5]
  obtain ⟨r, j, rfl⟩ : ∃ (r : Fin 256) (j : Fin 2048), y = ix2 r j := ⟨_, _, eq_ix2 y⟩
  rw [show (win0_5.blk t).view.emb (ix2 r j) = ix2 (place t r) j from by blk_ext [at5 t]]
  exact out_block m c t r j

theorem final6 (c : Dev nD) : (dats m 0 c).arrAt 6 cfg0.N = (Out (m ((c : Thread nD τ).loc main_arg0)) (m ((c : Thread nD τ).loc main_arg1)) (m ((c : Thread nD τ).loc main_arg2)) (m ((c : Thread nD τ).loc main_arg3)) : FVec Ideal S2048x2048 .bf16) := by
  refine (dats m 0 c).arrAt_eq_of_covers 6 _ (by decide +kernel) fun t hf y => ?_
  blk_simp
  rw [after0_6]
  obtain ⟨r, j, rfl⟩ : ∃ (r : Fin 256) (j : Fin 2048), y = ix2 r j := ⟨_, _, eq_ix2 y⟩
  rw [show (win0_6.blk t).view.emb (ix2 r j) = ix2 (place t r) j from by blk_ext [at6 t]]
  exact half_block m c t r j

/-- The kernel's run, its results as functions of its arguments. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v2_0) = (Sum (m ((c : Thread nD τ).loc main_arg0)) (m ((c : Thread nD τ).loc main_arg1)) : FVec Ideal S2048x2048 .f32)
      ∧ r.2.mem ((c : Thread nD τ).loc main_v2_1) = (Out (m ((c : Thread nD τ).loc main_arg0)) (m ((c : Thread nD τ).loc main_arg1)) (m ((c : Thread nD τ).loc main_arg2)) (m ((c : Thread nD τ).loc main_arg3)) : FVec Ideal S2048x2048 .f32)
      ∧ r.2.mem ((c : Thread nD τ).loc main_v2_2) = (Out (m ((c : Thread nD τ).loc main_arg0)) (m ((c : Thread nD τ).loc main_arg1)) (m ((c : Thread nD τ).loc main_arg2)) (m ((c : Thread nD τ).loc main_arg3)) : FVec Ideal S2048x2048 .bf16)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run (defs (F := Ideal)) _ _).mono (fun _ h c => ⟨(h c).1.trans (final4 m c), (h c).2.1.trans (final5 m c), (h c).2.2.1.trans (final6 m c), (h c).2.2.2⟩)
    (Cert.LnFwdIdeal.Value.run_blocks m ρ)

end kernel

/-! ### The reference -/

section reference

open Cert.RefLnFwdIdeal Cert.RefLnFwdIdeal.Gen Cert.RefLnFwdIdeal.Read

variable (x0 x1 : FVec Ideal S2048x2048 .f32) (x2 x3 : FVec Ideal S2048 .f32) (r j : Fin 2048)

/-- A row of the residual sum. -/
abbrev zrow (r : Fin 2048) : Fin 2048 → EReal := joined (fun k => x0 (ix2 r k)) fun k => x1 (ix2 r k)

theorem ref2 : (val_main_v2 (F := Ideal) x0 x1 (ix2 r j) : EReal) = zrow x0 x1 r j := by
  rw [val_main_v2_apply, val_main_v1_apply, val_main_v0_apply]; rfl

theorem total (f g : Fin 2048 → EReal) (z : EReal) (hz : z = 0) (h : ∀ k, f k = g k) : z + ∑ k, f k = ∑ k, g k := by
  rw [hz, zero_add]; exact Finset.sum_congr rfl fun k _ => h k

theorem nought : ((val_main_cst_0 (F := Ideal)) (Shape.Idx.first h_S_) : EReal) = 0 := (val_main_cst_0_apply (F := Ideal) _).trans nought_word
theorem nought' : ((val_main_cst_2 (F := Ideal)) (Shape.Idx.first h_S_) : EReal) = 0 := (val_main_cst_2_apply (F := Ideal) _).trans nought_word

theorem ref3 : (val_main_v3 (F := Ideal) x0 x1 (ix1 r) : EReal) = ∑ k, zrow x0 x1 r k := by
  rw [val_main_v3_apply x0 x1 (ix1 r)]
  exact total _ _ _ nought fun k => by
    rw [show idx_main_v3 (ix1 r) k = ix2 r k from ext2 rfl rfl]
    exact ref2 x0 x1 r k

theorem ref6 : (val_main_v6 (F := Ideal) x0 x1 (ix2 r 0) : EReal) = rowMean (zrow x0 x1 r) := by
  rw [val_main_v6_apply, val_main_v4_apply, val_main_v5_apply, show idx_main_v4 (ix2 r 0) = ix1 r from ext1 rfl, ref3]
  rfl

theorem ref8 : (val_main_v8 (F := Ideal) x0 x1 (ix2 r j) : EReal) = rowCen (zrow x0 x1 r) j := by
  rw [val_main_v8_apply, val_main_v7_apply, show idx_main_v7 (ix2 r j) = ix2 r 0 from ext2 rfl rfl, ref2, ref6]
  rfl

theorem ref15 : (val_main_v15 (F := Ideal) x0 x1 (ix2 r j) : EReal) = rowCen (zrow x0 x1 r) j := by
  rw [val_main_v15_apply, val_main_v14_apply, show idx_main_v14 (ix2 r j) = ix2 r 0 from ext2 rfl rfl, ref2, ref6]
  rfl

theorem ref10 : (val_main_v10 (F := Ideal) x0 x1 (ix1 r) : EReal) = ∑ k, rowCen (zrow x0 x1 r) k * rowCen (zrow x0 x1 r) k := by
  rw [val_main_v10_apply x0 x1 (ix1 r)]
  exact total _ _ _ nought' fun k => by
    rw [show idx_main_v10 (ix1 r) k = ix2 r k from ext2 rfl rfl, val_main_v9_apply, ref8]
    rfl

theorem ref18 : (val_main_v18 (F := Ideal) x0 x1 (ix2 r 0) : EReal) = rowScale (zrow x0 x1 r) := by
  rw [val_main_v18_apply, val_main_v17_apply, val_main_v16_apply, val_main_v13_apply, val_main_v11_apply, val_main_v12_apply,
    show idx_main_v11 (ix2 r 0) = ix1 r from ext1 rfl, ref10]
  rfl

theorem ref26 : (val_main_v26 (F := Ideal) x0 x1 x2 x3 (ix2 r j) : EReal) = rowOut (zrow x0 x1 r) (fun k => x2 (ix1 k)) (fun k => x3 (ix1 k)) j := by
  rw [val_main_v26_apply, val_main_v25_apply, val_main_v24_apply, val_main_v23_apply, val_main_v22_apply, val_main_v21_apply, val_main_v20_apply,
    val_main_v19_apply, show idx_main_v19 (ix2 r j) = ix2 r 0 from ext2 rfl rfl, ref15, ref18,
    show idx_main_v21 (idx_main_v22 (ix2 r j)) = ix1 j from ext1 rfl, show idx_main_v24 (idx_main_v25 (ix2 r j)) = ix1 j from ext1 rfl]
  rfl

theorem sum_eq : val_main_v2 (F := Ideal) x0 x1 = (Sum x0 x1 : FVec Ideal S2048x2048 .f32) := by
  funext y
  obtain ⟨r, j, rfl⟩ : ∃ (r j : Fin 2048), y = ix2 r j := ⟨_, _, eq_ix2 y⟩
  exact ref2 x0 x1 r j

theorem out_eq : val_main_v26 (F := Ideal) x0 x1 x2 x3 = (Out x0 x1 x2 x3 : FVec Ideal S2048x2048 .f32) := by
  funext y
  obtain ⟨r, j, rfl⟩ : ∃ (r j : Fin 2048), y = ix2 r j := ⟨_, _, eq_ix2 y⟩
  exact ref26 x0 x1 x2 x3 r j

theorem half_eq : val_main_v27 (F := Ideal) x0 x1 x2 x3 = (Out x0 x1 x2 x3 : FVec Ideal S2048x2048 .bf16) := by
  funext y
  obtain ⟨r, j, rfl⟩ : ∃ (r j : Fin 2048), y = ix2 r j := ⟨_, _, eq_ix2 y⟩
  exact ref26 x0 x1 x2 x3 r j

end reference

theorem reference_frame : Cert.quiescent_RefLnFwdIdeal := fun m ρ _ =>
  (θ_run Cert.RefLnFwdIdeal.defs _ _).mono
    (fun r h => ⟨fun c => (h c).2.2.2, Idealize.ShloMosaic.sem_eq_zero_of_no_sems (by decide) r.2⟩)
    (Cert.RefLnFwdIdeal.Value.run (F := Ideal) m ρ)

theorem algebraic : Cert.algebraic_LnFwdIdeal_RefLnFwdIdeal := by
  intro m ρ m' ρ' _ hagree
  refine ⟨_, _, _, run m ρ, ?_⟩
  refine (θ_run (Cert.RefLnFwdIdeal.defs (F := Ideal)) _ _).mono (fun _ h c => ?_) (Cert.RefLnFwdIdeal.Value.run (F := Ideal) m' ρ')
  obtain ⟨e0, e1, e2, e3⟩ := hagree c
  obtain ⟨h0, h1, h2, hrest⟩ := h c
  refine ⟨h0.trans ?_, h1.trans ?_, h2.trans ?_, hrest⟩
  · refine (Cert.RefLnFwdIdeal.Read.val_main_v2_eq _ _).trans ?_
    rw [e0, e1]
    exact sum_eq _ _
  · refine (Cert.RefLnFwdIdeal.Read.val_main_v26_eq _ _ _ _).trans ?_
    rw [e0, e1, e2, e3]
    exact out_eq _ _ _ _
  · refine (Cert.RefLnFwdIdeal.Read.val_main_v27_eq _ _ _ _).trans ?_
    rw [e0, e1, e2, e3]
    exact half_eq _ _ _ _

end Cert.Proof.LnFwd

end
-- ==== Proof.ConvGateFwd.lean ====
/- The ConvFFN gate's forward pass on one device. The kernel's result and the reference's are the same function of the arguments,
   for every argument. -/
module

public import proofs.«01_k».proof.Defs
public import proofs.«01_k».proof.Proof.ConvGate
public import proofs.«01_k».proof.Proof.Gen.ConvGateFwd.Frame
public import proofs.«01_k».proof.Proof.Gen.ConvGateFwdIdeal.Value
public import proofs.«01_k».proof.Proof.Gen.RefConvGateFwdIdeal.Run
public import proofs.«01_k».proof.Proof.Gen.RefConvGateFwdIdeal.Read
public import Idealize.ShloMosaic.Lib.Pipeline.ValueKit
public import Idealize.ShloMosaic.Lib.ValueIdx
public import Idealize.ShloMosaic.Lib.KernelVsHost
public import Idealize.ShloMosaic.PureOps.Ideal.Laws
public import Idealize.ShloMosaic.Adequacy
public import Idealize.ShloMosaic.Init

@[expose] public section

noncomputable section

namespace Cert.Proof.ConvGateFwd

open Idealize.ShloMosaic hiding ix0 ix1 ix2 ix3 eq_ix2 eq_ix3
open Idealize.ShloMosaic.TcCoe Idealize.ShloMosaic.ValueIdx Idealize.SL.Sem Cert.Proof

/-- A column of the gate's result: the convolution, times its sigmoid, times the other factor. -/
def gated (g u : Fin 2048 → EReal) (w : Fin 3 → EReal) (b : EReal) (r : Fin 2048) : EReal :=
  conv g w b r * sigm (conv g w b r) * u r

/-! ### The kernel -/

section kernel

open Cert.ConvGateFwdIdeal Cert.ConvGateFwdIdeal.Gen

theorem pay_at (g u : Vec Ideal S2048x256 .bf16) (w : Vec Ideal S3x256 .f32) (b : Vec Ideal S1x256 .f32) (r : Fin 2048) (j : Fin 256) :
    (k0_pay1 (F := Ideal) g w b u (ix2 r j) : EReal) = gated (fun r => g (ix2 r j)) (fun r => u (ix2 r j)) (fun k => w (ix2 k j)) (b (ix2 (0 : Fin 1) j)) r := by
  unfold gated
  rw [← Block.pay8_apply, ← Block.pay7_apply]
  rfl

theorem hz : (![0, 0] : Fin 2 → Nat) = fun _ => 0 := funext fun a => by match a with | ⟨0, _⟩ => rfl | ⟨1, _⟩ => rfl

theorem out_at (g u : Vec Ideal S2048x256 .bf16) (w : Vec Ideal S3x256 .f32) (b : Vec Ideal S1x256 .f32) (r : Fin 2048) (j : Fin 256) :
    (out0_4 (F := Ideal) g u w b (ix2 r j) : EReal) = gated (fun r => g (ix2 r j)) (fun r => u (ix2 r j)) (fun k => w (ix2 k j)) (b (ix2 (0 : Fin 1) j)) r := by
  unfold out0_4
  rw [View.canon_unit_zero hz, View.ld_unit_zero hz, View.ld_unit_zero hz, View.ld_unit_zero hz, View.ld_unit_zero hz]
  exact pay_at g u w b r j

/-- The gate's result as a whole array. -/
def Out (g u : FVec Ideal S2048x5632 .bf16) (w : FVec Ideal S3x5632 .f32) (b : FVec Ideal S5632 .f32) (i : S2048x5632.Idx) : EReal :=
  gated (fun r => g (ix2 r (i 1))) (fun r => u (ix2 r (i 1))) (fun k => w (ix2 k (i 1))) (b (ix1 (i 1))) (i 0)

variable (m : (ℓ : Loc nD τ sig) → Buf (Elt Ideal) ℓ)

theorem at0 : ∀ t : Fin cfg0.N, win0_0.index t = ![0, t.val] := (by decide +kernel : ∀ t : Fin grid0.N, _)
theorem at1 : ∀ t : Fin cfg0.N, win0_1.index t = ![0, t.val] := (by decide +kernel : ∀ t : Fin grid0.N, _)
theorem at2 : ∀ t : Fin cfg0.N, win0_2.index t = ![0, t.val] := (by decide +kernel : ∀ t : Fin grid0.N, _)
theorem at3 : ∀ t : Fin cfg0.N, win0_3.index t = ![0, t.val] := (by decide +kernel : ∀ t : Fin grid0.N, _)
theorem at4 : ∀ t : Fin cfg0.N, win0_4.index t = ![0, t.val] := (by decide +kernel : ∀ t : Fin grid0.N, _)

/-- The array's column that a block's column is. -/
abbrev col (t : Fin cfg0.N) (j : Fin 256) : Fin 5632 := ⟨t.val * 256 + j.val, by have h : t.val < 22 := t.isLt; omega⟩

theorem bias_eq (c : Dev nD) : V m c main_v0 = shapeCast S1x5632 (m ((c : Thread nD τ).loc main_arg3) : FVec Ideal S5632 .f32) shapeCasts_S5632_S1x5632 := by
  show StableHlo.after hostOps0 (fun b => m (c, b)) (Proc.devRef .tc main_v0) = _
  simp only [hostOps0]
  after_results_simp <;> rfl

theorem line_apply (x : FVec Ideal S5632 .f32) (j : Fin 5632) : shapeCast S1x5632 x shapeCasts_S5632_S1x5632 (ix2 (0 : Fin 1) j) = x (ix1 j) :=
  shapeCast_apply _ _ _ _ (by rw [Shape.rowMajor_val_one, Shape.rowMajor_val_two]; show j.val = 0 * 5632 + j.val; omega)

theorem iblk0_apply (c : Dev nD) (t : Fin cfg0.N) (r : Fin 2048) (j : Fin 256) : iblk m c 0 t (ix2 r j) = m ((c : Thread nD τ).loc main_arg0) (ix2 r (col t j)) := by
  rw [← V_main_arg0 m c]; blk_simp [iblk]; congr 1; blk_ext [at0 t]
theorem iblk1_apply (c : Dev nD) (t : Fin cfg0.N) (r : Fin 2048) (j : Fin 256) : iblk m c 1 t (ix2 r j) = m ((c : Thread nD τ).loc main_arg1) (ix2 r (col t j)) := by
  rw [← V_main_arg1 m c]; blk_simp [iblk]; congr 1; blk_ext [at1 t]
theorem iblk2_apply (c : Dev nD) (t : Fin cfg0.N) (r : Fin 3) (j : Fin 256) : iblk m c 2 t (ix2 r j) = m ((c : Thread nD τ).loc main_arg2) (ix2 r (col t j)) := by
  rw [← V_main_arg2 m c]; blk_simp [iblk]; congr 1; blk_ext [at2 t]
theorem iblk3_apply (c : Dev nD) (t : Fin cfg0.N) (j : Fin 256) : iblk m c 3 t (ix2 (0 : Fin 1) j) = m ((c : Thread nD τ).loc main_arg3) (ix1 (col t j)) := by
  refine Eq.trans ?_ (line_apply (m ((c : Thread nD τ).loc main_arg3)) (col t j))
  rw [← bias_eq m c]; blk_simp [iblk]; congr 1; blk_ext [at3 t]

theorem final4 (c : Dev nD) : (dats m 0 c).arrAt 4 cfg0.N = (Out (m ((c : Thread nD τ).loc main_arg0)) (m ((c : Thread nD τ).loc main_arg1)) (m ((c : Thread nD τ).loc main_arg2)) (m ((c : Thread nD τ).loc main_arg3)) : FVec Ideal S2048x5632 .bf16) := by
  refine (dats m 0 c).arrAt_eq_of_covers 4 _ (by decide +kernel) fun t hf y => ?_
  blk_simp
  rw [after0_4]
  obtain ⟨r, j, rfl⟩ : ∃ (r : Fin 2048) (j : Fin 256), y = ix2 r j := ⟨_, _, eq_ix2 y⟩
  rw [show (win0_4.blk t).view.emb (ix2 r j) = ix2 r (col t j) from by blk_ext [at4 t]]
  refine (out_at _ _ _ _ r j).trans ?_
  rw [funext fun r => iblk0_apply m c t r j, funext fun r => iblk1_apply m c t r j, funext fun k => iblk2_apply m c t k j, iblk3_apply m c t j]
  rfl

/-- The kernel's run, its result as a function of its arguments. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v1) = (Out (m ((c : Thread nD τ).loc main_arg0)) (m ((c : Thread nD τ).loc main_arg1)) (m ((c : Thread nD τ).loc main_arg2)) (m ((c : Thread nD τ).loc main_arg3)) : FVec Ideal S2048x5632 .bf16)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run (defs (F := Ideal)) _ _).mono (fun _ h c => ⟨(h c).1.trans (final4 m c), (h c).2⟩) (Cert.ConvGateFwdIdeal.Value.run_blocks m ρ)

end kernel

/-! ### The reference -/

section reference

open Cert.RefConvGateFwdIdeal Cert.RefConvGateFwdIdeal.Gen Cert.RefConvGateFwdIdeal.Read

variable (x0 x1 : FVec Ideal S2048x5632 .bf16) (x2 : FVec Ideal S3x5632 .f32) (x3 : FVec Ideal S5632 .f32)

theorem tap0_at (r : Fin 2048) (j : Fin 5632) : val_main_v8 (F := Ideal) x2 (ix2 r j) = x2 (ix2 0 j) := by
  rw [val_main_v8_apply, val_main_v7_apply, val_main_v5_apply, val_main_v4_apply]
  exact Ref.at2 x2 _ _ _ rfl (Nat.mod_eq_of_lt j.isLt)
theorem tap1_at (r : Fin 2048) (j : Fin 5632) : val_main_v17 (F := Ideal) x2 (ix2 r j) = x2 (ix2 1 j) := by
  rw [val_main_v17_apply, val_main_v16_apply, val_main_v14_apply, val_main_v13_apply]
  exact Ref.at2 x2 _ _ _ rfl (Nat.mod_eq_of_lt j.isLt)
theorem tap2_at (r : Fin 2048) (j : Fin 5632) : val_main_v24 (F := Ideal) x2 (ix2 r j) = x2 (ix2 2 j) := by
  rw [val_main_v24_apply, val_main_v23_apply, val_main_v21_apply, val_main_v20_apply]
  exact Ref.at2 x2 _ _ _ rfl (Nat.mod_eq_of_lt j.isLt)
theorem bias_at (r : Fin 2048) (j : Fin 5632) : val_main_v11 (F := Ideal) x3 (ix2 r j) = x3 (ix1 j) := by
  rw [val_main_v11_apply, val_main_v10_apply]
  exact congrArg x3 (funext fun a => by match a with | ⟨0, _⟩ => rfl)

/-- The rows with two zero rows before them. -/
theorem padded_at (q : Fin 2050) (j : Fin 5632) :
    val_main_v3 (F := Ideal) x0 (ix2 q j) = if h : 2 ≤ q.val then x0 (ix2 ⟨q.val - 2, by omega⟩ j) else 0 := by
  unfold val_main_v3
  by_cases h : 2 ≤ q.val
  · rw [dif_pos h, concatenate_pair_apply_right (t := S2050x5632) (s₁ := S2x5632) (s₂ := S2048x5632) 0 _ _ _ (ix2 q j) rfl rfl (ix2 ⟨q.val - 2, by omega⟩ j) (fun b hb => by
      match b with
      | ⟨0, _⟩ => exact absurd rfl hb
      | ⟨1, _⟩ => rfl) (by show q.val - 2 + 2 = q.val; omega), val_main_v0_apply]
    rfl
  · rw [dif_neg h, concatenate_pair_apply_left (t := S2050x5632) (s₁ := S2x5632) (s₂ := S2048x5632) 0 _ _ _ (ix2 q j) rfl (ix2 ⟨q.val, by omega⟩ j) (fun b => by
      match b with
      | ⟨0, _⟩ => rfl
      | ⟨1, _⟩ => rfl), val_main_v2_apply]
    exact Ref.zero_word

theorem down2_at (r : Fin 2048) (j : Fin 5632) : val_main_v6 (F := Ideal) x0 (ix2 r j) = down 2 (fun r => x0 (ix2 r j)) r := by
  rw [val_main_v6_apply, Ref.at2 (val_main_v3 (F := Ideal) x0) _ ⟨r.val, by omega⟩ j rfl rfl, padded_at]
  rfl
theorem down1_at (r : Fin 2048) (j : Fin 5632) : val_main_v15 (F := Ideal) x0 (ix2 r j) = down 1 (fun r => x0 (ix2 r j)) r := by
  rw [val_main_v15_apply, Ref.at2 (val_main_v3 (F := Ideal) x0) _ ⟨r.val + 1, by omega⟩ j (by first | rfl | exact Nat.add_comm _ _) rfl, padded_at]
  unfold down
  by_cases h : 1 ≤ r.val
  · rw [dif_pos h, dif_pos (show 2 ≤ r.val + 1 by omega)]
    exact Ref.at2 x0 _ _ _ (by show r.val + 1 - 2 = r.val - 1; omega) rfl
  · rw [dif_neg h, dif_neg (show ¬ 2 ≤ r.val + 1 by omega)]
theorem down0_at (r : Fin 2048) (j : Fin 5632) : val_main_v22 (F := Ideal) x0 (ix2 r j) = x0 (ix2 r j) := by
  rw [val_main_v22_apply, Ref.at2 (val_main_v3 (F := Ideal) x0) _ ⟨r.val + 2, by omega⟩ j (by first | rfl | exact Nat.add_comm _ _) rfl, padded_at,
    dif_pos (show 2 ≤ r.val + 2 by omega)]
  exact Ref.at2 x0 _ _ _ (by show r.val + 2 - 2 = r.val; omega) rfl

theorem conv_at (r : Fin 2048) (j : Fin 5632) :
    val_main_v26 (F := Ideal) x0 x2 x3 (ix2 r j) = conv (fun r => x0 (ix2 r j)) (fun k => x2 (ix2 k j)) (x3 (ix1 j)) r := by
  rw [← rconv_eq]
  show _ = x3 (ix1 j) + x2 (ix2 0 j) * down 2 (fun r => x0 (ix2 r j)) r + x2 (ix2 1 j) * down 1 (fun r => x0 (ix2 r j)) r
    + x2 (ix2 2 j) * x0 (ix2 r j)
  rw [← down2_at, ← down1_at, ← down0_at x0 r j, ← tap0_at x2 r j, ← tap1_at x2 r j, ← tap2_at x2 r j, ← bias_at x3 r j]
  rfl

theorem sigm_at (r : Fin 2048) (j : Fin 5632) :
    val_main_call0_v5 (F := Ideal) x0 x2 x3 (ix2 r j) = sigm (conv (fun r => x0 (ix2 r j)) (fun k => x2 (ix2 k j)) (x3 (ix1 j)) r) := by
  rw [← conv_at]
  unfold sigm
  rw [← one_word]
  rfl

theorem out_eq : val_main_v29 (F := Ideal) x0 x1 x2 x3 = (Out x0 x1 x2 x3 : FVec Ideal S2048x5632 .bf16) := by
  funext y
  obtain ⟨r, j, rfl⟩ : ∃ (r : Fin 2048) (j : Fin 5632), y = ix2 r j := ⟨_, _, eq_ix2 y⟩
  show _ = gated (fun r => x0 (ix2 r j)) (fun r => x1 (ix2 r j)) (fun k => x2 (ix2 k j)) (x3 (ix1 j)) r
  unfold gated
  rw [← sigm_at, ← conv_at]
  rfl

end reference

theorem reference_frame : Cert.quiescent_RefConvGateFwdIdeal := fun m ρ _ =>
  (θ_run Cert.RefConvGateFwdIdeal.defs _ _).mono
    (fun r h => ⟨fun c => (h c).2, Idealize.ShloMosaic.sem_eq_zero_of_no_sems (by decide) r.2⟩)
    (Cert.RefConvGateFwdIdeal.Value.run (F := Ideal) m ρ)

theorem algebraic : Cert.algebraic_ConvGateFwdIdeal_RefConvGateFwdIdeal := by
  intro m ρ m' ρ' _ hagree
  refine ⟨_, run m ρ, ?_⟩
  refine (θ_run (Cert.RefConvGateFwdIdeal.defs (F := Ideal)) _ _).mono (fun _ h c => ?_) (Cert.RefConvGateFwdIdeal.Value.run (F := Ideal) m' ρ')
  obtain ⟨e0, e1, e2, e3⟩ := hagree c
  obtain ⟨h0, hrest⟩ := h c
  refine ⟨h0.trans ?_, hrest⟩
  refine (Cert.RefConvGateFwdIdeal.Read.val_main_v29_eq m' c).trans ?_
  rw [e0, e1, e2, e3]
  exact out_eq _ _ _ _

end Cert.Proof.ConvGateFwd

end
-- ==== Proof.Swap.lean ====
/- The exchange between the two cores of a chip: the run of the launched program, the frames, and the value claim. -/
module

public import proofs.«01_k».proof.Defs
public import proofs.«01_k».proof.Proof.Gen.Swap
public import proofs.«01_k».proof.Proof.Gen.SwapIdeal
public import proofs.«01_k».proof.Proof.Gen.SwapIdeal.Skeleton
public import proofs.«01_k».proof.Proof.Gen.SwapIdeal.Launch
public import proofs.«01_k».proof.Proof.Gen.SwapIdeal.Points
public import proofs.«01_k».proof.Proof.Gen.RefSwapIdeal
public import Idealize.ShloMosaic.Lib.Rounds
public import Idealize.ShloMosaic.Lib.Quiescent
public import Idealize.ShloMosaic.Lib.StableHlo
public import Idealize.ShloMosaic.Lib.Tactic
public import Idealize.ShloMosaic.Lib.Pipeline.Kit
public import Idealize.ShloMosaic.Lib.Pipeline.Regions
public import Idealize.ShloMosaic.Lib.Pipeline.Value
public import proofs.«01_k».proof.Proof.Gen.Swap.Frame
public import proofs.«01_k».proof.Proof.Gen.RefSwapIdeal.Run
public import proofs.«01_k».proof.Proof.Gen.RefSwapIdeal.Read
public import Idealize.ShloMosaic.Adequacy
public import Idealize.ShloMosaic.Init

@[expose] public section

noncomputable section

namespace Cert.Proof.Swap

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.SwapIdeal Cert.SwapIdeal.Gen

/-- One copy of the rounds algebra is all the ghost state this program uses: no array is staged. -/
abbrev UU := UR sig nD τ

variable {F : FTy → Type} [FloatOps F]

local notation "𝕄" => MT nD τ sig Unit (Elt F) ℕ UU ℕ

abbrev ER : Emb (UR sig nD τ) (MT nD τ sig Unit (Elt F) ℕ UU ℕ) := emb₁

variable (m : (ℓ : Loc nD τ sig) → Buf (Elt F) ℓ) (ρ : Dev nD → PrngReg)

/-! ## The two cores of a chip -/

/-- The other core of the same chip. -/
def peer (c : Dev nD) : Dev nD := ⟨k0_dev1 c, k0_dev1_lt c⟩

theorem peer_peer (c : Dev nD) : peer (peer c) = c := by
  have h (c : Dev nD) : (peer c).val = (4 * (c.val / 4) + 2 * ((c.val / 2) % 2) + 1) - (c.val % 2) := k0_dev1_eq c
  apply Fin.ext
  rw [h, h]
  have := c.isLt
  omega

/-- The exchange as a rearrangement of the devices. -/
def swapE : Dev nD ≃ Dev nD := ⟨peer, peer, peer_peer, peer_peer⟩

/-! ## The cells, the views and the schedule -/

def sendS : DmaSem sig := ⟨0, by decide⟩
def recvS : DmaSem sig := ⟨1, by decide⟩
abbrev osem : Fin 2 → SemLoc sig := fun | 0 => .dma sendS | 1 => .dma recvS
theorem osem_inj : Function.Injective osem := by decide
theorem ownSem : Pipeline.OwnSemFacts cfg0.spec osem := by decide

abbrev sendCell (c : Dev nD) : GSem nD τ sig := ((c : Thread nD τ), .dma sendS)
abbrev recvCell (c : Dev nD) : GSem nD τ sig := ((c : Thread nD τ), .dma recvS)
def kcell (ck : Dev nD × Fin 2) : GSem nD τ sig := ((ck.1 : Thread nD τ), osem ck.2)

abbrev argM : Memref sig .tc .hbm S4x2x704x2048 .bf16 := Memref.whole main_arg0
abbrev dst : Memref sig .tc .hbm S4x704x2048 .bf16 := Memref.whole main_v1
/-- The shard of its own array that core `c` sends away. -/
abbrev src (c : Dev nD) : Memref sig .tc .hbm S4x704x2048 .bf16 :=
  (argM.slice (Rect.unit (s := S4x2x704x2048) (k0_off1 c) S4x1x704x2048.size (k0_off1_inb c)) (fun _ => rfl)).squeeze S4x704x2048
    squeezes_S4x1x704x2048_S4x704x2048

abbrev argAt (c : Dev nD) : Buf (Elt F) (argM.view.loc (c : Thread nD τ)) := m (argM.view.loc (c : Thread nD τ))

/-- What core `c`'s result holds once the shard of core `d` has landed in it. -/
def landedFrom (d c : Dev nD) : Buf (Elt F) (dst.view.loc (c : Thread nD τ)) :=
  dst.view.write (Elt F) (m (dst.view.loc (c : Thread nD τ))) ((src d).view.read (Elt F) (argAt m d)) Finset.univ
abbrev landed (c : Dev nD) : Buf (Elt F) (dst.view.loc (c : Thread nD τ)) := landedFrom m (peer c) c

def N : ℕ := dst.view.dmaCredit
theorem N_pos : 0 < N := View.dmaCredit_pos _ (by decide)
theorem src_credit (c : Dev nD) : (src c).view.dmaCredit = N := by unfold N; rfl

theorem dst_credit : dst.view.dmaCredit = N := by unfold N; rfl

abbrev srcPts (c : Dev nD) : sProp 𝕄 := (src c).view.loc (c : Thread nD τ) ↦[(src c).view.set]{fullShare} argAt m c
abbrev dstPts (c : Dev nD) (f : Buf (Elt F) (dst.view.loc (c : Thread nD τ))) : sProp 𝕄 :=
  dst.view.loc (c : Thread nD τ) ↦[dst.view.set]{fullShare} f
abbrev argPts (c : Dev nD) : sProp 𝕄 := argM.view.loc (c : Thread nD τ) ↦{fullShare} argAt m c

/-- One round: the copy pays each end's semaphore once, the sender's with its shard back, the receiver's with the landed shard. -/
def rd : Rounds.Schedule (GSem nD τ sig) Unit 𝕄 where
  duties g r := if r = 0 ∧ g.1.2 = .tc then {()} else ∅
  unitless _ := False
  amount _ _ _ := N
  amount_pos _ _ _ _ := N_pos
  payload g _ _ := if g.2 = .dma recvS then dstPts g.1.1 (landed m g.1.1) else srcPts m g.1.1

instance rd_storable (g : GSem nD τ sig) (r : ℕ) (d : Unit) : BI.Storable (upEmb : UEmb _ 𝕄) ((rd (F := F) m).payload g r d) := by
  show BI.Storable upEmb (if g.2 = .dma recvS then dstPts g.1.1 (landed m g.1.1) else srcPts m g.1.1)
  split <;> infer_instance

theorem send_ne_recv : (SemLoc.dma sendS : SemLoc sig) ≠ .dma recvS := by decide

theorem duties_at (c : Dev nD) (sm : SemLoc sig) : (rd (F := F) m).duties ((c : Thread nD τ), sm) 0 = {()} := by
  dsimp only [rd]; exact if_pos ⟨rfl, rfl⟩
theorem duties_later (g : GSem nD τ sig) : ∀ r, 1 ≤ r → (rd (F := F) m).duties g r = ∅ := fun r hr => by
  dsimp only [rd]; rw [if_neg (fun h => by omega)]
theorem amount_at (g : GSem nD τ sig) (u : Unit) : (rd (F := F) m).amount g 0 u = N := by dsimp only [rd]
theorem expect_at (c : Dev nD) (sm : SemLoc sig) : (rd (F := F) m).expect ((c : Thread nD τ), sm) 0 = N := by
  unfold Schedule.expect Schedule.amountOf; rw [duties_at, Finset.sum_singleton, amount_at]
theorem payload_send (c : Dev nD) (u : Unit) : (rd (F := F) m).payload (sendCell c) 0 u = srcPts m c := by
  dsimp only [rd]; rw [if_neg send_ne_recv]
theorem payload_recv (c : Dev nD) (u : Unit) : (rd (F := F) m).payload (recvCell c) 0 u = dstPts c (landed m c) := by
  dsimp only [rd]; rw [if_pos rfl]
theorem rest_send (c : Dev nD) :
    bigSep ((rd (F := F) m).duties (sendCell c) 0 \ ∅) (fun u => (rd (F := F) m).payload (sendCell c) 0 u) = srcPts m c := by
  rw [Finset.sdiff_empty, duties_at, bigSep_singleton, payload_send]
theorem rest_recv (c : Dev nD) :
    bigSep ((rd (F := F) m).duties (recvCell c) 0 \ ∅) (fun u => (rd (F := F) m).payload (recvCell c) 0 u) = dstPts c (landed m c) := by
  rw [Finset.sdiff_empty, duties_at, bigSep_singleton, payload_recv]

/-- What core `c` owes from the launch on: the bytes it sends to its peer. -/
def O₀ (c : Dev nD) : CellTallies nD τ sig Unit := tallyAt (recvCell (peer c)) () N

abbrev 𝒱₀ : Variants := Variants.none

/-! ## The kernel's run on one core -/

def invs (K : Dev nD × Fin 2 → ℕ) (c : Dev nD) : sProp 𝕄 :=
  iprop(cellInv ER (rd m) (K (c, 0)) (sendCell c) ∗ cellInv ER (rd m) (K (c, 1)) (recvCell c) ∗ cellInv ER (rd m) (K (peer c, 1)) (recvCell (peer c)))
instance invs_persistent (K : Dev nD × Fin 2 → ℕ) (c : Dev nD) : BI.Persistent (invs m K c) := by unfold invs; infer_instance

/-- The ghost state core `c` starts from. -/
def ghost (K : Dev nD × Fin 2 → ℕ) (c : Dev nD) : sProp 𝕄 :=
  iprop(invs m K c ∗ (atPos ER (sendCell c) 0 ∅ 0 ∗ atPos ER (recvCell c) 0 ∅ 0)
    ∗ reached ER (sendCell c) 0 ∗ reached ER (recvCell (peer c)) 0
    ∗ dutyTok ER (sendCell c) 0 () ∗ dutyTok ER (recvCell (peer c)) 0 ())

/-- What core `c` holds when the kernel starts: the ghost state, the credit of what it will receive, its array, and its peer's result. -/
def before (c : Dev nD) : sProp 𝕄 :=
  iprop((∃ K, ghost m K c) ∗ cred (tallyAt (recvCell c) () N) ∗ argPts m c ∗ dstPts (peer c) (m (dst.view.loc (peer c : Thread nD τ))))
/-- What it holds when the kernel is done. -/
def done (c : Dev nD) : sProp 𝕄 := iprop(argPts m c ∗ dstPts c (landed m c))
def zeros (c : Dev nD) : sProp 𝕄 := iprop(semVal (sendCell c) 0 ∗ semVal (recvCell c) 0)

theorem close (κ : ℕ) (g : GSem nD τ sig) :
    iprop(cellInv ER (rd m) κ g ∗ atPos ER g (0 + 1) ∅ 0) ⊢ (|={Set.univ}=> semVal g 0 : sProp 𝕄) :=
  Rounds.cell_close ER (rd m) (Set.mem_univ κ) id (duties_later m g)

/-- The kernel after it has read its own device: send, wait for the sending, wait for what arrives. -/
def after (c : Dev nD) : Prog (TpuEff nD τ sig (Elt F) Λ₀ .tc) PUnit :=
  .op (.enqueueDma (src c) (.remote (Dev.tc (peer c)) dst (.dma sendS)) (.dma recvS)
    (((Memref.isWhole_whole main_arg0).wordExact_slice rfl _ (k0_off1_wordsbf16 c)).reshape _ _) (Memref.isWhole_whole main_v1).wordExact
    ⟨⟨rfl, Or.inl rfl⟩, trivial⟩) fun _ =>
  .op (.waitDma2 sendS dst (src c) (Memref.isWhole_whole main_v1).wordExact
    (((Memref.isWhole_whole main_arg0).wordExact_slice rfl _ (k0_off1_wordsbf16 c)).reshape _ _)) fun _ =>
  .op (.waitDma2 recvS (src c) dst
    (((Memref.isWhole_whole main_arg0).wordExact_slice rfl _ (k0_off1_wordsbf16 c)).reshape _ _) (Memref.isWhole_whole main_v1).wordExact) fun _ =>
  .ret ⟨⟩

theorem body_eq : cc0_swap_grads (F := F) (Memref.whole main_arg0) (Memref.isWhole_whole _) (Memref.whole main_v1) (Memref.isWhole_whole _) cc0_scratch0 cc0_scratch1
    = .op .deviceId after := by
  rw [cc0_swap_grads_eq_skeleton]
  unfold cc0_swap_grads_skel
  rw [k0_part1_eq_skeleton]
  rfl

set_option backward.isDefEq.respectTransparency.types false in
theorem kernelRun (c : Dev nD) (W : Waits sig Unit) (Kt : PUnit → sProp 𝕄) :
    iprop((before m c ∗ owes (c : Thread nD τ) (O₀ c) W) ∗ ((done m c ∗ zeros c ∗ ∃ W', owes (c : Thread nD τ) (0 : CellTallies nD τ sig Unit) W') -∗ Kt ⟨⟩))
      ⊢ wp frame (wpE (defs₀ (F := F)) 𝒱₀ c none) Set.univ
        (cc0_swap_grads (F := F) (Memref.whole main_arg0) (Memref.isWhole_whole _) (Memref.whole main_v1) (Memref.isWhole_whole _) cc0_scratch0 cc0_scratch1) Kt := by
  rw [body_eq]
  simp only [wp_deviceId]
  unfold after before ghost invs O₀
  have hsub : (src c).view.set ⊆ (Finset.univ : Finset _) := Finset.subset_univ _
  iintro ⟨⟨⟨⟨%K, ⟨#HIsnd, #HIrcv, #HIrcvP⟩, ⟨HatS, HatV⟩, #HrS, #HrV, HtS, HtN⟩, HcV, Ha, Hd⟩, HO⟩, Hk⟩
  ihave Ha2 := (pointsTo_split_subset hsub).1 $$ Ha
  icases Ha2 with ⟨Hs, Hrest⟩
  iapply (Rounds.wp_send_pointsTo 𝒱₀ ER (rd m) (c : Thread nD τ) none (c' := (peer c : Thread nD τ)) (src := src c) (dst := dst)
      (sS := .dma sendS) (sem := .dma recvS) (q := fullShare) (fs := argAt m c) (κ₁ := K (c, 0)) (κ₂ := K (peer c, 1))
      (r₁ := 0) (r₂ := 0) (d₁ := ()) (d₂ := ()) (fd := m (dst.view.loc (peer c : Thread nD τ)))
      (by rw [duties_at]; exact Finset.mem_singleton_self _) (by rw [duties_at]; exact Finset.mem_singleton_self _)
      () () N dst_credit (amount_at m _ ()) (amount_at m _ ()) 0 (by rw [zero_add]) (W := W)
      (by rw [payload_send])
      (by rw [payload_recv]; unfold landed; rw [peer_peer]; exact BI.Entails.refl _)) $$ [Hs Hd HO HtS HtN]
  · isplitr; · iexact HIsnd
    isplitr; · iexact HIrcvP
    isplitl [Hs]; · iexact Hs
    isplitl [Hd]; · iexact Hd
    isplitl [HO]; · iexact HO
    isplitl [HtS]; · iexact HtS
    isplitr; · iexact HrS
    isplitl [HtN]; · iexact HtN
    iexact HrV
  iintro ⟨HcS, HO⟩
  iapply (Rounds.wp_wait_rest_token 𝒱₀ ER (rd m) (c : Thread nD τ) none (κ := K (c, 0))
      (wpE_waitDma2_eq 𝒱₀ (c : Thread nD τ) none Set.univ) (Set.mem_univ _) () (O := 0) (W := W) (R := 0) (m := 0) (T := ∅)
      ((Nat.zero_add _).trans ((src_credit c).trans (expect_at m c _).symm))) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hs := (Entails.of_eq (rest_send m c)) $$ Hpay
  iapply (Rounds.wp_wait_rest_token 𝒱₀ ER (rd m) (c : Thread nD τ) none (κ := K (c, 1))
      (wpE_waitDma2_eq 𝒱₀ (c : Thread nD τ) none Set.univ) (Set.mem_univ _) () (O := 0)
      (W := insert (SemLoc.dma sendS, ()) W) (R := 0) (m := 0) (T := ∅)
      ((Nat.zero_add _).trans (dst_credit.trans (expect_at m c _).symm))) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hd := (Entails.of_eq (rest_recv m c)) $$ Hpay
  rw [wp_ret]
  imod (close m (K (c, 0)) (sendCell c)) $$ [HatS] with Hs0
  · isplitr; · iexact HIsnd
    iexact HatS
  imod (close m (K (c, 1)) (recvCell c)) $$ [HatV] with Hv0
  · isplitr; · iexact HIrcv
    iexact HatV
  imodintro
  iapply Hk
  unfold done zeros
  isplitl [Hs Hrest Hd]
  · isplitl [Hs Hrest]
    · iapply (show iprop(srcPts m c ∗ (argM.view.loc (c : Thread nD τ) ↦[Finset.univ \ (src c).view.set]{fullShare} argAt m c)) ⊢ argPts m c from
        (pointsTo_split_subset hsub).2)
      isplitl [Hs] <;> iassumption
    iexact Hd
  isplitl [Hs0 Hv0]; · isplitl [Hs0] <;> iassumption
  iexists _; iexact HO

/-! ## The one grid point -/

/-- No array is staged. -/
theorem noWin {M : Type} [URA M] (Φ : Fin 0 → sProp M) : bigSep Finset.univ Φ = (BI.emp : sProp M) := by
  rw [show (Finset.univ : Finset (Fin 0)) = ∅ from rfl, BI.bigSep_empty]

/-- The proof data of the call: before its one point and after it. -/
def dat0 (c : Dev nD) : Dat τ (Elt F) Unit ℕ UU ℕ cfg0 c where
  A w := w.elim0
  after w := w.elim0
  Φ t := if t.val = 0 then before m c else iprop(done m c ∗ zeros c)
  q w := w.elim0
  owed t := if t.val = 0 then O₀ c else 0

theorem owesAt_of (c : Dev nD) (t : Fin (cfg0.N + 1)) (O : CellTallies nD τ sig Unit) (h : (dat0 m c).owed t = O) (W : Waits sig Unit) :
    (owes (c : Thread nD τ) O W : sProp 𝕄) ⊢ (dat0 m c).owesAt () t := by
  unfold Dat.owesAt Pipeline.owesWithin Dat.bound
  rw [h, show (dat0 m c).recorded t = Set.univ from rfl]
  iintro H
  iexists W
  isplitr; · ipureintro; exact fun _ _ => Or.inl trivial
  iexact H
theorem of_owesAt (c : Dev nD) (t : Fin (cfg0.N + 1)) (O : CellTallies nD τ sig Unit) (h : (dat0 m c).owed t = O) :
    (dat0 m c).owesAt () t ⊢ (iprop(∃ W, owes (c : Thread nD τ) O W) : sProp 𝕄) := by
  unfold Dat.owesAt Pipeline.owesWithin
  rw [h]
  iintro ⟨%W, -, H⟩
  iexists W; iexact H

theorem owed_first (c : Dev nD) : (dat0 m c).owed t0_0.castSucc = O₀ c := rfl
theorem owed_last (c : Dev nD) : (dat0 m c).owed t0_0.succ = 0 := rfl

set_option backward.isDefEq.respectTransparency.types false in
theorem body (c : Dev nD) : BodyObligation (dat0 (F := F) m c) defs₀ 𝒱₀ () Set.univ := fun t => by
  obtain rfl := fin_N0 t
  rw [noWin, noWin]
  rw [show (dat0 m c).Φ t0_0.castSucc = before m c from rfl,
    show (dat0 m c).Φ t0_0.succ = iprop(done m c ∗ zeros c) from rfl]
  iintro ⟨HΦ, HO, -⟩
  ihave HO' := (of_owesAt m c _ (O₀ c) (owed_first m c)) $$ HO
  icases HO' with ⟨%W, HO⟩
  iapply (kernelRun m c W _)
  isplitl [HΦ HO]; · isplitl [HΦ] <;> iassumption
  iintro ⟨Hd, Hz, ⟨%W', HO⟩⟩
  isplitl [Hd Hz]; · isplitl [Hd] <;> iassumption
  isplitl [HO]; · iapply (owesAt_of m c t0_0.succ 0 (owed_last m c) W'); iexact HO
  iempintro

/-! ## The ghost state, dealt at the launch -/

theorem kcell_inj : Function.Injective kcell := fun _ _ h =>
  Prod.ext (congrArg (fun g : GSem nD τ sig => g.1.1) h) (osem_inj (congrArg Prod.snd h))
def cellSet : Finset (GSem nD τ sig) := Finset.univ.map ⟨kcell, kcell_inj⟩
def tokSet : Finset (GSem nD τ sig × ℕ × Unit) :=
  Finset.univ.map ⟨fun ck => (kcell ck, 0, ()), fun _ _ h => kcell_inj (congrArg Prod.fst h)⟩
def u₀ : UU := initOf cellSet tokSet

def toks (c : Dev nD) : sProp 𝕄 := bigSep Finset.univ fun k : Fin 2 => dutyTok ER (kcell (c, k)) 0 ()
/-- What the launch's ghost element gives core `c`. -/
def dealt (c : Dev nD) : sProp 𝕄 :=
  iprop((bigSep Finset.univ fun k : Fin 2 => roundState ER (rd m) (kcell (c, k)) 0)
    ∗ ((bigSep Finset.univ fun k : Fin 2 => atPos ER (kcell (c, k)) 0 ∅ 0) ∗ bigSep Finset.univ fun k : Fin 2 => reached ER (kcell (c, k)) 0)
    ∗ toks c)

theorem deal : (ownU (u₀ : UU) : sProp 𝕄) ⊢ (|==> bigSep Finset.univ (dealt m) : sProp 𝕄) := by
  have hS (Φ : GSem nD τ sig → sProp 𝕄) : bigSep cellSet Φ = bigSep Finset.univ fun c : Dev nD => bigSep Finset.univ fun k : Fin 2 => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet toks; rw [bigSep_map, bigSep_univ_prod]; rfl
  refine (show (ownU (u₀ : UU) : sProp 𝕄) ⊢ BI.own (ER (initOf cellSet tokSet)) from BI.Entails.refl _).trans ?_
  iintro H
  imod (Rounds.fund ER (rd m) cellSet tokSet) $$ H with ⟨Hst, Hr, Hat, Htok⟩
  imodintro
  ihave Hst' := (Entails.of_eq (hS fun g => roundState ER (rd m) g 0)) $$ Hst
  ihave Hat' := (Entails.of_eq (hS fun g => atPos ER g 0 ∅ 0)) $$ Hat
  ihave Hr' := (Entails.of_eq (hS fun g => reached ER g 0)) $$ Hr
  ihave Htok' := (Entails.of_eq hT) $$ Htok
  unfold dealt
  simp only [bigSep_sep']
  isplitl [Hst']; · iexact Hst'
  isplitl [Hat' Hr']; · isplitl [Hat'] <;> iassumption
  iexact Htok'

theorem opened (c : Dev nD) :
    iprop(Pipeline.ownSems0 (Ix := Unit) (Name := ℕ) (U := UU) (Lvl := ℕ) (Val := Elt F) (τ := τ) osem c ∗ dealt m c)
      ⊢ |={Set.univ}=> iprop((bigSep Finset.univ fun k : Fin 2 => iprop(∃ κ : ℕ, cellInv ER (rd m) κ (kcell (c, k))))
          ∗ ((bigSep Finset.univ fun k : Fin 2 => atPos ER (kcell (c, k)) 0 ∅ 0) ∗ bigSep Finset.univ fun k : Fin 2 => reached ER (kcell (c, k)) 0)
          ∗ toks c) := by
  unfold dealt
  rw [show (Pipeline.ownSems0 (Ix := Unit) (Name := ℕ) (U := UU) (Lvl := ℕ) (Val := Elt F) (τ := τ) osem c : sProp 𝕄)
    = bigSep Finset.univ fun k : Fin 2 => semVal (kcell (c, k)) 0 from rfl]
  iintro ⟨Hv, Hst, Hrest⟩
  imod (show iprop((bigSep Finset.univ fun k : Fin 2 => semVal (kcell (c, k)) 0) ∗ bigSep Finset.univ fun k : Fin 2 => roundState ER (rd m) (kcell (c, k)) 0)
      ⊢ (|={Set.univ}=> bigSep Finset.univ fun k : Fin 2 => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv] <;> iassumption

/-- What every core may consult: all the invariants, and round 0 reached everywhere. -/
def records (K : Dev nD × Fin 2 → ℕ) : sProp 𝕄 :=
  iprop((bigSep Finset.univ fun ck : Dev nD × Fin 2 => cellInv ER (rd m) (K ck) (kcell ck)) ∗ bigSep Finset.univ fun ck : Dev nD × Fin 2 => reached ER (kcell ck) 0)
instance records_persistent (K : Dev nD × Fin 2 → ℕ) : BI.Persistent (records m K) := by unfold records; infer_instance

theorem inv_of (K : Dev nD × Fin 2 → ℕ) (ck : Dev nD × Fin 2) :
    (bigSep Finset.univ fun ck : Dev nD × Fin 2 => (cellInv ER (rd m) (K ck) (kcell ck) : sProp 𝕄)) ⊢ cellInv ER (rd m) (K ck) (kcell ck) :=
  bigSep_elim (Finset.mem_univ ck)
theorem reached_of (ck : Dev nD × Fin 2) :
    (bigSep Finset.univ fun ck : Dev nD × Fin 2 => (reached ER (kcell ck) 0 : sProp 𝕄)) ⊢ reached ER (kcell ck) 0 :=
  bigSep_elim (Finset.mem_univ ck)

def own (c : Dev nD) : sProp 𝕄 :=
  iprop((bigSep Finset.univ fun k : Fin 2 => atPos ER (kcell (c, k)) 0 ∅ 0) ∗ dutyTok ER (sendCell c) 0 () ∗ dutyTok ER (recvCell (peer c)) 0 ())

theorem ghost_of (K : Dev nD × Fin 2 → ℕ) (c : Dev nD) : iprop(records m K ∗ own c) ⊢ iprop(∃ K, ghost m K c) := by
  unfold records own ghost invs
  rw [BI.bigSep_fin_two]
  iintro ⟨⟨#HI, #HR⟩, Hat, HtS, HtV⟩
  iexists K
  isplitr
  · isplitr; · iapply (inv_of m K (c, 0)); iexact HI
    isplitr; · iapply (inv_of m K (c, 1)); iexact HI
    iapply (inv_of m K (peer c, 1)); iexact HI
  isplitl [Hat]
  · iapply (show iprop(atPos ER (kcell (c, 0)) 0 ∅ 0 ∗ atPos ER (kcell (c, 1)) 0 ∅ 0) ⊢ (iprop(atPos ER (sendCell c) 0 ∅ 0 ∗ atPos ER (recvCell c) 0 ∅ 0) : sProp 𝕄)
      from BI.Entails.refl _)
    iexact Hat
  isplitr; · iapply (reached_of (F := F) (c, 0)); iexact HR
  isplitr; · iapply (reached_of (F := F) (peer c, 1)); iexact HR
  isplitl [HtS] <;> iassumption

/-- The token of each receiving cell goes to the core that will fill it. -/
theorem toks_across :
    (bigSep Finset.univ fun c : Dev nD => (toks c : sProp 𝕄))
      ⊢ bigSep Finset.univ fun c : Dev nD => iprop(dutyTok ER (sendCell c) 0 () ∗ dutyTok ER (recvCell (peer c)) 0 ()) := by
  have h : (bigSep Finset.univ fun c : Dev nD => (toks c : sProp 𝕄))
      = bigSep Finset.univ fun c : Dev nD => iprop(dutyTok ER (sendCell c) 0 () ∗ dutyTok ER (recvCell c) 0 ()) :=
    bigSep_congr fun c _ => by unfold toks; rw [BI.bigSep_fin_two]; rfl
  rw [h, bigSep_sep', bigSep_sep', bigSep_univ_equiv swapE (fun c : Dev nD => (dutyTok ER (recvCell c) 0 () : sProp 𝕄))]
  exact BI.Entails.refl _

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 2 => iprop(∃ κ : ℕ, cellInv ER (rd m) κ (kcell (c, k))))
          ∗ ((bigSep Finset.univ fun k : Fin 2 => atPos ER (kcell (c, k)) 0 ∅ 0) ∗ bigSep Finset.univ fun k : Fin 2 => reached ER (kcell (c, k)) 0)
          ∗ toks c) : sProp 𝕄)
      ⊢ bigSep Finset.univ fun c => iprop(∃ K, ghost m K c) := by
  rw [bigSep_sep', bigSep_sep', bigSep_sep', ← bigSep_univ_prod (fun ck : Dev nD × Fin 2 => iprop(∃ κ : ℕ, cellInv ER (rd m) κ (kcell ck))),
    ← bigSep_univ_prod (fun ck : Dev nD × Fin 2 => (reached ER (kcell ck) 0 : sProp 𝕄))]
  iintro ⟨HI, ⟨Hat, #HR⟩, Htok⟩
  ihave HK := (BI.bigSep_exists_pi Finset.univ (fun (ck : Dev nD × Fin 2) (κ : ℕ) => (cellInv ER (rd m) κ (kcell ck) : sProp 𝕄))) $$ HI
  icases HK with ⟨%K, #HI⟩
  ihave Htk := (toks_across (F := F)) $$ Htok
  iapply (with_records (R := records m K) fun c _ => ghost_of m K c)
  isplitr
  · unfold records; isplitl; · iexact HI
    iexact HR
  · iapply ((Entails.of_eq (bigSep_sep' Finset.univ (fun c : Dev nD => bigSep Finset.univ fun k : Fin 2 => (atPos ER (kcell (c, k)) 0 ∅ 0 : sProp 𝕄))
        (fun c => iprop(dutyTok ER (sendCell c) 0 () ∗ dutyTok ER (recvCell (peer c)) 0 ()))).symm).trans
      (show _ ⊢ bigSep Finset.univ own from BI.Entails.refl _))
    isplitl [Hat] <;> iassumption

theorem start : (bigSep Finset.univ fun c => iprop(Pipeline.ownSems0 (Ix := Unit) (Name := ℕ) (U := UU) (Lvl := ℕ) (Val := Elt F) (τ := τ) osem c ∗ dealt m c) : sProp 𝕄)
    ⊢ |={Set.univ}=> bigSep Finset.univ fun c => iprop(∃ K, ghost m K c) :=
  ((bigSep_mono fun c _ => opened m c).trans (bigSep_fupd _ _)).trans (BI.fupd_mono (regroup m))

/-! ## The launched program -/

abbrev adm (_ : Dev nD) : (p : Fin 1) → (pcfgs (F := F) p).Adm := fun p => (cfgs p).toPCfg_adm
abbrev CF : Dev nD → Fin 1 → Pipeline.Cfg sig Λ₀ := Pipeline.pinD (pcfgs (F := F)) adm
def dats : (p : Fin 1) → (c : Dev nD) → Dat τ (Elt F) Unit ℕ UU ℕ (CF (F := F) c p) c := fun | 0 => dat0 m

theorem cells_inj : Function.Injective (Pipeline.PerCore.cellOf (nD := nD) (τ := τ) (CF (F := F))) := cellOf_inj

/-- The semaphores and buffers of the call that are not the kernel's own. -/
def around (c : Dev nD) : sProp 𝕄 :=
  iprop(scopedBufs (c.tc : Thread nD τ) ∗ Pipeline.PerCore.cellsSems0 (CF (F := F)) 0 c
    ∗ Pipeline.PerCore.idleSems0 (CF (F := F)) cells_inj 0 (fun _ => ownSem) c)

theorem sems_split (c : Dev nD) : (scopedSems0 (c.tc : Thread nD τ) : sProp 𝕄)
    = iprop((Pipeline.PerCore.cellsSems0 (CF (F := F)) 0 c ∗ Pipeline.ownSems0 (τ := τ) osem c)
      ∗ Pipeline.PerCore.idleSems0 (CF (F := F)) cells_inj 0 (fun _ => ownSem) c) :=
  Pipeline.PerCore.scopedSems0_split (CF (F := F)) cells_inj 0 (fun _ => winFacts0.to₀) (fun _ => ownSem) c

theorem bufs_split (c : Dev nD) : (scopedBufs (c.tc : Thread nD τ) : sProp 𝕄) = iprop(Dat.staging (CF (F := F) c 0) c ∗ emp) := by
  refine Eq.trans ?_ (congrArg (fun R : sProp 𝕄 => iprop(Dat.staging (CF (F := F) c 0) c ∗ R)) (scopedRest0_eq (Ix := Unit) (Val := Elt F) (Name := ℕ) (U := UU) (Lvl := ℕ) c))
  exact Pipeline.PerCore.scopedBufs_split (CF (F := F)) 0 c winFacts0.stage_scoped winFacts0.stage_inj stage_whole0

theorem args_split (c : Dev nD) :
    (unscopedBufs c (fun b => m ((c.tc : Thread nD τ).loc b)) : sProp 𝕄) ⊢ iprop(argPts m c ∗ dstPts c (m (dst.view.loc (c : Thread nD τ)))) := by
  rw [Pipeline.PerCore.unscopedBufs_split (CF (F := F)) 0 c winFacts0.arr_unscoped winFacts0.arr_inj]
  iintro ⟨-, H⟩
  ihave H' := (Entails.of_eq (unscopedRest0_eq (Ix := Unit) (Val := Elt F) (Name := ℕ) (U := UU) (Lvl := ℕ) c (fun b => m ((c.tc : Thread nD τ).loc b)))) $$ H
  icases H' with ⟨Ha, Hd⟩
  isplitl [Ha]; · iexact Ha
  iapply (Entails.of_eq (show ((c.tc : Thread nD τ).loc main_v1 ↦{fullShare} m ((c.tc : Thread nD τ).loc main_v1) : sProp 𝕄) = dstPts c (m (dst.view.loc (c : Thread nD τ))) from by
    show _ = (dst.view.loc (c : Thread nD τ) ↦[dst.view.set]{fullShare} m (dst.view.loc (c : Thread nD τ)))
    rw [(Memref.isWhole_whole main_v1).set_eq_univ]))
  iexact Hd

theorem entry (κ : GSem nD τ sig → ℕ) (c : Dev nD) :
    (owes (c.tc : Thread nD τ) (O₀ c) ∅ : sProp 𝕄) ⊢ Pipeline.PerCore.EntryPre (CF (F := F)) (dats m) () ER κ 0 c := by
  have e (Φ : Fin 0 → sProp 𝕄) : (iprop(emp) : sProp 𝕄) ⊢ bigSep Finset.univ Φ := Entails.of_eq (noWin Φ).symm
  unfold Pipeline.PerCore.EntryPre Dat.arrays Pipeline.PerCore.cellsWaits Pipeline.PerCore.cellsInit Pipeline.PerCore.RDat.cellsWaits Pipeline.PerCore.RDat.cellsInit Pipeline.PerCore.toksInit
  iintro H
  isplitr; · iapply (e _); iempintro
  isplitl [H]; · iapply (owesAt_of m c 0 (O₀ c) rfl ∅); iexact H
  isplitr; · iapply (e _); iempintro
  isplitr; · iapply (e _); iempintro
  iapply (e _); iempintro

theorem own_zeros (c : Dev nD) : (Pipeline.ownSems0 (Ix := Unit) (Name := ℕ) (U := UU) (Lvl := ℕ) (Val := Elt F) (τ := τ) osem c : sProp 𝕄) = zeros c := by
  unfold Pipeline.ownSems0 zeros; rw [BI.bigSep_fin_two]; rfl

/-- One core's share of what the launch hands out. -/
theorem core_start (c : Dev nD) :
    coreInit (Ix := Unit) (Name := ℕ) (U := UU) (Lvl := ℕ) (Pipeline.owing O₀) 0 (⟨m, fun _ => 0, ρ⟩ : MemSt nD τ sig (Elt F)) (c.tc : Thread nD τ)
      ⊢ (iprop(around c ∗ Pipeline.ownSems0 (τ := τ) osem c ∗ (argPts m c ∗ dstPts c (m (dst.view.loc (c : Thread nD τ))))
          ∗ owes (c.tc : Thread nD τ) (O₀ c) ∅ ∗ cred (tallyAt (recvCell c) () N)) : sProp 𝕄) := by
  refine (Pipeline.coreInit_boundary_owing O₀ m ρ c).trans ?_
  unfold boundary around
  rw [sems_split c]
  iintro ⟨⟨Hb, ⟨⟨Hc, Ho⟩, Hi⟩, -⟩, Hub, -, HO, -, -, Hcr⟩
  isplitl [Hb Hc Hi]
  · isplitl [Hb]; · iexact Hb
    isplitl [Hc] <;> iassumption
  isplitl [Ho]; · iexact Ho
  isplitl [Hub]; · iapply (args_split m c); iexact Hub
  isplitl [HO]; · iexact HO
  iapply (Pipeline.launchCred_tallyAt (.dma recvS) peer peer peer_peer peer_peer () N c)
  iexact Hcr

theorem last_state (c : Dev nD) : (dat0 (F := F) m c).Φ (Fin.last cfg0.N) = iprop(done m c ∗ zeros c) := rfl

set_option backward.isDefEq.respectTransparency.types false in
theorem enter (c : Dev nD) (q) : iprop(before m c ∗ Pipeline.prefHeld (pcfgs (F := F) 0).pre c q (adm (F := F) c 0).1 ∗ emp) ⊢ (dats m 0 c).Φ 0 := by
  show _ ⊢ (before m c : sProp 𝕄)
  iintro ⟨H, -⟩; iexact H

set_option backward.isDefEq.respectTransparency.types false in
theorem leave (c : Dev nD) : iprop((dats m 0 c).Φ (Fin.last (CF (F := F) c 0).N) ∗ Pipeline.PerCore.cellsSems0 (CF (F := F)) 0 c ∗ Dat.staging (CF (F := F) c 0) c
        ∗ Pipeline.PerCore.idleSems0 (CF (F := F)) cells_inj 0 (fun _ => ownSem) c)
      ⊢ iprop(done m c ∗ scopedSems0 (c.tc : Thread nD τ) ∗ scopedBufs (c.tc : Thread nD τ)) := by
  rw [sems_split c, bufs_split c, own_zeros c]
  have h : (dats m 0 c).Φ (Fin.last (CF (F := F) c 0).N) ⊢ iprop(done m c ∗ zeros c) := Entails.of_eq (last_state m c)
  iintro ⟨HΦ, Hc, Hst, Hi⟩
  ihave H := h $$ HΦ
  icases H with ⟨Hd, Hz⟩
  isplitl [Hd]; · iexact Hd
  isplitl [Hc Hz Hi]
  · isplitl [Hc Hz]; · isplitl [Hc] <;> iassumption
    iexact Hi
  isplitl [Hst]; · iexact Hst
  iempintro

theorem main_eq (c : Dev nD) : main (F := F) c = .op (.customCall (Pipeline.entry 0) ()) fun _ => .ret ⟨⟩ := rfl

set_option backward.isDefEq.respectTransparency.types false in
/-- The call itself: entered with every waiting duty of the core, left with none. -/
theorem core_call (c : Dev nD) (Q : PUnit → sProp 𝕄) :
    iprop(Pipeline.PerCore.EntryPre (CF (F := F)) (dats m) () ER (fun _ => 0) 0 c ∗ Pipeline.prefHeld (pcfgs (F := F) 0).pre c (fun _ => fullShare) (adm (F := F) c 0).1
        ∗ before m c ∗ Pipeline.PerCore.idleSems0 (CF (F := F)) cells_inj 0 (fun _ => ownSem) c ∗ scopedBufs (c.tc : Thread nD τ))
      ⊢ iprop(((Pipeline.PerCore.EntryPost (CF (F := F)) (dats m) () 0 c ∗ done m c ∗ scopedSems0 (c.tc : Thread nD τ) ∗ scopedBufs (c.tc : Thread nD τ))
            -∗ wp frame (wpE (Pipeline.defs (pcfgs (F := F)) defs₀) (Variants.lift 𝒱₀) (c.tc : Thread nD τ) none) Set.univ (.ret ⟨⟩) Q)
          -∗ wp frame (wpE (Pipeline.defs (pcfgs (F := F)) defs₀) (Variants.lift 𝒱₀) (c.tc : Thread nD τ) none) Set.univ
            (.op (.customCall (Pipeline.entry 0) ()) fun _ => .ret ⟨⟩) Q) := by
  have h := Pipeline.PerCore.wp_customCall_entry_frame (pcfgs (F := F)) adm (dats m) () ER (fun _ => 0) cells_inj 0 defs₀ 𝒱₀ (fun _ => fullShare) c Set.univ
      (fun _ _ => Set.mem_univ _) (body m c).loose (fun w => w.elim0) none (fun u h => nomatch h) (X := before m c) (Y := done m c) (R := iprop(emp))
      (I := Pipeline.PerCore.idleSems0 (CF (F := F)) cells_inj 0 (fun _ => ownSem) c) (Entails.of_eq (bufs_split c)) (enter m c _) (leave m c)
      (k := fun _ => .ret ⟨⟩) (Q := Q)
  exact h

theorem left (c : Dev nD) : Pipeline.PerCore.EntryPost (CF (F := F)) (dats m) () 0 c ⊢ (iprop(∃ W, owes (c.tc : Thread nD τ) 0 W) : sProp 𝕄) := by
  unfold Pipeline.PerCore.EntryPost
  iintro ⟨-, HW⟩
  iapply (of_owesAt m c (Fin.last _) 0 rfl)
  iexact HW

/-- The run of the call on one core, from what the launch gave it. -/
theorem core_run (c : Dev nD) :
    iprop(around c ∗ owes (c.tc : Thread nD τ) (O₀ c) ∅ ∗ before m c)
      ⊢ wp frame (wpE (defs (F := F)) (Variants.lift 𝒱₀) (c.tc : Thread nD τ) none) Set.univ (main (F := F) c)
        (fun _ => post (liftTc (fun c => iprop(done m c ∗ scopedSems0 (c.tc : Thread nD τ))) BI.emp) (c.tc : Thread nD τ)) := by
  rw [main_eq c, show defs (F := F) = Pipeline.defs (pcfgs (F := F)) defs₀ from rfl]
  unfold around
  iintro ⟨⟨Hb, -, Hi⟩, HO, HX⟩
  iapply (core_call m c _) $$ [Hb HO HX Hi]
  · isplitl [HO]; · iapply (entry m (fun _ => 0) c); iexact HO
    isplitr; · unfold Pipeline.prefHeld; iapply (Entails.of_eq (noWin _).symm); iempintro
    isplitl [HX]; · iexact HX
    isplitl [Hi] <;> iassumption
  iintro ⟨Hpost, HY, Hss, -⟩
  rw [wp_ret]; imodintro
  unfold post; simp only [liftTc_tc]
  isplitr [Hpost]; · isplitl [HY] <;> iassumption
  iapply (left m c); iexact Hpost

/-- The run: every core's array is as it was, its result holds what its peer sent, and every counter is zero. -/
theorem run_main : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_v1) = landed m c) ∧ r.2.sem = fun _ => 0) := by
  refine (θ_run (defs (F := F)) _ _).mono (Q := fun r => (∀ c : Dev nD, (r.2.mem ((c.tc : Thread nD τ).loc main_arg0) = m ((c.tc : Thread nD τ).loc main_arg0)
        ∧ r.2.mem ((c.tc : Thread nD τ).loc main_v1) = landed m c)
      ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, sem_eq_zero_of_scoped (by decide) (sems_of_reads (fun c => (hr.1 c).2) hr.2)⟩)
    (adequate_tpu (Ix := Unit) (Name := ℕ) (U := UU) (Lvl := ℕ) (defs (F := F)) _ _ _
      (reflect_intro_fupd_tc_sems (X := Unit) (Variants.lift 𝒱₀) (Pipeline.owing O₀) 0 (noBookings fun _ => le_rfl) (Pipeline.owing_of_ne O₀) u₀
        (fun _ c => iprop(around c ∗ owes (c.tc : Thread nD τ) (O₀ c) ∅ ∗ before m c))
        (fun _ c => iprop(done m c ∗ scopedSems0 (c.tc : Thread nD τ)))
        (fun _ => iprop(emp)) Set.univ ?_ (fun _ c => core_run m c) fun _ => ?_))
  · have hcores : (bigSep Finset.univ fun d : Dev nD =>
          coreInit (Ix := Unit) (Name := ℕ) (U := UU) (Lvl := ℕ) (Pipeline.owing O₀) 0 (⟨m, fun _ => 0, ρ⟩ : MemSt nD τ sig (Elt F)) (d.tc : Thread nD τ))
        ⊢ (iprop((bigSep Finset.univ fun c : Dev nD => around c)
          ∗ (bigSep Finset.univ fun c : Dev nD => Pipeline.ownSems0 (Ix := Unit) (Name := ℕ) (U := UU) (Lvl := ℕ) (Val := Elt F) (τ := τ) osem c)
          ∗ ((bigSep Finset.univ fun c : Dev nD => argPts m c) ∗ bigSep Finset.univ fun c : Dev nD => dstPts c (m (dst.view.loc (c : Thread nD τ))))
          ∗ (bigSep Finset.univ fun c : Dev nD => owes (c.tc : Thread nD τ) (O₀ c) ∅)
          ∗ bigSep Finset.univ fun c : Dev nD => cred (tallyAt (recvCell c) () N)) : sProp 𝕄) := by
      refine (bigSep_mono fun c _ => core_start m ρ c).trans ?_
      simp only [bigSep_sep']
      exact BI.Entails.refl _
    have hswap : (bigSep Finset.univ fun c : Dev nD => dstPts c (m (dst.view.loc (c : Thread nD τ))) : sProp 𝕄)
        ⊢ bigSep Finset.univ fun c : Dev nD => dstPts (peer c) (m (dst.view.loc (peer c : Thread nD τ))) :=
      Entails.of_eq (bigSep_univ_equiv swapE fun c : Dev nD => (dstPts c (m (dst.view.loc (c : Thread nD τ))) : sProp 𝕄))
    iintro ⟨Hcores, Hu⟩
    ihave Hc := hcores $$ Hcores
    icases Hc with ⟨Haround, Hos, ⟨Ha, Hd⟩, HO, Hcr⟩
    imod (deal m) $$ Hu with HG
    imod (start m) $$ [Hos HG] with Hg
    · rw [bigSep_sep']; isplitl [Hos] <;> iassumption
    imodintro
    iexists ()
    isplitr []
    · unfold before
      simp only [bigSep_sep']
      isplitl [Haround]; · iexact Haround
      isplitl [HO]; · iexact HO
      isplitl [Hg]; · iexact Hg
      isplitl [Hcr]; · iexact Hcr
      isplitl [Ha]; · iexact Ha
      iapply hswap; iexact Hd
    · iempintro
  · have hcore (c : Dev nD) (s' : Phys nD τ sig (Elt F)) : iprop(iprop(done m c ∗ scopedSems0 (c.tc : Thread nD τ)) ∗ SI s') ⊢ |={Set.univ}=>
        iprop(⌜(s'.mem.mem ((c.tc : Thread nD τ).loc main_arg0) = m ((c.tc : Thread nD τ).loc main_arg0)
            ∧ s'.mem.mem ((c.tc : Thread nD τ).loc main_v1) = landed m c)
          ∧ ∀ sm : SemLoc sig, sm.isScoped .tc = true → s'.mem.sem ((c.tc : Thread nD τ), sm) = 0⌝ ∗ SI s') := by
      unfold done dstPts
      rw [(Memref.isWhole_whole main_v1).set_eq_univ]
      iintro ⟨⟨⟨Ha, Hd⟩, Hss⟩, HSI⟩
      ihave %hz := (tcScoped_read_pers c s') $$ [Hss HSI]
      · isplitl [Hss] <;> iassumption
      icombine HSI Ha gives %ha
      icombine HSI Hd gives %hd
      imodintro
      isplitr
      · ipureintro
        exact ⟨⟨Buf.eq_of_forall_mem_univ ha, Buf.eq_of_forall_mem_univ hd⟩, hz⟩
      iexact HSI
    iintro ⟨H, -, Hsc⟩ %s' HSI
    ihave %hsc := (scSems_read_zero m ρ s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

/-! ## The frames -/

theorem frame_ideal : Cert.quiescent_SwapIdeal := fun m ρ _ =>
  (θ_run (Cert.SwapIdeal.defs (F := Ideal)) _ _).mono (fun _ h => ⟨fun c => (h.1 c).1, h.2⟩) (run_main m ρ)

theorem frame : Cert.quiescent_Swap := fun m ρ _ =>
  (θ_run (Cert.SwapIdeal.defs (F := Bits)) _ _).mono (fun _ h => ⟨fun c => (h.1 c).1, h.2⟩) (run_main (F := Bits) m ρ)

theorem reference_frame : Cert.quiescent_RefSwapIdeal := fun m ρ _ =>
  (θ_run Cert.RefSwapIdeal.defs _ _).mono
    (fun r h => ⟨fun c => (h c).2, Idealize.ShloMosaic.sem_eq_zero_of_no_sems (by decide) r.2⟩)
    (Cert.RefSwapIdeal.Value.run (F := Ideal) m ρ)

/-! ## The value -/

/-- Where element `i` of the shard core `c` ends with lies in the whole array: in the rows of the other core of its chip, in the
    half that is core `c`'s. -/
def place (c : Fin 8) (i : S4x704x2048.Idx) : Cert.RefSwapIdeal.S32x2x704x2048.Idx := fun a => match a with
  | ⟨0, _⟩ => ⟨4 * (peer c).val + (i 0).val, by
      have h0 : (i 0).val < 4 := (i 0).isLt
      have h1 : (peer c).val < 8 := (peer c).isLt
      show 4 * (peer c).val + (i 0).val < 32; omega⟩
  | ⟨1, _⟩ => ⟨c.val % 2, by show c.val % 2 < 2; omega⟩
  | ⟨2, _⟩ => i 1
  | ⟨3, _⟩ => i 2

theorem peer_parity (c : Dev nD) : 1 - (peer c).val % 2 = c.val % 2 := by
  have h : (peer c).val = (4 * (c.val / 4) + 2 * ((c.val / 2) % 2) + 1) - (c.val % 2) := k0_dev1_eq c
  rw [h]; omega

section value

open Cert.RefSwapIdeal.Read

variable (X : (⟨Cert.RefSwapIdeal.S32x2x704x2048, .bf16⟩ : BufTy).Contents (Elt Ideal))

/-- The reference's eight pieces, by the core that ends with them. -/
def piece (c : Fin 8) : S4x704x2048.Idx → Elt Ideal .bf16 := match c with
  | 0 => val_main_v1 X | 1 => val_main_v3 X | 2 => val_main_v5 X | 3 => val_main_v7 X
  | 4 => val_main_v9 X | 5 => val_main_v11 X | 6 => val_main_v13 X | 7 => val_main_v15 X

theorem place_ext (c : Fin 8) (p : ℕ) (hp : (peer c).val = p) (i : S4x704x2048.Idx) (j : Cert.RefSwapIdeal.S32x2x704x2048.Idx)
    (h0 : (j 0).val = 4 * p + (i 0).val) (h1 : (j 1).val = c.val % 2) (h2 : (j 2).val = (i 1).val) (h3 : (j 3).val = (i 2).val) :
    X j = X (place c i) := by
  subst hp
  refine congrArg X (funext fun a => Fin.ext ?_)
  match a with
  | ⟨0, _⟩ => exact h0
  | ⟨1, _⟩ => exact h1
  | ⟨2, _⟩ => exact h2
  | ⟨3, _⟩ => exact h3

theorem piece_apply (c : Fin 8) (i : S4x704x2048.Idx) : piece X c i = X (place c i) := by
  have hi0 : (i 0).val < 4 := (i 0).isLt
  have hi1 : (i 1).val < 704 := (i 1).isLt
  have hi2 : (i 2).val < 2048 := (i 2).isLt
  have q0 : (((i 0).val * 704 + (i 1).val) * 2048 + (i 2).val) / 1441792 = (i 0).val := by omega
  have q1 : (((i 0).val * 704 + (i 1).val) * 2048 + (i 2).val) / 2048 % 704 = (i 1).val := by omega
  have q2 : (((i 0).val * 704 + (i 1).val) * 2048 + (i 2).val) % 2048 = (i 2).val := by omega
  match c with
  | 0 => exact (val_main_v1_apply X i).trans ((val_main_v0_apply X _).trans (place_ext X 0 1 rfl i _ (congrArg (4 + ·) q0) rfl q1 q2))
  | 1 => exact (val_main_v3_apply X i).trans ((val_main_v2_apply X _).trans (place_ext X 1 0 rfl i _ (q0.trans (Nat.zero_add _).symm) rfl q1 q2))
  | 2 => exact (val_main_v5_apply X i).trans ((val_main_v4_apply X _).trans (place_ext X 2 3 rfl i _ (congrArg (12 + ·) q0) rfl q1 q2))
  | 3 => exact (val_main_v7_apply X i).trans ((val_main_v6_apply X _).trans (place_ext X 3 2 rfl i _ (congrArg (8 + ·) q0)
      (show (1 + 0 : ℕ) = (3 : Fin 8).val % 2 from by decide) q1 q2))
  | 4 => exact (val_main_v9_apply X i).trans ((val_main_v8_apply X _).trans (place_ext X 4 5 rfl i _ (congrArg (20 + ·) q0) rfl q1 q2))
  | 5 => exact (val_main_v11_apply X i).trans ((val_main_v10_apply X _).trans (place_ext X 5 4 rfl i _ (congrArg (16 + ·) q0)
      (show (1 + 0 : ℕ) = (5 : Fin 8).val % 2 from by decide) q1 q2))
  | 6 => exact (val_main_v13_apply X i).trans ((val_main_v12_apply X _).trans (place_ext X 6 7 rfl i _ (congrArg (28 + ·) q0) rfl q1 q2))
  | 7 => exact (val_main_v15_apply X i).trans ((val_main_v14_apply X _).trans (place_ext X 7 6 rfl i _ (congrArg (24 + ·) q0)
      (show (1 + 0 : ℕ) = (7 : Fin 8).val % 2 from by decide) q1 q2))

theorem block_result (hk : Layout.Tiles ⟨3, ![4, 704, 2048]⟩ ⟨3, ![32, 704, 2048]⟩ 0 8) (c : Fin 8) :
    Layout.block ⟨3, ![4, 704, 2048]⟩ ⟨3, ![32, 704, 2048]⟩ 0 8 c (val_main_v16 X) hk = piece X c :=
  Layout.block_concatenate_ofFn (s₁ := S4x704x2048) (t := Cert.RefSwapIdeal.S32x704x2048) (0 : Fin 3) (piece X)
    Cert.RefSwapIdeal.Gen.concatenates_S4x704x2048_S4x704x2048_S4x704x2048_S4x704x2048_S4x704x2048_S4x704x2048_S4x704x2048_S4x704x2048_S32x704x2048_d0 hk c

end value

theorem src_apply (d : Dev nD) (f : Buf (Elt F) (argM.view.loc (d : Thread nD τ))) (i : S4x704x2048.Idx) (j : S4x2x704x2048.Idx)
    (h0 : (j 0).val = (i 0).val) (h1 : (j 1).val = 1 - d.val % 2) (h2 : (j 2).val = (i 1).val) (h3 : (j 3).val = (i 2).val) :
    (src d).view.read (Elt F) f i = f j := by
  let k : S4x1x704x2048.Idx := fun a => match a with
    | ⟨0, _⟩ => i 0
    | ⟨1, _⟩ => ⟨0, Nat.one_pos⟩
    | ⟨2, _⟩ => i 1
    | ⟨3, _⟩ => i 2
  have hc : S4x1x704x2048.ShapeCasts S4x704x2048 := by decide
  have e : (S4x1x704x2048.rowMajor k).val = (S4x704x2048.rowMajor i).val := by
    rewrite [Shape.rowMajor_val_four, Shape.rowMajor_val_three]
    show ((((i 0).val * 1 + 0) * 704 + (i 1).val) * 2048 + (i 2).val) = ((i 0).val * 704 + (i 1).val) * 2048 + (i 2).val
    omega
  refine (shapeCast_apply (argM.view.readAt (Elt F) (Rect.unit (s := S4x2x704x2048) (k0_off1 d) S4x1x704x2048.size (k0_off1_inb d)).toLoadRect f)
    hc i k e).trans (congrArg f (funext fun a => Fin.ext ?_))
  show k0_off1 d a + 1 * (k a).val = (j a).val
  rw [k0_off1_eq, Nat.one_mul]
  match a with
  | ⟨0, _⟩ => exact (Nat.zero_add _).trans h0.symm
  | ⟨1, _⟩ => exact h1.symm
  | ⟨2, _⟩ => exact (Nat.zero_add _).trans h2.symm
  | ⟨3, _⟩ => exact (Nat.zero_add _).trans h3.symm

theorem landed_apply (m : (ℓ : Loc nD τ sig) → Buf (Elt Ideal) ℓ) (X : (⟨Cert.RefSwapIdeal.S32x2x704x2048, .bf16⟩ : BufTy).Contents (Elt Ideal))
    (hk : Layout.Tiles ⟨4, ![4, 2, 704, 2048]⟩ ⟨4, ![32, 2, 704, 2048]⟩ 0 8)
    (hX : ∀ c : Dev nD, m ((c.tc : Thread nD τ).loc main_arg0) = Layout.block ⟨4, ![4, 2, 704, 2048]⟩ ⟨4, ![32, 2, 704, 2048]⟩ 0 8 c X hk)
    (c : Dev nD) : landed m c = piece X c := by
  show landedFrom m (peer c) c = _
  unfold landedFrom
  refine (View.write_whole_univ main_v1 _ _).trans (funext fun i => ?_)
  let j : S4x2x704x2048.Idx := fun a => match a with
    | ⟨0, _⟩ => i 0
    | ⟨1, _⟩ => ⟨c.val % 2, by show c.val % 2 < 2; omega⟩
    | ⟨2, _⟩ => i 1
    | ⟨3, _⟩ => i 2
  rw [src_apply (peer c) _ i j rfl (peer_parity c).symm rfl rfl, piece_apply]
  show m ((peer c).tc.loc main_arg0) j = _
  rw [hX (peer c), Layout.block_apply]
  refine congrArg X (funext fun a => Fin.ext ?_)
  rw [Layout.Tiles.idx_val]
  match a with
  | ⟨0, _⟩ => exact congrArg (· + (i 0).val) (Nat.mul_comm _ _)
  | ⟨1, _⟩ => rfl
  | ⟨2, _⟩ => rfl
  | ⟨3, _⟩ => rfl

theorem algebraic : Cert.algebraic_SwapIdeal_RefSwapIdeal := by
  intro m ρ m' ρ' _ hagree
  refine ⟨Cert.RefSwapIdeal.Read.val_main_v16 (m' (((0 : Dev Cert.RefSwapIdeal.nD).tc : Thread Cert.RefSwapIdeal.nD Cert.RefSwapIdeal.τ).loc Cert.RefSwapIdeal.main_arg0)), ?_, ?_⟩
  · refine (θ_run (Cert.SwapIdeal.defs (F := Ideal)) _ _).mono (fun _ h c => ⟨?_, (h.1 c).1⟩) (run_main m ρ)
    exact (h.1 c).2.trans ((landed_apply m _ _ hagree c).trans (block_result _ _ c).symm)
  · refine (θ_run (Cert.RefSwapIdeal.defs (F := Ideal)) _ _).mono (fun _ h => ⟨?_, (h 0).2⟩) (Cert.RefSwapIdeal.Value.run (F := Ideal) m' ρ')
    exact (h 0).1.trans (Cert.RefSwapIdeal.Read.val_main_v16_eq _)

end Cert.Proof.Swap

end
-- ==== Proof.Cast.lean ====
/- The half precision copy of a layer of the input projection's weights: the kernel's result and the reference's are the entries
   of layer 1, for every argument. -/
module

public import proofs.«01_k».proof.Defs
public import proofs.«01_k».proof.Proof.Gen.Cast.Frame
public import proofs.«01_k».proof.Proof.Gen.CastIdeal.Value
public import proofs.«01_k».proof.Proof.Gen.RefCastIdeal.Run
public import proofs.«01_k».proof.Proof.Gen.RefCastIdeal.Read
public import Idealize.ShloMosaic.Lib.Pipeline.ValueKit
public import Idealize.ShloMosaic.Lib.ValueIdx
public import Idealize.ShloMosaic.Adequacy
public import Idealize.ShloMosaic.Init

@[expose] public section

noncomputable section

namespace Cert.Proof.Cast

open Idealize.ShloMosaic hiding ix0 ix1 ix2 ix3 eq_ix2 eq_ix3
open Idealize.ShloMosaic.TcCoe Idealize.ShloMosaic.ValueIdx Idealize.SL.Sem

section kernel

open Cert.CastIdeal Cert.CastIdeal.Gen Cert.CastIdeal.Value Idealize.ShloMosaic.Pipeline

variable (m : (ℓ : Loc nD τ sig) → Buf (Elt Ideal) ℓ)

theorem at0 : ∀ t : Fin cfg0.N, win0_0.index t = ![1, t.val, 0] := (by decide +kernel : ∀ t : Fin grid0.N, _)
theorem at1 : ∀ t : Fin cfg0.N, win0_1.index t = ![t.val, 0] := (by decide +kernel : ∀ t : Fin grid0.N, _)

/-- Row `r` of step `t`'s block in the whole array. -/
abbrev place (t : Fin cfg0.N) (r : Fin 176) : Fin 704 := ⟨t.val * 176 + r.val, by have : t.val < 4 := t.isLt; omega⟩

theorem iblk0_apply (c : Dev nD) (t : Fin cfg0.N) (r : Fin 176) (j : Fin 2048) :
    iblk m c 0 t (ix3 0 r j) = m ((c : Thread nD τ).loc main_arg0) (ix3 1 (place t r) j) := by
  rw [← V_main_arg0 m c]; blk_simp [iblk]; congr 1; blk_ext [at0 t]

/-- Layer 1 of the weights. -/
def Layer (w : FVec Ideal S2x704x2048 .f32) (i : S704x2048.Idx) : EReal := w (ix3 1 (i 0) (i 1))

theorem hz : (![0, 0, 0] : Fin 3 → Nat) = fun _ => 0 := funext fun a => by match a with | ⟨0, _⟩ => rfl | ⟨1, _⟩ => rfl | ⟨2, _⟩ => rfl

theorem block (c : Dev nD) (t : Fin cfg0.N) (r : Fin 176) (j : Fin 2048) :
    (out0_1 (iblk m c 0 t) (ix2 r j) : EReal) = Layer (m ((c : Thread nD τ).loc main_arg0)) (ix2 (place t r) j) := by
  unfold out0_1
  rw [canon1_eq, View.ld_unit_zero hz]
  refine Eq.trans (congrArg (iblk m c 0 t) (?_ : ix1_0 (ix2 r j) = ix3 0 r j)) (iblk0_apply m c t r j)
  exact funext fun a => by match a with | ⟨0, _⟩ => rfl | ⟨1, _⟩ => rfl | ⟨2, _⟩ => rfl

theorem final1 (c : Dev nD) : (dats m 0 c).arrAt 1 cfg0.N = (Layer (m ((c : Thread nD τ).loc main_arg0)) : FVec Ideal S704x2048 .bf16) := by
  refine (dats m 0 c).arrAt_eq_of_covers 1 _ (by decide +kernel) fun t hf y => ?_
  blk_simp
  rw [after0_1]
  obtain ⟨r, j, rfl⟩ : ∃ (r : Fin 176) (j : Fin 2048), y = ix2 r j := ⟨_, _, eq_ix2 y⟩
  rw [show (win0_1.blk t).view.emb (ix2 r j) = ix2 (place t r) j from by blk_ext [at1 t]]
  exact block m c t r j

/-- The kernel's run. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v0) = (Layer (m ((c : Thread nD τ).loc main_arg0)) : FVec Ideal S704x2048 .bf16)
      ∧ r.2.mem ((c : Thread nD τ).loc main_arg0) = m ((c : Thread nD τ).loc main_arg0) :=
  (θ_run (defs (F := Ideal)) _ _).mono (fun _ h c => ⟨(h c).1.trans (final1 m c), (h c).2⟩) (run_blocks m ρ)

end kernel

open Cert.RefCastIdeal Cert.RefCastIdeal.Read in
theorem layer_eq (w : FVec Ideal S2x704x2048 .f32) : val_main_v2 (F := Ideal) w = (Layer w : FVec Ideal S704x2048 .bf16) := by
  funext i
  refine (val_main_v2_apply (F := Ideal) w i).trans ?_
  rw [val_main_v1_apply, val_main_v0_apply]
  refine congrArg w (funext fun a => Fin.ext ?_)
  have h0 : (i 0).val < 704 := (i 0).isLt
  have h1 : (i 1).val < 2048 := (i 1).isLt
  match a with
  | ⟨0, _⟩ => rfl
  | ⟨1, _⟩ => show ((i 0).val * 2048 + (i 1).val) / 2048 % 704 = (i 0).val; omega
  | ⟨2, _⟩ => show ((i 0).val * 2048 + (i 1).val) % 2048 = (i 1).val; omega

theorem reference_frame : Cert.quiescent_RefCastIdeal := fun m ρ _ =>
  (θ_run Cert.RefCastIdeal.defs _ _).mono
    (fun r h => ⟨fun c => (h c).2, Idealize.ShloMosaic.sem_eq_zero_of_no_sems (by decide) r.2⟩)
    (Cert.RefCastIdeal.Value.run (F := Ideal) m ρ)

theorem algebraic : Cert.algebraic_CastIdeal_RefCastIdeal := by
  intro m ρ m' ρ' _ hagree
  refine ⟨_, run m ρ, ?_⟩
  refine (θ_run (Cert.RefCastIdeal.defs (F := Ideal)) _ _).mono (fun _ h c => ⟨(h c).1.trans ?_, (h c).2⟩) (Cert.RefCastIdeal.Value.run (F := Ideal) m' ρ')
  refine (Cert.RefCastIdeal.Read.val_main_v2_eq _).trans ?_
  rw [hagree c]
  exact layer_eq _

end Cert.Proof.Cast

end
-- ==== Proof.Mixed.lean ====
/- The mixers' results side by side in half precision: the kernel's result and the reference's are the same entries of the three
   arguments, for every argument. -/
module

public import proofs.«01_k».proof.Defs
public import proofs.«01_k».proof.Proof.Gen.Mixed.Frame
public import proofs.«01_k».proof.Proof.Gen.MixedIdeal.Value
public import proofs.«01_k».proof.Proof.Gen.RefMixedIdeal.Run
public import proofs.«01_k».proof.Proof.Gen.RefMixedIdeal.Read
public import Idealize.ShloMosaic.Lib.Pipeline.ValueKit
public import Idealize.ShloMosaic.Lib.ValueIdx
public import Idealize.ShloMosaic.Lib.WritesUnit
public import Idealize.ShloMosaic.Adequacy
public import Idealize.ShloMosaic.Init

@[expose] public section

noncomputable section

namespace Cert.Proof.Mixed

open Idealize.ShloMosaic hiding ix0 ix1 ix2 ix3 eq_ix2 eq_ix3
open Idealize.ShloMosaic.TcCoe Idealize.ShloMosaic.ValueIdx Idealize.SL.Sem

/-- One row of the three arguments side by side. -/
def side (a : Fin 512 → EReal) (b c : Fin 768 → EReal) (j : Fin 2048) : EReal :=
  if h : j.val < 512 then a ⟨j.val, h⟩ else if h' : j.val < 1280 then b ⟨j.val - 512, by omega⟩ else c ⟨j.val - 1280, by omega⟩

section kernel

open Cert.MixedIdeal Cert.MixedIdeal.Gen Idealize.ShloMosaic.Pipeline

variable (m : (ℓ : Loc nD τ sig) → Buf (Elt Ideal) ℓ)

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)

/-- Row `r` of step `t`'s block in the whole array. -/
abbrev place (t : Fin cfg0.N) (r : Fin 512) : Fin 2048 := ⟨t.val * 512 + r.val, by have : t.val < 4 := t.isLt; omega⟩

theorem iblk0_apply (c : Dev nD) (t : Fin cfg0.N) (r : Fin 512) (j : Fin 512) : iblk m c 0 t (ix2 r j) = m ((c : Thread nD τ).loc main_arg0) (ix2 (place t r) j) := by
  rw [← V_main_arg0 m c]; blk_simp [iblk]; congr 1; blk_ext [at0 t]
theorem iblk1_apply (c : Dev nD) (t : Fin cfg0.N) (r : Fin 512) (j : Fin 768) : iblk m c 1 t (ix2 r j) = m ((c : Thread nD τ).loc main_arg1) (ix2 (place t r) j) := by
  rw [← V_main_arg1 m c]; blk_simp [iblk]; congr 1; blk_ext [at1 t]
theorem iblk2_apply (c : Dev nD) (t : Fin cfg0.N) (r : Fin 512) (j : Fin 768) : iblk m c 2 t (ix2 r j) = m ((c : Thread nD τ).loc main_arg2) (ix2 (place t r) j) := by
  rw [← V_main_arg2 m c]; blk_simp [iblk]; congr 1; blk_ext [at2 t]

/-- The three arguments side by side. -/
def Sides (x : FVec Ideal S2048x512 .f32) (y z : FVec Ideal S2048x768 .f32) (i : S2048x2048.Idx) : EReal :=
  side (fun k => x (ix2 (i 0) k)) (fun k => y (ix2 (i 0) k)) (fun k => z (ix2 (i 0) k)) (i 1)

theorem hz : (![0, 0] : Fin 2 → Nat) = fun _ => 0 := funext fun a => by match a with | ⟨0, _⟩ => rfl | ⟨1, _⟩ => rfl

/-- What the three stores leave at an index of the block. -/
theorem stored (f : VO0_3.ty.Contents (Elt Ideal)) (a : FVec Ideal S512x512 .bf16) (b d : FVec Ideal S512x768 .bf16) (i0 i1 i2) (r : Fin 512) (j : Fin 2048) :
    (VO0_3.read (Elt Ideal) (VO0_3.writes (Elt Ideal) f [⟨Rect.unit (s := S512x2048) ![0, 1280] S512x768.size i2, d⟩, ⟨Rect.unit (s := S512x2048) ![0, 512] S512x768.size i1, b⟩,
      ⟨Rect.unit (s := S512x2048) ![0, 0] S512x512.size i0, a⟩]) (ix2 r j) : EReal) = side (fun k => a (ix2 r k)) (fun k => b (ix2 r k)) (fun k => d (ix2 r k)) j := by
  unfold side
  split
  · rename_i h
    rw [View.read_writes_cons_unit_of_not_mem VO0_3 f i2 d _ (ix2 r j) rfl 1 (.inl (show j.val < 1280 by omega)),
      View.read_writes_cons_unit_of_not_mem VO0_3 f i1 b _ (ix2 r j) rfl 1 (.inl (show j.val < 512 by omega))]
    exact View.read_writes_cons_unit_of_mem VO0_3 f i0 a _ (ix2 r j) (ix2 r ⟨j.val, h⟩) rfl (fun x => by
      match x with
      | ⟨0, _⟩ => show r.val = 0 + r.val; omega
      | ⟨1, _⟩ => show j.val = 0 + j.val; omega)
  · split
    · rename_i h h'
      rw [View.read_writes_cons_unit_of_not_mem VO0_3 f i2 d _ (ix2 r j) rfl 1 (.inl (show j.val < 1280 by omega))]
      exact View.read_writes_cons_unit_of_mem VO0_3 f i1 b _ (ix2 r j) (ix2 r ⟨j.val - 512, by omega⟩) rfl (fun x => by
        match x with
        | ⟨0, _⟩ => show r.val = 0 + r.val; omega
        | ⟨1, _⟩ => show j.val = 512 + (j.val - 512); omega)
    · rename_i h h'
      exact View.read_writes_cons_unit_of_mem VO0_3 f i2 d _ (ix2 r j) (ix2 r ⟨j.val - 1280, by omega⟩) rfl (fun x => by
        match x with
        | ⟨0, _⟩ => show r.val = 0 + r.val; omega
        | ⟨1, _⟩ => show j.val = 1280 + (j.val - 1280); omega)

theorem block (c : Dev nD) (t : Fin cfg0.N) (r : Fin 512) (j : Fin 2048) :
    (outsAt0 m c t (ix2 r j) : EReal)
      = Sides (m ((c : Thread nD τ).loc main_arg0)) (m ((c : Thread nD τ).loc main_arg1)) (m ((c : Thread nD τ).loc main_arg2)) (ix2 (place t r) j) := by
  unfold outsAt0 out0_A_3
  unfold kernelRun0_A
  dsimp only
  refine Eq.trans (stored _ _ _ _ _ _ _ r j) ?_
  simp only [View.readAt_eq_ld, (hs0_0 t).read_unread, (hs0_1 t).read_unread, (hs0_2 t).read_unread, View.ld_unit_zero (S := S512x512) hz, View.ld_unit_zero (S := S512x768) hz]
  unfold Sides
  congr 1
  · exact funext fun k => iblk0_apply m c t r k
  · exact funext fun k => iblk1_apply m c t r k
  · exact funext fun k => iblk2_apply m c t r k

theorem final3 (c : Dev nD) : (dats m 0 c).arrAt 3 cfg0.N
    = (Sides (m ((c : Thread nD τ).loc main_arg0)) (m ((c : Thread nD τ).loc main_arg1)) (m ((c : Thread nD τ).loc main_arg2)) : FVec Ideal S2048x2048 .bf16) := by
  refine (dats m 0 c).arrAt_eq_of_covers 3 _ (by decide +kernel) fun t hf y => ?_
  blk_simp
  rw [after0_3]
  obtain ⟨r, j, rfl⟩ : ∃ (r : Fin 512) (j : Fin 2048), y = ix2 r j := ⟨_, _, eq_ix2 y⟩
  rw [show (win0_3.blk t).view.emb (ix2 r j) = ix2 (place t r) j from by blk_ext [at3 t]]
  exact block m c t r j

/-- The kernel's run. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v0) = (Sides (m ((c : Thread nD τ).loc main_arg0)) (m ((c : Thread nD τ).loc main_arg1)) (m ((c : Thread nD τ).loc main_arg2)) : FVec Ideal S2048x2048 .bf16)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run (defs (F := Ideal)) _ _).mono (fun _ h c => ⟨(h c).1.trans (final3 m c), (h c).2⟩) (Cert.MixedIdeal.Value.run_blocks m ρ)

end kernel

section reference

open Cert.RefMixedIdeal Cert.RefMixedIdeal.Gen Cert.RefMixedIdeal.Read

variable (x : FVec Ideal S2048x512 .f32) (y z : FVec Ideal S2048x768 .f32)

/-- The column `j` of piece `n`, the columns before it `pre`. -/
theorem col (pre n : ℕ) (r : Fin 2048) (j : Fin 2048) (k : Fin n) (h : pre + k.val = j.val) :
    (∀ b : Fin 2, b ≠ 1 → ((ix2 r k : (⟨2, ![2048, n]⟩ : Shape).Idx) b).val = ((ix2 r j : S2048x2048.Idx) b).val)
      ∧ pre + ((ix2 r k : (⟨2, ![2048, n]⟩ : Shape).Idx) 1).val = ((ix2 r j : S2048x2048.Idx) 1).val :=
  ⟨fun b hb => by
    match b with
    | ⟨0, _⟩ => rfl
    | ⟨1, _⟩ => exact absurd rfl hb, h⟩

theorem cat (r j : Fin 2048) : (val_main_v0 (F := Ideal) x y z (ix2 r j) : EReal) = side (fun k => x (ix2 r k)) (fun k => y (ix2 r k)) (fun k => z (ix2 r k)) j := by
  unfold val_main_v0 side
  split
  · rename_i h
    have e := col 0 512 r j ⟨j.val, h⟩ (Nat.zero_add _)
    exact concatenate_apply_piece (t := S2048x2048) 1 _ _ (ix2 r j) 0 (by show 0 < 3; decide) S2048x512 x rfl rfl 0 rfl (ix2 r ⟨j.val, h⟩) e.1 e.2
  · split
    · rename_i h h'
      have e := col 512 768 r j ⟨j.val - 512, by omega⟩ (by show 512 + (j.val - 512) = j.val; omega)
      exact concatenate_apply_piece (t := S2048x2048) 1 _ _ (ix2 r j) 1 (by show 1 < 3; decide) S2048x768 y rfl rfl 512 rfl (ix2 r ⟨j.val - 512, by omega⟩) e.1 e.2
    · rename_i h h'
      have e := col 1280 768 r j ⟨j.val - 1280, by omega⟩ (by show 1280 + (j.val - 1280) = j.val; omega)
      exact concatenate_apply_piece (t := S2048x2048) 1 _ _ (ix2 r j) 2 (by show 2 < 3; decide) S2048x768 z rfl rfl 1280 rfl (ix2 r ⟨j.val - 1280, by omega⟩) e.1 e.2

theorem sides_eq : val_main_v1 (F := Ideal) x y z = (Sides x y z : FVec Ideal S2048x2048 .bf16) := by
  funext i
  obtain ⟨r, j, rfl⟩ : ∃ (r j : Fin 2048), i = ix2 r j := ⟨_, _, eq_ix2 i⟩
  exact (val_main_v1_apply (F := Ideal) x y z _).trans (cat x y z r j)

end reference

theorem reference_frame : Cert.quiescent_RefMixedIdeal := fun m ρ _ =>
  (θ_run Cert.RefMixedIdeal.defs _ _).mono
    (fun r h => ⟨fun c => (h c).2, Idealize.ShloMosaic.sem_eq_zero_of_no_sems (by decide) r.2⟩)
    (Cert.RefMixedIdeal.Value.run (F := Ideal) m ρ)

theorem algebraic : Cert.algebraic_MixedIdeal_RefMixedIdeal := by
  intro m ρ m' ρ' _ hagree
  refine ⟨_, run m ρ, ?_⟩
  refine (θ_run (Cert.RefMixedIdeal.defs (F := Ideal)) _ _).mono (fun _ h c => ⟨(h c).1.trans ?_, (h c).2⟩) (Cert.RefMixedIdeal.Value.run (F := Ideal) m' ρ')
  obtain ⟨e0, e1, e2⟩ := hagree c
  refine (Cert.RefMixedIdeal.Read.val_main_v1_eq _ _ _).trans ?_
  rw [e0, e1, e2]
  exact sides_eq _ _ _

end Cert.Proof.Mixed

end
-- ==== Proof.PairAdd.lean ====
/- The sum of the two cores' parts: the kernel adds the block its own core's number picks to the one the sibling sent, and so does
   the reference, for either core. -/
module

public import proofs.«01_k».proof.Defs
public import proofs.«01_k».proof.Proof.Step
public import proofs.«01_k».proof.Proof.Gen.PairAdd.Frame
public import proofs.«01_k».proof.Proof.Gen.PairAddIdeal.Frame
public import proofs.«01_k».proof.Proof.Gen.RefPairAddIdeal.Run
public import proofs.«01_k».proof.Proof.Gen.RefPairAddIdeal.Read
public import proofs.«01_k».proof.Proof.Gen.Pre_a_core
public import Idealize.ShloMosaic.Lib.StableHlo.Predicate
public import Idealize.ShloMosaic.Lib.Pipeline.ValueKit
public import Idealize.ShloMosaic.Lib.ValueIdx
public import Idealize.ShloMosaic.Adequacy
public import Idealize.ShloMosaic.Init

@[expose] public section

noncomputable section

namespace Cert.Proof.PairAdd

open Idealize.ShloMosaic hiding ix0 ix1 ix2 ix3 ix4 eq_ix2 eq_ix3 eq_ix4
open Idealize.ShloMosaic.TcCoe Idealize.ShloMosaic.ValueIdx Idealize.SL.Sem Cert.Proof.Step

/-- The comparisons of a core's number with its bounds, as one of two words. -/
theorem core_eq (w : BitVec 32) (h : IntOp.andi (IntOp.cmpi .sge w 0#32) (IntOp.cmpi .slt w 2#32) = 1#1) : ∃ q : Fin 2, w = BitVec.ofNat 32 q.val := by
  have both (a b : BitVec 1) : IntOp.andi a b = 1#1 ↔ a = 1#1 ∧ b = 1#1 := by revert a b; decide
  have one (p : Bool) : (BitVec.ofBool p = 1#1) ↔ p = true := by cases p <;> decide
  obtain ⟨h0, h2⟩ := (both _ _).mp h
  simp only [IntOp.cmpi, one, BitVec.sle, BitVec.slt, decide_eq_true_eq, BitVec.toInt, BitVec.toNat_ofNat] at h0 h2
  have hw := w.isLt
  exact ⟨⟨w.toNat, by omega⟩, by simp⟩

/-- A reshape to one word reads that word. -/
theorem one_word (w : IVec ⟨0, ![]⟩ 32) (h) (x : Shape.Idx ⟨1, ![1]⟩) : shapeCast ⟨1, ![1]⟩ w h x = w (fun a => a.elim0) :=
  shapeCast_apply _ _ _ _ (by
    have hx : (Shape.rowMajor ⟨1, ![1]⟩ x).val < 1 := (Shape.rowMajor ⟨1, ![1]⟩ x).isLt
    have hy : (Shape.rowMajor ⟨0, ![]⟩ (fun a => a.elim0)).val < 1 := (Shape.rowMajor ⟨0, ![]⟩ (fun a => a.elim0)).isLt
    omega)

section value

open Cert.PairAddIdeal Cert.PairAddIdeal.Gen

variable (m : (ℓ : Loc nD τ sig) → Buf (Elt Ideal) ℓ)

/-- The core's number. -/
abbrev core : BitVec 32 := m (((0 : Dev nD) : Thread nD τ).loc main_arg2) (fun a => a.elim0)

set_option backward.proofsInPublic true in
/-- A table of one word. -/
def word (w : BitVec 32) : pre0.Contents (Elt Ideal) := fun | ⟨0, _⟩ => fun _ => w | ⟨_ + 1, h⟩ => absurd h (by simp)

theorem tbl_eq : tbl m = word (core m) := by
  have h : V m (0 : Dev nD) main_v0 = shapeCast S1 (m (((0 : Dev nD) : Thread nD τ).loc main_arg2) : IVec S_ 32) shapeCasts_S_S1 := by
    show StableHlo.after hostOps0 (fun b => m ((0 : Dev nD), b)) (Proc.devRef .tc main_v0) = _
    unfold hostOps0
    rw [StableHlo.after_cons, StableHlo.after_nil, StableHlo.reshape_result]
    rfl
  funext j x
  match j with
  | ⟨0, _⟩ => exact (congrFun h x).trans (one_word _ _ x)

theorem word_ok : ∀ q : Fin 2, ok0 (word (BitVec.ofNat 32 q.val)) := by decide +kernel

theorem core_of_pre (h : Cert.Pre_PairAddIdeal m) : ∃ q : Fin 2, core m = BitVec.ofNat 32 q.val :=
  core_eq _ (congrFun (h 0) (fun a => a.elim0))

theorem ok_of_pre (h : Cert.Pre_PairAddIdeal m) : Ok m := by
  obtain ⟨q, hq⟩ := core_of_pre m h
  unfold Ok
  rw [tbl_eq, hq]
  exact word_ok q

theorem at0 (hO : Ok m) (q : Fin 2) (hq : core m = BitVec.ofNat 32 q.val) (t : Fin (cfgM m hO).N) :
    ((cfgM m hO).win 0).index t = ![t.val / 4, q.val, t.val % 4, 0] := by
  have key : ∀ (q : Fin 2) (t : Fin grid0.N), cc0_transform_0 inb_S1_S1_0 numel1_S1 (word (BitVec.ofNat 32 q.val)) (grid0.coords t) = ![t.val / 4, q.val, t.val % 4, 0] := by
    decide +kernel
  show cc0_transform_0 inb_S1_S1_0 numel1_S1 (tbl m) (grid0.coords t) = _
  rw [tbl_eq, hq]
  exact key q t

theorem at1 (hO : Ok m) (t : Fin (cfgM m hO).N) : ((cfgM m hO).win 1).index t = ![t.val / 4, t.val % 4, 0] :=
  (by decide +kernel : ∀ t : Fin grid0.N, cc0_transform_1 (grid0.coords t) = ![t.val / 4, t.val % 4, 0]) t

theorem at2 (hO : Ok m) (t : Fin (cfgM m hO).N) : ((cfgM m hO).win 2).index t = ![t.val / 4, t.val % 4, 0] := at1 m hO t

/-- The chip and the row a step's row belongs to. -/
abbrev chip (hO : Ok m) (t : Fin (cfgM m hO).N) : Fin 4 := ⟨t.val / 4, by have h : t.val < 16 := t.isLt; omega⟩
abbrev row (hO : Ok m) (t : Fin (cfgM m hO).N) (r : Fin 176) : Fin 704 := ⟨t.val % 4 * 176 + r.val, by omega⟩

theorem iblk0_apply (hO : Ok m) (q : Fin 2) (hq : core m = BitVec.ofNat 32 q.val) (c : Dev nD) (t : Fin (cfgM m hO).N) (r : Fin 176) (j : Fin 2048) :
    iblk m hO c 0 t (ix4 (0 : Fin 1) (0 : Fin 1) r j) = m ((c : Thread nD τ).loc main_arg0) (ix4 (chip m hO t) q (row m hO t r) j) := by
  rw [← V_main_arg0 m c]; blk_simp [iblk]; congr 1; blk_ext [at0 m hO q hq t]

theorem iblk1_apply (hO : Ok m) (c : Dev nD) (t : Fin (cfgM m hO).N) (r : Fin 176) (j : Fin 2048) :
    iblk m hO c 1 t (ix3 (0 : Fin 1) r j) = m ((c : Thread nD τ).loc main_arg1) (ix3 (chip m hO t) (row m hO t r) j) := by
  rw [← V_main_arg1 m c]; blk_simp [iblk]; congr 1; blk_ext [at1 m hO t]

/-- The sum of one core's part and the sibling's. -/
def Pair (q : Fin 2) (x : FVec Ideal S4x2x704x2048 .bf16) (y : FVec Ideal S4x704x2048 .bf16) (i : S4x704x2048.Idx) : EReal :=
  (x (ix4 (i 0) q (i 1) (i 2)) : EReal) + y i

theorem pay1_apply (x : Vec Ideal S1x1x176x2048 .bf16) (y : Vec Ideal S1x176x2048 .bf16) (r : Fin 176) (j : Fin 2048) :
    k0_pay1 x y (ix3 (0 : Fin 1) r j) = ((x (ix4 (0 : Fin 1) (0 : Fin 1) r j) + y (ix3 (0 : Fin 1) r j) : EReal)) := by
  have two {s : Shape} {η : FTy} (z : FVec Ideal s η) (k : s.Idx) (h) (h') (e : (s.rowMajor k).val = r.val * 2048 + j.val) :
      shapeCast S1x176x2048 (shapeCast S176x2048 z h) h' (ix3 (0 : Fin 1) r j) = z k :=
    (shapeCast_apply _ _ _ (ix2 r j) (by
      rw [Shape.rowMajor_val_two, Shape.rowMajor_val_three]
      show r.val * 2048 + j.val = (0 * 176 + r.val) * 2048 + j.val; omega)).trans
    (shapeCast_apply _ _ _ k (e.trans (by rw [Shape.rowMajor_val_two]; rfl)))
  rw [← two (η := .bf16) x (ix4 0 0 r j) shapeCasts_S1x1x176x2048_S176x2048 shapeCasts_S176x2048_S1x176x2048 (by
        rw [Shape.rowMajor_val_four]; show ((0 * 1 + 0) * 176 + r.val) * 2048 + j.val = _; omega),
    ← two (η := .bf16) y (ix3 0 r j) shapeCasts_S1x176x2048_S176x2048 shapeCasts_S176x2048_S1x176x2048 (by
        rw [Shape.rowMajor_val_three]; show (0 * 176 + r.val) * 2048 + j.val = _; omega)]
  rfl

theorem out_apply (hO : Ok m) (q : Fin 2) (hq : core m = BitVec.ofNat 32 q.val) (c : Dev nD) (t : Fin (cfgM m hO).N) (z : Fin 1) (r : Fin 176) (j : Fin 2048) :
    (outsAt0 m hO c t (ix3 z r j) : EReal)
      = Pair q (m ((c : Thread nD τ).loc main_arg0)) (m ((c : Thread nD τ).loc main_arg1)) (ix3 (chip m hO t) (row m hO t r) j) := by
  obtain rfl : z = 0 := Subsingleton.elim _ _
  unfold outsAt0
  frame_out
  refine (pay1_apply _ _ r j).trans ?_
  unfold Pair
  congr 1
  · exact (congrFun (Memref.IsWhole.read_unread _ _) _).trans (iblk0_apply m hO q hq c t r j)
  · exact (congrFun (Memref.IsWhole.read_unread _ _) _).trans (iblk1_apply m hO c t r j)

theorem covers (hO : Ok m) : ((cfgM m hO).win 2).Covers :=
  (by decide +kernel : ((cfg0 (F := Ideal) ⟨word 0, word_ok 0⟩).win 2).Covers)

theorem final (hO : Ok m) (q : Fin 2) (hq : core m = BitVec.ofNat 32 q.val) (c : Dev nD) :
    (dats m hO 0 c).arrAt 2 (cfgM m hO).N = (Pair q (m ((c : Thread nD τ).loc main_arg0)) (m ((c : Thread nD τ).loc main_arg1)) : FVec Ideal S4x704x2048 .bf16) := by
  refine (dats m hO 0 c).arrAt_eq_of_covers 2 _ (covers m hO) fun t hf y => ?_
  blk_simp
  rw [after0_2]
  obtain ⟨z, r, j, rfl⟩ : ∃ (z : Fin 1) (r : Fin 176) (j : Fin 2048), y = ix3 z r j := ⟨_, _, _, eq_ix3 y⟩
  refine (out_apply m hO q hq c t z r j).trans ?_
  rw [show (((cfgM m hO).win 2).blk t).view.emb (ix3 z r j) = (ix3 (chip m hO t) (row m hO t r) j : S4x704x2048.Idx) from by blk_ext [at2 m hO t]]

/-- What the call leaves: the sums, the arguments as they were. -/
theorem run (ρ : Dev nD → PrngReg) (hO : Ok m) (q : Fin 2) (hq : core m = BitVec.ofNat 32 q.val) :
    θ_run (defs (F := Ideal)) (onTc (τ := τ) (main (F := Ideal))) ⟨m, fun _ => 0, ρ⟩ fun r => ∀ c : Dev nD,
      r.2.mem ((c.tc : Thread nD τ).loc main_v1) = (Pair q (m ((c : Thread nD τ).loc main_arg0)) (m ((c : Thread nD τ).loc main_arg1)) : FVec Ideal S4x704x2048 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun _ hr c => ⟨((hr.1 c).1 2).trans (final m hO q hq c), hr.2 c⟩)
    (θ_run_and (run_main m ρ hO) (unchanged m ρ hO))

end value

section reference

open Cert.RefPairAddIdeal Cert.RefPairAddIdeal.Read

/-- The reference at either core's number. -/
theorem pair_eq (x : FVec Ideal S4x2x704x2048 .bf16) (y : FVec Ideal S4x704x2048 .bf16) (w : IVec S_ 32) (q : Fin 2)
    (hw : w (fun a => a.elim0) = BitVec.ofNat 32 q.val) : val_main_v9 (F := Ideal) x y w = (Pair q x y : FVec Ideal S4x704x2048 .bf16) := by
  funext i
  obtain ⟨k, r, j, rfl⟩ : ∃ (k : Fin 4) (r : Fin 704) (j : Fin 2048), i = ix3 k r j := ⟨_, _, _, eq_ix3 i⟩
  have own : (val_main_v5 (F := Ideal) x w (ix3 k r j) : EReal) = x (ix4 k q r j) := by
    show Scalar.select (IntOp.cmpi .eq (w _) 0#32) (val_main_v2 (F := Ideal) x (ix3 k r j)) (val_main_v4 (F := Ideal) x (ix3 k r j)) = _
    rw [select_eq, val_main_v2_apply, val_main_v1_apply, val_main_v4_apply, val_main_v3_apply,
      show w _ = BitVec.ofNat 32 q.val from (congrArg w (funext fun a => a.elim0)).trans hw]
    have here (i : S4x2x704x2048.Idx) (e0 : (i 0).val = ((k.val * 704 + r.val) * 2048 + j.val) / 1441792) (e1 : (i 1).val = q.val)
        (e2 : (i 2).val = ((k.val * 704 + r.val) * 2048 + j.val) / 2048 % 704) (e3 : (i 3).val = ((k.val * 704 + r.val) * 2048 + j.val) % 2048) : x i = x (ix4 k q r j) :=
      congrArg x (funext fun a => Fin.ext (by
        have h0 := k.isLt
        have h1 := r.isLt
        have h2 := j.isLt
        match a with
        | ⟨0, _⟩ => show (i 0).val = k.val; omega
        | ⟨1, _⟩ => exact e1
        | ⟨2, _⟩ => show (i 2).val = r.val; omega
        | ⟨3, _⟩ => show (i 3).val = j.val; omega))
    match q with
    | ⟨0, _⟩ => exact (if_pos rfl).trans (here _ rfl rfl rfl rfl)
    | ⟨1, _⟩ => exact (if_neg (by show ¬(1#32 = 0#32); decide)).trans (here _ rfl rfl rfl rfl)
  exact congrArg (fun z : EReal => z + y (ix3 k r j)) own

end reference

section frames

open Cert.PairAdd Cert.PairAdd.Gen

variable (m : (ℓ : Loc nD τ sig) → Buf (Elt Bits) ℓ)

abbrev core' : BitVec 32 := m (((0 : Dev nD) : Thread nD τ).loc main_arg2) (fun a => a.elim0)

set_option backward.proofsInPublic true in
def word' (w : BitVec 32) : pre0.Contents (Elt Bits) := fun | ⟨0, _⟩ => fun _ => w | ⟨_ + 1, h⟩ => absurd h (by simp)

theorem tbl_eq' : tbl m = word' (core' m) := by
  have h : V m (0 : Dev nD) main_v0 = shapeCast S1 (m (((0 : Dev nD) : Thread nD τ).loc main_arg2) : IVec S_ 32) shapeCasts_S_S1 := by
    show StableHlo.after hostOps0 (fun b => m ((0 : Dev nD), b)) (Proc.devRef .tc main_v0) = _
    unfold hostOps0
    rw [StableHlo.after_cons, StableHlo.after_nil, StableHlo.reshape_result]
    rfl
  funext j x
  match j with
  | ⟨0, _⟩ => exact (congrFun h x).trans (one_word _ _ x)

theorem word_ok' : ∀ q : Fin 2, ok0 (word' (BitVec.ofNat 32 q.val)) := by decide +kernel

theorem ok_of_pre' (h : Cert.Pre_PairAdd m) : Ok m := by
  obtain ⟨q, hq⟩ : ∃ q : Fin 2, core' m = BitVec.ofNat 32 q.val := core_eq _ (congrFun (h 0) (fun a => a.elim0))
  unfold Ok
  rw [tbl_eq', hq]
  exact word_ok' q

end frames

theorem frame : Cert.quiescent_PairAdd := fun m ρ h => Cert.PairAdd.Gen.frame m ρ (ok_of_pre' m h)

theorem frame_ideal : Cert.quiescent_PairAddIdeal := fun m ρ h => Cert.PairAddIdeal.Gen.frame m ρ (ok_of_pre m h)

theorem reference_frame : Cert.quiescent_RefPairAddIdeal := fun m ρ _ =>
  (θ_run Cert.RefPairAddIdeal.defs _ _).mono
    (fun r h => ⟨fun c => (h c).2, Idealize.ShloMosaic.sem_eq_zero_of_no_sems (by decide) r.2⟩)
    (Cert.RefPairAddIdeal.Value.run (F := Ideal) m ρ)

theorem algebraic : Cert.algebraic_PairAddIdeal_RefPairAddIdeal := by
  intro m ρ m' ρ' hpre hagree
  obtain ⟨q, hq⟩ := core_of_pre m hpre
  refine ⟨_, run m ρ (ok_of_pre m hpre) q hq, ?_⟩
  refine (θ_run (Cert.RefPairAddIdeal.defs (F := Ideal)) _ _).mono (fun _ h c => ⟨(h c).1.trans ?_, (h c).2⟩) (Cert.RefPairAddIdeal.Value.run (F := Ideal) m' ρ')
  obtain ⟨e0, e1, e2⟩ := hagree c
  refine (Cert.RefPairAddIdeal.Read.val_main_v9_eq _ _ _).trans ?_
  rw [e0, e1]
  exact pair_eq _ _ _ q (((congrFun e2 _).trans (by rw [Subsingleton.elim c 0]; rfl)).trans hq)

end Cert.Proof.PairAdd
-- ==== Proof.HgrnOut.lean ====
/- The recurrence's backward pass: its gradients of the output gate and of the norm's gain, against the reference's. -/
module

public import proofs.«01_k».proof.Defs
public import proofs.«01_k».proof.Proof.Scalar
public import proofs.«01_k».proof.Proof.Norm
public import proofs.«01_k».proof.Proof.Gen.HgrnOutIdeal.Frame
public import proofs.«01_k».proof.Proof.Gen.RefHgrnOutIdeal.Run
public import proofs.«01_k».proof.Proof.Gen.RefHgrnOutIdeal.Read
public import proofs.«01_k».proof.Proof.Gen.Pre_finite_out
public import Idealize.ShloMosaic.Adequacy

@[expose] public section

noncomputable section

namespace Cert.Proof.HgrnOut

open Idealize.ShloMosaic hiding ix0 ix1 ix2 ix3 eq_ix2 eq_ix3
open Idealize.ShloMosaic.TcCoe Idealize.ShloMosaic.ValueIdx Idealize.SL.Sem Cert.Proof.Norm

/-! ### One row of a head -/

/-- The row's mean square with the constant under the root, and its reciprocal root. -/
def under (o : Fin 128 → EReal) : EReal := Ideal.div (∑ k, o k * o k) (Ideal.ofBits .f32 0x43000000#32) + Ideal.ofBits .f32 0x3727C5AC#32
def inv (o : Fin 128 → EReal) : EReal := Ideal.rsqrt (under o)

/-- The gradient of the output gate at a lane: the cotangent `d`, the row `o`, the gain `w`, the gate `g`. -/
def gate (o : Fin 128 → EReal) (j : Fin 128) (d w g : EReal) : EReal :=
  d * (o j * inv o * w) * (sigm g * (((1 : ℝ) : EReal) + g * (((1 : ℝ) : EReal) - sigm g)))

/-- The row's part of the gradient of the gain at a lane. -/
def gain (o : Fin 128 → EReal) (j : Fin 128) (d g : EReal) : EReal := d * (g * sigm g) * o j * inv o

theorem lanes_word : Ideal.ofBits .f32 0x43000000#32 = ((128 : ℝ) : EReal) := by
  simp [Ideal.ofBits, Ideal.ieee, -EReal.coe_mul]; norm_num

theorem square_nonneg (x : EReal) : 0 ≤ x * x := by
  induction x using EReal.rec with
  | bot => simp
  | coe r => rw [← EReal.coe_mul]; exact_mod_cast mul_self_nonneg r
  | top => simp

/-- The normalised row is real, whatever the row holds. -/
theorem unit_real (o : Fin 128 → EReal) (j : Fin 128) : ∃ a : ℝ, o j * inv o = (a : EReal) := by
  have hs : o j * o j ≤ ∑ k, o k * o k := Finset.single_le_sum (fun k _ => square_nonneg (o k)) (Finset.mem_univ j)
  have hn : 0 ≤ ∑ k, o k * o k := (square_nonneg (o j)).trans hs
  unfold inv under
  rw [lanes_word, eps_word, Ideal.div_coe (by norm_num)]
  generalize ∑ k, o k * o k = s at hs hn
  have htop : s = ⊤ → Ideal.rsqrt (s * ((1 / 128 : ℝ) : EReal) + ((eps : ℝ) : EReal)) = 0 := fun h => by
    rw [h, EReal.top_mul_coe_of_pos (by norm_num), EReal.top_add_coe]; simp
  have bad : o j * o j = ⊤ → ∃ a : ℝ, o j * Ideal.rsqrt (s * ((1 / 128 : ℝ) : EReal) + ((eps : ℝ) : EReal)) = (a : EReal) := fun h =>
    ⟨0, by rw [htop (top_le_iff.mp (h ▸ hs)), mul_zero, EReal.coe_zero]⟩
  generalize o j = x at bad
  induction x using EReal.rec with
  | bot => exact bad (by simp)
  | top => exact bad (by simp)
  | coe r =>
    induction s using EReal.rec with
    | bot => simp at hn
    | top => exact ⟨0, by rw [htop rfl, mul_zero, EReal.coe_zero]⟩
    | coe q =>
      have hq : 0 ≤ q := by exact_mod_cast hn
      rw [← EReal.coe_mul, ← EReal.coe_add, rsqrt_real _ (add_pos_of_nonneg_of_pos (mul_nonneg hq (by norm_num)) eps_pos), ← EReal.coe_mul]
      exact ⟨_, rfl⟩

/-- The reference's two products against the kernel's one. -/
theorem gate_eq_two (o : Fin 128 → EReal) (j : Fin 128) {d w : EReal} (g : EReal) (hd : ∃ a : ℝ, d = (a : EReal)) (hw : ∃ a : ℝ, w = (a : EReal)) :
    o j * inv o * w * d * sigm g + g * (o j * inv o * w * d) * (sigm g * (((1 : ℝ) : EReal) - sigm g)) = gate o j d w g := by
  obtain ⟨u, hu⟩ := unit_real o j
  obtain ⟨a, rfl⟩ := hd
  obtain ⟨b, rfl⟩ := hw
  unfold gate
  rw [hu, ← EReal.coe_mul, ← EReal.coe_mul, ← EReal.coe_mul, mul_comm a]
  exact (silu_grad _ g).symm

/-! ### The arrays -/

/-- A head's row of the array. -/
abbrev head (x : Fin 2048 → Fin 512 → EReal) (r : Fin 2048) (h : Fin 4) : Fin 128 → EReal := fun j => x r ⟨h.val * 128 + j.val, by omega⟩

/-- The row and the head of a step's row. -/
abbrev place (n : ℕ) (r : Fin 256) : Fin 2048 := ⟨(7 - n % 8) * 256 + r.val, by omega⟩
abbrev which (n : ℕ) : Fin 4 := ⟨n / 8 % 4, by omega⟩

section sums

variable (f : Fin 2048 → Fin 4 → EReal)

/-- The sum over the first steps. -/
def upto : ℕ → EReal
  | 0 => 0
  | n + 1 => upto n + ∑ r : Fin 256, f (place n r) (which n)

theorem upto_range (n : ℕ) : upto f n = ∑ i ∈ Finset.range n, ∑ r : Fin 256, f (place i r) (which i) := by
  induction n with
  | zero => rfl
  | succ n ih => rw [Finset.sum_range_succ, ← ih]; rfl

theorem quarter (x h : ℕ) (hh : h < 4) : (x * 4 + h) / 4 = x ∧ (x * 4 + h) % 4 = h := by omega

/-- All the steps together meet every row of every head once. -/
theorem upto_all : upto f 32 = ∑ q : Fin 8192, f ⟨q.val / 4, by omega⟩ ⟨q.val % 4, by omega⟩ := by
  rw [upto_range, Finset.sum_range, ← Fintype.sum_prod_type']
  refine Fintype.sum_equiv ⟨fun p => (⟨((7 - p.1.val % 8) * 256 + p.2.val) * 4 + p.1.val / 8, by omega⟩ : Fin 8192),
    fun q => (⟨q.val % 4 * 8 + (7 - q.val / 4 / 256), by omega⟩, ⟨q.val / 4 % 256, by omega⟩), fun p => ?_, fun q => ?_⟩ _ _ fun p => ?_
  · have e := quarter ((7 - p.1.val % 8) * 256 + p.2.val) (p.1.val / 8) (by omega)
    refine Prod.ext (Fin.ext ?_) (Fin.ext ?_) <;> dsimp only <;> rw [e.1] <;> omega
  · refine Fin.ext ?_; dsimp only; omega
  · have e := quarter ((7 - p.1.val % 8) * 256 + p.2.val) (p.1.val / 8) (by omega)
    exact congrArg₂ f (Fin.ext e.1.symm) (Fin.ext ((by omega : p.1.val / 8 % 4 = p.1.val / 8).trans e.2.symm))

end sums

section blocks

open Cert.HgrnOutIdeal Cert.HgrnOutIdeal.Gen

variable (g o d : FVec Ideal S256x128 .f32) (w : FVec Ideal S1x128 .f32) (r : Fin 256) (j : Fin 128)

theorem sigm_apply : (k0_pay14 (F := Ideal) g (ix2 r j) : EReal) = sigm (g (ix2 r j)) := by
  refine Eq.trans ?_ (tanh_sigm (g (ix2 r j)))
  rw [← Cert.Proof.half_word]
  rfl

theorem inv_apply : (k0_pay15 (F := Ideal) o (ix2 r 0) : EReal) = inv fun k => o (ix2 r k) := by
  refine congrArg (fun e : EReal => Ideal.rsqrt (Ideal.div e _ + _)) ?_
  refine (shapeCast_apply _ _ _ (ix1 r) (by
    rw [Shape.rowMajor_val_one, Shape.rowMajor_val_two]; show r.val = r.val * 1 + 0; omega)).trans ?_
  refine (Ideal.multiReduction_add_single _ _ _ _ _ _).trans (Finset.sum_congr rfl fun k _ => ?_)
  exact congrArg (fun i => (o i : EReal) * o i) (ext2 rfl rfl)

theorem wide_apply : (broadcastTo S256x128 (k0_pay15 (F := Ideal) o) broadcasts_S256x1_S256x128 (ix2 r j) : EReal) = inv fun k => o (ix2 r k) :=
  (congrArg (k0_pay15 (F := Ideal) o) (show _ = (ix2 r 0 : S256x1.Idx) from ext2 rfl rfl)).trans (inv_apply o r)

theorem tall_apply : (broadcastTo S256x128 (k0_pay13 (F := Ideal) w) broadcasts_S1x128_S256x128 (ix2 r j) : EReal) = w (ix2 0 j) :=
  (congrArg (k0_pay13 (F := Ideal) w) (show _ = (ix2 0 j : S1x128.Idx) from ext2 rfl rfl)).trans (shapeCast_apply _ _ _ _ rfl)

theorem gate_apply : (k0_pay18 (F := Ideal) g (k0_pay14 g) (k0_pay16 w o d) (k0_pay17 g) (ix2 r j) : EReal)
    = gate (fun k => o (ix2 r k)) j (d (ix2 r j)) (w (ix2 0 j)) (g (ix2 r j)) := by
  unfold gate
  rw [← wide_apply o r j, ← tall_apply w r j, ← sigm_apply, ← one_word]
  rfl

theorem gain_apply (a : FVec Ideal S1x128 .f32) : (k0_pay20 (F := Ideal) g o d (k0_pay14 g) (k0_pay15 o) a (ix2 0 j) : EReal)
    = a (ix2 0 j) + ∑ r : Fin 256, gain (fun k => o (ix2 r k)) j (d (ix2 r j)) (g (ix2 r j)) := by
  refine congrArg₂ (fun e f : EReal => e + f) (shapeCast_apply _ _ _ _ rfl) ?_
  refine (shapeCast_apply _ _ _ (ix1 j) (by
    rw [Shape.rowMajor_val_one, Shape.rowMajor_val_two]; show j.val = 0 * 128 + j.val; omega)).trans ?_
  refine (Ideal.multiReduction_add_single _ _ _ _ _ _).trans (Finset.sum_congr rfl fun (k : Fin 256) _ => ?_)
  unfold gain
  rw [← wide_apply o k j, ← sigm_apply]
  exact congrArg (mulf (mulf (k0_pay19 (F := Ideal) g d (k0_pay14 g)) o) (broadcastTo S256x128 (k0_pay15 (F := Ideal) o) broadcasts_S256x1_S256x128)) (show _ = (ix2 k j : S256x128.Idx) from ext2 rfl rfl)

end blocks

section kernel

open Cert.HgrnOutIdeal Cert.HgrnOutIdeal.Gen

variable (m : (ℓ : Loc nD τ sig) → Buf (Elt Ideal) ℓ)

theorem at3 : ∀ t : Fin cfg0.N, win0_3.index t = ![7 - t.val % 8, 12 + t.val / 8] := (by decide +kernel : ∀ t : Fin grid0.N, _)
theorem at5 : ∀ t : Fin cfg0.N, win0_5.index t = ![0, 0] := (by decide +kernel : ∀ t : Fin grid0.N, _)
theorem at8 : ∀ t : Fin cfg0.N, win0_8.index t = ![7 - t.val % 8, t.val / 8] := (by decide +kernel : ∀ t : Fin grid0.N, _)
theorem at9 : ∀ t : Fin cfg0.N, win0_9.index t = ![7 - t.val % 8, t.val / 8] := (by decide +kernel : ∀ t : Fin grid0.N, _)
theorem at14 : ∀ t : Fin cfg0.N, win0_14.index t = ![7 - t.val % 8, t.val / 8] := (by decide +kernel : ∀ t : Fin grid0.N, _)
theorem at15 : ∀ t : Fin cfg0.N, win0_15.index t = ![0, 0] := (by decide +kernel : ∀ t : Fin grid0.N, _)

theorem gate_eq (c : Dev nD) (t : Fin cfg0.N) : (outsAt0 m c t.val t.isLt).2.2.2.1
    = k0_pay18 (F := Ideal) (iblk m c 3 t) (k0_pay14 (iblk m c 3 t)) (k0_pay16 (iblk m c 5 t) (iblk m c 8 t) (iblk m c 9 t)) (k0_pay17 (iblk m c 3 t)) := by
  by_cases h0 : t.val % 8 = 0
  · by_cases h1 : t.val % 32 = 0
    · refine (congrArg (fun o => o.2.2.2.1) (outsAt0_A m c t h0 h1)).trans ?_
      dsimp only
      frame_out
    · refine (congrArg (fun o => o.2.2.2.1) (outsAt0_C m c t h0 h1)).trans ?_
      dsimp only
      frame_out
  · refine (congrArg (fun o => o.2.2.2.1) (outsAt0_B m c t h0 (by omega))).trans ?_
    dsimp only
    frame_out

variable {m}

/-- The arguments of a device as the rows of the heads. -/
abbrev gateOf (m : (ℓ : Loc nD τ sig) → Buf (Elt Ideal) ℓ) (c : Dev nD) (r : Fin 2048) (j : Fin 512) : EReal := m ((c : Thread nD τ).loc main_arg0) (ix2 r (⟨1536 + j.val, by omega⟩ : Fin 5632))
abbrev gainOf (m : (ℓ : Loc nD τ sig) → Buf (Elt Ideal) ℓ) (c : Dev nD) (j : Fin 128) : EReal := m ((c : Thread nD τ).loc main_arg2) (ix1 j)
abbrev outOf (m : (ℓ : Loc nD τ sig) → Buf (Elt Ideal) ℓ) (c : Dev nD) (r : Fin 2048) (j : Fin 512) : EReal := m ((c : Thread nD τ).loc main_arg3) (ix2 r j)
abbrev pullOf (m : (ℓ : Loc nD τ sig) → Buf (Elt Ideal) ℓ) (c : Dev nD) (r : Fin 2048) (j : Fin 512) : EReal := m ((c : Thread nD τ).loc main_arg5) (ix2 r (⟨j.val, by omega⟩ : Fin 2048))

theorem steps (t : Fin cfg0.N) : t.val < 32 := t.isLt

theorem vec_eq (c : Dev nD) : V m c main_v1 = shapeCast S1x128 (m ((c : Thread nD τ).loc main_arg2) : FVec Ideal S128 .f32) shapeCasts_S128_S1x128 := by
  show StableHlo.after hostOps0 (fun b => m (c, b)) (Proc.devRef .tc main_v1) = _
  simp only [hostOps0]
  after_results_simp <;> rfl

theorem iblk3_apply (c : Dev nD) (t : Fin cfg0.N) (r : Fin 256) (j : Fin 128) : iblk m c 3 t (ix2 r j) = head (gateOf m c) (place t.val r) (which t.val) j := by
  have := steps t
  show _ = m ((c : Thread nD τ).loc main_arg0) _
  rw [← V_main_arg0 m c]; blk_simp [iblk]; congr 1; blk_ext [at3 t]
  show _ * 128 + j.val = _
  omega
theorem iblk8_apply (c : Dev nD) (t : Fin cfg0.N) (r : Fin 256) (j : Fin 128) : iblk m c 8 t (ix2 r j) = head (outOf m c) (place t.val r) (which t.val) j := by
  have := steps t
  show _ = m ((c : Thread nD τ).loc main_arg3) _
  rw [← V_main_arg3 m c]; blk_simp [iblk]; congr 1; blk_ext [at8 t]
  show _ * 128 + j.val = _
  omega
theorem iblk9_apply (c : Dev nD) (t : Fin cfg0.N) (r : Fin 256) (j : Fin 128) : iblk m c 9 t (ix2 r j) = head (pullOf m c) (place t.val r) (which t.val) j := by
  have := steps t
  show _ = m ((c : Thread nD τ).loc main_arg5) _
  rw [← V_main_arg5 m c]; blk_simp [iblk]; congr 1; blk_ext [at9 t]
  show _ * 128 + j.val = _
  omega
theorem iblk5_apply (c : Dev nD) (t : Fin cfg0.N) (j : Fin 128) : iblk m c 5 t (ix2 (0 : Fin 1) j) = gainOf m c j := by
  refine Eq.trans ?_ (shapeCast_apply (m ((c : Thread nD τ).loc main_arg2) : FVec Ideal S128 .f32) shapeCasts_S128_S1x128 (ix2 (0 : Fin 1) j) (ix1 j) (by
    show (S128.rowMajor (ix1 j)).val = (S1x128.rowMajor (ix2 0 j)).val
    rw [Shape.rowMajor_val_one, Shape.rowMajor_val_two]; show j.val = 0 * 128 + j.val; omega))
  rw [← vec_eq c]; blk_simp [iblk]; congr 1; blk_ext [at5 t]

/-- The two results at a row, a head and a lane. -/
abbrev gateAt (c : Dev nD) (r : Fin 2048) (h : Fin 4) (j : Fin 128) : EReal := gate (head (outOf m c) r h) j (head (pullOf m c) r h j) (gainOf m c j) (head (gateOf m c) r h j)
abbrev gainAt (c : Dev nD) (j : Fin 128) (r : Fin 2048) (h : Fin 4) : EReal := gain (head (outOf m c) r h) j (head (pullOf m c) r h j) (head (gateOf m c) r h j)

theorem gate_at (c : Dev nD) (t : Fin cfg0.N) (r : Fin 256) (j : Fin 128) : ((outsAt0 m c t.val t.isLt).2.2.2.1 (ix2 r j) : EReal) = gateAt (m := m) c (place t.val r) (which t.val) j := by
  rw [gate_eq m c t]
  refine (gate_apply _ _ _ _ r j).trans ?_
  rw [iblk3_apply, iblk5_apply, iblk9_apply]
  exact congrArg (fun o => gate o j _ _ _) (funext fun k => iblk8_apply c t r k)

theorem step_eq (c : Dev nD) (t : Fin cfg0.N) (j : Fin 128) (a : FVec Ideal S1x128 .f32) (e : (a (ix2 0 j) : EReal) = upto (gainAt (m := m) c j) t.val) :
    (k0_pay20 (F := Ideal) (iblk m c 3 t) (iblk m c 8 t) (iblk m c 9 t) (k0_pay14 (iblk m c 3 t)) (k0_pay15 (iblk m c 8 t)) a (ix2 0 j) : EReal) = upto (gainAt (m := m) c j) (t.val + 1) := by
  refine (gain_apply _ _ _ j a).trans (congrArg₂ (fun e f : EReal => e + f) e (Finset.sum_congr rfl fun r _ => ?_))
  rw [iblk3_apply, iblk9_apply]
  exact congrArg (fun o => gain o j _ _) (funext fun k => iblk8_apply c t r k)

theorem sum_at (c : Dev nD) (j : Fin 128) (n : ℕ) : ∀ h : n < cfg0.N, ((outsAt0 m c n h).2.2.2.2.1 (ix2 0 j) : EReal) = upto (gainAt (m := m) c j) (n + 1) := by
  induction n with
  | zero =>
    intro h
    refine (congrFun (congrArg (fun o => o.2.2.2.2.1) (outsAt0_A m c ⟨0, h⟩ rfl rfl)) (ix2 0 j)).trans ?_
    dsimp only
    frame_out
    refine (canon_line inb_S8x128_S1x128_0_0 _ j _).trans (step_eq c ⟨0, h⟩ j _ ?_)
    exact (readCov_line _ inb_S8x128_S1x128_0_0 inb_S8x128_S8x128_0_0 k0_pay3 j).trans nought_word
  | succ n ih =>
    intro h
    have hn := steps ⟨n + 1, h⟩
    have old := ih (by omega)
    by_cases h0 : (n + 1) % 8 = 0
    · refine (congrFun (congrArg (fun o => o.2.2.2.2.1) (outsAt0_C m c ⟨n + 1, h⟩ h0 (by dsimp only at hn ⊢; omega))) (ix2 0 j)).trans ?_
      dsimp only
      frame_out
      exact (writes_line _ inb_S8x128_S1x128_0_0 _ j _ _).trans (step_eq c ⟨n + 1, h⟩ j _ ((ld_line inb_S8x128_S1x128_0_0 _ j).trans old))
    · refine (congrFun (congrArg (fun o => o.2.2.2.2.1) (outsAt0_B m c ⟨n + 1, h⟩ h0 (by dsimp only at hn ⊢; omega))) (ix2 0 j)).trans ?_
      dsimp only
      frame_out
      exact (writes_line _ inb_S8x128_S1x128_0_0 _ j _ _).trans (step_eq c ⟨n + 1, h⟩ j _ ((ld_line inb_S8x128_S1x128_0_0 _ j).trans old))

/-- The two results as functions of the arguments. -/
abbrev G0 (c : Dev nD) : FVec Ideal S2048x512 .bf16 := fun y => gateAt (m := m) c (y 0) ⟨(y 1).val / 128, by have h1 : (y 1).val < 512 := (y 1).isLt; omega⟩ ⟨(y 1).val % 128, by omega⟩
abbrev G1 (c : Dev nD) : FVec Ideal S128 .f32 := fun i => ∑ q : Fin 8192, gainAt (m := m) c (i 0) ⟨q.val / 4, by omega⟩ ⟨q.val % 4, by omega⟩

theorem final14 (c : Dev nD) : (dats m 0 c).arrAt 14 cfg0.N = G0 (m := m) c := by
  refine (dats m 0 c).arrAt_eq_of_covers 14 _ (by decide +kernel) fun t hf y => ?_
  have ht := steps t
  blk_simp
  rw [after0_14]
  obtain ⟨r, j, rfl⟩ : ∃ (r : Fin 256) (j : Fin 128), y = ix2 r j := ⟨_, _, eq_ix2 y⟩
  rw [show (win0_14.blk t).view.emb (ix2 r j) = ix2 (place t.val r) (⟨t.val / 8 * 128 + j.val, by omega⟩ : Fin 512) from by blk_ext [at14 t]]
  refine (gate_at c t r j).trans ?_
  show gateAt (m := m) c (place t.val r) _ _ = gateAt (m := m) c (place t.val r) ⟨(t.val / 8 * 128 + j.val) / 128, _⟩ ⟨(t.val / 8 * 128 + j.val) % 128, _⟩
  congr 1 <;> exact Fin.ext (by dsimp only; omega)

theorem final15 (c : Dev nD) (n : ℕ) (hn : n < cfg0.N) (e : n = 31) : (dats m 0 c).arrAt 15 cfg0.N = (outsAt0 m c n hn).2.2.2.2.1 := by
  refine (dats m 0 c).arrAt_eq_of_covers 15 (outsAt0 m c n hn).2.2.2.2.1 (by decide +kernel) fun t hf y => ?_
  have ht : t = ⟨n, hn⟩ := Fin.ext (by have := steps t; have := (flush0_15 t).mp hf; show t.val = n; omega)
  blk_simp
  rw [after0_15]
  obtain ⟨r, j, rfl⟩ : ∃ (r : Fin 8) (j : Fin 128), y = ix2 r j := ⟨_, _, eq_ix2 y⟩
  rw [show (win0_15.blk t).view.emb (ix2 r j) = ix2 r j from by blk_ext [at15 t]]
  subst ht
  rfl

/-- The eight rows the call leaves for the gain: the first holds the sum. -/
theorem gain_end (c : Dev nD) : ∃ x : FVec Ideal S8x128 .f32, (dats m 0 c).arrAt 15 cfg0.N = x ∧ ∀ j, (x (ix2 0 j) : EReal) = upto (gainAt (m := m) c j) 32 :=
  have ⟨n, hn, e⟩ : ∃ n, n < cfg0.N ∧ n + 1 = 32 := ⟨31, (by omega : 31 < 32), rfl⟩
  ⟨_, final15 c n hn (by omega), fun j => e ▸ sum_at c j n hn⟩

theorem tail_eq (W : Valuation τ sig (Elt Ideal)) : StableHlo.after (hostOps1 (F := Ideal)) W (Proc.devRef .tc main_v4)
    = shapeCast S128 (extractStridedSlice S1x128 ![0, 0] (W (Proc.devRef .tc main_v2_4) : FVec Ideal S8x128 .f32) slices_S8x128_S1x128_0_0) shapeCasts_S1x128_S128 := by
  simp only [hostOps1]
  after_results_simp <;> rfl

theorem result_eq (c : Dev nD) : Pipeline.afterTail₀ cfgs (dats m) 0 (V0 m) [hostOps1 (F := Ideal)] c main_v4 = G1 (m := m) c := by
  have e : Pipeline.withArrays spec0 c (V0 m c) (fun w => (dats m 0 c).arrAt w cfg0.N) (Proc.devRef .tc main_v2_4) = (dats m 0 c).arrAt 15 cfg0.N :=
    (dats m 0 c).withArrays_arrAt sharedIn0 (V0 m c) (A_eq m c) 15
  show StableHlo.after (hostOps1 (F := Ideal)) (Pipeline.withArrays spec0 c (V0 m c) (fun w => (dats m 0 c).arrAt w cfg0.N)) (Proc.devRef .tc main_v4) = _
  obtain ⟨x, hx, hs⟩ := gain_end (m := m) c
  rw [tail_eq, e, hx]
  funext i
  obtain ⟨j, rfl⟩ : ∃ j : Fin 128, i = ix1 j := ⟨_, ValueIdx.eq_ix1 i⟩
  refine (shapeCast_apply _ _ (ix1 j) (ix2 (0 : Fin 1) j) (by
    rw [Shape.rowMajor_val_one, Shape.rowMajor_val_two]; show 0 * 128 + j.val = j.val; omega)).trans ?_
  unfold extractStridedSlice
  exact Eq.trans (b := (x (ix2 0 j) : EReal)) (congrArg x (funext fun a => Fin.ext (by match a with
    | ⟨0, _⟩ => rfl
    | ⟨1, _⟩ => exact Nat.zero_add j.val))) ((hs j).trans (upto_all _))

/-- What the call leaves in the two results. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v2_3) = G0 (m := m) c
      ∧ r.2.mem ((c.tc : Thread nD τ).loc main_v4) = G1 (m := m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run (defs (F := Ideal)) _ _).mono (fun r hr c => ?_) (θ_run_and (run_main m ρ) (unchanged m ρ))
  obtain ⟨hr, hk⟩ := hr
  exact ⟨((hr c).1 14).trans (final14 c),
    ((hr c).2 main_v4 (by decide : main_v4 ∈ Pipeline.restRefs sig spec0)).trans (result_eq c),
    hk c⟩

end kernel

section reference

open Cert.RefHgrnOutIdeal Cert.RefHgrnOutIdeal.Read

variable (x0 : FVec Ideal S2048x5632 .f32) (x2 : FVec Ideal S128 .f32) (x3 : FVec Ideal S2048x512 .f32) (x5 : FVec Ideal S2048x2048 .f32) (r : Fin 2048) (h : Fin 4) (j : Fin 128)

abbrev line (r : Fin 2048) (h : Fin 4) : Fin 8192 := ⟨r.val * 4 + h.val, by omega⟩
abbrev rGate (x0 : FVec Ideal S2048x5632 .f32) (r : Fin 2048) (j : Fin 512) : EReal := x0 (ix2 r (⟨1536 + j.val, by omega⟩ : Fin 5632))
abbrev rOut (x3 : FVec Ideal S2048x512 .f32) (r : Fin 2048) (j : Fin 512) : EReal := x3 (ix2 r j)
abbrev rPull (x5 : FVec Ideal S2048x2048 .f32) (r : Fin 2048) (j : Fin 512) : EReal := x5 (ix2 r (⟨j.val, by omega⟩ : Fin 2048))

theorem ref0 : (val_main_v0 (F := Ideal) x3 (ix2 (line r h) j) : EReal) = head (rOut x3) r h j := by
  rw [val_main_v0_apply]
  exact congrArg x3 (ext2 (Fin.ext (by show ((r.val * 4 + h.val) * 128 + j.val) / 512 = r.val; omega)) (Fin.ext (by show ((r.val * 4 + h.val) * 128 + j.val) % 512 = h.val * 128 + j.val; omega)))

theorem ref2 : (val_main_v2 (F := Ideal) x0 (ix2 (line r h) j) : EReal) = head (rGate x0) r h j := by
  rw [val_main_v2_apply, val_main_v1_apply]
  exact congrArg x0 (ext2 (Fin.ext (by show ((r.val * 4 + h.val) * 128 + j.val) / 512 = r.val; omega)) (Fin.ext (by show 1536 + ((r.val * 4 + h.val) * 128 + j.val) % 512 = 1536 + (h.val * 128 + j.val); omega)))

theorem ref19 : (val_main_v19 (F := Ideal) x5 (ix2 (line r h) j) : EReal) = head (rPull x5) r h j := by
  rw [val_main_v19_apply, val_main_v18_apply]
  exact congrArg x5 (ext2 (Fin.ext (by show ((r.val * 4 + h.val) * 128 + j.val) / 512 = r.val; omega)) (Fin.ext (by show ((r.val * 4 + h.val) * 128 + j.val) % 512 = h.val * 128 + j.val; omega)))

theorem ref10 : (val_main_v10 (F := Ideal) x3 (ix2 (line r h) 0) : EReal) = inv (head (rOut x3) r h) := by
  have e : (val_main_v4 (F := Ideal) x3 (ix1 (line r h)) : EReal) = ∑ k, head (rOut x3) r h k * head (rOut x3) r h k := by
    rw [val_main_v4_apply]
    refine (congrArg (· + _) nought_word).trans ((zero_add _).trans (Finset.sum_congr rfl fun k _ => ?_))
    rw [show idx_main_v4 (ix1 (line r h)) k = ix2 (line r h) k from ext2 rfl rfl]
    exact congrArg (fun e : EReal => e * e) (ref0 x3 r h k)
  unfold inv under
  rw [← e]
  rw [val_main_v10_apply, val_main_v9_apply, val_main_v7_apply, val_main_v5_apply, show idx_main_v5 (ix2 (line r h) 0) = ix1 (line r h) from ext1 rfl]
  rfl

theorem ref12 : (val_main_v12 (F := Ideal) x3 (ix2 (line r h) j) : EReal) = head (rOut x3) r h j * inv (head (rOut x3) r h) := by
  rw [val_main_v12_apply, val_main_v11_apply, show idx_main_v11 (ix2 (line r h) j) = ix2 (line r h) 0 from ext2 rfl rfl]
  exact congrArg₂ (fun e f : EReal => e * f) (ref0 x3 r h j) (ref10 x3 r h)

theorem ref14 : (val_main_v14 (F := Ideal) x2 (ix2 (line r h) j) : EReal) = x2 (ix1 j) := by
  rw [val_main_v14_apply, val_main_v13_apply]
  exact congrArg x2 (ext1 rfl)

theorem ref16 : (val_main_v16_2 (F := Ideal) x0 (ix2 (line r h) j) : EReal) = sigm (head (rGate x0) r h j) := by
  unfold sigm
  rw [← one_word, ← ref2 x0 r h j]
  rfl

theorem ref22 (hd : ∀ i, ∃ a : ℝ, (x5 i : EReal) = (a : EReal)) (hw : ∀ i, ∃ a : ℝ, (x2 i : EReal) = (a : EReal)) :
    (val_main_v22 (F := Ideal) x0 x2 x3 x5 (ix2 (line r h) j) : EReal) = gate (head (rOut x3) r h) j (head (rPull x5) r h j) (x2 (ix1 j)) (head (rGate x0) r h j) := by
  refine Eq.trans ?_ (gate_eq_two _ j _ (hd _) (hw _))
  rw [← ref12 x3 r h j, ← ref14 x2 r h j, ← ref19 x5 r h j, ← ref16 x0 r h j, ← ref2 x0 r h j, ← one_word]
  rfl

theorem ref24 : (val_main_v24 (F := Ideal) x0 x3 x5 (ix1 j) : EReal)
    = ∑ q : Fin 8192, gain (head (rOut x3) ⟨q.val / 4, by omega⟩ ⟨q.val % 4, by omega⟩) j (head (rPull x5) ⟨q.val / 4, by omega⟩ ⟨q.val % 4, by omega⟩ j) (head (rGate x0) ⟨q.val / 4, by omega⟩ ⟨q.val % 4, by omega⟩ j) := by
  rw [val_main_v24_apply]
  refine (congrArg (· + _) nought_word).trans ((zero_add _).trans (Finset.sum_congr rfl fun q _ => ?_))
  rw [show idx_main_v24 (ix1 j) q = ix2 (line ⟨q.val / 4, by omega⟩ ⟨q.val % 4, by omega⟩) j from ext2 (Fin.ext (by show q.val = q.val / 4 * 4 + q.val % 4; omega)) rfl]
  unfold gain
  rw [mul_assoc, mul_comm, ← ref12, ← ref19, ← ref16, ← ref2 x0]
  rfl

theorem ref26 : (val_main_v26 (F := Ideal) x0 x3 x5 (ix1 j) : EReal) = val_main_v24 (F := Ideal) x0 x3 x5 (ix1 j) := by
  rw [val_main_v26_apply, Fin.sum_univ_one, val_main_v25_apply]
  refine (congrArg (· + _) nought_word).trans ((zero_add _).trans (congrArg _ (ext1 (Fin.ext ?_))))
  show 0 * 128 + j.val = j.val
  omega

end reference

section precondition

open Cert.Pre_finite_out

instance : Subsingleton S_.Idx := ⟨fun i j => funext fun a => a.elim0⟩

theorem real_of_pre [Facts] (x0 : FVec Ideal S2048x5632 .f32) (x1 : FVec Ideal S2x512 .f32) (x2 : FVec Ideal S128 .f32) (x3 : FVec Ideal S2048x512 .f32)
    (x4 : FVec Ideal S4x128x128x128 .f32) (x5 : FVec Ideal S2048x2048 .f32) (h : fn (F := Ideal) x0 x1 x2 x3 x4 x5 = fun _ => 1#1) :
    (∀ i, ∃ a : ℝ, (x5 i : EReal) = (a : EReal)) ∧ ∀ i, ∃ a : ℝ, (x2 i : EReal) = (a : EReal) := by
  have one (a b : BitVec 1) : IntOp.andi a b = 1#1 ↔ a = 1#1 ∧ b = 1#1 := by revert a b; decide
  have e := congrFun h (fun a => a.elim0)
  simp only [fn, andi, one] at e
  exact ⟨fun i => ⟨_, finite_of_all _ _ (fun _ => high_word) _ _ _ _ e.2 i⟩, fun i => ⟨_, finite_of_all _ _ (fun _ => high_word) _ _ _ _ e.1 i⟩⟩

end precondition

theorem algebraic [Cert.Pre_finite_out.Facts] : Cert.algebraic_HgrnOutIdeal_RefHgrnOutIdeal_pre_finite_out := by
  intro m ρ m' ρ' hpre hagree
  refine ⟨_, _, run (m := m) ρ, ?_⟩
  refine (θ_run (Cert.RefHgrnOutIdeal.defs (F := Ideal)) _ _).mono (fun _ h c => ?_) (Cert.RefHgrnOutIdeal.Value.run (F := Ideal) m' ρ')
  obtain ⟨hd, hw⟩ := real_of_pre _ _ _ _ _ _ (hpre c)
  obtain ⟨e0, e1, e2, e3, e4, e5⟩ := hagree c
  obtain ⟨h0, h1, hrest⟩ := h c
  refine ⟨h0.trans ?_, h1.trans ?_, hrest⟩
  · refine (Cert.RefHgrnOutIdeal.Read.val_main_v28_eq (F := Ideal) _ _ _ _).trans ?_
    rw [e0, e2, e3, e5]
    funext y
    obtain ⟨r, k, rfl⟩ : ∃ (r : Fin 2048) (k : Fin 512), y = ix2 r k := ⟨_, _, eq_ix2 y⟩
    refine (Cert.RefHgrnOutIdeal.Read.val_main_v27_apply (F := Ideal) _ _ _ _ (ix2 r k)).trans ?_
    rw [show Cert.RefHgrnOutIdeal.Read.idx_main_v27 (ix2 r k) = ix2 (line r ⟨k.val / 128, by omega⟩) ⟨k.val % 128, by omega⟩ from
      ext2 (Fin.ext (by show (r.val * 512 + k.val) / 128 = r.val * 4 + k.val / 128; omega)) (Fin.ext (by show (r.val * 512 + k.val) % 128 = k.val % 128; omega))]
    exact ref22 _ _ _ _ r _ _ hd hw
  · refine (Cert.RefHgrnOutIdeal.Read.val_main_v26_eq (F := Ideal) _ _ _).trans ?_
    rw [e0, e3, e5]
    funext i
    obtain ⟨j, rfl⟩ : ∃ j : Fin 128, i = ix1 j := ⟨_, ValueIdx.eq_ix1 i⟩
    exact (ref26 _ _ _ j).trans (ref24 _ _ _ j)

theorem reference_frame : Cert.quiescent_RefHgrnOutIdeal := fun m ρ _ =>
  (θ_run Cert.RefHgrnOutIdeal.defs _ _).mono
    (fun r h => ⟨fun c => (h c).2.2, Idealize.ShloMosaic.sem_eq_zero_of_no_sems (by decide) r.2⟩)
    (Cert.RefHgrnOutIdeal.Value.run (F := Ideal) m ρ)

end Cert.Proof.HgrnOut

end
-- ==== Proof.lean ====
module

public import proofs.«01_k».proof.Defs
public import proofs.«01_k».proof.Proof.Gen.Kernel.Frame
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.GateDxIdeal.Skeleton
public import proofs.«01_k».proof.Proof.Gen.GateDxIdeal.Launch
public import proofs.«01_k».proof.Proof.Gen.GateDxIdeal.Points
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.GateDwIdeal.Skeleton
public import proofs.«01_k».proof.Proof.Gen.GateDwIdeal.Launch
public import proofs.«01_k».proof.Proof.Gen.GateDwIdeal.Points
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.ProjDxIdeal.Skeleton
public import proofs.«01_k».proof.Proof.Gen.ProjDxIdeal.Launch
public import proofs.«01_k».proof.Proof.Gen.ProjDxIdeal.Points
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.GateIdeal.Skeleton
public import proofs.«01_k».proof.Proof.Gen.GateIdeal.Launch
public import proofs.«01_k».proof.Proof.Gen.GateIdeal.Points
public import proofs.«01_k».proof.Proof.Gen.DownIdeal.Skeleton
public import proofs.«01_k».proof.Proof.Gen.DownIdeal.Launch
public import proofs.«01_k».proof.Proof.Gen.DownIdeal.Points
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.SmallGradsIdeal.Skeleton
public import proofs.«01_k».proof.Proof.Gen.SmallGradsIdeal.Launch
public import proofs.«01_k».proof.Proof.Gen.SmallGradsIdeal.Points
public import proofs.«01_k».proof.Proof.Gen.LnLoss.Frame
public import proofs.«01_k».proof.Proof.Gen.LnBwd.Frame
public import proofs.«01_k».proof.Proof.Gen.LnBwdAlone.Frame
public import proofs.«01_k».proof.Proof.Gen.LnFwdIdeal.Skeleton
public import proofs.«01_k».proof.Proof.Gen.LnFwdIdeal.Launch
public import proofs.«01_k».proof.Proof.Gen.LnFwdIdeal.Points
public import proofs.«01_k».proof.Proof.Gen.ConvGateFwdIdeal.Skeleton
public import proofs.«01_k».proof.Proof.Gen.ConvGateFwdIdeal.Launch
public import proofs.«01_k».proof.Proof.Gen.ConvGateFwdIdeal.Points
public import proofs.«01_k».proof.Proof.Gen.SwapIdeal.Frame
public import proofs.«01_k».proof.Proof.Gen.CastIdeal.Skeleton
public import proofs.«01_k».proof.Proof.Gen.CastIdeal.Launch
public import proofs.«01_k».proof.Proof.Gen.CastIdeal.Points
public import proofs.«01_k».proof.Proof.Gen.MixedIdeal.Skeleton
public import proofs.«01_k».proof.Proof.Gen.MixedIdeal.Launch
public import proofs.«01_k».proof.Proof.Gen.MixedIdeal.Points
public import proofs.«01_k».proof.Proof.Gen.HgrnOut.Frame
public import proofs.«01_k».proof.Proof.Gen.Pre_finite_gate
public import proofs.«01_k».proof.Proof.ConvGate
public import proofs.«01_k».proof.Proof.DownDx
public import proofs.«01_k».proof.Proof.DownDw
public import proofs.«01_k».proof.Proof.GateDx
public import proofs.«01_k».proof.Proof.UpDx
public import proofs.«01_k».proof.Proof.GateDw
public import proofs.«01_k».proof.Proof.OutDx
public import proofs.«01_k».proof.Proof.OutDw
public import proofs.«01_k».proof.Proof.ProjDx
public import proofs.«01_k».proof.Proof.Proj
public import proofs.«01_k».proof.Proof.MixOut
public import proofs.«01_k».proof.Proof.Gate
public import proofs.«01_k».proof.Proof.Down
public import proofs.«01_k».proof.Proof.AdamSmall
public import proofs.«01_k».proof.Proof.Upper
public import proofs.«01_k».proof.Proof.Lower
public import proofs.«01_k».proof.Proof.OutUpper
public import proofs.«01_k».proof.Proof.OutLower
public import proofs.«01_k».proof.Proof.SmallGrads
public import proofs.«01_k».proof.Proof.LnLoss
public import proofs.«01_k».proof.Proof.LnBwd
public import proofs.«01_k».proof.Proof.LnBwdAlone
public import proofs.«01_k».proof.Proof.LnFwd
public import proofs.«01_k».proof.Proof.ConvGateFwd
public import proofs.«01_k».proof.Proof.Swap
public import proofs.«01_k».proof.Proof.Cast
public import proofs.«01_k».proof.Proof.Mixed
public import proofs.«01_k».proof.Proof.PairAdd
public import proofs.«01_k».proof.Proof.HgrnOut
public import Idealize.ShloMosaic.Adequacy
public import Idealize.ShloMosaic.Init

@[expose] public section

noncomputable section

namespace Cert.Proof

open Idealize.ShloMosaic Idealize.SL.Sem

theorem reference_frame : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.DownDx.Gen.facts, Cert.DownDxIdeal.Gen.facts, Cert.RefDownDxIdeal.Gen.facts, Cert.DownDw.Gen.facts, Cert.DownDwIdeal.Gen.facts, Cert.RefDownDwIdeal.Gen.facts, Cert.GateDx.Gen.facts, Cert.GateDxIdeal.Gen.facts, Cert.RefGateDxIdeal.Gen.facts, Cert.UpDx.Gen.facts, Cert.UpDxIdeal.Gen.facts, Cert.RefUpDxIdeal.Gen.facts, Cert.GateDw.Gen.facts, Cert.GateDwIdeal.Gen.facts, Cert.RefGateDwIdeal.Gen.facts, Cert.OutDx.Gen.facts, Cert.OutDxIdeal.Gen.facts, Cert.RefOutDxIdeal.Gen.facts, Cert.OutDw.Gen.facts, Cert.OutDwIdeal.Gen.facts, Cert.RefOutDwIdeal.Gen.facts, Cert.ProjDx.Gen.facts, Cert.ProjDxIdeal.Gen.facts, Cert.RefProjDxIdeal.Gen.facts, Cert.Proj.Gen.facts, Cert.ProjIdeal.Gen.facts, Cert.RefProjIdeal.Gen.facts, Cert.MixOut.Gen.facts, Cert.MixOutIdeal.Gen.facts, Cert.RefMixOutIdeal.Gen.facts, Cert.Gate.Gen.facts, Cert.GateIdeal.Gen.facts, Cert.RefGateIdeal.Gen.facts, Cert.Down.Gen.facts, Cert.DownIdeal.Gen.facts, Cert.RefDownIdeal.Gen.facts, Cert.AdamSmall.Gen.facts, Cert.AdamSmallIdeal.Gen.facts, Cert.RefAdamSmallIdeal.Gen.facts, Cert.Upper.Gen.facts, Cert.UpperIdeal.Gen.facts, Cert.RefUpperIdeal.Gen.facts, Cert.Lower.Gen.facts, Cert.LowerIdeal.Gen.facts, Cert.RefLowerIdeal.Gen.facts, Cert.OutUpper.Gen.facts, Cert.OutUpperIdeal.Gen.facts, Cert.RefOutUpperIdeal.Gen.facts, Cert.OutLower.Gen.facts, Cert.OutLowerIdeal.Gen.facts, Cert.RefOutLowerIdeal.Gen.facts, Cert.SmallGrads.Gen.facts, Cert.SmallGradsIdeal.Gen.facts, Cert.RefSmallGradsIdeal.Gen.facts, Cert.LnLoss.Gen.facts, Cert.LnLossIdeal.Gen.facts, Cert.RefLnLossIdeal.Gen.facts, Cert.LnBwd.Gen.facts, Cert.LnBwdIdeal.Gen.facts, Cert.RefLnBwdIdeal.Gen.facts, Cert.LnBwdAlone.Gen.facts, Cert.LnBwdAloneIdeal.Gen.facts, Cert.RefLnBwdAloneIdeal.Gen.facts, Cert.LnFwd.Gen.facts, Cert.LnFwdIdeal.Gen.facts, Cert.RefLnFwdIdeal.Gen.facts, Cert.ConvGateFwd.Gen.facts, Cert.ConvGateFwdIdeal.Gen.facts, Cert.RefConvGateFwdIdeal.Gen.facts, Cert.Swap.Gen.facts, Cert.SwapIdeal.Gen.facts, Cert.RefSwapIdeal.Gen.facts, Cert.Cast.Gen.facts, Cert.CastIdeal.Gen.facts, Cert.RefCastIdeal.Gen.facts, Cert.Mixed.Gen.facts, Cert.MixedIdeal.Gen.facts, Cert.RefMixedIdeal.Gen.facts, Cert.PairAdd.Gen.facts, Cert.PairAddIdeal.Gen.facts, Cert.RefPairAddIdeal.Gen.facts, Cert.HgrnOut.Gen.facts, Cert.HgrnOutIdeal.Gen.facts, Cert.RefHgrnOutIdeal.Gen.facts, Cert.Pre_finite_gate.Gen.facts, Cert.Pre_a_chip_upper.Gen.facts, Cert.Pre_a_chip_lower.Gen.facts, Cert.Pre_a_chip_out_upper.Gen.facts, Cert.Pre_a_chip_out_lower.Gen.facts, Cert.Pre_finite_bounds.Gen.facts, Cert.Pre_finite_head.Gen.facts, Cert.Pre_finite_norm.Gen.facts, Cert.Pre_finite_norm_alone.Gen.facts, Cert.Pre_a_core.Gen.facts, Cert.Pre_finite_out.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    fun m ρ _ => Cert.DownDx.Gen.frame m ρ,
    fun m ρ _ => Cert.DownDxIdeal.Gen.frame m ρ,
    DownDx.reference_frame,
    fun m ρ _ => Cert.DownDw.Gen.frame m ρ,
    fun m ρ _ => Cert.DownDwIdeal.Gen.frame m ρ,
    DownDw.reference_frame,
    fun m ρ _ => Cert.GateDx.Gen.frame m ρ,
    fun m ρ _ => Cert.GateDxIdeal.Gen.frame m ρ,
    GateDx.reference_frame,
    fun m ρ _ => Cert.UpDx.Gen.frame m ρ,
    fun m ρ _ => Cert.UpDxIdeal.Gen.frame m ρ,
    UpDx.reference_frame,
    fun m ρ _ => Cert.GateDw.Gen.frame m ρ,
    fun m ρ _ => Cert.GateDwIdeal.Gen.frame m ρ,
    GateDw.reference_frame,
    fun m ρ _ => Cert.OutDx.Gen.frame m ρ,
    fun m ρ _ => Cert.OutDxIdeal.Gen.frame m ρ,
    OutDx.reference_frame,
    fun m ρ _ => Cert.OutDw.Gen.frame m ρ,
    fun m ρ _ => Cert.OutDwIdeal.Gen.frame m ρ,
    OutDw.reference_frame,
    fun m ρ _ => Cert.ProjDx.Gen.frame m ρ,
    fun m ρ _ => Cert.ProjDxIdeal.Gen.frame m ρ,
    ProjDx.reference_frame,
    fun m ρ _ => Cert.Proj.Gen.frame m ρ,
    fun m ρ _ => Cert.ProjIdeal.Gen.frame m ρ,
    Proj.reference_frame,
    fun m ρ _ => Cert.MixOut.Gen.frame m ρ,
    fun m ρ _ => Cert.MixOutIdeal.Gen.frame m ρ,
    MixOut.reference_frame,
    fun m ρ _ => Cert.Gate.Gen.frame m ρ,
    fun m ρ _ => Cert.GateIdeal.Gen.frame m ρ,
    Gate.reference_frame,
    fun m ρ _ => Cert.Down.Gen.frame m ρ,
    fun m ρ _ => Cert.DownIdeal.Gen.frame m ρ,
    Down.reference_frame,
    fun m ρ _ => Cert.AdamSmall.Gen.frame m ρ,
    fun m ρ _ => Cert.AdamSmallIdeal.Gen.frame m ρ,
    AdamSmall.reference_frame,
    Upper.frame,
    Upper.frame_ideal,
    Upper.reference_frame,
    fun m ρ _ => Upper.reference_frame m ρ trivial,
    Lower.frame,
    Lower.frame_ideal,
    Lower.reference_frame,
    fun m ρ _ => Lower.reference_frame m ρ trivial,
    OutUpper.frame,
    OutUpper.frame_ideal,
    OutUpper.reference_frame,
    fun m ρ _ => OutUpper.reference_frame m ρ trivial,
    OutLower.frame,
    OutLower.frame_ideal,
    OutLower.reference_frame,
    fun m ρ _ => OutLower.reference_frame m ρ trivial,
    fun m ρ _ => Cert.SmallGrads.Gen.frame m ρ,
    fun m ρ _ => Cert.SmallGradsIdeal.Gen.frame m ρ,
    fun m ρ _ => Cert.SmallGradsIdeal.Gen.frame m ρ,
    SmallGrads.reference_frame,
    fun m ρ _ => SmallGrads.reference_frame m ρ trivial,
    fun m ρ _ => Cert.LnLoss.Gen.frame m ρ,
    fun m ρ _ => Cert.LnLossIdeal.Gen.frame m ρ,
    fun m ρ _ => Cert.LnLossIdeal.Gen.frame m ρ,
    LnLoss.reference_frame,
    fun m ρ _ => LnLoss.reference_frame m ρ trivial,
    fun m ρ _ => Cert.LnBwd.Gen.frame m ρ,
    fun m ρ _ => Cert.LnBwdIdeal.Gen.frame m ρ,
    fun m ρ _ => Cert.LnBwdIdeal.Gen.frame m ρ,
    LnBwd.reference_frame,
    fun m ρ _ => LnBwd.reference_frame m ρ trivial,
    fun m ρ _ => Cert.LnBwdAlone.Gen.frame m ρ,
    fun m ρ _ => Cert.LnBwdAloneIdeal.Gen.frame m ρ,
    fun m ρ _ => Cert.LnBwdAloneIdeal.Gen.frame m ρ,
    LnBwdAlone.reference_frame,
    fun m ρ _ => LnBwdAlone.reference_frame m ρ trivial,
    fun m ρ _ => Cert.LnFwd.Gen.frame m ρ,
    fun m ρ _ => Cert.LnFwdIdeal.Gen.frame m ρ,
    LnFwd.reference_frame,
    fun m ρ _ => Cert.ConvGateFwd.Gen.frame m ρ,
    fun m ρ _ => Cert.ConvGateFwdIdeal.Gen.frame m ρ,
    ConvGateFwd.reference_frame,
    Swap.frame,
    Swap.frame_ideal,
    Swap.reference_frame,
    fun m ρ _ => Cert.Cast.Gen.frame m ρ,
    fun m ρ _ => Cert.CastIdeal.Gen.frame m ρ,
    Cast.reference_frame,
    fun m ρ _ => Cert.Mixed.Gen.frame m ρ,
    fun m ρ _ => Cert.MixedIdeal.Gen.frame m ρ,
    Mixed.reference_frame,
    PairAdd.frame,
    PairAdd.frame_ideal,
    PairAdd.reference_frame,
    fun m ρ _ => PairAdd.reference_frame m ρ trivial,
    fun m ρ _ => Cert.HgrnOut.Gen.frame m ρ,
    fun m ρ _ => Cert.HgrnOutIdeal.Gen.frame m ρ,
    fun m ρ _ => Cert.HgrnOutIdeal.Gen.frame m ρ,
    HgrnOut.reference_frame,
    fun m ρ _ => HgrnOut.reference_frame m ρ trivial,
    trivial,
    gate,
    trivial,
    DownDx.algebraic,
    trivial,
    DownDw.algebraic,
    trivial,
    GateDx.algebraic,
    trivial,
    UpDx.algebraic,
    trivial,
    GateDw.algebraic,
    trivial,
    OutDx.algebraic,
    trivial,
    OutDw.algebraic,
    trivial,
    ProjDx.algebraic,
    trivial,
    Proj.algebraic,
    trivial,
    MixOut.algebraic,
    trivial,
    Gate.algebraic,
    trivial,
    Down.algebraic,
    trivial,
    AdamSmall.algebraic,
    trivial,
    Upper.algebraic,
    trivial,
    Lower.algebraic,
    trivial,
    OutUpper.algebraic,
    trivial,
    OutLower.algebraic,
    trivial,
    SmallGrads.algebraic,
    trivial,
    LnLoss.algebraic,
    trivial,
    LnBwd.algebraic,
    trivial,
    LnBwdAlone.algebraic,
    trivial,
    LnFwd.algebraic,
    trivial,
    ConvGateFwd.algebraic,
    trivial,
    Swap.algebraic,
    trivial,
    Cast.algebraic,
    trivial,
    Mixed.algebraic,
    trivial,
    PairAdd.algebraic,
    trivial,
    HgrnOut.algebraic⟩

end Cert.Proof

end
